-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuRefIdeal (m : (ℓ : Loc Cert.DwGuRefIdeal.nD Cert.DwGuRefIdeal.τ Cert.DwGuRefIdeal.sig) → Buf (Elt Ideal) ℓ) : Prop :=
  True

def Pre_DwD (m : (ℓ : Loc Cert.DwD.nD Cert.DwD.τ Cert.DwD.sig) → Buf (Elt Bits) ℓ) : Prop :=
  True

def Pre_DwDIdeal (m : (ℓ : Loc Cert.DwDIdeal.nD Cert.DwDIdeal.τ Cert.DwDIdeal.sig) → Buf (Elt Ideal) ℓ) : Prop :=
  True

def Pre_DwDRefIdeal (m : (ℓ : Loc Cert.DwDRefIdeal.nD Cert.DwDRefIdeal.τ Cert.DwDRefIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1)
      ∧ r.2.mem ((c.tc : Thread Cert.DwGu.nD Cert.DwGu.τ).loc Cert.DwGu.main_arg2) = m ((c.tc : Thread Cert.DwGu.nD Cert.DwGu.τ).loc Cert.DwGu.main_arg2)
      ∧ r.2.mem ((c.tc : Thread Cert.DwGu.nD Cert.DwGu.τ).loc Cert.DwGu.main_arg3) = m ((c.tc : Thread Cert.DwGu.nD Cert.DwGu.τ).loc Cert.DwGu.main_arg3))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1)
      ∧ r.2.mem ((c.tc : Thread Cert.DwGuIdeal.nD Cert.DwGuIdeal.τ).loc Cert.DwGuIdeal.main_arg2) = m ((c.tc : Thread Cert.DwGuIdeal.nD Cert.DwGuIdeal.τ).loc Cert.DwGuIdeal.main_arg2)
      ∧ r.2.mem ((c.tc : Thread Cert.DwGuIdeal.nD Cert.DwGuIdeal.τ).loc Cert.DwGuIdeal.main_arg3) = m ((c.tc : Thread Cert.DwGuIdeal.nD Cert.DwGuIdeal.τ).loc Cert.DwGuIdeal.main_arg3))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1)
      ∧ r.2.mem ((c.tc : Thread Cert.DwGuRefIdeal.nD Cert.DwGuRefIdeal.τ).loc Cert.DwGuRefIdeal.main_arg2) = m ((c.tc : Thread Cert.DwGuRefIdeal.nD Cert.DwGuRefIdeal.τ).loc Cert.DwGuRefIdeal.main_arg2)
      ∧ r.2.mem ((c.tc : Thread Cert.DwGuRefIdeal.nD Cert.DwGuRefIdeal.τ).loc Cert.DwGuRefIdeal.main_arg3) = m ((c.tc : Thread Cert.DwGuRefIdeal.nD Cert.DwGuRefIdeal.τ).loc Cert.DwGuRefIdeal.main_arg3))
      ∧ r.2.sem = fun _ => 0)

def quiescent_DwD [hDwD : Cert.DwD.Facts] : Prop :=
  ∀ (m : (ℓ : Loc Cert.DwD.nD Cert.DwD.τ Cert.DwD.sig) → Buf (Elt Bits) ℓ) (g : Dev Cert.DwD.nD → PrngReg), Pre_DwD m →
    θ_run (Cert.DwD.defs (F := Bits)) (onTc (τ := Cert.DwD.τ) (Cert.DwD.main (F := Bits))) ⟨m, fun _ => 0, g⟩ (fun r => (∀ c : Dev Cert.DwD.nD,
      r.2.mem ((c.tc : Thread Cert.DwD.nD Cert.DwD.τ).loc Cert.DwD.main_arg0) = m ((c.tc : Thread Cert.DwD.nD Cert.DwD.τ).loc Cert.DwD.main_arg0)
      ∧ r.2.mem ((c.tc : Thread Cert.DwD.nD Cert.DwD.τ).loc Cert.DwD.main_arg1) = m ((c.tc : Thread Cert.DwD.nD Cert.DwD.τ).loc Cert.DwD.main_arg1)
      ∧ r.2.mem ((c.tc : Thread Cert.DwD.nD Cert.DwD.τ).loc Cert.DwD.main_arg2) = m ((c.tc : Thread Cert.DwD.nD Cert.DwD.τ).loc Cert.DwD.main_arg2)
      ∧ r.2.mem ((c.tc : Thread Cert.DwD.nD Cert.DwD.τ).loc Cert.DwD.main_arg3) = m ((c.tc : Thread Cert.DwD.nD Cert.DwD.τ).loc Cert.DwD.main_arg3))
      ∧ r.2.sem = fun _ => 0)

def quiescent_DwDIdeal [hDwDIdeal : Cert.DwDIdeal.Facts] : Prop :=
  ∀ (m : (ℓ : Loc Cert.DwDIdeal.nD Cert.DwDIdeal.τ Cert.DwDIdeal.sig) → Buf (Elt Ideal) ℓ) (g : Dev Cert.DwDIdeal.nD → PrngReg), Pre_DwDIdeal m →
    θ_run (Cert.DwDIdeal.defs (F := Ideal)) (onTc (τ := Cert.DwDIdeal.τ) (Cert.DwDIdeal.main (F := Ideal))) ⟨m, fun _ => 0, g⟩ (fun r => (∀ c : Dev Cert.DwDIdeal.nD,
      r.2.mem ((c.tc : Thread Cert.DwDIdeal.nD Cert.DwDIdeal.τ).loc Cert.DwDIdeal.main_arg0) = m ((c.tc : Thread Cert.DwDIdeal.nD Cert.DwDIdeal.τ).loc Cert.DwDIdeal.main_arg0)
      ∧ r.2.mem ((c.tc : Thread Cert.DwDIdeal.nD Cert.DwDIdeal.τ).loc Cert.DwDIdeal.main_arg1) = m ((c.tc : Thread Cert.DwDIdeal.nD Cert.DwDIdeal.τ).loc Cert.DwDIdeal.main_arg1)
      ∧ r.2.mem ((c.tc : Thread Cert.DwDIdeal.nD Cert.DwDIdeal.τ).loc Cert.DwDIdeal.main_arg2) = m ((c.tc : Thread Cert.DwDIdeal.nD Cert.DwDIdeal.τ).loc Cert.DwDIdeal.main_arg2)
      ∧ r.2.mem ((c.tc : Thread Cert.DwDIdeal.nD Cert.DwDIdeal.τ).loc Cert.DwDIdeal.main_arg3) = m ((c.tc : Thread Cert.DwDIdeal.nD Cert.DwDIdeal.τ).loc Cert.DwDIdeal.main_arg3))
      ∧ r.2.sem = fun _ => 0)

def quiescent_DwDRefIdeal [hDwDRefIdeal : Cert.DwDRefIdeal.Facts] : Prop :=
  ∀ (m : (ℓ : Loc Cert.DwDRefIdeal.nD Cert.DwDRefIdeal.τ Cert.DwDRefIdeal.sig) → Buf (Elt Ideal) ℓ) (g : Dev Cert.DwDRefIdeal.nD → PrngReg), Pre_DwDRefIdeal m →
    θ_run (Cert.DwDRefIdeal.defs (F := Ideal)) (onTc (τ := Cert.DwDRefIdeal.τ) (Cert.DwDRefIdeal.main (F := Ideal))) ⟨m, fun _ => 0, g⟩ (fun r => (∀ c : Dev Cert.DwDRefIdeal.nD,
      r.2.mem ((c.tc : Thread Cert.DwDRefIdeal.nD Cert.DwDRefIdeal.τ).loc Cert.DwDRefIdeal.main_arg0) = m ((c.tc : Thread Cert.DwDRefIdeal.nD Cert.DwDRefIdeal.τ).loc Cert.DwDRefIdeal.main_arg0)
      ∧ r.2.mem ((c.tc : Thread Cert.DwDRefIdeal.nD Cert.DwDRefIdeal.τ).loc Cert.DwDRefIdeal.main_arg1) = m ((c.tc : Thread Cert.DwDRefIdeal.nD Cert.DwDRefIdeal.τ).loc Cert.DwDRefIdeal.main_arg1)
      ∧ r.2.mem ((c.tc : Thread Cert.DwDRefIdeal.nD Cert.DwDRefIdeal.τ).loc Cert.DwDRefIdeal.main_arg2) = m ((c.tc : Thread Cert.DwDRefIdeal.nD Cert.DwDRefIdeal.τ).loc Cert.DwDRefIdeal.main_arg2)
      ∧ r.2.mem ((c.tc : Thread Cert.DwDRefIdeal.nD Cert.DwDRefIdeal.τ).loc Cert.DwDRefIdeal.main_arg3) = m ((c.tc : Thread Cert.DwDRefIdeal.nD Cert.DwDRefIdeal.τ).loc Cert.DwDRefIdeal.main_arg3))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1)
      ∧ r.2.mem ((c.tc : Thread Cert.DwSq.nD Cert.DwSq.τ).loc Cert.DwSq.main_arg2) = m ((c.tc : Thread Cert.DwSq.nD Cert.DwSq.τ).loc Cert.DwSq.main_arg2)
      ∧ r.2.mem ((c.tc : Thread Cert.DwSq.nD Cert.DwSq.τ).loc Cert.DwSq.main_arg3) = m ((c.tc : Thread Cert.DwSq.nD Cert.DwSq.τ).loc Cert.DwSq.main_arg3))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1)
      ∧ r.2.mem ((c.tc : Thread Cert.DwSqIdeal.nD Cert.DwSqIdeal.τ).loc Cert.DwSqIdeal.main_arg2) = m ((c.tc : Thread Cert.DwSqIdeal.nD Cert.DwSqIdeal.τ).loc Cert.DwSqIdeal.main_arg2)
      ∧ r.2.mem ((c.tc : Thread Cert.DwSqIdeal.nD Cert.DwSqIdeal.τ).loc Cert.DwSqIdeal.main_arg3) = m ((c.tc : Thread Cert.DwSqIdeal.nD Cert.DwSqIdeal.τ).loc Cert.DwSqIdeal.main_arg3))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1)
      ∧ r.2.mem ((c.tc : Thread Cert.DwSqRefIdeal.nD Cert.DwSqRefIdeal.τ).loc Cert.DwSqRefIdeal.main_arg2) = m ((c.tc : Thread Cert.DwSqRefIdeal.nD Cert.DwSqRefIdeal.τ).loc Cert.DwSqRefIdeal.main_arg2)
      ∧ r.2.mem ((c.tc : Thread Cert.DwSqRefIdeal.nD Cert.DwSqRefIdeal.τ).loc Cert.DwSqRefIdeal.main_arg3) = m ((c.tc : Thread Cert.DwSqRefIdeal.nD Cert.DwSqRefIdeal.τ).loc Cert.DwSqRefIdeal.main_arg3))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5)
      ∧ r.2.mem ((c.tc : Thread Cert.ProjIn.nD Cert.ProjIn.τ).loc Cert.ProjIn.main_arg6) = m ((c.tc : Thread Cert.ProjIn.nD Cert.ProjIn.τ).loc Cert.ProjIn.main_arg6)
      ∧ r.2.mem ((c.tc : Thread Cert.ProjIn.nD Cert.ProjIn.τ).loc Cert.ProjIn.main_arg7) = m ((c.tc : Thread Cert.ProjIn.nD Cert.ProjIn.τ).loc Cert.ProjIn.main_arg7)
      ∧ r.2.mem ((c.tc : Thread Cert.ProjIn.nD Cert.ProjIn.τ).loc Cert.ProjIn.main_arg8) = m ((c.tc : Thread Cert.ProjIn.nD Cert.ProjIn.τ).loc Cert.ProjIn.main_arg8)
      ∧ r.2.mem ((c.tc : Thread Cert.ProjIn.nD Cert.ProjIn.τ).loc Cert.ProjIn.main_arg9) = m ((c.tc : Thread Cert.ProjIn.nD Cert.ProjIn.τ).loc Cert.ProjIn.main_arg9)
      ∧ r.2.mem ((c.tc : Thread Cert.ProjIn.nD Cert.ProjIn.τ).loc Cert.ProjIn.main_arg10) = m ((c.tc : Thread Cert.ProjIn.nD Cert.ProjIn.τ).loc Cert.ProjIn.main_arg10)
      ∧ r.2.mem ((c.tc : Thread Cert.ProjIn.nD Cert.ProjIn.τ).loc Cert.ProjIn.main_arg11) = m ((c.tc : Thread Cert.ProjIn.nD Cert.ProjIn.τ).loc Cert.ProjIn.main_arg11)
      ∧ r.2.mem ((c.tc : Thread Cert.ProjIn.nD Cert.ProjIn.τ).loc Cert.ProjIn.main_arg12) = m ((c.tc : Thread Cert.ProjIn.nD Cert.ProjIn.τ).loc Cert.ProjIn.main_arg12))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
      ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
      ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8)
      ∧ r.2.mem ((c.tc : Thread Cert.ProjInIdeal.nD Cert.ProjInIdeal.τ).loc Cert.ProjInIdeal.main_arg9) = m ((c.tc : Thread Cert.ProjInIdeal.nD Cert.ProjInIdeal.τ).loc Cert.ProjInIdeal.main_arg9)
      ∧ r.2.mem ((c.tc : Thread Cert.ProjInIdeal.nD Cert.ProjInIdeal.τ).loc Cert.ProjInIdeal.main_arg10) = m ((c.tc : Thread Cert.ProjInIdeal.nD Cert.ProjInIdeal.τ).loc Cert.ProjInIdeal.main_arg10)
      ∧ r.2.mem ((c.tc : Thread Cert.ProjInIdeal.nD Cert.ProjInIdeal.τ).loc Cert.ProjInIdeal.main_arg11) = m ((c.tc : Thread Cert.ProjInIdeal.nD Cert.ProjInIdeal.τ).loc Cert.ProjInIdeal.main_arg11)
      ∧ r.2.mem ((c.tc : Thread Cert.ProjInIdeal.nD Cert.ProjInIdeal.τ).loc Cert.ProjInIdeal.main_arg12) = m ((c.tc : Thread Cert.ProjInIdeal.nD Cert.ProjInIdeal.τ).loc Cert.ProjInIdeal.main_arg12))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4)
      ∧ r.2.mem ((c.tc : Thread Cert.ProjInRefIdeal.nD Cert.ProjInRefIdeal.τ).loc Cert.ProjInRefIdeal.main_arg5) = m ((c.tc : Thread Cert.ProjInRefIdeal.nD Cert.ProjInRefIdeal.τ).loc Cert.ProjInRefIdeal.main_arg5)
      ∧ r.2.mem ((c.tc : Thread Cert.ProjInRefIdeal.nD Cert.ProjInRefIdeal.τ).loc Cert.ProjInRefIdeal.main_arg6) = m ((c.tc : Thread Cert.ProjInRefIdeal.nD Cert.ProjInRefIdeal.τ).loc Cert.ProjInRefIdeal.main_arg6)
      ∧ r.2.mem ((c.tc : Thread Cert.ProjInRefIdeal.nD Cert.ProjInRefIdeal.τ).loc Cert.ProjInRefIdeal.main_arg7) = m ((c.tc : Thread Cert.ProjInRefIdeal.nD Cert.ProjInRefIdeal.τ).loc Cert.ProjInRefIdeal.main_arg7)
      ∧ r.2.mem ((c.tc : Thread Cert.ProjInRefIdeal.nD Cert.ProjInRefIdeal.τ).loc Cert.ProjInRefIdeal.main_arg8) = m ((c.tc : Thread Cert.ProjInRefIdeal.nD Cert.ProjInRefIdeal.τ).loc Cert.ProjInRefIdeal.main_arg8)
      ∧ r.2.mem ((c.tc : Thread Cert.ProjInRefIdeal.nD Cert.ProjInRefIdeal.τ).loc Cert.ProjInRefIdeal.main_arg9) = m ((c.tc : Thread Cert.ProjInRefIdeal.nD Cert.ProjInRefIdeal.τ).loc Cert.ProjInRefIdeal.main_arg9)
      ∧ r.2.mem ((c.tc : Thread Cert.ProjInRefIdeal.nD Cert.ProjInRefIdeal.τ).loc Cert.ProjInRefIdeal.main_arg10) = m ((c.tc : Thread Cert.ProjInRefIdeal.nD Cert.ProjInRefIdeal.τ).loc Cert.ProjInRefIdeal.main_arg10)
      ∧ r.2.mem ((c.tc : Thread Cert.ProjInRefIdeal.nD Cert.ProjInRefIdeal.τ).loc Cert.ProjInRefIdeal.main_arg11) = m ((c.tc : Thread Cert.ProjInRefIdeal.nD Cert.ProjInRefIdeal.τ).loc Cert.ProjInRefIdeal.main_arg11)
      ∧ r.2.mem ((c.tc : Thread Cert.ProjInRefIdeal.nD Cert.ProjInRefIdeal.τ).loc Cert.ProjInRefIdeal.main_arg12) = m ((c.tc : Thread Cert.ProjInRefIdeal.nD Cert.ProjInRefIdeal.τ).loc Cert.ProjInRefIdeal.main_arg12))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5)
      ∧ r.2.mem ((c.tc : Thread Cert.DwIn.nD Cert.DwIn.τ).loc Cert.DwIn.main_arg6) = m ((c.tc : Thread Cert.DwIn.nD Cert.DwIn.τ).loc Cert.DwIn.main_arg6)
      ∧ r.2.mem ((c.tc : Thread Cert.DwIn.nD Cert.DwIn.τ).loc Cert.DwIn.main_arg7) = m ((c.tc : Thread Cert.DwIn.nD Cert.DwIn.τ).loc Cert.DwIn.main_arg7)
      ∧ r.2.mem ((c.tc : Thread Cert.DwIn.nD Cert.DwIn.τ).loc Cert.DwIn.main_arg8) = m ((c.tc : Thread Cert.DwIn.nD Cert.DwIn.τ).loc Cert.DwIn.main_arg8)
      ∧ r.2.mem ((c.tc : Thread Cert.DwIn.nD Cert.DwIn.τ).loc Cert.DwIn.main_arg9) = m ((c.tc : Thread Cert.DwIn.nD Cert.DwIn.τ).loc Cert.DwIn.main_arg9)
      ∧ r.2.mem ((c.tc : Thread Cert.DwIn.nD Cert.DwIn.τ).loc Cert.DwIn.main_arg10) = m ((c.tc : Thread Cert.DwIn.nD Cert.DwIn.τ).loc Cert.DwIn.main_arg10)
      ∧ r.2.mem ((c.tc : Thread Cert.DwIn.nD Cert.DwIn.τ).loc Cert.DwIn.main_arg11) = m ((c.tc : Thread Cert.DwIn.nD Cert.DwIn.τ).loc Cert.DwIn.main_arg11)
      ∧ r.2.mem ((c.tc : Thread Cert.DwIn.nD Cert.DwIn.τ).loc Cert.DwIn.main_arg12) = m ((c.tc : Thread Cert.DwIn.nD Cert.DwIn.τ).loc Cert.DwIn.main_arg12)
      ∧ r.2.mem ((c.tc : Thread Cert.DwIn.nD Cert.DwIn.τ).loc Cert.DwIn.main_arg13) = m ((c.tc : Thread Cert.DwIn.nD Cert.DwIn.τ).loc Cert.DwIn.main_arg13)
      ∧ r.2.mem ((c.tc : Thread Cert.DwIn.nD Cert.DwIn.τ).loc Cert.DwIn.main_arg14) = m ((c.tc : Thread Cert.DwIn.nD Cert.DwIn.τ).loc Cert.DwIn.main_arg14)
      ∧ r.2.mem ((c.tc : Thread Cert.DwIn.nD Cert.DwIn.τ).loc Cert.DwIn.main_arg15) = m ((c.tc : Thread Cert.DwIn.nD Cert.DwIn.τ).loc Cert.DwIn.main_arg15)
      ∧ r.2.mem ((c.tc : Thread Cert.DwIn.nD Cert.DwIn.τ).loc Cert.DwIn.main_arg16) = m ((c.tc : Thread Cert.DwIn.nD Cert.DwIn.τ).loc Cert.DwIn.main_arg16)
      ∧ r.2.mem ((c.tc : Thread Cert.DwIn.nD Cert.DwIn.τ).loc Cert.DwIn.main_arg17) = m ((c.tc : Thread Cert.DwIn.nD Cert.DwIn.τ).loc Cert.DwIn.main_arg17))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
      ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
      ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8)
      ∧ r.2.mem ((c.tc : Thread Cert.DwInIdeal.nD Cert.DwInIdeal.τ).loc Cert.DwInIdeal.main_arg9) = m ((c.tc : Thread Cert.DwInIdeal.nD Cert.DwInIdeal.τ).loc Cert.DwInIdeal.main_arg9)
      ∧ r.2.mem ((c.tc : Thread Cert.DwInIdeal.nD Cert.DwInIdeal.τ).loc Cert.DwInIdeal.main_arg10) = m ((c.tc : Thread Cert.DwInIdeal.nD Cert.DwInIdeal.τ).loc Cert.DwInIdeal.main_arg10)
      ∧ r.2.mem ((c.tc : Thread Cert.DwInIdeal.nD Cert.DwInIdeal.τ).loc Cert.DwInIdeal.main_arg11) = m ((c.tc : Thread Cert.DwInIdeal.nD Cert.DwInIdeal.τ).loc Cert.DwInIdeal.main_arg11)
      ∧ r.2.mem ((c.tc : Thread Cert.DwInIdeal.nD Cert.DwInIdeal.τ).loc Cert.DwInIdeal.main_arg12) = m ((c.tc : Thread Cert.DwInIdeal.nD Cert.DwInIdeal.τ).loc Cert.DwInIdeal.main_arg12)
      ∧ r.2.mem ((c.tc : Thread Cert.DwInIdeal.nD Cert.DwInIdeal.τ).loc Cert.DwInIdeal.main_arg13) = m ((c.tc : Thread Cert.DwInIdeal.nD Cert.DwInIdeal.τ).loc Cert.DwInIdeal.main_arg13)
      ∧ r.2.mem ((c.tc : Thread Cert.DwInIdeal.nD Cert.DwInIdeal.τ).loc Cert.DwInIdeal.main_arg14) = m ((c.tc : Thread Cert.DwInIdeal.nD Cert.DwInIdeal.τ).loc Cert.DwInIdeal.main_arg14)
      ∧ r.2.mem ((c.tc : Thread Cert.DwInIdeal.nD Cert.DwInIdeal.τ).loc Cert.DwInIdeal.main_arg15) = m ((c.tc : Thread Cert.DwInIdeal.nD Cert.DwInIdeal.τ).loc Cert.DwInIdeal.main_arg15)
      ∧ r.2.mem ((c.tc : Thread Cert.DwInIdeal.nD Cert.DwInIdeal.τ).loc Cert.DwInIdeal.main_arg16) = m ((c.tc : Thread Cert.DwInIdeal.nD Cert.DwInIdeal.τ).loc Cert.DwInIdeal.main_arg16)
      ∧ r.2.mem ((c.tc : Thread Cert.DwInIdeal.nD Cert.DwInIdeal.τ).loc Cert.DwInIdeal.main_arg17) = m ((c.tc : Thread Cert.DwInIdeal.nD Cert.DwInIdeal.τ).loc Cert.DwInIdeal.main_arg17))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6)
      ∧ r.2.mem ((c.tc : Thread Cert.DwInRefIdeal.nD Cert.DwInRefIdeal.τ).loc Cert.DwInRefIdeal.main_arg7) = m ((c.tc : Thread Cert.DwInRefIdeal.nD Cert.DwInRefIdeal.τ).loc Cert.DwInRefIdeal.main_arg7)
      ∧ r.2.mem ((c.tc : Thread Cert.DwInRefIdeal.nD Cert.DwInRefIdeal.τ).loc Cert.DwInRefIdeal.main_arg8) = m ((c.tc : Thread Cert.DwInRefIdeal.nD Cert.DwInRefIdeal.τ).loc Cert.DwInRefIdeal.main_arg8)
      ∧ r.2.mem ((c.tc : Thread Cert.DwInRefIdeal.nD Cert.DwInRefIdeal.τ).loc Cert.DwInRefIdeal.main_arg9) = m ((c.tc : Thread Cert.DwInRefIdeal.nD Cert.DwInRefIdeal.τ).loc Cert.DwInRefIdeal.main_arg9)
      ∧ r.2.mem ((c.tc : Thread Cert.DwInRefIdeal.nD Cert.DwInRefIdeal.τ).loc Cert.DwInRefIdeal.main_arg10) = m ((c.tc : Thread Cert.DwInRefIdeal.nD Cert.DwInRefIdeal.τ).loc Cert.DwInRefIdeal.main_arg10)
      ∧ r.2.mem ((c.tc : Thread Cert.DwInRefIdeal.nD Cert.DwInRefIdeal.τ).loc Cert.DwInRefIdeal.main_arg11) = m ((c.tc : Thread Cert.DwInRefIdeal.nD Cert.DwInRefIdeal.τ).loc Cert.DwInRefIdeal.main_arg11)
      ∧ r.2.mem ((c.tc : Thread Cert.DwInRefIdeal.nD Cert.DwInRefIdeal.τ).loc Cert.DwInRefIdeal.main_arg12) = m ((c.tc : Thread Cert.DwInRefIdeal.nD Cert.DwInRefIdeal.τ).loc Cert.DwInRefIdeal.main_arg12)
      ∧ r.2.mem ((c.tc : Thread Cert.DwInRefIdeal.nD Cert.DwInRefIdeal.τ).loc Cert.DwInRefIdeal.main_arg13) = m ((c.tc : Thread Cert.DwInRefIdeal.nD Cert.DwInRefIdeal.τ).loc Cert.DwInRefIdeal.main_arg13)
      ∧ r.2.mem ((c.tc : Thread Cert.DwInRefIdeal.nD Cert.DwInRefIdeal.τ).loc Cert.DwInRefIdeal.main_arg14) = m ((c.tc : Thread Cert.DwInRefIdeal.nD Cert.DwInRefIdeal.τ).loc Cert.DwInRefIdeal.main_arg14)
      ∧ r.2.mem ((c.tc : Thread Cert.DwInRefIdeal.nD Cert.DwInRefIdeal.τ).loc Cert.DwInRefIdeal.main_arg15) = m ((c.tc : Thread Cert.DwInRefIdeal.nD Cert.DwInRefIdeal.τ).loc Cert.DwInRefIdeal.main_arg15)
      ∧ r.2.mem ((c.tc : Thread Cert.DwInRefIdeal.nD Cert.DwInRefIdeal.τ).loc Cert.DwInRefIdeal.main_arg16) = m ((c.tc : Thread Cert.DwInRefIdeal.nD Cert.DwInRefIdeal.τ).loc Cert.DwInRefIdeal.main_arg16)
      ∧ r.2.mem ((c.tc : Thread Cert.DwInRefIdeal.nD Cert.DwInRefIdeal.τ).loc Cert.DwInRefIdeal.main_arg17) = m ((c.tc : Thread Cert.DwInRefIdeal.nD Cert.DwInRefIdeal.τ).loc Cert.DwInRefIdeal.main_arg17))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2)
      ∧ r.2.mem ((c.tc : Thread Cert.DwGate.nD Cert.DwGate.τ).loc Cert.DwGate.main_arg3) = m ((c.tc : Thread Cert.DwGate.nD Cert.DwGate.τ).loc Cert.DwGate.main_arg3))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
      ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2)
      ∧ r.2.mem ((c.tc : Thread Cert.DwGateRefIdeal.nD Cert.DwGateRefIdeal.τ).loc Cert.DwGateRefIdeal.main_arg3) = m ((c.tc : Thread Cert.DwGateRefIdeal.nD Cert.DwGateRefIdeal.τ).loc Cert.DwGateRefIdeal.main_arg3))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "gam0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "lg1" .f32 0xBC8102B3#32 ((Real.log (63 / 64) : ℝ) : EReal)
  ∧ IdealRules.named_const.Statement Cert.KernelIdeal.κ "gam1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "lg2" .f32 0xBC0080AC#32 ((Real.log (127 / 128) : ℝ) : EReal)
  ∧ IdealRules.named_const.Statement Cert.KernelIdeal.κ "gam2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "lg3" .f32 0xBB80402B#32 ((Real.log (255 / 256) : ℝ) : EReal)
  ∧ IdealRules.named_const.Statement Cert.KernelIdeal.κ "gam3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)) (v4 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_v1_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v348) = v0 c
          ∧ r.2.mem ((c.tc : Thread Cert.ReferenceIdeal.nD Cert.ReferenceIdeal.τ).loc Cert.ReferenceIdeal.main_v351) = v1 c
          ∧ r.2.mem ((c.tc : Thread Cert.ReferenceIdeal.nD Cert.ReferenceIdeal.τ).loc Cert.ReferenceIdeal.main_v354) = v2 c
          ∧ r.2.mem ((c.tc : Thread Cert.ReferenceIdeal.nD Cert.ReferenceIdeal.τ).loc Cert.ReferenceIdeal.main_v357) = v3 c
          ∧ r.2.mem ((c.tc : Thread Cert.ReferenceIdeal.nD Cert.ReferenceIdeal.τ).loc Cert.ReferenceIdeal.main_v360) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v69) = v0 c
          ∧ r.2.mem ((c.tc : Thread Cert.FfnInRefIdeal.nD Cert.FfnInRefIdeal.τ).loc Cert.FfnInRefIdeal.main_v74) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_DwGu_DwGuIdeal : Prop :=
  True

def algebraic_DwGuIdeal_DwGuRefIdeal [hDwGuIdeal : Cert.DwGuIdeal.Facts] [hDwGuRefIdeal : Cert.DwGuRefIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)
      ∧ m' ((c.tc : Thread Cert.DwGuRefIdeal.nD Cert.DwGuRefIdeal.τ).loc Cert.DwGuRefIdeal.main_arg2) = m ((c.tc : Thread Cert.DwGuIdeal.nD Cert.DwGuIdeal.τ).loc Cert.DwGuIdeal.main_arg2)
      ∧ m' ((c.tc : Thread Cert.DwGuRefIdeal.nD Cert.DwGuRefIdeal.τ).loc Cert.DwGuRefIdeal.main_arg3) = m ((c.tc : Thread Cert.DwGuIdeal.nD Cert.DwGuIdeal.τ).loc Cert.DwGuIdeal.main_arg3)) →
    ∃ (v0 : (c : Dev Cert.DwGuIdeal.nD) → Buf (Elt Ideal) ((c.tc : Thread Cert.DwGuIdeal.nD Cert.DwGuIdeal.τ).loc Cert.DwGuIdeal.main_v0)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v0) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1)
          ∧ r.2.mem ((c.tc : Thread Cert.DwGuIdeal.nD Cert.DwGuIdeal.τ).loc Cert.DwGuIdeal.main_arg2) = m ((c.tc : Thread Cert.DwGuIdeal.nD Cert.DwGuIdeal.τ).loc Cert.DwGuIdeal.main_arg2)
          ∧ r.2.mem ((c.tc : Thread Cert.DwGuIdeal.nD Cert.DwGuIdeal.τ).loc Cert.DwGuIdeal.main_arg3) = m ((c.tc : Thread Cert.DwGuIdeal.nD Cert.DwGuIdeal.τ).loc Cert.DwGuIdeal.main_arg3))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v11) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1)
          ∧ r.2.mem ((c.tc : Thread Cert.DwGuRefIdeal.nD Cert.DwGuRefIdeal.τ).loc Cert.DwGuRefIdeal.main_arg2) = m' ((c.tc : Thread Cert.DwGuRefIdeal.nD Cert.DwGuRefIdeal.τ).loc Cert.DwGuRefIdeal.main_arg2)
          ∧ r.2.mem ((c.tc : Thread Cert.DwGuRefIdeal.nD Cert.DwGuRefIdeal.τ).loc Cert.DwGuRefIdeal.main_arg3) = m' ((c.tc : Thread Cert.DwGuRefIdeal.nD Cert.DwGuRefIdeal.τ).loc Cert.DwGuRefIdeal.main_arg3))

def preserves_DwD_DwDIdeal : Prop :=
  True

def algebraic_DwDIdeal_DwDRefIdeal [hDwDIdeal : Cert.DwDIdeal.Facts] [hDwDRefIdeal : Cert.DwDRefIdeal.Facts] : Prop :=
  ∀ (m : (ℓ : Loc Cert.DwDIdeal.nD Cert.DwDIdeal.τ Cert.DwDIdeal.sig) → Buf (Elt Ideal) ℓ) (g : Dev Cert.DwDIdeal.nD → PrngReg)
    (m' : (ℓ : Loc Cert.DwDRefIdeal.nD Cert.DwDRefIdeal.τ Cert.DwDRefIdeal.sig) → Buf (Elt Ideal) ℓ) (g' : Dev Cert.DwDRefIdeal.nD → PrngReg), Pre_DwDIdeal m →
    (∀ c : Dev Cert.DwDIdeal.nD,
      m' ((c.tc : Thread Cert.DwDRefIdeal.nD Cert.DwDRefIdeal.τ).loc Cert.DwDRefIdeal.main_arg0) = m ((c.tc : Thread Cert.DwDIdeal.nD Cert.DwDIdeal.τ).loc Cert.DwDIdeal.main_arg0)
      ∧ m' ((c.tc : Thread Cert.DwDRefIdeal.nD Cert.DwDRefIdeal.τ).loc Cert.DwDRefIdeal.main_arg1) = m ((c.tc : Thread Cert.DwDIdeal.nD Cert.DwDIdeal.τ).loc Cert.DwDIdeal.main_arg1)
      ∧ m' ((c.tc : Thread Cert.DwDRefIdeal.nD Cert.DwDRefIdeal.τ).loc Cert.DwDRefIdeal.main_arg2) = m ((c.tc : Thread Cert.DwDIdeal.nD Cert.DwDIdeal.τ).loc Cert.DwDIdeal.main_arg2)
      ∧ m' ((c.tc : Thread Cert.DwDRefIdeal.nD Cert.DwDRefIdeal.τ).loc Cert.DwDRefIdeal.main_arg3) = m ((c.tc : Thread Cert.DwDIdeal.nD Cert.DwDIdeal.τ).loc Cert.DwDIdeal.main_arg3)) →
    ∃ (v0 : (c : Dev Cert.DwDIdeal.nD) → Buf (Elt Ideal) ((c.tc : Thread Cert.DwDIdeal.nD Cert.DwDIdeal.τ).loc Cert.DwDIdeal.main_v0)),
      θ_run (Cert.DwDIdeal.defs (F := Ideal)) (onTc (τ := Cert.DwDIdeal.τ) (Cert.DwDIdeal.main (F := Ideal))) ⟨m, fun _ => 0, g⟩ (fun r => ∀ c : Dev Cert.DwDIdeal.nD,
          r.2.mem ((c.tc : Thread Cert.DwDIdeal.nD Cert.DwDIdeal.τ).loc Cert.DwDIdeal.main_v0) = v0 c
          ∧ r.2.mem ((c.tc : Thread Cert.DwDIdeal.nD Cert.DwDIdeal.τ).loc Cert.DwDIdeal.main_arg0) = m ((c.tc : Thread Cert.DwDIdeal.nD Cert.DwDIdeal.τ).loc Cert.DwDIdeal.main_arg0)
          ∧ r.2.mem ((c.tc : Thread Cert.DwDIdeal.nD Cert.DwDIdeal.τ).loc Cert.DwDIdeal.main_arg1) = m ((c.tc : Thread Cert.DwDIdeal.nD Cert.DwDIdeal.τ).loc Cert.DwDIdeal.main_arg1)
          ∧ r.2.mem ((c.tc : Thread Cert.DwDIdeal.nD Cert.DwDIdeal.τ).loc Cert.DwDIdeal.main_arg2) = m ((c.tc : Thread Cert.DwDIdeal.nD Cert.DwDIdeal.τ).loc Cert.DwDIdeal.main_arg2)
          ∧ r.2.mem ((c.tc : Thread Cert.DwDIdeal.nD Cert.DwDIdeal.τ).loc Cert.DwDIdeal.main_arg3) = m ((c.tc : Thread Cert.DwDIdeal.nD Cert.DwDIdeal.τ).loc Cert.DwDIdeal.main_arg3))
      ∧ θ_run (Cert.DwDRefIdeal.defs (F := Ideal)) (onTc (τ := Cert.DwDRefIdeal.τ) (Cert.DwDRefIdeal.main (F := Ideal))) ⟨m', fun _ => 0, g'⟩ (fun r => ∀ c : Dev Cert.DwDRefIdeal.nD,
          r.2.mem ((c.tc : Thread Cert.DwDRefIdeal.nD Cert.DwDRefIdeal.τ).loc Cert.DwDRefIdeal.main_v11) = v0 c
          ∧ r.2.mem ((c.tc : Thread Cert.DwDRefIdeal.nD Cert.DwDRefIdeal.τ).loc Cert.DwDRefIdeal.main_arg0) = m' ((c.tc : Thread Cert.DwDRefIdeal.nD Cert.DwDRefIdeal.τ).loc Cert.DwDRefIdeal.main_arg0)
          ∧ r.2.mem ((c.tc : Thread Cert.DwDRefIdeal.nD Cert.DwDRefIdeal.τ).loc Cert.DwDRefIdeal.main_arg1) = m' ((c.tc : Thread Cert.DwDRefIdeal.nD Cert.DwDRefIdeal.τ).loc Cert.DwDRefIdeal.main_arg1)
          ∧ r.2.mem ((c.tc : Thread Cert.DwDRefIdeal.nD Cert.DwDRefIdeal.τ).loc Cert.DwDRefIdeal.main_arg2) = m' ((c.tc : Thread Cert.DwDRefIdeal.nD Cert.DwDRefIdeal.τ).loc Cert.DwDRefIdeal.main_arg2)
          ∧ r.2.mem ((c.tc : Thread Cert.DwDRefIdeal.nD Cert.DwDRefIdeal.τ).loc Cert.DwDRefIdeal.main_arg3) = m' ((c.tc : Thread Cert.DwDRefIdeal.nD Cert.DwDRefIdeal.τ).loc Cert.DwDRefIdeal.main_arg3))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)
      ∧ m' ((c.tc : Thread Cert.DwSqRefIdeal.nD Cert.DwSqRefIdeal.τ).loc Cert.DwSqRefIdeal.main_arg2) = m ((c.tc : Thread Cert.DwSqIdeal.nD Cert.DwSqIdeal.τ).loc Cert.DwSqIdeal.main_arg2)
      ∧ m' ((c.tc : Thread Cert.DwSqRefIdeal.nD Cert.DwSqRefIdeal.τ).loc Cert.DwSqRefIdeal.main_arg3) = m ((c.tc : Thread Cert.DwSqIdeal.nD Cert.DwSqIdeal.τ).loc Cert.DwSqIdeal.main_arg3)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1)
          ∧ r.2.mem ((c.tc : Thread Cert.DwSqIdeal.nD Cert.DwSqIdeal.τ).loc Cert.DwSqIdeal.main_arg2) = m ((c.tc : Thread Cert.DwSqIdeal.nD Cert.DwSqIdeal.τ).loc Cert.DwSqIdeal.main_arg2)
          ∧ r.2.mem ((c.tc : Thread Cert.DwSqIdeal.nD Cert.DwSqIdeal.τ).loc Cert.DwSqIdeal.main_arg3) = m ((c.tc : Thread Cert.DwSqIdeal.nD Cert.DwSqIdeal.τ).loc Cert.DwSqIdeal.main_arg3))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v11) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1)
          ∧ r.2.mem ((c.tc : Thread Cert.DwSqRefIdeal.nD Cert.DwSqRefIdeal.τ).loc Cert.DwSqRefIdeal.main_arg2) = m' ((c.tc : Thread Cert.DwSqRefIdeal.nD Cert.DwSqRefIdeal.τ).loc Cert.DwSqRefIdeal.main_arg2)
          ∧ r.2.mem ((c.tc : Thread Cert.DwSqRefIdeal.nD Cert.DwSqRefIdeal.τ).loc Cert.DwSqRefIdeal.main_arg3) = m' ((c.tc : Thread Cert.DwSqRefIdeal.nD Cert.DwSqRefIdeal.τ).loc Cert.DwSqRefIdeal.main_arg3))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)
      ∧ m' ((c.tc : Thread Cert.ProjInRefIdeal.nD Cert.ProjInRefIdeal.τ).loc Cert.ProjInRefIdeal.main_arg5) = m ((c.tc : Thread Cert.ProjInIdeal.nD Cert.ProjInIdeal.τ).loc Cert.ProjInIdeal.main_arg5)
      ∧ m' ((c.tc : Thread Cert.ProjInRefIdeal.nD Cert.ProjInRefIdeal.τ).loc Cert.ProjInRefIdeal.main_arg6) = m ((c.tc : Thread Cert.ProjInIdeal.nD Cert.ProjInIdeal.τ).loc Cert.ProjInIdeal.main_arg6)
      ∧ m' ((c.tc : Thread Cert.ProjInRefIdeal.nD Cert.ProjInRefIdeal.τ).loc Cert.ProjInRefIdeal.main_arg7) = m ((c.tc : Thread Cert.ProjInIdeal.nD Cert.ProjInIdeal.τ).loc Cert.ProjInIdeal.main_arg7)
      ∧ m' ((c.tc : Thread Cert.ProjInRefIdeal.nD Cert.ProjInRefIdeal.τ).loc Cert.ProjInRefIdeal.main_arg8) = m ((c.tc : Thread Cert.ProjInIdeal.nD Cert.ProjInIdeal.τ).loc Cert.ProjInIdeal.main_arg8)
      ∧ m' ((c.tc : Thread Cert.ProjInRefIdeal.nD Cert.ProjInRefIdeal.τ).loc Cert.ProjInRefIdeal.main_arg9) = m ((c.tc : Thread Cert.ProjInIdeal.nD Cert.ProjInIdeal.τ).loc Cert.ProjInIdeal.main_arg9)
      ∧ m' ((c.tc : Thread Cert.ProjInRefIdeal.nD Cert.ProjInRefIdeal.τ).loc Cert.ProjInRefIdeal.main_arg10) = m ((c.tc : Thread Cert.ProjInIdeal.nD Cert.ProjInIdeal.τ).loc Cert.ProjInIdeal.main_arg10)
      ∧ m' ((c.tc : Thread Cert.ProjInRefIdeal.nD Cert.ProjInRefIdeal.τ).loc Cert.ProjInRefIdeal.main_arg11) = m ((c.tc : Thread Cert.ProjInIdeal.nD Cert.ProjInIdeal.τ).loc Cert.ProjInIdeal.main_arg11)
      ∧ m' ((c.tc : Thread Cert.ProjInRefIdeal.nD Cert.ProjInRefIdeal.τ).loc Cert.ProjInRefIdeal.main_arg12) = m ((c.tc : Thread Cert.ProjInIdeal.nD Cert.ProjInIdeal.τ).loc Cert.ProjInIdeal.main_arg12)) →
    ∃ (v0 : (c : Dev Cert.ProjInIdeal.nD) → Buf (Elt Ideal) ((c.tc : Thread Cert.ProjInIdeal.nD Cert.ProjInIdeal.τ).loc Cert.ProjInIdeal.main_v0_0)) (v1 : (c : Dev Cert.ProjInIdeal.nD) → Buf (Elt Ideal) ((c.tc : Thread Cert.ProjInIdeal.nD Cert.ProjInIdeal.τ).loc Cert.ProjInIdeal.main_v0_1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0_0) = v0 c
          ∧ r.2.mem ((c.tc : Thread Cert.ProjInIdeal.nD Cert.ProjInIdeal.τ).loc Cert.ProjInIdeal.main_v0_1) = v1 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
          ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
          ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
          ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8)
          ∧ r.2.mem ((c.tc : Thread Cert.ProjInIdeal.nD Cert.ProjInIdeal.τ).loc Cert.ProjInIdeal.main_arg9) = m ((c.tc : Thread Cert.ProjInIdeal.nD Cert.ProjInIdeal.τ).loc Cert.ProjInIdeal.main_arg9)
          ∧ r.2.mem ((c.tc : Thread Cert.ProjInIdeal.nD Cert.ProjInIdeal.τ).loc Cert.ProjInIdeal.main_arg10) = m ((c.tc : Thread Cert.ProjInIdeal.nD Cert.ProjInIdeal.τ).loc Cert.ProjInIdeal.main_arg10)
          ∧ r.2.mem ((c.tc : Thread Cert.ProjInIdeal.nD Cert.ProjInIdeal.τ).loc Cert.ProjInIdeal.main_arg11) = m ((c.tc : Thread Cert.ProjInIdeal.nD Cert.ProjInIdeal.τ).loc Cert.ProjInIdeal.main_arg11)
          ∧ r.2.mem ((c.tc : Thread Cert.ProjInIdeal.nD Cert.ProjInIdeal.τ).loc Cert.ProjInIdeal.main_arg12) = m ((c.tc : Thread Cert.ProjInIdeal.nD Cert.ProjInIdeal.τ).loc Cert.ProjInIdeal.main_arg12))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v64) = v0 c
          ∧ r.2.mem ((c.tc : Thread Cert.ProjInRefIdeal.nD Cert.ProjInRefIdeal.τ).loc Cert.ProjInRefIdeal.main_v69) = v1 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3)
          ∧ r.2.mem ((c.tc : Thread Cert.ProjInRefIdeal.nD Cert.ProjInRefIdeal.τ).loc Cert.ProjInRefIdeal.main_arg4) = m' ((c.tc : Thread Cert.ProjInRefIdeal.nD Cert.ProjInRefIdeal.τ).loc Cert.ProjInRefIdeal.main_arg4)
          ∧ r.2.mem ((c.tc : Thread Cert.ProjInRefIdeal.nD Cert.ProjInRefIdeal.τ).loc Cert.ProjInRefIdeal.main_arg5) = m' ((c.tc : Thread Cert.ProjInRefIdeal.nD Cert.ProjInRefIdeal.τ).loc Cert.ProjInRefIdeal.main_arg5)
          ∧ r.2.mem ((c.tc : Thread Cert.ProjInRefIdeal.nD Cert.ProjInRefIdeal.τ).loc Cert.ProjInRefIdeal.main_arg6) = m' ((c.tc : Thread Cert.ProjInRefIdeal.nD Cert.ProjInRefIdeal.τ).loc Cert.ProjInRefIdeal.main_arg6)
          ∧ r.2.mem ((c.tc : Thread Cert.ProjInRefIdeal.nD Cert.ProjInRefIdeal.τ).loc Cert.ProjInRefIdeal.main_arg7) = m' ((c.tc : Thread Cert.ProjInRefIdeal.nD Cert.ProjInRefIdeal.τ).loc Cert.ProjInRefIdeal.main_arg7)
          ∧ r.2.mem ((c.tc : Thread Cert.ProjInRefIdeal.nD Cert.ProjInRefIdeal.τ).loc Cert.ProjInRefIdeal.main_arg8) = m' ((c.tc : Thread Cert.ProjInRefIdeal.nD Cert.ProjInRefIdeal.τ).loc Cert.ProjInRefIdeal.main_arg8)
          ∧ r.2.mem ((c.tc : Thread Cert.ProjInRefIdeal.nD Cert.ProjInRefIdeal.τ).loc Cert.ProjInRefIdeal.main_arg9) = m' ((c.tc : Thread Cert.ProjInRefIdeal.nD Cert.ProjInRefIdeal.τ).loc Cert.ProjInRefIdeal.main_arg9)
          ∧ r.2.mem ((c.tc : Thread Cert.ProjInRefIdeal.nD Cert.ProjInRefIdeal.τ).loc Cert.ProjInRefIdeal.main_arg10) = m' ((c.tc : Thread Cert.ProjInRefIdeal.nD Cert.ProjInRefIdeal.τ).loc Cert.ProjInRefIdeal.main_arg10)
          ∧ r.2.mem ((c.tc : Thread Cert.ProjInRefIdeal.nD Cert.ProjInRefIdeal.τ).loc Cert.ProjInRefIdeal.main_arg11) = m' ((c.tc : Thread Cert.ProjInRefIdeal.nD Cert.ProjInRefIdeal.τ).loc Cert.ProjInRefIdeal.main_arg11)
          ∧ r.2.mem ((c.tc : Thread Cert.ProjInRefIdeal.nD Cert.ProjInRefIdeal.τ).loc Cert.ProjInRefIdeal.main_arg12) = m' ((c.tc : Thread Cert.ProjInRefIdeal.nD Cert.ProjInRefIdeal.τ).loc Cert.ProjInRefIdeal.main_arg12))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)
      ∧ m' ((c.tc : Thread Cert.DwInRefIdeal.nD Cert.DwInRefIdeal.τ).loc Cert.DwInRefIdeal.main_arg6) = m ((c.tc : Thread Cert.DwInIdeal.nD Cert.DwInIdeal.τ).loc Cert.DwInIdeal.main_arg6)
      ∧ m' ((c.tc : Thread Cert.DwInRefIdeal.nD Cert.DwInRefIdeal.τ).loc Cert.DwInRefIdeal.main_arg7) = m ((c.tc : Thread Cert.DwInIdeal.nD Cert.DwInIdeal.τ).loc Cert.DwInIdeal.main_arg7)
      ∧ m' ((c.tc : Thread Cert.DwInRefIdeal.nD Cert.DwInRefIdeal.τ).loc Cert.DwInRefIdeal.main_arg8) = m ((c.tc : Thread Cert.DwInIdeal.nD Cert.DwInIdeal.τ).loc Cert.DwInIdeal.main_arg8)
      ∧ m' ((c.tc : Thread Cert.DwInRefIdeal.nD Cert.DwInRefIdeal.τ).loc Cert.DwInRefIdeal.main_arg9) = m ((c.tc : Thread Cert.DwInIdeal.nD Cert.DwInIdeal.τ).loc Cert.DwInIdeal.main_arg9)
      ∧ m' ((c.tc : Thread Cert.DwInRefIdeal.nD Cert.DwInRefIdeal.τ).loc Cert.DwInRefIdeal.main_arg10) = m ((c.tc : Thread Cert.DwInIdeal.nD Cert.DwInIdeal.τ).loc Cert.DwInIdeal.main_arg10)
      ∧ m' ((c.tc : Thread Cert.DwInRefIdeal.nD Cert.DwInRefIdeal.τ).loc Cert.DwInRefIdeal.main_arg11) = m ((c.tc : Thread Cert.DwInIdeal.nD Cert.DwInIdeal.τ).loc Cert.DwInIdeal.main_arg11)
      ∧ m' ((c.tc : Thread Cert.DwInRefIdeal.nD Cert.DwInRefIdeal.τ).loc Cert.DwInRefIdeal.main_arg12) = m ((c.tc : Thread Cert.DwInIdeal.nD Cert.DwInIdeal.τ).loc Cert.DwInIdeal.main_arg12)
      ∧ m' ((c.tc : Thread Cert.DwInRefIdeal.nD Cert.DwInRefIdeal.τ).loc Cert.DwInRefIdeal.main_arg13) = m ((c.tc : Thread Cert.DwInIdeal.nD Cert.DwInIdeal.τ).loc Cert.DwInIdeal.main_arg13)
      ∧ m' ((c.tc : Thread Cert.DwInRefIdeal.nD Cert.DwInRefIdeal.τ).loc Cert.DwInRefIdeal.main_arg14) = m ((c.tc : Thread Cert.DwInIdeal.nD Cert.DwInIdeal.τ).loc Cert.DwInIdeal.main_arg14)
      ∧ m' ((c.tc : Thread Cert.DwInRefIdeal.nD Cert.DwInRefIdeal.τ).loc Cert.DwInRefIdeal.main_arg15) = m ((c.tc : Thread Cert.DwInIdeal.nD Cert.DwInIdeal.τ).loc Cert.DwInIdeal.main_arg15)
      ∧ m' ((c.tc : Thread Cert.DwInRefIdeal.nD Cert.DwInRefIdeal.τ).loc Cert.DwInRefIdeal.main_arg16) = m ((c.tc : Thread Cert.DwInIdeal.nD Cert.DwInIdeal.τ).loc Cert.DwInIdeal.main_arg16)
      ∧ m' ((c.tc : Thread Cert.DwInRefIdeal.nD Cert.DwInRefIdeal.τ).loc Cert.DwInRefIdeal.main_arg17) = m ((c.tc : Thread Cert.DwInIdeal.nD Cert.DwInIdeal.τ).loc Cert.DwInIdeal.main_arg17)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
          ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
          ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
          ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8)
          ∧ r.2.mem ((c.tc : Thread Cert.DwInIdeal.nD Cert.DwInIdeal.τ).loc Cert.DwInIdeal.main_arg9) = m ((c.tc : Thread Cert.DwInIdeal.nD Cert.DwInIdeal.τ).loc Cert.DwInIdeal.main_arg9)
          ∧ r.2.mem ((c.tc : Thread Cert.DwInIdeal.nD Cert.DwInIdeal.τ).loc Cert.DwInIdeal.main_arg10) = m ((c.tc : Thread Cert.DwInIdeal.nD Cert.DwInIdeal.τ).loc Cert.DwInIdeal.main_arg10)
          ∧ r.2.mem ((c.tc : Thread Cert.DwInIdeal.nD Cert.DwInIdeal.τ).loc Cert.DwInIdeal.main_arg11) = m ((c.tc : Thread Cert.DwInIdeal.nD Cert.DwInIdeal.τ).loc Cert.DwInIdeal.main_arg11)
          ∧ r.2.mem ((c.tc : Thread Cert.DwInIdeal.nD Cert.DwInIdeal.τ).loc Cert.DwInIdeal.main_arg12) = m ((c.tc : Thread Cert.DwInIdeal.nD Cert.DwInIdeal.τ).loc Cert.DwInIdeal.main_arg12)
          ∧ r.2.mem ((c.tc : Thread Cert.DwInIdeal.nD Cert.DwInIdeal.τ).loc Cert.DwInIdeal.main_arg13) = m ((c.tc : Thread Cert.DwInIdeal.nD Cert.DwInIdeal.τ).loc Cert.DwInIdeal.main_arg13)
          ∧ r.2.mem ((c.tc : Thread Cert.DwInIdeal.nD Cert.DwInIdeal.τ).loc Cert.DwInIdeal.main_arg14) = m ((c.tc : Thread Cert.DwInIdeal.nD Cert.DwInIdeal.τ).loc Cert.DwInIdeal.main_arg14)
          ∧ r.2.mem ((c.tc : Thread Cert.DwInIdeal.nD Cert.DwInIdeal.τ).loc Cert.DwInIdeal.main_arg15) = m ((c.tc : Thread Cert.DwInIdeal.nD Cert.DwInIdeal.τ).loc Cert.DwInIdeal.main_arg15)
          ∧ r.2.mem ((c.tc : Thread Cert.DwInIdeal.nD Cert.DwInIdeal.τ).loc Cert.DwInIdeal.main_arg16) = m ((c.tc : Thread Cert.DwInIdeal.nD Cert.DwInIdeal.τ).loc Cert.DwInIdeal.main_arg16)
          ∧ r.2.mem ((c.tc : Thread Cert.DwInIdeal.nD Cert.DwInIdeal.τ).loc Cert.DwInIdeal.main_arg17) = m ((c.tc : Thread Cert.DwInIdeal.nD Cert.DwInIdeal.τ).loc Cert.DwInIdeal.main_arg17))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v13) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5)
          ∧ r.2.mem ((c.tc : Thread Cert.DwInRefIdeal.nD Cert.DwInRefIdeal.τ).loc Cert.DwInRefIdeal.main_arg6) = m' ((c.tc : Thread Cert.DwInRefIdeal.nD Cert.DwInRefIdeal.τ).loc Cert.DwInRefIdeal.main_arg6)
          ∧ r.2.mem ((c.tc : Thread Cert.DwInRefIdeal.nD Cert.DwInRefIdeal.τ).loc Cert.DwInRefIdeal.main_arg7) = m' ((c.tc : Thread Cert.DwInRefIdeal.nD Cert.DwInRefIdeal.τ).loc Cert.DwInRefIdeal.main_arg7)
          ∧ r.2.mem ((c.tc : Thread Cert.DwInRefIdeal.nD Cert.DwInRefIdeal.τ).loc Cert.DwInRefIdeal.main_arg8) = m' ((c.tc : Thread Cert.DwInRefIdeal.nD Cert.DwInRefIdeal.τ).loc Cert.DwInRefIdeal.main_arg8)
          ∧ r.2.mem ((c.tc : Thread Cert.DwInRefIdeal.nD Cert.DwInRefIdeal.τ).loc Cert.DwInRefIdeal.main_arg9) = m' ((c.tc : Thread Cert.DwInRefIdeal.nD Cert.DwInRefIdeal.τ).loc Cert.DwInRefIdeal.main_arg9)
          ∧ r.2.mem ((c.tc : Thread Cert.DwInRefIdeal.nD Cert.DwInRefIdeal.τ).loc Cert.DwInRefIdeal.main_arg10) = m' ((c.tc : Thread Cert.DwInRefIdeal.nD Cert.DwInRefIdeal.τ).loc Cert.DwInRefIdeal.main_arg10)
          ∧ r.2.mem ((c.tc : Thread Cert.DwInRefIdeal.nD Cert.DwInRefIdeal.τ).loc Cert.DwInRefIdeal.main_arg11) = m' ((c.tc : Thread Cert.DwInRefIdeal.nD Cert.DwInRefIdeal.τ).loc Cert.DwInRefIdeal.main_arg11)
          ∧ r.2.mem ((c.tc : Thread Cert.DwInRefIdeal.nD Cert.DwInRefIdeal.τ).loc Cert.DwInRefIdeal.main_arg12) = m' ((c.tc : Thread Cert.DwInRefIdeal.nD Cert.DwInRefIdeal.τ).loc Cert.DwInRefIdeal.main_arg12)
          ∧ r.2.mem ((c.tc : Thread Cert.DwInRefIdeal.nD Cert.DwInRefIdeal.τ).loc Cert.DwInRefIdeal.main_arg13) = m' ((c.tc : Thread Cert.DwInRefIdeal.nD Cert.DwInRefIdeal.τ).loc Cert.DwInRefIdeal.main_arg13)
          ∧ r.2.mem ((c.tc : Thread Cert.DwInRefIdeal.nD Cert.DwInRefIdeal.τ).loc Cert.DwInRefIdeal.main_arg14) = m' ((c.tc : Thread Cert.DwInRefIdeal.nD Cert.DwInRefIdeal.τ).loc Cert.DwInRefIdeal.main_arg14)
          ∧ r.2.mem ((c.tc : Thread Cert.DwInRefIdeal.nD Cert.DwInRefIdeal.τ).loc Cert.DwInRefIdeal.main_arg15) = m' ((c.tc : Thread Cert.DwInRefIdeal.nD Cert.DwInRefIdeal.τ).loc Cert.DwInRefIdeal.main_arg15)
          ∧ r.2.mem ((c.tc : Thread Cert.DwInRefIdeal.nD Cert.DwInRefIdeal.τ).loc Cert.DwInRefIdeal.main_arg16) = m' ((c.tc : Thread Cert.DwInRefIdeal.nD Cert.DwInRefIdeal.τ).loc Cert.DwInRefIdeal.main_arg16)
          ∧ r.2.mem ((c.tc : Thread Cert.DwInRefIdeal.nD Cert.DwInRefIdeal.τ).loc Cert.DwInRefIdeal.main_arg17) = m' ((c.tc : Thread Cert.DwInRefIdeal.nD Cert.DwInRefIdeal.τ).loc Cert.DwInRefIdeal.main_arg17))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)
      ∧ m' ((c.tc : Thread Cert.DwGateRefIdeal.nD Cert.DwGateRefIdeal.τ).loc Cert.DwGateRefIdeal.main_arg3) = m ((c.tc : Thread Cert.DwGateIdeal.nD Cert.DwGateIdeal.τ).loc Cert.DwGateIdeal.main_arg3)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
          ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v11) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2)
          ∧ r.2.mem ((c.tc : Thread Cert.DwGateRefIdeal.nD Cert.DwGateRefIdeal.τ).loc Cert.DwGateRefIdeal.main_arg3) = m' ((c.tc : Thread Cert.DwGateRefIdeal.nD Cert.DwGateRefIdeal.τ).loc Cert.DwGateRefIdeal.main_arg3))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hDwGu : Cert.DwGu.Facts) (hDwGuIdeal : Cert.DwGuIdeal.Facts) (hDwGuRefIdeal : Cert.DwGuRefIdeal.Facts) (hDwD : Cert.DwD.Facts) (hDwDIdeal : Cert.DwDIdeal.Facts) (hDwDRefIdeal : Cert.DwDRefIdeal.Facts) (hDwSq : Cert.DwSq.Facts) (hDwSqIdeal : Cert.DwSqIdeal.Facts) (hDwSqRefIdeal : Cert.DwSqRefIdeal.Facts) (hProjIn : Cert.ProjIn.Facts) (hProjInIdeal : Cert.ProjInIdeal.Facts) (hProjInRefIdeal : Cert.ProjInRefIdeal.Facts) (hDwIn : Cert.DwIn.Facts) (hDwInIdeal : Cert.DwInIdeal.Facts) (hDwInRefIdeal : Cert.DwInRefIdeal.Facts) (hDwGate : Cert.DwGate.Facts) (hDwGateIdeal : Cert.DwGateIdeal.Facts) (hDwGateRefIdeal : Cert.DwGateRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_DwGu (hDwGu := hDwGu)
    ∧ quiescent_DwGuIdeal (hDwGuIdeal := hDwGuIdeal)
    ∧ quiescent_DwGuRefIdeal (hDwGuRefIdeal := hDwGuRefIdeal)
    ∧ quiescent_DwD (hDwD := hDwD)
    ∧ quiescent_DwDIdeal (hDwDIdeal := hDwDIdeal)
    ∧ quiescent_DwDRefIdeal (hDwDRefIdeal := hDwDRefIdeal)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ preserves_Kernel_KernelIdeal
    ∧ algebraic_KernelIdeal_ReferenceIdeal (hKernelIdeal := hKernelIdeal) (hReferenceIdeal := hReferenceIdeal)
    ∧ preserves_FfnIn_FfnInIdeal
    ∧ algebraic_FfnInIdeal_FfnInRefIdeal (hFfnInIdeal := hFfnInIdeal) (hFfnInRefIdeal := hFfnInRefIdeal)
    ∧ preserves_DwGu_DwGuIdeal
    ∧ algebraic_DwGuIdeal_DwGuRefIdeal (hDwGuIdeal := hDwGuIdeal) (hDwGuRefIdeal := hDwGuRefIdeal)
    ∧ preserves_DwD_DwDIdeal
    ∧ algebraic_DwDIdeal_DwDRefIdeal (hDwDIdeal := hDwDIdeal) (hDwDRefIdeal := hDwDRefIdeal)
    ∧ preserves_DwSq_DwSqIdeal
    ∧ algebraic_DwSqIdeal_DwSqRefIdeal (hDwSqIdeal := hDwSqIdeal) (hDwSqRefIdeal := hDwSqRefIdeal)
    ∧ preserves_ProjIn_ProjInIdeal
    ∧ algebraic_ProjInIdeal_ProjInRefIdeal (hProjInIdeal := hProjInIdeal) (hProjInRefIdeal := hProjInRefIdeal)
    ∧ preserves_DwIn_DwInIdeal
    ∧ algebraic_DwInIdeal_DwInRefIdeal (hDwInIdeal := hDwInIdeal) (hDwInRefIdeal := hDwInRefIdeal)
    ∧ preserves_DwGate_DwGateIdeal
    ∧ algebraic_DwGateIdeal_DwGateRefIdeal (hDwGateIdeal := hDwGateIdeal) (hDwGateRefIdeal := hDwGateRefIdeal)
-- ==== Kernel.lean ====
abbrev S16384x1024 : Shape := ⟨2, ![16384, 1024]⟩
abbrev S16384x8320 : Shape := ⟨2, ![16384, 8320]⟩
abbrev S2x4x128x256 : Shape := ⟨4, ![2, 4, 128, 256]⟩
abbrev S2x16384x1024 : Shape := ⟨3, ![2, 16384, 1024]⟩
abbrev S2x128x4x128x256 : Shape := ⟨5, ![2, 128, 4, 128, 256]⟩
abbrev S256x1024 : Shape := ⟨2, ![256, 1024]⟩
abbrev S1x4x128x256 : Shape := ⟨4, ![1, 4, 128, 256]⟩
abbrev S1x256x1024 : Shape := ⟨3, ![1, 256, 1024]⟩
abbrev S1x2x4x128x256 : Shape := ⟨5, ![1, 2, 4, 128, 256]⟩
abbrev S4x128x256 : Shape := ⟨3, ![4, 128, 256]⟩
abbrev S1x1x4x128x256 : Shape := ⟨5, ![1, 1, 4, 128, 256]⟩
abbrev S128x128 : Shape := ⟨2, ![128, 128]⟩
abbrev S128x256 : Shape := ⟨2, ![128, 256]⟩
abbrev S1x128x256 : Shape := ⟨3, ![1, 128, 256]⟩
abbrev S128x1 : Shape := ⟨2, ![128, 1]⟩
abbrev S1x1x1x128x256 : Shape := ⟨5, ![1, 1, 1, 128, 256]⟩
abbrev S1x128x128 : Shape := ⟨3, ![1, 128, 128]⟩

abbrev nBuf : Space → Nat
  | .hbm => 11
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x8320, .f32⟩
  | .hbm, ⟨2, _⟩ => ⟨S2x4x128x256, .f32⟩
  | .hbm, ⟨3, _⟩ => ⟨S16384x1024, .f32⟩
  | .hbm, ⟨4, _⟩ => ⟨S2x4x128x256, .f32⟩
  | .hbm, ⟨5, _⟩ => ⟨S2x16384x1024, .f32⟩
  | .hbm, ⟨6, _⟩ => ⟨S2x128x4x128x256, .bf16⟩
  | .hbm, ⟨7, _⟩ => ⟨S2x4x128x256, .f32⟩
  | .hbm, ⟨8, _⟩ => ⟨S2x16384x1024, .f32⟩
  | .hbm, ⟨9, _⟩ => ⟨S2x16384x1024, .f32⟩
  | .hbm, ⟨10, _⟩ => ⟨S2x4x128x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x4x128x256, .f32⟩
  | .local _ .vmem, ⟨5, _⟩ => ⟨S1x4x128x256, .f32⟩
  | .local _ .vmem, ⟨6, _⟩ => ⟨S1x256x1024, .f32⟩
  | .local _ .vmem, ⟨7, _⟩ => ⟨S1x256x1024, .f32⟩
  | .local _ .vmem, ⟨8, _⟩ => ⟨S1x2x4x128x256, .bf16⟩
  | .local _ .vmem, ⟨9, _⟩ => ⟨S1x2x4x128x256, .bf16⟩
  | .local _ .vmem, ⟨10, _⟩ => ⟨S1x4x128x256, .f32⟩
  | .local _ .vmem, ⟨11, _⟩ => ⟨S1x4x128x256, .f32⟩
  | .local _ .vmem, ⟨12, _⟩ => ⟨S4x128x256, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x2x4x128x256, .bf16⟩
  | .local _ .vmem, ⟨18, _⟩ => ⟨S1x2x4x128x256, .bf16⟩
  | .local _ .vmem, ⟨19, _⟩ => ⟨S256x1024, .f32⟩
  | .local _ .vmem, ⟨20, _⟩ => ⟨S256x1024, .f32⟩
  | .local _ .vmem, ⟨21, _⟩ => ⟨S1x4x128x256, .f32⟩
  | .local _ .vmem, ⟨22, _⟩ => ⟨S1x4x128x256, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x4x128x256, .f32⟩
  | .local _ .vmem, ⟨28, _⟩ => ⟨S1x4x128x256, .f32⟩
  | .local _ .vmem, ⟨29, _⟩ => ⟨S4x128x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg0 : BitVec 32 := BitVec.ofNat 32 (i 0).val
  let c0_i32_1 : BitVec 32 := 0#32
  let v4 : BitVec 1 := Scalar.cmpi .eq arg0 c0_i32_1
  let c0_i32_2 : BitVec 32 := 0#32
  let c1_i32_3 : BitVec 32 := 1#32
  let v5 : BitVec 32 := Scalar.select v4 c0_i32_2 c1_i32_3
  let c128_i32 : BitVec 32 := 128#32
  let v6 : BitVec 32 := Scalar.muli v5 c128_i32
  v6
def k0_off1 (i : grid0.Coords) (c0_i32_2 : BitVec 32) (c1_i32_3 : BitVec 32) : Fin 5 → Nat :=
  let c0_6 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let v10 : Index := Scalar.indexCast v5
  let c0_7 : Index := 0#32
  let c0_8 : Index := 0#32
  let c0_9 : Index := 0#32
  ![0, v10.toNat, 0, 0, 0]
def k0_off1_at (r : Fin 2) : BitVec 32 × BitVec 32 :=
  if r.val < 1 then
    (0#32, 1#32)
  else
    (1#32, 0#32)
def k0_off2 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v14 : Index := Scalar.indexCast v7
  let c0_10 : Index := 0#32
  ![v14.toNat, 0]
def k0_off2_at (r : Fin 2) : BitVec 32 × BitVec 32 :=
  if r.val < 1 then
    (0#32, 1#32)
  else
    (1#32, 0#32)
def k0_off3 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v16 : Index := Scalar.indexCast v7
  let c512 : Index := 512#32
  ![v16.toNat, 512]
def k0_off3_at (r : Fin 2) : BitVec 32 × BitVec 32 :=
  if r.val < 1 then
    (0#32, 1#32)
  else
    (1#32, 0#32)
def k0_off4 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v18 : Index := Scalar.indexCast v7
  let c0_11 : Index := 0#32
  ![v18.toNat, 0]
def k0_off4_at (r : Fin 2) : BitVec 32 × BitVec 32 :=
  if r.val < 1 then
    (0#32, 1#32)
  else
    (1#32, 0#32)
def k0_off5 (i : grid0.Coords) (c0_i32_2 : BitVec 32) (c1_i32_3 : BitVec 32) : Fin 3 → Nat :=
  let c0_29 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v75 : Index := Scalar.indexCast v7
  let c0_30 : Index := 0#32
  ![0, v75.toNat, 0]
def k0_off5_at (r : Fin 2) : BitVec 32 × BitVec 32 :=
  if r.val < 1 then
    (0#32, 1#32)
  else
    (1#32, 0#32)
def k0_off6 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v82 : Index := Scalar.indexCast v7
  let c128 : Index := 128#32
  ![v82.toNat, 128]
def k0_off6_at (r : Fin 2) : BitVec 32 × BitVec 32 :=
  if r.val < 1 then
    (0#32, 1#32)
  else
    (1#32, 0#32)
def k0_off7 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v84 : Index := Scalar.indexCast v7
  let c640 : Index := 640#32
  ![v84.toNat, 640]
def k0_off7_at (r : Fin 2) : BitVec 32 × BitVec 32 :=
  if r.val < 1 then
    (0#32, 1#32)
  else
    (1#32, 0#32)
def k0_off8 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v86 : Index := Scalar.indexCast v7
  let c256 : Index := 256#32
  ![v86.toNat, 256]
def k0_off8_at (r : Fin 2) : BitVec 32 × BitVec 32 :=
  if r.val < 1 then
    (0#32, 1#32)
  else
    (1#32, 0#32)
def k0_off9 (i : grid0.Coords) (c0_i32_2 : BitVec 32) (c1_i32_3 : BitVec 32) : Fin 3 → Nat :=
  let c0_51 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v143 : Index := Scalar.indexCast v7
  let c256_52 : Index := 256#32
  ![0, v143.toNat, 256]
def k0_off9_at (r : Fin 2) : BitVec 32 × BitVec 32 :=
  if r.val < 1 then
    (0#32, 1#32)
  else
    (1#32, 0#32)
def k0_off10 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v150 : Index := Scalar.indexCast v7
  let c256_56 : Index := 256#32
  ![v150.toNat, 256]
def k0_off10_at (r : Fin 2) : BitVec 32 × BitVec 32 :=
  if r.val < 1 then
    (0#32, 1#32)
  else
    (1#32, 0#32)
def k0_off11 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v152 : Index := Scalar.indexCast v7
  let c768 : Index := 768#32
  ![v152.toNat, 768]
def k0_off11_at (r : Fin 2) : BitVec 32 × BitVec 32 :=
  if r.val < 1 then
    (0#32, 1#32)
  else
    (1#32, 0#32)
def k0_off12 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v154 : Index := Scalar.indexCast v7
  let c512_57 : Index := 512#32
  ![v154.toNat, 512]
def k0_off12_at (r : Fin 2) : BitVec 32 × BitVec 32 :=
  if r.val < 1 then
    (0#32, 1#32)
  else
    (1#32, 0#32)
def k0_off13 (i : grid0.Coords) (c0_i32_2 : BitVec 32) (c1_i32_3 : BitVec 32) : Fin 3 → Nat :=
  let c0_75 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v211 : Index := Scalar.indexCast v7
  let c512_76 : Index := 512#32
  ![0, v211.toNat, 512]
def k0_off13_at (r : Fin 2) : BitVec 32 × BitVec 32 :=
  if r.val < 1 then
    (0#32, 1#32)
  else
    (1#32, 0#32)
def k0_off14 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v218 : Index := Scalar.indexCast v7
  let c384 : Index := 384#32
  ![v218.toNat, 384]
def k0_off14_at (r : Fin 2) : BitVec 32 × BitVec 32 :=
  if r.val < 1 then
    (0#32, 1#32)
  else
    (1#32, 0#32)
def k0_off15 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v220 : Index := Scalar.indexCast v7
  let c896 : Index := 896#32
  ![v220.toNat, 896]
def k0_off15_at (r : Fin 2) : BitVec 32 × BitVec 32 :=
  if r.val < 1 then
    (0#32, 1#32)
  else
    (1#32, 0#32)
def k0_off16 (i : grid0.Coords) (c0_i32_2 : BitVec 32) (c1_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v222 : Index := Scalar.indexCast v7
  let c768_80 : Index := 768#32
  ![v222.toNat, 768]
def k0_off16_at (r : Fin 2) : BitVec 32 × BitVec 32 :=
  if r.val < 1 then
    (0#32, 1#32)
  else
    (1#32, 0#32)
def k0_off17 (i : grid0.Coords) (c0_i32_2 : BitVec 32) (c1_i32_3 : BitVec 32) : Fin 3 → Nat :=
  let c0_98 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c0_i32_2 c1_i32_3
  let c128_i32 : BitVec 32 := 128#32
  let v6 : BitVec 32 := Scalar.muli v5 c128_i32
  let v7 : BitVec 32 := v6
  let v279 : Index := Scalar.indexCast v7
  let c768_99 : Index := 768#32
  ![0, v279.toNat, 768]
def k0_off17_at (r : Fin 2) : BitVec 32 × BitVec 32 :=
  if r.val < 1 then
    (0#32, 1#32)
  else
    (1#32, 0#32)
def k0_mult2 (i : grid0.Coords) : BitVec 32 :=
  let arg0 : BitVec 32 := BitVec.ofNat 32 (i 0).val
  let c0_i32_103 : BitVec 32 := 0#32
  let v286 : BitVec 1 := Scalar.cmpi .eq arg0 c0_i32_103
  let c1_i32_104 : BitVec 32 := 1#32
  let c0_i32_105 : BitVec 32 := 0#32
  let v287 : BitVec 32 := Scalar.select v286 c1_i32_104 c0_i32_105
  let c128_i32_106 : BitVec 32 := 128#32
  let v288 : BitVec 32 := Scalar.muli v287 c128_i32_106
  v288
def k0_cond2 (i : grid0.Coords) : BitVec 1 :=
  let arg1 : BitVec 32 := BitVec.ofNat 32 (i 1).val
  let c63_i32 : BitVec 32 := 63#32
  let v568 : BitVec 1 := Scalar.cmpi .eq arg1 c63_i32
  let v569 : BitVec 32 := Scalar.extui v568
  let c0_i32_218 : BitVec 32 := 0#32
  let v570 : BitVec 1 := Scalar.cmpi .ne v569 c0_i32_218
  v570

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 arg1 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 arg1 v1
  let c1_i32 : BitVec 32 := 1#32
  let c0_i32_0 : BitVec 32 := 0#32
  ![v2.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 arg1 v1
  let c0_i32_0 : BitVec 32 := 0#32
  let c0_i32_1 : BitVec 32 := 0#32
  ![arg0.toNat, v2.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 arg1 v1
  let c0_i32_0 : BitVec 32 := 0#32
  let c0_i32_1 : BitVec 32 := 0#32
  let c0_i32_2 : BitVec 32 := 0#32
  let c0_i32_3 : BitVec 32 := 0#32
  ![arg0.toNat, v2.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 64], ![false, false]⟩

def k1_mult1 (i : grid1.Coords) : BitVec 32 :=
  let arg0 : BitVec 32 := BitVec.ofNat 32 (i 0).val
  let c0_i32_1 : BitVec 32 := 0#32
  let v4 : BitVec 1 := Scalar.cmpi .eq arg0 c0_i32_1
  let c1_i32_2 : BitVec 32 := 1#32
  let c0_i32_3 : BitVec 32 := 0#32
  let v5 : BitVec 32 := Scalar.select v4 c1_i32_2 c0_i32_3
  let c128_i32 : BitVec 32 := 128#32
  let v6 : BitVec 32 := Scalar.muli v5 c128_i32
  v6
def k1_off1 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v8 : Index := Scalar.indexCast v7
  let c0 : Index := 0#32
  ![v8.toNat, 0]
def k1_off1_at (r : Fin 2) : BitVec 32 × BitVec 32 :=
  if r.val < 1 then
    (1#32, 0#32)
  else
    (0#32, 1#32)
def k1_off2 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v10 : Index := Scalar.indexCast v7
  let c512 : Index := 512#32
  ![v10.toNat, 512]
def k1_off2_at (r : Fin 2) : BitVec 32 × BitVec 32 :=
  if r.val < 1 then
    (1#32, 0#32)
  else
    (0#32, 1#32)
def k1_off3 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v12 : Index := Scalar.indexCast v7
  let c0_4 : Index := 0#32
  ![v12.toNat, 0]
def k1_off3_at (r : Fin 2) : BitVec 32 × BitVec 32 :=
  if r.val < 1 then
    (1#32, 0#32)
  else
    (0#32, 1#32)
def k1_off4 (i : grid1.Coords) (c1_i32_2 : BitVec 32) (c0_i32_3 : BitVec 32) : Fin 5 → Nat :=
  let c0_5 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let v14 : Index := Scalar.indexCast v5
  let c0_6 : Index := 0#32
  let c0_7 : Index := 0#32
  let c0_8 : Index := 0#32
  ![0, v14.toNat, 0, 0, 0]
def k1_off4_at (r : Fin 2) : BitVec 32 × BitVec 32 :=
  if r.val < 1 then
    (1#32, 0#32)
  else
    (0#32, 1#32)
def k1_off5 (i : grid1.Coords) (c1_i32_2 : BitVec 32) (c0_i32_3 : BitVec 32) : Fin 3 → Nat :=
  let c0_32 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v101 : Index := Scalar.indexCast v7
  let c0_33 : Index := 0#32
  ![0, v101.toNat, 0]
def k1_off5_at (r : Fin 2) : BitVec 32 × BitVec 32 :=
  if r.val < 1 then
    (1#32, 0#32)
  else
    (0#32, 1#32)
def k1_off6 (i : grid1.Coords) (c1_i32_2 : BitVec 32) (c0_i32_3 : BitVec 32) : Fin 3 → Nat :=
  let c0_34 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v105 : Index := Scalar.indexCast v7
  let c512_35 : Index := 512#32
  ![0, v105.toNat, 512]
def k1_off6_at (r : Fin 2) : BitVec 32 × BitVec 32 :=
  if r.val < 1 then
    (1#32, 0#32)
  else
    (0#32, 1#32)
def k1_off7 (i : grid1.Coords) (c1_i32_2 : BitVec 32) (c0_i32_3 : BitVec 32) : Fin 3 → Nat :=
  let c0_36 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v109 : Index := Scalar.indexCast v7
  let c0_37 : Index := 0#32
  ![0, v109.toNat, 0]
def k1_off7_at (r : Fin 2) : BitVec 32 × BitVec 32 :=
  if r.val < 1 then
    (1#32, 0#32)
  else
    (0#32, 1#32)
def k1_off8 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v116 : Index := Scalar.indexCast v7
  let c128 : Index := 128#32
  ![v116.toNat, 128]
def k1_off8_at (r : Fin 2) : BitVec 32 × BitVec 32 :=
  if r.val < 1 then
    (1#32, 0#32)
  else
    (0#32, 1#32)
def k1_off9 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v118 : Index := Scalar.indexCast v7
  let c640 : Index := 640#32
  ![v118.toNat, 640]
def k1_off9_at (r : Fin 2) : BitVec 32 × BitVec 32 :=
  if r.val < 1 then
    (1#32, 0#32)
  else
    (0#32, 1#32)
def k1_off10 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v120 : Index := Scalar.indexCast v7
  let c256 : Index := 256#32
  ![v120.toNat, 256]
def k1_off10_at (r : Fin 2) : BitVec 32 × BitVec 32 :=
  if r.val < 1 then
    (1#32, 0#32)
  else
    (0#32, 1#32)
def k1_off11 (i : grid1.Coords) (c1_i32_2 : BitVec 32) (c0_i32_3 : BitVec 32) : Fin 5 → Nat :=
  let c0_41 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let v122 : Index := Scalar.indexCast v5
  let c1 : Index := 1#32
  let c0_42 : Index := 0#32
  let c0_43 : Index := 0#32
  ![0, v122.toNat, 1, 0, 0]
def k1_off11_at (r : Fin 2) : BitVec 32 × BitVec 32 :=
  if r.val < 1 then
    (1#32, 0#32)
  else
    (0#32, 1#32)
def k1_off12 (i : grid1.Coords) (c1_i32_2 : BitVec 32) (c0_i32_3 : BitVec 32) : Fin 3 → Nat :=
  let c0_68 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v209 : Index := Scalar.indexCast v7
  let c128_69 : Index := 128#32
  ![0, v209.toNat, 128]
def k1_off12_at (r : Fin 2) : BitVec 32 × BitVec 32 :=
  if r.val < 1 then
    (1#32, 0#32)
  else
    (0#32, 1#32)
def k1_off13 (i : grid1.Coords) (c1_i32_2 : BitVec 32) (c0_i32_3 : BitVec 32) : Fin 3 → Nat :=
  let c0_70 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v213 : Index := Scalar.indexCast v7
  let c640_71 : Index := 640#32
  ![0, v213.toNat, 640]
def k1_off13_at (r : Fin 2) : BitVec 32 × BitVec 32 :=
  if r.val < 1 then
    (1#32, 0#32)
  else
    (0#32, 1#32)
def k1_off14 (i : grid1.Coords) (c1_i32_2 : BitVec 32) (c0_i32_3 : BitVec 32) : Fin 3 → Nat :=
  let c0_72 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v217 : Index := Scalar.indexCast v7
  let c256_73 : Index := 256#32
  ![0, v217.toNat, 256]
def k1_off14_at (r : Fin 2) : BitVec 32 × BitVec 32 :=
  if r.val < 1 then
    (1#32, 0#32)
  else
    (0#32, 1#32)
def k1_off15 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v224 : Index := Scalar.indexCast v7
  let c256_77 : Index := 256#32
  ![v224.toNat, 256]
def k1_off15_at (r : Fin 2) : BitVec 32 × BitVec 32 :=
  if r.val < 1 then
    (1#32, 0#32)
  else
    (0#32, 1#32)
def k1_off16 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v226 : Index := Scalar.indexCast v7
  let c768 : Index := 768#32
  ![v226.toNat, 768]
def k1_off16_at (r : Fin 2) : BitVec 32 × BitVec 32 :=
  if r.val < 1 then
    (1#32, 0#32)
  else
    (0#32, 1#32)
def k1_off17 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v228 : Index := Scalar.indexCast v7
  let c512_78 : Index := 512#32
  ![v228.toNat, 512]
def k1_off17_at (r : Fin 2) : BitVec 32 × BitVec 32 :=
  if r.val < 1 then
    (1#32, 0#32)
  else
    (0#32, 1#32)
def k1_off18 (i : grid1.Coords) (c1_i32_2 : BitVec 32) (c0_i32_3 : BitVec 32) : Fin 5 → Nat :=
  let c0_79 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let v230 : Index := Scalar.indexCast v5
  let c2 : Index := 2#32
  let c0_80 : Index := 0#32
  let c0_81 : Index := 0#32
  ![0, v230.toNat, 2, 0, 0]
def k1_off18_at (r : Fin 2) : BitVec 32 × BitVec 32 :=
  if r.val < 1 then
    (1#32, 0#32)
  else
    (0#32, 1#32)
def k1_off19 (i : grid1.Coords) (c1_i32_2 : BitVec 32) (c0_i32_3 : BitVec 32) : Fin 3 → Nat :=
  let c0_106 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v317 : Index := Scalar.indexCast v7
  let c256_107 : Index := 256#32
  ![0, v317.toNat, 256]
def k1_off19_at (r : Fin 2) : BitVec 32 × BitVec 32 :=
  if r.val < 1 then
    (1#32, 0#32)
  else
    (0#32, 1#32)
def k1_off20 (i : grid1.Coords) (c1_i32_2 : BitVec 32) (c0_i32_3 : BitVec 32) : Fin 3 → Nat :=
  let c0_108 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v321 : Index := Scalar.indexCast v7
  let c768_109 : Index := 768#32
  ![0, v321.toNat, 768]
def k1_off20_at (r : Fin 2) : BitVec 32 × BitVec 32 :=
  if r.val < 1 then
    (1#32, 0#32)
  else
    (0#32, 1#32)
def k1_off21 (i : grid1.Coords) (c1_i32_2 : BitVec 32) (c0_i32_3 : BitVec 32) : Fin 3 → Nat :=
  let c0_110 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v325 : Index := Scalar.indexCast v7
  let c512_111 : Index := 512#32
  ![0, v325.toNat, 512]
def k1_off21_at (r : Fin 2) : BitVec 32 × BitVec 32 :=
  if r.val < 1 then
    (1#32, 0#32)
  else
    (0#32, 1#32)
def k1_off22 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v332 : Index := Scalar.indexCast v7
  let c384 : Index := 384#32
  ![v332.toNat, 384]
def k1_off22_at (r : Fin 2) : BitVec 32 × BitVec 32 :=
  if r.val < 1 then
    (1#32, 0#32)
  else
    (0#32, 1#32)
def k1_off23 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v334 : Index := Scalar.indexCast v7
  let c896 : Index := 896#32
  ![v334.toNat, 896]
def k1_off23_at (r : Fin 2) : BitVec 32 × BitVec 32 :=
  if r.val < 1 then
    (1#32, 0#32)
  else
    (0#32, 1#32)
def k1_off24 (i : grid1.Coords) (c1_i32_2 : BitVec 32) (c0_i32_3 : BitVec 32) : Fin 2 → Nat :=
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v336 : Index := Scalar.indexCast v7
  let c768_115 : Index := 768#32
  ![v336.toNat, 768]
def k1_off24_at (r : Fin 2) : BitVec 32 × BitVec 32 :=
  if r.val < 1 then
    (1#32, 0#32)
  else
    (0#32, 1#32)
def k1_off25 (i : grid1.Coords) (c1_i32_2 : BitVec 32) (c0_i32_3 : BitVec 32) : Fin 5 → Nat :=
  let c0_116 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let v338 : Index := Scalar.indexCast v5
  let c3 : Index := 3#32
  let c0_117 : Index := 0#32
  let c0_118 : Index := 0#32
  ![0, v338.toNat, 3, 0, 0]
def k1_off25_at (r : Fin 2) : BitVec 32 × BitVec 32 :=
  if r.val < 1 then
    (1#32, 0#32)
  else
    (0#32, 1#32)
def k1_off26 (i : grid1.Coords) (c1_i32_2 : BitVec 32) (c0_i32_3 : BitVec 32) : Fin 3 → Nat :=
  let c0_143 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v425 : Index := Scalar.indexCast v7
  let c384_144 : Index := 384#32
  ![0, v425.toNat, 384]
def k1_off26_at (r : Fin 2) : BitVec 32 × BitVec 32 :=
  if r.val < 1 then
    (1#32, 0#32)
  else
    (0#32, 1#32)
def k1_off27 (i : grid1.Coords) (c1_i32_2 : BitVec 32) (c0_i32_3 : BitVec 32) : Fin 3 → Nat :=
  let c0_145 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v429 : Index := Scalar.indexCast v7
  let c896_146 : Index := 896#32
  ![0, v429.toNat, 896]
def k1_off27_at (r : Fin 2) : BitVec 32 × BitVec 32 :=
  if r.val < 1 then
    (1#32, 0#32)
  else
    (0#32, 1#32)
def k1_off28 (i : grid1.Coords) (c1_i32_2 : BitVec 32) (c0_i32_3 : BitVec 32) : Fin 3 → Nat :=
  let c0_147 : Index := 0#32
  let arg0 : BitVec 32 := BitVec.ofNat 32 (i 0).val
  let c0_i32_1 : BitVec 32 := 0#32
  let v4 : BitVec 1 := Scalar.cmpi .eq arg0 c0_i32_1
  let v5 : BitVec 32 := Scalar.select v4 c1_i32_2 c0_i32_3
  let c128_i32 : BitVec 32 := 128#32
  let v6 : BitVec 32 := Scalar.muli v5 c128_i32
  let v7 : BitVec 32 := v6
  let v433 : Index := Scalar.indexCast v7
  let c768_148 : Index := 768#32
  ![0, v433.toNat, 768]
def k1_off28_at (r : Fin 2) : BitVec 32 × BitVec 32 :=
  if r.val < 1 then
    (1#32, 0#32)
  else
    (0#32, 1#32)
def k1_mult2 (i : grid1.Coords) : BitVec 32 :=
  let arg0 : BitVec 32 := BitVec.ofNat 32 (i 0).val
  let c0_i32_152 : BitVec 32 := 0#32
  let v440 : BitVec 1 := Scalar.cmpi .eq arg0 c0_i32_152
  let c0_i32_153 : BitVec 32 := 0#32
  let c1_i32_154 : BitVec 32 := 1#32
  let v441 : BitVec 32 := Scalar.select v440 c0_i32_153 c1_i32_154
  let c128_i32_155 : BitVec 32 := 128#32
  let v442 : BitVec 32 := Scalar.muli v441 c128_i32_155
  v442
def k1_cond2 (i : grid1.Coords) : BitVec 1 :=
  let arg1 : BitVec 32 := BitVec.ofNat 32 (i 1).val
  let c63_i32 : BitVec 32 := 63#32
  let v876 : BitVec 1 := Scalar.cmpi .eq arg1 c63_i32
  let v877 : BitVec 32 := Scalar.extui v876
  let c0_i32_316 : BitVec 32 := 0#32
  let v878 : BitVec 1 := Scalar.cmpi .ne v877 c0_i32_316
  v878

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 v1 arg1
  let c0_i32_0 : BitVec 32 := 0#32
  let c0_i32_1 : BitVec 32 := 0#32
  ![v2.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 v1 arg1
  let c1_i32 : BitVec 32 := 1#32
  let c0_i32_0 : BitVec 32 := 0#32
  ![v2.toNat, c1_i32.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 v1 arg1
  let c0_i32_0 : BitVec 32 := 0#32
  let c0_i32_1 : BitVec 32 := 0#32
  let c0_i32_2 : BitVec 32 := 0#32
  let c0_i32_3 : BitVec 32 := 0#32
  ![arg0.toNat, v2.toNat, c0_i32_0.toNat, c0_i32_1.toNat, c0_i32_2.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 v1 arg1
  let c0_i32_0 : BitVec 32 := 0#32
  let c0_i32_1 : BitVec 32 := 0#32
  ![v2.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 v1 arg1
  let c0_i32_0 : BitVec 32 := 0#32
  let c0_i32_1 : BitVec 32 := 0#32
  ![arg0.toNat, v2.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.subi c63_i32 arg1
  let v2 : BitVec 32 := Scalar.select v0 v1 arg1
  let c0_i32_0 : BitVec 32 := 0#32
  let c0_i32_1 : BitVec 32 := 0#32
  ![arg0.toNat, v2.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x4x128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4x128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== KernelIdeal.lean ====
variable {F : FTy → Type} [FloatOps F] [Named F]
def κ : String → Option EReal := fun
  | "gam0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gam1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gam2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gam3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceIdeal.lean ====
abbrev S16384x1024 : Shape := ⟨2, ![16384, 1024]⟩
abbrev S16384x8320 : Shape := ⟨2, ![16384, 8320]⟩
abbrev S2x4x128x256 : Shape := ⟨4, ![2, 4, 128, 256]⟩
abbrev S4 : Shape := ⟨1, ![4]⟩
abbrev S_ : Shape := ⟨0, ![]⟩
abbrev S16384x512 : Shape := ⟨2, ![16384, 512]⟩
abbrev S16384x4x128 : Shape := ⟨3, ![16384, 4, 128]⟩
abbrev S4x16384x128 : Shape := ⟨3, ![4, 16384, 128]⟩
abbrev S16384x4x256 : Shape := ⟨3, ![16384, 4, 256]⟩
abbrev S4x16384x256 : Shape := ⟨3, ![4, 16384, 256]⟩
abbrev S1x4x128x256 : Shape := ⟨4, ![1, 4, 128, 256]⟩
abbrev S4x128x256 : Shape := ⟨3, ![4, 128, 256]⟩
abbrev S4x128x128x128 : Shape := ⟨4, ![4, 128, 128, 128]⟩
abbrev S4x128x128x256 : Shape := ⟨4, ![4, 128, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1x128x128 : Shape := ⟨4, ![4, 1, 128, 128]⟩
abbrev S4x1 : Shape := ⟨2, ![4, 1]⟩
abbrev S4x128 : Shape := ⟨2, ![4, 128]⟩
abbrev S4x1x128x1 : Shape := ⟨4, ![4, 1, 128, 1]⟩
abbrev S4x128x1x1 : Shape := ⟨4, ![4, 128, 1, 1]⟩
abbrev S4x1x128x256 : Shape := ⟨4, ![4, 1, 128, 256]⟩
abbrev S4x128x256x128 : Shape := ⟨4, ![4, 128, 256, 128]⟩
abbrev S1x16384x1024 : Shape := ⟨3, ![1, 16384, 1024]⟩
abbrev S2x16384x1024 : Shape := ⟨3, ![2, 16384, 1024]⟩

abbrev nBuf : Space → Nat
  | .hbm => 424
  | .vmem => 0
  | .smem => 0
  | _ => 0

abbrev hbmTy0_0 (i : Nat) : BufTy := match i % 128 with
  | 0 => ⟨S16384x1024, .f32⟩
  | 1 => ⟨S16384x8320, .f32⟩
  | 2 => ⟨S2x4x128x256, .f32⟩
  | 3 => ⟨S16384x1024, .f32⟩
  | 4 => ⟨S2x4x128x256, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S4, .f32⟩
  | 13 => ⟨S4, .f32⟩
  | 14 => ⟨S16384x512, .f32⟩
  | 15 => ⟨S16384x4x128, .f32⟩
  | 16 => ⟨S4x16384x128, .f32⟩
  | 17 => ⟨S16384x512, .f32⟩
  | 18 => ⟨S16384x4x128, .f32⟩
  | 19 => ⟨S4x16384x128, .f32⟩
  | 20 => ⟨S16384x1024, .f32⟩
  | 21 => ⟨S16384x4x256, .f32⟩
  | 22 => ⟨S4x16384x256, .f32⟩
  | 23 => ⟨S16384x4x256, .f32⟩
  | 24 => ⟨S4x16384x256, .f32⟩
  | 25 => ⟨S1x4x128x256, .f32⟩
  | 26 => ⟨S4x128x256, .f32⟩
  | 27 => ⟨S4x128x128x128, .f32⟩
  | 28 => ⟨S4x128x128x128, .f32⟩
  | 29 => ⟨S4x128x128x256, .f32⟩
  | 30 => ⟨S128, .f32⟩
  | 31 => ⟨S128x1, .f32⟩
  | 32 => ⟨S1x128, .f32⟩
  | 33 => ⟨S128x128, .f32⟩
  | 34 => ⟨S128x128, .f32⟩
  | 35 => ⟨S128x128, .f32⟩
  | 36 => ⟨S_, .f32⟩
  | 37 => ⟨S128x128, .f32⟩
  | 38 => ⟨S128x128, .i1⟩
  | 39 => ⟨S4x1x1, .f32⟩
  | 40 => ⟨S_, .f32⟩
  | 41 => ⟨S_, .f32⟩
  | 42 => ⟨S128x128, .f32⟩
  | 43 => ⟨S128x128, .f32⟩
  | 44 => ⟨S1x128x128, .f32⟩
  | 45 => ⟨S4x128x128, .f32⟩
  | 46 => ⟨S4x128x128, .f32⟩
  | 47 => ⟨S4x128x128, .f32⟩
  | 48 => ⟨S4x128x128, .f32⟩
  | 49 => ⟨S_, .f32⟩
  | 50 => ⟨S_, .f32⟩
  | 51 => ⟨S4x128x128, .i1⟩
  | 52 => ⟨S4x128x128, .f32⟩
  | 53 => ⟨S4x128x128, .f32⟩
  | 54 => ⟨S4x128x128x128, .f32⟩
  | 55 => ⟨S4x1x128x128, .f32⟩
  | 56 => ⟨S4x128x128x128, .f32⟩
  | 57 => ⟨S4x128x128x128, .f32⟩
  | 58 => ⟨S4x128x128x256, .f32⟩
  | 59 => ⟨S4x1, .f32⟩
  | 60 => ⟨S_, .f32⟩
  | 61 => ⟨S128, .f32⟩
  | 62 => ⟨S128, .f32⟩
  | 63 => ⟨S1x128, .f32⟩
  | 64 => ⟨S4x128, .f32⟩
  | 65 => ⟨S4x128, .f32⟩
  | 66 => ⟨S4x128, .f32⟩
  | 67 => ⟨S4x128, .f32⟩
  | 68 => ⟨S4x1x128x1, .f32⟩
  | 69 => ⟨S4x128x128x128, .f32⟩
  | 70 => ⟨S4x128x128x128, .f32⟩
  | 71 => ⟨S4x128x128x256, .f32⟩
  | 72 => ⟨S128, .f32⟩
  | 73 => ⟨S128x1, .f32⟩
  | 74 => ⟨S_, .f32⟩
  | 75 => ⟨S128x1, .f32⟩
  | 76 => ⟨S128x1, .f32⟩
  | 77 => ⟨S1x128, .f32⟩
  | 78 => ⟨S128x128, .f32⟩
  | 79 => ⟨S128x128, .f32⟩
  | 80 => ⟨S128x128, .f32⟩
  | 81 => ⟨S_, .f32⟩
  | 82 => ⟨S128x128, .f32⟩
  | 83 => ⟨S128x128, .i1⟩
  | 84 => ⟨S4x1x1, .f32⟩
  | 85 => ⟨S_, .f32⟩
  | 86 => ⟨S4x1x1, .f32⟩
  | 87 => ⟨S4x1x1, .f32⟩
  | 88 => ⟨S_, .f32⟩
  | 89 => ⟨S_, .f32⟩
  | 90 => ⟨S128x128, .f32⟩
  | 91 => ⟨S128x128, .f32⟩
  | 92 => ⟨S1x128x128, .f32⟩
  | 93 => ⟨S4x128x128, .f32⟩
  | 94 => ⟨S4x128x128, .f32⟩
  | 95 => ⟨S4x128x128, .f32⟩
  | 96 => ⟨S4x128x128, .f32⟩
  | 97 => ⟨S_, .f32⟩
  | 98 => ⟨S_, .f32⟩
  | 99 => ⟨S4x128x128, .i1⟩
  | 100 => ⟨S4x128x128, .f32⟩
  | 101 => ⟨S4x128x128, .f32⟩
  | 102 => ⟨S4x1, .f32⟩
  | 103 => ⟨S_, .f32⟩
  | 104 => ⟨S4x1, .f32⟩
  | 105 => ⟨S4x1, .f32⟩
  | 106 => ⟨S1x128, .f32⟩
  | 107 => ⟨S4x128, .f32⟩
  | 108 => ⟨S4x128, .f32⟩
  | 109 => ⟨S4x128, .f32⟩
  | 110 => ⟨S4x128, .f32⟩
  | 111 => ⟨S4x128x1x1, .f32⟩
  | 112 => ⟨S4x1x128x256, .f32⟩
  | 113 => ⟨S4x128x128x256, .f32⟩
  | 114 => ⟨S4x128x128x256, .f32⟩
  | 115 => ⟨S4x128x128x256, .f32⟩
  | 116 => ⟨S4x128x128x256, .f32⟩
  | 117 => ⟨S4x128x128x256, .f32⟩
  | 118 => ⟨S4x1, .f32⟩
  | 119 => ⟨S_, .f32⟩
  | 120 => ⟨S4x1, .f32⟩
  | 121 => ⟨S4x1, .f32⟩
  | 122 => ⟨S_, .f32⟩
  | 123 => ⟨S128, .f32⟩
  | 124 => ⟨S128, .f32⟩
  | 125 => ⟨S1x128, .f32⟩
  | 126 => ⟨S4x128, .f32⟩
  | 127 => ⟨S4x128, .f32⟩
  | _ => ⟨S16384x1024, .f32⟩

abbrev hbmTy0_1 (i : Nat) : BufTy := match i % 128 with
  | 0 => ⟨S4x128, .f32⟩
  | 1 => ⟨S4x128, .f32⟩
  | 2 => ⟨S_, .f32⟩
  | 3 => ⟨S4, .f32⟩
  | 4 => ⟨S4, .f32⟩
  | 5 => ⟨S_, .f32⟩
  | 6 => ⟨S4, .f32⟩
  | 7 => ⟨S4, .f32⟩
  | 8 => ⟨S4, .f32⟩
  | 9 => ⟨S4x1x1, .f32⟩
  | 10 => ⟨S4x128x256, .f32⟩
  | 11 => ⟨S4x128x256, .f32⟩
  | 12 => ⟨S4x128x1x1, .f32⟩
  | 13 => ⟨S4x128x128x256, .f32⟩
  | 14 => ⟨S4x128x128x256, .f32⟩
  | 15 => ⟨S_, .f32⟩
  | 16 => ⟨S4x128x256, .f32⟩
  | 17 => ⟨S4x128x256, .f32⟩
  | 18 => ⟨S4x1, .f32⟩
  | 19 => ⟨S_, .f32⟩
  | 20 => ⟨S128, .f32⟩
  | 21 => ⟨S128, .f32⟩
  | 22 => ⟨S1x128, .f32⟩
  | 23 => ⟨S4x128, .f32⟩
  | 24 => ⟨S4x128, .f32⟩
  | 25 => ⟨S4x128, .f32⟩
  | 26 => ⟨S4x128, .f32⟩
  | 27 => ⟨S4x1x128x1, .f32⟩
  | 28 => ⟨S4x128x128x128, .f32⟩
  | 29 => ⟨S4x128x128x128, .f32⟩
  | 30 => ⟨S4x128x128x256, .f32⟩
  | 31 => ⟨S4x128x128x256, .f32⟩
  | 32 => ⟨S4x16384x256, .f32⟩
  | 33 => ⟨S1x4x128x256, .f32⟩
  | 34 => ⟨S4x128x256, .f32⟩
  | 35 => ⟨S4x128x128x256, .f32⟩
  | 36 => ⟨S4x128x256x128, .f32⟩
  | 37 => ⟨S4x128x128x256, .f32⟩
  | 38 => ⟨S4x128x128x128, .f32⟩
  | 39 => ⟨S4x128x128x128, .f32⟩
  | 40 => ⟨S4x128x128x128, .f32⟩
  | 41 => ⟨S4x128x128x256, .f32⟩
  | 42 => ⟨S4x128x128x256, .f32⟩
  | 43 => ⟨S4x128x128x256, .f32⟩
  | 44 => ⟨S4x128x256, .f32⟩
  | 45 => ⟨S4x128x256, .f32⟩
  | 46 => ⟨S4x128x256x128, .f32⟩
  | 47 => ⟨S4x128x128x256, .f32⟩
  | 48 => ⟨S4x128x128x256, .f32⟩
  | 49 => ⟨S4x128x128x256, .f32⟩
  | 50 => ⟨S4x128x128x256, .f32⟩
  | 51 => ⟨S_, .f32⟩
  | 52 => ⟨S4x128x256, .f32⟩
  | 53 => ⟨S4x1x128x256, .f32⟩
  | 54 => ⟨S_, .f32⟩
  | 55 => ⟨S4x128x256, .f32⟩
  | 56 => ⟨S4x128x256, .f32⟩
  | 57 => ⟨S4x128x256x128, .f32⟩
  | 58 => ⟨S4x128x128x256, .f32⟩
  | 59 => ⟨S4x128x128x128, .f32⟩
  | 60 => ⟨S4x128x128x128, .f32⟩
  | 61 => ⟨S4x128x128x128, .f32⟩
  | 62 => ⟨S4x128x128x128, .f32⟩
  | 63 => ⟨S4x128x256x128, .f32⟩
  | 64 => ⟨S4x128x128x256, .f32⟩
  | 65 => ⟨S4x128x128x256, .f32⟩
  | 66 => ⟨S4x128x128x128, .f32⟩
  | 67 => ⟨S4x128x128x128, .f32⟩
  | 68 => ⟨S4x128x128x128, .f32⟩
  | 69 => ⟨S4x128x128x128, .f32⟩
  | 70 => ⟨S4x128x128x128, .f32⟩
  | 71 => ⟨S4x128x128x128, .f32⟩
  | 72 => ⟨S4x128x128x128, .f32⟩
  | 73 => ⟨S4x16384x256, .f32⟩
  | 74 => ⟨S4x16384x128, .f32⟩
  | 75 => ⟨S4x16384x128, .f32⟩
  | 76 => ⟨S16384x4x256, .f32⟩
  | 77 => ⟨S16384x1024, .f32⟩
  | 78 => ⟨S16384x4x128, .f32⟩
  | 79 => ⟨S16384x512, .f32⟩
  | 80 => ⟨S16384x4x128, .f32⟩
  | 81 => ⟨S16384x512, .f32⟩
  | 82 => ⟨S16384x1024, .f32⟩
  | 83 => ⟨S16384x4x256, .f32⟩
  | 84 => ⟨S16384x1024, .f32⟩
  | 85 => ⟨S1x4x128x256, .f32⟩
  | 86 => ⟨S4x128x256, .f32⟩
  | 87 => ⟨S4x16384x128, .f32⟩
  | 88 => ⟨S4x16384x128, .f32⟩
  | 89 => ⟨S4x16384x256, .f32⟩
  | 90 => ⟨S4x128x128x128, .f32⟩
  | 91 => ⟨S4x128x128x128, .f32⟩
  | 92 => ⟨S4x128x128x256, .f32⟩
  | 93 => ⟨S128, .f32⟩
  | 94 => ⟨S128x1, .f32⟩
  | 95 => ⟨S1x128, .f32⟩
  | 96 => ⟨S128x128, .f32⟩
  | 97 => ⟨S128x128, .f32⟩
  | 98 => ⟨S128x128, .f32⟩
  | 99 => ⟨S_, .f32⟩
  | 100 => ⟨S128x128, .f32⟩
  | 101 => ⟨S128x128, .i1⟩
  | 102 => ⟨S4x1x1, .f32⟩
  | 103 => ⟨S_, .f32⟩
  | 104 => ⟨S_, .f32⟩
  | 105 => ⟨S128x128, .f32⟩
  | 106 => ⟨S128x128, .f32⟩
  | 107 => ⟨S1x128x128, .f32⟩
  | 108 => ⟨S4x128x128, .f32⟩
  | 109 => ⟨S4x128x128, .f32⟩
  | 110 => ⟨S4x128x128, .f32⟩
  | 111 => ⟨S4x128x128, .f32⟩
  | 112 => ⟨S_, .f32⟩
  | 113 => ⟨S_, .f32⟩
  | 114 => ⟨S4x128x128, .i1⟩
  | 115 => ⟨S4x128x128, .f32⟩
  | 116 => ⟨S4x128x128, .f32⟩
  | 117 => ⟨S4x128x128x128, .f32⟩
  | 118 => ⟨S4x1x128x128, .f32⟩
  | 119 => ⟨S4x128x128x128, .f32⟩
  | 120 => ⟨S4x128x128x128, .f32⟩
  | 121 => ⟨S4x128x128x256, .f32⟩
  | 122 => ⟨S4x1, .f32⟩
  | 123 => ⟨S_, .f32⟩
  | 124 => ⟨S128, .f32⟩
  | 125 => ⟨S128, .f32⟩
  | 126 => ⟨S1x128, .f32⟩
  | 127 => ⟨S4x128, .f32⟩
  | _ => ⟨S16384x1024, .f32⟩

abbrev hbmTy0_2 (i : Nat) : BufTy := match i % 128 with
  | 0 => ⟨S4x128, .f32⟩
  | 1 => ⟨S4x128, .f32⟩
  | 2 => ⟨S4x128, .f32⟩
  | 3 => ⟨S4x1x128x1, .f32⟩
  | 4 => ⟨S4x128x128x128, .f32⟩
  | 5 => ⟨S4x128x128x128, .f32⟩
  | 6 => ⟨S4x128x128x256, .f32⟩
  | 7 => ⟨S128, .f32⟩
  | 8 => ⟨S128x1, .f32⟩
  | 9 => ⟨S_, .f32⟩
  | 10 => ⟨S128x1, .f32⟩
  | 11 => ⟨S128x1, .f32⟩
  | 12 => ⟨S1x128, .f32⟩
  | 13 => ⟨S128x128, .f32⟩
  | 14 => ⟨S128x128, .f32⟩
  | 15 => ⟨S128x128, .f32⟩
  | 16 => ⟨S_, .f32⟩
  | 17 => ⟨S128x128, .f32⟩
  | 18 => ⟨S128x128, .i1⟩
  | 19 => ⟨S4x1x1, .f32⟩
  | 20 => ⟨S_, .f32⟩
  | 21 => ⟨S4x1x1, .f32⟩
  | 22 => ⟨S4x1x1, .f32⟩
  | 23 => ⟨S_, .f32⟩
  | 24 => ⟨S_, .f32⟩
  | 25 => ⟨S128x128, .f32⟩
  | 26 => ⟨S128x128, .f32⟩
  | 27 => ⟨S1x128x128, .f32⟩
  | 28 => ⟨S4x128x128, .f32⟩
  | 29 => ⟨S4x128x128, .f32⟩
  | 30 => ⟨S4x128x128, .f32⟩
  | 31 => ⟨S4x128x128, .f32⟩
  | 32 => ⟨S_, .f32⟩
  | 33 => ⟨S_, .f32⟩
  | 34 => ⟨S4x128x128, .i1⟩
  | 35 => ⟨S4x128x128, .f32⟩
  | 36 => ⟨S4x128x128, .f32⟩
  | 37 => ⟨S4x1, .f32⟩
  | 38 => ⟨S_, .f32⟩
  | 39 => ⟨S4x1, .f32⟩
  | 40 => ⟨S4x1, .f32⟩
  | 41 => ⟨S1x128, .f32⟩
  | 42 => ⟨S4x128, .f32⟩
  | 43 => ⟨S4x128, .f32⟩
  | 44 => ⟨S4x128, .f32⟩
  | 45 => ⟨S4x128, .f32⟩
  | 46 => ⟨S4x128x1x1, .f32⟩
  | 47 => ⟨S4x1x128x256, .f32⟩
  | 48 => ⟨S4x128x128x256, .f32⟩
  | 49 => ⟨S4x128x128x256, .f32⟩
  | 50 => ⟨S4x128x128x256, .f32⟩
  | 51 => ⟨S4x128x128x256, .f32⟩
  | 52 => ⟨S4x128x128x256, .f32⟩
  | 53 => ⟨S4x1, .f32⟩
  | 54 => ⟨S_, .f32⟩
  | 55 => ⟨S4x1, .f32⟩
  | 56 => ⟨S4x1, .f32⟩
  | 57 => ⟨S_, .f32⟩
  | 58 => ⟨S128, .f32⟩
  | 59 => ⟨S128, .f32⟩
  | 60 => ⟨S1x128, .f32⟩
  | 61 => ⟨S4x128, .f32⟩
  | 62 => ⟨S4x128, .f32⟩
  | 63 => ⟨S4x128, .f32⟩
  | 64 => ⟨S4x128, .f32⟩
  | 65 => ⟨S_, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S4x1x1, .f32⟩
  | 73 => ⟨S4x128x256, .f32⟩
  | 74 => ⟨S4x128x256, .f32⟩
  | 75 => ⟨S4x128x1x1, .f32⟩
  | 76 => ⟨S4x128x128x256, .f32⟩
  | 77 => ⟨S4x128x128x256, .f32⟩
  | 78 => ⟨S_, .f32⟩
  | 79 => ⟨S4x128x256, .f32⟩
  | 80 => ⟨S4x128x256, .f32⟩
  | 81 => ⟨S4x1, .f32⟩
  | 82 => ⟨S_, .f32⟩
  | 83 => ⟨S128, .f32⟩
  | 84 => ⟨S128, .f32⟩
  | 85 => ⟨S1x128, .f32⟩
  | 86 => ⟨S4x128, .f32⟩
  | 87 => ⟨S4x128, .f32⟩
  | 88 => ⟨S4x128, .f32⟩
  | 89 => ⟨S4x128, .f32⟩
  | 90 => ⟨S4x1x128x1, .f32⟩
  | 91 => ⟨S4x128x128x128, .f32⟩
  | 92 => ⟨S4x128x128x128, .f32⟩
  | 93 => ⟨S4x128x128x256, .f32⟩
  | 94 => ⟨S4x128x128x256, .f32⟩
  | 95 => ⟨S4x16384x256, .f32⟩
  | 96 => ⟨S4x16384x256, .f32⟩
  | 97 => ⟨S1x4x128x256, .f32⟩
  | 98 => ⟨S4x128x256, .f32⟩
  | 99 => ⟨S4x16384x256, .f32⟩
  | 100 => ⟨S4x128x128x256, .f32⟩
  | 101 => ⟨S4x128x256x128, .f32⟩
  | 102 => ⟨S4x128x128x256, .f32⟩
  | 103 => ⟨S4x128x128x128, .f32⟩
  | 104 => ⟨S4x128x128x128, .f32⟩
  | 105 => ⟨S4x128x128x128, .f32⟩
  | 106 => ⟨S4x128x128x256, .f32⟩
  | 107 => ⟨S4x128x128x256, .f32⟩
  | 108 => ⟨S4x128x128x256, .f32⟩
  | 109 => ⟨S4x128x256, .f32⟩
  | 110 => ⟨S4x128x256, .f32⟩
  | 111 => ⟨S4x128x256x128, .f32⟩
  | 112 => ⟨S4x128x128x256, .f32⟩
  | 113 => ⟨S4x128x128x256, .f32⟩
  | 114 => ⟨S4x128x128x256, .f32⟩
  | 115 => ⟨S4x128x128x256, .f32⟩
  | 116 => ⟨S_, .f32⟩
  | 117 => ⟨S4x128x256, .f32⟩
  | 118 => ⟨S4x1x128x256, .f32⟩
  | 119 => ⟨S_, .f32⟩
  | 120 => ⟨S4x128x256, .f32⟩
  | 121 => ⟨S4x128x256, .f32⟩
  | 122 => ⟨S4x128x256x128, .f32⟩
  | 123 => ⟨S4x128x128x256, .f32⟩
  | 124 => ⟨S4x128x128x128, .f32⟩
  | 125 => ⟨S4x128x128x128, .f32⟩
  | 126 => ⟨S4x128x128x128, .f32⟩
  | 127 => ⟨S4x128x128x128, .f32⟩
  | _ => ⟨S16384x1024, .f32⟩

abbrev hbmTy0_3 (i : Nat) : BufTy := match i % 128 with
  | 0 => ⟨S4x128x256x128, .f32⟩
  | 1 => ⟨S4x128x128x256, .f32⟩
  | 2 => ⟨S4x128x128x256, .f32⟩
  | 3 => ⟨S4x128x128x128, .f32⟩
  | 4 => ⟨S4x128x128x128, .f32⟩
  | 5 => ⟨S4x128x128x128, .f32⟩
  | 6 => ⟨S4x128x128x128, .f32⟩
  | 7 => ⟨S4x128x128x128, .f32⟩
  | 8 => ⟨S4x128x128x128, .f32⟩
  | 9 => ⟨S4x128x128x128, .f32⟩
  | 10 => ⟨S4x16384x256, .f32⟩
  | 11 => ⟨S4x16384x128, .f32⟩
  | 12 => ⟨S4x16384x128, .f32⟩
  | 13 => ⟨S4x16384x256, .f32⟩
  | 14 => ⟨S4x16384x128, .f32⟩
  | 15 => ⟨S4x16384x128, .f32⟩
  | 16 => ⟨S16384x4x256, .f32⟩
  | 17 => ⟨S16384x1024, .f32⟩
  | 18 => ⟨S16384x4x128, .f32⟩
  | 19 => ⟨S16384x512, .f32⟩
  | 20 => ⟨S16384x4x128, .f32⟩
  | 21 => ⟨S16384x512, .f32⟩
  | 22 => ⟨S16384x1024, .f32⟩
  | 23 => ⟨S16384x4x256, .f32⟩
  | 24 => ⟨S16384x1024, .f32⟩
  | 25 => ⟨S1x16384x1024, .f32⟩
  | 26 => ⟨S1x16384x1024, .f32⟩
  | 27 => ⟨S2x16384x1024, .f32⟩
  | 28 => ⟨S1x4x128x256, .f32⟩
  | 29 => ⟨S1x4x128x256, .f32⟩
  | 30 => ⟨S2x4x128x256, .f32⟩
  | 31 => ⟨S1x16384x1024, .f32⟩
  | 32 => ⟨S1x16384x1024, .f32⟩
  | 33 => ⟨S2x16384x1024, .f32⟩
  | 34 => ⟨S1x16384x1024, .f32⟩
  | 35 => ⟨S1x16384x1024, .f32⟩
  | 36 => ⟨S2x16384x1024, .f32⟩
  | 37 => ⟨S1x4x128x256, .f32⟩
  | 38 => ⟨S1x4x128x256, .f32⟩
  | 39 => ⟨S2x4x128x256, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_7 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_call2_v0 : Ref sig .tc := ⟨.hbm, 89, rfl⟩
abbrev main_call2_v1 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_11 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_13 : Ref sig .tc := ⟨.hbm, 130, rfl⟩
abbrev main_v101 : Ref sig .tc := ⟨.hbm, 131, rfl⟩
abbrev main_v102 : Ref sig .tc := ⟨.hbm, 132, rfl⟩
abbrev main_cst_14 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_15 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_16 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_17 : Ref sig .tc := ⟨.hbm, 179, rfl⟩
abbrev main_v146 : Ref sig .tc := ⟨.hbm, 180, rfl⟩
abbrev main_v147 : Ref sig .tc := ⟨.hbm, 181, rfl⟩
abbrev main_cst_18 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_cst_19 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_cst_20 : Ref sig .tc := ⟨.hbm, 231, rfl⟩
abbrev main_call7_v0 : Ref sig .tc := ⟨.hbm, 232, rfl⟩
abbrev main_call7_v1 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_cst_21 : Ref sig .tc := ⟨.hbm, 240, rfl⟩
abbrev main_call8_v0 : Ref sig .tc := ⟨.hbm, 241, rfl⟩
abbrev main_call8_v1 : Ref sig .tc := ⟨.hbm, 242, rfl⟩
abbrev main_call8_v2 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_cst_22 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_23 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_cst_24 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_cst_25 : Ref sig .tc := ⟨.hbm, 276, rfl⟩
abbrev main_v230 : Ref sig .tc := ⟨.hbm, 277, rfl⟩
abbrev main_v231 : Ref sig .tc := ⟨.hbm, 278, rfl⟩
abbrev main_cst_26 : Ref sig .tc := ⟨.hbm, 279, rfl⟩
abbrev main_call9_v0 : Ref sig .tc := ⟨.hbm, 280, rfl⟩
abbrev main_call9_v1 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_cst_27 : Ref sig .tc := ⟨.hbm, 288, rfl⟩
abbrev main_call10_v0 : Ref sig .tc := ⟨.hbm, 289, rfl⟩
abbrev main_call10_v1 : Ref sig .tc := ⟨.hbm, 290, rfl⟩
abbrev main_call10_v2 : Ref sig .tc := ⟨.hbm, 291, rfl⟩
abbrev main_v238 : Ref sig .tc := ⟨.hbm, 292, rfl⟩
abbrev main_v239 : Ref sig .tc := ⟨.hbm, 293, rfl⟩
abbrev main_cst_28 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_cst_29 : Ref sig .tc := ⟨.hbm, 310, rfl⟩
abbrev main_v255 : Ref sig .tc := ⟨.hbm, 311, rfl⟩
abbrev main_v256 : Ref sig .tc := ⟨.hbm, 312, rfl⟩
abbrev main_cst_30 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_cst_31 : Ref sig .tc := ⟨.hbm, 321, rfl⟩
abbrev main_v264 : Ref sig .tc := ⟨.hbm, 322, rfl⟩
abbrev main_v265 : Ref sig .tc := ⟨.hbm, 323, rfl⟩
abbrev main_cst_32 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_cst_33 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_cst_34 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_cst_35 : Ref sig .tc := ⟨.hbm, 372, rfl⟩
abbrev main_v311 : Ref sig .tc := ⟨.hbm, 373, rfl⟩
abbrev main_v312 : Ref sig .tc := ⟨.hbm, 374, rfl⟩
abbrev main_cst_36 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩
abbrev main_v320 : Ref sig .tc := ⟨.hbm, 383, rfl⟩
abbrev main_v321 : Ref sig .tc := ⟨.hbm, 384, rfl⟩
abbrev main_v322 : Ref sig .tc := ⟨.hbm, 385, rfl⟩
abbrev main_v323 : Ref sig .tc := ⟨.hbm, 386, rfl⟩
abbrev main_v324 : Ref sig .tc := ⟨.hbm, 387, rfl⟩
abbrev main_v325 : Ref sig .tc := ⟨.hbm, 388, rfl⟩
abbrev main_v326 : Ref sig .tc := ⟨.hbm, 389, rfl⟩
abbrev main_v327 : Ref sig .tc := ⟨.hbm, 390, rfl⟩
abbrev main_v328 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_v342 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩

abbrev nD : Nat := 1
abbrev τ : Topo := Topo.v7x

variable {F : FTy → Type} [FloatOps F]
-- ==== FfnIn.lean ====
abbrev S16384x2816 : Shape := ⟨2, ![16384, 2816]⟩
abbrev S1024x5632 : Shape := ⟨2, ![1024, 5632]⟩
abbrev S16384x1024 : Shape := ⟨2, ![16384, 1024]⟩
abbrev S8x1024 : Shape := ⟨2, ![8, 1024]⟩
abbrev S512x1408 : Shape := ⟨2, ![512, 1408]⟩
abbrev S1024x1408 : Shape := ⟨2, ![1024, 1408]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 17
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .f32⟩
  | .hbm, ⟨5, _⟩ => ⟨S8x1024, .f32⟩
  | .hbm, ⟨6, _⟩ => ⟨S16384x1024, .f32⟩
  | .hbm, ⟨7, _⟩ => ⟨S8x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_16 : BitVec 32 := 0#32
  let v22 : BitVec 1 := Scalar.cmpi .ne v21 c0_i32_16
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnInRefIdeal.lean ====
abbrev S16384x2816 : Shape := ⟨2, ![16384, 2816]⟩
abbrev S1024x5632 : Shape := ⟨2, ![1024, 5632]⟩
abbrev S16384x1024 : Shape := ⟨2, ![16384, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S5x1024 : Shape := ⟨2, ![5, 1024]⟩

abbrev nBuf : Space → Nat
  | .hbm => 98
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .f32⟩
  | .hbm, ⟨5, _⟩ => ⟨S8x1024, .f32⟩
  | .hbm, ⟨6, _⟩ => ⟨S1024x5632, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x5632, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x5632, .f32⟩
  | .hbm, ⟨49, _⟩ => ⟨S_, .f32⟩
  | .hbm, ⟨50, _⟩ => ⟨S16384x5632, .f32⟩
  | .hbm, ⟨51, _⟩ => ⟨S16384x5632, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S5x1024, .f32⟩
  | .hbm, ⟨97, _⟩ => ⟨S8x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== DwGu.lean ====
abbrev S16384x1024 : Shape := ⟨2, ![16384, 1024]⟩
abbrev S16384x2816 : Shape := ⟨2, ![16384, 2816]⟩
abbrev S256x1024 : Shape := ⟨2, ![256, 1024]⟩
abbrev S256x2816 : Shape := ⟨2, ![256, 2816]⟩
abbrev S1024x2816 : Shape := ⟨2, ![1024, 2816]⟩
abbrev S512x1024 : Shape := ⟨2, ![512, 1024]⟩
abbrev S512x1408 : Shape := ⟨2, ![512, 1408]⟩
abbrev S256x1408 : Shape := ⟨2, ![256, 1408]⟩
abbrev S1024x1408 : Shape := ⟨2, ![1024, 1408]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S256x1024, .bf16⟩
  | .hbm, ⟨3, _⟩ => ⟨S256x2816, .bf16⟩
  | .hbm, ⟨4, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S256x1024, .bf16⟩
  | .local _ .vmem, ⟨5, _⟩ => ⟨S256x1408, .bf16⟩
  | .local _ .vmem, ⟨6, _⟩ => ⟨S256x1408, .bf16⟩
  | .local _ .vmem, ⟨7, _⟩ => ⟨S1024x1408, .f32⟩
  | .local _ .vmem, ⟨8, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwGuRefIdeal.lean ====
abbrev S16384x1024 : Shape := ⟨2, ![16384, 1024]⟩
abbrev S16384x2816 : Shape := ⟨2, ![16384, 2816]⟩
abbrev S256x1024 : Shape := ⟨2, ![256, 1024]⟩
abbrev S256x2816 : Shape := ⟨2, ![256, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S256x1024, .bf16⟩
  | .hbm, ⟨3, _⟩ => ⟨S256x2816, .bf16⟩
  | .hbm, ⟨4, _⟩ => ⟨S_, .f32⟩
  | .hbm, ⟨5, _⟩ => ⟨S1024x2816, .f32⟩
  | .hbm, ⟨6, _⟩ => ⟨S16384x1024, .f32⟩
  | .hbm, ⟨7, _⟩ => ⟨S16384x2816, .f32⟩
  | .hbm, ⟨8, _⟩ => ⟨S256x1024, .f32⟩
  | .hbm, ⟨9, _⟩ => ⟨S256x2816, .f32⟩
  | .hbm, ⟨10, _⟩ => ⟨S16384x2816, .f32⟩
  | .hbm, ⟨11, _⟩ => ⟨S256x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S1024x2816, .f32⟩
  | .hbm, ⟨16, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== DwD.lean ====
abbrev S16384x2816 : Shape := ⟨2, ![16384, 2816]⟩
abbrev S16384x1024 : Shape := ⟨2, ![16384, 1024]⟩
abbrev S256x2816 : Shape := ⟨2, ![256, 2816]⟩
abbrev S256x1024 : Shape := ⟨2, ![256, 1024]⟩
abbrev S2816x1024 : Shape := ⟨2, ![2816, 1024]⟩
abbrev S512x2816 : Shape := ⟨2, ![512, 2816]⟩
abbrev S512x512 : Shape := ⟨2, ![512, 512]⟩
abbrev S256x512 : Shape := ⟨2, ![256, 512]⟩
abbrev S2816x512 : Shape := ⟨2, ![2816, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S256x2816, .bf16⟩
  | .hbm, ⟨3, _⟩ => ⟨S256x1024, .bf16⟩
  | .hbm, ⟨4, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x512, .bf16⟩
  | .local _ .vmem, ⟨3, _⟩ => ⟨S512x512, .bf16⟩
  | .local _ .vmem, ⟨4, _⟩ => ⟨S256x2816, .bf16⟩
  | .local _ .vmem, ⟨5, _⟩ => ⟨S256x512, .bf16⟩
  | .local _ .vmem, ⟨6, _⟩ => ⟨S256x512, .bf16⟩
  | .local _ .vmem, ⟨7, _⟩ => ⟨S2816x512, .f32⟩
  | .local _ .vmem, ⟨8, _⟩ => ⟨S2816x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2816x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwDRefIdeal.lean ====
abbrev S16384x2816 : Shape := ⟨2, ![16384, 2816]⟩
abbrev S16384x1024 : Shape := ⟨2, ![16384, 1024]⟩
abbrev S256x2816 : Shape := ⟨2, ![256, 2816]⟩
abbrev S256x1024 : Shape := ⟨2, ![256, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S256x2816, .bf16⟩
  | .hbm, ⟨3, _⟩ => ⟨S256x1024, .bf16⟩
  | .hbm, ⟨4, _⟩ => ⟨S_, .f32⟩
  | .hbm, ⟨5, _⟩ => ⟨S2816x1024, .f32⟩
  | .hbm, ⟨6, _⟩ => ⟨S16384x2816, .f32⟩
  | .hbm, ⟨7, _⟩ => ⟨S16384x1024, .f32⟩
  | .hbm, ⟨8, _⟩ => ⟨S256x2816, .f32⟩
  | .hbm, ⟨9, _⟩ => ⟨S256x1024, .f32⟩
  | .hbm, ⟨10, _⟩ => ⟨S16384x1024, .f32⟩
  | .hbm, ⟨11, _⟩ => ⟨S256x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== DwSq.lean ====
abbrev S16384x1024 : Shape := ⟨2, ![16384, 1024]⟩
abbrev S256x1024 : Shape := ⟨2, ![256, 1024]⟩
abbrev S1024x1024 : Shape := ⟨2, ![1024, 1024]⟩
abbrev S512x1024 : Shape := ⟨2, ![512, 1024]⟩
abbrev S512x512 : Shape := ⟨2, ![512, 512]⟩
abbrev S256x512 : Shape := ⟨2, ![256, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S256x1024, .bf16⟩
  | .hbm, ⟨3, _⟩ => ⟨S256x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S256x1024, .bf16⟩
  | .local _ .vmem, ⟨5, _⟩ => ⟨S256x512, .bf16⟩
  | .local _ .vmem, ⟨6, _⟩ => ⟨S256x512, .bf16⟩
  | .local _ .vmem, ⟨7, _⟩ => ⟨S1024x512, .f32⟩
  | .local _ .vmem, ⟨8, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwSqRefIdeal.lean ====
abbrev S16384x1024 : Shape := ⟨2, ![16384, 1024]⟩
abbrev S256x1024 : Shape := ⟨2, ![256, 1024]⟩
abbrev S_ : Shape := ⟨0, ![]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S256x1024, .bf16⟩
  | .hbm, ⟨3, _⟩ => ⟨S256x1024, .bf16⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S256x1024, .f32⟩
  | .hbm, ⟨9, _⟩ => ⟨S256x1024, .f32⟩
  | .hbm, ⟨10, _⟩ => ⟨S16384x1024, .f32⟩
  | .hbm, ⟨11, _⟩ => ⟨S256x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ProjIn.lean ====
abbrev S16384x1024 : Shape := ⟨2, ![16384, 1024]⟩
abbrev S16384x128 : Shape := ⟨2, ![16384, 128]⟩
abbrev S1024x8320 : Shape := ⟨2, ![1024, 8320]⟩
abbrev S8x1024 : Shape := ⟨2, ![8, 1024]⟩
abbrev S512x1024 : Shape := ⟨2, ![512, 1024]⟩
abbrev S512x128 : Shape := ⟨2, ![512, 128]⟩
abbrev S1024x2048 : Shape := ⟨2, ![1024, 2048]⟩
abbrev S1024x128 : Shape := ⟨2, ![1024, 128]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 30
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x128, .bf16⟩
  | .hbm, ⟨9, _⟩ => ⟨S1024x8320, .bf16⟩
  | .hbm, ⟨10, _⟩ => ⟨S16384x1024, .f32⟩
  | .hbm, ⟨11, _⟩ => ⟨S16384x1024, .f32⟩
  | .hbm, ⟨12, _⟩ => ⟨S8x1024, .f32⟩
  | .hbm, ⟨13, _⟩ => ⟨S16384x1024, .f32⟩
  | .hbm, ⟨14, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x128, .bf16⟩
  | .local _ .vmem, ⟨17, _⟩ => ⟨S512x128, .bf16⟩
  | .local _ .vmem, ⟨18, _⟩ => ⟨S1024x2048, .bf16⟩
  | .local _ .vmem, ⟨19, _⟩ => ⟨S1024x2048, .bf16⟩
  | .local _ .vmem, ⟨20, _⟩ => ⟨S1024x128, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S8x1024, .f32⟩
  | .local _ .vmem, ⟨26, _⟩ => ⟨S512x1024, .f32⟩
  | .local _ .vmem, ⟨27, _⟩ => ⟨S512x1024, .f32⟩
  | .local _ .vmem, ⟨28, _⟩ => ⟨S8x1024, .f32⟩
  | .local _ .vmem, ⟨29, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨2, ![32, 4], ![false, false]⟩

def k0_cond7 (i : grid0.Coords) : BitVec 1 :=
  let arg1 : BitVec 32 := BitVec.ofNat 32 (i 1).val
  let c3_i32_9 : BitVec 32 := 3#32
  let v20 : BitVec 1 := Scalar.cmpi .eq arg1 c3_i32_9
  let v21 : BitVec 32 := Scalar.extui v20
  let c0_i32_10 : BitVec 32 := 0#32
  let v22 : BitVec 1 := Scalar.cmpi .ne v21 c0_i32_10
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c64_i32 : BitVec 32 := 64#32
  let c0_i32_0 : BitVec 32 := 0#32
  ![c0_i32.toNat, c64_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ProjInRefIdeal.lean ====
abbrev S16384x1024 : Shape := ⟨2, ![16384, 1024]⟩
abbrev S16384x128 : Shape := ⟨2, ![16384, 128]⟩
abbrev S1024x8320 : Shape := ⟨2, ![1024, 8320]⟩
abbrev S8x1024 : Shape := ⟨2, ![8, 1024]⟩
abbrev S16384x8320 : Shape := ⟨2, ![16384, 8320]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S5x1024 : Shape := ⟨2, ![5, 1024]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x128, .bf16⟩
  | .hbm, ⟨9, _⟩ => ⟨S1024x8320, .bf16⟩
  | .hbm, ⟨10, _⟩ => ⟨S16384x1024, .f32⟩
  | .hbm, ⟨11, _⟩ => ⟨S16384x1024, .f32⟩
  | .hbm, ⟨12, _⟩ => ⟨S8x1024, .f32⟩
  | .hbm, ⟨13, _⟩ => ⟨S1024x8320, .f32⟩
  | .hbm, ⟨14, _⟩ => ⟨S16384x8320, .bf16⟩
  | .hbm, ⟨15, _⟩ => ⟨S16384x8320, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x8320, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S5x1024, .f32⟩
  | .hbm, ⟨97, _⟩ => ⟨S8x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== DwIn.lean ====
abbrev S16384x1024 : Shape := ⟨2, ![16384, 1024]⟩
abbrev S256x1024 : Shape := ⟨2, ![256, 1024]⟩
abbrev S1024x8192 : Shape := ⟨2, ![1024, 8192]⟩
abbrev S512x1024 : Shape := ⟨2, ![512, 1024]⟩
abbrev S1024x1024 : Shape := ⟨2, ![1024, 1024]⟩

abbrev nBuf : Space → Nat
  | .hbm => 19
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S256x1024, .bf16⟩
  | .hbm, ⟨11, _⟩ => ⟨S256x1024, .bf16⟩
  | .hbm, ⟨12, _⟩ => ⟨S256x1024, .bf16⟩
  | .hbm, ⟨13, _⟩ => ⟨S256x1024, .bf16⟩
  | .hbm, ⟨14, _⟩ => ⟨S256x1024, .bf16⟩
  | .hbm, ⟨15, _⟩ => ⟨S256x1024, .bf16⟩
  | .hbm, ⟨16, _⟩ => ⟨S256x1024, .bf16⟩
  | .hbm, ⟨17, _⟩ => ⟨S256x1024, .bf16⟩
  | .hbm, ⟨18, _⟩ => ⟨S1024x8192, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S1024x1024, .f32⟩
  | .local _ .vmem, ⟨28, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_cond3 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_cond5 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond6 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_cond7 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_cond8 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_cond9 (i : grid0.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_4 : BitVec 32 := 0#32
  let v14 : BitVec 1 := Scalar.cmpi .ne v13 c0_i32_4
  v14

def k0_cond10 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_cond11 (i : grid0.Coords) : BitVec 1 :=
  let arg0 : BitVec 32 := BitVec.ofNat 32 (i 0).val
  let c5_i32 : BitVec 32 := 5#32
  let v15 : BitVec 1 := Scalar.cmpi .eq arg0 c5_i32
  let v16 : BitVec 32 := Scalar.extui v15
  let c0_i32_5 : BitVec 32 := 0#32
  let v17 : BitVec 1 := Scalar.cmpi .ne v16 c0_i32_5
  v17

def k0_cond12 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_cond13 (i : grid0.Coords) : BitVec 1 :=
  let arg0 : BitVec 32 := BitVec.ofNat 32 (i 0).val
  let c6_i32 : BitVec 32 := 6#32
  let v18 : BitVec 1 := Scalar.cmpi .eq arg0 c6_i32
  let v19 : BitVec 32 := Scalar.extui v18
  let c0_i32_6 : BitVec 32 := 0#32
  let v20 : BitVec 1 := Scalar.cmpi .ne v19 c0_i32_6
  v20

def k0_cond14 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_cond15 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_7 : BitVec 32 := 0#32
  let v23 : BitVec 1 := Scalar.cmpi .ne v22 c0_i32_7
  v23

def k0_cond16 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== DwInRefIdeal.lean ====
abbrev S16384x1024 : Shape := ⟨2, ![16384, 1024]⟩
abbrev S256x1024 : Shape := ⟨2, ![256, 1024]⟩
abbrev S16384x8192 : Shape := ⟨2, ![16384, 8192]⟩
abbrev S256x8192 : Shape := ⟨2, ![256, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S256x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S256x1024, .bf16⟩
  | .hbm, ⟨11, _⟩ => ⟨S256x1024, .bf16⟩
  | .hbm, ⟨12, _⟩ => ⟨S256x1024, .bf16⟩
  | .hbm, ⟨13, _⟩ => ⟨S256x1024, .bf16⟩
  | .hbm, ⟨14, _⟩ => ⟨S256x1024, .bf16⟩
  | .hbm, ⟨15, _⟩ => ⟨S256x1024, .bf16⟩
  | .hbm, ⟨16, _⟩ => ⟨S256x1024, .bf16⟩
  | .hbm, ⟨17, _⟩ => ⟨S256x1024, .bf16⟩
  | .hbm, ⟨18, _⟩ => ⟨S16384x8192, .bf16⟩
  | .hbm, ⟨19, _⟩ => ⟨S256x8192, .bf16⟩
  | .hbm, ⟨20, _⟩ => ⟨S_, .f32⟩
  | .hbm, ⟨21, _⟩ => ⟨S1024x8192, .f32⟩
  | .hbm, ⟨22, _⟩ => ⟨S16384x1024, .f32⟩
  | .hbm, ⟨23, _⟩ => ⟨S16384x8192, .f32⟩
  | .hbm, ⟨24, _⟩ => ⟨S256x1024, .f32⟩
  | .hbm, ⟨25, _⟩ => ⟨S256x8192, .f32⟩
  | .hbm, ⟨26, _⟩ => ⟨S16384x8192, .f32⟩
  | .hbm, ⟨27, _⟩ => ⟨S256x8192, .f32⟩
  | .hbm, ⟨28, _⟩ => ⟨S8192x1024, .f32⟩
  | .hbm, ⟨29, _⟩ => ⟨S1024x8192, .f32⟩
  | .hbm, ⟨30, _⟩ => ⟨S8192x1024, .f32⟩
  | .hbm, ⟨31, _⟩ => ⟨S1024x8192, .f32⟩
  | .hbm, ⟨32, _⟩ => ⟨S1024x8192, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== DwGate.lean ====
abbrev S16384x1024 : Shape := ⟨2, ![16384, 1024]⟩
abbrev S16384x128 : Shape := ⟨2, ![16384, 128]⟩
abbrev S256x1024 : Shape := ⟨2, ![256, 1024]⟩
abbrev S256x128 : Shape := ⟨2, ![256, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S256x1024, .bf16⟩
  | .hbm, ⟨3, _⟩ => ⟨S256x128, .bf16⟩
  | .hbm, ⟨4, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S256x1024, .bf16⟩
  | .local _ .vmem, ⟨5, _⟩ => ⟨S256x128, .bf16⟩
  | .local _ .vmem, ⟨6, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== DwGateRefIdeal.lean ====
abbrev S16384x1024 : Shape := ⟨2, ![16384, 1024]⟩
abbrev S16384x128 : Shape := ⟨2, ![16384, 128]⟩
abbrev S256x1024 : Shape := ⟨2, ![256, 1024]⟩
abbrev S256x128 : Shape := ⟨2, ![256, 128]⟩
abbrev S_ : Shape := ⟨0, ![]⟩
abbrev S1024x128 : Shape := ⟨2, ![1024, 128]⟩
abbrev S128x1024 : Shape := ⟨2, ![128, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S256x1024, .bf16⟩
  | .hbm, ⟨3, _⟩ => ⟨S256x128, .bf16⟩
  | .hbm, ⟨4, _⟩ => ⟨S_, .f32⟩
  | .hbm, ⟨5, _⟩ => ⟨S1024x128, .f32⟩
  | .hbm, ⟨6, _⟩ => ⟨S16384x1024, .f32⟩
  | .hbm, ⟨7, _⟩ => ⟨S16384x128, .f32⟩
  | .hbm, ⟨8, _⟩ => ⟨S256x1024, .f32⟩
  | .hbm, ⟨9, _⟩ => ⟨S256x128, .f32⟩
  | .hbm, ⟨10, _⟩ => ⟨S16384x128, .f32⟩
  | .hbm, ⟨11, _⟩ => ⟨S256x128, .f32⟩
  | .hbm, ⟨12, _⟩ => ⟨S128x1024, .f32⟩
  | .hbm, ⟨13, _⟩ => ⟨S1024x128, .f32⟩
  | .hbm, ⟨14, _⟩ => ⟨S128x1024, .f32⟩
  | .hbm, ⟨15, _⟩ => ⟨S1024x128, .f32⟩
  | .hbm, ⟨16, _⟩ => ⟨S1024x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Bits.Vals1.lean ====
/- What the stores of the gradient body leave in its windows and in the carried state, at each kind of grid point. -/
module

public import proofs.«01_k».proof.Proof.Bits.Cover
public import proofs.«01_k».proof.Proof.Bits.Run1

@[expose] public section

set_option maxRecDepth 16384

noncomputable section

namespace Cert.Kernel.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 8000000 in
/-- What the body's stores leave, at the first point of a direction. -/
theorem vals1_first (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : cond1_0 i) (hc1 : ¬k1_cond2 i = 1#1)
    (x0 : Vec F S256x1024 .f32) (x1 : Vec F S256x1024 .f32) (x2 : Vec F S1x2x4x128x256 .bf16) (x3 : Vec F S256x1024 .f32) (x4 : Vec F S1x4x128x256 .f32) :
    (∀ f, arg7.view.read (Elt F) (arg7.view.writes (Elt F) f (run1_first c i arg2 harg2 arg3 harg3 arg4 harg4 arg5 harg5 arg6 harg6 arg7 harg7 arg8 harg8 arg9 harg9 arg10 harg10 hc0 hc1 x0 x1 x2 x3 x4).1) = outQK i x0 x1 x2 x3 (unb x4))
      ∧ (∀ f, arg8.view.read (Elt F) (arg8.view.writes (Elt F) f (run1_first c i arg2 harg2 arg3 harg3 arg4 harg4 arg5 harg5 arg6 harg6 arg7 harg7 arg8 harg8 arg9 harg9 arg10 harg10 hc0 hc1 x0 x1 x2 x3 x4).2.1) = outV i x0 x3 (unb x4))
      ∧ (∀ f, arg10.view.read (Elt F) (arg10.view.writes (Elt F) f (run1_first c i arg2 harg2 arg3 harg3 arg4 harg4 arg5 harg5 arg6 harg6 arg7 harg7 arg8 harg8 arg9 harg9 arg10 harg10 hc0 hc1 x0 x1 x2 x3 x4).2.2.1) = end1 i x0 x3 (unb x4)) := by
  refine ⟨fun f => read_of _ _ _ (fun p hp => ?_) (coverQK i _ ?_ ?_) f, fun f => read_of _ _ _ (fun p hp => ?_) (coverV i _ ?_) f, fun f => ext_hd4 _ _ ?_ ?_ ?_ ?_⟩
  simp only [run1_first, run1_first.sl.H8_6, List.mem_cons, List.not_mem_nil, or_false] at hp
  rcases hp with rfl | rfl | rfl | rfl | rfl | rfl | rfl | rfl | rfl | rfl | rfl | rfl | rfl | rfl | rfl | rfl
  refine outK_piece i 1 3 _ (off1_27_1 i) (k1_off27_inb i 1) x0 x1 x2 x3 (unb x4) _ shapeCasts_S128x128_S1x128x128 ?_; rotate_left
  refine outQ_piece i 1 3 _ (off1_26_1 i) (k1_off26_inb i 1) x0 x1 x2 x3 (unb x4) _ shapeCasts_S128x128_S1x128x128 ?_; rotate_left
  refine outK_piece i 1 2 _ (off1_20_1 i) (k1_off20_inb i 1) x0 x1 x2 x3 (unb x4) _ shapeCasts_S128x128_S1x128x128 ?_; rotate_left
  refine outQ_piece i 1 2 _ (off1_19_1 i) (k1_off19_inb i 1) x0 x1 x2 x3 (unb x4) _ shapeCasts_S128x128_S1x128x128 ?_; rotate_left
  refine outK_piece i 1 1 _ (off1_13_1 i) (k1_off13_inb i 1) x0 x1 x2 x3 (unb x4) _ shapeCasts_S128x128_S1x128x128 ?_; rotate_left
  refine outQ_piece i 1 1 _ (off1_12_1 i) (k1_off12_inb i 1) x0 x1 x2 x3 (unb x4) _ shapeCasts_S128x128_S1x128x128 ?_; rotate_left
  refine outK_piece i 1 0 _ (off1_6_1 i) (k1_off6_inb i 1) x0 x1 x2 x3 (unb x4) _ shapeCasts_S128x128_S1x128x128 ?_; rotate_left
  refine outQ_piece i 1 0 _ (off1_5_1 i) (k1_off5_inb i 1) x0 x1 x2 x3 (unb x4) _ shapeCasts_S128x128_S1x128x128 ?_; rotate_left
  refine outK_piece i 0 3 _ (off1_27_0 i) (k1_off27_inb i 0) x0 x1 x2 x3 (unb x4) _ shapeCasts_S128x128_S1x128x128 ?_; rotate_left
  refine outQ_piece i 0 3 _ (off1_26_0 i) (k1_off26_inb i 0) x0 x1 x2 x3 (unb x4) _ shapeCasts_S128x128_S1x128x128 ?_; rotate_left
  refine outK_piece i 0 2 _ (off1_20_0 i) (k1_off20_inb i 0) x0 x1 x2 x3 (unb x4) _ shapeCasts_S128x128_S1x128x128 ?_; rotate_left
  refine outQ_piece i 0 2 _ (off1_19_0 i) (k1_off19_inb i 0) x0 x1 x2 x3 (unb x4) _ shapeCasts_S128x128_S1x128x128 ?_; rotate_left
  refine outK_piece i 0 1 _ (off1_13_0 i) (k1_off13_inb i 0) x0 x1 x2 x3 (unb x4) _ shapeCasts_S128x128_S1x128x128 ?_; rotate_left
  refine outQ_piece i 0 1 _ (off1_12_0 i) (k1_off12_inb i 0) x0 x1 x2 x3 (unb x4) _ shapeCasts_S128x128_S1x128x128 ?_; rotate_left
  refine outK_piece i 0 0 _ (off1_6_0 i) (k1_off6_inb i 0) x0 x1 x2 x3 (unb x4) _ shapeCasts_S128x128_S1x128x128 ?_; rotate_left
  refine outQ_piece i 0 0 _ (off1_5_0 i) (k1_off5_inb i 0) x0 x1 x2 x3 (unb x4) _ shapeCasts_S128x128_S1x128x128 ?_; rotate_left
  · intro g h
    simp only [run1_first, run1_first.sl.H8_6]
    fin_cases g <;> fin_cases h
    · exact ⟨_, off1_5_0 i, k1_off5_inb i 0, _, List.mem_of_getElem? (i := 15) rfl⟩
    · exact ⟨_, off1_12_0 i, k1_off12_inb i 0, _, List.mem_of_getElem? (i := 13) rfl⟩
    · exact ⟨_, off1_19_0 i, k1_off19_inb i 0, _, List.mem_of_getElem? (i := 11) rfl⟩
    · exact ⟨_, off1_26_0 i, k1_off26_inb i 0, _, List.mem_of_getElem? (i := 9) rfl⟩
    · exact ⟨_, off1_5_1 i, k1_off5_inb i 1, _, List.mem_of_getElem? (i := 7) rfl⟩
    · exact ⟨_, off1_12_1 i, k1_off12_inb i 1, _, List.mem_of_getElem? (i := 5) rfl⟩
    · exact ⟨_, off1_19_1 i, k1_off19_inb i 1, _, List.mem_of_getElem? (i := 3) rfl⟩
    · exact ⟨_, off1_26_1 i, k1_off26_inb i 1, _, List.mem_of_getElem? (i := 1) rfl⟩
  · intro g h
    simp only [run1_first, run1_first.sl.H8_6]
    fin_cases g <;> fin_cases h
    · exact ⟨_, off1_6_0 i, k1_off6_inb i 0, _, List.mem_of_getElem? (i := 14) rfl⟩
    · exact ⟨_, off1_13_0 i, k1_off13_inb i 0, _, List.mem_of_getElem? (i := 12) rfl⟩
    · exact ⟨_, off1_20_0 i, k1_off20_inb i 0, _, List.mem_of_getElem? (i := 10) rfl⟩
    · exact ⟨_, off1_27_0 i, k1_off27_inb i 0, _, List.mem_of_getElem? (i := 8) rfl⟩
    · exact ⟨_, off1_6_1 i, k1_off6_inb i 1, _, List.mem_of_getElem? (i := 6) rfl⟩
    · exact ⟨_, off1_13_1 i, k1_off13_inb i 1, _, List.mem_of_getElem? (i := 4) rfl⟩
    · exact ⟨_, off1_20_1 i, k1_off20_inb i 1, _, List.mem_of_getElem? (i := 2) rfl⟩
    · exact ⟨_, off1_27_1 i, k1_off27_inb i 1, _, List.mem_of_getElem? (i := 0) rfl⟩
  simp only [run1_first, run1_first.sl.H8_6, List.mem_cons, List.not_mem_nil, or_false] at hp
  rcases hp with rfl | rfl | rfl | rfl | rfl | rfl | rfl | rfl
  refine outV_piece i 1 3 _ (off1_28_1 i) (k1_off28_inb i 1) x0 x3 (unb x4) _ shapeCasts_S128x256_S1x128x256 ?_; rotate_left
  refine outV_piece i 1 2 _ (off1_21_1 i) (k1_off21_inb i 1) x0 x3 (unb x4) _ shapeCasts_S128x256_S1x128x256 ?_; rotate_left
  refine outV_piece i 1 1 _ (off1_14_1 i) (k1_off14_inb i 1) x0 x3 (unb x4) _ shapeCasts_S128x256_S1x128x256 ?_; rotate_left
  refine outV_piece i 1 0 _ (off1_7_1 i) (k1_off7_inb i 1) x0 x3 (unb x4) _ shapeCasts_S128x256_S1x128x256 ?_; rotate_left
  refine outV_piece i 0 3 _ (off1_28_0 i) (k1_off28_inb i 0) x0 x3 (unb x4) _ shapeCasts_S128x256_S1x128x256 ?_; rotate_left
  refine outV_piece i 0 2 _ (off1_21_0 i) (k1_off21_inb i 0) x0 x3 (unb x4) _ shapeCasts_S128x256_S1x128x256 ?_; rotate_left
  refine outV_piece i 0 1 _ (off1_14_0 i) (k1_off14_inb i 0) x0 x3 (unb x4) _ shapeCasts_S128x256_S1x128x256 ?_; rotate_left
  refine outV_piece i 0 0 _ (off1_7_0 i) (k1_off7_inb i 0) x0 x3 (unb x4) _ shapeCasts_S128x256_S1x128x256 ?_; rotate_left
  · intro g h
    simp only [run1_first, run1_first.sl.H8_6]
    fin_cases g <;> fin_cases h
    · exact ⟨_, off1_7_0 i, k1_off7_inb i 0, _, List.mem_of_getElem? (i := 7) rfl⟩
    · exact ⟨_, off1_14_0 i, k1_off14_inb i 0, _, List.mem_of_getElem? (i := 6) rfl⟩
    · exact ⟨_, off1_21_0 i, k1_off21_inb i 0, _, List.mem_of_getElem? (i := 5) rfl⟩
    · exact ⟨_, off1_28_0 i, k1_off28_inb i 0, _, List.mem_of_getElem? (i := 4) rfl⟩
    · exact ⟨_, off1_7_1 i, k1_off7_inb i 1, _, List.mem_of_getElem? (i := 3) rfl⟩
    · exact ⟨_, off1_14_1 i, k1_off14_inb i 1, _, List.mem_of_getElem? (i := 2) rfl⟩
    · exact ⟨_, off1_21_1 i, k1_off21_inb i 1, _, List.mem_of_getElem? (i := 1) rfl⟩
    · exact ⟨_, off1_28_1 i, k1_off28_inb i 1, _, List.mem_of_getElem? (i := 0) rfl⟩
  iterate 4
    simp only [run1_first]; simp -proj only [run1_first.sl.H10_1, run1_first.sl.H10_2, run1_first.sl.H10_3, run1_first.sl.H10_4, run1_first.sl.H10_5, run1_first.sl.H10_6, run1_first.sl.H10_7, run1_first.sl.H10_8, run1_first.sl.H8_6]; rw [read_head3 arg10.view f, read_head2 arg10.view f, read_head1 arg10.view f, read_head0 arg10.view f]; rotate_left
  all_goals simp -proj only [end1, run1_first.sl.H10_1, run1_first.sl.H10_2, run1_first.sl.H10_3, run1_first.sl.H10_4, run1_first.sl.H10_5, run1_first.sl.H10_6, run1_first.sl.H10_7, run1_first.sl.H10_8, run1_first.sl.H8_6, run1_first.sl.cst_101, run1_first.sl.cst_129, run1_first.sl.cst_13, run1_first.sl.cst_163, run1_first.sl.cst_164, run1_first.sl.r, run1_first.sl.r_1, run1_first.sl.r_10, run1_first.sl.r_100, run1_first.sl.r_101, run1_first.sl.r_102, run1_first.sl.r_103, run1_first.sl.r_104, run1_first.sl.r_105, run1_first.sl.r_106, run1_first.sl.r_107, run1_first.sl.r_108, run1_first.sl.r_109, run1_first.sl.r_11, run1_first.sl.r_110, run1_first.sl.r_111, run1_first.sl.r_112, run1_first.sl.r_113, run1_first.sl.r_114, run1_first.sl.r_115, run1_first.sl.r_116, run1_first.sl.r_117, run1_first.sl.r_118, run1_first.sl.r_119, run1_first.sl.r_12, run1_first.sl.r_120, run1_first.sl.r_13, run1_first.sl.r_14, run1_first.sl.r_15, run1_first.sl.r_16, run1_first.sl.r_17, run1_first.sl.r_18, run1_first.sl.r_19, run1_first.sl.r_2, run1_first.sl.r_20, run1_first.sl.r_21, run1_first.sl.r_22, run1_first.sl.r_23, run1_first.sl.r_24, run1_first.sl.r_25, run1_first.sl.r_26, run1_first.sl.r_27, run1_first.sl.r_28, run1_first.sl.r_29, run1_first.sl.r_3, run1_first.sl.r_30, run1_first.sl.r_31, run1_first.sl.r_32, run1_first.sl.r_33, run1_first.sl.r_34, run1_first.sl.r_35, run1_first.sl.r_36, run1_first.sl.r_37, run1_first.sl.r_38, run1_first.sl.r_39, run1_first.sl.r_4, run1_first.sl.r_40, run1_first.sl.r_41, run1_first.sl.r_42, run1_first.sl.r_43, run1_first.sl.r_44, run1_first.sl.r_45, run1_first.sl.r_46, run1_first.sl.r_47, run1_first.sl.r_48, run1_first.sl.r_49, run1_first.sl.r_5, run1_first.sl.r_50, run1_first.sl.r_51, run1_first.sl.r_52, run1_first.sl.r_53, run1_first.sl.r_54, run1_first.sl.r_55, run1_first.sl.r_56, run1_first.sl.r_57, run1_first.sl.r_58, run1_first.sl.r_59, run1_first.sl.r_6, run1_first.sl.r_60, run1_first.sl.r_61, run1_first.sl.r_62, run1_first.sl.r_63, run1_first.sl.r_64, run1_first.sl.r_65, run1_first.sl.r_66, run1_first.sl.r_67, run1_first.sl.r_68, run1_first.sl.r_69, run1_first.sl.r_7, run1_first.sl.r_70, run1_first.sl.r_71, run1_first.sl.r_72, run1_first.sl.r_73, run1_first.sl.r_74, run1_first.sl.r_75, run1_first.sl.r_76, run1_first.sl.r_77, run1_first.sl.r_78, run1_first.sl.r_79, run1_first.sl.r_8, run1_first.sl.r_80, run1_first.sl.r_81, run1_first.sl.r_82, run1_first.sl.r_83, run1_first.sl.r_84, run1_first.sl.r_85, run1_first.sl.r_86, run1_first.sl.r_87, run1_first.sl.r_88, run1_first.sl.r_89, run1_first.sl.r_9, run1_first.sl.r_90, run1_first.sl.r_91, run1_first.sl.r_92, run1_first.sl.r_93, run1_first.sl.r_94, run1_first.sl.r_95, run1_first.sl.r_96, run1_first.sl.r_97, run1_first.sl.r_98, run1_first.sl.r_99, run1_first.sl.v0, run1_first.sl.v1, run1_first.sl.v168, run1_first.sl.v2, run1_first.sl.v276, run1_first.sl.v3, run1_first.sl.v384, run1_first.sl.v4, run1_first.sl.v441, run1_first.sl.v442, run1_first.sl.v496, run1_first.sl.v5, run1_first.sl.v6, run1_first.sl.v60, run1_first.sl.v604, run1_first.sl.v712, run1_first.sl.v820, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay160, k1_pay161, k1_pay162, k1_pay163, k1_pay164, k1_pay165, k1_pay166, k1_pay167, k1_pay168, k1_pay169, k1_pay17, k1_pay170, k1_pay171, k1_pay172, k1_pay173, k1_pay174, k1_pay175, k1_pay176, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, cut1_1_0 i c, cut1_2_0 i c, cut1_3_0 i c, cut1_8_0 i c, cut1_9_0 i c, cut1_10_0 i c, cut1_15_0 i c, cut1_16_0 i c, cut1_17_0 i c, cut1_22_0 i c, cut1_23_0 i c, cut1_24_0 i c, cut1_1_1 i c, cut1_2_1 i c, cut1_3_1 i c, cut1_8_1 i c, cut1_9_1 i c, cut1_10_1 i c, cut1_15_1 i c, cut1_16_1 i c, cut1_17_1 i c, cut1_22_1 i c, cut1_23_1 i c, cut1_24_1 i c, sav1_4_0 i c, sav1_11_0 i c, sav1_18_0 i c, sav1_25_0 i c, sav1_4_1 i c, sav1_11_1 i c, sav1_18_1 i c, sav1_25_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st1, step1]
  all_goals rfl

set_option maxHeartbeats 8000000 in
/-- What the body's stores leave, at a point between. -/
theorem vals1_mid (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : ¬cond1_0 i) (hc1 : ¬k1_cond2 i = 1#1)
    (x0 : Vec F S256x1024 .f32) (x1 : Vec F S256x1024 .f32) (x2 : Vec F S1x2x4x128x256 .bf16) (x3 : Vec F S256x1024 .f32) (x4 : Vec F S1x4x128x256 .f32) (xs : Vec F S4x128x256 .f32) :
    (∀ f, arg7.view.read (Elt F) (arg7.view.writes (Elt F) f (run1_mid c i arg2 harg2 arg3 harg3 arg4 harg4 arg5 harg5 arg6 harg6 arg7 harg7 arg8 harg8 arg9 harg9 arg10 harg10 hc0 hc1 x0 x1 x2 x3 x4 xs).1) = outQK i x0 x1 x2 x3 xs)
      ∧ (∀ f, arg8.view.read (Elt F) (arg8.view.writes (Elt F) f (run1_mid c i arg2 harg2 arg3 harg3 arg4 harg4 arg5 harg5 arg6 harg6 arg7 harg7 arg8 harg8 arg9 harg9 arg10 harg10 hc0 hc1 x0 x1 x2 x3 x4 xs).2.1) = outV i x0 x3 xs)
      ∧ (∀ f, arg10.view.read (Elt F) (arg10.view.writes (Elt F) f (run1_mid c i arg2 harg2 arg3 harg3 arg4 harg4 arg5 harg5 arg6 harg6 arg7 harg7 arg8 harg8 arg9 harg9 arg10 harg10 hc0 hc1 x0 x1 x2 x3 x4 xs).2.2.1) = end1 i x0 x3 xs) := by
  refine ⟨fun f => read_of _ _ _ (fun p hp => ?_) (coverQK i _ ?_ ?_) f, fun f => read_of _ _ _ (fun p hp => ?_) (coverV i _ ?_) f, fun f => ext_hd4 _ _ ?_ ?_ ?_ ?_⟩
  simp only [run1_mid, run1_mid.sl.H8_6, List.mem_cons, List.not_mem_nil, or_false] at hp
  rcases hp with rfl | rfl | rfl | rfl | rfl | rfl | rfl | rfl | rfl | rfl | rfl | rfl | rfl | rfl | rfl | rfl
  refine outK_piece i 1 3 _ (off1_27_1 i) (k1_off27_inb i 1) x0 x1 x2 x3 xs _ shapeCasts_S128x128_S1x128x128 ?_; rotate_left
  refine outQ_piece i 1 3 _ (off1_26_1 i) (k1_off26_inb i 1) x0 x1 x2 x3 xs _ shapeCasts_S128x128_S1x128x128 ?_; rotate_left
  refine outK_piece i 1 2 _ (off1_20_1 i) (k1_off20_inb i 1) x0 x1 x2 x3 xs _ shapeCasts_S128x128_S1x128x128 ?_; rotate_left
  refine outQ_piece i 1 2 _ (off1_19_1 i) (k1_off19_inb i 1) x0 x1 x2 x3 xs _ shapeCasts_S128x128_S1x128x128 ?_; rotate_left
  refine outK_piece i 1 1 _ (off1_13_1 i) (k1_off13_inb i 1) x0 x1 x2 x3 xs _ shapeCasts_S128x128_S1x128x128 ?_; rotate_left
  refine outQ_piece i 1 1 _ (off1_12_1 i) (k1_off12_inb i 1) x0 x1 x2 x3 xs _ shapeCasts_S128x128_S1x128x128 ?_; rotate_left
  refine outK_piece i 1 0 _ (off1_6_1 i) (k1_off6_inb i 1) x0 x1 x2 x3 xs _ shapeCasts_S128x128_S1x128x128 ?_; rotate_left
  refine outQ_piece i 1 0 _ (off1_5_1 i) (k1_off5_inb i 1) x0 x1 x2 x3 xs _ shapeCasts_S128x128_S1x128x128 ?_; rotate_left
  refine outK_piece i 0 3 _ (off1_27_0 i) (k1_off27_inb i 0) x0 x1 x2 x3 xs _ shapeCasts_S128x128_S1x128x128 ?_; rotate_left
  refine outQ_piece i 0 3 _ (off1_26_0 i) (k1_off26_inb i 0) x0 x1 x2 x3 xs _ shapeCasts_S128x128_S1x128x128 ?_; rotate_left
  refine outK_piece i 0 2 _ (off1_20_0 i) (k1_off20_inb i 0) x0 x1 x2 x3 xs _ shapeCasts_S128x128_S1x128x128 ?_; rotate_left
  refine outQ_piece i 0 2 _ (off1_19_0 i) (k1_off19_inb i 0) x0 x1 x2 x3 xs _ shapeCasts_S128x128_S1x128x128 ?_; rotate_left
  refine outK_piece i 0 1 _ (off1_13_0 i) (k1_off13_inb i 0) x0 x1 x2 x3 xs _ shapeCasts_S128x128_S1x128x128 ?_; rotate_left
  refine outQ_piece i 0 1 _ (off1_12_0 i) (k1_off12_inb i 0) x0 x1 x2 x3 xs _ shapeCasts_S128x128_S1x128x128 ?_; rotate_left
  refine outK_piece i 0 0 _ (off1_6_0 i) (k1_off6_inb i 0) x0 x1 x2 x3 xs _ shapeCasts_S128x128_S1x128x128 ?_; rotate_left
  refine outQ_piece i 0 0 _ (off1_5_0 i) (k1_off5_inb i 0) x0 x1 x2 x3 xs _ shapeCasts_S128x128_S1x128x128 ?_; rotate_left
  · intro g h
    simp only [run1_mid, run1_mid.sl.H8_6]
    fin_cases g <;> fin_cases h
    · exact ⟨_, off1_5_0 i, k1_off5_inb i 0, _, List.mem_of_getElem? (i := 15) rfl⟩
    · exact ⟨_, off1_12_0 i, k1_off12_inb i 0, _, List.mem_of_getElem? (i := 13) rfl⟩
    · exact ⟨_, off1_19_0 i, k1_off19_inb i 0, _, List.mem_of_getElem? (i := 11) rfl⟩
    · exact ⟨_, off1_26_0 i, k1_off26_inb i 0, _, List.mem_of_getElem? (i := 9) rfl⟩
    · exact ⟨_, off1_5_1 i, k1_off5_inb i 1, _, List.mem_of_getElem? (i := 7) rfl⟩
    · exact ⟨_, off1_12_1 i, k1_off12_inb i 1, _, List.mem_of_getElem? (i := 5) rfl⟩
    · exact ⟨_, off1_19_1 i, k1_off19_inb i 1, _, List.mem_of_getElem? (i := 3) rfl⟩
    · exact ⟨_, off1_26_1 i, k1_off26_inb i 1, _, List.mem_of_getElem? (i := 1) rfl⟩
  · intro g h
    simp only [run1_mid, run1_mid.sl.H8_6]
    fin_cases g <;> fin_cases h
    · exact ⟨_, off1_6_0 i, k1_off6_inb i 0, _, List.mem_of_getElem? (i := 14) rfl⟩
    · exact ⟨_, off1_13_0 i, k1_off13_inb i 0, _, List.mem_of_getElem? (i := 12) rfl⟩
    · exact ⟨_, off1_20_0 i, k1_off20_inb i 0, _, List.mem_of_getElem? (i := 10) rfl⟩
    · exact ⟨_, off1_27_0 i, k1_off27_inb i 0, _, List.mem_of_getElem? (i := 8) rfl⟩
    · exact ⟨_, off1_6_1 i, k1_off6_inb i 1, _, List.mem_of_getElem? (i := 6) rfl⟩
    · exact ⟨_, off1_13_1 i, k1_off13_inb i 1, _, List.mem_of_getElem? (i := 4) rfl⟩
    · exact ⟨_, off1_20_1 i, k1_off20_inb i 1, _, List.mem_of_getElem? (i := 2) rfl⟩
    · exact ⟨_, off1_27_1 i, k1_off27_inb i 1, _, List.mem_of_getElem? (i := 0) rfl⟩
  simp only [run1_mid, run1_mid.sl.H8_6, List.mem_cons, List.not_mem_nil, or_false] at hp
  rcases hp with rfl | rfl | rfl | rfl | rfl | rfl | rfl | rfl
  refine outV_piece i 1 3 _ (off1_28_1 i) (k1_off28_inb i 1) x0 x3 xs _ shapeCasts_S128x256_S1x128x256 ?_; rotate_left
  refine outV_piece i 1 2 _ (off1_21_1 i) (k1_off21_inb i 1) x0 x3 xs _ shapeCasts_S128x256_S1x128x256 ?_; rotate_left
  refine outV_piece i 1 1 _ (off1_14_1 i) (k1_off14_inb i 1) x0 x3 xs _ shapeCasts_S128x256_S1x128x256 ?_; rotate_left
  refine outV_piece i 1 0 _ (off1_7_1 i) (k1_off7_inb i 1) x0 x3 xs _ shapeCasts_S128x256_S1x128x256 ?_; rotate_left
  refine outV_piece i 0 3 _ (off1_28_0 i) (k1_off28_inb i 0) x0 x3 xs _ shapeCasts_S128x256_S1x128x256 ?_; rotate_left
  refine outV_piece i 0 2 _ (off1_21_0 i) (k1_off21_inb i 0) x0 x3 xs _ shapeCasts_S128x256_S1x128x256 ?_; rotate_left
  refine outV_piece i 0 1 _ (off1_14_0 i) (k1_off14_inb i 0) x0 x3 xs _ shapeCasts_S128x256_S1x128x256 ?_; rotate_left
  refine outV_piece i 0 0 _ (off1_7_0 i) (k1_off7_inb i 0) x0 x3 xs _ shapeCasts_S128x256_S1x128x256 ?_; rotate_left
  · intro g h
    simp only [run1_mid, run1_mid.sl.H8_6]
    fin_cases g <;> fin_cases h
    · exact ⟨_, off1_7_0 i, k1_off7_inb i 0, _, List.mem_of_getElem? (i := 7) rfl⟩
    · exact ⟨_, off1_14_0 i, k1_off14_inb i 0, _, List.mem_of_getElem? (i := 6) rfl⟩
    · exact ⟨_, off1_21_0 i, k1_off21_inb i 0, _, List.mem_of_getElem? (i := 5) rfl⟩
    · exact ⟨_, off1_28_0 i, k1_off28_inb i 0, _, List.mem_of_getElem? (i := 4) rfl⟩
    · exact ⟨_, off1_7_1 i, k1_off7_inb i 1, _, List.mem_of_getElem? (i := 3) rfl⟩
    · exact ⟨_, off1_14_1 i, k1_off14_inb i 1, _, List.mem_of_getElem? (i := 2) rfl⟩
    · exact ⟨_, off1_21_1 i, k1_off21_inb i 1, _, List.mem_of_getElem? (i := 1) rfl⟩
    · exact ⟨_, off1_28_1 i, k1_off28_inb i 1, _, List.mem_of_getElem? (i := 0) rfl⟩
  iterate 4
    simp only [run1_mid]; simp -proj only [run1_mid.sl.H10_4, run1_mid.sl.H10_5, run1_mid.sl.H10_6, run1_mid.sl.H10_7, run1_mid.sl.H8_6]; rw [read_head3 arg10.view f, read_head2 arg10.view f, read_head1 arg10.view f, read_head0 arg10.view f]; rotate_left
  all_goals simp -proj only [end1, run1_mid.sl.H10_4, run1_mid.sl.H10_5, run1_mid.sl.H10_6, run1_mid.sl.H10_7, run1_mid.sl.H8_6, run1_mid.sl.cst_101, run1_mid.sl.cst_129, run1_mid.sl.cst_13, run1_mid.sl.cst_163, run1_mid.sl.cst_164, run1_mid.sl.r, run1_mid.sl.r_1, run1_mid.sl.r_10, run1_mid.sl.r_100, run1_mid.sl.r_101, run1_mid.sl.r_102, run1_mid.sl.r_103, run1_mid.sl.r_104, run1_mid.sl.r_105, run1_mid.sl.r_106, run1_mid.sl.r_107, run1_mid.sl.r_108, run1_mid.sl.r_109, run1_mid.sl.r_11, run1_mid.sl.r_110, run1_mid.sl.r_111, run1_mid.sl.r_112, run1_mid.sl.r_113, run1_mid.sl.r_114, run1_mid.sl.r_115, run1_mid.sl.r_116, run1_mid.sl.r_117, run1_mid.sl.r_118, run1_mid.sl.r_119, run1_mid.sl.r_12, run1_mid.sl.r_120, run1_mid.sl.r_13, run1_mid.sl.r_14, run1_mid.sl.r_15, run1_mid.sl.r_16, run1_mid.sl.r_17, run1_mid.sl.r_18, run1_mid.sl.r_19, run1_mid.sl.r_2, run1_mid.sl.r_20, run1_mid.sl.r_21, run1_mid.sl.r_22, run1_mid.sl.r_23, run1_mid.sl.r_24, run1_mid.sl.r_25, run1_mid.sl.r_26, run1_mid.sl.r_27, run1_mid.sl.r_28, run1_mid.sl.r_29, run1_mid.sl.r_3, run1_mid.sl.r_30, run1_mid.sl.r_31, run1_mid.sl.r_32, run1_mid.sl.r_33, run1_mid.sl.r_34, run1_mid.sl.r_35, run1_mid.sl.r_36, run1_mid.sl.r_37, run1_mid.sl.r_38, run1_mid.sl.r_39, run1_mid.sl.r_4, run1_mid.sl.r_40, run1_mid.sl.r_41, run1_mid.sl.r_42, run1_mid.sl.r_43, run1_mid.sl.r_44, run1_mid.sl.r_45, run1_mid.sl.r_46, run1_mid.sl.r_47, run1_mid.sl.r_48, run1_mid.sl.r_49, run1_mid.sl.r_5, run1_mid.sl.r_50, run1_mid.sl.r_51, run1_mid.sl.r_52, run1_mid.sl.r_53, run1_mid.sl.r_54, run1_mid.sl.r_55, run1_mid.sl.r_56, run1_mid.sl.r_57, run1_mid.sl.r_58, run1_mid.sl.r_59, run1_mid.sl.r_6, run1_mid.sl.r_60, run1_mid.sl.r_61, run1_mid.sl.r_62, run1_mid.sl.r_63, run1_mid.sl.r_64, run1_mid.sl.r_65, run1_mid.sl.r_66, run1_mid.sl.r_67, run1_mid.sl.r_68, run1_mid.sl.r_69, run1_mid.sl.r_7, run1_mid.sl.r_70, run1_mid.sl.r_71, run1_mid.sl.r_72, run1_mid.sl.r_73, run1_mid.sl.r_74, run1_mid.sl.r_75, run1_mid.sl.r_76, run1_mid.sl.r_77, run1_mid.sl.r_78, run1_mid.sl.r_79, run1_mid.sl.r_8, run1_mid.sl.r_80, run1_mid.sl.r_81, run1_mid.sl.r_82, run1_mid.sl.r_83, run1_mid.sl.r_84, run1_mid.sl.r_85, run1_mid.sl.r_86, run1_mid.sl.r_87, run1_mid.sl.r_88, run1_mid.sl.r_89, run1_mid.sl.r_9, run1_mid.sl.r_90, run1_mid.sl.r_91, run1_mid.sl.r_92, run1_mid.sl.r_93, run1_mid.sl.r_94, run1_mid.sl.r_95, run1_mid.sl.r_96, run1_mid.sl.r_97, run1_mid.sl.r_98, run1_mid.sl.r_99, run1_mid.sl.v0, run1_mid.sl.v1, run1_mid.sl.v168, run1_mid.sl.v2, run1_mid.sl.v276, run1_mid.sl.v3, run1_mid.sl.v384, run1_mid.sl.v4, run1_mid.sl.v441, run1_mid.sl.v442, run1_mid.sl.v496, run1_mid.sl.v5, run1_mid.sl.v6, run1_mid.sl.v604, run1_mid.sl.v712, run1_mid.sl.v820, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay160, k1_pay161, k1_pay162, k1_pay163, k1_pay164, k1_pay165, k1_pay166, k1_pay167, k1_pay168, k1_pay169, k1_pay17, k1_pay170, k1_pay171, k1_pay172, k1_pay173, k1_pay174, k1_pay175, k1_pay176, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, cut1_1_0 i c, cut1_2_0 i c, cut1_3_0 i c, cut1_8_0 i c, cut1_9_0 i c, cut1_10_0 i c, cut1_15_0 i c, cut1_16_0 i c, cut1_17_0 i c, cut1_22_0 i c, cut1_23_0 i c, cut1_24_0 i c, cut1_1_1 i c, cut1_2_1 i c, cut1_3_1 i c, cut1_8_1 i c, cut1_9_1 i c, cut1_10_1 i c, cut1_15_1 i c, cut1_16_1 i c, cut1_17_1 i c, cut1_22_1 i c, cut1_23_1 i c, cut1_24_1 i c, sav1_4_0 i c, sav1_11_0 i c, sav1_18_0 i c, sav1_25_0 i c, sav1_4_1 i c, sav1_11_1 i c, sav1_18_1 i c, sav1_25_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st1, step1]
  all_goals rfl

set_option maxHeartbeats 8000000 in
/-- What the body's stores leave, at the last point of a direction. -/
theorem vals1_last (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : ¬cond1_0 i) (hc1 : k1_cond2 i = 1#1)
    (x0 : Vec F S256x1024 .f32) (x1 : Vec F S256x1024 .f32) (x2 : Vec F S1x2x4x128x256 .bf16) (x3 : Vec F S256x1024 .f32) (x4 : Vec F S1x4x128x256 .f32) (xs : Vec F S4x128x256 .f32) :
    (∀ f, arg7.view.read (Elt F) (arg7.view.writes (Elt F) f (run1_last c i arg2 harg2 arg3 harg3 arg4 harg4 arg5 harg5 arg6 harg6 arg7 harg7 arg8 harg8 arg9 harg9 arg10 harg10 hc0 hc1 x0 x1 x2 x3 x4 xs).1) = outQK i x0 x1 x2 x3 xs)
      ∧ (∀ f, arg8.view.read (Elt F) (arg8.view.writes (Elt F) f (run1_last c i arg2 harg2 arg3 harg3 arg4 harg4 arg5 harg5 arg6 harg6 arg7 harg7 arg8 harg8 arg9 harg9 arg10 harg10 hc0 hc1 x0 x1 x2 x3 x4 xs).2.1) = outV i x0 x3 xs)
      ∧ (∀ f, arg9.view.read (Elt F) (arg9.view.writes (Elt F) f (run1_last c i arg2 harg2 arg3 harg3 arg4 harg4 arg5 harg5 arg6 harg6 arg7 harg7 arg8 harg8 arg9 harg9 arg10 harg10 hc0 hc1 x0 x1 x2 x3 x4 xs).2.2.1) = rebd (end1 i x0 x3 xs))
      ∧ (∀ f, arg10.view.read (Elt F) (arg10.view.writes (Elt F) f (run1_last c i arg2 harg2 arg3 harg3 arg4 harg4 arg5 harg5 arg6 harg6 arg7 harg7 arg8 harg8 arg9 harg9 arg10 harg10 hc0 hc1 x0 x1 x2 x3 x4 xs).2.2.2.1) = end1 i x0 x3 xs) := by
  refine ⟨fun f => read_of _ _ _ (fun p hp => ?_) (coverQK i _ ?_ ?_) f, fun f => read_of _ _ _ (fun p hp => ?_) (coverV i _ ?_) f, fun f => ?_, fun f => ext_hd4 _ _ ?_ ?_ ?_ ?_⟩
  simp only [run1_last, run1_last.sl.H8_6, List.mem_cons, List.not_mem_nil, or_false] at hp
  rcases hp with rfl | rfl | rfl | rfl | rfl | rfl | rfl | rfl | rfl | rfl | rfl | rfl | rfl | rfl | rfl | rfl
  refine outK_piece i 1 3 _ (off1_27_1 i) (k1_off27_inb i 1) x0 x1 x2 x3 xs _ shapeCasts_S128x128_S1x128x128 ?_; rotate_left
  refine outQ_piece i 1 3 _ (off1_26_1 i) (k1_off26_inb i 1) x0 x1 x2 x3 xs _ shapeCasts_S128x128_S1x128x128 ?_; rotate_left
  refine outK_piece i 1 2 _ (off1_20_1 i) (k1_off20_inb i 1) x0 x1 x2 x3 xs _ shapeCasts_S128x128_S1x128x128 ?_; rotate_left
  refine outQ_piece i 1 2 _ (off1_19_1 i) (k1_off19_inb i 1) x0 x1 x2 x3 xs _ shapeCasts_S128x128_S1x128x128 ?_; rotate_left
  refine outK_piece i 1 1 _ (off1_13_1 i) (k1_off13_inb i 1) x0 x1 x2 x3 xs _ shapeCasts_S128x128_S1x128x128 ?_; rotate_left
  refine outQ_piece i 1 1 _ (off1_12_1 i) (k1_off12_inb i 1) x0 x1 x2 x3 xs _ shapeCasts_S128x128_S1x128x128 ?_; rotate_left
  refine outK_piece i 1 0 _ (off1_6_1 i) (k1_off6_inb i 1) x0 x1 x2 x3 xs _ shapeCasts_S128x128_S1x128x128 ?_; rotate_left
  refine outQ_piece i 1 0 _ (off1_5_1 i) (k1_off5_inb i 1) x0 x1 x2 x3 xs _ shapeCasts_S128x128_S1x128x128 ?_; rotate_left
  refine outK_piece i 0 3 _ (off1_27_0 i) (k1_off27_inb i 0) x0 x1 x2 x3 xs _ shapeCasts_S128x128_S1x128x128 ?_; rotate_left
  refine outQ_piece i 0 3 _ (off1_26_0 i) (k1_off26_inb i 0) x0 x1 x2 x3 xs _ shapeCasts_S128x128_S1x128x128 ?_; rotate_left
  refine outK_piece i 0 2 _ (off1_20_0 i) (k1_off20_inb i 0) x0 x1 x2 x3 xs _ shapeCasts_S128x128_S1x128x128 ?_; rotate_left
  refine outQ_piece i 0 2 _ (off1_19_0 i) (k1_off19_inb i 0) x0 x1 x2 x3 xs _ shapeCasts_S128x128_S1x128x128 ?_; rotate_left
  refine outK_piece i 0 1 _ (off1_13_0 i) (k1_off13_inb i 0) x0 x1 x2 x3 xs _ shapeCasts_S128x128_S1x128x128 ?_; rotate_left
  refine outQ_piece i 0 1 _ (off1_12_0 i) (k1_off12_inb i 0) x0 x1 x2 x3 xs _ shapeCasts_S128x128_S1x128x128 ?_; rotate_left
  refine outK_piece i 0 0 _ (off1_6_0 i) (k1_off6_inb i 0) x0 x1 x2 x3 xs _ shapeCasts_S128x128_S1x128x128 ?_; rotate_left
  refine outQ_piece i 0 0 _ (off1_5_0 i) (k1_off5_inb i 0) x0 x1 x2 x3 xs _ shapeCasts_S128x128_S1x128x128 ?_; rotate_left
  · intro g h
    simp only [run1_last, run1_last.sl.H8_6]
    fin_cases g <;> fin_cases h
    · exact ⟨_, off1_5_0 i, k1_off5_inb i 0, _, List.mem_of_getElem? (i := 15) rfl⟩
    · exact ⟨_, off1_12_0 i, k1_off12_inb i 0, _, List.mem_of_getElem? (i := 13) rfl⟩
    · exact ⟨_, off1_19_0 i, k1_off19_inb i 0, _, List.mem_of_getElem? (i := 11) rfl⟩
    · exact ⟨_, off1_26_0 i, k1_off26_inb i 0, _, List.mem_of_getElem? (i := 9) rfl⟩
    · exact ⟨_, off1_5_1 i, k1_off5_inb i 1, _, List.mem_of_getElem? (i := 7) rfl⟩
    · exact ⟨_, off1_12_1 i, k1_off12_inb i 1, _, List.mem_of_getElem? (i := 5) rfl⟩
    · exact ⟨_, off1_19_1 i, k1_off19_inb i 1, _, List.mem_of_getElem? (i := 3) rfl⟩
    · exact ⟨_, off1_26_1 i, k1_off26_inb i 1, _, List.mem_of_getElem? (i := 1) rfl⟩
  · intro g h
    simp only [run1_last, run1_last.sl.H8_6]
    fin_cases g <;> fin_cases h
    · exact ⟨_, off1_6_0 i, k1_off6_inb i 0, _, List.mem_of_getElem? (i := 14) rfl⟩
    · exact ⟨_, off1_13_0 i, k1_off13_inb i 0, _, List.mem_of_getElem? (i := 12) rfl⟩
    · exact ⟨_, off1_20_0 i, k1_off20_inb i 0, _, List.mem_of_getElem? (i := 10) rfl⟩
    · exact ⟨_, off1_27_0 i, k1_off27_inb i 0, _, List.mem_of_getElem? (i := 8) rfl⟩
    · exact ⟨_, off1_6_1 i, k1_off6_inb i 1, _, List.mem_of_getElem? (i := 6) rfl⟩
    · exact ⟨_, off1_13_1 i, k1_off13_inb i 1, _, List.mem_of_getElem? (i := 4) rfl⟩
    · exact ⟨_, off1_20_1 i, k1_off20_inb i 1, _, List.mem_of_getElem? (i := 2) rfl⟩
    · exact ⟨_, off1_27_1 i, k1_off27_inb i 1, _, List.mem_of_getElem? (i := 0) rfl⟩
  simp only [run1_last, run1_last.sl.H8_6, List.mem_cons, List.not_mem_nil, or_false] at hp
  rcases hp with rfl | rfl | rfl | rfl | rfl | rfl | rfl | rfl
  refine outV_piece i 1 3 _ (off1_28_1 i) (k1_off28_inb i 1) x0 x3 xs _ shapeCasts_S128x256_S1x128x256 ?_; rotate_left
  refine outV_piece i 1 2 _ (off1_21_1 i) (k1_off21_inb i 1) x0 x3 xs _ shapeCasts_S128x256_S1x128x256 ?_; rotate_left
  refine outV_piece i 1 1 _ (off1_14_1 i) (k1_off14_inb i 1) x0 x3 xs _ shapeCasts_S128x256_S1x128x256 ?_; rotate_left
  refine outV_piece i 1 0 _ (off1_7_1 i) (k1_off7_inb i 1) x0 x3 xs _ shapeCasts_S128x256_S1x128x256 ?_; rotate_left
  refine outV_piece i 0 3 _ (off1_28_0 i) (k1_off28_inb i 0) x0 x3 xs _ shapeCasts_S128x256_S1x128x256 ?_; rotate_left
  refine outV_piece i 0 2 _ (off1_21_0 i) (k1_off21_inb i 0) x0 x3 xs _ shapeCasts_S128x256_S1x128x256 ?_; rotate_left
  refine outV_piece i 0 1 _ (off1_14_0 i) (k1_off14_inb i 0) x0 x3 xs _ shapeCasts_S128x256_S1x128x256 ?_; rotate_left
  refine outV_piece i 0 0 _ (off1_7_0 i) (k1_off7_inb i 0) x0 x3 xs _ shapeCasts_S128x256_S1x128x256 ?_; rotate_left
  · intro g h
    simp only [run1_last, run1_last.sl.H8_6]
    fin_cases g <;> fin_cases h
    · exact ⟨_, off1_7_0 i, k1_off7_inb i 0, _, List.mem_of_getElem? (i := 7) rfl⟩
    · exact ⟨_, off1_14_0 i, k1_off14_inb i 0, _, List.mem_of_getElem? (i := 6) rfl⟩
    · exact ⟨_, off1_21_0 i, k1_off21_inb i 0, _, List.mem_of_getElem? (i := 5) rfl⟩
    · exact ⟨_, off1_28_0 i, k1_off28_inb i 0, _, List.mem_of_getElem? (i := 4) rfl⟩
    · exact ⟨_, off1_7_1 i, k1_off7_inb i 1, _, List.mem_of_getElem? (i := 3) rfl⟩
    · exact ⟨_, off1_14_1 i, k1_off14_inb i 1, _, List.mem_of_getElem? (i := 2) rfl⟩
    · exact ⟨_, off1_21_1 i, k1_off21_inb i 1, _, List.mem_of_getElem? (i := 1) rfl⟩
    · exact ⟨_, off1_28_1 i, k1_off28_inb i 1, _, List.mem_of_getElem? (i := 0) rfl⟩
  simp only [run1_last]
  refine (read_rebd' _ f inb_S1x4x128x256_S1x4x128x256_0_0_0_0 _ shapeCasts_S4x128x256_S1x4x128x256).trans (congrArg rebd (ext_hd4 _ _ ?_ ?_ ?_ ?_))
  iterate 4 rotate_left
  iterate 4
    simp only [run1_last]; simp -proj only [run1_last.sl.H10_4, run1_last.sl.H10_5, run1_last.sl.H10_6, run1_last.sl.H10_7, run1_last.sl.H10_8, run1_last.sl.H8_6]; rw [read_head3 arg10.view f, read_head2 arg10.view f, read_head1 arg10.view f, read_head0 arg10.view f]; rotate_left
  all_goals simp -proj only [end1, run1_last.sl.H10_4, run1_last.sl.H10_5, run1_last.sl.H10_6, run1_last.sl.H10_7, run1_last.sl.H10_8, run1_last.sl.H8_6, run1_last.sl.cst_101, run1_last.sl.cst_129, run1_last.sl.cst_13, run1_last.sl.cst_163, run1_last.sl.cst_164, run1_last.sl.r, run1_last.sl.r_1, run1_last.sl.r_10, run1_last.sl.r_100, run1_last.sl.r_101, run1_last.sl.r_102, run1_last.sl.r_103, run1_last.sl.r_104, run1_last.sl.r_105, run1_last.sl.r_106, run1_last.sl.r_107, run1_last.sl.r_108, run1_last.sl.r_109, run1_last.sl.r_11, run1_last.sl.r_110, run1_last.sl.r_111, run1_last.sl.r_112, run1_last.sl.r_113, run1_last.sl.r_114, run1_last.sl.r_115, run1_last.sl.r_116, run1_last.sl.r_117, run1_last.sl.r_118, run1_last.sl.r_119, run1_last.sl.r_12, run1_last.sl.r_120, run1_last.sl.r_13, run1_last.sl.r_14, run1_last.sl.r_15, run1_last.sl.r_16, run1_last.sl.r_17, run1_last.sl.r_18, run1_last.sl.r_19, run1_last.sl.r_2, run1_last.sl.r_20, run1_last.sl.r_21, run1_last.sl.r_22, run1_last.sl.r_23, run1_last.sl.r_24, run1_last.sl.r_25, run1_last.sl.r_26, run1_last.sl.r_27, run1_last.sl.r_28, run1_last.sl.r_29, run1_last.sl.r_3, run1_last.sl.r_30, run1_last.sl.r_31, run1_last.sl.r_32, run1_last.sl.r_33, run1_last.sl.r_34, run1_last.sl.r_35, run1_last.sl.r_36, run1_last.sl.r_37, run1_last.sl.r_38, run1_last.sl.r_39, run1_last.sl.r_4, run1_last.sl.r_40, run1_last.sl.r_41, run1_last.sl.r_42, run1_last.sl.r_43, run1_last.sl.r_44, run1_last.sl.r_45, run1_last.sl.r_46, run1_last.sl.r_47, run1_last.sl.r_48, run1_last.sl.r_49, run1_last.sl.r_5, run1_last.sl.r_50, run1_last.sl.r_51, run1_last.sl.r_52, run1_last.sl.r_53, run1_last.sl.r_54, run1_last.sl.r_55, run1_last.sl.r_56, run1_last.sl.r_57, run1_last.sl.r_58, run1_last.sl.r_59, run1_last.sl.r_6, run1_last.sl.r_60, run1_last.sl.r_61, run1_last.sl.r_62, run1_last.sl.r_63, run1_last.sl.r_64, run1_last.sl.r_65, run1_last.sl.r_66, run1_last.sl.r_67, run1_last.sl.r_68, run1_last.sl.r_69, run1_last.sl.r_7, run1_last.sl.r_70, run1_last.sl.r_71, run1_last.sl.r_72, run1_last.sl.r_73, run1_last.sl.r_74, run1_last.sl.r_75, run1_last.sl.r_76, run1_last.sl.r_77, run1_last.sl.r_78, run1_last.sl.r_79, run1_last.sl.r_8, run1_last.sl.r_80, run1_last.sl.r_81, run1_last.sl.r_82, run1_last.sl.r_83, run1_last.sl.r_84, run1_last.sl.r_85, run1_last.sl.r_86, run1_last.sl.r_87, run1_last.sl.r_88, run1_last.sl.r_89, run1_last.sl.r_9, run1_last.sl.r_90, run1_last.sl.r_91, run1_last.sl.r_92, run1_last.sl.r_93, run1_last.sl.r_94, run1_last.sl.r_95, run1_last.sl.r_96, run1_last.sl.r_97, run1_last.sl.r_98, run1_last.sl.r_99, run1_last.sl.v0, run1_last.sl.v1, run1_last.sl.v168, run1_last.sl.v2, run1_last.sl.v276, run1_last.sl.v3, run1_last.sl.v384, run1_last.sl.v4, run1_last.sl.v441, run1_last.sl.v442, run1_last.sl.v496, run1_last.sl.v5, run1_last.sl.v6, run1_last.sl.v604, run1_last.sl.v712, run1_last.sl.v820, run1_last.sl.v879, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay160, k1_pay161, k1_pay162, k1_pay163, k1_pay164, k1_pay165, k1_pay166, k1_pay167, k1_pay168, k1_pay169, k1_pay17, k1_pay170, k1_pay171, k1_pay172, k1_pay173, k1_pay174, k1_pay175, k1_pay176, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, cut1_1_0 i c, cut1_2_0 i c, cut1_3_0 i c, cut1_8_0 i c, cut1_9_0 i c, cut1_10_0 i c, cut1_15_0 i c, cut1_16_0 i c, cut1_17_0 i c, cut1_22_0 i c, cut1_23_0 i c, cut1_24_0 i c, cut1_1_1 i c, cut1_2_1 i c, cut1_3_1 i c, cut1_8_1 i c, cut1_9_1 i c, cut1_10_1 i c, cut1_15_1 i c, cut1_16_1 i c, cut1_17_1 i c, cut1_22_1 i c, cut1_23_1 i c, cut1_24_1 i c, sav1_4_0 i c, sav1_11_0 i c, sav1_18_0 i c, sav1_25_0 i c, sav1_4_1 i c, sav1_11_1 i c, sav1_18_1 i c, sav1_25_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st1, step1]
  all_goals rfl

end Cert.Kernel.Ret

end
-- ==== Proof.Offsets.lean ====
/- The offsets of the windows' rows that the two bodies compute from the direction, in closed form: a grid
   point's block holds two chunks of 128 rows, visited in one order in the first direction and in the
   other order in the second. -/
module

public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

theorem off0_1_0 : ∀ i : grid0.Coords, k0_off1 i 0#32 1#32 = ![0, (i 0).val, 0, 0, 0] := by decide +kernel
instance (i : grid0.Coords) : ClosedOff (k0_off1 i 0#32 1#32) := ⟨![0, (i 0).val, 0, 0, 0], off0_1_0 i⟩
theorem off0_2_0 : ∀ i : grid0.Coords, k0_off2 i 0#32 1#32 = ![128 * (i 0).val, 0] := by decide +kernel
instance (i : grid0.Coords) : ClosedOff (k0_off2 i 0#32 1#32) := ⟨![128 * (i 0).val, 0], off0_2_0 i⟩
theorem off0_3_0 : ∀ i : grid0.Coords, k0_off3 i 0#32 1#32 = ![128 * (i 0).val, 512] := by decide +kernel
instance (i : grid0.Coords) : ClosedOff (k0_off3 i 0#32 1#32) := ⟨![128 * (i 0).val, 512], off0_3_0 i⟩
theorem off0_4_0 : ∀ i : grid0.Coords, k0_off4 i 0#32 1#32 = ![128 * (i 0).val, 0] := by decide +kernel
instance (i : grid0.Coords) : ClosedOff (k0_off4 i 0#32 1#32) := ⟨![128 * (i 0).val, 0], off0_4_0 i⟩
theorem off0_5_0 : ∀ i : grid0.Coords, k0_off5 i 0#32 1#32 = ![0, 128 * (i 0).val, 0] := by decide +kernel
instance (i : grid0.Coords) : ClosedOff (k0_off5 i 0#32 1#32) := ⟨![0, 128 * (i 0).val, 0], off0_5_0 i⟩
theorem off0_6_0 : ∀ i : grid0.Coords, k0_off6 i 0#32 1#32 = ![128 * (i 0).val, 128] := by decide +kernel
instance (i : grid0.Coords) : ClosedOff (k0_off6 i 0#32 1#32) := ⟨![128 * (i 0).val, 128], off0_6_0 i⟩
theorem off0_7_0 : ∀ i : grid0.Coords, k0_off7 i 0#32 1#32 = ![128 * (i 0).val, 640] := by decide +kernel
instance (i : grid0.Coords) : ClosedOff (k0_off7 i 0#32 1#32) := ⟨![128 * (i 0).val, 640], off0_7_0 i⟩
theorem off0_8_0 : ∀ i : grid0.Coords, k0_off8 i 0#32 1#32 = ![128 * (i 0).val, 256] := by decide +kernel
instance (i : grid0.Coords) : ClosedOff (k0_off8 i 0#32 1#32) := ⟨![128 * (i 0).val, 256], off0_8_0 i⟩
theorem off0_9_0 : ∀ i : grid0.Coords, k0_off9 i 0#32 1#32 = ![0, 128 * (i 0).val, 256] := by decide +kernel
instance (i : grid0.Coords) : ClosedOff (k0_off9 i 0#32 1#32) := ⟨![0, 128 * (i 0).val, 256], off0_9_0 i⟩
theorem off0_10_0 : ∀ i : grid0.Coords, k0_off10 i 0#32 1#32 = ![128 * (i 0).val, 256] := by decide +kernel
instance (i : grid0.Coords) : ClosedOff (k0_off10 i 0#32 1#32) := ⟨![128 * (i 0).val, 256], off0_10_0 i⟩
theorem off0_11_0 : ∀ i : grid0.Coords, k0_off11 i 0#32 1#32 = ![128 * (i 0).val, 768] := by decide +kernel
instance (i : grid0.Coords) : ClosedOff (k0_off11 i 0#32 1#32) := ⟨![128 * (i 0).val, 768], off0_11_0 i⟩
theorem off0_12_0 : ∀ i : grid0.Coords, k0_off12 i 0#32 1#32 = ![128 * (i 0).val, 512] := by decide +kernel
instance (i : grid0.Coords) : ClosedOff (k0_off12 i 0#32 1#32) := ⟨![128 * (i 0).val, 512], off0_12_0 i⟩
theorem off0_13_0 : ∀ i : grid0.Coords, k0_off13 i 0#32 1#32 = ![0, 128 * (i 0).val, 512] := by decide +kernel
instance (i : grid0.Coords) : ClosedOff (k0_off13 i 0#32 1#32) := ⟨![0, 128 * (i 0).val, 512], off0_13_0 i⟩
theorem off0_14_0 : ∀ i : grid0.Coords, k0_off14 i 0#32 1#32 = ![128 * (i 0).val, 384] := by decide +kernel
instance (i : grid0.Coords) : ClosedOff (k0_off14 i 0#32 1#32) := ⟨![128 * (i 0).val, 384], off0_14_0 i⟩
theorem off0_15_0 : ∀ i : grid0.Coords, k0_off15 i 0#32 1#32 = ![128 * (i 0).val, 896] := by decide +kernel
instance (i : grid0.Coords) : ClosedOff (k0_off15 i 0#32 1#32) := ⟨![128 * (i 0).val, 896], off0_15_0 i⟩
theorem off0_16_0 : ∀ i : grid0.Coords, k0_off16 i 0#32 1#32 = ![128 * (i 0).val, 768] := by decide +kernel
instance (i : grid0.Coords) : ClosedOff (k0_off16 i 0#32 1#32) := ⟨![128 * (i 0).val, 768], off0_16_0 i⟩
theorem off0_17_0 : ∀ i : grid0.Coords, k0_off17 i 0#32 1#32 = ![0, 128 * (i 0).val, 768] := by decide +kernel
instance (i : grid0.Coords) : ClosedOff (k0_off17 i 0#32 1#32) := ⟨![0, 128 * (i 0).val, 768], off0_17_0 i⟩
theorem off0_1_1 : ∀ i : grid0.Coords, k0_off1 i 1#32 0#32 = ![0, 1 - (i 0).val, 0, 0, 0] := by decide +kernel
instance (i : grid0.Coords) : ClosedOff (k0_off1 i 1#32 0#32) := ⟨![0, 1 - (i 0).val, 0, 0, 0], off0_1_1 i⟩
theorem off0_2_1 : ∀ i : grid0.Coords, k0_off2 i 1#32 0#32 = ![128 - 128 * (i 0).val, 0] := by decide +kernel
instance (i : grid0.Coords) : ClosedOff (k0_off2 i 1#32 0#32) := ⟨![128 - 128 * (i 0).val, 0], off0_2_1 i⟩
theorem off0_3_1 : ∀ i : grid0.Coords, k0_off3 i 1#32 0#32 = ![128 - 128 * (i 0).val, 512] := by decide +kernel
instance (i : grid0.Coords) : ClosedOff (k0_off3 i 1#32 0#32) := ⟨![128 - 128 * (i 0).val, 512], off0_3_1 i⟩
theorem off0_4_1 : ∀ i : grid0.Coords, k0_off4 i 1#32 0#32 = ![128 - 128 * (i 0).val, 0] := by decide +kernel
instance (i : grid0.Coords) : ClosedOff (k0_off4 i 1#32 0#32) := ⟨![128 - 128 * (i 0).val, 0], off0_4_1 i⟩
theorem off0_5_1 : ∀ i : grid0.Coords, k0_off5 i 1#32 0#32 = ![0, 128 - 128 * (i 0).val, 0] := by decide +kernel
instance (i : grid0.Coords) : ClosedOff (k0_off5 i 1#32 0#32) := ⟨![0, 128 - 128 * (i 0).val, 0], off0_5_1 i⟩
theorem off0_6_1 : ∀ i : grid0.Coords, k0_off6 i 1#32 0#32 = ![128 - 128 * (i 0).val, 128] := by decide +kernel
instance (i : grid0.Coords) : ClosedOff (k0_off6 i 1#32 0#32) := ⟨![128 - 128 * (i 0).val, 128], off0_6_1 i⟩
theorem off0_7_1 : ∀ i : grid0.Coords, k0_off7 i 1#32 0#32 = ![128 - 128 * (i 0).val, 640] := by decide +kernel
instance (i : grid0.Coords) : ClosedOff (k0_off7 i 1#32 0#32) := ⟨![128 - 128 * (i 0).val, 640], off0_7_1 i⟩
theorem off0_8_1 : ∀ i : grid0.Coords, k0_off8 i 1#32 0#32 = ![128 - 128 * (i 0).val, 256] := by decide +kernel
instance (i : grid0.Coords) : ClosedOff (k0_off8 i 1#32 0#32) := ⟨![128 - 128 * (i 0).val, 256], off0_8_1 i⟩
theorem off0_9_1 : ∀ i : grid0.Coords, k0_off9 i 1#32 0#32 = ![0, 128 - 128 * (i 0).val, 256] := by decide +kernel
instance (i : grid0.Coords) : ClosedOff (k0_off9 i 1#32 0#32) := ⟨![0, 128 - 128 * (i 0).val, 256], off0_9_1 i⟩
theorem off0_10_1 : ∀ i : grid0.Coords, k0_off10 i 1#32 0#32 = ![128 - 128 * (i 0).val, 256] := by decide +kernel
instance (i : grid0.Coords) : ClosedOff (k0_off10 i 1#32 0#32) := ⟨![128 - 128 * (i 0).val, 256], off0_10_1 i⟩
theorem off0_11_1 : ∀ i : grid0.Coords, k0_off11 i 1#32 0#32 = ![128 - 128 * (i 0).val, 768] := by decide +kernel
instance (i : grid0.Coords) : ClosedOff (k0_off11 i 1#32 0#32) := ⟨![128 - 128 * (i 0).val, 768], off0_11_1 i⟩
theorem off0_12_1 : ∀ i : grid0.Coords, k0_off12 i 1#32 0#32 = ![128 - 128 * (i 0).val, 512] := by decide +kernel
instance (i : grid0.Coords) : ClosedOff (k0_off12 i 1#32 0#32) := ⟨![128 - 128 * (i 0).val, 512], off0_12_1 i⟩
theorem off0_13_1 : ∀ i : grid0.Coords, k0_off13 i 1#32 0#32 = ![0, 128 - 128 * (i 0).val, 512] := by decide +kernel
instance (i : grid0.Coords) : ClosedOff (k0_off13 i 1#32 0#32) := ⟨![0, 128 - 128 * (i 0).val, 512], off0_13_1 i⟩
theorem off0_14_1 : ∀ i : grid0.Coords, k0_off14 i 1#32 0#32 = ![128 - 128 * (i 0).val, 384] := by decide +kernel
instance (i : grid0.Coords) : ClosedOff (k0_off14 i 1#32 0#32) := ⟨![128 - 128 * (i 0).val, 384], off0_14_1 i⟩
theorem off0_15_1 : ∀ i : grid0.Coords, k0_off15 i 1#32 0#32 = ![128 - 128 * (i 0).val, 896] := by decide +kernel
instance (i : grid0.Coords) : ClosedOff (k0_off15 i 1#32 0#32) := ⟨![128 - 128 * (i 0).val, 896], off0_15_1 i⟩
theorem off0_16_1 : ∀ i : grid0.Coords, k0_off16 i 1#32 0#32 = ![128 - 128 * (i 0).val, 768] := by decide +kernel
instance (i : grid0.Coords) : ClosedOff (k0_off16 i 1#32 0#32) := ⟨![128 - 128 * (i 0).val, 768], off0_16_1 i⟩
theorem off0_17_1 : ∀ i : grid0.Coords, k0_off17 i 1#32 0#32 = ![0, 128 - 128 * (i 0).val, 768] := by decide +kernel
instance (i : grid0.Coords) : ClosedOff (k0_off17 i 1#32 0#32) := ⟨![0, 128 - 128 * (i 0).val, 768], off0_17_1 i⟩
theorem off1_1_0 : ∀ i : grid1.Coords, k1_off1 i 1#32 0#32 = ![128 - 128 * (i 0).val, 0] := by decide +kernel
instance (i : grid1.Coords) : ClosedOff (k1_off1 i 1#32 0#32) := ⟨![128 - 128 * (i 0).val, 0], off1_1_0 i⟩
theorem off1_2_0 : ∀ i : grid1.Coords, k1_off2 i 1#32 0#32 = ![128 - 128 * (i 0).val, 512] := by decide +kernel
instance (i : grid1.Coords) : ClosedOff (k1_off2 i 1#32 0#32) := ⟨![128 - 128 * (i 0).val, 512], off1_2_0 i⟩
theorem off1_3_0 : ∀ i : grid1.Coords, k1_off3 i 1#32 0#32 = ![128 - 128 * (i 0).val, 0] := by decide +kernel
instance (i : grid1.Coords) : ClosedOff (k1_off3 i 1#32 0#32) := ⟨![128 - 128 * (i 0).val, 0], off1_3_0 i⟩
theorem off1_4_0 : ∀ i : grid1.Coords, k1_off4 i 1#32 0#32 = ![0, 1 - (i 0).val, 0, 0, 0] := by decide +kernel
instance (i : grid1.Coords) : ClosedOff (k1_off4 i 1#32 0#32) := ⟨![0, 1 - (i 0).val, 0, 0, 0], off1_4_0 i⟩
theorem off1_5_0 : ∀ i : grid1.Coords, k1_off5 i 1#32 0#32 = ![0, 128 - 128 * (i 0).val, 0] := by decide +kernel
instance (i : grid1.Coords) : ClosedOff (k1_off5 i 1#32 0#32) := ⟨![0, 128 - 128 * (i 0).val, 0], off1_5_0 i⟩
theorem off1_6_0 : ∀ i : grid1.Coords, k1_off6 i 1#32 0#32 = ![0, 128 - 128 * (i 0).val, 512] := by decide +kernel
instance (i : grid1.Coords) : ClosedOff (k1_off6 i 1#32 0#32) := ⟨![0, 128 - 128 * (i 0).val, 512], off1_6_0 i⟩
theorem off1_7_0 : ∀ i : grid1.Coords, k1_off7 i 1#32 0#32 = ![0, 128 - 128 * (i 0).val, 0] := by decide +kernel
instance (i : grid1.Coords) : ClosedOff (k1_off7 i 1#32 0#32) := ⟨![0, 128 - 128 * (i 0).val, 0], off1_7_0 i⟩
theorem off1_8_0 : ∀ i : grid1.Coords, k1_off8 i 1#32 0#32 = ![128 - 128 * (i 0).val, 128] := by decide +kernel
instance (i : grid1.Coords) : ClosedOff (k1_off8 i 1#32 0#32) := ⟨![128 - 128 * (i 0).val, 128], off1_8_0 i⟩
theorem off1_9_0 : ∀ i : grid1.Coords, k1_off9 i 1#32 0#32 = ![128 - 128 * (i 0).val, 640] := by decide +kernel
instance (i : grid1.Coords) : ClosedOff (k1_off9 i 1#32 0#32) := ⟨![128 - 128 * (i 0).val, 640], off1_9_0 i⟩
theorem off1_10_0 : ∀ i : grid1.Coords, k1_off10 i 1#32 0#32 = ![128 - 128 * (i 0).val, 256] := by decide +kernel
instance (i : grid1.Coords) : ClosedOff (k1_off10 i 1#32 0#32) := ⟨![128 - 128 * (i 0).val, 256], off1_10_0 i⟩
theorem off1_11_0 : ∀ i : grid1.Coords, k1_off11 i 1#32 0#32 = ![0, 1 - (i 0).val, 1, 0, 0] := by decide +kernel
instance (i : grid1.Coords) : ClosedOff (k1_off11 i 1#32 0#32) := ⟨![0, 1 - (i 0).val, 1, 0, 0], off1_11_0 i⟩
theorem off1_12_0 : ∀ i : grid1.Coords, k1_off12 i 1#32 0#32 = ![0, 128 - 128 * (i 0).val, 128] := by decide +kernel
instance (i : grid1.Coords) : ClosedOff (k1_off12 i 1#32 0#32) := ⟨![0, 128 - 128 * (i 0).val, 128], off1_12_0 i⟩
theorem off1_13_0 : ∀ i : grid1.Coords, k1_off13 i 1#32 0#32 = ![0, 128 - 128 * (i 0).val, 640] := by decide +kernel
instance (i : grid1.Coords) : ClosedOff (k1_off13 i 1#32 0#32) := ⟨![0, 128 - 128 * (i 0).val, 640], off1_13_0 i⟩
theorem off1_14_0 : ∀ i : grid1.Coords, k1_off14 i 1#32 0#32 = ![0, 128 - 128 * (i 0).val, 256] := by decide +kernel
instance (i : grid1.Coords) : ClosedOff (k1_off14 i 1#32 0#32) := ⟨![0, 128 - 128 * (i 0).val, 256], off1_14_0 i⟩
theorem off1_15_0 : ∀ i : grid1.Coords, k1_off15 i 1#32 0#32 = ![128 - 128 * (i 0).val, 256] := by decide +kernel
instance (i : grid1.Coords) : ClosedOff (k1_off15 i 1#32 0#32) := ⟨![128 - 128 * (i 0).val, 256], off1_15_0 i⟩
theorem off1_16_0 : ∀ i : grid1.Coords, k1_off16 i 1#32 0#32 = ![128 - 128 * (i 0).val, 768] := by decide +kernel
instance (i : grid1.Coords) : ClosedOff (k1_off16 i 1#32 0#32) := ⟨![128 - 128 * (i 0).val, 768], off1_16_0 i⟩
theorem off1_17_0 : ∀ i : grid1.Coords, k1_off17 i 1#32 0#32 = ![128 - 128 * (i 0).val, 512] := by decide +kernel
instance (i : grid1.Coords) : ClosedOff (k1_off17 i 1#32 0#32) := ⟨![128 - 128 * (i 0).val, 512], off1_17_0 i⟩
theorem off1_18_0 : ∀ i : grid1.Coords, k1_off18 i 1#32 0#32 = ![0, 1 - (i 0).val, 2, 0, 0] := by decide +kernel
instance (i : grid1.Coords) : ClosedOff (k1_off18 i 1#32 0#32) := ⟨![0, 1 - (i 0).val, 2, 0, 0], off1_18_0 i⟩
theorem off1_19_0 : ∀ i : grid1.Coords, k1_off19 i 1#32 0#32 = ![0, 128 - 128 * (i 0).val, 256] := by decide +kernel
instance (i : grid1.Coords) : ClosedOff (k1_off19 i 1#32 0#32) := ⟨![0, 128 - 128 * (i 0).val, 256], off1_19_0 i⟩
theorem off1_20_0 : ∀ i : grid1.Coords, k1_off20 i 1#32 0#32 = ![0, 128 - 128 * (i 0).val, 768] := by decide +kernel
instance (i : grid1.Coords) : ClosedOff (k1_off20 i 1#32 0#32) := ⟨![0, 128 - 128 * (i 0).val, 768], off1_20_0 i⟩
theorem off1_21_0 : ∀ i : grid1.Coords, k1_off21 i 1#32 0#32 = ![0, 128 - 128 * (i 0).val, 512] := by decide +kernel
instance (i : grid1.Coords) : ClosedOff (k1_off21 i 1#32 0#32) := ⟨![0, 128 - 128 * (i 0).val, 512], off1_21_0 i⟩
theorem off1_22_0 : ∀ i : grid1.Coords, k1_off22 i 1#32 0#32 = ![128 - 128 * (i 0).val, 384] := by decide +kernel
instance (i : grid1.Coords) : ClosedOff (k1_off22 i 1#32 0#32) := ⟨![128 - 128 * (i 0).val, 384], off1_22_0 i⟩
theorem off1_23_0 : ∀ i : grid1.Coords, k1_off23 i 1#32 0#32 = ![128 - 128 * (i 0).val, 896] := by decide +kernel
instance (i : grid1.Coords) : ClosedOff (k1_off23 i 1#32 0#32) := ⟨![128 - 128 * (i 0).val, 896], off1_23_0 i⟩
theorem off1_24_0 : ∀ i : grid1.Coords, k1_off24 i 1#32 0#32 = ![128 - 128 * (i 0).val, 768] := by decide +kernel
instance (i : grid1.Coords) : ClosedOff (k1_off24 i 1#32 0#32) := ⟨![128 - 128 * (i 0).val, 768], off1_24_0 i⟩
theorem off1_25_0 : ∀ i : grid1.Coords, k1_off25 i 1#32 0#32 = ![0, 1 - (i 0).val, 3, 0, 0] := by decide +kernel
instance (i : grid1.Coords) : ClosedOff (k1_off25 i 1#32 0#32) := ⟨![0, 1 - (i 0).val, 3, 0, 0], off1_25_0 i⟩
theorem off1_26_0 : ∀ i : grid1.Coords, k1_off26 i 1#32 0#32 = ![0, 128 - 128 * (i 0).val, 384] := by decide +kernel
instance (i : grid1.Coords) : ClosedOff (k1_off26 i 1#32 0#32) := ⟨![0, 128 - 128 * (i 0).val, 384], off1_26_0 i⟩
theorem off1_27_0 : ∀ i : grid1.Coords, k1_off27 i 1#32 0#32 = ![0, 128 - 128 * (i 0).val, 896] := by decide +kernel
instance (i : grid1.Coords) : ClosedOff (k1_off27 i 1#32 0#32) := ⟨![0, 128 - 128 * (i 0).val, 896], off1_27_0 i⟩
theorem off1_28_0 : ∀ i : grid1.Coords, k1_off28 i 1#32 0#32 = ![0, 128 - 128 * (i 0).val, 768] := by decide +kernel
instance (i : grid1.Coords) : ClosedOff (k1_off28 i 1#32 0#32) := ⟨![0, 128 - 128 * (i 0).val, 768], off1_28_0 i⟩
theorem off1_1_1 : ∀ i : grid1.Coords, k1_off1 i 0#32 1#32 = ![128 * (i 0).val, 0] := by decide +kernel
instance (i : grid1.Coords) : ClosedOff (k1_off1 i 0#32 1#32) := ⟨![128 * (i 0).val, 0], off1_1_1 i⟩
theorem off1_2_1 : ∀ i : grid1.Coords, k1_off2 i 0#32 1#32 = ![128 * (i 0).val, 512] := by decide +kernel
instance (i : grid1.Coords) : ClosedOff (k1_off2 i 0#32 1#32) := ⟨![128 * (i 0).val, 512], off1_2_1 i⟩
theorem off1_3_1 : ∀ i : grid1.Coords, k1_off3 i 0#32 1#32 = ![128 * (i 0).val, 0] := by decide +kernel
instance (i : grid1.Coords) : ClosedOff (k1_off3 i 0#32 1#32) := ⟨![128 * (i 0).val, 0], off1_3_1 i⟩
theorem off1_4_1 : ∀ i : grid1.Coords, k1_off4 i 0#32 1#32 = ![0, (i 0).val, 0, 0, 0] := by decide +kernel
instance (i : grid1.Coords) : ClosedOff (k1_off4 i 0#32 1#32) := ⟨![0, (i 0).val, 0, 0, 0], off1_4_1 i⟩
theorem off1_5_1 : ∀ i : grid1.Coords, k1_off5 i 0#32 1#32 = ![0, 128 * (i 0).val, 0] := by decide +kernel
instance (i : grid1.Coords) : ClosedOff (k1_off5 i 0#32 1#32) := ⟨![0, 128 * (i 0).val, 0], off1_5_1 i⟩
theorem off1_6_1 : ∀ i : grid1.Coords, k1_off6 i 0#32 1#32 = ![0, 128 * (i 0).val, 512] := by decide +kernel
instance (i : grid1.Coords) : ClosedOff (k1_off6 i 0#32 1#32) := ⟨![0, 128 * (i 0).val, 512], off1_6_1 i⟩
theorem off1_7_1 : ∀ i : grid1.Coords, k1_off7 i 0#32 1#32 = ![0, 128 * (i 0).val, 0] := by decide +kernel
instance (i : grid1.Coords) : ClosedOff (k1_off7 i 0#32 1#32) := ⟨![0, 128 * (i 0).val, 0], off1_7_1 i⟩
theorem off1_8_1 : ∀ i : grid1.Coords, k1_off8 i 0#32 1#32 = ![128 * (i 0).val, 128] := by decide +kernel
instance (i : grid1.Coords) : ClosedOff (k1_off8 i 0#32 1#32) := ⟨![128 * (i 0).val, 128], off1_8_1 i⟩
theorem off1_9_1 : ∀ i : grid1.Coords, k1_off9 i 0#32 1#32 = ![128 * (i 0).val, 640] := by decide +kernel
instance (i : grid1.Coords) : ClosedOff (k1_off9 i 0#32 1#32) := ⟨![128 * (i 0).val, 640], off1_9_1 i⟩
theorem off1_10_1 : ∀ i : grid1.Coords, k1_off10 i 0#32 1#32 = ![128 * (i 0).val, 256] := by decide +kernel
instance (i : grid1.Coords) : ClosedOff (k1_off10 i 0#32 1#32) := ⟨![128 * (i 0).val, 256], off1_10_1 i⟩
theorem off1_11_1 : ∀ i : grid1.Coords, k1_off11 i 0#32 1#32 = ![0, (i 0).val, 1, 0, 0] := by decide +kernel
instance (i : grid1.Coords) : ClosedOff (k1_off11 i 0#32 1#32) := ⟨![0, (i 0).val, 1, 0, 0], off1_11_1 i⟩
theorem off1_12_1 : ∀ i : grid1.Coords, k1_off12 i 0#32 1#32 = ![0, 128 * (i 0).val, 128] := by decide +kernel
instance (i : grid1.Coords) : ClosedOff (k1_off12 i 0#32 1#32) := ⟨![0, 128 * (i 0).val, 128], off1_12_1 i⟩
theorem off1_13_1 : ∀ i : grid1.Coords, k1_off13 i 0#32 1#32 = ![0, 128 * (i 0).val, 640] := by decide +kernel
instance (i : grid1.Coords) : ClosedOff (k1_off13 i 0#32 1#32) := ⟨![0, 128 * (i 0).val, 640], off1_13_1 i⟩
theorem off1_14_1 : ∀ i : grid1.Coords, k1_off14 i 0#32 1#32 = ![0, 128 * (i 0).val, 256] := by decide +kernel
instance (i : grid1.Coords) : ClosedOff (k1_off14 i 0#32 1#32) := ⟨![0, 128 * (i 0).val, 256], off1_14_1 i⟩
theorem off1_15_1 : ∀ i : grid1.Coords, k1_off15 i 0#32 1#32 = ![128 * (i 0).val, 256] := by decide +kernel
instance (i : grid1.Coords) : ClosedOff (k1_off15 i 0#32 1#32) := ⟨![128 * (i 0).val, 256], off1_15_1 i⟩
theorem off1_16_1 : ∀ i : grid1.Coords, k1_off16 i 0#32 1#32 = ![128 * (i 0).val, 768] := by decide +kernel
instance (i : grid1.Coords) : ClosedOff (k1_off16 i 0#32 1#32) := ⟨![128 * (i 0).val, 768], off1_16_1 i⟩
theorem off1_17_1 : ∀ i : grid1.Coords, k1_off17 i 0#32 1#32 = ![128 * (i 0).val, 512] := by decide +kernel
instance (i : grid1.Coords) : ClosedOff (k1_off17 i 0#32 1#32) := ⟨![128 * (i 0).val, 512], off1_17_1 i⟩
theorem off1_18_1 : ∀ i : grid1.Coords, k1_off18 i 0#32 1#32 = ![0, (i 0).val, 2, 0, 0] := by decide +kernel
instance (i : grid1.Coords) : ClosedOff (k1_off18 i 0#32 1#32) := ⟨![0, (i 0).val, 2, 0, 0], off1_18_1 i⟩
theorem off1_19_1 : ∀ i : grid1.Coords, k1_off19 i 0#32 1#32 = ![0, 128 * (i 0).val, 256] := by decide +kernel
instance (i : grid1.Coords) : ClosedOff (k1_off19 i 0#32 1#32) := ⟨![0, 128 * (i 0).val, 256], off1_19_1 i⟩
theorem off1_20_1 : ∀ i : grid1.Coords, k1_off20 i 0#32 1#32 = ![0, 128 * (i 0).val, 768] := by decide +kernel
instance (i : grid1.Coords) : ClosedOff (k1_off20 i 0#32 1#32) := ⟨![0, 128 * (i 0).val, 768], off1_20_1 i⟩
theorem off1_21_1 : ∀ i : grid1.Coords, k1_off21 i 0#32 1#32 = ![0, 128 * (i 0).val, 512] := by decide +kernel
instance (i : grid1.Coords) : ClosedOff (k1_off21 i 0#32 1#32) := ⟨![0, 128 * (i 0).val, 512], off1_21_1 i⟩
theorem off1_22_1 : ∀ i : grid1.Coords, k1_off22 i 0#32 1#32 = ![128 * (i 0).val, 384] := by decide +kernel
instance (i : grid1.Coords) : ClosedOff (k1_off22 i 0#32 1#32) := ⟨![128 * (i 0).val, 384], off1_22_1 i⟩
theorem off1_23_1 : ∀ i : grid1.Coords, k1_off23 i 0#32 1#32 = ![128 * (i 0).val, 896] := by decide +kernel
instance (i : grid1.Coords) : ClosedOff (k1_off23 i 0#32 1#32) := ⟨![128 * (i 0).val, 896], off1_23_1 i⟩
theorem off1_24_1 : ∀ i : grid1.Coords, k1_off24 i 0#32 1#32 = ![128 * (i 0).val, 768] := by decide +kernel
instance (i : grid1.Coords) : ClosedOff (k1_off24 i 0#32 1#32) := ⟨![128 * (i 0).val, 768], off1_24_1 i⟩
theorem off1_25_1 : ∀ i : grid1.Coords, k1_off25 i 0#32 1#32 = ![0, (i 0).val, 3, 0, 0] := by decide +kernel
instance (i : grid1.Coords) : ClosedOff (k1_off25 i 0#32 1#32) := ⟨![0, (i 0).val, 3, 0, 0], off1_25_1 i⟩
theorem off1_26_1 : ∀ i : grid1.Coords, k1_off26 i 0#32 1#32 = ![0, 128 * (i 0).val, 384] := by decide +kernel
instance (i : grid1.Coords) : ClosedOff (k1_off26 i 0#32 1#32) := ⟨![0, 128 * (i 0).val, 384], off1_26_1 i⟩
theorem off1_27_1 : ∀ i : grid1.Coords, k1_off27 i 0#32 1#32 = ![0, 128 * (i 0).val, 896] := by decide +kernel
instance (i : grid1.Coords) : ClosedOff (k1_off27 i 0#32 1#32) := ⟨![0, 128 * (i 0).val, 896], off1_27_1 i⟩
theorem off1_28_1 : ∀ i : grid1.Coords, k1_off28 i 0#32 1#32 = ![0, 128 * (i 0).val, 768] := by decide +kernel
instance (i : grid1.Coords) : ClosedOff (k1_off28 i 0#32 1#32) := ⟨![0, 128 * (i 0).val, 768], off1_28_1 i⟩

end Cert.KernelIdeal.Ret

end
-- ==== Proof.Chunk.lean ====
/- One chunk of the retention layer as functions of its rows: the output and the next state of the forward
   pass, and the four gradients of the backward pass; then what one grid point of each call leaves in its
   windows and in the state that is carried on. -/
module

public import proofs.«01_k».proof.Proof.Offsets
public import Idealize.ShloMosaic.Lib.Pointwise
public import Idealize.ShloMosaic.Lib.WholeRead

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The logarithm of a head's decay. -/
def lgc : Fin 4 → F .f32
  | 0 => Named.named κ "lg0" 0xBD020AEC#32
  | 1 => Named.named κ "lg1" 0xBC8102B3#32
  | 2 => Named.named κ "lg2" 0xBC0080AC#32
  | 3 => Named.named κ "lg3" 0xBB80402B#32

/-- A head's decay over a whole chunk. -/
def gamc : Fin 4 → F .f32
  | 0 => Named.named κ "gam0" 0x3C8CC36A#32
  | 1 => Named.named κ "gam1" 0x3E08698E#32
  | 2 => Named.named κ "gam2" 0x3EBB9DB9#32
  | 3 => Named.named κ "gam3" 0x3F1B1EB1#32

/-- The place of a row in the order in which the direction visits the chunk. -/
def posv (b : BitVec 1) : FVec F S128x1 .f32 :=
  Scalar.select b
    (subf (broadcast S128x1 (Scalar.ofBits .f32 0x42FE0000#32)) (sitofp .f32 (iota .tc S128x1 32 [0] iota_S128x1_d0_w32)))
    (sitofp .f32 (iota .tc S128x1 32 [0] iota_S128x1_d0_w32))

/-- How far a row lies behind another one. -/
def difm (b : BitVec 1) : FVec F S128x128 .f32 :=
  Scalar.select b
    (subf (sitofp .f32 (iota .tc S128x128 32 [1] iota_S128x128_d1_w32)) (sitofp .f32 (iota .tc S128x128 32 [0] iota_S128x128_d0_w32)))
    (subf (sitofp .f32 (iota .tc S128x128 32 [0] iota_S128x128_d0_w32)) (sitofp .f32 (iota .tc S128x128 32 [1] iota_S128x128_d1_w32)))

/-- Which pairs of rows see each other. -/
def mskm (b : BitVec 1) : IVec S128x128 1 :=
  cmpf .oge (difm (F := F) b)
    (broadcast S128x128 (Scalar.select b (Scalar.ofBits .f32 0x3F800000#32) (Scalar.ofBits .f32 0x00000000#32)))

/-- The decay between two rows of a chunk. -/
def decm (lg : F .f32) (b : BitVec 1) : FVec F S128x128 .f32 :=
  select (mskm (F := F) b)
    (exp (mulf (broadcast S128x128 lg)
      (select (mskm (F := F) b) (difm b) (broadcast S128x128 (Scalar.ofBits .f32 0x00000000#32)))))
    (broadcast S128x128 (Scalar.ofBits .f32 0x00000000#32))

/-- The decay from a row to the end of the chunk. -/
def kwv (lg : F .f32) (b : BitVec 1) : FVec F S128x1 .f32 :=
  exp (mulf (broadcast S128x1 lg) (subf (broadcast S128x1 (Scalar.ofBits .f32 0x42FE0000#32)) (posv b)))

/-- The decay from the state before the chunk to a row. -/
def qwv (lg : F .f32) (b : BitVec 1) : FVec F S128x1 .f32 :=
  exp (mulf (broadcast S128x1 lg) (addf (posv b) (broadcast S128x1 (Scalar.ofBits .f32 0x3F800000#32))))

/-- The keys weighted to the end of the chunk. -/
def kdv (lg : F .f32) (b : BitVec 1) (k : FVec F S128x128 .f32) : FVec F S128x128 .f32 :=
  mulf k (broadcastTo S128x128 (kwv lg b) broadcasts_S128x1_S128x128)

/-- The queries weighted from the start of the chunk. -/
def qdv (lg : F .f32) (b : BitVec 1) (q : FVec F S128x128 .f32) : FVec F S128x128 .f32 :=
  mulf q (broadcastTo S128x128 (qwv lg b) broadcasts_S128x1_S128x128)

/-- The decayed scores of a chunk. -/
def scm (lg : F .f32) (b : BitVec 1) (q k : FVec F S128x128 .f32) : FVec F S128x128 .f32 :=
  mulf (matmul dot_S128x128_S128x128_S128x128_1_1_0_0_n_n none (truncf .bf16 q bitsLt_bf16_f32) (truncf .bf16 k bitsLt_bf16_f32)
    (constant S128x128 .f32 0x00000000#32)) (decm lg b)

/-- The output rows of a chunk. -/
def FO (lg : F .f32) (b : BitVec 1) (q k : FVec F S128x128 .f32) (v s : FVec F S128x256 .f32) : FVec F S128x256 .f32 :=
  addf
    (matmul dot_S128x128_S128x256_S128x256_1_0_0_1_n_n none (truncf .bf16 (scm lg b q k) bitsLt_bf16_f32) (truncf .bf16 v bitsLt_bf16_f32)
      (constant S128x256 .f32 0x00000000#32))
    (matmul dot_S128x128_S128x256_S128x256_1_0_0_1_n_n none (truncf .bf16 (qdv lg b q) bitsLt_bf16_f32) (truncf .bf16 s bitsLt_bf16_f32)
      (constant S128x256 .f32 0x00000000#32))

/-- The state after a chunk. -/
def FS (lg gam : F .f32) (b : BitVec 1) (k : FVec F S128x128 .f32) (v s : FVec F S128x256 .f32) : FVec F S128x256 .f32 :=
  addf (mulf s (broadcast S128x256 gam))
    (matmul dot_S128x128_S128x256_S128x256_0_0_1_1_n_n none (truncf .bf16 (kdv lg b k) bitsLt_bf16_f32) (truncf .bf16 v bitsLt_bf16_f32)
      (constant S128x256 .f32 0x00000000#32))

/-- The gradient of the decayed scores. -/
def dsm (lg : F .f32) (b : BitVec 1) (v dy : FVec F S128x256 .f32) : FVec F S128x128 .f32 :=
  mulf (matmul dot_S128x256_S128x256_S128x128_1_1_0_0_n_n none (truncf .bf16 dy bitsLt_bf16_f32) (truncf .bf16 v bitsLt_bf16_f32)
    (constant S128x128 .f32 0x00000000#32)) (decm lg b)

/-- The gradient of the queries of a chunk. -/
def BQ (lg : F .f32) (b : BitVec 1) (k : FVec F S128x128 .f32) (v s dy : FVec F S128x256 .f32) : FVec F S128x128 .f32 :=
  addf
    (matmul dot_S128x128_S128x128_S128x128_1_0_0_1_n_n none (truncf .bf16 (dsm lg b v dy) bitsLt_bf16_f32) (truncf .bf16 k bitsLt_bf16_f32)
      (constant S128x128 .f32 0x00000000#32))
    (mulf (matmul dot_S128x256_S128x256_S128x128_1_1_0_0_n_n none (truncf .bf16 dy bitsLt_bf16_f32) (truncf .bf16 s bitsLt_bf16_f32)
      (constant S128x128 .f32 0x00000000#32)) (broadcastTo S128x128 (qwv lg b) broadcasts_S128x1_S128x128))

/-- The gradient of the keys of a chunk. -/
def BK (lg : F .f32) (b : BitVec 1) (q : FVec F S128x128 .f32) (v dy g : FVec F S128x256 .f32) : FVec F S128x128 .f32 :=
  addf
    (matmul dot_S128x128_S128x128_S128x128_0_0_1_1_n_n none (truncf .bf16 (dsm lg b v dy) bitsLt_bf16_f32) (truncf .bf16 q bitsLt_bf16_f32)
      (constant S128x128 .f32 0x00000000#32))
    (mulf (matmul dot_S128x256_S128x256_S128x128_1_1_0_0_n_n none (truncf .bf16 v bitsLt_bf16_f32) (truncf .bf16 g bitsLt_bf16_f32)
      (constant S128x128 .f32 0x00000000#32)) (broadcastTo S128x128 (kwv lg b) broadcasts_S128x1_S128x128))

/-- The gradient of the values of a chunk. -/
def BV (lg : F .f32) (b : BitVec 1) (q k : FVec F S128x128 .f32) (dy g : FVec F S128x256 .f32) : FVec F S128x256 .f32 :=
  addf
    (matmul dot_S128x128_S128x256_S128x256_1_0_0_1_n_n none (truncf .bf16 (kdv lg b k) bitsLt_bf16_f32) (truncf .bf16 g bitsLt_bf16_f32)
      (constant S128x256 .f32 0x00000000#32))
    (matmul dot_S128x128_S128x256_S128x256_0_0_1_1_n_n none (truncf .bf16 (scm lg b q k) bitsLt_bf16_f32) (truncf .bf16 dy bitsLt_bf16_f32)
      (constant S128x256 .f32 0x00000000#32))

/-- The gradient of the state before a chunk. -/
def BS (lg gam : F .f32) (b : BitVec 1) (q : FVec F S128x128 .f32) (dy g : FVec F S128x256 .f32) : FVec F S128x256 .f32 :=
  addf (mulf g (broadcast S128x256 gam))
    (matmul dot_S128x128_S128x256_S128x256_0_0_1_1_n_n none (truncf .bf16 (qdv lg b q) bitsLt_bf16_f32) (truncf .bf16 dy bitsLt_bf16_f32)
      (constant S128x256 .f32 0x00000000#32))

/-- 128 rows and `w` columns of a block of 256 rows. -/
def cut {e : EltTy} (w : ℕ) (x : Vec F S256x1024 e) (r c : ℕ) : Vec F ⟨2, ![128, w]⟩ e :=
  fun j => x (ix2 (Fin.ofNat 256 (r + (j 0).val)) (Fin.ofNat 1024 (c + (j 1).val)))

/-- One head of the states of all heads. -/
def hd {e : EltTy} (st : Vec F S4x128x256 e) (h : Fin 4) : Vec F S128x256 e := fun j => st (ix3 h (j 0) (j 1))

/-- The four heads' states put together. -/
def allh {e : EltTy} (f : Fin 4 → Vec F S128x256 e) : Vec F S4x128x256 e := fun y => f (y 0) (ix2 (y 1) (y 2))

theorem hd_allh {e : EltTy} (f : Fin 4 → Vec F S128x256 e) (h : Fin 4) : hd (allh f) h = f h := by
  funext j; unfold hd allh; exact congrArg (f h) (eq_ix2 j).symm

/-- Whether the direction is the second one. -/
def rev0 (i : grid0.Coords) : BitVec 1 := Scalar.cmpi .eq (BitVec.ofNat 32 (i 0).val) 1#32
/-- Whether the direction is the second one. -/
def rev1 (i : grid1.Coords) : BitVec 1 := Scalar.cmpi .eq (BitVec.ofNat 32 (i 0).val) 1#32

/-- The first row, in the block of a grid point, of the chunk that the forward pass visits as number `g`. -/
def row0 (i : grid0.Coords) : Fin 2 → ℕ
  | 0 => 128 * (i 0).val
  | 1 => 128 - 128 * (i 0).val
/-- The first row, in the block of a grid point, of the chunk that the backward pass visits as number `g`. -/
def row1 (i : grid1.Coords) : Fin 2 → ℕ
  | 0 => 128 - 128 * (i 0).val
  | 1 => 128 * (i 0).val

/-- The state after the chunk that the forward pass visits as number `g` at a grid point. -/
def step0 (i : grid0.Coords) (x0 x1 : Vec F S256x1024 .f32) (g : Fin 2) (st : Vec F S4x128x256 .f32) : Vec F S4x128x256 .f32 :=
  allh fun h => FS (lgc h) (gamc h) (rev0 i) (cut 128 x0 (row0 i g) (512 + 128 * h.val)) (cut 256 x1 (row0 i g) (256 * h.val)) (hd st h)

/-- The state before each of a grid point's two chunks, forward. -/
def st0 (i : grid0.Coords) (x0 x1 : Vec F S256x1024 .f32) (st : Vec F S4x128x256 .f32) : Fin 2 → Vec F S4x128x256 .f32
  | 0 => st
  | 1 => step0 i x0 x1 0 st

/-- The state after a grid point, forward. -/
def end0 (i : grid0.Coords) (x0 x1 : Vec F S256x1024 .f32) (st : Vec F S4x128x256 .f32) : Vec F S4x128x256 .f32 :=
  step0 i x0 x1 1 (step0 i x0 x1 0 st)

/-- Which of the two chunks of a block a row belongs to, in the order of the forward pass. -/
def sel0 (i : grid0.Coords) (r : ℕ) : Fin 2 := if r / 128 = (i 0).val then 0 else 1
/-- Which of the two chunks of a block a row belongs to, in the order of the backward pass. -/
def sel1 (i : grid1.Coords) (r : ℕ) : Fin 2 := if r / 128 = (i 0).val then 1 else 0

/-- The output rows that a grid point of the forward pass leaves. -/
def outO (i : grid0.Coords) (x0 x1 : Vec F S256x1024 .f32) (st : Vec F S4x128x256 .f32) : Vec F S1x256x1024 .f32 := fun y =>
  FO (lgc (Fin.ofNat 4 ((y 2).val / 256))) (rev0 i)
    (cut 128 x0 (row0 i (sel0 i (y 1).val)) (128 * (Fin.ofNat 4 ((y 2).val / 256)).val))
    (cut 128 x0 (row0 i (sel0 i (y 1).val)) (512 + 128 * (Fin.ofNat 4 ((y 2).val / 256)).val))
    (cut 256 x1 (row0 i (sel0 i (y 1).val)) (256 * (Fin.ofNat 4 ((y 2).val / 256)).val))
    (hd (st0 i x0 x1 st (sel0 i (y 1).val)) (Fin.ofNat 4 ((y 2).val / 256)))
    (ix2 (Fin.ofNat 128 (y 1).val) (Fin.ofNat 256 (y 2).val))

/-- The saved states that a grid point of the forward pass leaves. -/
def outS (i : grid0.Coords) (x0 x1 : Vec F S256x1024 .f32) (st : Vec F S4x128x256 .f32) : Vec F S1x2x4x128x256 .bf16 := fun y =>
  truncf .bf16 (st0 i x0 x1 st (sel0 i (128 * (y 1).val))) bitsLt_bf16_f32 (ix3 (y 2) (y 3) (y 4))

/-- One saved state of a block, one head of it. -/
def sav (i : grid1.Coords) (x2 : Vec F S1x2x4x128x256 .bf16) (g : Fin 2) (h : Fin 4) : FVec F S128x256 .f32 :=
  extf .f32 (φ := .bf16) (fun j : S128x256.Idx => x2 (ix5 0 (Fin.ofNat 2 (row1 i g / 128)) h (j 0) (j 1))) bitsLt_bf16_f32

/-- The gradient of the state before the chunk that the backward pass visits as number `g` at a grid point. -/
def step1 (i : grid1.Coords) (x0 x3 : Vec F S256x1024 .f32) (g : Fin 2) (dst : Vec F S4x128x256 .f32) : Vec F S4x128x256 .f32 :=
  allh fun h => BS (lgc h) (gamc h) (rev1 i) (cut 128 x0 (row1 i g) (128 * h.val)) (cut 256 x3 (row1 i g) (256 * h.val)) (hd dst h)

/-- The gradient of the state after each of a grid point's two chunks. -/
def st1 (i : grid1.Coords) (x0 x3 : Vec F S256x1024 .f32) (dst : Vec F S4x128x256 .f32) : Fin 2 → Vec F S4x128x256 .f32
  | 0 => dst
  | 1 => step1 i x0 x3 0 dst

/-- The gradient of the state before a grid point. -/
def end1 (i : grid1.Coords) (x0 x3 : Vec F S256x1024 .f32) (dst : Vec F S4x128x256 .f32) : Vec F S4x128x256 .f32 :=
  step1 i x0 x3 1 (step1 i x0 x3 0 dst)

/-- The gradients of queries and keys that a grid point of the backward pass leaves. -/
def outQK (i : grid1.Coords) (x0 x1 : Vec F S256x1024 .f32) (x2 : Vec F S1x2x4x128x256 .bf16) (x3 : Vec F S256x1024 .f32)
    (dst : Vec F S4x128x256 .f32) : Vec F S1x256x1024 .f32 := fun y =>
  if (y 2).val < 512 then
    BQ (lgc (Fin.ofNat 4 ((y 2).val / 128))) (rev1 i)
      (cut 128 x0 (row1 i (sel1 i (y 1).val)) (512 + 128 * (Fin.ofNat 4 ((y 2).val / 128)).val))
      (cut 256 x1 (row1 i (sel1 i (y 1).val)) (256 * (Fin.ofNat 4 ((y 2).val / 128)).val))
      (sav i x2 (sel1 i (y 1).val) (Fin.ofNat 4 ((y 2).val / 128)))
      (cut 256 x3 (row1 i (sel1 i (y 1).val)) (256 * (Fin.ofNat 4 ((y 2).val / 128)).val))
      (ix2 (Fin.ofNat 128 (y 1).val) (Fin.ofNat 128 (y 2).val))
  else
    BK (lgc (Fin.ofNat 4 ((y 2).val / 128))) (rev1 i)
      (cut 128 x0 (row1 i (sel1 i (y 1).val)) (128 * (Fin.ofNat 4 ((y 2).val / 128)).val))
      (cut 256 x1 (row1 i (sel1 i (y 1).val)) (256 * (Fin.ofNat 4 ((y 2).val / 128)).val))
      (cut 256 x3 (row1 i (sel1 i (y 1).val)) (256 * (Fin.ofNat 4 ((y 2).val / 128)).val))
      (hd (st1 i x0 x3 dst (sel1 i (y 1).val)) (Fin.ofNat 4 ((y 2).val / 128)))
      (ix2 (Fin.ofNat 128 (y 1).val) (Fin.ofNat 128 (y 2).val))

/-- The gradient of the values that a grid point of the backward pass leaves. -/
def outV (i : grid1.Coords) (x0 : Vec F S256x1024 .f32) (x3 : Vec F S256x1024 .f32)
    (dst : Vec F S4x128x256 .f32) : Vec F S1x256x1024 .f32 := fun y =>
  BV (lgc (Fin.ofNat 4 ((y 2).val / 256))) (rev1 i)
    (cut 128 x0 (row1 i (sel1 i (y 1).val)) (128 * (Fin.ofNat 4 ((y 2).val / 256)).val))
    (cut 128 x0 (row1 i (sel1 i (y 1).val)) (512 + 128 * (Fin.ofNat 4 ((y 2).val / 256)).val))
    (cut 256 x3 (row1 i (sel1 i (y 1).val)) (256 * (Fin.ofNat 4 ((y 2).val / 256)).val))
    (hd (st1 i x0 x3 dst (sel1 i (y 1).val)) (Fin.ofNat 4 ((y 2).val / 256)))
    (ix2 (Fin.ofNat 128 (y 1).val) (Fin.ofNat 256 (y 2).val))

end Cert.KernelIdeal.Ret

end
-- ==== Proof.Reads.lean ====
/- How the two bodies read and write the state that is carried on and the rows of their windows: one head of
   the state at a time, 128 rows of a block at a time. -/
module

public import proofs.«01_k».proof.Proof.Chunk

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A state with one head replaced. -/
def upd {e : EltTy} (st : Vec F S4x128x256 e) (h : Fin 4) (w : Vec F S128x256 e) : Vec F S4x128x256 e :=
  fun y => if (y 0).val = h.val then w (ix2 (y 1) (y 2)) else st y

theorem hd_upd {e : EltTy} (st : Vec F S4x128x256 e) (h : Fin 4) (w : Vec F S128x256 e) : hd (upd st h w) h = w := by
  funext j; exact (if_pos (rfl : h.val = h.val)).trans (congrArg w (eq_ix2 j).symm)

theorem hd_upd_ne {e : EltTy} (st : Vec F S4x128x256 e) (h h' : Fin 4) (w : Vec F S128x256 e) (hne : h' ≠ h) :
    hd (upd st h w) h' = hd st h' := by
  funext j; unfold hd upd; exact if_neg fun e => hne (Fin.ext e)

theorem ext_hd {e : EltTy} (a b : Vec F S4x128x256 e) (hh : ∀ h, hd a h = hd b h) : a = b := by
  funext y; have := congrFun (hh (y 0)) (ix2 (y 1) (y 2)); unfold hd at this
  rw [eq_ix3 y]; exact this

/-- One head of a state as a block of its own. -/
abbrev headRect (h : ℕ) (pf : ∀ a, (![h, 0, 0] : Fin 3 → ℕ) a + S1x128x256.size a ≤ S4x128x256.size a) : Rect S4x128x256 :=
  Rect.unit (s := S4x128x256) ![h, 0, 0] S1x128x256.size pf

theorem head_emb (h : Fin 4) (pf) (x : (headRect h.val pf).shape.Idx) :
    (headRect h.val pf).emb x = (ix3 h (x 1) (x 2) : S4x128x256.Idx) := by
  refine Rect.emb_eq_of_coords _ x _ fun a => ?_
  have h0 : (x 0).val = 0 := by have := (x 0).isLt; change _ < 1 at this; omega
  fin_cases a
  · show h.val = h.val + 1 * (x 0).val; omega
  · show (x 1).val = 0 + 1 * (x 1).val; omega
  · show (x 2).val = 0 + 1 * (x 2).val; omega

theorem head_emb' (h : Fin 4) (pf) (y : S4x128x256.Idx) (hy : (y 0).val = h.val) :
    (headRect h.val pf).emb (ix3 (0 : Fin 1) (y 1) (y 2) : S1x128x256.Idx) = y := by
  refine Rect.emb_eq_of_coords (headRect h.val pf) _ y fun a => ?_
  fin_cases a
  · show (y 0).val = h.val + 1 * 0; omega
  · show (y 1).val = 0 + 1 * (y 1).val; omega
  · show (y 2).val = 0 + 1 * (y 2).val; omega

theorem head_not_mem (h : Fin 4) (pf) (y : S4x128x256.Idx) (hy : (y 0).val ≠ h.val) : y ∉ (headRect h.val pf).set := by
  refine Rect.not_mem_set_of_axis _ y 0 h.val 1 rfl rfl rfl ?_
  omega

/-- A write of one head on a list of writes. -/
theorem canon_head (h : Fin 4) (pf) (pay : Vec F S1x128x256 .f32) (L : List (View.Piece (Elt F) S4x128x256 .f32)) :
    View.canon (⟨headRect h.val pf, pay⟩ :: L) = upd (View.canon L) h (fun j => pay (ix3 (0 : Fin 1) (j 0) (j 1))) := by
  funext y
  unfold upd
  by_cases hy : (y 0).val = h.val
  · rw [if_pos hy]
    conv_lhs => rw [← head_emb' h pf y hy]
    exact View.canon_cons_emb (headRect h.val pf) pay L _
  · rw [if_neg hy]
    exact View.canon_cons_of_not_mem _ L (head_not_mem h pf y hy)

/-- A write of one head on top of whatever was there. -/
theorem read_head {κ : Kind} {sp : Space} (v : View sig κ sp S4x128x256 .f32) (f : v.ty.Contents (Elt F)) (h : Fin 4) (pf)
    (pay : Vec F S1x128x256 .f32) (L : List (View.Piece (Elt F) S4x128x256 .f32)) :
    v.read (Elt F) (v.writes (Elt F) f (⟨headRect h.val pf, pay⟩ :: L))
      = upd (v.read (Elt F) (v.writes (Elt F) f L)) h (fun j => pay (ix3 (0 : Fin 1) (j 0) (j 1))) := by
  funext y
  unfold upd
  by_cases hy : (y 0).val = h.val
  · rw [if_pos hy]
    conv_lhs => rw [← head_emb' h pf y hy]
    exact View.read_writes_cons_emb v f (headRect h.val pf) pay L _
  · rw [if_neg hy]
    exact View.read_writes_cons_miss v f _ L y (head_not_mem h pf y hy)

theorem sc_in (w : Vec F S128x256 .f32) (e) :
    (fun j : S128x256.Idx => (shapeCast S1x128x256 w e : Vec F S1x128x256 .f32) (ix3 (0 : Fin 1) (j 0) (j 1))) = w := by
  funext j
  pointwise

theorem sc_out (w : Vec F S1x128x256 .f32) (e) :
    (shapeCast S128x256 w e : Vec F S128x256 .f32) = fun j => w (ix3 (0 : Fin 1) (j 0) (j 1)) := by
  funext j
  idx_vars j
  pointwise

/-- A load of one head from a list of writes. -/
theorem ld_head {κ : Kind} {sp : Space} (v : View sig κ sp S4x128x256 .f32) (h : Fin 4) (pf) (L : List (View.Piece (Elt F) S4x128x256 .f32)) (e) :
    (shapeCast S128x256 (v.readCov L (headRect h.val pf).toLoadRect : Vec F S1x128x256 .f32) e : Vec F S128x256 .f32) = hd (View.canon L) h := by
  rw [sc_out, View.readCov_eq_canon']
  funext j
  exact congrArg (View.canon L) (head_emb h pf (ix3 (0 : Fin 1) (j 0) (j 1) : S1x128x256.Idx))

/-- A load of one head of a state that is held. -/
theorem ld_held {κ : Kind} {sp : Space} {m : Memref sig κ sp S4x128x256 .f32} (hm : m.IsWhole) (h : Fin 4) (pf) (xs : Vec F S4x128x256 .f32) (e) :
    (shapeCast S128x256 (View.readAt (Elt F) m.view (headRect h.val pf).toLoadRect (hm.unread xs) : Vec F S1x128x256 .f32) e : Vec F S128x256 .f32) = hd xs h := by
  rw [sc_out]
  funext j
  refine (hm.readAt_unread xs _ _).trans ?_
  exact congrArg xs (head_emb h pf (ix3 (0 : Fin 1) (j 0) (j 1) : S1x128x256.Idx))

theorem all_emb (pf) (x : S4x128x256.Idx) : (Rect.unit (s := S4x128x256) ![0, 0, 0] S4x128x256.size pf).emb x = x := by
  refine Rect.emb_eq_of_coords (Rect.unit (s := S4x128x256) ![0, 0, 0] S4x128x256.size pf) x x fun a => ?_
  fin_cases a
  · show (x 0).val = 0 + 1 * (x 0).val; omega
  · show (x 1).val = 0 + 1 * (x 1).val; omega
  · show (x 2).val = 0 + 1 * (x 2).val; omega

/-- A load of the whole state. -/
theorem ld_all {κ : Kind} {sp : Space} (v : View sig κ sp S4x128x256 .f32) (pf) (L : List (View.Piece (Elt F) S4x128x256 .f32)) :
    (v.readCov L (Rect.unit (s := S4x128x256) ![0, 0, 0] S4x128x256.size pf).toLoadRect : Vec F S4x128x256 .f32) = View.canon L := by
  rw [View.readCov_eq_canon']
  funext j
  exact congrArg (View.canon L) (all_emb pf j)

theorem ld_held_all {κ : Kind} {sp : Space} {m : Memref sig κ sp S4x128x256 .f32} (hm : m.IsWhole) (pf) (xs : Vec F S4x128x256 .f32) :
    (View.readAt (Elt F) m.view (Rect.unit (s := S4x128x256) ![0, 0, 0] S4x128x256.size pf).toLoadRect (hm.unread xs) : Vec F S4x128x256 .f32) = xs := by
  funext j
  refine (hm.readAt_unread xs _ _).trans ?_
  exact congrArg xs (all_emb pf j)

theorem canon_all (pf) (pay : Vec F S4x128x256 .f32) (L : List (View.Piece (Elt F) S4x128x256 .f32)) :
    View.canon (⟨Rect.unit (s := S4x128x256) ![0, 0, 0] S4x128x256.size pf, pay⟩ :: L) = pay := by
  funext y
  conv_lhs => rw [← all_emb pf y]
  exact View.canon_cons_emb (Rect.unit (s := S4x128x256) ![0, 0, 0] S4x128x256.size pf) pay L y

theorem all4_emb (pf) (x : S1x4x128x256.Idx) : (Rect.unit (s := S1x4x128x256) ![0, 0, 0, 0] S1x4x128x256.size pf).emb x = x := by
  refine Rect.emb_eq_of_coords (Rect.unit (s := S1x4x128x256) ![0, 0, 0, 0] S1x4x128x256.size pf) x x fun a => ?_
  fin_cases a
  · show (x 0).val = 0 + 1 * (x 0).val; omega
  · show (x 1).val = 0 + 1 * (x 1).val; omega
  · show (x 2).val = 0 + 1 * (x 2).val; omega
  · show (x 3).val = 0 + 1 * (x 3).val; omega

/-- The states that a window of one direction holds. -/
def unb (x : Vec F S1x4x128x256 .f32) : Vec F S4x128x256 .f32 := fun y => x (ix4 (0 : Fin 1) (y 0) (y 1) (y 2))
/-- A window of one direction that holds the given states. -/
def rebd (x : Vec F S4x128x256 .f32) : Vec F S1x4x128x256 .f32 := fun y => x (ix3 (y 1) (y 2) (y 3))

/-- A load of the states that a window holds. -/
theorem ld_unb {κ : Kind} {sp : Space} {m : Memref sig κ sp S1x4x128x256 .f32} (hm : m.IsWhole) (pf) (x : Vec F S1x4x128x256 .f32) (e e') :
    (shapeCast S4x128x256 (shapeCast S4x128x256 (View.readAt (Elt F) m.view (Rect.unit (s := S1x4x128x256) ![0, 0, 0, 0] S1x4x128x256.size pf).toLoadRect (hm.unread x) : Vec F S1x4x128x256 .f32) e : Vec F S4x128x256 .f32) e' : Vec F S4x128x256 .f32) = unb x := by
  have hl : (View.readAt (Elt F) m.view (Rect.unit (s := S1x4x128x256) ![0, 0, 0, 0] S1x4x128x256.size pf).toLoadRect (hm.unread x) : Vec F S1x4x128x256 .f32) = x := by
    funext j
    refine (hm.readAt_unread x _ _).trans ?_
    exact congrArg x (all4_emb pf j)
  rw [hl, shapeCast_self]
  funext y
  refine (shapeCast_dropUnit_apply ![4, 128, 256] x e y).trans ?_
  unfold unb
  refine congrArg x (funext fun a => ?_)
  fin_cases a <;> rfl

/-- A write of the states into a window. -/
theorem read_rebd {κ : Kind} {sp : Space} (v : View sig κ sp S1x4x128x256 .f32) (f : v.ty.Contents (Elt F)) (pf) (x : Vec F S4x128x256 .f32) (e) :
    v.read (Elt F) (v.writes (Elt F) f [⟨Rect.unit (s := S1x4x128x256) ![0, 0, 0, 0] S1x4x128x256.size pf, shapeCast S1x4x128x256 x e⟩]) = rebd x := by
  funext y
  conv_lhs => rw [← all4_emb pf y]
  refine (View.read_writes_cons_emb v f (Rect.unit (s := S1x4x128x256) ![0, 0, 0, 0] S1x4x128x256.size pf) _ [] y).trans ?_
  refine (shapeCast_addUnit_apply ![4, 128, 256] x e y).trans ?_
  unfold rebd
  refine congrArg x (funext fun a => ?_)
  fin_cases a <;> rfl

theorem sc_same (x : Vec F S128x256 .f32) (e) : (shapeCast S128x256 x e : Vec F S128x256 .f32) = x := by
  exact shapeCast_self x e

/-- A load of 128 rows of a block of 256. -/
theorem ld_cut {κ : Kind} {sp : Space} {m : Memref sig κ sp S256x1024 .f32} (hm : m.IsWhole) (w : ℕ) (off : Fin 2 → ℕ) (r c : ℕ) (ho : off = ![r, c])
    (pf : ∀ a, off a + (⟨2, ![128, w]⟩ : Shape).size a ≤ S256x1024.size a) (x : Vec F S256x1024 .f32) :
    (View.readAt (Elt F) m.view (Rect.unit (s := S256x1024) off (⟨2, ![128, w]⟩ : Shape).size pf).toLoadRect (hm.unread x) : Vec F (⟨2, ![128, w]⟩ : Shape) .f32) = cut w x r c := by
  subst ho
  funext j
  refine (hm.readAt_unread x _ _).trans ?_
  unfold cut
  have hr : r + 128 ≤ 256 := pf 0
  have hc : c + w ≤ 1024 := pf 1
  have h0 : (j 0).val < 128 := (j 0).isLt
  have h1 : (j 1).val < w := (j 1).isLt
  refine congrArg x (funext fun a => Fin.ext ?_)
  fin_cases a
  · show r + 1 * (j 0).val = (r + (j 0).val) % 256
    rw [Nat.mod_eq_of_lt (by omega)]; omega
  · show c + 1 * (j 1).val = (c + (j 1).val) % 1024
    rw [Nat.mod_eq_of_lt (by omega)]; omega

/-- A load of one head of one saved state. -/
theorem ld_sav {κ : Kind} {sp : Space} {m : Memref sig κ sp S1x2x4x128x256 .bf16} (hm : m.IsWhole) (g : Fin 2) (h : Fin 4) (i : grid1.Coords) (off : Fin 5 → ℕ)
    (ho : off = ![0, row1 i g / 128, h.val, 0, 0])
    (pf : ∀ a, off a + S1x1x1x128x256.size a ≤ S1x2x4x128x256.size a) (x : Vec F S1x2x4x128x256 .bf16) (e) :
    extf .f32 (φ := .bf16) (shapeCast S128x256 (View.readAt (Elt F) m.view (Rect.unit (s := S1x2x4x128x256) off S1x1x1x128x256.size pf).toLoadRect (hm.unread x) : Vec F S1x1x1x128x256 .bf16) e : Vec F S128x256 .bf16) bitsLt_bf16_f32 = sav i x g h := by
  subst ho
  unfold sav
  refine congrArg (fun z : Vec F S128x256 .bf16 => extf .f32 (φ := .bf16) z bitsLt_bf16_f32) ?_
  have hl : (View.readAt (Elt F) m.view (Rect.unit (s := S1x2x4x128x256) ![0, row1 i g / 128, h.val, 0, 0] S1x1x1x128x256.size pf).toLoadRect (hm.unread x) : Vec F S1x1x1x128x256 .bf16)
      = fun j => x (ix5 (0 : Fin 1) (Fin.ofNat 2 (row1 i g / 128)) h (j 3) (j 4)) := by
    funext j
    refine (hm.readAt_unread x _ _).trans ?_
    have hr : row1 i g / 128 + 1 ≤ 2 := pf 1
    have h0 : (j 0).val < 1 := (j 0).isLt
    have h1 : (j 1).val < 1 := (j 1).isLt
    have h2 : (j 2).val < 1 := (j 2).isLt
    refine congrArg x (funext fun a => Fin.ext ?_)
    fin_cases a
    · show 0 + 1 * (j 0).val = 0; omega
    · show row1 i g / 128 + 1 * (j 1).val = (row1 i g / 128) % 2
      rw [Nat.mod_eq_of_lt (by omega)]; omega
    · show h.val + 1 * (j 2).val = h.val; omega
    · show 0 + 1 * (j 3).val = (j 3).val; omega
    · show 0 + 1 * (j 4).val = (j 4).val; omega
  rw [hl]
  funext j
  refine (Idealize.ShloMosaic.shapeCast_apply _ e j (ix5 (0 : Fin 1) (0 : Fin 1) (0 : Fin 1) (j 0) (j 1) : S1x1x1x128x256.Idx) ?_).trans rfl
  rw [Shape.rowMajor_val_five, Shape.rowMajor_val_two]
  show ((((0 * _ + 0) * _ + 0) * _ + (j 0).val) * _ + (j 1).val) = (j 0).val * _ + (j 1).val
  simp

end Cert.KernelIdeal.Ret

end
-- ==== Proof.Pieces.lean ====
/- The reads and writes of the two bodies at their own offsets: which rows each load takes, and what each
   stored piece is of the window that it is stored in. -/
module

public import proofs.«01_k».proof.Proof.Reads

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

theorem canon_head0 (pf) (pay : Vec F S1x128x256 .f32) (L : List (View.Piece (Elt F) S4x128x256 .f32)) :
    View.canon (⟨Rect.unit (s := S4x128x256) ![0, 0, 0] S1x128x256.size pf, pay⟩ :: L) = upd (View.canon L) 0 (fun j => pay (ix3 (0 : Fin 1) (j 0) (j 1))) :=
  canon_head 0 pf pay L
theorem read_head0 {κ : Kind} {sp : Space} (v : View sig κ sp S4x128x256 .f32) (f : v.ty.Contents (Elt F)) (pf)
    (pay : Vec F S1x128x256 .f32) (L : List (View.Piece (Elt F) S4x128x256 .f32)) :
    v.read (Elt F) (v.writes (Elt F) f (⟨Rect.unit (s := S4x128x256) ![0, 0, 0] S1x128x256.size pf, pay⟩ :: L))
      = upd (v.read (Elt F) (v.writes (Elt F) f L)) 0 (fun j => pay (ix3 (0 : Fin 1) (j 0) (j 1))) :=
  read_head v f 0 pf pay L
theorem ld_head0 {κ : Kind} {sp : Space} (v : View sig κ sp S4x128x256 .f32) (pf) (L : List (View.Piece (Elt F) S4x128x256 .f32)) (e) :
    (shapeCast (s := S1x128x256) (α := F .f32) S128x256 (v.readCov L (Rect.unit (s := S4x128x256) ![0, 0, 0] S1x128x256.size pf).toLoadRect : Vec F S1x128x256 .f32) e : Vec F S128x256 .f32) = hd (View.canon L) 0 :=
  ld_head v 0 pf L e
theorem ld_held0 (c : Dev nD) {m : Memref sig .tc .vmem S4x128x256 .f32} (hm : m.IsWhole) (pf) (xs : Vec F S4x128x256 .f32) (e) :
    (shapeCast (s := S1x128x256) (α := F .f32) S128x256 (View.readAt (κ := (c : Thread nD τ).2.kind) (Elt F) (Memref.view (κ := (c : Thread nD τ).2.kind) m) (Rect.unit (s := S4x128x256) ![0, 0, 0] S1x128x256.size pf).toLoadRect (hm.unread xs) : Vec F S1x128x256 .f32) e : Vec F S128x256 .f32) = hd xs 0 :=
  ld_held hm 0 pf xs e
theorem hd_upd01 {e : EltTy} (st : Vec F S4x128x256 e) (w : Vec F S128x256 e) : hd (upd st 0 w) 1 = hd st 1 :=
  hd_upd_ne st 0 1 w (by decide)
theorem hd_upd02 {e : EltTy} (st : Vec F S4x128x256 e) (w : Vec F S128x256 e) : hd (upd st 0 w) 2 = hd st 2 :=
  hd_upd_ne st 0 2 w (by decide)
theorem hd_upd03 {e : EltTy} (st : Vec F S4x128x256 e) (w : Vec F S128x256 e) : hd (upd st 0 w) 3 = hd st 3 :=
  hd_upd_ne st 0 3 w (by decide)

theorem canon_head1 (pf) (pay : Vec F S1x128x256 .f32) (L : List (View.Piece (Elt F) S4x128x256 .f32)) :
    View.canon (⟨Rect.unit (s := S4x128x256) ![1, 0, 0] S1x128x256.size pf, pay⟩ :: L) = upd (View.canon L) 1 (fun j => pay (ix3 (0 : Fin 1) (j 0) (j 1))) :=
  canon_head 1 pf pay L
theorem read_head1 {κ : Kind} {sp : Space} (v : View sig κ sp S4x128x256 .f32) (f : v.ty.Contents (Elt F)) (pf)
    (pay : Vec F S1x128x256 .f32) (L : List (View.Piece (Elt F) S4x128x256 .f32)) :
    v.read (Elt F) (v.writes (Elt F) f (⟨Rect.unit (s := S4x128x256) ![1, 0, 0] S1x128x256.size pf, pay⟩ :: L))
      = upd (v.read (Elt F) (v.writes (Elt F) f L)) 1 (fun j => pay (ix3 (0 : Fin 1) (j 0) (j 1))) :=
  read_head v f 1 pf pay L
theorem ld_head1 {κ : Kind} {sp : Space} (v : View sig κ sp S4x128x256 .f32) (pf) (L : List (View.Piece (Elt F) S4x128x256 .f32)) (e) :
    (shapeCast (s := S1x128x256) (α := F .f32) S128x256 (v.readCov L (Rect.unit (s := S4x128x256) ![1, 0, 0] S1x128x256.size pf).toLoadRect : Vec F S1x128x256 .f32) e : Vec F S128x256 .f32) = hd (View.canon L) 1 :=
  ld_head v 1 pf L e
theorem ld_held1 (c : Dev nD) {m : Memref sig .tc .vmem S4x128x256 .f32} (hm : m.IsWhole) (pf) (xs : Vec F S4x128x256 .f32) (e) :
    (shapeCast (s := S1x128x256) (α := F .f32) S128x256 (View.readAt (κ := (c : Thread nD τ).2.kind) (Elt F) (Memref.view (κ := (c : Thread nD τ).2.kind) m) (Rect.unit (s := S4x128x256) ![1, 0, 0] S1x128x256.size pf).toLoadRect (hm.unread xs) : Vec F S1x128x256 .f32) e : Vec F S128x256 .f32) = hd xs 1 :=
  ld_held hm 1 pf xs e
theorem hd_upd10 {e : EltTy} (st : Vec F S4x128x256 e) (w : Vec F S128x256 e) : hd (upd st 1 w) 0 = hd st 0 :=
  hd_upd_ne st 1 0 w (by decide)
theorem hd_upd12 {e : EltTy} (st : Vec F S4x128x256 e) (w : Vec F S128x256 e) : hd (upd st 1 w) 2 = hd st 2 :=
  hd_upd_ne st 1 2 w (by decide)
theorem hd_upd13 {e : EltTy} (st : Vec F S4x128x256 e) (w : Vec F S128x256 e) : hd (upd st 1 w) 3 = hd st 3 :=
  hd_upd_ne st 1 3 w (by decide)

theorem canon_head2 (pf) (pay : Vec F S1x128x256 .f32) (L : List (View.Piece (Elt F) S4x128x256 .f32)) :
    View.canon (⟨Rect.unit (s := S4x128x256) ![2, 0, 0] S1x128x256.size pf, pay⟩ :: L) = upd (View.canon L) 2 (fun j => pay (ix3 (0 : Fin 1) (j 0) (j 1))) :=
  canon_head 2 pf pay L
theorem read_head2 {κ : Kind} {sp : Space} (v : View sig κ sp S4x128x256 .f32) (f : v.ty.Contents (Elt F)) (pf)
    (pay : Vec F S1x128x256 .f32) (L : List (View.Piece (Elt F) S4x128x256 .f32)) :
    v.read (Elt F) (v.writes (Elt F) f (⟨Rect.unit (s := S4x128x256) ![2, 0, 0] S1x128x256.size pf, pay⟩ :: L))
      = upd (v.read (Elt F) (v.writes (Elt F) f L)) 2 (fun j => pay (ix3 (0 : Fin 1) (j 0) (j 1))) :=
  read_head v f 2 pf pay L
theorem ld_head2 {κ : Kind} {sp : Space} (v : View sig κ sp S4x128x256 .f32) (pf) (L : List (View.Piece (Elt F) S4x128x256 .f32)) (e) :
    (shapeCast (s := S1x128x256) (α := F .f32) S128x256 (v.readCov L (Rect.unit (s := S4x128x256) ![2, 0, 0] S1x128x256.size pf).toLoadRect : Vec F S1x128x256 .f32) e : Vec F S128x256 .f32) = hd (View.canon L) 2 :=
  ld_head v 2 pf L e
theorem ld_held2 (c : Dev nD) {m : Memref sig .tc .vmem S4x128x256 .f32} (hm : m.IsWhole) (pf) (xs : Vec F S4x128x256 .f32) (e) :
    (shapeCast (s := S1x128x256) (α := F .f32) S128x256 (View.readAt (κ := (c : Thread nD τ).2.kind) (Elt F) (Memref.view (κ := (c : Thread nD τ).2.kind) m) (Rect.unit (s := S4x128x256) ![2, 0, 0] S1x128x256.size pf).toLoadRect (hm.unread xs) : Vec F S1x128x256 .f32) e : Vec F S128x256 .f32) = hd xs 2 :=
  ld_held hm 2 pf xs e
theorem hd_upd20 {e : EltTy} (st : Vec F S4x128x256 e) (w : Vec F S128x256 e) : hd (upd st 2 w) 0 = hd st 0 :=
  hd_upd_ne st 2 0 w (by decide)
theorem hd_upd21 {e : EltTy} (st : Vec F S4x128x256 e) (w : Vec F S128x256 e) : hd (upd st 2 w) 1 = hd st 1 :=
  hd_upd_ne st 2 1 w (by decide)
theorem hd_upd23 {e : EltTy} (st : Vec F S4x128x256 e) (w : Vec F S128x256 e) : hd (upd st 2 w) 3 = hd st 3 :=
  hd_upd_ne st 2 3 w (by decide)

theorem canon_head3 (pf) (pay : Vec F S1x128x256 .f32) (L : List (View.Piece (Elt F) S4x128x256 .f32)) :
    View.canon (⟨Rect.unit (s := S4x128x256) ![3, 0, 0] S1x128x256.size pf, pay⟩ :: L) = upd (View.canon L) 3 (fun j => pay (ix3 (0 : Fin 1) (j 0) (j 1))) :=
  canon_head 3 pf pay L
theorem read_head3 {κ : Kind} {sp : Space} (v : View sig κ sp S4x128x256 .f32) (f : v.ty.Contents (Elt F)) (pf)
    (pay : Vec F S1x128x256 .f32) (L : List (View.Piece (Elt F) S4x128x256 .f32)) :
    v.read (Elt F) (v.writes (Elt F) f (⟨Rect.unit (s := S4x128x256) ![3, 0, 0] S1x128x256.size pf, pay⟩ :: L))
      = upd (v.read (Elt F) (v.writes (Elt F) f L)) 3 (fun j => pay (ix3 (0 : Fin 1) (j 0) (j 1))) :=
  read_head v f 3 pf pay L
theorem ld_head3 {κ : Kind} {sp : Space} (v : View sig κ sp S4x128x256 .f32) (pf) (L : List (View.Piece (Elt F) S4x128x256 .f32)) (e) :
    (shapeCast (s := S1x128x256) (α := F .f32) S128x256 (v.readCov L (Rect.unit (s := S4x128x256) ![3, 0, 0] S1x128x256.size pf).toLoadRect : Vec F S1x128x256 .f32) e : Vec F S128x256 .f32) = hd (View.canon L) 3 :=
  ld_head v 3 pf L e
theorem ld_held3 (c : Dev nD) {m : Memref sig .tc .vmem S4x128x256 .f32} (hm : m.IsWhole) (pf) (xs : Vec F S4x128x256 .f32) (e) :
    (shapeCast (s := S1x128x256) (α := F .f32) S128x256 (View.readAt (κ := (c : Thread nD τ).2.kind) (Elt F) (Memref.view (κ := (c : Thread nD τ).2.kind) m) (Rect.unit (s := S4x128x256) ![3, 0, 0] S1x128x256.size pf).toLoadRect (hm.unread xs) : Vec F S1x128x256 .f32) e : Vec F S128x256 .f32) = hd xs 3 :=
  ld_held hm 3 pf xs e
theorem hd_upd30 {e : EltTy} (st : Vec F S4x128x256 e) (w : Vec F S128x256 e) : hd (upd st 3 w) 0 = hd st 0 :=
  hd_upd_ne st 3 0 w (by decide)
theorem hd_upd31 {e : EltTy} (st : Vec F S4x128x256 e) (w : Vec F S128x256 e) : hd (upd st 3 w) 1 = hd st 1 :=
  hd_upd_ne st 3 1 w (by decide)
theorem hd_upd32 {e : EltTy} (st : Vec F S4x128x256 e) (w : Vec F S128x256 e) : hd (upd st 3 w) 2 = hd st 2 :=
  hd_upd_ne st 3 2 w (by decide)

theorem cut0_2_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off2 i 0#32 1#32) S128x128.size (k0_off2_inb i 0)).toLoadRect (hm.unread x) : Vec F S128x128 .f32) = cut 128 x (row0 i 0) (128 * (0 : Fin 4).val) :=
  ld_cut hm 128 _ _ _ (off0_2_0 i) _ x

theorem cut0_3_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off3 i 0#32 1#32) S128x128.size (k0_off3_inb i 0)).toLoadRect (hm.unread x) : Vec F S128x128 .f32) = cut 128 x (row0 i 0) (512 + 128 * (0 : Fin 4).val) :=
  ld_cut hm 128 _ _ _ (off0_3_0 i) _ x

theorem cut0_4_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off4 i 0#32 1#32) S128x256.size (k0_off4_inb i 0)).toLoadRect (hm.unread x) : Vec F S128x256 .f32) = cut 256 x (row0 i 0) (256 * (0 : Fin 4).val) :=
  ld_cut hm 256 _ _ _ (off0_4_0 i) _ x

theorem cut1_1_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off1 i 1#32 0#32) S128x128.size (k1_off1_inb i 0)).toLoadRect (hm.unread x) : Vec F S128x128 .f32) = cut 128 x (row1 i 0) (128 * (0 : Fin 4).val) :=
  ld_cut hm 128 _ _ _ (off1_1_0 i) _ x

theorem cut1_2_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off2 i 1#32 0#32) S128x128.size (k1_off2_inb i 0)).toLoadRect (hm.unread x) : Vec F S128x128 .f32) = cut 128 x (row1 i 0) (512 + 128 * (0 : Fin 4).val) :=
  ld_cut hm 128 _ _ _ (off1_2_0 i) _ x

theorem cut1_3_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off3 i 1#32 0#32) S128x256.size (k1_off3_inb i 0)).toLoadRect (hm.unread x) : Vec F S128x256 .f32) = cut 256 x (row1 i 0) (256 * (0 : Fin 4).val) :=
  ld_cut hm 256 _ _ _ (off1_3_0 i) _ x

theorem sav1_4_0 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off4 i 1#32 0#32) S1x1x1x128x256.size (k1_off4_inb i 0)).toLoadRect (hm.unread x) : Vec F S1x1x1x128x256 .bf16) e : Vec F S128x256 .bf16) bitsLt_bf16_f32 = sav i x 0 0 :=
  ld_sav hm 0 0 i _ ((off1_4_0 i).trans (by revert i; decide +kernel)) _ x e

theorem cut0_6_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off6 i 0#32 1#32) S128x128.size (k0_off6_inb i 0)).toLoadRect (hm.unread x) : Vec F S128x128 .f32) = cut 128 x (row0 i 0) (128 * (1 : Fin 4).val) :=
  ld_cut hm 128 _ _ _ (off0_6_0 i) _ x

theorem cut0_7_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off7 i 0#32 1#32) S128x128.size (k0_off7_inb i 0)).toLoadRect (hm.unread x) : Vec F S128x128 .f32) = cut 128 x (row0 i 0) (512 + 128 * (1 : Fin 4).val) :=
  ld_cut hm 128 _ _ _ (off0_7_0 i) _ x

theorem cut0_8_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off8 i 0#32 1#32) S128x256.size (k0_off8_inb i 0)).toLoadRect (hm.unread x) : Vec F S128x256 .f32) = cut 256 x (row0 i 0) (256 * (1 : Fin 4).val) :=
  ld_cut hm 256 _ _ _ (off0_8_0 i) _ x

theorem cut1_8_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off8 i 1#32 0#32) S128x128.size (k1_off8_inb i 0)).toLoadRect (hm.unread x) : Vec F S128x128 .f32) = cut 128 x (row1 i 0) (128 * (1 : Fin 4).val) :=
  ld_cut hm 128 _ _ _ (off1_8_0 i) _ x

theorem cut1_9_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off9 i 1#32 0#32) S128x128.size (k1_off9_inb i 0)).toLoadRect (hm.unread x) : Vec F S128x128 .f32) = cut 128 x (row1 i 0) (512 + 128 * (1 : Fin 4).val) :=
  ld_cut hm 128 _ _ _ (off1_9_0 i) _ x

theorem cut1_10_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off10 i 1#32 0#32) S128x256.size (k1_off10_inb i 0)).toLoadRect (hm.unread x) : Vec F S128x256 .f32) = cut 256 x (row1 i 0) (256 * (1 : Fin 4).val) :=
  ld_cut hm 256 _ _ _ (off1_10_0 i) _ x

theorem sav1_11_0 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off11 i 1#32 0#32) S1x1x1x128x256.size (k1_off11_inb i 0)).toLoadRect (hm.unread x) : Vec F S1x1x1x128x256 .bf16) e : Vec F S128x256 .bf16) bitsLt_bf16_f32 = sav i x 0 1 :=
  ld_sav hm 0 1 i _ ((off1_11_0 i).trans (by revert i; decide +kernel)) _ x e

theorem cut0_10_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off10 i 0#32 1#32) S128x128.size (k0_off10_inb i 0)).toLoadRect (hm.unread x) : Vec F S128x128 .f32) = cut 128 x (row0 i 0) (128 * (2 : Fin 4).val) :=
  ld_cut hm 128 _ _ _ (off0_10_0 i) _ x

theorem cut0_11_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off11 i 0#32 1#32) S128x128.size (k0_off11_inb i 0)).toLoadRect (hm.unread x) : Vec F S128x128 .f32) = cut 128 x (row0 i 0) (512 + 128 * (2 : Fin 4).val) :=
  ld_cut hm 128 _ _ _ (off0_11_0 i) _ x

theorem cut0_12_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off12 i 0#32 1#32) S128x256.size (k0_off12_inb i 0)).toLoadRect (hm.unread x) : Vec F S128x256 .f32) = cut 256 x (row0 i 0) (256 * (2 : Fin 4).val) :=
  ld_cut hm 256 _ _ _ (off0_12_0 i) _ x

theorem cut1_15_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off15 i 1#32 0#32) S128x128.size (k1_off15_inb i 0)).toLoadRect (hm.unread x) : Vec F S128x128 .f32) = cut 128 x (row1 i 0) (128 * (2 : Fin 4).val) :=
  ld_cut hm 128 _ _ _ (off1_15_0 i) _ x

theorem cut1_16_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off16 i 1#32 0#32) S128x128.size (k1_off16_inb i 0)).toLoadRect (hm.unread x) : Vec F S128x128 .f32) = cut 128 x (row1 i 0) (512 + 128 * (2 : Fin 4).val) :=
  ld_cut hm 128 _ _ _ (off1_16_0 i) _ x

theorem cut1_17_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off17 i 1#32 0#32) S128x256.size (k1_off17_inb i 0)).toLoadRect (hm.unread x) : Vec F S128x256 .f32) = cut 256 x (row1 i 0) (256 * (2 : Fin 4).val) :=
  ld_cut hm 256 _ _ _ (off1_17_0 i) _ x

theorem sav1_18_0 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off18 i 1#32 0#32) S1x1x1x128x256.size (k1_off18_inb i 0)).toLoadRect (hm.unread x) : Vec F S1x1x1x128x256 .bf16) e : Vec F S128x256 .bf16) bitsLt_bf16_f32 = sav i x 0 2 :=
  ld_sav hm 0 2 i _ ((off1_18_0 i).trans (by revert i; decide +kernel)) _ x e

theorem cut0_14_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off14 i 0#32 1#32) S128x128.size (k0_off14_inb i 0)).toLoadRect (hm.unread x) : Vec F S128x128 .f32) = cut 128 x (row0 i 0) (128 * (3 : Fin 4).val) :=
  ld_cut hm 128 _ _ _ (off0_14_0 i) _ x

theorem cut0_15_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off15 i 0#32 1#32) S128x128.size (k0_off15_inb i 0)).toLoadRect (hm.unread x) : Vec F S128x128 .f32) = cut 128 x (row0 i 0) (512 + 128 * (3 : Fin 4).val) :=
  ld_cut hm 128 _ _ _ (off0_15_0 i) _ x

theorem cut0_16_0 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off16 i 0#32 1#32) S128x256.size (k0_off16_inb i 0)).toLoadRect (hm.unread x) : Vec F S128x256 .f32) = cut 256 x (row0 i 0) (256 * (3 : Fin 4).val) :=
  ld_cut hm 256 _ _ _ (off0_16_0 i) _ x

theorem cut1_22_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off22 i 1#32 0#32) S128x128.size (k1_off22_inb i 0)).toLoadRect (hm.unread x) : Vec F S128x128 .f32) = cut 128 x (row1 i 0) (128 * (3 : Fin 4).val) :=
  ld_cut hm 128 _ _ _ (off1_22_0 i) _ x

theorem cut1_23_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off23 i 1#32 0#32) S128x128.size (k1_off23_inb i 0)).toLoadRect (hm.unread x) : Vec F S128x128 .f32) = cut 128 x (row1 i 0) (512 + 128 * (3 : Fin 4).val) :=
  ld_cut hm 128 _ _ _ (off1_23_0 i) _ x

theorem cut1_24_0 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off24 i 1#32 0#32) S128x256.size (k1_off24_inb i 0)).toLoadRect (hm.unread x) : Vec F S128x256 .f32) = cut 256 x (row1 i 0) (256 * (3 : Fin 4).val) :=
  ld_cut hm 256 _ _ _ (off1_24_0 i) _ x

theorem sav1_25_0 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off25 i 1#32 0#32) S1x1x1x128x256.size (k1_off25_inb i 0)).toLoadRect (hm.unread x) : Vec F S1x1x1x128x256 .bf16) e : Vec F S128x256 .bf16) bitsLt_bf16_f32 = sav i x 0 3 :=
  ld_sav hm 0 3 i _ ((off1_25_0 i).trans (by revert i; decide +kernel)) _ x e

theorem cut0_2_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off2 i 1#32 0#32) S128x128.size (k0_off2_inb i 1)).toLoadRect (hm.unread x) : Vec F S128x128 .f32) = cut 128 x (row0 i 1) (128 * (0 : Fin 4).val) :=
  ld_cut hm 128 _ _ _ (off0_2_1 i) _ x

theorem cut0_3_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off3 i 1#32 0#32) S128x128.size (k0_off3_inb i 1)).toLoadRect (hm.unread x) : Vec F S128x128 .f32) = cut 128 x (row0 i 1) (512 + 128 * (0 : Fin 4).val) :=
  ld_cut hm 128 _ _ _ (off0_3_1 i) _ x

theorem cut0_4_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off4 i 1#32 0#32) S128x256.size (k0_off4_inb i 1)).toLoadRect (hm.unread x) : Vec F S128x256 .f32) = cut 256 x (row0 i 1) (256 * (0 : Fin 4).val) :=
  ld_cut hm 256 _ _ _ (off0_4_1 i) _ x

theorem cut1_1_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off1 i 0#32 1#32) S128x128.size (k1_off1_inb i 1)).toLoadRect (hm.unread x) : Vec F S128x128 .f32) = cut 128 x (row1 i 1) (128 * (0 : Fin 4).val) :=
  ld_cut hm 128 _ _ _ (off1_1_1 i) _ x

theorem cut1_2_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off2 i 0#32 1#32) S128x128.size (k1_off2_inb i 1)).toLoadRect (hm.unread x) : Vec F S128x128 .f32) = cut 128 x (row1 i 1) (512 + 128 * (0 : Fin 4).val) :=
  ld_cut hm 128 _ _ _ (off1_2_1 i) _ x

theorem cut1_3_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off3 i 0#32 1#32) S128x256.size (k1_off3_inb i 1)).toLoadRect (hm.unread x) : Vec F S128x256 .f32) = cut 256 x (row1 i 1) (256 * (0 : Fin 4).val) :=
  ld_cut hm 256 _ _ _ (off1_3_1 i) _ x

theorem sav1_4_1 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off4 i 0#32 1#32) S1x1x1x128x256.size (k1_off4_inb i 1)).toLoadRect (hm.unread x) : Vec F S1x1x1x128x256 .bf16) e : Vec F S128x256 .bf16) bitsLt_bf16_f32 = sav i x 1 0 :=
  ld_sav hm 1 0 i _ ((off1_4_1 i).trans (by revert i; decide +kernel)) _ x e

theorem cut0_6_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off6 i 1#32 0#32) S128x128.size (k0_off6_inb i 1)).toLoadRect (hm.unread x) : Vec F S128x128 .f32) = cut 128 x (row0 i 1) (128 * (1 : Fin 4).val) :=
  ld_cut hm 128 _ _ _ (off0_6_1 i) _ x

theorem cut0_7_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off7 i 1#32 0#32) S128x128.size (k0_off7_inb i 1)).toLoadRect (hm.unread x) : Vec F S128x128 .f32) = cut 128 x (row0 i 1) (512 + 128 * (1 : Fin 4).val) :=
  ld_cut hm 128 _ _ _ (off0_7_1 i) _ x

theorem cut0_8_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off8 i 1#32 0#32) S128x256.size (k0_off8_inb i 1)).toLoadRect (hm.unread x) : Vec F S128x256 .f32) = cut 256 x (row0 i 1) (256 * (1 : Fin 4).val) :=
  ld_cut hm 256 _ _ _ (off0_8_1 i) _ x

theorem cut1_8_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off8 i 0#32 1#32) S128x128.size (k1_off8_inb i 1)).toLoadRect (hm.unread x) : Vec F S128x128 .f32) = cut 128 x (row1 i 1) (128 * (1 : Fin 4).val) :=
  ld_cut hm 128 _ _ _ (off1_8_1 i) _ x

theorem cut1_9_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off9 i 0#32 1#32) S128x128.size (k1_off9_inb i 1)).toLoadRect (hm.unread x) : Vec F S128x128 .f32) = cut 128 x (row1 i 1) (512 + 128 * (1 : Fin 4).val) :=
  ld_cut hm 128 _ _ _ (off1_9_1 i) _ x

theorem cut1_10_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off10 i 0#32 1#32) S128x256.size (k1_off10_inb i 1)).toLoadRect (hm.unread x) : Vec F S128x256 .f32) = cut 256 x (row1 i 1) (256 * (1 : Fin 4).val) :=
  ld_cut hm 256 _ _ _ (off1_10_1 i) _ x

theorem sav1_11_1 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off11 i 0#32 1#32) S1x1x1x128x256.size (k1_off11_inb i 1)).toLoadRect (hm.unread x) : Vec F S1x1x1x128x256 .bf16) e : Vec F S128x256 .bf16) bitsLt_bf16_f32 = sav i x 1 1 :=
  ld_sav hm 1 1 i _ ((off1_11_1 i).trans (by revert i; decide +kernel)) _ x e

theorem cut0_10_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off10 i 1#32 0#32) S128x128.size (k0_off10_inb i 1)).toLoadRect (hm.unread x) : Vec F S128x128 .f32) = cut 128 x (row0 i 1) (128 * (2 : Fin 4).val) :=
  ld_cut hm 128 _ _ _ (off0_10_1 i) _ x

theorem cut0_11_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off11 i 1#32 0#32) S128x128.size (k0_off11_inb i 1)).toLoadRect (hm.unread x) : Vec F S128x128 .f32) = cut 128 x (row0 i 1) (512 + 128 * (2 : Fin 4).val) :=
  ld_cut hm 128 _ _ _ (off0_11_1 i) _ x

theorem cut0_12_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off12 i 1#32 0#32) S128x256.size (k0_off12_inb i 1)).toLoadRect (hm.unread x) : Vec F S128x256 .f32) = cut 256 x (row0 i 1) (256 * (2 : Fin 4).val) :=
  ld_cut hm 256 _ _ _ (off0_12_1 i) _ x

theorem cut1_15_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off15 i 0#32 1#32) S128x128.size (k1_off15_inb i 1)).toLoadRect (hm.unread x) : Vec F S128x128 .f32) = cut 128 x (row1 i 1) (128 * (2 : Fin 4).val) :=
  ld_cut hm 128 _ _ _ (off1_15_1 i) _ x

theorem cut1_16_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off16 i 0#32 1#32) S128x128.size (k1_off16_inb i 1)).toLoadRect (hm.unread x) : Vec F S128x128 .f32) = cut 128 x (row1 i 1) (512 + 128 * (2 : Fin 4).val) :=
  ld_cut hm 128 _ _ _ (off1_16_1 i) _ x

theorem cut1_17_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off17 i 0#32 1#32) S128x256.size (k1_off17_inb i 1)).toLoadRect (hm.unread x) : Vec F S128x256 .f32) = cut 256 x (row1 i 1) (256 * (2 : Fin 4).val) :=
  ld_cut hm 256 _ _ _ (off1_17_1 i) _ x

theorem sav1_18_1 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off18 i 0#32 1#32) S1x1x1x128x256.size (k1_off18_inb i 1)).toLoadRect (hm.unread x) : Vec F S1x1x1x128x256 .bf16) e : Vec F S128x256 .bf16) bitsLt_bf16_f32 = sav i x 1 2 :=
  ld_sav hm 1 2 i _ ((off1_18_1 i).trans (by revert i; decide +kernel)) _ x e

theorem cut0_14_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off14 i 1#32 0#32) S128x128.size (k0_off14_inb i 1)).toLoadRect (hm.unread x) : Vec F S128x128 .f32) = cut 128 x (row0 i 1) (128 * (3 : Fin 4).val) :=
  ld_cut hm 128 _ _ _ (off0_14_1 i) _ x

theorem cut0_15_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off15 i 1#32 0#32) S128x128.size (k0_off15_inb i 1)).toLoadRect (hm.unread x) : Vec F S128x128 .f32) = cut 128 x (row0 i 1) (512 + 128 * (3 : Fin 4).val) :=
  ld_cut hm 128 _ _ _ (off0_15_1 i) _ x

theorem cut0_16_1 (i : grid0.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k0_off16 i 1#32 0#32) S128x256.size (k0_off16_inb i 1)).toLoadRect (hm.unread x) : Vec F S128x256 .f32) = cut 256 x (row0 i 1) (256 * (3 : Fin 4).val) :=
  ld_cut hm 256 _ _ _ (off0_16_1 i) _ x

theorem cut1_22_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off22 i 0#32 1#32) S128x128.size (k1_off22_inb i 1)).toLoadRect (hm.unread x) : Vec F S128x128 .f32) = cut 128 x (row1 i 1) (128 * (3 : Fin 4).val) :=
  ld_cut hm 128 _ _ _ (off1_22_1 i) _ x

theorem cut1_23_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off23 i 0#32 1#32) S128x128.size (k1_off23_inb i 1)).toLoadRect (hm.unread x) : Vec F S128x128 .f32) = cut 128 x (row1 i 1) (512 + 128 * (3 : Fin 4).val) :=
  ld_cut hm 128 _ _ _ (off1_23_1 i) _ x

theorem cut1_24_1 (i : grid1.Coords) (c : Dev nD) {m : Memref sig .tc .vmem S256x1024 .f32} (hm : m.IsWhole) (x : Vec F S256x1024 .f32) :
    (View.readAt (κ := (c : Thread nD τ).2.kind) (Elt F) (Memref.view (κ := (c : Thread nD τ).2.kind) m) (Rect.unit (s := S256x1024) (k1_off24 i 0#32 1#32) S128x256.size (k1_off24_inb i 1)).toLoadRect (hm.unread x) : Vec F S128x256 .f32) = cut 256 x (row1 i 1) (256 * (3 : Fin 4).val) :=
  ld_cut hm 256 _ _ _ (off1_24_1 i) _ x

theorem sav1_25_1 (i : grid1.Coords) (c : Dev nD) {m : Memref sig .tc .vmem S1x2x4x128x256 .bf16} (hm : m.IsWhole) (x : Vec F S1x2x4x128x256 .bf16) (e) :
    extf .f32 (φ := .bf16) (shapeCast (s := S1x1x1x128x256) (α := F .bf16) S128x256 (View.readAt (κ := (c : Thread nD τ).2.kind) (Elt F) (Memref.view (κ := (c : Thread nD τ).2.kind) m) (Rect.unit (s := S1x2x4x128x256) (k1_off25 i 0#32 1#32) S1x1x1x128x256.size (k1_off25_inb i 1)).toLoadRect (hm.unread x) : Vec F S1x1x1x128x256 .bf16) e : Vec F S128x256 .bf16) bitsLt_bf16_f32 = sav i x 1 3 :=
  ld_sav hm 1 3 i _ ((off1_25_1 i).trans (by revert i; decide +kernel)) _ x e

theorem ld_all' {κ : Kind} {sp : Space} (v : View sig κ sp S4x128x256 .f32) (pf) (L : List (View.Piece (Elt F) S4x128x256 .f32)) :
    (v.readCov L (Rect.unit (s := S4x128x256) ![0, 0, 0] S4x128x256.size pf).toLoadRect : Vec F S4x128x256 .f32) = View.canon L := ld_all v pf L
theorem ld_held_all' (c : Dev nD) {m : Memref sig .tc .vmem S4x128x256 .f32} (hm : m.IsWhole) (pf) (xs : Vec F S4x128x256 .f32) :
    (View.readAt (κ := (c : Thread nD τ).2.kind) (Elt F) (Memref.view (κ := (c : Thread nD τ).2.kind) m) (Rect.unit (s := S4x128x256) ![0, 0, 0] S4x128x256.size pf).toLoadRect (hm.unread xs) : Vec F S4x128x256 .f32) = xs := ld_held_all hm pf xs
theorem canon_all' (pf) (pay : Vec F S4x128x256 .f32) (L : List (View.Piece (Elt F) S4x128x256 .f32)) :
    View.canon (⟨Rect.unit (s := S4x128x256) ![0, 0, 0] S4x128x256.size pf, pay⟩ :: L) = pay := canon_all pf pay L
theorem ld_unb' (c : Dev nD) {m : Memref sig .tc .vmem S1x4x128x256 .f32} (hm : m.IsWhole) (pf) (x : Vec F S1x4x128x256 .f32) (e e') :
    (shapeCast (s := S4x128x256) (α := F .f32) S4x128x256 (shapeCast (s := S1x4x128x256) (α := F .f32) S4x128x256 (View.readAt (κ := (c : Thread nD τ).2.kind) (Elt F) (Memref.view (κ := (c : Thread nD τ).2.kind) m) (Rect.unit (s := S1x4x128x256) ![0, 0, 0, 0] S1x4x128x256.size pf).toLoadRect (hm.unread x) : Vec F S1x4x128x256 .f32) e : Vec F S4x128x256 .f32) e' : Vec F S4x128x256 .f32) = unb x := ld_unb hm pf x e e'
theorem read_rebd' {κ : Kind} {sp : Space} (v : View sig κ sp S1x4x128x256 .f32) (f : v.ty.Contents (Elt F)) (pf) (x : Vec F S4x128x256 .f32) (e) :
    v.read (Elt F) (v.writes (Elt F) f [⟨Rect.unit (s := S1x4x128x256) ![0, 0, 0, 0] S1x4x128x256.size pf, shapeCast S1x4x128x256 x e⟩]) = rebd x := read_rebd v f pf x e

theorem two0 (i : grid0.Coords) : (i 0).val < 2 := (i 0).isLt
theorem two1 (i : grid1.Coords) : (i 0).val < 2 := (i 0).isLt

theorem row0_lt (i : grid0.Coords) (g : Fin 2) : row0 i g = 128 * ((row0 i g) / 128) ∧ row0 i g / 128 < 2 := by
  have := two0 i
  fin_cases g <;> (simp only [row0]; omega)
theorem row1_lt (i : grid1.Coords) (g : Fin 2) : row1 i g = 128 * ((row1 i g) / 128) ∧ row1 i g / 128 < 2 := by
  have := two1 i
  fin_cases g <;> (simp only [row1]; omega)

theorem sel0_row (i : grid0.Coords) (g : Fin 2) (r : ℕ) (hr : r < 128) : sel0 i (row0 i g + r) = g := by
  have := two0 i
  fin_cases g
  · exact if_pos (show (128 * (i 0).val + r) / 128 = (i 0).val by omega)
  · exact if_neg (show ¬(128 - 128 * (i 0).val + r) / 128 = (i 0).val by omega)
theorem sel1_row (i : grid1.Coords) (g : Fin 2) (r : ℕ) (hr : r < 128) : sel1 i (row1 i g + r) = g := by
  have := two1 i
  fin_cases g
  · exact if_neg (show ¬(128 - 128 * (i 0).val + r) / 128 = (i 0).val by omega)
  · exact if_pos (show (128 * (i 0).val + r) / 128 = (i 0).val by omega)

theorem ofNat4 (w c : ℕ) (h : Fin 4) (hw : c / w = h.val) : Fin.ofNat 4 (c / w) = h := by
  apply Fin.ext; show c / w % 4 = h.val; rw [hw]; exact Nat.mod_eq_of_lt h.isLt

theorem sc_add (w : Vec F S128x256 .f32) (e) (x : S1x128x256.Idx) : (shapeCast S1x128x256 w e : Vec F S1x128x256 .f32) x = w (ix2 (x 1) (x 2)) := by
  refine (shapeCast_addUnit_apply ![128, 256] w e x).trans (congrArg w (funext fun a => ?_))
  fin_cases a <;> rfl
theorem sc_add128 (w : Vec F S128x128 .f32) (e) (x : S1x128x128.Idx) : (shapeCast S1x128x128 w e : Vec F S1x128x128 .f32) x = w (ix2 (x 1) (x 2)) := by
  refine (shapeCast_addUnit_apply ![128, 128] w e x).trans (congrArg w (funext fun a => ?_))
  fin_cases a <;> rfl

theorem outO_piece (i : grid0.Coords) (g : Fin 2) (h : Fin 4) (off : Fin 3 → ℕ) (ho : off = ![0, row0 i g, 256 * h.val])
    (pf : ∀ a, off a + S1x128x256.size a ≤ S1x256x1024.size a) (x0 x1 : Vec F S256x1024 .f32) (st : Vec F S4x128x256 .f32)
    (pay : Vec F S1x128x256 .f32) (e)
    (hp : pay = shapeCast S1x128x256 (FO (lgc h) (rev0 i) (cut 128 x0 (row0 i g) (128 * h.val)) (cut 128 x0 (row0 i g) (512 + 128 * h.val))
      (cut 256 x1 (row0 i g) (256 * h.val)) (hd (st0 i x0 x1 st g) h)) e) :
    ∀ x, (⟨Rect.unit (s := S1x256x1024) off S1x128x256.size pf, pay⟩ : View.Piece (Elt F) S1x256x1024 .f32).2 x = outO i x0 x1 st ((⟨Rect.unit (s := S1x256x1024) off S1x128x256.size pf, pay⟩ : View.Piece (Elt F) S1x256x1024 .f32).1.emb x) := by
  intro x
  change S1x128x256.Idx at x
  change pay x = outO i x0 x1 st ((Rect.unit (s := S1x256x1024) off S1x128x256.size pf).emb x)
  subst ho
  rw [hp, sc_add]
  have hx1 : (x 1).val < 128 := (x 1).isLt
  have hx2 : (x 2).val < 256 := (x 2).isLt
  have hr := row0_lt i g
  have e1 : (((Rect.unit (s := S1x256x1024) ![0, row0 i g, 256 * h.val] S1x128x256.size pf).emb x) 1).val = row0 i g + (x 1).val := by
    show row0 i g + 1 * (x 1).val = _; omega
  have e2 : (((Rect.unit (s := S1x256x1024) ![0, row0 i g, 256 * h.val] S1x128x256.size pf).emb x) 2).val = 256 * h.val + (x 2).val := by
    show 256 * h.val + 1 * (x 2).val = _; omega
  have i1 : (Fin.ofNat 128 (row0 i g + (x 1).val)) = x 1 := by
    apply Fin.ext; show (row0 i g + (x 1).val) % 128 = (x 1).val; omega
  have i2 : (Fin.ofNat 256 (256 * h.val + (x 2).val)) = x 2 := by
    apply Fin.ext; show (256 * h.val + (x 2).val) % 256 = (x 2).val; omega
  unfold outO
  rw [e1, e2, sel0_row i g _ hx1, ofNat4 256 _ h (by omega), i1, i2]

theorem outV_piece (i : grid1.Coords) (g : Fin 2) (h : Fin 4) (off : Fin 3 → ℕ) (ho : off = ![0, row1 i g, 256 * h.val])
    (pf : ∀ a, off a + S1x128x256.size a ≤ S1x256x1024.size a) (x0 x3 : Vec F S256x1024 .f32) (dst : Vec F S4x128x256 .f32)
    (pay : Vec F S1x128x256 .f32) (e)
    (hp : pay = shapeCast S1x128x256 (BV (lgc h) (rev1 i) (cut 128 x0 (row1 i g) (128 * h.val)) (cut 128 x0 (row1 i g) (512 + 128 * h.val))
      (cut 256 x3 (row1 i g) (256 * h.val)) (hd (st1 i x0 x3 dst g) h)) e) :
    ∀ x, (⟨Rect.unit (s := S1x256x1024) off S1x128x256.size pf, pay⟩ : View.Piece (Elt F) S1x256x1024 .f32).2 x = outV i x0 x3 dst ((⟨Rect.unit (s := S1x256x1024) off S1x128x256.size pf, pay⟩ : View.Piece (Elt F) S1x256x1024 .f32).1.emb x) := by
  intro x
  change S1x128x256.Idx at x
  change pay x = outV i x0 x3 dst ((Rect.unit (s := S1x256x1024) off S1x128x256.size pf).emb x)
  subst ho
  rw [hp, sc_add]
  have hx1 : (x 1).val < 128 := (x 1).isLt
  have hx2 : (x 2).val < 256 := (x 2).isLt
  have hr := row1_lt i g
  have e1 : (((Rect.unit (s := S1x256x1024) ![0, row1 i g, 256 * h.val] S1x128x256.size pf).emb x) 1).val = row1 i g + (x 1).val := by
    show row1 i g + 1 * (x 1).val = _; omega
  have e2 : (((Rect.unit (s := S1x256x1024) ![0, row1 i g, 256 * h.val] S1x128x256.size pf).emb x) 2).val = 256 * h.val + (x 2).val := by
    show 256 * h.val + 1 * (x 2).val = _; omega
  have i1 : (Fin.ofNat 128 (row1 i g + (x 1).val)) = x 1 := by
    apply Fin.ext; show (row1 i g + (x 1).val) % 128 = (x 1).val; omega
  have i2 : (Fin.ofNat 256 (256 * h.val + (x 2).val)) = x 2 := by
    apply Fin.ext; show (256 * h.val + (x 2).val) % 256 = (x 2).val; omega
  unfold outV
  rw [e1, e2, sel1_row i g _ hx1, ofNat4 256 _ h (by omega), i1, i2]

theorem outQ_piece (i : grid1.Coords) (g : Fin 2) (h : Fin 4) (off : Fin 3 → ℕ) (ho : off = ![0, row1 i g, 128 * h.val])
    (pf : ∀ a, off a + S1x128x128.size a ≤ S1x256x1024.size a) (x0 x1 : Vec F S256x1024 .f32) (x2 : Vec F S1x2x4x128x256 .bf16)
    (x3 : Vec F S256x1024 .f32) (dst : Vec F S4x128x256 .f32) (pay : Vec F S1x128x128 .f32) (e)
    (hp : pay = shapeCast S1x128x128 (BQ (lgc h) (rev1 i) (cut 128 x0 (row1 i g) (512 + 128 * h.val)) (cut 256 x1 (row1 i g) (256 * h.val)) (sav i x2 g h) (cut 256 x3 (row1 i g) (256 * h.val))) e) :
    ∀ x, (⟨Rect.unit (s := S1x256x1024) off S1x128x128.size pf, pay⟩ : View.Piece (Elt F) S1x256x1024 .f32).2 x = outQK i x0 x1 x2 x3 dst ((⟨Rect.unit (s := S1x256x1024) off S1x128x128.size pf, pay⟩ : View.Piece (Elt F) S1x256x1024 .f32).1.emb x) := by
  intro x
  change S1x128x128.Idx at x
  change pay x = outQK i x0 x1 x2 x3 dst ((Rect.unit (s := S1x256x1024) off S1x128x128.size pf).emb x)
  subst ho
  rw [hp, sc_add128]
  have hx1 : (x 1).val < 128 := (x 1).isLt
  have hx2 : (x 2).val < 128 := (x 2).isLt
  have hh : h.val < 4 := h.isLt
  have hr := row1_lt i g
  have e1 : (((Rect.unit (s := S1x256x1024) ![0, row1 i g, 128 * h.val] S1x128x128.size pf).emb x) 1).val = row1 i g + (x 1).val := by
    show row1 i g + 1 * (x 1).val = _; omega
  have e2 : (((Rect.unit (s := S1x256x1024) ![0, row1 i g, 128 * h.val] S1x128x128.size pf).emb x) 2).val = 128 * h.val + (x 2).val := by
    show 128 * h.val + 1 * (x 2).val = _; omega
  have i1 : (Fin.ofNat 128 (row1 i g + (x 1).val)) = x 1 := by
    apply Fin.ext; show (row1 i g + (x 1).val) % 128 = (x 1).val; omega
  have i2 : (Fin.ofNat 128 (128 * h.val + (x 2).val)) = x 2 := by
    apply Fin.ext; show (128 * h.val + (x 2).val) % 128 = (x 2).val; omega
  have i3 : Fin.ofNat 4 ((128 * h.val + (x 2).val) / 128) = h := by
    apply Fin.ext; show (128 * h.val + (x 2).val) / 128 % 4 = h.val; omega
  unfold outQK
  rw [e1, e2, sel1_row i g _ hx1, i3, i1, i2]
  refine Eq.symm (if_pos (show 128 * h.val + (x 2).val < 512 by omega) )

theorem outK_piece (i : grid1.Coords) (g : Fin 2) (h : Fin 4) (off : Fin 3 → ℕ) (ho : off = ![0, row1 i g, 512 + 128 * h.val])
    (pf : ∀ a, off a + S1x128x128.size a ≤ S1x256x1024.size a) (x0 x1 : Vec F S256x1024 .f32) (x2 : Vec F S1x2x4x128x256 .bf16)
    (x3 : Vec F S256x1024 .f32) (dst : Vec F S4x128x256 .f32) (pay : Vec F S1x128x128 .f32) (e)
    (hp : pay = shapeCast S1x128x128 (BK (lgc h) (rev1 i) (cut 128 x0 (row1 i g) (128 * h.val)) (cut 256 x1 (row1 i g) (256 * h.val)) (cut 256 x3 (row1 i g) (256 * h.val)) (hd (st1 i x0 x3 dst g) h)) e) :
    ∀ x, (⟨Rect.unit (s := S1x256x1024) off S1x128x128.size pf, pay⟩ : View.Piece (Elt F) S1x256x1024 .f32).2 x = outQK i x0 x1 x2 x3 dst ((⟨Rect.unit (s := S1x256x1024) off S1x128x128.size pf, pay⟩ : View.Piece (Elt F) S1x256x1024 .f32).1.emb x) := by
  intro x
  change S1x128x128.Idx at x
  change pay x = outQK i x0 x1 x2 x3 dst ((Rect.unit (s := S1x256x1024) off S1x128x128.size pf).emb x)
  subst ho
  rw [hp, sc_add128]
  have hx1 : (x 1).val < 128 := (x 1).isLt
  have hx2 : (x 2).val < 128 := (x 2).isLt
  have hh : h.val < 4 := h.isLt
  have hr := row1_lt i g
  have e1 : (((Rect.unit (s := S1x256x1024) ![0, row1 i g, 512 + 128 * h.val] S1x128x128.size pf).emb x) 1).val = row1 i g + (x 1).val := by
    show row1 i g + 1 * (x 1).val = _; omega
  have e2 : (((Rect.unit (s := S1x256x1024) ![0, row1 i g, 512 + 128 * h.val] S1x128x128.size pf).emb x) 2).val = 512 + 128 * h.val + (x 2).val := by
    show 512 + 128 * h.val + 1 * (x 2).val = _; omega
  have i1 : (Fin.ofNat 128 (row1 i g + (x 1).val)) = x 1 := by
    apply Fin.ext; show (row1 i g + (x 1).val) % 128 = (x 1).val; omega
  have i2 : (Fin.ofNat 128 (512 + 128 * h.val + (x 2).val)) = x 2 := by
    apply Fin.ext; show (512 + 128 * h.val + (x 2).val) % 128 = (x 2).val; omega
  have i3 : Fin.ofNat 4 ((512 + 128 * h.val + (x 2).val) / 128) = h := by
    apply Fin.ext; show (512 + 128 * h.val + (x 2).val) / 128 % 4 = h.val; omega
  unfold outQK
  rw [e1, e2, sel1_row i g _ hx1, i3, i1, i2]
  refine Eq.symm (if_neg (show ¬ 512 + 128 * h.val + (x 2).val < 512 by omega) )

theorem outS_piece (i : grid0.Coords) (g : Fin 2) (off : Fin 5 → ℕ) (ho : off = ![0, row0 i g / 128, 0, 0, 0])
    (pf : ∀ a, off a + S1x1x4x128x256.size a ≤ S1x2x4x128x256.size a) (x0 x1 : Vec F S256x1024 .f32) (st : Vec F S4x128x256 .f32)
    (pay : Vec F S1x1x4x128x256 .bf16) (e)
    (hp : pay = shapeCast S1x1x4x128x256 (truncf .bf16 (st0 i x0 x1 st g) bitsLt_bf16_f32) e) :
    ∀ x, (⟨Rect.unit (s := S1x2x4x128x256) off S1x1x4x128x256.size pf, pay⟩ : View.Piece (Elt F) S1x2x4x128x256 .bf16).2 x = outS i x0 x1 st ((⟨Rect.unit (s := S1x2x4x128x256) off S1x1x4x128x256.size pf, pay⟩ : View.Piece (Elt F) S1x2x4x128x256 .bf16).1.emb x) := by
  intro x
  change S1x1x4x128x256.Idx at x
  change pay x = outS i x0 x1 st ((Rect.unit (s := S1x2x4x128x256) off S1x1x4x128x256.size pf).emb x)
  subst ho
  rw [hp]
  have h0 : (x 0).val < 1 := (x 0).isLt
  have h1 : (x 1).val < 1 := (x 1).isLt
  have hr := row0_lt i g
  have e1 : (((Rect.unit (s := S1x2x4x128x256) ![0, row0 i g / 128, 0, 0, 0] S1x1x4x128x256.size pf).emb x) 1).val = row0 i g / 128 := by
    show row0 i g / 128 + 1 * (x 1).val = _; omega
  have e2 : (((Rect.unit (s := S1x2x4x128x256) ![0, row0 i g / 128, 0, 0, 0] S1x1x4x128x256.size pf).emb x) 2) = x 2 := by
    apply Fin.ext; show 0 + 1 * (x 2).val = (x 2).val; omega
  have e3 : (((Rect.unit (s := S1x2x4x128x256) ![0, row0 i g / 128, 0, 0, 0] S1x1x4x128x256.size pf).emb x) 3) = x 3 := by
    apply Fin.ext; show 0 + 1 * (x 3).val = (x 3).val; omega
  have e4 : (((Rect.unit (s := S1x2x4x128x256) ![0, row0 i g / 128, 0, 0, 0] S1x1x4x128x256.size pf).emb x) 4) = x 4 := by
    apply Fin.ext; show 0 + 1 * (x 4).val = (x 4).val; omega
  have hs : sel0 i (128 * (row0 i g / 128)) = g := by
    have := sel0_row i g 0 (by omega)
    rwa [Nat.add_zero, hr.1] at this
  unfold outS
  rw [e1, e2, e3, e4, hs]
  refine Idealize.ShloMosaic.shapeCast_apply _ e x (ix3 (x 2) (x 3) (x 4) : S4x128x256.Idx) ?_
  rw [Shape.rowMajor_val_five, Shape.rowMajor_val_three]
  show (((x 2).val * 128 + (x 3).val) * 256 + (x 4).val) = (((((x 0).val * 1 + (x 1).val) * 4 + (x 2).val) * 128 + (x 3).val) * 256 + (x 4).val)
  omega

end Cert.KernelIdeal.Ret

end
-- ==== Proof.Cover.lean ====
/- That the pieces that a body stores in a window cover the window. -/
module

public import proofs.«01_k».proof.Proof.Pieces

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

theorem read_of {s : Shape} {e : EltTy} {κ : Kind} {sp : Space} (v : View sig κ sp s e) (L : List (View.Piece (Elt F) s e)) (G : s.Idx → Elt F e)
    (hG : ∀ p ∈ L, ∀ x : p.1.shape.Idx, p.2 x = G (p.1.emb x)) (hc : ∀ y, ∃ p ∈ L, y ∈ p.1.set) (f : v.ty.Contents (Elt F)) :
    v.read (Elt F) (v.writes (Elt F) f L) = G :=
  funext fun y => View.read_writes_apply_of_pieces v f G L hG y (hc y)

theorem ext_hd4 {e : EltTy} (a b : Vec F S4x128x256 e) (h0 : hd a 0 = hd b 0) (h1 : hd a 1 = hd b 1) (h2 : hd a 2 = hd b 2) (h3 : hd a 3 = hd b 3) : a = b :=
  ext_hd a b fun h => by fin_cases h; exacts [h0, h1, h2, h3]

theorem ld_all2 {κ : Kind} {sp : Space} (v : View sig κ sp S4x128x256 .f32) (pf) (L : List (View.Piece (Elt F) S4x128x256 .f32)) :
    (v.readCov L (Rect.unit (s := S4x128x256) ![0, 0, 0] ![4, 128, 256] pf).toLoadRect : Vec F S4x128x256 .f32) = View.canon L := ld_all v pf L
theorem canon_head3L (pf) (pay : Vec F S1x128x256 .f32) (L : List (View.Piece (Elt F) S4x128x256 .f32)) :
    View.canon (⟨Rect.unit (s := S4x128x256) ![3, 0, 0] ![1, 128, 256] pf, pay⟩ :: L) = upd (View.canon L) 3 (fun j => pay (ix3 (0 : Fin 1) (j 0) (j 1))) :=
  canon_head 3 pf pay L
theorem sc_same2 (x : FVec F S128x256 .f32) (e) : shapeCast (s := S128x256) (α := F .f32) S128x256 x e = x := shapeCast_self x e

theorem coverO (i : grid0.Coords) (L : List (View.Piece (Elt F) S1x256x1024 .f32))
    (H : ∀ (g : Fin 2) (h : Fin 4), ∃ off : Fin 3 → ℕ, off = ![0, row0 i g, 256 * h.val] ∧ ∃ pf pay,
      (⟨Rect.unit (s := S1x256x1024) off S1x128x256.size pf, pay⟩ : View.Piece (Elt F) S1x256x1024 .f32) ∈ L) :
    ∀ y, ∃ p ∈ L, y ∈ p.1.set := by
  intro y
  have y0 : (y 0).val < 1 := (y 0).isLt
  have y1 : (y 1).val < 256 := (y 1).isLt
  have y2 : (y 2).val < 1024 := (y 2).isLt
  have hi := two0 i
  obtain ⟨off, ho, pf, pay, hm⟩ := H (sel0 i (y 1).val) ⟨(y 2).val / 256, by omega⟩
  subst ho
  refine ⟨_, hm, ?_⟩
  refine (Rect.mem_set_unit (inb := pf)).2 fun a => ?_
  have hs : row0 i (sel0 i (y 1).val) ≤ (y 1).val ∧ (y 1).val < row0 i (sel0 i (y 1).val) + 128 := by
    unfold sel0; split <;> (simp only [row0]; omega)
  fin_cases a
  · exact ⟨Nat.zero_le _, by show (y 0).val < 0 + 1; omega⟩
  · exact hs
  · exact ⟨by show 256 * ((y 2).val / 256) ≤ (y 2).val; omega, by show (y 2).val < 256 * ((y 2).val / 256) + 256; omega⟩

theorem coverV (i : grid1.Coords) (L : List (View.Piece (Elt F) S1x256x1024 .f32))
    (H : ∀ (g : Fin 2) (h : Fin 4), ∃ off : Fin 3 → ℕ, off = ![0, row1 i g, 256 * h.val] ∧ ∃ pf pay,
      (⟨Rect.unit (s := S1x256x1024) off S1x128x256.size pf, pay⟩ : View.Piece (Elt F) S1x256x1024 .f32) ∈ L) :
    ∀ y, ∃ p ∈ L, y ∈ p.1.set := by
  intro y
  have y0 : (y 0).val < 1 := (y 0).isLt
  have y1 : (y 1).val < 256 := (y 1).isLt
  have y2 : (y 2).val < 1024 := (y 2).isLt
  have hi := two1 i
  obtain ⟨off, ho, pf, pay, hm⟩ := H (sel1 i (y 1).val) ⟨(y 2).val / 256, by omega⟩
  subst ho
  refine ⟨_, hm, ?_⟩
  refine (Rect.mem_set_unit (inb := pf)).2 fun a => ?_
  have hs : row1 i (sel1 i (y 1).val) ≤ (y 1).val ∧ (y 1).val < row1 i (sel1 i (y 1).val) + 128 := by
    unfold sel1; split <;> (simp only [row1]; omega)
  fin_cases a
  · exact ⟨Nat.zero_le _, by show (y 0).val < 0 + 1; omega⟩
  · exact hs
  · exact ⟨by show 256 * ((y 2).val / 256) ≤ (y 2).val; omega, by show (y 2).val < 256 * ((y 2).val / 256) + 256; omega⟩

theorem coverQK (i : grid1.Coords) (L : List (View.Piece (Elt F) S1x256x1024 .f32))
    (HQ : ∀ (g : Fin 2) (h : Fin 4), ∃ off : Fin 3 → ℕ, off = ![0, row1 i g, 128 * h.val] ∧ ∃ pf pay,
      (⟨Rect.unit (s := S1x256x1024) off S1x128x128.size pf, pay⟩ : View.Piece (Elt F) S1x256x1024 .f32) ∈ L)
    (HK : ∀ (g : Fin 2) (h : Fin 4), ∃ off : Fin 3 → ℕ, off = ![0, row1 i g, 512 + 128 * h.val] ∧ ∃ pf pay,
      (⟨Rect.unit (s := S1x256x1024) off S1x128x128.size pf, pay⟩ : View.Piece (Elt F) S1x256x1024 .f32) ∈ L) :
    ∀ y, ∃ p ∈ L, y ∈ p.1.set := by
  intro y
  have y0 : (y 0).val < 1 := (y 0).isLt
  have y1 : (y 1).val < 256 := (y 1).isLt
  have y2 : (y 2).val < 1024 := (y 2).isLt
  have hi := two1 i
  have hs : row1 i (sel1 i (y 1).val) ≤ (y 1).val ∧ (y 1).val < row1 i (sel1 i (y 1).val) + 128 := by
    unfold sel1; split <;> (simp only [row1]; omega)
  by_cases hq : (y 2).val < 512
  · obtain ⟨off, ho, pf, pay, hm⟩ := HQ (sel1 i (y 1).val) ⟨(y 2).val / 128, by omega⟩
    subst ho
    refine ⟨_, hm, ?_⟩
    refine (Rect.mem_set_unit (inb := pf)).2 fun a => ?_
    fin_cases a
    · exact ⟨Nat.zero_le _, by show (y 0).val < 0 + 1; omega⟩
    · exact hs
    · exact ⟨by show 128 * ((y 2).val / 128) ≤ (y 2).val; omega, by show (y 2).val < 128 * ((y 2).val / 128) + 128; omega⟩
  · obtain ⟨off, ho, pf, pay, hm⟩ := HK (sel1 i (y 1).val) ⟨((y 2).val - 512) / 128, by omega⟩
    subst ho
    refine ⟨_, hm, ?_⟩
    refine (Rect.mem_set_unit (inb := pf)).2 fun a => ?_
    fin_cases a
    · exact ⟨Nat.zero_le _, by show (y 0).val < 0 + 1; omega⟩
    · exact hs
    · exact ⟨by show 512 + 128 * (((y 2).val - 512) / 128) ≤ (y 2).val; omega, by show (y 2).val < 512 + 128 * (((y 2).val - 512) / 128) + 128; omega⟩

theorem coverS (i : grid0.Coords) (L : List (View.Piece (Elt F) S1x2x4x128x256 .bf16))
    (H : ∀ (g : Fin 2), ∃ off : Fin 5 → ℕ, off = ![0, row0 i g / 128, 0, 0, 0] ∧ ∃ pf pay,
      (⟨Rect.unit (s := S1x2x4x128x256) off S1x1x4x128x256.size pf, pay⟩ : View.Piece (Elt F) S1x2x4x128x256 .bf16) ∈ L) :
    ∀ y, ∃ p ∈ L, y ∈ p.1.set := by
  intro y
  have y0 : (y 0).val < 1 := (y 0).isLt
  have y1 : (y 1).val < 2 := (y 1).isLt
  have y2 : (y 2).val < 4 := (y 2).isLt
  have y3 : (y 3).val < 128 := (y 3).isLt
  have y4 : (y 4).val < 256 := (y 4).isLt
  have hi := two0 i
  obtain ⟨off, ho, pf, pay, hm⟩ := H (sel0 i (128 * (y 1).val))
  subst ho
  refine ⟨_, hm, ?_⟩
  refine (Rect.mem_set_unit (inb := pf)).2 fun a => ?_
  have hs : row0 i (sel0 i (128 * (y 1).val)) / 128 = (y 1).val := by
    unfold sel0; split <;> (simp only [row0]; omega)
  fin_cases a
  · exact ⟨Nat.zero_le _, by show (y 0).val < 0 + 1; omega⟩
  · exact ⟨le_of_eq hs, by show (y 1).val < row0 i (sel0 i (128 * (y 1).val)) / 128 + 1; omega⟩
  · exact ⟨Nat.zero_le _, by show (y 2).val < 0 + 4; omega⟩
  · exact ⟨Nat.zero_le _, by show (y 3).val < 0 + 128; omega⟩
  · exact ⟨Nat.zero_le _, by show (y 4).val < 0 + 256; omega⟩

end Cert.KernelIdeal.Ret

end
-- ==== Proof.Run0.lean ====
/- The body of the forward call, run once per kind of grid point.  Each run ends with the list of
   stores left in every buffer that the body writes. -/
module

public import proofs.«01_k».proof.Proof.Offsets

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The condition of the body's first branch: the grid's second coordinate is zero. -/
abbrev cond0_0 (i : grid0.Coords) : Prop := (Scalar.cmpi .ne (Scalar.extui (Scalar.cmpi .eq (BitVec.ofNat 32 (i 1).val) 0#32)) 0#32) = 1#1

set_option maxHeartbeats 4000000 in
/-- The body of the forward call at the first point of a direction: the scratch is loaded from the window that brings the state in, and the last window is left alone. -/
def run0_first (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x4x128x256 .f32) (harg4 : arg4.IsWhole) (arg5 : Memref sig .tc .vmem S1x256x1024 .f32) (harg5 : arg5.IsWhole) (arg6 : Memref sig .tc .vmem S1x2x4x128x256 .bf16) (harg6 : arg6.IsWhole) (arg7 : Memref sig .tc .vmem S1x4x128x256 .f32) (harg7 : arg7.IsWhole) (arg8 : Memref sig .tc .vmem S4x128x256 .f32) (harg8 : arg8.IsWhole) (hc0 : cond0_0 i) (hc1 : ¬k0_cond2 i = 1#1)
    (x0 : Vec F S256x1024 .f32) (x1 : Vec F S256x1024 .f32) (x2 : Vec F S1x4x128x256 .f32) :
    Σ' (L0 : List (View.Piece (Elt F) S1x256x1024 .f32)), Σ' (L1 : List (View.Piece (Elt F) S1x2x4x128x256 .bf16)), { LS : List (View.Piece (Elt F) S4x128x256 .f32) //
      ∀ (xl : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xl ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ owns (c : Thread nD τ) arg7 fullShare xl ∗ (∃ f, arg8.view.loc (c : Thread nD τ) ↦[arg8.view.set]{fullShare} arg8.view.writes (Elt F) f LS)) -∗ K ⟨⟩))
          ⊢ wp frame (wpE (defs₀ (F := F)) Variants.none c none) E (cc0_ret_fwd i arg2 harg2 arg3 harg3 arg4 harg4 arg5 harg5 arg6 harg6 arg7 harg7 arg8 harg8) K } := by
  refine ⟨?_, ?_, ?_, fun xl E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, Hk⟩
    obtain rfl := harg2.eq_unread hf2; obtain rfl := harg3.eq_unread hf3; obtain rfl := harg4.eq_unread hf4; obtain rfl := harg7.eq_unread hf7
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]
    · iexists _; isplitr; · ipureintro; exact harg7.read_unread _
      iexact H7
    iexists _; iexact H8

set_option maxHeartbeats 4000000 in
/-- The body of the forward call at a point that is neither the first nor the last of a direction: the last window is left alone. -/
def run0_mid (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x4x128x256 .f32) (harg4 : arg4.IsWhole) (arg5 : Memref sig .tc .vmem S1x256x1024 .f32) (harg5 : arg5.IsWhole) (arg6 : Memref sig .tc .vmem S1x2x4x128x256 .bf16) (harg6 : arg6.IsWhole) (arg7 : Memref sig .tc .vmem S1x4x128x256 .f32) (harg7 : arg7.IsWhole) (arg8 : Memref sig .tc .vmem S4x128x256 .f32) (harg8 : arg8.IsWhole) (hc0 : ¬cond0_0 i) (hc1 : ¬k0_cond2 i = 1#1)
    (x0 : Vec F S256x1024 .f32) (x1 : Vec F S256x1024 .f32) (x2 : Vec F S1x4x128x256 .f32) (xs : Vec F S4x128x256 .f32) :
    Σ' (L0 : List (View.Piece (Elt F) S1x256x1024 .f32)), Σ' (L1 : List (View.Piece (Elt F) S1x2x4x128x256 .bf16)), { LS : List (View.Piece (Elt F) S4x128x256 .f32) //
      ∀ (xl : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xl ∗ owns (c : Thread nD τ) arg8 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ owns (c : Thread nD τ) arg7 fullShare xl ∗ (∃ f, arg8.view.loc (c : Thread nD τ) ↦[arg8.view.set]{fullShare} arg8.view.writes (Elt F) f LS)) -∗ K ⟨⟩))
          ⊢ wp frame (wpE (defs₀ (F := F)) Variants.none c none) E (cc0_ret_fwd i arg2 harg2 arg3 harg3 arg4 harg4 arg5 harg5 arg6 harg6 arg7 harg7 arg8 harg8) K } := by
  refine ⟨?_, ?_, ?_, fun xl E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4; obtain rfl := harg7.eq_unread hf7; obtain rfl := harg8.eq_unread hf8
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]
    · iexists _; isplitr; · ipureintro; exact harg7.read_unread _
      iexact H7
    iexists _; iexact H8

set_option maxHeartbeats 4000000 in
/-- The body of the forward call at the last point of a direction: the scratch is copied to the last window. -/
def run0_last (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x4x128x256 .f32) (harg4 : arg4.IsWhole) (arg5 : Memref sig .tc .vmem S1x256x1024 .f32) (harg5 : arg5.IsWhole) (arg6 : Memref sig .tc .vmem S1x2x4x128x256 .bf16) (harg6 : arg6.IsWhole) (arg7 : Memref sig .tc .vmem S1x4x128x256 .f32) (harg7 : arg7.IsWhole) (arg8 : Memref sig .tc .vmem S4x128x256 .f32) (harg8 : arg8.IsWhole) (hc0 : ¬cond0_0 i) (hc1 : k0_cond2 i = 1#1)
    (x0 : Vec F S256x1024 .f32) (x1 : Vec F S256x1024 .f32) (x2 : Vec F S1x4x128x256 .f32) (xs : Vec F S4x128x256 .f32) :
    Σ' (L0 : List (View.Piece (Elt F) S1x256x1024 .f32)), Σ' (L1 : List (View.Piece (Elt F) S1x2x4x128x256 .bf16)), Σ' (L2 : List (View.Piece (Elt F) S1x4x128x256 .f32)), { LS : List (View.Piece (Elt F) S4x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L0) ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f LS)) -∗ K ⟨⟩))
          ⊢ wp frame (wpE (defs₀ (F := F)) Variants.none c none) E (cc0_ret_fwd i arg2 harg2 arg3 harg3 arg4 harg4 arg5 harg5 arg6 harg6 arg7 harg7 arg8 harg8) K } := by
  refine ⟨?_, ?_, ?_, ?_, fun E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
    obtain rfl := harg2.eq_unread hf2; obtain rfl := harg3.eq_unread hf3; obtain rfl := harg4.eq_unread hf4; obtain rfl := harg8.eq_unread hf8
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _; iexact H8

end Cert.KernelIdeal.Ret

end
-- ==== Proof.Vals0.lean ====
/- What the stores of the forward body leave in its windows and in the carried state, at each kind of grid point. -/
module

public import proofs.«01_k».proof.Proof.Cover
public import proofs.«01_k».proof.Proof.Run0

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 8000000 in
/-- What the body's stores leave, at the first point of a direction. -/
theorem vals0_first (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x4x128x256 .f32) (harg4 : arg4.IsWhole) (arg5 : Memref sig .tc .vmem S1x256x1024 .f32) (harg5 : arg5.IsWhole) (arg6 : Memref sig .tc .vmem S1x2x4x128x256 .bf16) (harg6 : arg6.IsWhole) (arg7 : Memref sig .tc .vmem S1x4x128x256 .f32) (harg7 : arg7.IsWhole) (arg8 : Memref sig .tc .vmem S4x128x256 .f32) (harg8 : arg8.IsWhole) (hc0 : cond0_0 i) (hc1 : ¬k0_cond2 i = 1#1)
    (x0 : Vec F S256x1024 .f32) (x1 : Vec F S256x1024 .f32) (x2 : Vec F S1x4x128x256 .f32) :
    (∀ f, arg5.view.read (Elt F) (arg5.view.writes (Elt F) f (run0_first c i arg2 harg2 arg3 harg3 arg4 harg4 arg5 harg5 arg6 harg6 arg7 harg7 arg8 harg8 hc0 hc1 x0 x1 x2).1) = outO i x0 x1 (unb x2))
      ∧ (∀ f, arg6.view.read (Elt F) (arg6.view.writes (Elt F) f (run0_first c i arg2 harg2 arg3 harg3 arg4 harg4 arg5 harg5 arg6 harg6 arg7 harg7 arg8 harg8 hc0 hc1 x0 x1 x2).2.1) = outS i x0 x1 (unb x2))
      ∧ (∀ f, arg8.view.read (Elt F) (arg8.view.writes (Elt F) f (run0_first c i arg2 harg2 arg3 harg3 arg4 harg4 arg5 harg5 arg6 harg6 arg7 harg7 arg8 harg8 hc0 hc1 x0 x1 x2).2.2.1) = end0 i x0 x1 (unb x2)) := by
  refine ⟨fun f => read_of _ _ _ (fun p hp => ?_) (coverO i _ ?_) f, fun f => read_of _ _ _ (fun p hp => ?_) (coverS i _ ?_) f, fun f => ext_hd4 _ _ ?_ ?_ ?_ ?_⟩
  simp only [run0_first, List.mem_cons, List.not_mem_nil, or_false] at hp
  rcases hp with rfl | rfl | rfl | rfl | rfl | rfl | rfl | rfl
  refine outO_piece i 1 3 _ (off0_17_1 i) (k0_off17_inb i 1) x0 x1 (unb x2) _ shapeCasts_S128x256_S1x128x256 ?_; rotate_left
  refine outO_piece i 1 2 _ (off0_13_1 i) (k0_off13_inb i 1) x0 x1 (unb x2) _ shapeCasts_S128x256_S1x128x256 ?_; rotate_left
  refine outO_piece i 1 1 _ (off0_9_1 i) (k0_off9_inb i 1) x0 x1 (unb x2) _ shapeCasts_S128x256_S1x128x256 ?_; rotate_left
  refine outO_piece i 1 0 _ (off0_5_1 i) (k0_off5_inb i 1) x0 x1 (unb x2) _ shapeCasts_S128x256_S1x128x256 ?_; rotate_left
  refine outO_piece i 0 3 _ (off0_17_0 i) (k0_off17_inb i 0) x0 x1 (unb x2) _ shapeCasts_S128x256_S1x128x256 ?_; rotate_left
  refine outO_piece i 0 2 _ (off0_13_0 i) (k0_off13_inb i 0) x0 x1 (unb x2) _ shapeCasts_S128x256_S1x128x256 ?_; rotate_left
  refine outO_piece i 0 1 _ (off0_9_0 i) (k0_off9_inb i 0) x0 x1 (unb x2) _ shapeCasts_S128x256_S1x128x256 ?_; rotate_left
  refine outO_piece i 0 0 _ (off0_5_0 i) (k0_off5_inb i 0) x0 x1 (unb x2) _ shapeCasts_S128x256_S1x128x256 ?_; rotate_left
  · intro g h
    simp only [run0_first]
    fin_cases g <;> fin_cases h
    · exact ⟨_, off0_5_0 i, k0_off5_inb i 0, _, List.mem_of_getElem? (i := 7) rfl⟩
    · exact ⟨_, off0_9_0 i, k0_off9_inb i 0, _, List.mem_of_getElem? (i := 6) rfl⟩
    · exact ⟨_, off0_13_0 i, k0_off13_inb i 0, _, List.mem_of_getElem? (i := 5) rfl⟩
    · exact ⟨_, off0_17_0 i, k0_off17_inb i 0, _, List.mem_of_getElem? (i := 4) rfl⟩
    · exact ⟨_, off0_5_1 i, k0_off5_inb i 1, _, List.mem_of_getElem? (i := 3) rfl⟩
    · exact ⟨_, off0_9_1 i, k0_off9_inb i 1, _, List.mem_of_getElem? (i := 2) rfl⟩
    · exact ⟨_, off0_13_1 i, k0_off13_inb i 1, _, List.mem_of_getElem? (i := 1) rfl⟩
    · exact ⟨_, off0_17_1 i, k0_off17_inb i 1, _, List.mem_of_getElem? (i := 0) rfl⟩
  simp only [run0_first, List.mem_cons, List.not_mem_nil, or_false] at hp
  rcases hp with rfl | rfl
  refine outS_piece i 1 _ ((off0_1_1 i).trans (by revert i; decide +kernel)) (k0_off1_inb i 1) x0 x1 (unb x2) _ shapeCasts_S4x128x256_S1x1x4x128x256 (congrArg (fun z => shapeCast S1x1x4x128x256 (truncf .bf16 z bitsLt_bf16_f32) shapeCasts_S4x128x256_S1x1x4x128x256) (ext_hd4 _ _ ?_ ?_ ?_ ?_)); iterate 4 rotate_left
  refine outS_piece i 0 _ ((off0_1_0 i).trans (by revert i; decide +kernel)) (k0_off1_inb i 0) x0 x1 (unb x2) _ shapeCasts_S4x128x256_S1x1x4x128x256 ?_; rotate_left
  · intro g
    simp only [run0_first]
    fin_cases g
    · exact ⟨_, (off0_1_0 i).trans (by clear * -; revert i; decide +kernel), k0_off1_inb i 0, _, List.mem_of_getElem? (i := 1) rfl⟩
    · exact ⟨_, (off0_1_1 i).trans (by clear * -; revert i; decide +kernel), k0_off1_inb i 1, _, List.mem_of_getElem? (i := 0) rfl⟩
  iterate 4
    simp only [run0_first]; simp -proj only [run0_first.sl.H8_1, run0_first.sl.H8_2, run0_first.sl.H8_3, run0_first.sl.H8_4, run0_first.sl.H8_5, run0_first.sl.H8_6, run0_first.sl.H8_7, run0_first.sl.H8_8]; rw [read_head3 arg8.view f, read_head2 arg8.view f, read_head1 arg8.view f, read_head0 arg8.view f]; rotate_left
  all_goals simp -proj only [end0, run0_first.sl.H8_1, run0_first.sl.H8_2, run0_first.sl.H8_3, run0_first.sl.H8_4, run0_first.sl.H8_5, run0_first.sl.H8_6, run0_first.sl.H8_7, run0_first.sl.H8_8, run0_first.sl.cst, run0_first.sl.cst_15, run0_first.sl.cst_175, run0_first.sl.r, run0_first.sl.r_1, run0_first.sl.r_10, run0_first.sl.r_11, run0_first.sl.r_12, run0_first.sl.r_13, run0_first.sl.r_14, run0_first.sl.r_15, run0_first.sl.r_16, run0_first.sl.r_17, run0_first.sl.r_18, run0_first.sl.r_19, run0_first.sl.r_2, run0_first.sl.r_20, run0_first.sl.r_21, run0_first.sl.r_22, run0_first.sl.r_23, run0_first.sl.r_24, run0_first.sl.r_25, run0_first.sl.r_26, run0_first.sl.r_27, run0_first.sl.r_28, run0_first.sl.r_29, run0_first.sl.r_3, run0_first.sl.r_30, run0_first.sl.r_31, run0_first.sl.r_32, run0_first.sl.r_33, run0_first.sl.r_34, run0_first.sl.r_35, run0_first.sl.r_36, run0_first.sl.r_37, run0_first.sl.r_38, run0_first.sl.r_39, run0_first.sl.r_4, run0_first.sl.r_40, run0_first.sl.r_41, run0_first.sl.r_42, run0_first.sl.r_43, run0_first.sl.r_44, run0_first.sl.r_45, run0_first.sl.r_46, run0_first.sl.r_47, run0_first.sl.r_48, run0_first.sl.r_49, run0_first.sl.r_5, run0_first.sl.r_6, run0_first.sl.r_7, run0_first.sl.r_8, run0_first.sl.r_9, run0_first.sl.v0, run0_first.sl.v1, run0_first.sl.v10, run0_first.sl.v12, run0_first.sl.v13, run0_first.sl.v14, run0_first.sl.v156, run0_first.sl.v2, run0_first.sl.v20, run0_first.sl.v21, run0_first.sl.v22, run0_first.sl.v224, run0_first.sl.v23, run0_first.sl.v24, run0_first.sl.v25, run0_first.sl.v26, run0_first.sl.v27, run0_first.sl.v28, run0_first.sl.v287, run0_first.sl.v288, run0_first.sl.v29, run0_first.sl.v290, run0_first.sl.v3, run0_first.sl.v30, run0_first.sl.v302, run0_first.sl.v31, run0_first.sl.v32, run0_first.sl.v370, run0_first.sl.v4, run0_first.sl.v438, run0_first.sl.v5, run0_first.sl.v506, run0_first.sl.v572, run0_first.sl.v574, run0_first.sl.v575, run0_first.sl.v6, run0_first.sl.v8, run0_first.sl.v88, run0_first.sl.v9, k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay7, k0_pay8, k0_pay9, cut0_2_0 i c, cut0_3_0 i c, cut0_4_0 i c, cut0_6_0 i c, cut0_7_0 i c, cut0_8_0 i c, cut0_10_0 i c, cut0_11_0 i c, cut0_12_0 i c, cut0_14_0 i c, cut0_15_0 i c, cut0_16_0 i c, cut0_2_1 i c, cut0_3_1 i c, cut0_4_1 i c, cut0_6_1 i c, cut0_7_1 i c, cut0_8_1 i c, cut0_10_1 i c, cut0_11_1 i c, cut0_12_1 i c, cut0_14_1 i c, cut0_15_1 i c, cut0_16_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st0, step0]
  all_goals rfl

set_option maxHeartbeats 8000000 in
/-- What the body's stores leave, at a point between. -/
theorem vals0_mid (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x4x128x256 .f32) (harg4 : arg4.IsWhole) (arg5 : Memref sig .tc .vmem S1x256x1024 .f32) (harg5 : arg5.IsWhole) (arg6 : Memref sig .tc .vmem S1x2x4x128x256 .bf16) (harg6 : arg6.IsWhole) (arg7 : Memref sig .tc .vmem S1x4x128x256 .f32) (harg7 : arg7.IsWhole) (arg8 : Memref sig .tc .vmem S4x128x256 .f32) (harg8 : arg8.IsWhole) (hc0 : ¬cond0_0 i) (hc1 : ¬k0_cond2 i = 1#1)
    (x0 : Vec F S256x1024 .f32) (x1 : Vec F S256x1024 .f32) (x2 : Vec F S1x4x128x256 .f32) (xs : Vec F S4x128x256 .f32) :
    (∀ f, arg5.view.read (Elt F) (arg5.view.writes (Elt F) f (run0_mid c i arg2 harg2 arg3 harg3 arg4 harg4 arg5 harg5 arg6 harg6 arg7 harg7 arg8 harg8 hc0 hc1 x0 x1 x2 xs).1) = outO i x0 x1 xs)
      ∧ (∀ f, arg6.view.read (Elt F) (arg6.view.writes (Elt F) f (run0_mid c i arg2 harg2 arg3 harg3 arg4 harg4 arg5 harg5 arg6 harg6 arg7 harg7 arg8 harg8 hc0 hc1 x0 x1 x2 xs).2.1) = outS i x0 x1 xs)
      ∧ (∀ f, arg8.view.read (Elt F) (arg8.view.writes (Elt F) f (run0_mid c i arg2 harg2 arg3 harg3 arg4 harg4 arg5 harg5 arg6 harg6 arg7 harg7 arg8 harg8 hc0 hc1 x0 x1 x2 xs).2.2.1) = end0 i x0 x1 xs) := by
  refine ⟨fun f => read_of _ _ _ (fun p hp => ?_) (coverO i _ ?_) f, fun f => read_of _ _ _ (fun p hp => ?_) (coverS i _ ?_) f, fun f => ext_hd4 _ _ ?_ ?_ ?_ ?_⟩
  simp only [run0_mid, List.mem_cons, List.not_mem_nil, or_false] at hp
  rcases hp with rfl | rfl | rfl | rfl | rfl | rfl | rfl | rfl
  refine outO_piece i 1 3 _ (off0_17_1 i) (k0_off17_inb i 1) x0 x1 xs _ shapeCasts_S128x256_S1x128x256 ?_; rotate_left
  refine outO_piece i 1 2 _ (off0_13_1 i) (k0_off13_inb i 1) x0 x1 xs _ shapeCasts_S128x256_S1x128x256 ?_; rotate_left
  refine outO_piece i 1 1 _ (off0_9_1 i) (k0_off9_inb i 1) x0 x1 xs _ shapeCasts_S128x256_S1x128x256 ?_; rotate_left
  refine outO_piece i 1 0 _ (off0_5_1 i) (k0_off5_inb i 1) x0 x1 xs _ shapeCasts_S128x256_S1x128x256 ?_; rotate_left
  refine outO_piece i 0 3 _ (off0_17_0 i) (k0_off17_inb i 0) x0 x1 xs _ shapeCasts_S128x256_S1x128x256 ?_; rotate_left
  refine outO_piece i 0 2 _ (off0_13_0 i) (k0_off13_inb i 0) x0 x1 xs _ shapeCasts_S128x256_S1x128x256 ?_; rotate_left
  refine outO_piece i 0 1 _ (off0_9_0 i) (k0_off9_inb i 0) x0 x1 xs _ shapeCasts_S128x256_S1x128x256 ?_; rotate_left
  refine outO_piece i 0 0 _ (off0_5_0 i) (k0_off5_inb i 0) x0 x1 xs _ shapeCasts_S128x256_S1x128x256 ?_; rotate_left
  · intro g h
    simp only [run0_mid]
    fin_cases g <;> fin_cases h
    · exact ⟨_, off0_5_0 i, k0_off5_inb i 0, _, List.mem_of_getElem? (i := 7) rfl⟩
    · exact ⟨_, off0_9_0 i, k0_off9_inb i 0, _, List.mem_of_getElem? (i := 6) rfl⟩
    · exact ⟨_, off0_13_0 i, k0_off13_inb i 0, _, List.mem_of_getElem? (i := 5) rfl⟩
    · exact ⟨_, off0_17_0 i, k0_off17_inb i 0, _, List.mem_of_getElem? (i := 4) rfl⟩
    · exact ⟨_, off0_5_1 i, k0_off5_inb i 1, _, List.mem_of_getElem? (i := 3) rfl⟩
    · exact ⟨_, off0_9_1 i, k0_off9_inb i 1, _, List.mem_of_getElem? (i := 2) rfl⟩
    · exact ⟨_, off0_13_1 i, k0_off13_inb i 1, _, List.mem_of_getElem? (i := 1) rfl⟩
    · exact ⟨_, off0_17_1 i, k0_off17_inb i 1, _, List.mem_of_getElem? (i := 0) rfl⟩
  simp only [run0_mid, List.mem_cons, List.not_mem_nil, or_false] at hp
  rcases hp with rfl | rfl
  refine outS_piece i 1 _ ((off0_1_1 i).trans (by revert i; decide +kernel)) (k0_off1_inb i 1) x0 x1 xs _ shapeCasts_S4x128x256_S1x1x4x128x256 (congrArg (fun z => shapeCast S1x1x4x128x256 (truncf .bf16 z bitsLt_bf16_f32) shapeCasts_S4x128x256_S1x1x4x128x256) (ext_hd4 _ _ ?_ ?_ ?_ ?_)); iterate 4 rotate_left
  refine outS_piece i 0 _ ((off0_1_0 i).trans (by revert i; decide +kernel)) (k0_off1_inb i 0) x0 x1 xs _ shapeCasts_S4x128x256_S1x1x4x128x256 ?_; rotate_left
  · intro g
    simp only [run0_mid]
    fin_cases g
    · exact ⟨_, (off0_1_0 i).trans (by clear * -; revert i; decide +kernel), k0_off1_inb i 0, _, List.mem_of_getElem? (i := 1) rfl⟩
    · exact ⟨_, (off0_1_1 i).trans (by clear * -; revert i; decide +kernel), k0_off1_inb i 1, _, List.mem_of_getElem? (i := 0) rfl⟩
  iterate 4
    simp only [run0_mid]; simp -proj only [run0_mid.sl.H8_4, run0_mid.sl.H8_5, run0_mid.sl.H8_6, run0_mid.sl.H8_7]; rw [read_head3 arg8.view f, read_head2 arg8.view f, read_head1 arg8.view f, read_head0 arg8.view f]; rotate_left
  all_goals simp -proj only [end0, run0_mid.sl.H8_4, run0_mid.sl.H8_5, run0_mid.sl.H8_6, run0_mid.sl.H8_7, run0_mid.sl.cst, run0_mid.sl.cst_15, run0_mid.sl.cst_175, run0_mid.sl.r, run0_mid.sl.r_1, run0_mid.sl.r_10, run0_mid.sl.r_11, run0_mid.sl.r_12, run0_mid.sl.r_13, run0_mid.sl.r_14, run0_mid.sl.r_15, run0_mid.sl.r_16, run0_mid.sl.r_17, run0_mid.sl.r_18, run0_mid.sl.r_19, run0_mid.sl.r_2, run0_mid.sl.r_20, run0_mid.sl.r_21, run0_mid.sl.r_22, run0_mid.sl.r_23, run0_mid.sl.r_24, run0_mid.sl.r_25, run0_mid.sl.r_26, run0_mid.sl.r_27, run0_mid.sl.r_28, run0_mid.sl.r_29, run0_mid.sl.r_3, run0_mid.sl.r_30, run0_mid.sl.r_31, run0_mid.sl.r_32, run0_mid.sl.r_33, run0_mid.sl.r_34, run0_mid.sl.r_35, run0_mid.sl.r_36, run0_mid.sl.r_37, run0_mid.sl.r_38, run0_mid.sl.r_39, run0_mid.sl.r_4, run0_mid.sl.r_40, run0_mid.sl.r_41, run0_mid.sl.r_42, run0_mid.sl.r_43, run0_mid.sl.r_44, run0_mid.sl.r_45, run0_mid.sl.r_46, run0_mid.sl.r_47, run0_mid.sl.r_48, run0_mid.sl.r_49, run0_mid.sl.r_5, run0_mid.sl.r_6, run0_mid.sl.r_7, run0_mid.sl.r_8, run0_mid.sl.r_9, run0_mid.sl.v0, run0_mid.sl.v1, run0_mid.sl.v10, run0_mid.sl.v12, run0_mid.sl.v13, run0_mid.sl.v14, run0_mid.sl.v156, run0_mid.sl.v2, run0_mid.sl.v21, run0_mid.sl.v22, run0_mid.sl.v224, run0_mid.sl.v23, run0_mid.sl.v24, run0_mid.sl.v25, run0_mid.sl.v26, run0_mid.sl.v27, run0_mid.sl.v28, run0_mid.sl.v287, run0_mid.sl.v288, run0_mid.sl.v29, run0_mid.sl.v290, run0_mid.sl.v3, run0_mid.sl.v30, run0_mid.sl.v302, run0_mid.sl.v31, run0_mid.sl.v32, run0_mid.sl.v370, run0_mid.sl.v4, run0_mid.sl.v438, run0_mid.sl.v5, run0_mid.sl.v506, run0_mid.sl.v6, run0_mid.sl.v88, run0_mid.sl.v9, k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay7, k0_pay8, k0_pay9, cut0_2_0 i c, cut0_3_0 i c, cut0_4_0 i c, cut0_6_0 i c, cut0_7_0 i c, cut0_8_0 i c, cut0_10_0 i c, cut0_11_0 i c, cut0_12_0 i c, cut0_14_0 i c, cut0_15_0 i c, cut0_16_0 i c, cut0_2_1 i c, cut0_3_1 i c, cut0_4_1 i c, cut0_6_1 i c, cut0_7_1 i c, cut0_8_1 i c, cut0_10_1 i c, cut0_11_1 i c, cut0_12_1 i c, cut0_14_1 i c, cut0_15_1 i c, cut0_16_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st0, step0]
  all_goals rfl

set_option maxHeartbeats 8000000 in
/-- What the body's stores leave, at the last point of a direction. -/
theorem vals0_last (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S1x4x128x256 .f32) (harg4 : arg4.IsWhole) (arg5 : Memref sig .tc .vmem S1x256x1024 .f32) (harg5 : arg5.IsWhole) (arg6 : Memref sig .tc .vmem S1x2x4x128x256 .bf16) (harg6 : arg6.IsWhole) (arg7 : Memref sig .tc .vmem S1x4x128x256 .f32) (harg7 : arg7.IsWhole) (arg8 : Memref sig .tc .vmem S4x128x256 .f32) (harg8 : arg8.IsWhole) (hc0 : ¬cond0_0 i) (hc1 : k0_cond2 i = 1#1)
    (x0 : Vec F S256x1024 .f32) (x1 : Vec F S256x1024 .f32) (x2 : Vec F S1x4x128x256 .f32) (xs : Vec F S4x128x256 .f32) :
    (∀ f, arg5.view.read (Elt F) (arg5.view.writes (Elt F) f (run0_last c i arg2 harg2 arg3 harg3 arg4 harg4 arg5 harg5 arg6 harg6 arg7 harg7 arg8 harg8 hc0 hc1 x0 x1 x2 xs).1) = outO i x0 x1 xs)
      ∧ (∀ f, arg6.view.read (Elt F) (arg6.view.writes (Elt F) f (run0_last c i arg2 harg2 arg3 harg3 arg4 harg4 arg5 harg5 arg6 harg6 arg7 harg7 arg8 harg8 hc0 hc1 x0 x1 x2 xs).2.1) = outS i x0 x1 xs)
      ∧ (∀ f, arg7.view.read (Elt F) (arg7.view.writes (Elt F) f (run0_last c i arg2 harg2 arg3 harg3 arg4 harg4 arg5 harg5 arg6 harg6 arg7 harg7 arg8 harg8 hc0 hc1 x0 x1 x2 xs).2.2.1) = rebd (end0 i x0 x1 xs))
      ∧ (∀ f, arg8.view.read (Elt F) (arg8.view.writes (Elt F) f (run0_last c i arg2 harg2 arg3 harg3 arg4 harg4 arg5 harg5 arg6 harg6 arg7 harg7 arg8 harg8 hc0 hc1 x0 x1 x2 xs).2.2.2.1) = end0 i x0 x1 xs) := by
  refine ⟨fun f => read_of _ _ _ (fun p hp => ?_) (coverO i _ ?_) f, fun f => read_of _ _ _ (fun p hp => ?_) (coverS i _ ?_) f, fun f => ?_, fun f => ext_hd4 _ _ ?_ ?_ ?_ ?_⟩
  simp only [run0_last, List.mem_cons, List.not_mem_nil, or_false] at hp
  rcases hp with rfl | rfl | rfl | rfl | rfl | rfl | rfl | rfl
  refine outO_piece i 1 3 _ (off0_17_1 i) (k0_off17_inb i 1) x0 x1 xs _ shapeCasts_S128x256_S1x128x256 ?_; rotate_left
  refine outO_piece i 1 2 _ (off0_13_1 i) (k0_off13_inb i 1) x0 x1 xs _ shapeCasts_S128x256_S1x128x256 ?_; rotate_left
  refine outO_piece i 1 1 _ (off0_9_1 i) (k0_off9_inb i 1) x0 x1 xs _ shapeCasts_S128x256_S1x128x256 ?_; rotate_left
  refine outO_piece i 1 0 _ (off0_5_1 i) (k0_off5_inb i 1) x0 x1 xs _ shapeCasts_S128x256_S1x128x256 ?_; rotate_left
  refine outO_piece i 0 3 _ (off0_17_0 i) (k0_off17_inb i 0) x0 x1 xs _ shapeCasts_S128x256_S1x128x256 ?_; rotate_left
  refine outO_piece i 0 2 _ (off0_13_0 i) (k0_off13_inb i 0) x0 x1 xs _ shapeCasts_S128x256_S1x128x256 ?_; rotate_left
  refine outO_piece i 0 1 _ (off0_9_0 i) (k0_off9_inb i 0) x0 x1 xs _ shapeCasts_S128x256_S1x128x256 ?_; rotate_left
  refine outO_piece i 0 0 _ (off0_5_0 i) (k0_off5_inb i 0) x0 x1 xs _ shapeCasts_S128x256_S1x128x256 ?_; rotate_left
  · intro g h
    simp only [run0_last]
    fin_cases g <;> fin_cases h
    · exact ⟨_, off0_5_0 i, k0_off5_inb i 0, _, List.mem_of_getElem? (i := 7) rfl⟩
    · exact ⟨_, off0_9_0 i, k0_off9_inb i 0, _, List.mem_of_getElem? (i := 6) rfl⟩
    · exact ⟨_, off0_13_0 i, k0_off13_inb i 0, _, List.mem_of_getElem? (i := 5) rfl⟩
    · exact ⟨_, off0_17_0 i, k0_off17_inb i 0, _, List.mem_of_getElem? (i := 4) rfl⟩
    · exact ⟨_, off0_5_1 i, k0_off5_inb i 1, _, List.mem_of_getElem? (i := 3) rfl⟩
    · exact ⟨_, off0_9_1 i, k0_off9_inb i 1, _, List.mem_of_getElem? (i := 2) rfl⟩
    · exact ⟨_, off0_13_1 i, k0_off13_inb i 1, _, List.mem_of_getElem? (i := 1) rfl⟩
    · exact ⟨_, off0_17_1 i, k0_off17_inb i 1, _, List.mem_of_getElem? (i := 0) rfl⟩
  simp only [run0_last, List.mem_cons, List.not_mem_nil, or_false] at hp
  rcases hp with rfl | rfl
  refine outS_piece i 1 _ ((off0_1_1 i).trans (by revert i; decide +kernel)) (k0_off1_inb i 1) x0 x1 xs _ shapeCasts_S4x128x256_S1x1x4x128x256 (congrArg (fun z => shapeCast S1x1x4x128x256 (truncf .bf16 z bitsLt_bf16_f32) shapeCasts_S4x128x256_S1x1x4x128x256) (ext_hd4 _ _ ?_ ?_ ?_ ?_)); iterate 4 rotate_left
  refine outS_piece i 0 _ ((off0_1_0 i).trans (by revert i; decide +kernel)) (k0_off1_inb i 0) x0 x1 xs _ shapeCasts_S4x128x256_S1x1x4x128x256 ?_; rotate_left
  · intro g
    simp only [run0_last]
    fin_cases g
    · exact ⟨_, (off0_1_0 i).trans (by clear * -; revert i; decide +kernel), k0_off1_inb i 0, _, List.mem_of_getElem? (i := 1) rfl⟩
    · exact ⟨_, (off0_1_1 i).trans (by clear * -; revert i; decide +kernel), k0_off1_inb i 1, _, List.mem_of_getElem? (i := 0) rfl⟩
  simp only [run0_last]
  refine (read_rebd' _ f inb_S1x4x128x256_S1x4x128x256_0_0_0_0 _ shapeCasts_S4x128x256_S1x4x128x256).trans (congrArg rebd (ext_hd4 _ _ ?_ ?_ ?_ ?_))
  iterate 4 rotate_left
  iterate 4
    simp only [run0_last]; simp -proj only [run0_last.sl.H8_4, run0_last.sl.H8_5, run0_last.sl.H8_6, run0_last.sl.H8_7, run0_last.sl.H8_8]; rw [read_head3 arg8.view f, read_head2 arg8.view f, read_head1 arg8.view f, read_head0 arg8.view f]; rotate_left
  all_goals simp -proj only [end0, run0_last.sl.H8_4, run0_last.sl.H8_5, run0_last.sl.H8_6, run0_last.sl.H8_7, run0_last.sl.H8_8, run0_last.sl.cst, run0_last.sl.cst_15, run0_last.sl.cst_175, run0_last.sl.r, run0_last.sl.r_1, run0_last.sl.r_10, run0_last.sl.r_11, run0_last.sl.r_12, run0_last.sl.r_13, run0_last.sl.r_14, run0_last.sl.r_15, run0_last.sl.r_16, run0_last.sl.r_17, run0_last.sl.r_18, run0_last.sl.r_19, run0_last.sl.r_2, run0_last.sl.r_20, run0_last.sl.r_21, run0_last.sl.r_22, run0_last.sl.r_23, run0_last.sl.r_24, run0_last.sl.r_25, run0_last.sl.r_26, run0_last.sl.r_27, run0_last.sl.r_28, run0_last.sl.r_29, run0_last.sl.r_3, run0_last.sl.r_30, run0_last.sl.r_31, run0_last.sl.r_32, run0_last.sl.r_33, run0_last.sl.r_34, run0_last.sl.r_35, run0_last.sl.r_36, run0_last.sl.r_37, run0_last.sl.r_38, run0_last.sl.r_39, run0_last.sl.r_4, run0_last.sl.r_40, run0_last.sl.r_41, run0_last.sl.r_42, run0_last.sl.r_43, run0_last.sl.r_44, run0_last.sl.r_45, run0_last.sl.r_46, run0_last.sl.r_47, run0_last.sl.r_48, run0_last.sl.r_49, run0_last.sl.r_5, run0_last.sl.r_6, run0_last.sl.r_7, run0_last.sl.r_8, run0_last.sl.r_9, run0_last.sl.v0, run0_last.sl.v1, run0_last.sl.v10, run0_last.sl.v12, run0_last.sl.v13, run0_last.sl.v14, run0_last.sl.v156, run0_last.sl.v2, run0_last.sl.v21, run0_last.sl.v22, run0_last.sl.v224, run0_last.sl.v23, run0_last.sl.v24, run0_last.sl.v25, run0_last.sl.v26, run0_last.sl.v27, run0_last.sl.v28, run0_last.sl.v287, run0_last.sl.v288, run0_last.sl.v29, run0_last.sl.v290, run0_last.sl.v3, run0_last.sl.v30, run0_last.sl.v302, run0_last.sl.v31, run0_last.sl.v32, run0_last.sl.v370, run0_last.sl.v4, run0_last.sl.v438, run0_last.sl.v5, run0_last.sl.v506, run0_last.sl.v571, run0_last.sl.v6, run0_last.sl.v88, run0_last.sl.v9, k0_pay1, k0_pay10, k0_pay11, k0_pay12, k0_pay13, k0_pay14, k0_pay15, k0_pay16, k0_pay17, k0_pay18, k0_pay19, k0_pay2, k0_pay20, k0_pay21, k0_pay22, k0_pay23, k0_pay24, k0_pay25, k0_pay26, k0_pay27, k0_pay28, k0_pay29, k0_pay3, k0_pay30, k0_pay31, k0_pay32, k0_pay33, k0_pay34, k0_pay35, k0_pay36, k0_pay37, k0_pay38, k0_pay39, k0_pay4, k0_pay40, k0_pay41, k0_pay42, k0_pay43, k0_pay44, k0_pay45, k0_pay46, k0_pay47, k0_pay48, k0_pay49, k0_pay5, k0_pay50, k0_pay51, k0_pay52, k0_pay53, k0_pay54, k0_pay55, k0_pay56, k0_pay57, k0_pay58, k0_pay59, k0_pay6, k0_pay60, k0_pay7, k0_pay8, k0_pay9, cut0_2_0 i c, cut0_3_0 i c, cut0_4_0 i c, cut0_6_0 i c, cut0_7_0 i c, cut0_8_0 i c, cut0_10_0 i c, cut0_11_0 i c, cut0_12_0 i c, cut0_14_0 i c, cut0_15_0 i c, cut0_16_0 i c, cut0_2_1 i c, cut0_3_1 i c, cut0_4_1 i c, cut0_6_1 i c, cut0_7_1 i c, cut0_8_1 i c, cut0_10_1 i c, cut0_11_1 i c, cut0_12_1 i c, cut0_14_1 i c, cut0_15_1 i c, cut0_16_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st0, step0]
  all_goals rfl

end Cert.KernelIdeal.Ret

end
-- ==== Proof.Frame0.lean ====
/- The forward call as a pipeline: what every window and the carried state hold at each grid point, and the proof
   that the body takes one point's contents to the next one's. -/
module

public import proofs.«01_k».proof.Proof.Vals0

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Idealize.ShloMosaic.Pipeline (Dat Seg HostSeg RegionSeg BodyObligation)

variable (W : Dev nD → Valuation τ sig (Elt F))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The transfers of window 1 move its whole block at every point: the array's columns are no multiple of the block's,
    but the block that the call asks for lies inside. -/
theorem full0_1 : ∀ (t : Fin cfg0.N) (a : Fin 2), (cfg0.win 1).xsize (grid0.coords t) a = S256x1024.size a := by decide +kernel

/-- Window 1's block at point `t`, on the whole buffer. -/
def pblk0 (c : Dev nD) (t : Fin cfg0.N) : Vec F S256x1024 .f32 :=
  (cfg0.win 1).fill (grid0.coords t) (fun _ => Scalar.ofBits .f32 0x00000000#32) (iblk0 W c 1 t)

/-- Filling window 1's buffer forgets what it held. -/
theorem fill0_1 (t : Fin cfg0.N) (d d' : S256x1024.Idx → Elt F .f32) (g) :
    (cfg0.win 1).fill (grid0.coords t) d g = (cfg0.win 1).fill (grid0.coords t) d' g := by
  funext j
  have hj : j = (cfg0.win 1).xinj (grid0.coords t) (fun a => ⟨(j a).val, lt_of_lt_of_eq (j a).isLt (full0_1 t a).symm⟩) := rfl
  rw [hj, (cfg0.win 1).fill_xinj, (cfg0.win 1).fill_xinj]

/-- The block by its entries: entry `j` of the buffer is entry `j` of the block. -/
theorem pblk0_apply (c : Dev nD) (t : Fin cfg0.N) (j : S256x1024.Idx) :
    pblk0 W c t j = iblk0 W c 1 t (fun a => ⟨(j a).val, lt_of_lt_of_eq (j a).isLt (full0_1 t a).symm⟩) :=
  (cfg0.win 1).fill_xinj (grid0.coords t) _ _ (fun a => ⟨(j a).val, lt_of_lt_of_eq (j a).isLt (full0_1 t a).symm⟩)

/-! ## The carried state -/

/-- The state carried out of point `n`: it starts afresh from the window that brings a state in at the first point of
    each direction. -/
def car0 (c : Dev nD) : (n : ℕ) → n < cfg0.N → Vec F S4x128x256 .f32
  | 0, h => end0 (grid0.coords ⟨0, h⟩) (iblk0 W c 0 ⟨0, h⟩) (pblk0 W c ⟨0, h⟩) (unb (iblk0 W c 2 ⟨0, h⟩))
  | n + 1, h => end0 (grid0.coords ⟨n + 1, h⟩) (iblk0 W c 0 ⟨n + 1, h⟩) (pblk0 W c ⟨n + 1, h⟩)
      (if (n + 1) % 64 = 0 then unb (iblk0 W c 2 ⟨n + 1, h⟩) else car0 c n (Nat.lt_of_succ_lt h))

/-- The state that point `t` starts from. -/
def ent0 (c : Dev nD) (t : Fin cfg0.N) : Vec F S4x128x256 .f32 :=
  if t.val % 64 = 0 then unb (iblk0 W c 2 t) else car0 W c (t.val - 1) (Nat.lt_of_le_of_lt (Nat.sub_le _ _) t.isLt)

theorem car0_eq (c : Dev nD) (t : Fin cfg0.N) :
    car0 W c t.val t.isLt = end0 (grid0.coords t) (iblk0 W c 0 t) (pblk0 W c t) (ent0 W c t) := by
  obtain ⟨n, h⟩ := t
  cases n with
  | zero => rfl
  | succ n => rfl

theorem ent0_first (c : Dev nD) (t : Fin cfg0.N) (h : t.val % 64 = 0) : ent0 W c t = unb (iblk0 W c 2 t) := if_pos h
theorem ent0_next (c : Dev nD) (t : Fin cfg0.N) (h : ¬t.val % 64 = 0) :
    ent0 W c t = car0 W c (t.val - 1) (Nat.lt_of_le_of_lt (Nat.sub_le _ _) t.isLt) := if_neg h

/-- What the region keeps beside its windows: the buffers of the other call. -/
abbrev rest0 (c : Dev nD) : sProp 𝕄 :=
  Pipeline.scopedRestBut (Ix := Unit) (Name := ℕ) (U := UR sig nD τ) (Lvl := ℕ) (Val := Elt F) spec0 c [cc0_scratch0]

/-- The carried state's buffer. -/
abbrev scM0 : Memref sig .tc .vmem S4x128x256 .f32 := Memref.whole cc0_scratch0

/-- The region's invariant before position `n`: the carried state's buffer at what the point before left in it. -/
def Phi0 (c : Dev nD) : (n : ℕ) → n ≤ cfg0.N → sProp 𝕄
  | 0, _ => iprop((∃ d, owns (c : Thread nD τ) scM0 fullShare d) ∗ rest0 c ∗ (∃ r, prngReg c r))
  | n + 1, hn => iprop(owns (c : Thread nD τ) scM0 fullShare (car0 W c n hn) ∗ rest0 c ∗ (∃ r, prngReg c r))

theorem Phi0_pos (c : Dev nD) (n : ℕ) (h : n ≤ cfg0.N) (hz : n ≠ 0) :
    Phi0 W c n h = iprop(owns (c : Thread nD τ) scM0 fullShare (car0 W c (n - 1) (by omega)) ∗ rest0 c ∗ (∃ r, prngReg c r)) := by
  cases n with
  | zero => exact absurd rfl hz
  | succ n => rfl

/-- Whatever the position, the carried state's buffer is there. -/
theorem Phi0_any (c : Dev nD) (n : ℕ) (h : n ≤ cfg0.N) :
    Phi0 W c n h ⊢ iprop((∃ d, owns (c : Thread nD τ) scM0 fullShare d) ∗ rest0 c ∗ (∃ r, prngReg c r)) := by
  cases n with
  | zero => exact .rfl
  | succ n =>
    show iprop(owns (c : Thread nD τ) scM0 fullShare (car0 W c n h) ∗ rest0 c ∗ (∃ r, prngReg c r)) ⊢ _
    iintro ⟨H, Hr⟩
    isplitl [H]
    · iexists _; iexact H
    iexact Hr

/-! ## The pipeline's proof data -/

/-- The contents of every window after the body at point `t`, and the invariant. -/
def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => pblk0 W c t
    | ⟨2, _⟩ => iblk0 W c 2 t
    | ⟨3, _⟩ => outO (grid0.coords t) (iblk0 W c 0 t) (pblk0 W c t) (ent0 W c t)
    | ⟨4, _⟩ => outS (grid0.coords t) (iblk0 W c 0 t) (pblk0 W c t) (ent0 W c t)
    | ⟨5, _⟩ => rebd (car0 W c t.val t.isLt)
  Φ t := Phi0 W c t.val (Nat.le_of_lt_succ t.isLt)
  q _ := fullShare
  owed _ := 0

theorem A0_eq (c : Dev nD) (w : Fin cfg0.W) : (dat0 W c).A w = W c (Pipeline.arrRef spec0 w) := by
  dsimp only [dat0]
theorem Phi0_castSucc (c : Dev nD) (t : Fin cfg0.N) :
    (dat0 W c).Φ t.castSucc = Phi0 W c t.val (Nat.le_of_lt t.isLt) := by
  dsimp only [dat0]; exact Pipeline.Dat.Φ_castSucc (Phi0 W c) t
theorem after0_0 (c : Dev nD) (t : Fin cfg0.N) : (dat0 W c).after 0 t = iblk0 W c 0 t := by dsimp only [dat0]
theorem after0_1 (c : Dev nD) (t : Fin cfg0.N) : (dat0 W c).after 1 t = pblk0 W c t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = outO (grid0.coords t) (iblk0 W c 0 t) (pblk0 W c t) (ent0 W c t) := by dsimp only [dat0]
theorem after0_4 (c : Dev nD) (t : Fin cfg0.N) : (dat0 W c).after 4 t = outS (grid0.coords t) (iblk0 W c 0 t) (pblk0 W c t) (ent0 W c t) := by dsimp only [dat0]
theorem after0_5 (c : Dev nD) (t : Fin cfg0.N) : (dat0 W c).after 5 t = rebd (car0 W c t.val t.isLt) := by dsimp only [dat0]

/-! Each input's buffer holds its block at every point, fetched there or not. -/

theorem before0_0 (c : Dev nD) (t : Fin cfg0.N) (d) : (dat0 W c).before 0 t d = iblk0 W c 0 t :=
  ((dat0 W c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W c).before 1 t d = pblk0 W c t :=
  ((dat0 W c).before_in_eq_fetched 1 rfl (fun _ => rfl)
    (fun t t' h => by funext a; exact congrArg (fun f : Fin 2 → ℕ => Pipeline.Clip.of (f a) (S256x1024.size a) (S16384x8320.size a)) h)
    (fun t => by rw [after0_1]; unfold pblk0 Dat.blockOf; rw [A0_eq]; exact (cfg0.win 1).cut_fill _ _ _) t d).trans
    (by unfold Dat.fetched Dat.blockOf pblk0 iblk0; rw [A0_eq]; exact fill0_1 t _ _ _)
theorem before0_2 (c : Dev nD) (t : Fin cfg0.N) (d) : (dat0 W c).before 2 t d = iblk0 W c 2 t :=
  ((dat0 W c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)

/-! ## Where the branches are taken -/

theorem hcond0_0 (t : Fin cfg0.N) : cond0_0 (grid0.coords t) ↔ t.val % 64 = 0 := by
  have ht : t.val < 128 := t.isLt
  have e1 : (grid0.coords t 1).val = t.val / 1 % 64 := Pipeline.Grid.coords_val t 1 (by decide) rfl
  simp only [cond0_0, e1]
  word_cmp
theorem hcond0_1 (t : Fin cfg0.N) : k0_cond2 (grid0.coords t) = 1#1 ↔ t.val % 64 = 63 := by
  have ht : t.val < 128 := t.isLt
  have e1 : (grid0.coords t 1).val = t.val / 1 % 64 := Pipeline.Grid.coords_val t 1 (by decide) rfl
  simp only [k0_cond2, e1]
  word_cmp
theorem idleAt0 : ∀ t : Fin cfg0.N, ¬k0_cond2 (grid0.coords t) = 1#1 → cfg0.idle 5 (grid0.coords t) = true := by decide +kernel
theorem liveAt0 : ∀ t : Fin cfg0.N, k0_cond2 (grid0.coords t) = 1#1 → cfg0.idle 5 (grid0.coords t) = false := by decide +kernel
theorem noFlush0 (t : Fin cfg0.N) (h : ¬t.val % 64 = 63) : (cfg0.win 5).flush t = false := by
  rw [← Bool.not_eq_true, flush0_5]; exact h

/-! ## The body obligation -/

/-- Each window's current buffer at point `t`. -/
abbrev ms0_0 (t : Fin cfg0.N) : Memref sig .tc .vmem S256x1024 .f32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S1x4x128x256 .f32 := win0_2.stage (cfg0.slots t 2)
abbrev ms0_3 (t : Fin cfg0.N) : Memref sig .tc .vmem S1x256x1024 .f32 := win0_3.stage (cfg0.slots t 3)
abbrev ms0_4 (t : Fin cfg0.N) : Memref sig .tc .vmem S1x2x4x128x256 .bf16 := win0_4.stage (cfg0.slots t 4)
abbrev ms0_5 (t : Fin cfg0.N) : Memref sig .tc .vmem S1x4x128x256 .f32 := win0_5.stage (cfg0.slots t 5)

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d)))

/-- and what it returns. -/
def bodyPost0 (c : Dev nD) (t : Fin cfg0.N) : sProp 𝕄 :=
  iprop((dat0 W c).Φ t.succ ∗ (dat0 W c).owesAt () t.succ
    ∗ (dat0 W c).leavesExact 0 t
    ∗ (dat0 W c).leavesExact 1 t
    ∗ (dat0 W c).leavesExact 2 t
    ∗ (dat0 W c).leavesExact 3 t
    ∗ (dat0 W c).leavesExact 4 t
    ∗ (dat0 W c).leavesExact 5 t)

set_option maxHeartbeats 9600000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [show (dat0 W c).owesAt () t.succ = (dat0 W c).owesAt () t.castSucc from rfl]
  rw [show (dat0 W c).Φ t.succ = iprop(owns (c : Thread nD τ) scM0 fullShare (car0 W c t.val t.isLt) ∗ rest0 c ∗ (∃ r, prngReg c r)) from rfl]
  rw [show (dat0 W c).leavesExact 0 t = owns (c : Thread nD τ) (ms0_0 t) fullShare ((dat0 W c).after 0 t) from by
    unfold Dat.leavesExact; rw [show cfg0.idle 0 (grid0.coords t) = false from rfl], after0_0]
  rw [show (dat0 W c).leavesExact 1 t = owns (c : Thread nD τ) (ms0_1 t) fullShare ((dat0 W c).after 1 t) from by
    unfold Dat.leavesExact; rw [show cfg0.idle 1 (grid0.coords t) = false from rfl], after0_1]
  rw [show (dat0 W c).leavesExact 2 t = owns (c : Thread nD τ) (ms0_2 t) fullShare ((dat0 W c).after 2 t) from by
    unfold Dat.leavesExact; rw [show cfg0.idle 2 (grid0.coords t) = false from rfl], after0_2]
  rw [show (dat0 W c).leavesExact 3 t = owns (c : Thread nD τ) (ms0_3 t) fullShare ((dat0 W c).after 3 t) from by
    unfold Dat.leavesExact; rw [show cfg0.idle 3 (grid0.coords t) = false from rfl], after0_3]
  rw [show (dat0 W c).leavesExact 4 t = owns (c : Thread nD τ) (ms0_4 t) fullShare ((dat0 W c).after 4 t) from by
    unfold Dat.leavesExact; rw [show cfg0.idle 4 (grid0.coords t) = false from rfl], after0_4]
  have hN : t.val < 128 := t.isLt
  by_cases h0 : t.val % 64 = 0
  · have h1 : ¬t.val % 64 = 63 := by omega
    rw [Dat.leavesExact_idle (dat0 W c) 5 t (idleAt0 t (fun h => h1 ((hcond0_1 t).mp h))) (noFlush0 t h1)]
    rw [Phi0_castSucc W c t, car0_eq, ent0_first W c t h0]
    iintro ⟨HΦ, Ho, ⟨%d0, H0⟩, ⟨%d1, H1⟩, ⟨%d2, H2⟩, ⟨%d3, H3⟩, ⟨%d4, H4⟩, ⟨%d5, H5⟩⟩
    ihave HΦ' := (Phi0_any W c t.val (Nat.le_of_lt t.isLt)) $$ HΦ
    icases HΦ' with ⟨HS, Hr⟩
    iapply ((run0_first c (grid0.coords t) _ _ _ _ _ _ _ _ _ _ _ _ _ _ ((hcond0_0 t).mpr h0) (fun h => h1 ((hcond0_1 t).mp h)) (iblk0 W c 0 t) (pblk0 W c t) (iblk0 W c 2 t)).2.2.2 _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS]; · iexact HS
    iintro ⟨H0, H1, H2, ⟨%e3, H3⟩, ⟨%e4, H4⟩, H5, ⟨%es, HS⟩⟩
    isplitl [HS Hr]
    · isplitl [HS]
      · unfold owns; iexists _; isplitr
        swap; · iexact HS
        ipureintro; exact (vals0_first c (grid0.coords t) _ _ _ _ _ _ _ _ _ _ _ _ _ _ ((hcond0_0 t).mpr h0) (fun h => h1 ((hcond0_1 t).mp h)) (iblk0 W c 0 t) (pblk0 W c t) (iblk0 W c 2 t)).2.2 _
      iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact (vals0_first c (grid0.coords t) _ _ _ _ _ _ _ _ _ _ _ _ _ _ ((hcond0_0 t).mpr h0) (fun h => h1 ((hcond0_1 t).mp h)) (iblk0 W c 0 t) (pblk0 W c t) (iblk0 W c 2 t)).1 _
    isplitl [H4]
    · unfold owns; iexists _; isplitr
      swap; · iexact H4
      ipureintro; exact (vals0_first c (grid0.coords t) _ _ _ _ _ _ _ _ _ _ _ _ _ _ ((hcond0_0 t).mpr h0) (fun h => h1 ((hcond0_1 t).mp h)) (iblk0 W c 0 t) (pblk0 W c t) (iblk0 W c 2 t)).2.1 _
    iexists _; iexact H5
  · by_cases h1 : t.val % 64 = 63
    · rw [show (dat0 W c).leavesExact 5 t = owns (c : Thread nD τ) (ms0_5 t) fullShare ((dat0 W c).after 5 t) from by
        unfold Dat.leavesExact; rw [liveAt0 t ((hcond0_1 t).mpr h1)], after0_5]
      rw [Phi0_castSucc W c t, Phi0_pos W c _ _ (fun h => h0 (by rw [h])), ← ent0_next W c t h0, car0_eq]
      iintro ⟨⟨HS, Hr⟩, Ho, ⟨%d0, H0⟩, ⟨%d1, H1⟩, ⟨%d2, H2⟩, ⟨%d3, H3⟩, ⟨%d4, H4⟩, ⟨%d5, H5⟩⟩
      iapply ((run0_last c (grid0.coords t) _ _ _ _ _ _ _ _ _ _ _ _ _ _ (fun h => h0 ((hcond0_0 t).mp h)) ((hcond0_1 t).mpr h1) (iblk0 W c 0 t) (pblk0 W c t) (iblk0 W c 2 t) (ent0 W c t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, ⟨%e3, H3⟩, ⟨%e4, H4⟩, ⟨%e5, H5⟩, ⟨%es, HS⟩⟩
      isplitl [HS Hr]
      · isplitl [HS]
        · unfold owns; iexists _; isplitr
          swap; · iexact HS
          ipureintro; exact (vals0_last c (grid0.coords t) _ _ _ _ _ _ _ _ _ _ _ _ _ _ (fun h => h0 ((hcond0_0 t).mp h)) ((hcond0_1 t).mpr h1) (iblk0 W c 0 t) (pblk0 W c t) (iblk0 W c 2 t) (ent0 W c t)).2.2.2 _
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact (vals0_last c (grid0.coords t) _ _ _ _ _ _ _ _ _ _ _ _ _ _ (fun h => h0 ((hcond0_0 t).mp h)) ((hcond0_1 t).mpr h1) (iblk0 W c 0 t) (pblk0 W c t) (iblk0 W c 2 t) (ent0 W c t)).1 _
      isplitl [H4]
      · unfold owns; iexists _; isplitr
        swap; · iexact H4
        ipureintro; exact (vals0_last c (grid0.coords t) _ _ _ _ _ _ _ _ _ _ _ _ _ _ (fun h => h0 ((hcond0_0 t).mp h)) ((hcond0_1 t).mpr h1) (iblk0 W c 0 t) (pblk0 W c t) (iblk0 W c 2 t) (ent0 W c t)).2.1 _
      unfold owns; iexists _; isplitr
      swap; · iexact H5
      ipureintro; exact (vals0_last c (grid0.coords t) _ _ _ _ _ _ _ _ _ _ _ _ _ _ (fun h => h0 ((hcond0_0 t).mp h)) ((hcond0_1 t).mpr h1) (iblk0 W c 0 t) (pblk0 W c t) (iblk0 W c 2 t) (ent0 W c t)).2.2.1 _
    · rw [Dat.leavesExact_idle (dat0 W c) 5 t (idleAt0 t (fun h => h1 ((hcond0_1 t).mp h))) (noFlush0 t h1)]
      rw [Phi0_castSucc W c t, Phi0_pos W c _ _ (fun h => h0 (by rw [h])), ← ent0_next W c t h0, car0_eq]
      iintro ⟨⟨HS, Hr⟩, Ho, ⟨%d0, H0⟩, ⟨%d1, H1⟩, ⟨%d2, H2⟩, ⟨%d3, H3⟩, ⟨%d4, H4⟩, ⟨%d5, H5⟩⟩
      iapply ((run0_mid c (grid0.coords t) _ _ _ _ _ _ _ _ _ _ _ _ _ _ (fun h => h0 ((hcond0_0 t).mp h)) (fun h => h1 ((hcond0_1 t).mp h)) (iblk0 W c 0 t) (pblk0 W c t) (iblk0 W c 2 t) (ent0 W c t)).2.2.2 _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [HS]; · iexact HS
      iintro ⟨H0, H1, H2, ⟨%e3, H3⟩, ⟨%e4, H4⟩, H5, ⟨%es, HS⟩⟩
      isplitl [HS Hr]
      · isplitl [HS]
        · unfold owns; iexists _; isplitr
          swap; · iexact HS
          ipureintro; exact (vals0_mid c (grid0.coords t) _ _ _ _ _ _ _ _ _ _ _ _ _ _ (fun h => h0 ((hcond0_0 t).mp h)) (fun h => h1 ((hcond0_1 t).mp h)) (iblk0 W c 0 t) (pblk0 W c t) (iblk0 W c 2 t) (ent0 W c t)).2.2 _
        iexact Hr
      isplitl [Ho]; · iexact Ho
      isplitl [H0]; · iexact H0
      isplitl [H1]; · iexact H1
      isplitl [H2]; · iexact H2
      isplitl [H3]
      · unfold owns; iexists _; isplitr
        swap; · iexact H3
        ipureintro; exact (vals0_mid c (grid0.coords t) _ _ _ _ _ _ _ _ _ _ _ _ _ _ (fun h => h0 ((hcond0_0 t).mp h)) (fun h => h1 ((hcond0_1 t).mp h)) (iblk0 W c 0 t) (pblk0 W c t) (iblk0 W c 2 t) (ent0 W c t)).1 _
      isplitl [H4]
      · unfold owns; iexists _; isplitr
        swap; · iexact H4
        ipureintro; exact (vals0_mid c (grid0.coords t) _ _ _ _ _ _ _ _ _ _ _ _ _ _ (fun h => h0 ((hcond0_0 t).mp h)) (fun h => h1 ((hcond0_1 t).mp h)) (iblk0 W c 0 t) (pblk0 W c t) (iblk0 W c 2 t) (ent0 W c t)).2.1 _
      iexists _; iexact H5

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 W c) (defs₀ (F := F)) Variants.none () Set.univ := fun t => by
  rw [bigSep_W0, bigSep_W0, defs₀_row0]
  exact triple_restated (sound_body0 W c t) rfl .rfl fun _ => .rfl

/-- The scoped buffers that no window uses: the carried state's and the other call's. -/
theorem scoped0 (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [Pipeline.scopedRest_split_of_list spec0 c [cc0_scratch0] (by decide) (by decide)]
  simp only [scM0, owns_whole]
  rfl

/-- What the launch hands the region gives the invariant before the first point, -/
theorem hin0 (c : Dev nD) :
    iprop(Pipeline.scopedRest (Ix := Unit) (Name := ℕ) (U := UR sig nD τ) (Lvl := ℕ) (Val := Elt F) spec0 c ∗ (∃ r, prngReg c r)) ⊢ (dat0 W c).Φ 0 := by
  rw [show (dat0 W c).Φ 0 = iprop((∃ d, owns (c : Thread nD τ) scM0 fullShare d) ∗ rest0 c ∗ (∃ r, prngReg c r)) from rfl, scoped0]
  iintro ⟨⟨HS, Hr⟩, Hg⟩
  isplitl [HS]; · iexact HS
  isplitl [Hr]; · iexact Hr
  iexact Hg

/-- and the invariant after the last point gives it back. -/
theorem hout0 (c : Dev nD) :
    (dat0 W c).Φ (Fin.last cfg0.N) ⊢ iprop(Pipeline.scopedRest (Ix := Unit) (Name := ℕ) (U := UR sig nD τ) (Lvl := ℕ) (Val := Elt F) spec0 c ∗ (∃ r, prngReg c r)) := by
  rw [show (dat0 W c).Φ (Fin.last cfg0.N) = Phi0 W c cfg0.N (Nat.le_refl _) from rfl, scoped0]
  iintro HΦ
  ihave H := (Phi0_any W c cfg0.N (Nat.le_refl _)) $$ HΦ
  icases H with ⟨HS, Hr, Hg⟩
  isplitl [HS Hr]
  · isplitl [HS]; · iexact HS
    iexact Hr
  iexact Hg

end Cert.KernelIdeal.Ret

end
-- ==== Proof.Run1.lean ====
/- The body of the gradient call, run once per kind of grid point.  Each run ends with the list of
   stores left in every buffer that the body writes. -/
module

public import proofs.«01_k».proof.Proof.Offsets

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The condition of the body's first branch: the grid's second coordinate is zero. -/
abbrev cond1_0 (i : grid1.Coords) : Prop := (Scalar.cmpi .ne (Scalar.extui (Scalar.cmpi .eq (BitVec.ofNat 32 (i 1).val) 0#32)) 0#32) = 1#1

set_option maxHeartbeats 4000000 in
/-- The body of the gradient call at the first point of a direction: the scratch is loaded from the window that brings the state in, and the last window is left alone. -/
def run1_first (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : cond1_0 i) (hc1 : ¬k1_cond2 i = 1#1)
    (x0 : Vec F S256x1024 .f32) (x1 : Vec F S256x1024 .f32) (x2 : Vec F S1x2x4x128x256 .bf16) (x3 : Vec F S256x1024 .f32) (x4 : Vec F S1x4x128x256 .f32) :
    Σ' (L0 : List (View.Piece (Elt F) S1x256x1024 .f32)), Σ' (L1 : List (View.Piece (Elt F) S1x256x1024 .f32)), { LS : List (View.Piece (Elt F) S4x128x256 .f32) //
      ∀ (xl : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xl ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ owns (c : Thread nD τ) arg9 fullShare xl ∗ (∃ f, arg10.view.loc (c : Thread nD τ) ↦[arg10.view.set]{fullShare} arg10.view.writes (Elt F) f LS)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10) K } := by
  refine ⟨?_, ?_, ?_, fun xl E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    iexists _; iexact H10

set_option maxHeartbeats 4000000 in
/-- The body of the gradient call at a point that is neither the first nor the last of a direction: the last window is left alone. -/
def run1_mid (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : ¬cond1_0 i) (hc1 : ¬k1_cond2 i = 1#1)
    (x0 : Vec F S256x1024 .f32) (x1 : Vec F S256x1024 .f32) (x2 : Vec F S1x2x4x128x256 .bf16) (x3 : Vec F S256x1024 .f32) (x4 : Vec F S1x4x128x256 .f32) (xs : Vec F S4x128x256 .f32) :
    Σ' (L0 : List (View.Piece (Elt F) S1x256x1024 .f32)), Σ' (L1 : List (View.Piece (Elt F) S1x256x1024 .f32)), { LS : List (View.Piece (Elt F) S4x128x256 .f32) //
      ∀ (xl : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xl ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ owns (c : Thread nD τ) arg9 fullShare xl ∗ (∃ f, arg10.view.loc (c : Thread nD τ) ↦[arg10.view.set]{fullShare} arg10.view.writes (Elt F) f LS)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10) K } := by
  refine ⟨?_, ?_, ?_, fun xl E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    iexists _; iexact H10

set_option maxHeartbeats 4000000 in
/-- The body of the gradient call at the last point of a direction: the scratch is copied to the last window. -/
def run1_last (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : ¬cond1_0 i) (hc1 : k1_cond2 i = 1#1)
    (x0 : Vec F S256x1024 .f32) (x1 : Vec F S256x1024 .f32) (x2 : Vec F S1x2x4x128x256 .bf16) (x3 : Vec F S256x1024 .f32) (x4 : Vec F S1x4x128x256 .f32) (xs : Vec F S4x128x256 .f32) :
    Σ' (L0 : List (View.Piece (Elt F) S1x256x1024 .f32)), Σ' (L1 : List (View.Piece (Elt F) S1x256x1024 .f32)), Σ' (L2 : List (View.Piece (Elt F) S1x4x128x256 .f32)), { LS : List (View.Piece (Elt F) S4x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2) ∗ (∃ f, arg10.view.loc (c : Thread nD τ) ↦[arg10.view.set]{fullShare} arg10.view.writes (Elt F) f LS)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6; obtain rfl := harg10.eq_unread hf10
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.KernelIdeal.Ret

end
-- ==== Proof.Vals1.lean ====
/- What the stores of the gradient body leave in its windows and in the carried state, at each kind of grid point. -/
module

public import proofs.«01_k».proof.Proof.Cover
public import proofs.«01_k».proof.Proof.Run1

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 8000000 in
/-- What the body's stores leave, at the first point of a direction. -/
theorem vals1_first (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : cond1_0 i) (hc1 : ¬k1_cond2 i = 1#1)
    (x0 : Vec F S256x1024 .f32) (x1 : Vec F S256x1024 .f32) (x2 : Vec F S1x2x4x128x256 .bf16) (x3 : Vec F S256x1024 .f32) (x4 : Vec F S1x4x128x256 .f32) :
    (∀ f, arg7.view.read (Elt F) (arg7.view.writes (Elt F) f (run1_first c i arg2 harg2 arg3 harg3 arg4 harg4 arg5 harg5 arg6 harg6 arg7 harg7 arg8 harg8 arg9 harg9 arg10 harg10 hc0 hc1 x0 x1 x2 x3 x4).1) = outQK i x0 x1 x2 x3 (unb x4))
      ∧ (∀ f, arg8.view.read (Elt F) (arg8.view.writes (Elt F) f (run1_first c i arg2 harg2 arg3 harg3 arg4 harg4 arg5 harg5 arg6 harg6 arg7 harg7 arg8 harg8 arg9 harg9 arg10 harg10 hc0 hc1 x0 x1 x2 x3 x4).2.1) = outV i x0 x3 (unb x4))
      ∧ (∀ f, arg10.view.read (Elt F) (arg10.view.writes (Elt F) f (run1_first c i arg2 harg2 arg3 harg3 arg4 harg4 arg5 harg5 arg6 harg6 arg7 harg7 arg8 harg8 arg9 harg9 arg10 harg10 hc0 hc1 x0 x1 x2 x3 x4).2.2.1) = end1 i x0 x3 (unb x4)) := by
  refine ⟨fun f => read_of _ _ _ (fun p hp => ?_) (coverQK i _ ?_ ?_) f, fun f => read_of _ _ _ (fun p hp => ?_) (coverV i _ ?_) f, fun f => ext_hd4 _ _ ?_ ?_ ?_ ?_⟩
  simp only [run1_first, run1_first.sl.H7_10, run1_first.sl.H7_11, run1_first.sl.H8_5, run1_first.sl.H8_6, List.mem_cons, List.not_mem_nil, or_false] at hp
  rcases hp with rfl | rfl | rfl | rfl | rfl | rfl | rfl | rfl | rfl | rfl | rfl | rfl | rfl | rfl | rfl | rfl
  refine outK_piece i 1 3 _ (off1_27_1 i) (k1_off27_inb i 1) x0 x1 x2 x3 (unb x4) _ shapeCasts_S128x128_S1x128x128 ?_; rotate_left
  refine outQ_piece i 1 3 _ (off1_26_1 i) (k1_off26_inb i 1) x0 x1 x2 x3 (unb x4) _ shapeCasts_S128x128_S1x128x128 ?_; rotate_left
  refine outK_piece i 1 2 _ (off1_20_1 i) (k1_off20_inb i 1) x0 x1 x2 x3 (unb x4) _ shapeCasts_S128x128_S1x128x128 ?_; rotate_left
  refine outQ_piece i 1 2 _ (off1_19_1 i) (k1_off19_inb i 1) x0 x1 x2 x3 (unb x4) _ shapeCasts_S128x128_S1x128x128 ?_; rotate_left
  refine outK_piece i 1 1 _ (off1_13_1 i) (k1_off13_inb i 1) x0 x1 x2 x3 (unb x4) _ shapeCasts_S128x128_S1x128x128 ?_; rotate_left
  refine outQ_piece i 1 1 _ (off1_12_1 i) (k1_off12_inb i 1) x0 x1 x2 x3 (unb x4) _ shapeCasts_S128x128_S1x128x128 ?_; rotate_left
  refine outK_piece i 1 0 _ (off1_6_1 i) (k1_off6_inb i 1) x0 x1 x2 x3 (unb x4) _ shapeCasts_S128x128_S1x128x128 ?_; rotate_left
  refine outQ_piece i 1 0 _ (off1_5_1 i) (k1_off5_inb i 1) x0 x1 x2 x3 (unb x4) _ shapeCasts_S128x128_S1x128x128 ?_; rotate_left
  refine outK_piece i 0 3 _ (off1_27_0 i) (k1_off27_inb i 0) x0 x1 x2 x3 (unb x4) _ shapeCasts_S128x128_S1x128x128 ?_; rotate_left
  refine outQ_piece i 0 3 _ (off1_26_0 i) (k1_off26_inb i 0) x0 x1 x2 x3 (unb x4) _ shapeCasts_S128x128_S1x128x128 ?_; rotate_left
  refine outK_piece i 0 2 _ (off1_20_0 i) (k1_off20_inb i 0) x0 x1 x2 x3 (unb x4) _ shapeCasts_S128x128_S1x128x128 ?_; rotate_left
  refine outQ_piece i 0 2 _ (off1_19_0 i) (k1_off19_inb i 0) x0 x1 x2 x3 (unb x4) _ shapeCasts_S128x128_S1x128x128 ?_; rotate_left
  refine outK_piece i 0 1 _ (off1_13_0 i) (k1_off13_inb i 0) x0 x1 x2 x3 (unb x4) _ shapeCasts_S128x128_S1x128x128 ?_; rotate_left
  refine outQ_piece i 0 1 _ (off1_12_0 i) (k1_off12_inb i 0) x0 x1 x2 x3 (unb x4) _ shapeCasts_S128x128_S1x128x128 ?_; rotate_left
  refine outK_piece i 0 0 _ (off1_6_0 i) (k1_off6_inb i 0) x0 x1 x2 x3 (unb x4) _ shapeCasts_S128x128_S1x128x128 ?_; rotate_left
  refine outQ_piece i 0 0 _ (off1_5_0 i) (k1_off5_inb i 0) x0 x1 x2 x3 (unb x4) _ shapeCasts_S128x128_S1x128x128 ?_; rotate_left
  · intro g h
    simp only [run1_first, run1_first.sl.H7_10, run1_first.sl.H7_11, run1_first.sl.H8_5, run1_first.sl.H8_6]
    fin_cases g <;> fin_cases h
    · exact ⟨_, off1_5_0 i, k1_off5_inb i 0, _, List.mem_of_getElem? (i := 15) rfl⟩
    · exact ⟨_, off1_12_0 i, k1_off12_inb i 0, _, List.mem_of_getElem? (i := 13) rfl⟩
    · exact ⟨_, off1_19_0 i, k1_off19_inb i 0, _, List.mem_of_getElem? (i := 11) rfl⟩
    · exact ⟨_, off1_26_0 i, k1_off26_inb i 0, _, List.mem_of_getElem? (i := 9) rfl⟩
    · exact ⟨_, off1_5_1 i, k1_off5_inb i 1, _, List.mem_of_getElem? (i := 7) rfl⟩
    · exact ⟨_, off1_12_1 i, k1_off12_inb i 1, _, List.mem_of_getElem? (i := 5) rfl⟩
    · exact ⟨_, off1_19_1 i, k1_off19_inb i 1, _, List.mem_of_getElem? (i := 3) rfl⟩
    · exact ⟨_, off1_26_1 i, k1_off26_inb i 1, _, List.mem_of_getElem? (i := 1) rfl⟩
  · intro g h
    simp only [run1_first, run1_first.sl.H7_10, run1_first.sl.H7_11, run1_first.sl.H8_5, run1_first.sl.H8_6]
    fin_cases g <;> fin_cases h
    · exact ⟨_, off1_6_0 i, k1_off6_inb i 0, _, List.mem_of_getElem? (i := 14) rfl⟩
    · exact ⟨_, off1_13_0 i, k1_off13_inb i 0, _, List.mem_of_getElem? (i := 12) rfl⟩
    · exact ⟨_, off1_20_0 i, k1_off20_inb i 0, _, List.mem_of_getElem? (i := 10) rfl⟩
    · exact ⟨_, off1_27_0 i, k1_off27_inb i 0, _, List.mem_of_getElem? (i := 8) rfl⟩
    · exact ⟨_, off1_6_1 i, k1_off6_inb i 1, _, List.mem_of_getElem? (i := 6) rfl⟩
    · exact ⟨_, off1_13_1 i, k1_off13_inb i 1, _, List.mem_of_getElem? (i := 4) rfl⟩
    · exact ⟨_, off1_20_1 i, k1_off20_inb i 1, _, List.mem_of_getElem? (i := 2) rfl⟩
    · exact ⟨_, off1_27_1 i, k1_off27_inb i 1, _, List.mem_of_getElem? (i := 0) rfl⟩
  simp only [run1_first, run1_first.sl.H7_10, run1_first.sl.H7_11, run1_first.sl.H8_5, run1_first.sl.H8_6, List.mem_cons, List.not_mem_nil, or_false] at hp
  rcases hp with rfl | rfl | rfl | rfl | rfl | rfl | rfl | rfl
  refine outV_piece i 1 3 _ (off1_28_1 i) (k1_off28_inb i 1) x0 x3 (unb x4) _ shapeCasts_S128x256_S1x128x256 ?_; rotate_left
  refine outV_piece i 1 2 _ (off1_21_1 i) (k1_off21_inb i 1) x0 x3 (unb x4) _ shapeCasts_S128x256_S1x128x256 ?_; rotate_left
  refine outV_piece i 1 1 _ (off1_14_1 i) (k1_off14_inb i 1) x0 x3 (unb x4) _ shapeCasts_S128x256_S1x128x256 ?_; rotate_left
  refine outV_piece i 1 0 _ (off1_7_1 i) (k1_off7_inb i 1) x0 x3 (unb x4) _ shapeCasts_S128x256_S1x128x256 ?_; rotate_left
  refine outV_piece i 0 3 _ (off1_28_0 i) (k1_off28_inb i 0) x0 x3 (unb x4) _ shapeCasts_S128x256_S1x128x256 ?_; rotate_left
  refine outV_piece i 0 2 _ (off1_21_0 i) (k1_off21_inb i 0) x0 x3 (unb x4) _ shapeCasts_S128x256_S1x128x256 ?_; rotate_left
  refine outV_piece i 0 1 _ (off1_14_0 i) (k1_off14_inb i 0) x0 x3 (unb x4) _ shapeCasts_S128x256_S1x128x256 ?_; rotate_left
  refine outV_piece i 0 0 _ (off1_7_0 i) (k1_off7_inb i 0) x0 x3 (unb x4) _ shapeCasts_S128x256_S1x128x256 ?_; rotate_left
  · intro g h
    simp only [run1_first, run1_first.sl.H7_10, run1_first.sl.H7_11, run1_first.sl.H8_5, run1_first.sl.H8_6]
    fin_cases g <;> fin_cases h
    · exact ⟨_, off1_7_0 i, k1_off7_inb i 0, _, List.mem_of_getElem? (i := 7) rfl⟩
    · exact ⟨_, off1_14_0 i, k1_off14_inb i 0, _, List.mem_of_getElem? (i := 6) rfl⟩
    · exact ⟨_, off1_21_0 i, k1_off21_inb i 0, _, List.mem_of_getElem? (i := 5) rfl⟩
    · exact ⟨_, off1_28_0 i, k1_off28_inb i 0, _, List.mem_of_getElem? (i := 4) rfl⟩
    · exact ⟨_, off1_7_1 i, k1_off7_inb i 1, _, List.mem_of_getElem? (i := 3) rfl⟩
    · exact ⟨_, off1_14_1 i, k1_off14_inb i 1, _, List.mem_of_getElem? (i := 2) rfl⟩
    · exact ⟨_, off1_21_1 i, k1_off21_inb i 1, _, List.mem_of_getElem? (i := 1) rfl⟩
    · exact ⟨_, off1_28_1 i, k1_off28_inb i 1, _, List.mem_of_getElem? (i := 0) rfl⟩
  iterate 4
    simp only [run1_first]; simp -proj only [run1_first.sl.H10_1, run1_first.sl.H10_2, run1_first.sl.H10_3, run1_first.sl.H10_4, run1_first.sl.H10_5, run1_first.sl.H10_6, run1_first.sl.H10_7, run1_first.sl.H10_8, run1_first.sl.H7_10, run1_first.sl.H7_11, run1_first.sl.H8_5, run1_first.sl.H8_6]; rw [read_head3 arg10.view f, read_head2 arg10.view f, read_head1 arg10.view f, read_head0 arg10.view f]; rotate_left
  all_goals simp -proj only [end1, run1_first.sl.H10_1, run1_first.sl.H10_2, run1_first.sl.H10_3, run1_first.sl.H10_4, run1_first.sl.H10_5, run1_first.sl.H10_6, run1_first.sl.H10_7, run1_first.sl.H10_8, run1_first.sl.H7_10, run1_first.sl.H7_11, run1_first.sl.H8_5, run1_first.sl.H8_6, run1_first.sl.cst_13, run1_first.sl.cst_163, run1_first.sl.cst_164, run1_first.sl.cst_28, run1_first.sl.cst_29, run1_first.sl.r, run1_first.sl.r_1, run1_first.sl.r_10, run1_first.sl.r_100, run1_first.sl.r_101, run1_first.sl.r_102, run1_first.sl.r_103, run1_first.sl.r_104, run1_first.sl.r_105, run1_first.sl.r_106, run1_first.sl.r_107, run1_first.sl.r_108, run1_first.sl.r_109, run1_first.sl.r_11, run1_first.sl.r_110, run1_first.sl.r_111, run1_first.sl.r_112, run1_first.sl.r_113, run1_first.sl.r_114, run1_first.sl.r_115, run1_first.sl.r_116, run1_first.sl.r_117, run1_first.sl.r_12, run1_first.sl.r_13, run1_first.sl.r_14, run1_first.sl.r_15, run1_first.sl.r_16, run1_first.sl.r_17, run1_first.sl.r_18, run1_first.sl.r_19, run1_first.sl.r_2, run1_first.sl.r_20, run1_first.sl.r_21, run1_first.sl.r_22, run1_first.sl.r_23, run1_first.sl.r_24, run1_first.sl.r_25, run1_first.sl.r_26, run1_first.sl.r_27, run1_first.sl.r_28, run1_first.sl.r_29, run1_first.sl.r_3, run1_first.sl.r_30, run1_first.sl.r_31, run1_first.sl.r_32, run1_first.sl.r_33, run1_first.sl.r_34, run1_first.sl.r_35, run1_first.sl.r_36, run1_first.sl.r_37, run1_first.sl.r_38, run1_first.sl.r_39, run1_first.sl.r_4, run1_first.sl.r_40, run1_first.sl.r_41, run1_first.sl.r_42, run1_first.sl.r_43, run1_first.sl.r_44, run1_first.sl.r_45, run1_first.sl.r_46, run1_first.sl.r_47, run1_first.sl.r_48, run1_first.sl.r_49, run1_first.sl.r_5, run1_first.sl.r_50, run1_first.sl.r_51, run1_first.sl.r_52, run1_first.sl.r_53, run1_first.sl.r_54, run1_first.sl.r_55, run1_first.sl.r_56, run1_first.sl.r_57, run1_first.sl.r_58, run1_first.sl.r_59, run1_first.sl.r_6, run1_first.sl.r_60, run1_first.sl.r_61, run1_first.sl.r_62, run1_first.sl.r_63, run1_first.sl.r_64, run1_first.sl.r_65, run1_first.sl.r_66, run1_first.sl.r_67, run1_first.sl.r_68, run1_first.sl.r_69, run1_first.sl.r_7, run1_first.sl.r_70, run1_first.sl.r_71, run1_first.sl.r_72, run1_first.sl.r_73, run1_first.sl.r_74, run1_first.sl.r_75, run1_first.sl.r_76, run1_first.sl.r_77, run1_first.sl.r_78, run1_first.sl.r_79, run1_first.sl.r_8, run1_first.sl.r_80, run1_first.sl.r_81, run1_first.sl.r_82, run1_first.sl.r_83, run1_first.sl.r_84, run1_first.sl.r_85, run1_first.sl.r_86, run1_first.sl.r_87, run1_first.sl.r_88, run1_first.sl.r_89, run1_first.sl.r_9, run1_first.sl.r_90, run1_first.sl.r_91, run1_first.sl.r_92, run1_first.sl.r_93, run1_first.sl.r_94, run1_first.sl.r_95, run1_first.sl.r_96, run1_first.sl.r_97, run1_first.sl.r_98, run1_first.sl.r_99, run1_first.sl.v0, run1_first.sl.v1, run1_first.sl.v100, run1_first.sl.v101, run1_first.sl.v103, run1_first.sl.v104, run1_first.sl.v106, run1_first.sl.v107, run1_first.sl.v108, run1_first.sl.v111, run1_first.sl.v112, run1_first.sl.v113, run1_first.sl.v114, run1_first.sl.v115, run1_first.sl.v168, run1_first.sl.v2, run1_first.sl.v276, run1_first.sl.v295, run1_first.sl.v296, run1_first.sl.v297, run1_first.sl.v298, run1_first.sl.v299, run1_first.sl.v3, run1_first.sl.v300, run1_first.sl.v302, run1_first.sl.v303, run1_first.sl.v304, run1_first.sl.v305, run1_first.sl.v306, run1_first.sl.v307, run1_first.sl.v309, run1_first.sl.v310, run1_first.sl.v311, run1_first.sl.v312, run1_first.sl.v313, run1_first.sl.v314, run1_first.sl.v315, run1_first.sl.v316, run1_first.sl.v318, run1_first.sl.v319, run1_first.sl.v320, run1_first.sl.v322, run1_first.sl.v323, run1_first.sl.v324, run1_first.sl.v326, run1_first.sl.v327, run1_first.sl.v328, run1_first.sl.v329, run1_first.sl.v330, run1_first.sl.v331, run1_first.sl.v384, run1_first.sl.v4, run1_first.sl.v426, run1_first.sl.v427, run1_first.sl.v428, run1_first.sl.v430, run1_first.sl.v431, run1_first.sl.v432, run1_first.sl.v434, run1_first.sl.v435, run1_first.sl.v436, run1_first.sl.v437, run1_first.sl.v438, run1_first.sl.v439, run1_first.sl.v441, run1_first.sl.v442, run1_first.sl.v444, run1_first.sl.v450, run1_first.sl.v452, run1_first.sl.v453, run1_first.sl.v454, run1_first.sl.v455, run1_first.sl.v456, run1_first.sl.v457, run1_first.sl.v458, run1_first.sl.v459, run1_first.sl.v460, run1_first.sl.v496, run1_first.sl.v5, run1_first.sl.v6, run1_first.sl.v60, run1_first.sl.v604, run1_first.sl.v636, run1_first.sl.v637, run1_first.sl.v638, run1_first.sl.v639, run1_first.sl.v640, run1_first.sl.v641, run1_first.sl.v642, run1_first.sl.v643, run1_first.sl.v644, run1_first.sl.v647, run1_first.sl.v648, run1_first.sl.v651, run1_first.sl.v652, run1_first.sl.v655, run1_first.sl.v656, run1_first.sl.v657, run1_first.sl.v658, run1_first.sl.v659, run1_first.sl.v668, run1_first.sl.v669, run1_first.sl.v712, run1_first.sl.v820, run1_first.sl.v83, run1_first.sl.v84, run1_first.sl.v85, run1_first.sl.v86, run1_first.sl.v87, run1_first.sl.v88, run1_first.sl.v89, run1_first.sl.v90, run1_first.sl.v91, run1_first.sl.v93, run1_first.sl.v94, run1_first.sl.v95, run1_first.sl.v96, run1_first.sl.v97, run1_first.sl.v98, run1_first.sl.v99, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay160, k1_pay161, k1_pay162, k1_pay163, k1_pay164, k1_pay165, k1_pay166, k1_pay167, k1_pay168, k1_pay169, k1_pay17, k1_pay170, k1_pay171, k1_pay172, k1_pay173, k1_pay174, k1_pay175, k1_pay176, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, cut1_1_0 i c, cut1_2_0 i c, cut1_3_0 i c, cut1_8_0 i c, cut1_9_0 i c, cut1_10_0 i c, cut1_15_0 i c, cut1_16_0 i c, cut1_17_0 i c, cut1_22_0 i c, cut1_23_0 i c, cut1_24_0 i c, cut1_1_1 i c, cut1_2_1 i c, cut1_3_1 i c, cut1_8_1 i c, cut1_9_1 i c, cut1_10_1 i c, cut1_15_1 i c, cut1_16_1 i c, cut1_17_1 i c, cut1_22_1 i c, cut1_23_1 i c, cut1_24_1 i c, sav1_4_0 i c, sav1_11_0 i c, sav1_18_0 i c, sav1_25_0 i c, sav1_4_1 i c, sav1_11_1 i c, sav1_18_1 i c, sav1_25_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st1, step1]
  all_goals rfl

set_option maxHeartbeats 8000000 in
/-- What the body's stores leave, at a point between. -/
theorem vals1_mid (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : ¬cond1_0 i) (hc1 : ¬k1_cond2 i = 1#1)
    (x0 : Vec F S256x1024 .f32) (x1 : Vec F S256x1024 .f32) (x2 : Vec F S1x2x4x128x256 .bf16) (x3 : Vec F S256x1024 .f32) (x4 : Vec F S1x4x128x256 .f32) (xs : Vec F S4x128x256 .f32) :
    (∀ f, arg7.view.read (Elt F) (arg7.view.writes (Elt F) f (run1_mid c i arg2 harg2 arg3 harg3 arg4 harg4 arg5 harg5 arg6 harg6 arg7 harg7 arg8 harg8 arg9 harg9 arg10 harg10 hc0 hc1 x0 x1 x2 x3 x4 xs).1) = outQK i x0 x1 x2 x3 xs)
      ∧ (∀ f, arg8.view.read (Elt F) (arg8.view.writes (Elt F) f (run1_mid c i arg2 harg2 arg3 harg3 arg4 harg4 arg5 harg5 arg6 harg6 arg7 harg7 arg8 harg8 arg9 harg9 arg10 harg10 hc0 hc1 x0 x1 x2 x3 x4 xs).2.1) = outV i x0 x3 xs)
      ∧ (∀ f, arg10.view.read (Elt F) (arg10.view.writes (Elt F) f (run1_mid c i arg2 harg2 arg3 harg3 arg4 harg4 arg5 harg5 arg6 harg6 arg7 harg7 arg8 harg8 arg9 harg9 arg10 harg10 hc0 hc1 x0 x1 x2 x3 x4 xs).2.2.1) = end1 i x0 x3 xs) := by
  refine ⟨fun f => read_of _ _ _ (fun p hp => ?_) (coverQK i _ ?_ ?_) f, fun f => read_of _ _ _ (fun p hp => ?_) (coverV i _ ?_) f, fun f => ext_hd4 _ _ ?_ ?_ ?_ ?_⟩
  simp only [run1_mid, run1_mid.sl.H7_10, run1_mid.sl.H7_11, run1_mid.sl.H8_5, run1_mid.sl.H8_6, List.mem_cons, List.not_mem_nil, or_false] at hp
  rcases hp with rfl | rfl | rfl | rfl | rfl | rfl | rfl | rfl | rfl | rfl | rfl | rfl | rfl | rfl | rfl | rfl
  refine outK_piece i 1 3 _ (off1_27_1 i) (k1_off27_inb i 1) x0 x1 x2 x3 xs _ shapeCasts_S128x128_S1x128x128 ?_; rotate_left
  refine outQ_piece i 1 3 _ (off1_26_1 i) (k1_off26_inb i 1) x0 x1 x2 x3 xs _ shapeCasts_S128x128_S1x128x128 ?_; rotate_left
  refine outK_piece i 1 2 _ (off1_20_1 i) (k1_off20_inb i 1) x0 x1 x2 x3 xs _ shapeCasts_S128x128_S1x128x128 ?_; rotate_left
  refine outQ_piece i 1 2 _ (off1_19_1 i) (k1_off19_inb i 1) x0 x1 x2 x3 xs _ shapeCasts_S128x128_S1x128x128 ?_; rotate_left
  refine outK_piece i 1 1 _ (off1_13_1 i) (k1_off13_inb i 1) x0 x1 x2 x3 xs _ shapeCasts_S128x128_S1x128x128 ?_; rotate_left
  refine outQ_piece i 1 1 _ (off1_12_1 i) (k1_off12_inb i 1) x0 x1 x2 x3 xs _ shapeCasts_S128x128_S1x128x128 ?_; rotate_left
  refine outK_piece i 1 0 _ (off1_6_1 i) (k1_off6_inb i 1) x0 x1 x2 x3 xs _ shapeCasts_S128x128_S1x128x128 ?_; rotate_left
  refine outQ_piece i 1 0 _ (off1_5_1 i) (k1_off5_inb i 1) x0 x1 x2 x3 xs _ shapeCasts_S128x128_S1x128x128 ?_; rotate_left
  refine outK_piece i 0 3 _ (off1_27_0 i) (k1_off27_inb i 0) x0 x1 x2 x3 xs _ shapeCasts_S128x128_S1x128x128 ?_; rotate_left
  refine outQ_piece i 0 3 _ (off1_26_0 i) (k1_off26_inb i 0) x0 x1 x2 x3 xs _ shapeCasts_S128x128_S1x128x128 ?_; rotate_left
  refine outK_piece i 0 2 _ (off1_20_0 i) (k1_off20_inb i 0) x0 x1 x2 x3 xs _ shapeCasts_S128x128_S1x128x128 ?_; rotate_left
  refine outQ_piece i 0 2 _ (off1_19_0 i) (k1_off19_inb i 0) x0 x1 x2 x3 xs _ shapeCasts_S128x128_S1x128x128 ?_; rotate_left
  refine outK_piece i 0 1 _ (off1_13_0 i) (k1_off13_inb i 0) x0 x1 x2 x3 xs _ shapeCasts_S128x128_S1x128x128 ?_; rotate_left
  refine outQ_piece i 0 1 _ (off1_12_0 i) (k1_off12_inb i 0) x0 x1 x2 x3 xs _ shapeCasts_S128x128_S1x128x128 ?_; rotate_left
  refine outK_piece i 0 0 _ (off1_6_0 i) (k1_off6_inb i 0) x0 x1 x2 x3 xs _ shapeCasts_S128x128_S1x128x128 ?_; rotate_left
  refine outQ_piece i 0 0 _ (off1_5_0 i) (k1_off5_inb i 0) x0 x1 x2 x3 xs _ shapeCasts_S128x128_S1x128x128 ?_; rotate_left
  · intro g h
    simp only [run1_mid, run1_mid.sl.H7_10, run1_mid.sl.H7_11, run1_mid.sl.H8_5, run1_mid.sl.H8_6]
    fin_cases g <;> fin_cases h
    · exact ⟨_, off1_5_0 i, k1_off5_inb i 0, _, List.mem_of_getElem? (i := 15) rfl⟩
    · exact ⟨_, off1_12_0 i, k1_off12_inb i 0, _, List.mem_of_getElem? (i := 13) rfl⟩
    · exact ⟨_, off1_19_0 i, k1_off19_inb i 0, _, List.mem_of_getElem? (i := 11) rfl⟩
    · exact ⟨_, off1_26_0 i, k1_off26_inb i 0, _, List.mem_of_getElem? (i := 9) rfl⟩
    · exact ⟨_, off1_5_1 i, k1_off5_inb i 1, _, List.mem_of_getElem? (i := 7) rfl⟩
    · exact ⟨_, off1_12_1 i, k1_off12_inb i 1, _, List.mem_of_getElem? (i := 5) rfl⟩
    · exact ⟨_, off1_19_1 i, k1_off19_inb i 1, _, List.mem_of_getElem? (i := 3) rfl⟩
    · exact ⟨_, off1_26_1 i, k1_off26_inb i 1, _, List.mem_of_getElem? (i := 1) rfl⟩
  · intro g h
    simp only [run1_mid, run1_mid.sl.H7_10, run1_mid.sl.H7_11, run1_mid.sl.H8_5, run1_mid.sl.H8_6]
    fin_cases g <;> fin_cases h
    · exact ⟨_, off1_6_0 i, k1_off6_inb i 0, _, List.mem_of_getElem? (i := 14) rfl⟩
    · exact ⟨_, off1_13_0 i, k1_off13_inb i 0, _, List.mem_of_getElem? (i := 12) rfl⟩
    · exact ⟨_, off1_20_0 i, k1_off20_inb i 0, _, List.mem_of_getElem? (i := 10) rfl⟩
    · exact ⟨_, off1_27_0 i, k1_off27_inb i 0, _, List.mem_of_getElem? (i := 8) rfl⟩
    · exact ⟨_, off1_6_1 i, k1_off6_inb i 1, _, List.mem_of_getElem? (i := 6) rfl⟩
    · exact ⟨_, off1_13_1 i, k1_off13_inb i 1, _, List.mem_of_getElem? (i := 4) rfl⟩
    · exact ⟨_, off1_20_1 i, k1_off20_inb i 1, _, List.mem_of_getElem? (i := 2) rfl⟩
    · exact ⟨_, off1_27_1 i, k1_off27_inb i 1, _, List.mem_of_getElem? (i := 0) rfl⟩
  simp only [run1_mid, run1_mid.sl.H7_10, run1_mid.sl.H7_11, run1_mid.sl.H8_5, run1_mid.sl.H8_6, List.mem_cons, List.not_mem_nil, or_false] at hp
  rcases hp with rfl | rfl | rfl | rfl | rfl | rfl | rfl | rfl
  refine outV_piece i 1 3 _ (off1_28_1 i) (k1_off28_inb i 1) x0 x3 xs _ shapeCasts_S128x256_S1x128x256 ?_; rotate_left
  refine outV_piece i 1 2 _ (off1_21_1 i) (k1_off21_inb i 1) x0 x3 xs _ shapeCasts_S128x256_S1x128x256 ?_; rotate_left
  refine outV_piece i 1 1 _ (off1_14_1 i) (k1_off14_inb i 1) x0 x3 xs _ shapeCasts_S128x256_S1x128x256 ?_; rotate_left
  refine outV_piece i 1 0 _ (off1_7_1 i) (k1_off7_inb i 1) x0 x3 xs _ shapeCasts_S128x256_S1x128x256 ?_; rotate_left
  refine outV_piece i 0 3 _ (off1_28_0 i) (k1_off28_inb i 0) x0 x3 xs _ shapeCasts_S128x256_S1x128x256 ?_; rotate_left
  refine outV_piece i 0 2 _ (off1_21_0 i) (k1_off21_inb i 0) x0 x3 xs _ shapeCasts_S128x256_S1x128x256 ?_; rotate_left
  refine outV_piece i 0 1 _ (off1_14_0 i) (k1_off14_inb i 0) x0 x3 xs _ shapeCasts_S128x256_S1x128x256 ?_; rotate_left
  refine outV_piece i 0 0 _ (off1_7_0 i) (k1_off7_inb i 0) x0 x3 xs _ shapeCasts_S128x256_S1x128x256 ?_; rotate_left
  · intro g h
    simp only [run1_mid, run1_mid.sl.H7_10, run1_mid.sl.H7_11, run1_mid.sl.H8_5, run1_mid.sl.H8_6]
    fin_cases g <;> fin_cases h
    · exact ⟨_, off1_7_0 i, k1_off7_inb i 0, _, List.mem_of_getElem? (i := 7) rfl⟩
    · exact ⟨_, off1_14_0 i, k1_off14_inb i 0, _, List.mem_of_getElem? (i := 6) rfl⟩
    · exact ⟨_, off1_21_0 i, k1_off21_inb i 0, _, List.mem_of_getElem? (i := 5) rfl⟩
    · exact ⟨_, off1_28_0 i, k1_off28_inb i 0, _, List.mem_of_getElem? (i := 4) rfl⟩
    · exact ⟨_, off1_7_1 i, k1_off7_inb i 1, _, List.mem_of_getElem? (i := 3) rfl⟩
    · exact ⟨_, off1_14_1 i, k1_off14_inb i 1, _, List.mem_of_getElem? (i := 2) rfl⟩
    · exact ⟨_, off1_21_1 i, k1_off21_inb i 1, _, List.mem_of_getElem? (i := 1) rfl⟩
    · exact ⟨_, off1_28_1 i, k1_off28_inb i 1, _, List.mem_of_getElem? (i := 0) rfl⟩
  iterate 4
    simp only [run1_mid]; simp -proj only [run1_mid.sl.H10_4, run1_mid.sl.H10_5, run1_mid.sl.H10_6, run1_mid.sl.H10_7, run1_mid.sl.H7_10, run1_mid.sl.H7_11, run1_mid.sl.H8_5, run1_mid.sl.H8_6]; rw [read_head3 arg10.view f, read_head2 arg10.view f, read_head1 arg10.view f, read_head0 arg10.view f]; rotate_left
  all_goals simp -proj only [end1, run1_mid.sl.H10_4, run1_mid.sl.H10_5, run1_mid.sl.H10_6, run1_mid.sl.H10_7, run1_mid.sl.H7_10, run1_mid.sl.H7_11, run1_mid.sl.H8_5, run1_mid.sl.H8_6, run1_mid.sl.cst_13, run1_mid.sl.cst_163, run1_mid.sl.cst_164, run1_mid.sl.cst_28, run1_mid.sl.cst_29, run1_mid.sl.r, run1_mid.sl.r_1, run1_mid.sl.r_10, run1_mid.sl.r_100, run1_mid.sl.r_101, run1_mid.sl.r_102, run1_mid.sl.r_103, run1_mid.sl.r_104, run1_mid.sl.r_105, run1_mid.sl.r_106, run1_mid.sl.r_107, run1_mid.sl.r_108, run1_mid.sl.r_109, run1_mid.sl.r_11, run1_mid.sl.r_110, run1_mid.sl.r_111, run1_mid.sl.r_112, run1_mid.sl.r_113, run1_mid.sl.r_114, run1_mid.sl.r_115, run1_mid.sl.r_116, run1_mid.sl.r_117, run1_mid.sl.r_12, run1_mid.sl.r_13, run1_mid.sl.r_14, run1_mid.sl.r_15, run1_mid.sl.r_16, run1_mid.sl.r_17, run1_mid.sl.r_18, run1_mid.sl.r_19, run1_mid.sl.r_2, run1_mid.sl.r_20, run1_mid.sl.r_21, run1_mid.sl.r_22, run1_mid.sl.r_23, run1_mid.sl.r_24, run1_mid.sl.r_25, run1_mid.sl.r_26, run1_mid.sl.r_27, run1_mid.sl.r_28, run1_mid.sl.r_29, run1_mid.sl.r_3, run1_mid.sl.r_30, run1_mid.sl.r_31, run1_mid.sl.r_32, run1_mid.sl.r_33, run1_mid.sl.r_34, run1_mid.sl.r_35, run1_mid.sl.r_36, run1_mid.sl.r_37, run1_mid.sl.r_38, run1_mid.sl.r_39, run1_mid.sl.r_4, run1_mid.sl.r_40, run1_mid.sl.r_41, run1_mid.sl.r_42, run1_mid.sl.r_43, run1_mid.sl.r_44, run1_mid.sl.r_45, run1_mid.sl.r_46, run1_mid.sl.r_47, run1_mid.sl.r_48, run1_mid.sl.r_49, run1_mid.sl.r_5, run1_mid.sl.r_50, run1_mid.sl.r_51, run1_mid.sl.r_52, run1_mid.sl.r_53, run1_mid.sl.r_54, run1_mid.sl.r_55, run1_mid.sl.r_56, run1_mid.sl.r_57, run1_mid.sl.r_58, run1_mid.sl.r_59, run1_mid.sl.r_6, run1_mid.sl.r_60, run1_mid.sl.r_61, run1_mid.sl.r_62, run1_mid.sl.r_63, run1_mid.sl.r_64, run1_mid.sl.r_65, run1_mid.sl.r_66, run1_mid.sl.r_67, run1_mid.sl.r_68, run1_mid.sl.r_69, run1_mid.sl.r_7, run1_mid.sl.r_70, run1_mid.sl.r_71, run1_mid.sl.r_72, run1_mid.sl.r_73, run1_mid.sl.r_74, run1_mid.sl.r_75, run1_mid.sl.r_76, run1_mid.sl.r_77, run1_mid.sl.r_78, run1_mid.sl.r_79, run1_mid.sl.r_8, run1_mid.sl.r_80, run1_mid.sl.r_81, run1_mid.sl.r_82, run1_mid.sl.r_83, run1_mid.sl.r_84, run1_mid.sl.r_85, run1_mid.sl.r_86, run1_mid.sl.r_87, run1_mid.sl.r_88, run1_mid.sl.r_89, run1_mid.sl.r_9, run1_mid.sl.r_90, run1_mid.sl.r_91, run1_mid.sl.r_92, run1_mid.sl.r_93, run1_mid.sl.r_94, run1_mid.sl.r_95, run1_mid.sl.r_96, run1_mid.sl.r_97, run1_mid.sl.r_98, run1_mid.sl.r_99, run1_mid.sl.v0, run1_mid.sl.v1, run1_mid.sl.v100, run1_mid.sl.v101, run1_mid.sl.v103, run1_mid.sl.v104, run1_mid.sl.v106, run1_mid.sl.v107, run1_mid.sl.v108, run1_mid.sl.v111, run1_mid.sl.v112, run1_mid.sl.v114, run1_mid.sl.v115, run1_mid.sl.v168, run1_mid.sl.v2, run1_mid.sl.v276, run1_mid.sl.v295, run1_mid.sl.v296, run1_mid.sl.v297, run1_mid.sl.v298, run1_mid.sl.v299, run1_mid.sl.v3, run1_mid.sl.v300, run1_mid.sl.v302, run1_mid.sl.v303, run1_mid.sl.v304, run1_mid.sl.v305, run1_mid.sl.v306, run1_mid.sl.v307, run1_mid.sl.v309, run1_mid.sl.v310, run1_mid.sl.v311, run1_mid.sl.v312, run1_mid.sl.v313, run1_mid.sl.v314, run1_mid.sl.v315, run1_mid.sl.v316, run1_mid.sl.v318, run1_mid.sl.v319, run1_mid.sl.v320, run1_mid.sl.v322, run1_mid.sl.v323, run1_mid.sl.v324, run1_mid.sl.v326, run1_mid.sl.v327, run1_mid.sl.v328, run1_mid.sl.v329, run1_mid.sl.v330, run1_mid.sl.v331, run1_mid.sl.v384, run1_mid.sl.v4, run1_mid.sl.v426, run1_mid.sl.v427, run1_mid.sl.v428, run1_mid.sl.v430, run1_mid.sl.v431, run1_mid.sl.v432, run1_mid.sl.v434, run1_mid.sl.v435, run1_mid.sl.v436, run1_mid.sl.v437, run1_mid.sl.v438, run1_mid.sl.v439, run1_mid.sl.v441, run1_mid.sl.v442, run1_mid.sl.v444, run1_mid.sl.v450, run1_mid.sl.v452, run1_mid.sl.v453, run1_mid.sl.v454, run1_mid.sl.v455, run1_mid.sl.v456, run1_mid.sl.v457, run1_mid.sl.v458, run1_mid.sl.v459, run1_mid.sl.v460, run1_mid.sl.v496, run1_mid.sl.v5, run1_mid.sl.v6, run1_mid.sl.v604, run1_mid.sl.v636, run1_mid.sl.v637, run1_mid.sl.v638, run1_mid.sl.v639, run1_mid.sl.v640, run1_mid.sl.v641, run1_mid.sl.v642, run1_mid.sl.v643, run1_mid.sl.v644, run1_mid.sl.v647, run1_mid.sl.v648, run1_mid.sl.v651, run1_mid.sl.v652, run1_mid.sl.v655, run1_mid.sl.v656, run1_mid.sl.v657, run1_mid.sl.v658, run1_mid.sl.v659, run1_mid.sl.v668, run1_mid.sl.v669, run1_mid.sl.v712, run1_mid.sl.v820, run1_mid.sl.v83, run1_mid.sl.v84, run1_mid.sl.v85, run1_mid.sl.v86, run1_mid.sl.v87, run1_mid.sl.v88, run1_mid.sl.v89, run1_mid.sl.v90, run1_mid.sl.v91, run1_mid.sl.v93, run1_mid.sl.v94, run1_mid.sl.v95, run1_mid.sl.v96, run1_mid.sl.v97, run1_mid.sl.v98, run1_mid.sl.v99, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay160, k1_pay161, k1_pay162, k1_pay163, k1_pay164, k1_pay165, k1_pay166, k1_pay167, k1_pay168, k1_pay169, k1_pay17, k1_pay170, k1_pay171, k1_pay172, k1_pay173, k1_pay174, k1_pay175, k1_pay176, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, cut1_1_0 i c, cut1_2_0 i c, cut1_3_0 i c, cut1_8_0 i c, cut1_9_0 i c, cut1_10_0 i c, cut1_15_0 i c, cut1_16_0 i c, cut1_17_0 i c, cut1_22_0 i c, cut1_23_0 i c, cut1_24_0 i c, cut1_1_1 i c, cut1_2_1 i c, cut1_3_1 i c, cut1_8_1 i c, cut1_9_1 i c, cut1_10_1 i c, cut1_15_1 i c, cut1_16_1 i c, cut1_17_1 i c, cut1_22_1 i c, cut1_23_1 i c, cut1_24_1 i c, sav1_4_0 i c, sav1_11_0 i c, sav1_18_0 i c, sav1_25_0 i c, sav1_4_1 i c, sav1_11_1 i c, sav1_18_1 i c, sav1_25_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st1, step1]
  all_goals rfl

set_option maxHeartbeats 8000000 in
/-- What the body's stores leave, at the last point of a direction. -/
theorem vals1_last (c : Dev nD) (i : grid1.Coords) (arg2 : Memref sig .tc .vmem S256x1024 .f32) (harg2 : arg2.IsWhole) (arg3 : Memref sig .tc .vmem S256x1024 .f32) (harg3 : arg3.IsWhole) (arg4 : Memref sig .tc .vmem S1x2x4x128x256 .bf16) (harg4 : arg4.IsWhole) (arg5 : Memref sig .tc .vmem S256x1024 .f32) (harg5 : arg5.IsWhole) (arg6 : Memref sig .tc .vmem S1x4x128x256 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x4x128x256 .f32) (harg9 : arg9.IsWhole) (arg10 : Memref sig .tc .vmem S4x128x256 .f32) (harg10 : arg10.IsWhole) (hc0 : ¬cond1_0 i) (hc1 : k1_cond2 i = 1#1)
    (x0 : Vec F S256x1024 .f32) (x1 : Vec F S256x1024 .f32) (x2 : Vec F S1x2x4x128x256 .bf16) (x3 : Vec F S256x1024 .f32) (x4 : Vec F S1x4x128x256 .f32) (xs : Vec F S4x128x256 .f32) :
    (∀ f, arg7.view.read (Elt F) (arg7.view.writes (Elt F) f (run1_last c i arg2 harg2 arg3 harg3 arg4 harg4 arg5 harg5 arg6 harg6 arg7 harg7 arg8 harg8 arg9 harg9 arg10 harg10 hc0 hc1 x0 x1 x2 x3 x4 xs).1) = outQK i x0 x1 x2 x3 xs)
      ∧ (∀ f, arg8.view.read (Elt F) (arg8.view.writes (Elt F) f (run1_last c i arg2 harg2 arg3 harg3 arg4 harg4 arg5 harg5 arg6 harg6 arg7 harg7 arg8 harg8 arg9 harg9 arg10 harg10 hc0 hc1 x0 x1 x2 x3 x4 xs).2.1) = outV i x0 x3 xs)
      ∧ (∀ f, arg9.view.read (Elt F) (arg9.view.writes (Elt F) f (run1_last c i arg2 harg2 arg3 harg3 arg4 harg4 arg5 harg5 arg6 harg6 arg7 harg7 arg8 harg8 arg9 harg9 arg10 harg10 hc0 hc1 x0 x1 x2 x3 x4 xs).2.2.1) = rebd (end1 i x0 x3 xs))
      ∧ (∀ f, arg10.view.read (Elt F) (arg10.view.writes (Elt F) f (run1_last c i arg2 harg2 arg3 harg3 arg4 harg4 arg5 harg5 arg6 harg6 arg7 harg7 arg8 harg8 arg9 harg9 arg10 harg10 hc0 hc1 x0 x1 x2 x3 x4 xs).2.2.2.1) = end1 i x0 x3 xs) := by
  refine ⟨fun f => read_of _ _ _ (fun p hp => ?_) (coverQK i _ ?_ ?_) f, fun f => read_of _ _ _ (fun p hp => ?_) (coverV i _ ?_) f, fun f => ?_, fun f => ext_hd4 _ _ ?_ ?_ ?_ ?_⟩
  simp only [run1_last, run1_last.sl.H7_10, run1_last.sl.H7_11, run1_last.sl.H8_5, run1_last.sl.H8_6, List.mem_cons, List.not_mem_nil, or_false] at hp
  rcases hp with rfl | rfl | rfl | rfl | rfl | rfl | rfl | rfl | rfl | rfl | rfl | rfl | rfl | rfl | rfl | rfl
  refine outK_piece i 1 3 _ (off1_27_1 i) (k1_off27_inb i 1) x0 x1 x2 x3 xs _ shapeCasts_S128x128_S1x128x128 ?_; rotate_left
  refine outQ_piece i 1 3 _ (off1_26_1 i) (k1_off26_inb i 1) x0 x1 x2 x3 xs _ shapeCasts_S128x128_S1x128x128 ?_; rotate_left
  refine outK_piece i 1 2 _ (off1_20_1 i) (k1_off20_inb i 1) x0 x1 x2 x3 xs _ shapeCasts_S128x128_S1x128x128 ?_; rotate_left
  refine outQ_piece i 1 2 _ (off1_19_1 i) (k1_off19_inb i 1) x0 x1 x2 x3 xs _ shapeCasts_S128x128_S1x128x128 ?_; rotate_left
  refine outK_piece i 1 1 _ (off1_13_1 i) (k1_off13_inb i 1) x0 x1 x2 x3 xs _ shapeCasts_S128x128_S1x128x128 ?_; rotate_left
  refine outQ_piece i 1 1 _ (off1_12_1 i) (k1_off12_inb i 1) x0 x1 x2 x3 xs _ shapeCasts_S128x128_S1x128x128 ?_; rotate_left
  refine outK_piece i 1 0 _ (off1_6_1 i) (k1_off6_inb i 1) x0 x1 x2 x3 xs _ shapeCasts_S128x128_S1x128x128 ?_; rotate_left
  refine outQ_piece i 1 0 _ (off1_5_1 i) (k1_off5_inb i 1) x0 x1 x2 x3 xs _ shapeCasts_S128x128_S1x128x128 ?_; rotate_left
  refine outK_piece i 0 3 _ (off1_27_0 i) (k1_off27_inb i 0) x0 x1 x2 x3 xs _ shapeCasts_S128x128_S1x128x128 ?_; rotate_left
  refine outQ_piece i 0 3 _ (off1_26_0 i) (k1_off26_inb i 0) x0 x1 x2 x3 xs _ shapeCasts_S128x128_S1x128x128 ?_; rotate_left
  refine outK_piece i 0 2 _ (off1_20_0 i) (k1_off20_inb i 0) x0 x1 x2 x3 xs _ shapeCasts_S128x128_S1x128x128 ?_; rotate_left
  refine outQ_piece i 0 2 _ (off1_19_0 i) (k1_off19_inb i 0) x0 x1 x2 x3 xs _ shapeCasts_S128x128_S1x128x128 ?_; rotate_left
  refine outK_piece i 0 1 _ (off1_13_0 i) (k1_off13_inb i 0) x0 x1 x2 x3 xs _ shapeCasts_S128x128_S1x128x128 ?_; rotate_left
  refine outQ_piece i 0 1 _ (off1_12_0 i) (k1_off12_inb i 0) x0 x1 x2 x3 xs _ shapeCasts_S128x128_S1x128x128 ?_; rotate_left
  refine outK_piece i 0 0 _ (off1_6_0 i) (k1_off6_inb i 0) x0 x1 x2 x3 xs _ shapeCasts_S128x128_S1x128x128 ?_; rotate_left
  refine outQ_piece i 0 0 _ (off1_5_0 i) (k1_off5_inb i 0) x0 x1 x2 x3 xs _ shapeCasts_S128x128_S1x128x128 ?_; rotate_left
  · intro g h
    simp only [run1_last, run1_last.sl.H7_10, run1_last.sl.H7_11, run1_last.sl.H8_5, run1_last.sl.H8_6]
    fin_cases g <;> fin_cases h
    · exact ⟨_, off1_5_0 i, k1_off5_inb i 0, _, List.mem_of_getElem? (i := 15) rfl⟩
    · exact ⟨_, off1_12_0 i, k1_off12_inb i 0, _, List.mem_of_getElem? (i := 13) rfl⟩
    · exact ⟨_, off1_19_0 i, k1_off19_inb i 0, _, List.mem_of_getElem? (i := 11) rfl⟩
    · exact ⟨_, off1_26_0 i, k1_off26_inb i 0, _, List.mem_of_getElem? (i := 9) rfl⟩
    · exact ⟨_, off1_5_1 i, k1_off5_inb i 1, _, List.mem_of_getElem? (i := 7) rfl⟩
    · exact ⟨_, off1_12_1 i, k1_off12_inb i 1, _, List.mem_of_getElem? (i := 5) rfl⟩
    · exact ⟨_, off1_19_1 i, k1_off19_inb i 1, _, List.mem_of_getElem? (i := 3) rfl⟩
    · exact ⟨_, off1_26_1 i, k1_off26_inb i 1, _, List.mem_of_getElem? (i := 1) rfl⟩
  · intro g h
    simp only [run1_last, run1_last.sl.H7_10, run1_last.sl.H7_11, run1_last.sl.H8_5, run1_last.sl.H8_6]
    fin_cases g <;> fin_cases h
    · exact ⟨_, off1_6_0 i, k1_off6_inb i 0, _, List.mem_of_getElem? (i := 14) rfl⟩
    · exact ⟨_, off1_13_0 i, k1_off13_inb i 0, _, List.mem_of_getElem? (i := 12) rfl⟩
    · exact ⟨_, off1_20_0 i, k1_off20_inb i 0, _, List.mem_of_getElem? (i := 10) rfl⟩
    · exact ⟨_, off1_27_0 i, k1_off27_inb i 0, _, List.mem_of_getElem? (i := 8) rfl⟩
    · exact ⟨_, off1_6_1 i, k1_off6_inb i 1, _, List.mem_of_getElem? (i := 6) rfl⟩
    · exact ⟨_, off1_13_1 i, k1_off13_inb i 1, _, List.mem_of_getElem? (i := 4) rfl⟩
    · exact ⟨_, off1_20_1 i, k1_off20_inb i 1, _, List.mem_of_getElem? (i := 2) rfl⟩
    · exact ⟨_, off1_27_1 i, k1_off27_inb i 1, _, List.mem_of_getElem? (i := 0) rfl⟩
  simp only [run1_last, run1_last.sl.H7_10, run1_last.sl.H7_11, run1_last.sl.H8_5, run1_last.sl.H8_6, List.mem_cons, List.not_mem_nil, or_false] at hp
  rcases hp with rfl | rfl | rfl | rfl | rfl | rfl | rfl | rfl
  refine outV_piece i 1 3 _ (off1_28_1 i) (k1_off28_inb i 1) x0 x3 xs _ shapeCasts_S128x256_S1x128x256 ?_; rotate_left
  refine outV_piece i 1 2 _ (off1_21_1 i) (k1_off21_inb i 1) x0 x3 xs _ shapeCasts_S128x256_S1x128x256 ?_; rotate_left
  refine outV_piece i 1 1 _ (off1_14_1 i) (k1_off14_inb i 1) x0 x3 xs _ shapeCasts_S128x256_S1x128x256 ?_; rotate_left
  refine outV_piece i 1 0 _ (off1_7_1 i) (k1_off7_inb i 1) x0 x3 xs _ shapeCasts_S128x256_S1x128x256 ?_; rotate_left
  refine outV_piece i 0 3 _ (off1_28_0 i) (k1_off28_inb i 0) x0 x3 xs _ shapeCasts_S128x256_S1x128x256 ?_; rotate_left
  refine outV_piece i 0 2 _ (off1_21_0 i) (k1_off21_inb i 0) x0 x3 xs _ shapeCasts_S128x256_S1x128x256 ?_; rotate_left
  refine outV_piece i 0 1 _ (off1_14_0 i) (k1_off14_inb i 0) x0 x3 xs _ shapeCasts_S128x256_S1x128x256 ?_; rotate_left
  refine outV_piece i 0 0 _ (off1_7_0 i) (k1_off7_inb i 0) x0 x3 xs _ shapeCasts_S128x256_S1x128x256 ?_; rotate_left
  · intro g h
    simp only [run1_last, run1_last.sl.H7_10, run1_last.sl.H7_11, run1_last.sl.H8_5, run1_last.sl.H8_6]
    fin_cases g <;> fin_cases h
    · exact ⟨_, off1_7_0 i, k1_off7_inb i 0, _, List.mem_of_getElem? (i := 7) rfl⟩
    · exact ⟨_, off1_14_0 i, k1_off14_inb i 0, _, List.mem_of_getElem? (i := 6) rfl⟩
    · exact ⟨_, off1_21_0 i, k1_off21_inb i 0, _, List.mem_of_getElem? (i := 5) rfl⟩
    · exact ⟨_, off1_28_0 i, k1_off28_inb i 0, _, List.mem_of_getElem? (i := 4) rfl⟩
    · exact ⟨_, off1_7_1 i, k1_off7_inb i 1, _, List.mem_of_getElem? (i := 3) rfl⟩
    · exact ⟨_, off1_14_1 i, k1_off14_inb i 1, _, List.mem_of_getElem? (i := 2) rfl⟩
    · exact ⟨_, off1_21_1 i, k1_off21_inb i 1, _, List.mem_of_getElem? (i := 1) rfl⟩
    · exact ⟨_, off1_28_1 i, k1_off28_inb i 1, _, List.mem_of_getElem? (i := 0) rfl⟩
  simp only [run1_last]
  refine (read_rebd' _ f inb_S1x4x128x256_S1x4x128x256_0_0_0_0 _ shapeCasts_S4x128x256_S1x4x128x256).trans (congrArg rebd (ext_hd4 _ _ ?_ ?_ ?_ ?_))
  iterate 4 rotate_left
  iterate 4
    simp only [run1_last]; simp -proj only [run1_last.sl.H10_4, run1_last.sl.H10_5, run1_last.sl.H10_6, run1_last.sl.H10_7, run1_last.sl.H10_8, run1_last.sl.H7_10, run1_last.sl.H7_11, run1_last.sl.H8_5, run1_last.sl.H8_6]; rw [read_head3 arg10.view f, read_head2 arg10.view f, read_head1 arg10.view f, read_head0 arg10.view f]; rotate_left
  all_goals simp -proj only [end1, run1_last.sl.H10_4, run1_last.sl.H10_5, run1_last.sl.H10_6, run1_last.sl.H10_7, run1_last.sl.H10_8, run1_last.sl.H7_10, run1_last.sl.H7_11, run1_last.sl.H8_5, run1_last.sl.H8_6, run1_last.sl.cst_13, run1_last.sl.cst_163, run1_last.sl.cst_164, run1_last.sl.cst_28, run1_last.sl.cst_29, run1_last.sl.r, run1_last.sl.r_1, run1_last.sl.r_10, run1_last.sl.r_100, run1_last.sl.r_101, run1_last.sl.r_102, run1_last.sl.r_103, run1_last.sl.r_104, run1_last.sl.r_105, run1_last.sl.r_106, run1_last.sl.r_107, run1_last.sl.r_108, run1_last.sl.r_109, run1_last.sl.r_11, run1_last.sl.r_110, run1_last.sl.r_111, run1_last.sl.r_112, run1_last.sl.r_113, run1_last.sl.r_114, run1_last.sl.r_115, run1_last.sl.r_116, run1_last.sl.r_117, run1_last.sl.r_12, run1_last.sl.r_13, run1_last.sl.r_14, run1_last.sl.r_15, run1_last.sl.r_16, run1_last.sl.r_17, run1_last.sl.r_18, run1_last.sl.r_19, run1_last.sl.r_2, run1_last.sl.r_20, run1_last.sl.r_21, run1_last.sl.r_22, run1_last.sl.r_23, run1_last.sl.r_24, run1_last.sl.r_25, run1_last.sl.r_26, run1_last.sl.r_27, run1_last.sl.r_28, run1_last.sl.r_29, run1_last.sl.r_3, run1_last.sl.r_30, run1_last.sl.r_31, run1_last.sl.r_32, run1_last.sl.r_33, run1_last.sl.r_34, run1_last.sl.r_35, run1_last.sl.r_36, run1_last.sl.r_37, run1_last.sl.r_38, run1_last.sl.r_39, run1_last.sl.r_4, run1_last.sl.r_40, run1_last.sl.r_41, run1_last.sl.r_42, run1_last.sl.r_43, run1_last.sl.r_44, run1_last.sl.r_45, run1_last.sl.r_46, run1_last.sl.r_47, run1_last.sl.r_48, run1_last.sl.r_49, run1_last.sl.r_5, run1_last.sl.r_50, run1_last.sl.r_51, run1_last.sl.r_52, run1_last.sl.r_53, run1_last.sl.r_54, run1_last.sl.r_55, run1_last.sl.r_56, run1_last.sl.r_57, run1_last.sl.r_58, run1_last.sl.r_59, run1_last.sl.r_6, run1_last.sl.r_60, run1_last.sl.r_61, run1_last.sl.r_62, run1_last.sl.r_63, run1_last.sl.r_64, run1_last.sl.r_65, run1_last.sl.r_66, run1_last.sl.r_67, run1_last.sl.r_68, run1_last.sl.r_69, run1_last.sl.r_7, run1_last.sl.r_70, run1_last.sl.r_71, run1_last.sl.r_72, run1_last.sl.r_73, run1_last.sl.r_74, run1_last.sl.r_75, run1_last.sl.r_76, run1_last.sl.r_77, run1_last.sl.r_78, run1_last.sl.r_79, run1_last.sl.r_8, run1_last.sl.r_80, run1_last.sl.r_81, run1_last.sl.r_82, run1_last.sl.r_83, run1_last.sl.r_84, run1_last.sl.r_85, run1_last.sl.r_86, run1_last.sl.r_87, run1_last.sl.r_88, run1_last.sl.r_89, run1_last.sl.r_9, run1_last.sl.r_90, run1_last.sl.r_91, run1_last.sl.r_92, run1_last.sl.r_93, run1_last.sl.r_94, run1_last.sl.r_95, run1_last.sl.r_96, run1_last.sl.r_97, run1_last.sl.r_98, run1_last.sl.r_99, run1_last.sl.v0, run1_last.sl.v1, run1_last.sl.v100, run1_last.sl.v101, run1_last.sl.v103, run1_last.sl.v104, run1_last.sl.v106, run1_last.sl.v107, run1_last.sl.v108, run1_last.sl.v111, run1_last.sl.v112, run1_last.sl.v114, run1_last.sl.v115, run1_last.sl.v168, run1_last.sl.v2, run1_last.sl.v276, run1_last.sl.v295, run1_last.sl.v296, run1_last.sl.v297, run1_last.sl.v298, run1_last.sl.v299, run1_last.sl.v3, run1_last.sl.v300, run1_last.sl.v302, run1_last.sl.v303, run1_last.sl.v304, run1_last.sl.v305, run1_last.sl.v306, run1_last.sl.v307, run1_last.sl.v309, run1_last.sl.v310, run1_last.sl.v311, run1_last.sl.v312, run1_last.sl.v313, run1_last.sl.v314, run1_last.sl.v315, run1_last.sl.v316, run1_last.sl.v318, run1_last.sl.v319, run1_last.sl.v320, run1_last.sl.v322, run1_last.sl.v323, run1_last.sl.v324, run1_last.sl.v326, run1_last.sl.v327, run1_last.sl.v328, run1_last.sl.v329, run1_last.sl.v330, run1_last.sl.v331, run1_last.sl.v384, run1_last.sl.v4, run1_last.sl.v426, run1_last.sl.v427, run1_last.sl.v428, run1_last.sl.v430, run1_last.sl.v431, run1_last.sl.v432, run1_last.sl.v434, run1_last.sl.v435, run1_last.sl.v436, run1_last.sl.v437, run1_last.sl.v438, run1_last.sl.v439, run1_last.sl.v441, run1_last.sl.v442, run1_last.sl.v444, run1_last.sl.v450, run1_last.sl.v452, run1_last.sl.v453, run1_last.sl.v454, run1_last.sl.v455, run1_last.sl.v456, run1_last.sl.v457, run1_last.sl.v458, run1_last.sl.v459, run1_last.sl.v460, run1_last.sl.v496, run1_last.sl.v5, run1_last.sl.v6, run1_last.sl.v604, run1_last.sl.v636, run1_last.sl.v637, run1_last.sl.v638, run1_last.sl.v639, run1_last.sl.v640, run1_last.sl.v641, run1_last.sl.v642, run1_last.sl.v643, run1_last.sl.v644, run1_last.sl.v647, run1_last.sl.v648, run1_last.sl.v651, run1_last.sl.v652, run1_last.sl.v655, run1_last.sl.v656, run1_last.sl.v657, run1_last.sl.v658, run1_last.sl.v659, run1_last.sl.v668, run1_last.sl.v669, run1_last.sl.v712, run1_last.sl.v820, run1_last.sl.v83, run1_last.sl.v84, run1_last.sl.v85, run1_last.sl.v86, run1_last.sl.v87, run1_last.sl.v879, run1_last.sl.v88, run1_last.sl.v89, run1_last.sl.v90, run1_last.sl.v91, run1_last.sl.v93, run1_last.sl.v94, run1_last.sl.v95, run1_last.sl.v96, run1_last.sl.v97, run1_last.sl.v98, run1_last.sl.v99, k1_pay1, k1_pay10, k1_pay100, k1_pay101, k1_pay102, k1_pay103, k1_pay104, k1_pay105, k1_pay106, k1_pay107, k1_pay108, k1_pay109, k1_pay11, k1_pay110, k1_pay111, k1_pay112, k1_pay113, k1_pay114, k1_pay115, k1_pay116, k1_pay117, k1_pay118, k1_pay119, k1_pay12, k1_pay120, k1_pay121, k1_pay122, k1_pay123, k1_pay124, k1_pay125, k1_pay126, k1_pay127, k1_pay128, k1_pay129, k1_pay13, k1_pay130, k1_pay131, k1_pay132, k1_pay133, k1_pay134, k1_pay135, k1_pay136, k1_pay137, k1_pay138, k1_pay139, k1_pay14, k1_pay140, k1_pay141, k1_pay142, k1_pay143, k1_pay144, k1_pay145, k1_pay146, k1_pay147, k1_pay148, k1_pay149, k1_pay15, k1_pay150, k1_pay151, k1_pay152, k1_pay153, k1_pay154, k1_pay155, k1_pay156, k1_pay157, k1_pay158, k1_pay159, k1_pay16, k1_pay160, k1_pay161, k1_pay162, k1_pay163, k1_pay164, k1_pay165, k1_pay166, k1_pay167, k1_pay168, k1_pay169, k1_pay17, k1_pay170, k1_pay171, k1_pay172, k1_pay173, k1_pay174, k1_pay175, k1_pay176, k1_pay18, k1_pay19, k1_pay2, k1_pay20, k1_pay21, k1_pay22, k1_pay23, k1_pay24, k1_pay25, k1_pay26, k1_pay27, k1_pay28, k1_pay29, k1_pay3, k1_pay30, k1_pay31, k1_pay32, k1_pay33, k1_pay34, k1_pay35, k1_pay36, k1_pay37, k1_pay38, k1_pay39, k1_pay4, k1_pay40, k1_pay41, k1_pay42, k1_pay43, k1_pay44, k1_pay45, k1_pay46, k1_pay47, k1_pay48, k1_pay49, k1_pay5, k1_pay50, k1_pay51, k1_pay52, k1_pay53, k1_pay54, k1_pay55, k1_pay56, k1_pay57, k1_pay58, k1_pay59, k1_pay6, k1_pay60, k1_pay61, k1_pay62, k1_pay63, k1_pay64, k1_pay65, k1_pay66, k1_pay67, k1_pay68, k1_pay69, k1_pay7, k1_pay70, k1_pay71, k1_pay72, k1_pay73, k1_pay74, k1_pay75, k1_pay76, k1_pay77, k1_pay78, k1_pay79, k1_pay8, k1_pay80, k1_pay81, k1_pay82, k1_pay83, k1_pay84, k1_pay85, k1_pay86, k1_pay87, k1_pay88, k1_pay89, k1_pay9, k1_pay90, k1_pay91, k1_pay92, k1_pay93, k1_pay94, k1_pay95, k1_pay96, k1_pay97, k1_pay98, k1_pay99, cut1_1_0 i c, cut1_2_0 i c, cut1_3_0 i c, cut1_8_0 i c, cut1_9_0 i c, cut1_10_0 i c, cut1_15_0 i c, cut1_16_0 i c, cut1_17_0 i c, cut1_22_0 i c, cut1_23_0 i c, cut1_24_0 i c, cut1_1_1 i c, cut1_2_1 i c, cut1_3_1 i c, cut1_8_1 i c, cut1_9_1 i c, cut1_10_1 i c, cut1_15_1 i c, cut1_16_1 i c, cut1_17_1 i c, cut1_22_1 i c, cut1_23_1 i c, cut1_24_1 i c, sav1_4_0 i c, sav1_11_0 i c, sav1_18_0 i c, sav1_25_0 i c, sav1_4_1 i c, sav1_11_1 i c, sav1_18_1 i c, sav1_25_1 i c, canon_head0, canon_head1, canon_head2, canon_head3, ld_head0, ld_head1, ld_head2, ld_head3, ld_held0 c, ld_held1 c, ld_held2 c, ld_held3 c, hd_upd01, hd_upd02, hd_upd03, hd_upd10, hd_upd12, hd_upd13, hd_upd20, hd_upd21, hd_upd23, hd_upd30, hd_upd31, hd_upd32, canon_head3L, sc_same2, ld_all2, ld_all', ld_held_all' c, canon_all', ld_unb' c, hd_upd, sc_in, sc_same, hd_allh, st1, step1]
  all_goals rfl

end Cert.KernelIdeal.Ret

end
-- ==== Proof.Frame1.lean ====
/- The gradient call as a pipeline: what every window and the carried state hold at each grid point, and the proof
   that the body takes one point's contents to the next one's. -/
module

public import proofs.«01_k».proof.Proof.Vals1

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Idealize.ShloMosaic.Pipeline (Dat Seg HostSeg RegionSeg BodyObligation)

variable (W : Dev nD → Valuation τ sig (Elt F))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The transfers of window 1 move its whole block at every point: the array's columns are no multiple of the block's,
    but the block that the call asks for lies inside. -/
theorem full1_1 : ∀ (t : Fin cfg1.N) (a : Fin 2), (cfg1.win 1).xsize (grid1.coords t) a = S256x1024.size a := by decide +kernel

/-- Window 1's block at point `t`, on the whole buffer. -/
def pblk1 (c : Dev nD) (t : Fin cfg1.N) : Vec F S256x1024 .f32 :=
  (cfg1.win 1).fill (grid1.coords t) (fun _ => Scalar.ofBits .f32 0x00000000#32) (iblk1 W c 1 t)

/-- Filling window 1's buffer forgets what it held. -/
theorem fill1_1 (t : Fin cfg1.N) (d d' : S256x1024.Idx → Elt F .f32) (g) :
    (cfg1.win 1).fill (grid1.coords t) d g = (cfg1.win 1).fill (grid1.coords t) d' g := by
  funext j
  have hj : j = (cfg1.win 1).xinj (grid1.coords t) (fun a => ⟨(j a).val, lt_of_lt_of_eq (j a).isLt (full1_1 t a).symm⟩) := rfl
  rw [hj, (cfg1.win 1).fill_xinj, (cfg1.win 1).fill_xinj]

/-- The block by its entries: entry `j` of the buffer is entry `j` of the block. -/
theorem pblk1_apply (c : Dev nD) (t : Fin cfg1.N) (j : S256x1024.Idx) :
    pblk1 W c t j = iblk1 W c 1 t (fun a => ⟨(j a).val, lt_of_lt_of_eq (j a).isLt (full1_1 t a).symm⟩) :=
  (cfg1.win 1).fill_xinj (grid1.coords t) _ _ (fun a => ⟨(j a).val, lt_of_lt_of_eq (j a).isLt (full1_1 t a).symm⟩)

/-! ## The carried state -/

/-- The state carried out of point `n`: it starts afresh from the window that brings a state in at the first point of
    each direction. -/
def car1 (c : Dev nD) : (n : ℕ) → n < cfg1.N → Vec F S4x128x256 .f32
  | 0, h => end1 (grid1.coords ⟨0, h⟩) (iblk1 W c 0 ⟨0, h⟩) (iblk1 W c 3 ⟨0, h⟩) (unb (iblk1 W c 4 ⟨0, h⟩))
  | n + 1, h => end1 (grid1.coords ⟨n + 1, h⟩) (iblk1 W c 0 ⟨n + 1, h⟩) (iblk1 W c 3 ⟨n + 1, h⟩)
      (if (n + 1) % 64 = 0 then unb (iblk1 W c 4 ⟨n + 1, h⟩) else car1 c n (Nat.lt_of_succ_lt h))

/-- The state that point `t` starts from. -/
def ent1 (c : Dev nD) (t : Fin cfg1.N) : Vec F S4x128x256 .f32 :=
  if t.val % 64 = 0 then unb (iblk1 W c 4 t) else car1 W c (t.val - 1) (Nat.lt_of_le_of_lt (Nat.sub_le _ _) t.isLt)

theorem car1_eq (c : Dev nD) (t : Fin cfg1.N) :
    car1 W c t.val t.isLt = end1 (grid1.coords t) (iblk1 W c 0 t) (iblk1 W c 3 t) (ent1 W c t) := by
  obtain ⟨n, h⟩ := t
  cases n with
  | zero => rfl
  | succ n => rfl

theorem ent1_first (c : Dev nD) (t : Fin cfg1.N) (h : t.val % 64 = 0) : ent1 W c t = unb (iblk1 W c 4 t) := if_pos h
theorem ent1_next (c : Dev nD) (t : Fin cfg1.N) (h : ¬t.val % 64 = 0) :
    ent1 W c t = car1 W c (t.val - 1) (Nat.lt_of_le_of_lt (Nat.sub_le _ _) t.isLt) := if_neg h

/-- What the region keeps beside its windows: the buffers of the other call. -/
abbrev rest1 (c : Dev nD) : sProp 𝕄 :=
  Pipeline.scopedRestBut (Ix := Unit) (Name := ℕ) (U := UR sig nD τ) (Lvl := ℕ) (Val := Elt F) spec1 c [cc1_scratch0]

/-- The carried state's buffer. -/
abbrev scM1 : Memref sig .tc .vmem S4x128x256 .f32 := Memref.whole cc1_scratch0

/-- The region's invariant before position `n`: the carried state's buffer at what the point before left in it. -/
def Phi1 (c : Dev nD) : (n : ℕ) → n ≤ cfg1.N → sProp 𝕄
  | 0, _ => iprop((∃ d, owns (c : Thread nD τ) scM1 fullShare d) ∗ rest1 c ∗ (∃ r, prngReg c r))
  | n + 1, hn => iprop(owns (c : Thread nD τ) scM1 fullShare (car1 W c n hn) ∗ rest1 c ∗ (∃ r, prngReg c r))

theorem Phi1_pos (c : Dev nD) (n : ℕ) (h : n ≤ cfg1.N) (hz : n ≠ 0) :
    Phi1 W c n h = iprop(owns (c : Thread nD τ) scM1 fullShare (car1 W c (n - 1) (by omega)) ∗ rest1 c ∗ (∃ r, prngReg c r)) := by
  cases n with
  | zero => exact absurd rfl hz
  | succ n => rfl

/-- Whatever the position, the carried state's buffer is there. -/
theorem Phi1_any (c : Dev nD) (n : ℕ) (h : n ≤ cfg1.N) :
    Phi1 W c n h ⊢ iprop((∃ d, owns (c : Thread nD τ) scM1 fullShare d) ∗ rest1 c ∗ (∃ r, prngReg c r)) := by
  cases n with
  | zero => exact .rfl
  | succ n =>
    show iprop(owns (c : Thread nD τ) scM1 fullShare (car1 W c n h) ∗ rest1 c ∗ (∃ r, prngReg c r)) ⊢ _
    iintro ⟨H, Hr⟩
    isplitl [H]
    · iexists _; iexact H
    iexact Hr

/-! ## The pipeline's proof data -/

/-- The contents of every window after the body at point `t`, and the invariant. -/
def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => pblk1 W c t
    | ⟨2, _⟩ => iblk1 W c 2 t
    | ⟨3, _⟩ => iblk1 W c 3 t
    | ⟨4, _⟩ => iblk1 W c 4 t
    | ⟨5, _⟩ => outQK (grid1.coords t) (iblk1 W c 0 t) (pblk1 W c t) (iblk1 W c 2 t) (iblk1 W c 3 t) (ent1 W c t)
    | ⟨6, _⟩ => outV (grid1.coords t) (iblk1 W c 0 t) (iblk1 W c 3 t) (ent1 W c t)
    | ⟨7, _⟩ => rebd (car1 W c t.val t.isLt)
  Φ t := Phi1 W c t.val (Nat.le_of_lt_succ t.isLt)
  q _ := fullShare
  owed _ := 0

theorem A1_eq (c : Dev nD) (w : Fin cfg1.W) : (dat1 W c).A w = W c (Pipeline.arrRef spec1 w) := by
  dsimp only [dat1]
theorem Phi1_castSucc (c : Dev nD) (t : Fin cfg1.N) :
    (dat1 W c).Φ t.castSucc = Phi1 W c t.val (Nat.le_of_lt t.isLt) := by
  dsimp only [dat1]; exact Pipeline.Dat.Φ_castSucc (Phi1 W c) t
theorem after1_0 (c : Dev nD) (t : Fin cfg1.N) : (dat1 W c).after 0 t = iblk1 W c 0 t := by dsimp only [dat1]
theorem after1_1 (c : Dev nD) (t : Fin cfg1.N) : (dat1 W c).after 1 t = pblk1 W c t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = outQK (grid1.coords t) (iblk1 W c 0 t) (pblk1 W c t) (iblk1 W c 2 t) (iblk1 W c 3 t) (ent1 W c t) := by dsimp only [dat1]
theorem after1_6 (c : Dev nD) (t : Fin cfg1.N) : (dat1 W c).after 6 t = outV (grid1.coords t) (iblk1 W c 0 t) (iblk1 W c 3 t) (ent1 W c t) := by dsimp only [dat1]
theorem after1_7 (c : Dev nD) (t : Fin cfg1.N) : (dat1 W c).after 7 t = rebd (car1 W c t.val t.isLt) := by dsimp only [dat1]

/-! Each input's buffer holds its block at every point, fetched there or not. -/

theorem before1_0 (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = pblk1 W c t :=
  ((dat1 W c).before_in_eq_fetched 1 rfl (fun _ => rfl)
    (fun t t' h => by funext a; exact congrArg (fun f : Fin 2 → ℕ => Pipeline.Clip.of (f a) (S256x1024.size a) (S16384x8320.size a)) h)
    (fun t => by rw [after1_1]; unfold pblk1 Dat.blockOf; rw [A1_eq]; exact (cfg1.win 1).cut_fill _ _ _) t d).trans
    (by unfold Dat.fetched Dat.blockOf pblk1 iblk1; rw [A1_eq]; exact fill1_1 t _ _ _)
theorem before1_2 (c : Dev nD) (t : Fin cfg1.N) (d) : (dat1 W c).before 2 t d = iblk1 W c 2 t :=
  ((dat1 W c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W c 3 t :=
  ((dat1 W c).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 W c).before 4 t d = iblk1 W c 4 t :=
  ((dat1 W c).before_in_eq_fetched 4 rfl (fun _ => rfl) (fun _ _ _ => rfl)
    (fun t => by rw [after1_4]; unfold Dat.blockOf iblk1; rw [A1_eq]; try rfl) t d).trans
    (by unfold Dat.fetched Dat.blockOf iblk1; rw [A1_eq]; try rfl)

/-! ## Where the branches are taken -/

theorem hcond1_0 (t : Fin cfg1.N) : cond1_0 (grid1.coords t) ↔ t.val % 64 = 0 := by
  have ht : t.val < 128 := t.isLt
  have e1 : (grid1.coords t 1).val = t.val / 1 % 64 := Pipeline.Grid.coords_val t 1 (by decide) rfl
  simp only [cond1_0, e1]
  word_cmp
theorem hcond1_1 (t : Fin cfg1.N) : k1_cond2 (grid1.coords t) = 1#1 ↔ t.val % 64 = 63 := by
  have ht : t.val < 128 := t.isLt
  have e1 : (grid1.coords t 1).val = t.val / 1 % 64 := Pipeline.Grid.coords_val t 1 (by decide) rfl
  simp only [k1_cond2, e1]
  word_cmp
theorem idleAt1 : ∀ t : Fin cfg1.N, ¬k1_cond2 (grid1.coords t) = 1#1 → cfg1.idle 7 (grid1.coords t) = true := by decide +kernel
theorem liveAt1 : ∀ t : Fin cfg1.N, k1_cond2 (grid1.coords t) = 1#1 → cfg1.idle 7 (grid1.coords t) = false := by decide +kernel
theorem noFlush1 (t : Fin cfg1.N) (h : ¬t.val % 64 = 63) : (cfg1.win 7).flush t = false := by
  rw [← Bool.not_eq_true, flush1_7]; exact h

/-! ## The body obligation -/

/-- Each window's current buffer at point `t`. -/
abbrev ms1_0 (t : Fin cfg1.N) : Memref sig .tc .vmem S256x1024 .f32 := win1_0.stage (cfg1.slots t 0)
abbrev ms1_1 (t : Fin cfg1.N) : Memref sig .tc .vmem S256x1024 .f32 := win1_1.stage (cfg1.slots t 1)
abbrev ms1_2 (t : Fin cfg1.N) : Memref sig .tc .vmem S1x2x4x128x256 .bf16 := win1_2.stage (cfg1.slots t 2)
abbrev ms1_3 (t : Fin cfg1.N) : Memref sig .tc .vmem S256x1024 .f32 := win1_3.stage (cfg1.slots t 3)
abbrev ms1_4 (t : Fin cfg1.N) : Memref sig .tc .vmem S1x4x128x256 .f32 := win1_4.stage (cfg1.slots t 4)
abbrev ms1_5 (t : Fin cfg1.N) : Memref sig .tc .vmem S1x256x1024 .f32 := win1_5.stage (cfg1.slots t 5)
abbrev ms1_6 (t : Fin cfg1.N) : Memref sig .tc .vmem S1x256x1024 .f32 := win1_6.stage (cfg1.slots t 6)
abbrev ms1_7 (t : Fin cfg1.N) : Memref sig .tc .vmem S1x4x128x256 .f32 := win1_7.stage (cfg1.slots t 7)

/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d))
    ∗ (∃ d, owns (c : Thread nD τ) (ms1_5 t) fullShare ((dat1 W c).before 5 t d))
    ∗ (∃ d, owns (c : Thread nD τ) (ms1_6 t) fullShare ((dat1 W c).before 6 t d))
    ∗ (∃ d, owns (c : Thread nD τ) (ms1_7 t) fullShare ((dat1 W c).before 7 t d)))

/-- and what it returns. -/
def bodyPost1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t
    ∗ (dat1 W c).leavesExact 6 t
    ∗ (dat1 W c).leavesExact 7 t)

set_option maxHeartbeats 9600000 in
/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4]
  rw [show (dat1 W c).owesAt () t.succ = (dat1 W c).owesAt () t.castSucc from rfl]
  rw [show (dat1 W c).Φ t.succ = iprop(owns (c : Thread nD τ) scM1 fullShare (car1 W c t.val t.isLt) ∗ rest1 c ∗ (∃ r, prngReg c r)) from rfl]
  rw [show (dat1 W c).leavesExact 0 t = owns (c : Thread nD τ) (ms1_0 t) fullShare ((dat1 W c).after 0 t) from by
    unfold Dat.leavesExact; rw [show cfg1.idle 0 (grid1.coords t) = false from rfl], after1_0]
  rw [show (dat1 W c).leavesExact 1 t = owns (c : Thread nD τ) (ms1_1 t) fullShare ((dat1 W c).after 1 t) from by
    unfold Dat.leavesExact; rw [show cfg1.idle 1 (grid1.coords t) = false from rfl], after1_1]
  rw [show (dat1 W c).leavesExact 2 t = owns (c : Thread nD τ) (ms1_2 t) fullShare ((dat1 W c).after 2 t) from by
    unfold Dat.leavesExact; rw [show cfg1.idle 2 (grid1.coords t) = false from rfl], after1_2]
  rw [show (dat1 W c).leavesExact 3 t = owns (c : Thread nD τ) (ms1_3 t) fullShare ((dat1 W c).after 3 t) from by
    unfold Dat.leavesExact; rw [show cfg1.idle 3 (grid1.coords t) = false from rfl], after1_3]
  rw [show (dat1 W c).leavesExact 4 t = owns (c : Thread nD τ) (ms1_4 t) fullShare ((dat1 W c).after 4 t) from by
    unfold Dat.leavesExact; rw [show cfg1.idle 4 (grid1.coords t) = false from rfl], after1_4]
  rw [show (dat1 W c).leavesExact 5 t = owns (c : Thread nD τ) (ms1_5 t) fullShare ((dat1 W c).after 5 t) from by
    unfold Dat.leavesExact; rw [show cfg1.idle 5 (grid1.coords t) = false from rfl], after1_5]
  rw [show (dat1 W c).leavesExact 6 t = owns (c : Thread nD τ) (ms1_6 t) fullShare ((dat1 W c).after 6 t) from by
    unfold Dat.leavesExact; rw [show cfg1.idle 6 (grid1.coords t) = false from rfl], after1_6]
  have hN : t.val < 128 := t.isLt
  by_cases h0 : t.val % 64 = 0
  · have h1 : ¬t.val % 64 = 63 := by omega
    rw [Dat.leavesExact_idle (dat1 W c) 7 t (idleAt1 t (fun h => h1 ((hcond1_1 t).mp h))) (noFlush1 t h1)]
    rw [Phi1_castSucc W c t, car1_eq, ent1_first W c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi1_any W c t.val (Nat.le_of_lt t.isLt)) $$ HΦ
    icases HΦ' with ⟨HS, Hr⟩
    iapply ((run1_first c (grid1.coords t) _ _ _ _ _ _ _ _ _ _ _ _ _ _ _ _ _ _ ((hcond1_0 t).mpr h0) (fun h => h1 ((hcond1_1 t).mp h)) (iblk1 W c 0 t) (pblk1 W c t) (iblk1 W c 2 t) (iblk1 W c 3 t) (iblk1 W c 4 t)).2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS]; · iexact HS
    iintro ⟨H0, H1, H2, H3, H4, ⟨%e5, H5⟩, ⟨%e6, H6⟩, H7, ⟨%es, HS⟩⟩
    isplitl [HS Hr]
    · isplitl [HS]
      · unfold owns; iexists _; isplitr
        swap; · iexact HS
        ipureintro; exact (vals1_first c (grid1.coords t) _ _ _ _ _ _ _ _ _ _ _ _ _ _ _ _ _ _ ((hcond1_0 t).mpr h0) (fun h => h1 ((hcond1_1 t).mp h)) (iblk1 W c 0 t) (pblk1 W c t) (iblk1 W c 2 t) (iblk1 W c 3 t) (iblk1 W c 4 t)).2.2 _
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (vals1_first c (grid1.coords t) _ _ _ _ _ _ _ _ _ _ _ _ _ _ _ _ _ _ ((hcond1_0 t).mpr h0) (fun h => h1 ((hcond1_1 t).mp h)) (iblk1 W c 0 t) (pblk1 W c t) (iblk1 W c 2 t) (iblk1 W c 3 t) (iblk1 W c 4 t)).1 _
    isplitl [H6]
    · unfold owns; iexists _; isplitr
      swap; · iexact H6
      ipureintro; exact (vals1_first c (grid1.coords t) _ _ _ _ _ _ _ _ _ _ _ _ _ _ _ _ _ _ ((hcond1_0 t).mpr h0) (fun h => h1 ((hcond1_1 t).mp h)) (iblk1 W c 0 t) (pblk1 W c t) (iblk1 W c 2 t) (iblk1 W c 3 t) (iblk1 W c 4 t)).2.1 _
    iexists _; iexact H7
  · by_cases h1 : t.val % 64 = 63
    · rw [show (dat1 W c).leavesExact 7 t = owns (c : Thread nD τ) (ms1_7 t) fullShare ((dat1 W c).after 7 t) from by
        unfold Dat.leavesExact; rw [liveAt1 t ((hcond1_1 t).mpr h1)], after1_7]
      rw [Phi1_castSucc W c t, Phi1_pos W c _ _ (fun h => h0 (by rw [h])), ← ent1_next W c t h0, car1_eq]
      iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run1_last c (grid1.coords t) _ _ _ _ _ _ _ _ _ _ _ _ _ _ _ _ _ _ (fun h => h0 ((hcond1_0 t).mp h)) ((hcond1_1 t).mpr h1) (iblk1 W c 0 t) (pblk1 W c t) (iblk1 W c 2 t) (iblk1 W c 3 t) (iblk1 W c 4 t) (ent1 W c t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      iintro ⟨H0, H1, H2, H3, H4, ⟨%e5, H5⟩, ⟨%e6, H6⟩, ⟨%e7, H7⟩, ⟨%es, HS⟩⟩
      isplitl [HS Hr]
      · isplitl [HS]
        · unfold owns; iexists _; isplitr
          swap; · iexact HS
          ipureintro; exact (vals1_last c (grid1.coords t) _ _ _ _ _ _ _ _ _ _ _ _ _ _ _ _ _ _ (fun h => h0 ((hcond1_0 t).mp h)) ((hcond1_1 t).mpr h1) (iblk1 W c 0 t) (pblk1 W c t) (iblk1 W c 2 t) (iblk1 W c 3 t) (iblk1 W c 4 t) (ent1 W c t)).2.2.2 _
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (vals1_last c (grid1.coords t) _ _ _ _ _ _ _ _ _ _ _ _ _ _ _ _ _ _ (fun h => h0 ((hcond1_0 t).mp h)) ((hcond1_1 t).mpr h1) (iblk1 W c 0 t) (pblk1 W c t) (iblk1 W c 2 t) (iblk1 W c 3 t) (iblk1 W c 4 t) (ent1 W c t)).1 _
      isplitl [H6]
      · unfold owns; iexists _; isplitr
        swap; · iexact H6
        ipureintro; exact (vals1_last c (grid1.coords t) _ _ _ _ _ _ _ _ _ _ _ _ _ _ _ _ _ _ (fun h => h0 ((hcond1_0 t).mp h)) ((hcond1_1 t).mpr h1) (iblk1 W c 0 t) (pblk1 W c t) (iblk1 W c 2 t) (iblk1 W c 3 t) (iblk1 W c 4 t) (ent1 W c t)).2.1 _
      unfold owns; iexists _; isplitr
      swap; · iexact H7
      ipureintro; exact (vals1_last c (grid1.coords t) _ _ _ _ _ _ _ _ _ _ _ _ _ _ _ _ _ _ (fun h => h0 ((hcond1_0 t).mp h)) ((hcond1_1 t).mpr h1) (iblk1 W c 0 t) (pblk1 W c t) (iblk1 W c 2 t) (iblk1 W c 3 t) (iblk1 W c 4 t) (ent1 W c t)).2.2.1 _
    · rw [Dat.leavesExact_idle (dat1 W c) 7 t (idleAt1 t (fun h => h1 ((hcond1_1 t).mp h))) (noFlush1 t h1)]
      rw [Phi1_castSucc W c t, Phi1_pos W c _ _ (fun h => h0 (by rw [h])), ← ent1_next W c t h0, car1_eq]
      iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run1_mid c (grid1.coords t) _ _ _ _ _ _ _ _ _ _ _ _ _ _ _ _ _ _ (fun h => h0 ((hcond1_0 t).mp h)) (fun h => h1 ((hcond1_1 t).mp h)) (iblk1 W c 0 t) (pblk1 W c t) (iblk1 W c 2 t) (iblk1 W c 3 t) (iblk1 W c 4 t) (ent1 W c t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS]; · iexact HS
      iintro ⟨H0, H1, H2, H3, H4, ⟨%e5, H5⟩, ⟨%e6, H6⟩, H7, ⟨%es, HS⟩⟩
      isplitl [HS Hr]
      · isplitl [HS]
        · unfold owns; iexists _; isplitr
          swap; · iexact HS
          ipureintro; exact (vals1_mid c (grid1.coords t) _ _ _ _ _ _ _ _ _ _ _ _ _ _ _ _ _ _ (fun h => h0 ((hcond1_0 t).mp h)) (fun h => h1 ((hcond1_1 t).mp h)) (iblk1 W c 0 t) (pblk1 W c t) (iblk1 W c 2 t) (iblk1 W c 3 t) (iblk1 W c 4 t) (ent1 W c t)).2.2 _
        iexact Hr
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (vals1_mid c (grid1.coords t) _ _ _ _ _ _ _ _ _ _ _ _ _ _ _ _ _ _ (fun h => h0 ((hcond1_0 t).mp h)) (fun h => h1 ((hcond1_1 t).mp h)) (iblk1 W c 0 t) (pblk1 W c t) (iblk1 W c 2 t) (iblk1 W c 3 t) (iblk1 W c 4 t) (ent1 W c t)).1 _
      isplitl [H6]
      · unfold owns; iexists _; isplitr
        swap; · iexact H6
        ipureintro; exact (vals1_mid c (grid1.coords t) _ _ _ _ _ _ _ _ _ _ _ _ _ _ _ _ _ _ (fun h => h0 ((hcond1_0 t).mp h)) (fun h => h1 ((hcond1_1 t).mp h)) (iblk1 W c 0 t) (pblk1 W c t) (iblk1 W c 2 t) (iblk1 W c 3 t) (iblk1 W c 4 t) (ent1 W c t)).2.1 _
      iexists _; iexact H7

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 W c) (defs₀ (F := F)) Variants.none () Set.univ := fun t => by
  rw [bigSep_W1, bigSep_W1, defs₀_row1]
  exact triple_restated (sound_body1 W c t) rfl .rfl fun _ => .rfl

/-- The scoped buffers that no window uses: the carried state's and the other call's. -/
theorem scoped1 (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 c) := by
  rw [Pipeline.scopedRest_split_of_list spec1 c [cc1_scratch0] (by decide) (by decide)]
  simp only [scM1, owns_whole]
  rfl

/-- What the launch hands the region gives the invariant before the first point, -/
theorem hin1 (c : Dev nD) :
    iprop(Pipeline.scopedRest (Ix := Unit) (Name := ℕ) (U := UR sig nD τ) (Lvl := ℕ) (Val := Elt F) spec1 c ∗ (∃ r, prngReg c r)) ⊢ (dat1 W c).Φ 0 := by
  rw [show (dat1 W c).Φ 0 = iprop((∃ d, owns (c : Thread nD τ) scM1 fullShare d) ∗ rest1 c ∗ (∃ r, prngReg c r)) from rfl, scoped1]
  iintro ⟨⟨HS, Hr⟩, Hg⟩
  isplitl [HS]; · iexact HS
  isplitl [Hr]; · iexact Hr
  iexact Hg

/-- and the invariant after the last point gives it back. -/
theorem hout1 (c : Dev nD) :
    (dat1 W c).Φ (Fin.last cfg1.N) ⊢ iprop(Pipeline.scopedRest (Ix := Unit) (Name := ℕ) (U := UR sig nD τ) (Lvl := ℕ) (Val := Elt F) spec1 c ∗ (∃ r, prngReg c r)) := by
  rw [show (dat1 W c).Φ (Fin.last cfg1.N) = Phi1 W c cfg1.N (Nat.le_refl _) from rfl, scoped1]
  iintro HΦ
  ihave H := (Phi1_any W c cfg1.N (Nat.le_refl _)) $$ HΦ
  icases H with ⟨HS, Hr, Hg⟩
  isplitl [HS Hr]
  · isplitl [HS]; · iexact HS
    iexact Hr
  iexact Hg

end Cert.KernelIdeal.Ret

end
-- ==== Proof.Whole.lean ====
/- The two calls one after the other: the contents of every array after each of them, the run of the whole program,
   and the frame it gives (arguments unchanged, counters at zero). -/
module

public import proofs.«01_k».proof.Proof.Frame0
public import proofs.«01_k».proof.Proof.Frame1
public import proofs.«01_k».proof.Proof.Gen.KernelIdeal.Regions
public import Idealize.ShloMosaic.Lib.Pipeline.RegionArraysS

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

open Idealize.ShloMosaic.Pipeline (Dat Seg HostSeg RegionSeg BodyObligation)

variable (m : (ℓ : Loc nD τ sig) → Buf (Elt F) ℓ)

/-- What every array holds at the start, after the forward call, and after the gradient call. -/
def U0 (c : Dev nD) : Valuation τ sig (Elt F) := V0 m c
def U1 (c : Dev nD) : Valuation τ sig (Elt F) := Pipeline.afterRegion (dat0 (U0 m) c) (U0 m c)
def U2 (c : Dev nD) : Valuation τ sig (Elt F) := Pipeline.afterRegion (dat1 (U1 m) c) (U1 m c)

/-- The contents at every grid point of the two calls. -/
def pdats : (p : Fin 2) → (c : Dev nD) → Dat τ (Elt F) Unit ℕ (UR sig nD τ) ℕ (cfgs p) c
  | 0 => dat0 (U0 m)
  | 1 => dat1 (U1 m)

/-- One level, on the cells of the cores that run the program. -/
def lvL : GSem nD τ sig → Finset Unit := fun g => if g.1.2 = .tc then {()} else ∅
def lvv : GSem nD τ sig → Unit → ℕ := fun _ _ => 0

theorem lvCut (p : Fin 2) : Pipeline.LevelCut (pcfgs (F := F)) adm () lvL lvv p (fun _ => 0) (fun _ => 0) where
  hι := by intros; simp [lvL]
  hιb := by intros; simp [lvv]
  hD := by intro c g i h; simp at h

/-- Call 1 as a segment of the program, over the contents its arrays have when it starts. -/
def R0 : RegionSeg (pcfgs (F := F)) adm (pdats m) () defs₀ Variants.none lvL lvv 0 :=
  Pipeline.RegionSeg.ofHeldIn (pcfgs (F := F)) adm (pdats m) () defs₀ Variants.none lvL lvv 0 (fun _ => 0)
    (Pipeline.ucRefs τ sig) (fun c => iprop(∃ r, prngReg c r)) (fun c => iprop(∃ r, prngReg c r)) launch0.toP rfl
    (fun c => (body_obligation0 (U0 m) c).loose) (fun _ _ => rfl) (fun _ => rfl)
    (fun c w => (dat0 (U0 m) c).share_full (fun _ => rfl) w)
    (fun c => hin0 (U0 m) c) (fun c => hout0 (U0 m) c) (fun _ => 0) (lvCut 0) (fun _ => iprop(emp)) (U0 m)
    (fun c w => A0_eq (U0 m) c w)

theorem arrs0 : Pipeline.arrRefs (τ := τ) (pcfgs (F := F) 0).spec ⊆ Pipeline.ucRefs τ sig :=
  Pipeline.arrRefs_sub_ucRefs _ winFacts0.arr_unscoped

/-- What a core holds between the calls: every array at the given contents, nothing owed, the generator register. -/
theorem pre0 (c : Dev nD) :
    (iprop(StableHlo.held (c : Thread nD τ) (Pipeline.ucRefs τ sig) (U0 m c)
      ∗ ((∃ Wd, owes (c : Thread nD τ) (0 : CellTallies nD τ sig Unit) Wd) ∗ (∃ r, prngReg c r) ∗ emp)) : sProp 𝕄) ⊢ (R0 m).pre c := by
  unfold R0
  refine BI.Entails.trans ?_ (Pipeline.RegionSeg.ofHeldIn_pre (hS := arrs0) c)
  exact BI.Entails.refl _
theorem post0 (c : Dev nD) :
    (R0 m).post c ⊢ (iprop(StableHlo.held (c : Thread nD τ) (Pipeline.ucRefs τ sig) (U1 m c)
      ∗ ((∃ Wd, owes (c : Thread nD τ) (0 : CellTallies nD τ sig Unit) Wd) ∗ (∃ r, prngReg c r) ∗ emp)) : sProp 𝕄) := by
  unfold R0
  exact Pipeline.RegionSeg.ofHeldIn_post (hS := arrs0) c

/-- Call 2 as a segment of the program, over the contents its arrays have when it starts. -/
def R1 : RegionSeg (pcfgs (F := F)) adm (pdats m) () defs₀ Variants.none lvL lvv 1 :=
  Pipeline.RegionSeg.ofHeldIn (pcfgs (F := F)) adm (pdats m) () defs₀ Variants.none lvL lvv 1 (fun _ => 0)
    (Pipeline.ucRefs τ sig) (fun c => iprop(∃ r, prngReg c r)) (fun c => iprop(∃ r, prngReg c r)) launch1.toP rfl
    (fun c => (body_obligation1 (U1 m) c).loose) (fun _ _ => rfl) (fun _ => rfl)
    (fun c w => (dat1 (U1 m) c).share_full (fun _ => rfl) w)
    (fun c => hin1 (U1 m) c) (fun c => hout1 (U1 m) c) (fun _ => 0) (lvCut 1) (fun _ => iprop(emp)) (U1 m)
    (fun c w => A1_eq (U1 m) c w)

theorem arrs1 : Pipeline.arrRefs (τ := τ) (pcfgs (F := F) 1).spec ⊆ Pipeline.ucRefs τ sig :=
  Pipeline.arrRefs_sub_ucRefs _ winFacts1.arr_unscoped

/-- What a core holds between the calls: every array at the given contents, nothing owed, the generator register. -/
theorem pre1 (c : Dev nD) :
    (iprop(StableHlo.held (c : Thread nD τ) (Pipeline.ucRefs τ sig) (U1 m c)
      ∗ ((∃ Wd, owes (c : Thread nD τ) (0 : CellTallies nD τ sig Unit) Wd) ∗ (∃ r, prngReg c r) ∗ emp)) : sProp 𝕄) ⊢ (R1 m).pre c := by
  unfold R1
  refine BI.Entails.trans ?_ (Pipeline.RegionSeg.ofHeldIn_pre (hS := arrs1) c)
  exact BI.Entails.refl _
theorem post1 (c : Dev nD) :
    (R1 m).post c ⊢ (iprop(StableHlo.held (c : Thread nD τ) (Pipeline.ucRefs τ sig) (U2 m c)
      ∗ ((∃ Wd, owes (c : Thread nD τ) (0 : CellTallies nD τ sig Unit) Wd) ∗ (∃ r, prngReg c r) ∗ emp)) : sProp 𝕄) := by
  unfold R1
  exact Pipeline.RegionSeg.ofHeldIn_post (hS := arrs1) c

theorem U2_main_arg0 (c : Dev nD) : U2 m c main_arg0 = m ((c : Thread nD τ).loc main_arg0) :=
  (Pipeline.afterRegion_keeps (dat1 (U1 m) c) (U1 m c) winFacts1.arr_inj (fun w => A1_eq (U1 m) c w) main_arg0 (by decide)).trans
    ((Pipeline.afterRegion_keeps (dat0 (U0 m) c) (U0 m c) winFacts0.arr_inj (fun w => A0_eq (U0 m) c w) main_arg0 (by decide)).trans rfl)
theorem U2_main_arg1 (c : Dev nD) : U2 m c main_arg1 = m ((c : Thread nD τ).loc main_arg1) :=
  (Pipeline.afterRegion_keeps (dat1 (U1 m) c) (U1 m c) winFacts1.arr_inj (fun w => A1_eq (U1 m) c w) main_arg1 (by decide)).trans
    ((Pipeline.afterRegion_keeps (dat0 (U0 m) c) (U0 m c) winFacts0.arr_inj (fun w => A0_eq (U0 m) c w) main_arg1 (by decide)).trans rfl)
theorem U2_main_arg2 (c : Dev nD) : U2 m c main_arg2 = m ((c : Thread nD τ).loc main_arg2) :=
  (Pipeline.afterRegion_keeps (dat1 (U1 m) c) (U1 m c) winFacts1.arr_inj (fun w => A1_eq (U1 m) c w) main_arg2 (by decide)).trans
    ((Pipeline.afterRegion_keeps (dat0 (U0 m) c) (U0 m c) winFacts0.arr_inj (fun w => A0_eq (U0 m) c w) main_arg2 (by decide)).trans rfl)
theorem U2_main_arg3 (c : Dev nD) : U2 m c main_arg3 = m ((c : Thread nD τ).loc main_arg3) :=
  (Pipeline.afterRegion_keeps (dat1 (U1 m) c) (U1 m c) winFacts1.arr_inj (fun w => A1_eq (U1 m) c w) main_arg3 (by decide)).trans
    ((Pipeline.afterRegion_keeps (dat0 (U0 m) c) (U0 m c) winFacts0.arr_inj (fun w => A0_eq (U0 m) c w) main_arg3 (by decide)).trans rfl)
theorem U2_main_arg4 (c : Dev nD) : U2 m c main_arg4 = m ((c : Thread nD τ).loc main_arg4) :=
  (Pipeline.afterRegion_keeps (dat1 (U1 m) c) (U1 m c) winFacts1.arr_inj (fun w => A1_eq (U1 m) c w) main_arg4 (by decide)).trans
    ((Pipeline.afterRegion_keeps (dat0 (U0 m) c) (U0 m c) winFacts0.arr_inj (fun w => A0_eq (U0 m) c w) main_arg4 (by decide)).trans rfl)

set_option backward.isDefEq.respectTransparency.types false in
/-- Every weakly fair execution ends, with every array of the host at `U2` and every counter at zero. -/
theorem run_all (ρ : Dev nD → PrngReg) :
    θ_run defs (onTc (τ := τ) (main (F := F))) ⟨m, fun _ => 0, ρ⟩ (fun r => (∀ c : Dev nD,
      ∀ b ∈ Pipeline.ucRefs τ sig, r.2.mem ((c.tc : Thread nD τ).1, b) = U2 m c b) ∧ r.2.sem = fun _ => 0) := by
  refine Pipeline.θ_run_regions_kit_dev_sems (pcfgs (F := F)) adm (pdats m) () cellOf_inj emb₁ defs₀ Variants.none lvL lvv m ρ main
    (segs Variants.none lvL lvv (fun _ _ => iprop(emp)) () (pdats m) (R0 m) (R1 m))
    (fun c Q => by
      rewrite [main_chain c, Seg.run_eq_chain,
        show (segs Variants.none lvL lvv (fun _ _ => iprop(emp)) () (pdats m) (R0 m) (R1 m) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun g h => if_neg h)
    (G := fun _ => iprop(emp)) (u₀ := Rounds.initOf (Pipeline.cells cfgs cellOf_inj) (Pipeline.launchToks cfgs cellOf_inj))
    (hu₀ := ?_)
    (T₀ := fun c => iprop(StableHlo.held (c : Thread nD τ) (Pipeline.ucRefs τ sig) (U0 m c)
      ∗ ((∃ Wd, owes (c : Thread nD τ) (0 : CellTallies nD τ sig Unit) Wd) ∗ (∃ r, prngReg c r) ∗ emp)))
    (Tₙ := fun c => StableHlo.held (c : Thread nD τ) (Pipeline.ucRefs τ sig) (U2 m c))
    (hch := fun c => ⟨pre0 m c, (post0 m c).trans (pre1 m c), (post1 m c).trans (by
        iintro ⟨Hh, HO, -⟩
        isplitl [Hh]; · iexact Hh
        iexact HO)⟩)
    (hinit := ?_) (QY := fun c s => ∀ b ∈ Pipeline.ucRefs τ sig, s.mem ((c.tc : Thread nD τ).1, b) = U2 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (Rounds.initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach lvL lvv fun c => ?_
    rw [show unscopedBufs c (fun b => m ((c.tc : Thread nD τ).loc b)) = StableHlo.held (c.tc : Thread nD τ) (Pipeline.ucRefs τ sig) (U0 m c)
        from Pipeline.unscopedBufs_held (Ix := Unit) (Name := ℕ) (U := UR sig nD τ) (Lvl := ℕ) c (U0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (U2 m c) s') $$ [Hh HSI]
    · isplitl [Hh] <;> iassumption
    imodintro; iexact Hr

theorem uc_mem (r : Ref sig .tc) (h : r.isScoped = false) : (Proc.devRef .tc r : DevRef τ sig) ∈ Pipeline.ucRefs τ sig :=
  Pipeline.devRef_mem_ucRefs h

/-- The frame: arguments unchanged and counters at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_⟩, h.2⟩) (run_all m ρ)
  all_goals refine (h.1 c _ (uc_mem _ (by decide))).trans ?_
  · exact U2_main_arg0 m c
  · exact U2_main_arg1 m c
  · exact U2_main_arg2 m c
  · exact U2_main_arg3 m c
  · exact U2_main_arg4 m c

end Cert.KernelIdeal.Ret

end
-- ==== Proof.Spec.lean ====
/- The mathematics of retention on one direction and one head, as sums over extended real numbers: what one chunk
   gives, the recurrence of the state over the chunks, and its solution as a weighted sum. Both programs are shown
   to compute these sums. -/
module

public import Idealize.ShloMosaic.Lib.Pointwise

@[expose] public section

set_option maxRecDepth 16384

noncomputable section

namespace Cert.Spec

open Idealize.ShloMosaic

/-- The weight `e^(l x)`. -/
def ew (l x : ℝ) : EReal := ((Real.exp (l * x) : ℝ) : EReal)

/-- The decay from row `j` to row `i` of a chunk; in the second direction (`d = 1`) a row does not see itself. -/
def dcy (l : ℝ) (d : ℕ) (i j : Fin 128) : EReal :=
  if j.val + d ≤ i.val then ew l ((i.val : ℝ) - (j.val : ℝ)) else 0

section chunk

variable (l : ℝ) (d : ℕ) (q k : Fin 128 → Fin 128 → EReal) (v y s g : Fin 128 → Fin 256 → EReal)

/-- The output of a chunk. -/
def sO (i : Fin 128) (e : Fin 256) : EReal :=
  ∑ j, ((∑ a, q i a * k j a) * dcy l d i j) * v j e + ∑ a, (q i a * ew l ((i.val : ℝ) + 1)) * s a e

/-- What a chunk adds to the state. -/
def sKV (a : Fin 128) (e : Fin 256) : EReal := ∑ i, (k i a * ew l (127 - (i.val : ℝ))) * v i e

/-- What a chunk adds to the gradient of the state. -/
def sDS (a : Fin 128) (e : Fin 256) : EReal := ∑ i, (q i a * ew l ((i.val : ℝ) + 1)) * y i e

/-- The gradient of a decayed score. -/
def sSC (i j : Fin 128) : EReal := (∑ e, y i e * v j e) * dcy l d i j

/-- The gradient of the queries. -/
def sDQ (i a : Fin 128) : EReal :=
  ∑ j, sSC l d v y i j * k j a + (∑ e, y i e * s a e) * ew l ((i.val : ℝ) + 1)

/-- The gradient of the keys. -/
def sDK (j a : Fin 128) : EReal :=
  ∑ i, sSC l d v y i j * q i a + (∑ e, v j e * g a e) * ew l (127 - (j.val : ℝ))

/-- The gradient of the values. -/
def sDV (j : Fin 128) (e : Fin 256) : EReal :=
  ∑ a, (k j a * ew l (127 - (j.val : ℝ))) * g a e + ∑ i, ((∑ a, q i a * k j a) * dcy l d i j) * y i e

end chunk

/-- The recurrence over the chunks: decay by a chunk's length, then add. -/
def rc (l : ℝ) (s : EReal) (f : ℕ → EReal) : ℕ → EReal
  | 0 => s
  | n + 1 => rc l s f n * ew l 128 + f n

/-- The weight of chunk `m` in the state before chunk `n`. -/
def wt (l : ℝ) (n m : ℕ) : EReal := if m + 1 ≤ n then ew l (128 * ((n : ℝ) - 1 - (m : ℝ))) else 0

theorem ew_mul (l x y : ℝ) : ew l x * ew l y = ew l (x + y) := by
  unfold ew; rw [← EReal.coe_mul, ← Real.exp_add, mul_add]

theorem add_mul_ew (l x : ℝ) (a b : EReal) : (a + b) * ew l x = a * ew l x + b * ew l x :=
  EReal.right_distrib_of_nonneg_of_ne_top (EReal.coe_nonneg.mpr (Real.exp_pos _).le) (EReal.coe_ne_top _) a b

theorem sum_mul_ew {ι : Type} (l x : ℝ) (t : Finset ι) (f : ι → EReal) : (∑ i ∈ t, f i) * ew l x = ∑ i ∈ t, f i * ew l x := by
  classical
  induction t using Finset.induction_on with
  | empty => simp
  | insert a t ha ih => rw [Finset.sum_insert ha, Finset.sum_insert ha, add_mul_ew, ih]

theorem wt_succ (l : ℝ) (n m : ℕ) (x : EReal) :
    wt l (n + 1) m * x = wt l n m * x * ew l 128 + (if m = n then x else 0) := by
  unfold wt
  rcases lt_trichotomy m n with h | h | h
  · rw [if_pos (by omega), if_pos (by omega), if_neg (by omega), add_zero, mul_right_comm, ew_mul]
    congr 2; push_cast; ring
  · subst h
    rw [if_pos (by omega), if_neg (by omega), if_pos rfl, zero_mul, zero_mul, zero_add]
    have : (128 : ℝ) * (((m + 1 : ℕ) : ℝ) - 1 - (m : ℝ)) = 0 := by push_cast; ring
    rw [this]; unfold ew; simp
  · rw [if_neg (by omega), if_neg (by omega), if_neg (by omega)]; simp

/-- The recurrence solved: every chunk's share, weighted by its distance. -/
theorem rc_closed (l : ℝ) (s : EReal) (f : ℕ → EReal) (n : ℕ) (hn : n ≤ 128) :
    rc l s f n = ew l (128 * (n : ℝ)) * s + ∑ m : Fin 128, wt l n m.val * f m.val := by
  induction n with
  | zero =>
    have h : ∀ m : Fin 128, wt l 0 m.val * f m.val = 0 := fun m => by unfold wt; rw [if_neg (by omega), zero_mul]
    rw [Finset.sum_congr rfl fun m _ => h m]
    simp [rc, ew]
  | succ n ih =>
    rw [rc, ih (by omega)]
    simp only [wt_succ]
    rw [Finset.sum_add_distrib, add_mul_ew, sum_mul_ew, add_assoc]
    have hs : (∑ m : Fin 128, if m.val = n then f m.val else 0) = f n := by
      rw [Finset.sum_eq_single (⟨n, by omega⟩ : Fin 128)]
      · simp
      · intro b _ hb; rw [if_neg fun h => hb (Fin.ext h)]
      · intro h; exact absurd (Finset.mem_univ _) h
    rw [hs, mul_right_comm, ew_mul]
    congr 3; push_cast; ring

/-! ## The rows of a direction, in its order -/

/-- The token of row `r` of chunk `n`; the second direction goes through the tokens backwards. -/
def tok (d : Fin 2) (n r : Fin 128) : Fin 16384 :=
  if d = 0 then ⟨128 * n.val + r.val, by omega⟩ else ⟨16383 - (128 * n.val + r.val), by omega⟩

section rows

variable {m : ℕ} (X : (⟨2, ![16384, m]⟩ : Shape).Idx → EReal) (Z : (⟨4, ![2, 4, 128, 256]⟩ : Shape).Idx → EReal)

/-- Rows of 128 columns of head `h`, from column `o` on. -/
def row128 (o : ℕ) (ho : o + 512 ≤ m) (d : Fin 2) (h : Fin 4) (n r a : Fin 128) : EReal :=
  X (ix2 (tok d n r) ⟨o + (128 * h.val + a.val), by omega⟩)

/-- Rows of 256 columns of head `h`, from column `o` on. -/
def row256 (o : ℕ) (ho : o + 1024 ≤ m) (d : Fin 2) (h : Fin 4) (n r : Fin 128) (e : Fin 256) : EReal :=
  X (ix2 (tok d n r) ⟨o + (256 * h.val + e.val), by omega⟩)

/-- The state of head `h`. -/
def stat (d : Fin 2) (h : Fin 4) (a : Fin 128) (e : Fin 256) : EReal := Z (ix4 d h a e)

end rows

section flow

variable (l : ℝ) (q k : Fin 128 → Fin 128 → Fin 128 → EReal) (v y : Fin 128 → Fin 128 → Fin 256 → EReal)
  (s g : Fin 128 → Fin 256 → EReal)

/-- The state before chunk `n`. -/
def fS (n : ℕ) (a : Fin 128) (e : Fin 256) : EReal :=
  rc l (s a e) (fun m => sKV l (k (Fin.ofNat 128 m)) (v (Fin.ofNat 128 m)) a e) n

/-- The gradient of the state before the last `n` chunks. -/
def fG (n : ℕ) (a : Fin 128) (e : Fin 256) : EReal :=
  rc l (g a e) (fun m => sDS l (q (Fin.ofNat 128 (127 - m))) (y (Fin.ofNat 128 (127 - m))) a e) n

end flow

/-- The logarithm of a head's decay. -/
def lgr : Fin 4 → ℝ
  | 0 => Real.log (31 / 32)
  | 1 => Real.log (63 / 64)
  | 2 => Real.log (127 / 128)
  | 3 => Real.log (255 / 256)

/-- The chunk that a token belongs to, in the order of the direction. -/
def chn (d : Fin 2) (T : Fin 16384) : Fin 128 :=
  if d = 0 then ⟨T.val / 128, by omega⟩ else ⟨(16384 - (T.val + 1)) / 128, by omega⟩

/-- The token's row in its chunk, in the order of the direction. -/
def rwn (d : Fin 2) (T : Fin 16384) : Fin 128 :=
  if d = 0 then ⟨T.val % 128, by omega⟩ else ⟨(16384 - (T.val + 1)) % 128, by omega⟩

/-! ## The five results as arrays: each entry by its direction, its token and its column -/

section results

variable (X0 : (⟨2, ![16384, 1024]⟩ : Shape).Idx → EReal) (X1 : (⟨2, ![16384, 8320]⟩ : Shape).Idx → EReal)
  (X2 : (⟨4, ![2, 4, 128, 256]⟩ : Shape).Idx → EReal) (X3 : (⟨2, ![16384, 1024]⟩ : Shape).Idx → EReal)
  (X4 : (⟨4, ![2, 4, 128, 256]⟩ : Shape).Idx → EReal)

/-- Queries of direction `d` and head `h`. -/
abbrev rq (d : Fin 2) (h : Fin 4) := row128 X0 0 (by omega) d h
/-- Keys. -/
abbrev rk (d : Fin 2) (h : Fin 4) := row128 X0 512 (by omega) d h
/-- Values. -/
abbrev rv (d : Fin 2) (h : Fin 4) := row256 X1 1024 (by omega) d h
/-- The output's gradient. -/
abbrev ry (d : Fin 2) (h : Fin 4) := row256 X3 0 (by omega) d h

/-- The output entry of direction `d`, token `T`, head `h`, column `e`. -/
def eO (d : Fin 2) (T : Fin 16384) (h : Fin 4) (e : Fin 256) : EReal :=
  sO (lgr h) d.val (rq X0 d h (chn d T)) (rk X0 d h (chn d T)) (rv X1 d h (chn d T))
    (fS (lgr h) (rk X0 d h) (rv X1 d h) (stat X2 d h) (chn d T).val) (rwn d T) e

/-- The gradient of a query. -/
def eQ (d : Fin 2) (T : Fin 16384) (h : Fin 4) (a : Fin 128) : EReal :=
  sDQ (lgr h) d.val (rk X0 d h (chn d T)) (rv X1 d h (chn d T)) (ry X3 d h (chn d T))
    (fS (lgr h) (rk X0 d h) (rv X1 d h) (stat X2 d h) (chn d T).val) (rwn d T) a

/-- The gradient of a key. -/
def eK (d : Fin 2) (T : Fin 16384) (h : Fin 4) (a : Fin 128) : EReal :=
  sDK (lgr h) d.val (rq X0 d h (chn d T)) (rv X1 d h (chn d T)) (ry X3 d h (chn d T))
    (fG (lgr h) (rq X0 d h) (ry X3 d h) (stat X4 d h) (127 - (chn d T).val)) (rwn d T) a

/-- The gradient of a value. -/
def eV (d : Fin 2) (T : Fin 16384) (h : Fin 4) (e : Fin 256) : EReal :=
  sDV (lgr h) d.val (rq X0 d h (chn d T)) (rk X0 d h (chn d T)) (ry X3 d h (chn d T))
    (fG (lgr h) (rq X0 d h) (ry X3 d h) (stat X4 d h) (127 - (chn d T).val)) (rwn d T) e

/-- The outputs. -/
def tO : (⟨3, ![2, 16384, 1024]⟩ : Shape).Idx → EReal := fun j =>
  eO X0 X1 X2 (j 0) (j 1) ⟨(j 2).val / 256, Nat.div_lt_of_lt_mul (j 2).isLt⟩ ⟨(j 2).val % 256, Nat.mod_lt _ (by omega)⟩

/-- The last states. -/
def tF : (⟨4, ![2, 4, 128, 256]⟩ : Shape).Idx → EReal := fun j =>
  fS (lgr (j 1)) (rk X0 (j 0) (j 1)) (rv X1 (j 0) (j 1)) (stat X2 (j 0) (j 1)) 128 (j 2) (j 3)

/-- The gradients of queries and keys. -/
def tQK : (⟨3, ![2, 16384, 1024]⟩ : Shape).Idx → EReal := fun j =>
  if (j 2).val < 512 then
    eQ X0 X1 X2 X3 (j 0) (j 1) ⟨(j 2).val % 512 / 128, by omega⟩ ⟨(j 2).val % 128, Nat.mod_lt _ (by omega)⟩
  else
    eK X0 X1 X3 X4 (j 0) (j 1) ⟨(j 2).val % 512 / 128, by omega⟩ ⟨(j 2).val % 128, Nat.mod_lt _ (by omega)⟩

/-- The gradients of the values. -/
def tV : (⟨3, ![2, 16384, 1024]⟩ : Shape).Idx → EReal := fun j =>
  eV X0 X3 X4 (j 0) (j 1) ⟨(j 2).val / 256, Nat.div_lt_of_lt_mul (j 2).isLt⟩ ⟨(j 2).val % 256, Nat.mod_lt _ (by omega)⟩

/-- The gradients of the states before the first chunks. -/
def tS : (⟨4, ![2, 4, 128, 256]⟩ : Shape).Idx → EReal := fun j =>
  fG (lgr (j 1)) (rq X0 (j 0) (j 1)) (ry X3 (j 0) (j 1)) (stat X4 (j 0) (j 1)) 128 (j 2) (j 3)

end results

/-! ## The constants of the two programs -/

theorem exp_mul (l x : ℝ) : Ideal.exp ((l : EReal) * (x : EReal)) = ew l x := by
  rw [← EReal.coe_mul]; rfl

theorem word_nat (n : ℕ) (h : n < 2 ^ 31) : (FloatOps.sitofp .f32 (BitVec.ofNat 32 n) : Ideal .f32) = (((n : ℝ) : EReal)) := by
  show (((BitVec.ofNat 32 n).toInt : ℝ) : EReal) = _
  have e : (BitVec.ofNat 32 n).toInt = (n : ℤ) := by
    rw [BitVec.toInt_eq_toNat_cond, BitVec.toNat_ofNat, Nat.mod_eq_of_lt (by omega), if_pos (by omega)]
  rw [e]; norm_cast

theorem c127 : Ideal.ofBits .f32 0x42FE0000#32 = ((127 : ℝ) : EReal) := by
  simp [Ideal.ofBits, Ideal.ieee, -EReal.coe_mul]; norm_num

theorem c128 : Ideal.ofBits .f32 0x43000000#32 = ((128 : ℝ) : EReal) := by
  simp [Ideal.ofBits, Ideal.ieee, -EReal.coe_mul]; norm_num

theorem c2 : Ideal.ofBits .f32 0x40000000#32 = ((2 : ℝ) : EReal) := by
  simp [Ideal.ofBits, Ideal.ieee, -EReal.coe_mul]; norm_num

theorem cm5 : Ideal.ofBits .f32 0xC0A00000#32 = ((-5 : ℝ) : EReal) := by
  simp [Ideal.ofBits, Ideal.ieee, -EReal.coe_mul, -EReal.coe_neg]; norm_num

/-- The decay over a chunk is the power of the decay of a row. -/
theorem ew_log (x : ℝ) (hx : 0 < x) : ew (Real.log x) 128 = ((x ^ 128 : ℝ) : EReal) := by
  unfold ew
  rw [← Real.rpow_def_of_pos hx]
  norm_cast

/-- `log(1 + (-(2 ^ (-5 - h))))` is the logarithm of the head's decay. -/
theorem log_decay (h : Fin 4) :
    Ideal.log1p (-(Ideal.pow (Ideal.ofBits .f32 0x40000000#32)
      (Ideal.ofBits .f32 0xC0A00000#32 - (FloatOps.sitofp .f32 (BitVec.ofNat 32 h.val) : Ideal .f32)))) = ((lgr h : ℝ) : EReal) := by
  rw [word_nat _ (by omega), c2, cm5, ← EReal.coe_sub, Ideal.pow_coe_coe, ← EReal.coe_neg]
  have e : (1 : EReal) + ((-(Real.rpow 2 (-5 - (h.val : ℝ))) : ℝ) : EReal) = ((1 - Real.rpow 2 (-5 - (h.val : ℝ)) : ℝ) : EReal) := by
    rw [← EReal.coe_one, ← EReal.coe_add, ← sub_eq_add_neg]
  unfold Ideal.log1p
  rw [e]
  have p : ∀ n : ℕ, Real.rpow 2 (-5 - (n : ℝ)) = (1 / 2 : ℝ) ^ (5 + n) := by
    intro n
    show (2 : ℝ) ^ ((-5 : ℝ) - (n : ℝ)) = _
    have : ((-5 : ℝ) - (n : ℝ)) = -(((5 + n : ℕ)) : ℝ) := by push_cast; ring
    rw [this, Real.rpow_neg (by norm_num), Real.rpow_natCast]; simp
  rw [p]
  have hp : ¬ (1 - (1 / 2 : ℝ) ^ (5 + h.val)) ≤ 0 := by
    fin_cases h <;> norm_num
  show (if _ ≤ (0 : ℝ) then _ else _) = _
  rw [if_neg hp]
  fin_cases h <;> norm_num [lgr]

end Cert.Spec

end
-- ==== Proof.Blocks.lean ====
/- The chunk functions of the kernel read at one entry over the extended reals: they are the sums of the
   mathematics. In the second direction the rows of a chunk stand in reverse order. -/
module

public import proofs.«01_k».proof.Proof.Chunk
public import proofs.«01_k».proof.Proof.Spec
public import Idealize.ShloMosaic.Lib.Pointwise

@[expose] public section

set_option maxRecDepth 16384

noncomputable section

namespace Cert.KernelIdeal.Ret

open Idealize.ShloMosaic Idealize.ShloMosaic.TcCoe
open Cert.KernelIdeal Cert.KernelIdeal.Gen Cert.Spec

/-- The row of a chunk in the order of the direction, as a place in memory (and back). -/
def fl (d : Fin 2) (r : Fin 128) : Fin 128 := if d = 0 then r else r.rev

/-- The flag of the second direction. -/
def fb (d : Fin 2) : BitVec 1 := if d = 0 then 0#1 else 1#1

theorem fl_fl (d : Fin 2) (r : Fin 128) : fl d (fl d r) = r := by unfold fl; split <;> simp

theorem sum_fl (d : Fin 2) (f : Fin 128 → EReal) : ∑ r, f (fl d r) = ∑ r, f r :=
  Equiv.sum_comp (Function.Involutive.toPerm (fl d) (fl_fl d)) f

theorem fl_val (d : Fin 2) (r : Fin 128) : (fl d r).val = if d = 0 then r.val else 127 - r.val := by
  unfold fl; split
  · rfl
  · rw [Fin.val_rev]; omega

theorem nn_sub (a b : ℕ) : (((a : ℝ) : EReal) - ((b : ℝ) : EReal)) = (((a : ℝ) - (b : ℝ) : ℝ) : EReal) := (EReal.coe_sub _ _).symm

theorem decm_at (l : ℝ) (d : Fin 2) (i j : Fin 128) :
    decm (F := Ideal) ((l : ℝ) : EReal) (fb d) (ix2 (fl d i) (fl d j)) = dcy l d.val i j := by
  have hi := i.isLt; have hj := j.isLt
  fin_cases d
  · pointwise [decm, difm, mskm, fb, fl]
    rw [word_nat _ (by omega), word_nat _ (by omega), ← EReal.coe_sub]
    unfold dcy
    have e : ((0 : EReal) ≤ (((i.val : ℝ) - (j.val : ℝ) : ℝ) : EReal)) ↔ j.val + 0 ≤ i.val := by
      rw [← EReal.coe_zero, EReal.coe_le_coe_iff, sub_nonneg, Nat.cast_le, Nat.add_zero]
    by_cases h : j.val + 0 ≤ i.val
    · rw [if_pos (e.mpr h), if_pos (e.mpr h), if_pos h, exp_mul]
    · rw [if_neg (fun x => h (e.mp x)), if_neg h]
  · pointwise [decm, difm, mskm, fb, fl]
    rw [word_nat _ (by omega), word_nat _ (by omega), ← EReal.coe_sub]
    unfold dcy
    have q : (((j.rev.val : ℝ) - (i.rev.val : ℝ) : ℝ)) = (i.val : ℝ) - (j.val : ℝ) := by
      rw [Fin.val_rev, Fin.val_rev, Nat.cast_sub (by omega), Nat.cast_sub (by omega)]; push_cast; ring
    have e : ((1 : EReal) ≤ (((i.val : ℝ) - (j.val : ℝ) : ℝ) : EReal)) ↔ j.val + 1 ≤ i.val := by
      rw [← EReal.coe_one, EReal.coe_le_coe_iff, le_sub_iff_add_le', ← Nat.cast_one, ← Nat.cast_add, Nat.cast_le]
    rw [q]
    by_cases h : j.val + 1 ≤ i.val
    · rw [if_pos (e.mpr h), if_pos (e.mpr h), if_pos h, exp_mul]
    · rw [if_neg (fun x => h (e.mp x)), if_neg h]

theorem kwv_at (l : ℝ) (d : Fin 2) (i : Fin 128) :
    kwv (F := Ideal) ((l : ℝ) : EReal) (fb d) (ix2 (fl d i) 0) = ew l (127 - (i.val : ℝ)) := by
  have hi := i.isLt
  fin_cases d
  · pointwise [kwv, posv, fb, fl]
    rw [word_nat _ (by omega), c127, ← EReal.coe_sub, exp_mul]
  · pointwise [kwv, posv, fb, fl]
    rw [word_nat _ (by omega), c127, ← EReal.coe_sub, ← EReal.coe_sub, exp_mul, Fin.val_rev, Nat.cast_sub (by omega)]
    congr 1; push_cast; ring

theorem qwv_at (l : ℝ) (d : Fin 2) (i : Fin 128) :
    qwv (F := Ideal) ((l : ℝ) : EReal) (fb d) (ix2 (fl d i) 0) = ew l ((i.val : ℝ) + 1) := by
  have hi := i.isLt
  fin_cases d
  · pointwise [qwv, posv, fb, fl]
    rw [word_nat _ (by omega), ← EReal.coe_one, ← EReal.coe_add, exp_mul]
  · pointwise [qwv, posv, fb, fl]
    rw [word_nat _ (by omega), c127, ← EReal.coe_one, ← EReal.coe_sub, ← EReal.coe_add, exp_mul, Fin.val_rev, Nat.cast_sub (by omega)]
    congr 1; push_cast; ring

variable (l : ℝ) (d : Fin 2) (q k : FVec Ideal S128x128 .f32) (v s y g : FVec Ideal S128x256 .f32)

/-- A block's rows in the order of the direction. -/
def flw {w : ℕ} (d : Fin 2) (x : FVec Ideal ⟨2, ![128, w]⟩ .f32) : Fin 128 → Fin w → EReal := fun r a => x (ix2 (fl d r) a)
/-- A state's entries. -/
def stv (x : FVec Ideal S128x256 .f32) : Fin 128 → Fin 256 → EReal := fun a e => x (ix2 a e)

theorem FO_at (i : Fin 128) (e : Fin 256) :
    FO (F := Ideal) ((l : ℝ) : EReal) (fb d) q k v s (ix2 (fl d i) e) = sO l d.val (flw d q) (flw d k) (flw d v) (stv s) i e := by
  unfold FO scm qdv
  generalize hD : decm (F := Ideal) ((l : ℝ) : EReal) (fb d) = D
  generalize hW : qwv (F := Ideal) ((l : ℝ) : EReal) (fb d) = W
  pointwise
  unfold sO
  rw [← sum_fl d]
  subst hD hW
  simp only [decm_at, qwv_at, flw, stv]

theorem FS_at (gam : EReal) (a : Fin 128) (e : Fin 256) :
    FS (F := Ideal) ((l : ℝ) : EReal) gam (fb d) k v s (ix2 a e) = stv s a e * gam + sKV l (flw d k) (flw d v) a e := by
  unfold FS kdv
  generalize hW : kwv (F := Ideal) ((l : ℝ) : EReal) (fb d) = W
  pointwise
  unfold sKV
  rw [← sum_fl d]
  subst hW
  simp only [kwv_at, flw, stv]

theorem BS_at (gam : EReal) (a : Fin 128) (e : Fin 256) :
    BS (F := Ideal) ((l : ℝ) : EReal) gam (fb d) q y g (ix2 a e) = stv g a e * gam + sDS l (flw d q) (flw d y) a e := by
  unfold BS qdv
  generalize hW : qwv (F := Ideal) ((l : ℝ) : EReal) (fb d) = W
  pointwise
  unfold sDS
  rw [← sum_fl d]
  subst hW
  simp only [qwv_at, flw, stv]

theorem BQ_at (i a : Fin 128) :
    BQ (F := Ideal) ((l : ℝ) : EReal) (fb d) k v s y (ix2 (fl d i) a) = sDQ l d.val (flw d k) (flw d v) (flw d y) (stv s) i a := by
  unfold BQ dsm
  generalize hD : decm (F := Ideal) ((l : ℝ) : EReal) (fb d) = D
  generalize hW : qwv (F := Ideal) ((l : ℝ) : EReal) (fb d) = W
  pointwise
  unfold sDQ sSC
  rw [← sum_fl d]
  subst hD hW
  simp only [decm_at, qwv_at, flw, stv]

theorem BK_at (j a : Fin 128) :
    BK (F := Ideal) ((l : ℝ) : EReal) (fb d) q v y g (ix2 (fl d j) a) = sDK l d.val (flw d q) (flw d v) (flw d y) (stv g) j a := by
  unfold BK dsm
  generalize hD : decm (F := Ideal) ((l : ℝ) : EReal) (fb d) = D
  generalize hW : kwv (F := Ideal) ((l : ℝ) : EReal) (fb d) = W
  pointwise
  unfold sDK sSC
  rw [← sum_fl d]
  subst hD hW
  simp only [decm_at, kwv_at, flw, stv]

theorem BV_at (j : Fin 128) (e : Fin 256) :
    BV (F := Ideal) ((l : ℝ) : EReal) (fb d) q k y g (ix2 (fl d j) e) = sDV l d.val (flw d q) (flw d k) (flw d y) (stv g) j e := by
  unfold BV scm kdv
  generalize hD : decm (F := Ideal) ((l : ℝ) : EReal) (fb d) = D
  generalize hW : kwv (F := Ideal) ((l : ℝ) : EReal) (fb d) = W
  pointwise
  unfold sDV
  subst hD hW
  congr 1
  · simp only [kwv_at, flw, stv]
  · rw [← sum_fl d]
    simp only [decm_at, flw]

/-! ## The constants -/

theorem lgc_eq (h : Fin 4) : lgc (F := Ideal) h = ((lgr h : ℝ) : EReal) := by
  fin_cases h <;> rfl

theorem gamc_eq (h : Fin 4) : gamc (F := Ideal) h = ew (lgr h) 128 := by
  fin_cases h
  · show _ = ew (Real.log (31 / 32)) 128
    rw [ew_log _ (by norm_num)]
    simp only [gamc, Named.named, κ, Option.getD_some]
    congr 1; norm_num
  · show _ = ew (Real.log (63 / 64)) 128
    rw [ew_log _ (by norm_num)]
    simp only [gamc, Named.named, κ, Option.getD_some]
    congr 1; norm_num
  · show _ = ew (Real.log (127 / 128)) 128
    rw [ew_log _ (by norm_num)]
    simp only [gamc, Named.named, κ, Option.getD_some]
    congr 1; norm_num
  · show _ = ew (Real.log (255 / 256)) 128
    rw [ew_log _ (by norm_num)]
    simp only [gamc, Named.named, κ, Option.getD_some]
    congr 1; norm_num

end Cert.KernelIdeal.Ret

end
-- ==== Proof.KerVal.lean ====
/- What the forward call computes: every block it writes is the reference's mathematics on the rows of that block,
   the carried state being the recurrence over the chunks visited so far. -/
module

public import proofs.«01_k».proof.Proof.Whole
public import proofs.«01_k».proof.Proof.Blocks
public import Idealize.ShloMosaic.Lib.Pipeline.ValueKit

@[expose] public section

set_option maxRecDepth 16384

noncomputable section

namespace Cert.KernelIdeal.Ret

open Idealize.ShloMosaic Idealize.ShloMosaic.TcCoe
open Cert.KernelIdeal Cert.KernelIdeal.Gen Cert.Spec
open Idealize.ShloMosaic.Pipeline (Dat)

/-- The direction of a grid point. -/
def dr (n : ℕ) : Fin 2 := if n / 64 = 0 then 0 else 1
/-- The block of rows that grid point `t` of the forward call reads and writes. -/
def bl0 (t : ℕ) : ℕ := if t / 64 = 0 then t % 64 else 63 - t % 64
/-- The chunk that the forward call visits as number `g` at a grid point. -/
def ch0 (n : ℕ) (g : Fin 2) : Fin 128 := ⟨2 * (n % 64) + g.val, by omega⟩

theorem bl0_lt (t : ℕ) : bl0 t < 64 := by unfold bl0; split <;> omega
theorem dr_val (n : ℕ) (h : n < 128) : (dr n).val = n / 64 := by unfold dr; split <;> simp <;> omega

theorem fS_succ (l : ℝ) (k : Fin 128 → Fin 128 → Fin 128 → EReal) (v : Fin 128 → Fin 128 → Fin 256 → EReal)
    (s : Fin 128 → Fin 256 → EReal) (n : Fin 128) (a : Fin 128) (e : Fin 256) :
    fS l k v s (n.val + 1) a e = fS l k v s n.val a e * ew l 128 + sKV l (k n) (v n) a e := by
  have h : Fin.ofNat 128 n.val = n := Fin.ext (Nat.mod_eq_of_lt n.isLt)
  unfold fS; rw [rc, h]

/-- 128 rows of a block are the rows of a chunk. -/
theorem cut_tok {m w : ℕ} (X : (⟨2, ![16384, m]⟩ : Shape).Idx → EReal) (x : Vec Ideal S256x1024 .f32) (b o : ℕ) (hb : b < 64)
    (ho : o + 1024 ≤ m) (hx : ∀ R C, x (ix2 R C) = X (ix2 ⟨256 * b + R.val, by omega⟩ ⟨o + C.val, by omega⟩))
    (r0 c0 : ℕ) (d : Fin 2) (n r : Fin 128) (a : Fin w) (hr0 : r0 ≤ 128) (hc : c0 + w ≤ 1024)
    (hr : (tok d n r).val = 256 * b + r0 + (fl d r).val) :
    cut w x r0 c0 (ix2 (fl d r) a) = X (ix2 (tok d n r) ⟨o + (c0 + a.val), by omega⟩) := by
  have h1 : r0 + (fl d r).val < 256 := by omega
  have h2 : c0 + a.val < 1024 := by omega
  unfold cut
  refine (hx _ _).trans (congrArg X ?_)
  refine congrArg₂ ix2 (Fin.ext ?_) (Fin.ext ?_)
  · show 256 * b + (r0 + (fl d r).val) % 256 = _
    rw [Nat.mod_eq_of_lt h1, hr]; omega
  · show o + (c0 + a.val) % 1024 = o + (c0 + a.val)
    rw [Nat.mod_eq_of_lt h2]

theorem idx0 : ∀ t : Fin cfg0.N, win0_0.index t = ![bl0 t.val, 0] ∧ win0_1.index t = ![bl0 t.val, 1] ∧ win0_2.index t = ![t.val / 64, 0, 0, 0]
    ∧ win0_3.index t = ![t.val / 64, bl0 t.val, 0] ∧ win0_4.index t = ![t.val / 64, bl0 t.val, 0, 0, 0] ∧ win0_5.index t = ![t.val / 64, 0, 0, 0] :=
  (by decide +kernel : ∀ t : Fin grid0.N, _)

theorem crd0 (t : Fin cfg0.N) : (grid0.coords t 0).val = t.val / 64 := by
  have h : (grid0.coords t 0).val = t.val / 64 % 2 := Pipeline.Grid.coords_val t 0 (by decide) rfl
  have := lt_of_lt_of_eq t.isLt (show cfg0.N = 128 from rfl)
  omega

theorem rev0_eq (t : Fin cfg0.N) : rev0 (grid0.coords t) = fb (dr t.val) := by
  have := lt_of_lt_of_eq t.isLt (show cfg0.N = 128 from rfl)
  unfold rev0 fb dr; rw [crd0]
  rcases (by omega : t.val / 64 = 0 ∨ t.val / 64 = 1) with h | h <;> rw [h] <;> rfl

theorem row_tok0 (t : Fin cfg0.N) (g : Fin 2) (r : Fin 128) :
    (tok (dr t.val) (ch0 t.val g) r).val = 256 * bl0 t.val + row0 (grid0.coords t) g + (fl (dr t.val) r).val := by
  have := lt_of_lt_of_eq t.isLt (show cfg0.N = 128 from rfl)
  rw [fl_val]
  unfold tok ch0 bl0 dr row0
  fin_cases g <;> simp only [crd0] <;>
    rcases (by omega : t.val / 64 = 0 ∨ t.val / 64 = 1) with h | h <;> simp [h] <;> omega

theorem row_le0 (t : Fin cfg0.N) (g : Fin 2) : row0 (grid0.coords t) g ≤ 128 := by
  have := lt_of_lt_of_eq t.isLt (show cfg0.N = 128 from rfl)
  unfold row0
  fin_cases g <;> simp only [crd0] <;> omega

variable (W : Dev nD → Valuation τ sig (Elt Ideal)) (c : Dev nD)

/-- Queries and keys. -/
abbrev x0 : (⟨2, ![16384, 1024]⟩ : Shape).Idx → EReal := W c (Proc.devRef .tc main_arg0)
/-- The projections, with the values among them. -/
abbrev x1 : (⟨2, ![16384, 8320]⟩ : Shape).Idx → EReal := W c (Proc.devRef .tc main_arg1)
/-- The states before the first chunks. -/
abbrev x2 : (⟨4, ![2, 4, 128, 256]⟩ : Shape).Idx → EReal := W c (Proc.devRef .tc main_arg2)

theorem ib0_0 (t : Fin cfg0.N) (R : Fin 256) (C : Fin 1024) :
    (iblk0 W c 0 t : Vec Ideal S256x1024 .f32) (ix2 R C)
      = x0 W c (ix2 ⟨256 * bl0 t.val + R.val, by have := bl0_lt t.val; omega⟩ ⟨0 + C.val, by omega⟩) := by
  blk_ext [iblk0, idx0 t]

theorem ib0_1 (t : Fin cfg0.N) (R : Fin 256) (C : Fin 1024) :
    (pblk0 W c t) (ix2 R C)
      = x1 W c (ix2 ⟨256 * bl0 t.val + R.val, by have := bl0_lt t.val; omega⟩ ⟨1024 + C.val, by omega⟩) := by
  rw [pblk0_apply]
  blk_ext [iblk0, idx0 t]

theorem ib0_2 (t : Fin cfg0.N) (a : Fin 4) (b : Fin 128) (e : Fin 256) :
    (iblk0 W c 2 t : Vec Ideal S1x4x128x256 .f32) (ix4 0 a b e) = x2 W c (ix4 (dr t.val) a b e) := by
  have h := dr_val t.val (lt_of_lt_of_eq t.isLt (show cfg0.N = 128 from rfl))
  blk_ext [iblk0, idx0 t, h]

theorem q0 (t : Fin cfg0.N) (g : Fin 2) (h : Fin 4) :
    flw (dr t.val) (cut 128 (iblk0 W c 0 t) (row0 (grid0.coords t) g) (128 * h.val)) = rq (x0 W c) (dr t.val) h (ch0 t.val g) := by
  funext r a
  refine (cut_tok (x0 W c) _ (bl0 t.val) 0 (bl0_lt _) (by omega) (ib0_0 W c t) _ _ _ (ch0 t.val g) r a (row_le0 t g) (by omega) (row_tok0 t g r)).trans ?_
  rfl

theorem k0 (t : Fin cfg0.N) (g : Fin 2) (h : Fin 4) :
    flw (dr t.val) (cut 128 (iblk0 W c 0 t) (row0 (grid0.coords t) g) (512 + 128 * h.val)) = rk (x0 W c) (dr t.val) h (ch0 t.val g) := by
  funext r a
  refine (cut_tok (x0 W c) _ (bl0 t.val) 0 (bl0_lt _) (by omega) (ib0_0 W c t) _ _ _ (ch0 t.val g) r a (row_le0 t g) (by omega) (row_tok0 t g r)).trans ?_
  exact congrArg (x0 W c) (congrArg (ix2 _) (Fin.ext (by show 0 + (512 + 128 * h.val + a.val) = 512 + (128 * h.val + a.val); omega)))

theorem v0 (t : Fin cfg0.N) (g : Fin 2) (h : Fin 4) :
    flw (dr t.val) (cut 256 (pblk0 W c t) (row0 (grid0.coords t) g) (256 * h.val)) = rv (x1 W c) (dr t.val) h (ch0 t.val g) := by
  funext r a
  refine (cut_tok (x1 W c) _ (bl0 t.val) 1024 (bl0_lt _) (by omega) (ib0_1 W c t) _ _ _ (ch0 t.val g) r a (row_le0 t g) (by omega) (row_tok0 t g r)).trans ?_
  rfl

/-- The state of a head after `n` chunks. -/
def sS (d : Fin 2) (h : Fin 4) (n : ℕ) : Fin 128 → Fin 256 → EReal :=
  fS (lgr h) (rk (x0 W c) d h) (rv (x1 W c) d h) (stat (x2 W c) d h) n

theorem step0_at (t : Fin cfg0.N) (g : Fin 2) (st : Vec Ideal S4x128x256 .f32) (h : Fin 4)
    (hs : stv (hd st h) = sS W c (dr t.val) h (ch0 t.val g).val) :
    stv (hd (step0 (grid0.coords t) (iblk0 W c 0 t) (pblk0 W c t) g st) h) = sS W c (dr t.val) h ((ch0 t.val g).val + 1) := by
  funext a e
  unfold step0
  rw [hd_allh, lgc_eq, rev0_eq]
  show FS _ _ _ _ _ _ (ix2 a e) = _
  rw [FS_at, k0, v0, hs, gamc_eq]
  exact (fS_succ _ _ _ _ _ _ _).symm

theorem end0_at (t : Fin cfg0.N) (st : Vec Ideal S4x128x256 .f32) (h : Fin 4)
    (hs : stv (hd st h) = sS W c (dr t.val) h (2 * (t.val % 64))) :
    stv (hd (end0 (grid0.coords t) (iblk0 W c 0 t) (pblk0 W c t) st) h) = sS W c (dr t.val) h (2 * (t.val % 64) + 2) :=
  step0_at W c t 1 _ h (step0_at W c t 0 _ h hs)

theorem ent0_of (t : Fin cfg0.N) (h : Fin 4)
    (hp : ∀ (n : ℕ) (hn : n < cfg0.N), n < t.val → stv (hd (car0 W c n hn) h) = sS W c (dr n) h (2 * (n % 64) + 2)) :
    stv (hd (ent0 W c t) h) = sS W c (dr t.val) h (2 * (t.val % 64)) := by
  by_cases h0 : t.val % 64 = 0
  · rw [ent0_first W c t h0, h0]
    funext a e
    exact ib0_2 W c t h a e
  · rw [ent0_next W c t h0, hp _ _ (by omega)]
    rw [show dr (t.val - 1) = dr t.val by unfold dr; rw [show (t.val - 1) / 64 = t.val / 64 by omega],
      show 2 * ((t.val - 1) % 64) + 2 = 2 * (t.val % 64) by omega]

theorem car0_at (h : Fin 4) (n : ℕ) : ∀ hn : n < cfg0.N, stv (hd (car0 W c n hn) h) = sS W c (dr n) h (2 * (n % 64) + 2) := by
  induction n using Nat.strong_induction_on with
  | _ n ih =>
    intro hn
    have e := car0_eq W c ⟨n, hn⟩
    rw [show car0 W c n hn = _ from e]
    exact end0_at W c ⟨n, hn⟩ _ h (ent0_of W c ⟨n, hn⟩ h fun m hm hlt => ih m hlt hm)

theorem st0_at (t : Fin cfg0.N) (g : Fin 2) (h : Fin 4) :
    stv (hd (st0 (grid0.coords t) (iblk0 W c 0 t) (pblk0 W c t) (ent0 W c t) g) h) = sS W c (dr t.val) h (ch0 t.val g).val := by
  have he := ent0_of W c t h fun n hn _ => car0_at W c h n hn
  match g with
  | 0 => exact he
  | 1 => exact step0_at W c t 0 _ h he

/-! ## The arrays that the forward call leaves -/

/-- The saved states: the state before each chunk. -/
def tM : (⟨5, ![2, 128, 4, 128, 256]⟩ : Shape).Idx → EReal := fun j =>
  sS W c (j 0) (j 2) (if (j 0).val = 0 then (j 1).val else 127 - (j 1).val) (j 3) (j 4)

theorem sel_chn0 (t : Fin cfg0.N) (y : Fin 256) (T : Fin 16384) (hT : T.val = 256 * bl0 t.val + y.val) :
    ch0 t.val (sel0 (grid0.coords t) y.val) = chn (dr t.val) T ∧ Fin.ofNat 128 y.val = fl (dr t.val) (rwn (dr t.val) T) := by
  have := lt_of_lt_of_eq t.isLt (show cfg0.N = 128 from rfl)
  have hd := bl0_lt t.val
  constructor
  · refine Fin.ext ?_
    unfold ch0 sel0 chn dr; rw [crd0]
    unfold bl0 at hT
    rcases (by omega : t.val / 64 = 0 ∨ t.val / 64 = 1) with h | h <;>
      rcases (by omega : y.val / 128 = 0 ∨ y.val / 128 = 1) with h' | h' <;> simp [h, h'] at hT ⊢ <;> omega
  · refine Fin.ext ?_
    rw [fl_val]
    show y.val % 128 = _
    unfold rwn dr
    unfold bl0 at hT
    rcases (by omega : t.val / 64 = 0 ∨ t.val / 64 = 1) with h | h <;> simp [h] at hT ⊢ <;> omega

theorem outO_at (t : Fin cfg0.N) (y1 : Fin 256) (y2 : Fin 1024) (T : Fin 16384) (hT : T.val = 256 * bl0 t.val + y1.val) :
    outO (grid0.coords t) (iblk0 W c 0 t) (pblk0 W c t) (ent0 W c t) (ix3 0 y1 y2)
      = tO (x0 W c) (x1 W c) (x2 W c) (ix3 (dr t.val) T y2) := by
  obtain ⟨hn, hr⟩ := sel_chn0 t y1 T hT
  have hh : Fin.ofNat 4 (y2.val / 256) = ⟨y2.val / 256, Nat.div_lt_of_lt_mul y2.isLt⟩ := Fin.ext (Nat.mod_eq_of_lt (Nat.div_lt_of_lt_mul y2.isLt))
  have he : Fin.ofNat 256 y2.val = ⟨y2.val % 256, Nat.mod_lt _ (by omega)⟩ := rfl
  show FO (F := Ideal) (lgc (Fin.ofNat 4 (y2.val / 256))) (rev0 (grid0.coords t))
    (cut 128 (iblk0 W c 0 t) (row0 (grid0.coords t) (sel0 (grid0.coords t) y1.val)) (128 * (Fin.ofNat 4 (y2.val / 256)).val))
    (cut 128 (iblk0 W c 0 t) (row0 (grid0.coords t) (sel0 (grid0.coords t) y1.val)) (512 + 128 * (Fin.ofNat 4 (y2.val / 256)).val))
    (cut 256 (pblk0 W c t) (row0 (grid0.coords t) (sel0 (grid0.coords t) y1.val)) (256 * (Fin.ofNat 4 (y2.val / 256)).val))
    (hd (st0 (grid0.coords t) (iblk0 W c 0 t) (pblk0 W c t) (ent0 W c t) (sel0 (grid0.coords t) y1.val)) (Fin.ofNat 4 (y2.val / 256)))
    (ix2 (Fin.ofNat 128 y1.val) (Fin.ofNat 256 y2.val))
    = eO (x0 W c) (x1 W c) (x2 W c) (dr t.val) T ⟨y2.val / 256, _⟩ ⟨y2.val % 256, _⟩
  rw [hh, he, hr, lgc_eq, rev0_eq, FO_at, q0, k0, v0, st0_at, hn]
  rfl

theorem outS_at (t : Fin cfg0.N) (y1 : Fin 2) (h : Fin 4) (a : Fin 128) (e : Fin 256) (m : Fin 128) (hm : m.val = 2 * bl0 t.val + y1.val) :
    outS (grid0.coords t) (iblk0 W c 0 t) (pblk0 W c t) (ent0 W c t) (ix5 0 y1 h a e) = tM W c (ix5 (dr t.val) m h a e) := by
  have := lt_of_lt_of_eq t.isLt (show cfg0.N = 128 from rfl)
  refine (congrFun (congrFun (st0_at W c t (sel0 (grid0.coords t) (128 * y1.val)) h) a) e).trans ?_
  show _ = sS W c (dr t.val) h (if (dr t.val).val = 0 then m.val else 127 - m.val) a e
  have hn : (ch0 t.val (sel0 (grid0.coords t) (128 * y1.val))).val = if (dr t.val).val = 0 then m.val else 127 - m.val := by
    unfold ch0 sel0 dr; rw [crd0]
    unfold bl0 at hm
    rcases (by omega : t.val / 64 = 0 ∨ t.val / 64 = 1) with h | h <;>
      rcases (by omega : y1.val = 0 ∨ y1.val = 1) with h' | h' <;> simp [h, h'] at hm ⊢ <;> omega
  rw [hn]

theorem arr0_3 : (dat0 W c).arrAt 3 cfg0.N = tO (x0 W c) (x1 W c) (x2 W c) := by
  refine (dat0 W c).arrAt_eq_of_covers 3 _ (by decide +kernel) fun t _ y => ?_
  have hd := dr_val t.val (lt_of_lt_of_eq t.isLt (show cfg0.N = 128 from rfl))
  have hb := bl0_lt t.val
  blk_simp
  rw [after0_3]
  idx_vars y
  refine (outO_at W c t y1 y2 ⟨256 * bl0 t.val + y1.val, by omega⟩ rfl).trans ?_
  blk_ext [idx0 t, hd]

theorem arr0_4 : (dat0 W c).arrAt 4 cfg0.N = tM W c := by
  refine (dat0 W c).arrAt_eq_of_covers 4 _ (by decide +kernel) fun t _ y => ?_
  have hd := dr_val t.val (lt_of_lt_of_eq t.isLt (show cfg0.N = 128 from rfl))
  have hb := bl0_lt t.val
  blk_simp
  rw [after0_4]
  idx_vars y
  refine (outS_at W c t y1 y2 y3 y4 ⟨2 * bl0 t.val + y1.val, by omega⟩ rfl).trans ?_
  blk_ext [idx0 t, hd]

theorem arr0_5 : (dat0 W c).arrAt 5 cfg0.N = tF (x0 W c) (x1 W c) (x2 W c) := by
  refine (dat0 W c).arrAt_eq_of_covers 5 _ (by decide +kernel) fun t hf y => ?_
  have hd := dr_val t.val (lt_of_lt_of_eq t.isLt (show cfg0.N = 128 from rfl))
  have h63 : t.val % 64 = 63 := by
    by_contra h; rw [noFlush0 t h] at hf; exact Bool.false_ne_true hf
  blk_simp
  rw [after0_5]
  idx_vars y
  refine (congrFun (congrFun (car0_at W c y1 t.val t.isLt) y2) y3).trans ?_
  rw [h63]
  show tF (x0 W c) (x1 W c) (x2 W c) (ix4 (dr t.val) y1 y2 y3) = _
  blk_ext [idx0 t, hd]

end Cert.KernelIdeal.Ret

end
-- ==== Proof.KerVal1.lean ====
/- What the backward call computes: every block it writes is the reference's mathematics on the rows of that block,
   the carried gradient of the state being the recurrence over the chunks visited so far, from the last one on. -/
module

public import proofs.«01_k».proof.Proof.KerVal

@[expose] public section

set_option maxRecDepth 16384

noncomputable section

namespace Cert.KernelIdeal.Ret

open Idealize.ShloMosaic Idealize.ShloMosaic.TcCoe
open Cert.KernelIdeal Cert.KernelIdeal.Gen Cert.Spec
open Idealize.ShloMosaic.Pipeline (Dat)

/-- The block of rows that grid point `t` of the backward call reads and writes. -/
def bl1 (t : ℕ) : ℕ := if t / 64 = 0 then 63 - t % 64 else t % 64
/-- The chunk that the backward call visits as number `g` at a grid point. -/
def ch1 (n : ℕ) (g : Fin 2) : Fin 128 := ⟨127 - (2 * (n % 64) + g.val), by omega⟩
/-- How many chunks the backward call has visited before it. -/
def cn1 (n : ℕ) (g : Fin 2) : ℕ := 2 * (n % 64) + g.val

theorem bl1_lt (t : ℕ) : bl1 t < 64 := by unfold bl1; split <;> omega

theorem fG_succ (l : ℝ) (q : Fin 128 → Fin 128 → Fin 128 → EReal) (y : Fin 128 → Fin 128 → Fin 256 → EReal)
    (s : Fin 128 → Fin 256 → EReal) (n : ℕ) (g : Fin 2) (a : Fin 128) (e : Fin 256) :
    fG l q y s (cn1 n g + 1) a e = fG l q y s (cn1 n g) a e * ew l 128 + sDS l (q (ch1 n g)) (y (ch1 n g)) a e := by
  have h : Fin.ofNat 128 (127 - cn1 n g) = ch1 n g := Fin.ext (Nat.mod_eq_of_lt (by omega))
  unfold fG; rw [rc, h]

theorem idx1 : ∀ t : Fin cfg1.N, win1_0.index t = ![bl1 t.val, 0] ∧ win1_1.index t = ![bl1 t.val, 1] ∧ win1_2.index t = ![t.val / 64, bl1 t.val, 0, 0, 0]
    ∧ win1_3.index t = ![bl1 t.val, 0] ∧ win1_4.index t = ![t.val / 64, 0, 0, 0] ∧ win1_5.index t = ![t.val / 64, bl1 t.val, 0]
    ∧ win1_6.index t = ![t.val / 64, bl1 t.val, 0] ∧ win1_7.index t = ![t.val / 64, 0, 0, 0] :=
  (by decide +kernel : ∀ t : Fin grid1.N, _)

theorem crd1 (t : Fin cfg1.N) : (grid1.coords t 0).val = t.val / 64 := by
  have h : (grid1.coords t 0).val = t.val / 64 % 2 := Pipeline.Grid.coords_val t 0 (by decide) rfl
  have := lt_of_lt_of_eq t.isLt (show cfg1.N = 128 from rfl)
  omega

theorem rev1_eq (t : Fin cfg1.N) : rev1 (grid1.coords t) = fb (dr t.val) := by
  have := lt_of_lt_of_eq t.isLt (show cfg1.N = 128 from rfl)
  unfold rev1 fb dr; rw [crd1]
  rcases (by omega : t.val / 64 = 0 ∨ t.val / 64 = 1) with h | h <;> rw [h] <;> rfl

theorem row_tok1 (t : Fin cfg1.N) (g : Fin 2) (r : Fin 128) :
    (tok (dr t.val) (ch1 t.val g) r).val = 256 * bl1 t.val + row1 (grid1.coords t) g + (fl (dr t.val) r).val := by
  have := lt_of_lt_of_eq t.isLt (show cfg1.N = 128 from rfl)
  rw [fl_val]
  unfold tok ch1 bl1 dr row1
  fin_cases g <;> simp only [crd1] <;>
    rcases (by omega : t.val / 64 = 0 ∨ t.val / 64 = 1) with h | h <;> simp [h] <;> omega

theorem row_le1 (t : Fin cfg1.N) (g : Fin 2) : row1 (grid1.coords t) g ≤ 128 := by
  have := lt_of_lt_of_eq t.isLt (show cfg1.N = 128 from rfl)
  unfold row1
  fin_cases g <;> simp only [crd1] <;> omega

variable (W : Dev nD → Valuation τ sig (Elt Ideal)) (c : Dev nD)

/-- The output's gradient. -/
abbrev x3 : (⟨2, ![16384, 1024]⟩ : Shape).Idx → EReal := W c (Proc.devRef .tc main_arg3)
/-- The gradient of the last states. -/
abbrev x4 : (⟨4, ![2, 4, 128, 256]⟩ : Shape).Idx → EReal := W c (Proc.devRef .tc main_arg4)
/-- The saved states. -/
abbrev xm : (⟨5, ![2, 128, 4, 128, 256]⟩ : Shape).Idx → EReal := W c (Proc.devRef .tc main_v0_1)

theorem ib1_0 (t : Fin cfg1.N) (R : Fin 256) (C : Fin 1024) :
    (iblk1 W c 0 t : Vec Ideal S256x1024 .f32) (ix2 R C)
      = x0 W c (ix2 ⟨256 * bl1 t.val + R.val, by have := bl1_lt t.val; omega⟩ ⟨0 + C.val, by omega⟩) := by
  blk_ext [iblk1, idx1 t]

theorem ib1_1 (t : Fin cfg1.N) (R : Fin 256) (C : Fin 1024) :
    (pblk1 W c t) (ix2 R C)
      = x1 W c (ix2 ⟨256 * bl1 t.val + R.val, by have := bl1_lt t.val; omega⟩ ⟨1024 + C.val, by omega⟩) := by
  rw [pblk1_apply]
  blk_ext [iblk1, idx1 t]

theorem ib1_3 (t : Fin cfg1.N) (R : Fin 256) (C : Fin 1024) :
    (iblk1 W c 3 t : Vec Ideal S256x1024 .f32) (ix2 R C)
      = x3 W c (ix2 ⟨256 * bl1 t.val + R.val, by have := bl1_lt t.val; omega⟩ ⟨0 + C.val, by omega⟩) := by
  blk_ext [iblk1, idx1 t]

theorem ib1_2 (t : Fin cfg1.N) (b : Fin 2) (h : Fin 4) (a : Fin 128) (e : Fin 256) :
    (iblk1 W c 2 t : Vec Ideal S1x2x4x128x256 .bf16) (ix5 0 b h a e)
      = xm W c (ix5 (dr t.val) ⟨2 * bl1 t.val + b.val, by have := bl1_lt t.val; omega⟩ h a e) := by
  have hd := dr_val t.val (lt_of_lt_of_eq t.isLt (show cfg1.N = 128 from rfl))
  blk_ext [iblk1, idx1 t, hd]

theorem ib1_4 (t : Fin cfg1.N) (a : Fin 4) (b : Fin 128) (e : Fin 256) :
    (iblk1 W c 4 t : Vec Ideal S1x4x128x256 .f32) (ix4 0 a b e) = x4 W c (ix4 (dr t.val) a b e) := by
  have h := dr_val t.val (lt_of_lt_of_eq t.isLt (show cfg1.N = 128 from rfl))
  blk_ext [iblk1, idx1 t, h]

theorem q1 (t : Fin cfg1.N) (g : Fin 2) (h : Fin 4) :
    flw (dr t.val) (cut 128 (iblk1 W c 0 t) (row1 (grid1.coords t) g) (128 * h.val)) = rq (x0 W c) (dr t.val) h (ch1 t.val g) := by
  funext r a
  exact cut_tok (x0 W c) _ (bl1 t.val) 0 (bl1_lt _) (by omega) (ib1_0 W c t) _ _ _ (ch1 t.val g) r a (row_le1 t g) (by omega) (row_tok1 t g r)

theorem k1 (t : Fin cfg1.N) (g : Fin 2) (h : Fin 4) :
    flw (dr t.val) (cut 128 (iblk1 W c 0 t) (row1 (grid1.coords t) g) (512 + 128 * h.val)) = rk (x0 W c) (dr t.val) h (ch1 t.val g) := by
  funext r a
  refine (cut_tok (x0 W c) _ (bl1 t.val) 0 (bl1_lt _) (by omega) (ib1_0 W c t) _ _ _ (ch1 t.val g) r a (row_le1 t g) (by omega) (row_tok1 t g r)).trans ?_
  exact congrArg (x0 W c) (congrArg (ix2 _) (Fin.ext (by show 0 + (512 + 128 * h.val + a.val) = 512 + (128 * h.val + a.val); omega)))

theorem v1 (t : Fin cfg1.N) (g : Fin 2) (h : Fin 4) :
    flw (dr t.val) (cut 256 (pblk1 W c t) (row1 (grid1.coords t) g) (256 * h.val)) = rv (x1 W c) (dr t.val) h (ch1 t.val g) := by
  funext r a
  exact cut_tok (x1 W c) _ (bl1 t.val) 1024 (bl1_lt _) (by omega) (ib1_1 W c t) _ _ _ (ch1 t.val g) r a (row_le1 t g) (by omega) (row_tok1 t g r)

theorem y1 (t : Fin cfg1.N) (g : Fin 2) (h : Fin 4) :
    flw (dr t.val) (cut 256 (iblk1 W c 3 t) (row1 (grid1.coords t) g) (256 * h.val)) = ry (x3 W c) (dr t.val) h (ch1 t.val g) := by
  funext r a
  exact cut_tok (x3 W c) _ (bl1 t.val) 0 (bl1_lt _) (by omega) (ib1_3 W c t) _ _ _ (ch1 t.val g) r a (row_le1 t g) (by omega) (row_tok1 t g r)

/-- The gradient of a head's state before the last `n` chunks. -/
def sG (d : Fin 2) (h : Fin 4) (n : ℕ) : Fin 128 → Fin 256 → EReal :=
  fG (lgr h) (rq (x0 W c) d h) (ry (x3 W c) d h) (stat (x4 W c) d h) n

theorem step1_at (t : Fin cfg1.N) (g : Fin 2) (st : Vec Ideal S4x128x256 .f32) (h : Fin 4)
    (hs : stv (hd st h) = sG W c (dr t.val) h (cn1 t.val g)) :
    stv (hd (step1 (grid1.coords t) (iblk1 W c 0 t) (iblk1 W c 3 t) g st) h) = sG W c (dr t.val) h (cn1 t.val g + 1) := by
  funext a e
  unfold step1
  rw [hd_allh, lgc_eq, rev1_eq]
  show BS _ _ _ _ _ _ (ix2 a e) = _
  rw [BS_at, q1, y1, hs, gamc_eq]
  exact (fG_succ _ _ _ _ _ _ _ _).symm

theorem end1_at (t : Fin cfg1.N) (st : Vec Ideal S4x128x256 .f32) (h : Fin 4)
    (hs : stv (hd st h) = sG W c (dr t.val) h (2 * (t.val % 64))) :
    stv (hd (end1 (grid1.coords t) (iblk1 W c 0 t) (iblk1 W c 3 t) st) h) = sG W c (dr t.val) h (2 * (t.val % 64) + 2) :=
  step1_at W c t 1 _ h (step1_at W c t 0 _ h hs)

theorem ent1_of (t : Fin cfg1.N) (h : Fin 4)
    (hp : ∀ (n : ℕ) (hn : n < cfg1.N), n < t.val → stv (hd (car1 W c n hn) h) = sG W c (dr n) h (2 * (n % 64) + 2)) :
    stv (hd (ent1 W c t) h) = sG W c (dr t.val) h (2 * (t.val % 64)) := by
  by_cases h0 : t.val % 64 = 0
  · rw [ent1_first W c t h0, h0]
    funext a e
    exact ib1_4 W c t h a e
  · rw [ent1_next W c t h0, hp _ _ (by omega)]
    rw [show dr (t.val - 1) = dr t.val by unfold dr; rw [show (t.val - 1) / 64 = t.val / 64 by omega],
      show 2 * ((t.val - 1) % 64) + 2 = 2 * (t.val % 64) by omega]

theorem car1_at (h : Fin 4) (n : ℕ) : ∀ hn : n < cfg1.N, stv (hd (car1 W c n hn) h) = sG W c (dr n) h (2 * (n % 64) + 2) := by
  induction n using Nat.strong_induction_on with
  | _ n ih =>
    intro hn
    have e := car1_eq W c ⟨n, hn⟩
    rw [show car1 W c n hn = _ from e]
    exact end1_at W c ⟨n, hn⟩ _ h (ent1_of W c ⟨n, hn⟩ h fun m hm hlt => ih m hlt hm)

theorem st1_at (t : Fin cfg1.N) (g : Fin 2) (h : Fin 4) :
    stv (hd (st1 (grid1.coords t) (iblk1 W c 0 t) (iblk1 W c 3 t) (ent1 W c t) g) h) = sG W c (dr t.val) h (cn1 t.val g) := by
  have he := ent1_of W c t h fun n hn _ => car1_at W c h n hn
  match g with
  | 0 => exact he
  | 1 => exact step1_at W c t 0 _ h he

theorem sav_at (hM : xm W c = tM W c) (t : Fin cfg1.N) (g : Fin 2) (h : Fin 4) :
    stv (sav (grid1.coords t) (iblk1 W c 2 t) g h) = sS W c (dr t.val) h (ch1 t.val g).val := by
  have := lt_of_lt_of_eq t.isLt (show cfg1.N = 128 from rfl)
  funext a e
  refine (ib1_2 W c t (Fin.ofNat 2 (row1 (grid1.coords t) g / 128)) h a e).trans ?_
  rw [hM]
  have hn : (if (dr t.val).val = 0 then 2 * bl1 t.val + row1 (grid1.coords t) g / 128 % 2 else 127 - (2 * bl1 t.val + row1 (grid1.coords t) g / 128 % 2))
      = (ch1 t.val g).val := by
    unfold ch1 bl1 dr row1
    fin_cases g <;> simp only [crd1] <;>
      rcases (by omega : t.val / 64 = 0 ∨ t.val / 64 = 1) with h | h <;> simp [h] <;> omega
  exact congrArg (fun n => sS W c (dr t.val) h n a e) hn

/-! ## The arrays that the backward call leaves -/

theorem sel_chn1 (t : Fin cfg1.N) (y : Fin 256) (T : Fin 16384) (hT : T.val = 256 * bl1 t.val + y.val) :
    ch1 t.val (sel1 (grid1.coords t) y.val) = chn (dr t.val) T ∧ Fin.ofNat 128 y.val = fl (dr t.val) (rwn (dr t.val) T)
      ∧ cn1 t.val (sel1 (grid1.coords t) y.val) = 127 - (chn (dr t.val) T).val := by
  have := lt_of_lt_of_eq t.isLt (show cfg1.N = 128 from rfl)
  have hd := bl1_lt t.val
  have h1 : ch1 t.val (sel1 (grid1.coords t) y.val) = chn (dr t.val) T := by
    refine Fin.ext ?_
    unfold ch1 sel1 chn dr; rw [crd1]
    unfold bl1 at hT
    rcases (by omega : t.val / 64 = 0 ∨ t.val / 64 = 1) with h | h <;>
      rcases (by omega : y.val / 128 = 0 ∨ y.val / 128 = 1) with h' | h' <;> simp [h, h'] at hT ⊢ <;> omega
  refine ⟨h1, ?_, ?_⟩
  · refine Fin.ext ?_
    rw [fl_val]
    show y.val % 128 = _
    unfold rwn dr
    unfold bl1 at hT
    rcases (by omega : t.val / 64 = 0 ∨ t.val / 64 = 1) with h | h <;> simp [h] at hT ⊢ <;> omega
  · rw [← h1]; unfold cn1 ch1; show _ = 127 - (127 - _); omega

theorem outQK_at (hM : xm W c = tM W c) (t : Fin cfg1.N) (y1 : Fin 256) (y2 : Fin 1024) (T : Fin 16384) (hT : T.val = 256 * bl1 t.val + y1.val) :
    outQK (grid1.coords t) (iblk1 W c 0 t) (pblk1 W c t) (iblk1 W c 2 t) (iblk1 W c 3 t) (ent1 W c t) (ix3 0 y1 y2)
      = tQK (x0 W c) (x1 W c) (x2 W c) (x3 W c) (x4 W c) (ix3 (dr t.val) T y2) := by
  obtain ⟨hn, hr, hc⟩ := sel_chn1 t y1 T hT
  have hh : Fin.ofNat 4 (y2.val / 128) = ⟨y2.val % 512 / 128, by omega⟩ := Fin.ext (by show y2.val / 128 % 4 = y2.val % 512 / 128; omega)
  have he : Fin.ofNat 128 y2.val = ⟨y2.val % 128, Nat.mod_lt _ (by omega)⟩ := rfl
  show (if y2.val < 512 then
      BQ (F := Ideal) (lgc (Fin.ofNat 4 (y2.val / 128))) (rev1 (grid1.coords t))
        (cut 128 (iblk1 W c 0 t) (row1 (grid1.coords t) (sel1 (grid1.coords t) y1.val)) (512 + 128 * (Fin.ofNat 4 (y2.val / 128)).val))
        (cut 256 (pblk1 W c t) (row1 (grid1.coords t) (sel1 (grid1.coords t) y1.val)) (256 * (Fin.ofNat 4 (y2.val / 128)).val))
        (sav (grid1.coords t) (iblk1 W c 2 t) (sel1 (grid1.coords t) y1.val) (Fin.ofNat 4 (y2.val / 128)))
        (cut 256 (iblk1 W c 3 t) (row1 (grid1.coords t) (sel1 (grid1.coords t) y1.val)) (256 * (Fin.ofNat 4 (y2.val / 128)).val))
        (ix2 (Fin.ofNat 128 y1.val) (Fin.ofNat 128 y2.val))
    else
      BK (F := Ideal) (lgc (Fin.ofNat 4 (y2.val / 128))) (rev1 (grid1.coords t))
        (cut 128 (iblk1 W c 0 t) (row1 (grid1.coords t) (sel1 (grid1.coords t) y1.val)) (128 * (Fin.ofNat 4 (y2.val / 128)).val))
        (cut 256 (pblk1 W c t) (row1 (grid1.coords t) (sel1 (grid1.coords t) y1.val)) (256 * (Fin.ofNat 4 (y2.val / 128)).val))
        (cut 256 (iblk1 W c 3 t) (row1 (grid1.coords t) (sel1 (grid1.coords t) y1.val)) (256 * (Fin.ofNat 4 (y2.val / 128)).val))
        (hd (st1 (grid1.coords t) (iblk1 W c 0 t) (iblk1 W c 3 t) (ent1 W c t) (sel1 (grid1.coords t) y1.val)) (Fin.ofNat 4 (y2.val / 128)))
        (ix2 (Fin.ofNat 128 y1.val) (Fin.ofNat 128 y2.val)))
    = if y2.val < 512 then
        eQ (x0 W c) (x1 W c) (x2 W c) (x3 W c) (dr t.val) T ⟨y2.val % 512 / 128, _⟩ ⟨y2.val % 128, _⟩
      else
        eK (x0 W c) (x1 W c) (x3 W c) (x4 W c) (dr t.val) T ⟨y2.val % 512 / 128, _⟩ ⟨y2.val % 128, _⟩
  split
  · rw [hh, he, hr, lgc_eq, rev1_eq, BQ_at, k1, v1, KernelIdeal.Ret.y1, sav_at W c hM, hn]
    rfl
  · rw [hh, he, hr, lgc_eq, rev1_eq, BK_at, q1, v1, KernelIdeal.Ret.y1, st1_at, hc, hn]
    rfl

theorem outV_at (t : Fin cfg1.N) (y1 : Fin 256) (y2 : Fin 1024) (T : Fin 16384) (hT : T.val = 256 * bl1 t.val + y1.val) :
    outV (grid1.coords t) (iblk1 W c 0 t) (iblk1 W c 3 t) (ent1 W c t) (ix3 0 y1 y2)
      = tV (x0 W c) (x3 W c) (x4 W c) (ix3 (dr t.val) T y2) := by
  obtain ⟨hn, hr, hc⟩ := sel_chn1 t y1 T hT
  have hh : Fin.ofNat 4 (y2.val / 256) = ⟨y2.val / 256, Nat.div_lt_of_lt_mul y2.isLt⟩ := Fin.ext (Nat.mod_eq_of_lt (Nat.div_lt_of_lt_mul y2.isLt))
  have he : Fin.ofNat 256 y2.val = ⟨y2.val % 256, Nat.mod_lt _ (by omega)⟩ := rfl
  show BV (F := Ideal) (lgc (Fin.ofNat 4 (y2.val / 256))) (rev1 (grid1.coords t))
    (cut 128 (iblk1 W c 0 t) (row1 (grid1.coords t) (sel1 (grid1.coords t) y1.val)) (128 * (Fin.ofNat 4 (y2.val / 256)).val))
    (cut 128 (iblk1 W c 0 t) (row1 (grid1.coords t) (sel1 (grid1.coords t) y1.val)) (512 + 128 * (Fin.ofNat 4 (y2.val / 256)).val))
    (cut 256 (iblk1 W c 3 t) (row1 (grid1.coords t) (sel1 (grid1.coords t) y1.val)) (256 * (Fin.ofNat 4 (y2.val / 256)).val))
    (hd (st1 (grid1.coords t) (iblk1 W c 0 t) (iblk1 W c 3 t) (ent1 W c t) (sel1 (grid1.coords t) y1.val)) (Fin.ofNat 4 (y2.val / 256)))
    (ix2 (Fin.ofNat 128 y1.val) (Fin.ofNat 256 y2.val))
    = eV (x0 W c) (x3 W c) (x4 W c) (dr t.val) T ⟨y2.val / 256, _⟩ ⟨y2.val % 256, _⟩
  rw [hh, he, hr, lgc_eq, rev1_eq, BV_at, q1, k1, KernelIdeal.Ret.y1, st1_at, hc, hn]
  rfl

theorem arr1_5 (hM : xm W c = tM W c) : (dat1 W c).arrAt 5 cfg1.N = tQK (x0 W c) (x1 W c) (x2 W c) (x3 W c) (x4 W c) := by
  refine (dat1 W c).arrAt_eq_of_covers 5 _ (by decide +kernel) fun t _ y => ?_
  have hd := dr_val t.val (lt_of_lt_of_eq t.isLt (show cfg1.N = 128 from rfl))
  have hb := bl1_lt t.val
  blk_simp
  rw [after1_5]
  idx_vars y
  refine (outQK_at W c hM t y1 y2 ⟨256 * bl1 t.val + y1.val, by omega⟩ rfl).trans ?_
  blk_ext [idx1 t, hd]

theorem arr1_6 : (dat1 W c).arrAt 6 cfg1.N = tV (x0 W c) (x3 W c) (x4 W c) := by
  refine (dat1 W c).arrAt_eq_of_covers 6 _ (by decide +kernel) fun t _ y => ?_
  have hd := dr_val t.val (lt_of_lt_of_eq t.isLt (show cfg1.N = 128 from rfl))
  have hb := bl1_lt t.val
  blk_simp
  rw [after1_6]
  idx_vars y
  refine (outV_at W c t y1 y2 ⟨256 * bl1 t.val + y1.val, by omega⟩ rfl).trans ?_
  blk_ext [idx1 t, hd]

theorem arr1_7 : (dat1 W c).arrAt 7 cfg1.N = tS (x0 W c) (x3 W c) (x4 W c) := by
  refine (dat1 W c).arrAt_eq_of_covers 7 _ (by decide +kernel) fun t hf y => ?_
  have hd := dr_val t.val (lt_of_lt_of_eq t.isLt (show cfg1.N = 128 from rfl))
  have h63 : t.val % 64 = 63 := by
    by_contra h; rw [noFlush1 t h] at hf; exact Bool.false_ne_true hf
  blk_simp
  rw [after1_7]
  idx_vars y
  refine (congrFun (congrFun (car1_at W c y1 t.val t.isLt) y2) y3).trans ?_
  rw [h63]
  show tS (x0 W c) (x3 W c) (x4 W c) (ix4 (dr t.val) y1 y2 y3) = _
  blk_ext [idx1 t, hd]

/-! ## The five results after both calls -/

variable (m : (ℓ : Loc nD τ sig) → Buf (Elt Ideal) ℓ)

theorem U1_x0 : x0 (U1 m) c = m ((c : Thread nD τ).loc main_arg0) :=
  (Pipeline.afterRegion_keeps (dat0 (U0 m) c) (U0 m c) winFacts0.arr_inj (fun w => A0_eq (U0 m) c w) main_arg0 (by decide)).trans rfl
theorem U1_x1 : x1 (U1 m) c = m ((c : Thread nD τ).loc main_arg1) :=
  (Pipeline.afterRegion_keeps (dat0 (U0 m) c) (U0 m c) winFacts0.arr_inj (fun w => A0_eq (U0 m) c w) main_arg1 (by decide)).trans rfl
theorem U1_x2 : x2 (U1 m) c = m ((c : Thread nD τ).loc main_arg2) :=
  (Pipeline.afterRegion_keeps (dat0 (U0 m) c) (U0 m c) winFacts0.arr_inj (fun w => A0_eq (U0 m) c w) main_arg2 (by decide)).trans rfl
theorem U1_x3 : x3 (U1 m) c = m ((c : Thread nD τ).loc main_arg3) :=
  (Pipeline.afterRegion_keeps (dat0 (U0 m) c) (U0 m c) winFacts0.arr_inj (fun w => A0_eq (U0 m) c w) main_arg3 (by decide)).trans rfl
theorem U1_x4 : x4 (U1 m) c = m ((c : Thread nD τ).loc main_arg4) :=
  (Pipeline.afterRegion_keeps (dat0 (U0 m) c) (U0 m c) winFacts0.arr_inj (fun w => A0_eq (U0 m) c w) main_arg4 (by decide)).trans rfl

/-- The saved states that the backward call reads are the ones that the forward call wrote. -/
theorem U1_xm : xm (U1 m) c = tM (U1 m) c := by
  have e : tM (U1 m) c = tM (U0 m) c := by
    unfold tM sS; rw [U1_x0, U1_x1, U1_x2]; rfl
  rw [e]
  exact (Pipeline.afterRegion_arr (dat0 (U0 m) c) (U0 m c) winFacts0.arr_inj 4).trans (arr0_4 (U0 m) c)

theorem U2_o : U2 m c (Proc.devRef .tc main_v0_0)
    = tO (m ((c : Thread nD τ).loc main_arg0)) (m ((c : Thread nD τ).loc main_arg1)) (m ((c : Thread nD τ).loc main_arg2)) :=
  (Pipeline.afterRegion_of_not_arr (dat1 (U1 m) c) (U1 m c) (by decide)).trans
    ((Pipeline.afterRegion_arr (dat0 (U0 m) c) (U0 m c) winFacts0.arr_inj 3).trans (arr0_3 (U0 m) c))

theorem U2_f : U2 m c (Proc.devRef .tc main_v0_2)
    = tF (m ((c : Thread nD τ).loc main_arg0)) (m ((c : Thread nD τ).loc main_arg1)) (m ((c : Thread nD τ).loc main_arg2)) :=
  (Pipeline.afterRegion_of_not_arr (dat1 (U1 m) c) (U1 m c) (by decide)).trans
    ((Pipeline.afterRegion_arr (dat0 (U0 m) c) (U0 m c) winFacts0.arr_inj 5).trans (arr0_5 (U0 m) c))

theorem U2_qk : U2 m c (Proc.devRef .tc main_v1_0)
    = tQK (m ((c : Thread nD τ).loc main_arg0)) (m ((c : Thread nD τ).loc main_arg1)) (m ((c : Thread nD τ).loc main_arg2))
        (m ((c : Thread nD τ).loc main_arg3)) (m ((c : Thread nD τ).loc main_arg4)) := by
  refine (Pipeline.afterRegion_arr (dat1 (U1 m) c) (U1 m c) winFacts1.arr_inj 5).trans ((arr1_5 (U1 m) c (U1_xm c m)).trans ?_)
  rw [U1_x0, U1_x1, U1_x2, U1_x3, U1_x4]

theorem U2_v : U2 m c (Proc.devRef .tc main_v1_1)
    = tV (m ((c : Thread nD τ).loc main_arg0)) (m ((c : Thread nD τ).loc main_arg3)) (m ((c : Thread nD τ).loc main_arg4)) := by
  refine (Pipeline.afterRegion_arr (dat1 (U1 m) c) (U1 m c) winFacts1.arr_inj 6).trans ((arr1_6 (U1 m) c).trans ?_)
  rw [U1_x0, U1_x3, U1_x4]

theorem U2_s : U2 m c (Proc.devRef .tc main_v1_2)
    = tS (m ((c : Thread nD τ).loc main_arg0)) (m ((c : Thread nD τ).loc main_arg3)) (m ((c : Thread nD τ).loc main_arg4)) := by
  refine (Pipeline.afterRegion_arr (dat1 (U1 m) c) (U1 m c) winFacts1.arr_inj 7).trans ((arr1_7 (U1 m) c).trans ?_)
  rw [U1_x0, U1_x3, U1_x4]

end Cert.KernelIdeal.Ret

end
-- ==== Proof.RefVal.lean ====
/- The reference's run read at one entry over the extended reals: its intermediate arrays are the sums of the
   mathematics, direction by direction. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Ret

open Idealize.ShloMosaic Idealize.ShloMosaic.TcCoe
open Cert.ReferenceIdeal Cert.ReferenceIdeal.Gen Cert.ReferenceIdeal.Value Cert.Spec

variable (V0 : Valuation τ sig (Elt Ideal))

/-- The arguments as arrays of extended reals. -/
abbrev X0 : (⟨2, ![16384, 1024]⟩ : Shape).Idx → EReal := V0 (Proc.devRef .tc main_arg0)
/-- The second argument. -/
abbrev X1 : (⟨2, ![16384, 8320]⟩ : Shape).Idx → EReal := V0 (Proc.devRef .tc main_arg1)
/-- The states before the first chunks. -/
abbrev X2 : (⟨4, ![2, 4, 128, 256]⟩ : Shape).Idx → EReal := V0 (Proc.devRef .tc main_arg2)
/-- The output's gradient. -/
abbrev X3 : (⟨2, ![16384, 1024]⟩ : Shape).Idx → EReal := V0 (Proc.devRef .tc main_arg3)
/-- The last states' gradient. -/
abbrev X4 : (⟨4, ![2, 4, 128, 256]⟩ : Shape).Idx → EReal := V0 (Proc.devRef .tc main_arg4)

/-- Queries, keys, values and the output's gradient of direction `d` and head `h`. -/
abbrev qf (d : Fin 2) (h : Fin 4) := row128 (X0 V0) 0 (by omega) d h
/-- The keys. -/
abbrev kf (d : Fin 2) (h : Fin 4) := row128 (X0 V0) 512 (by omega) d h
/-- The values. -/
abbrev vf (d : Fin 2) (h : Fin 4) := row256 (X1 V0) 1024 (by omega) d h
/-- The output's gradient. -/
abbrev yf (d : Fin 2) (h : Fin 4) := row256 (X3 V0) 0 (by omega) d h

/-- The state before chunk `n` as the weighted sum over the chunks. -/
theorem rf_closed (l : ℝ) (k : Fin 128 → Fin 128 → Fin 128 → EReal) (v : Fin 128 → Fin 128 → Fin 256 → EReal)
    (s : Fin 128 → Fin 256 → EReal) (n : ℕ) (hn : n ≤ 128) {a : Fin 128} {e : Fin 256} :
    fS l k v s n a e = ew l (128 * (n : ℝ)) * s a e + ∑ m : Fin 128, wt l n m.val * sKV l (k m) (v m) a e := by
  unfold fS
  rw [rc_closed l _ _ n hn]
  have h : ∀ m : Fin 128, Fin.ofNat 128 m.val = m := fun m => Fin.ext (Nat.mod_eq_of_lt m.isLt)
  simp only [h]

/-- The gradient of a state as the weighted sum over the chunks that come after. -/
theorem rg_sum (l : ℝ) (q : Fin 128 → Fin 128 → Fin 128 → EReal) (y : Fin 128 → Fin 128 → Fin 256 → EReal)
    (g : Fin 128 → Fin 256 → EReal) (n : ℕ) (hn : n ≤ 128) {a : Fin 128} {e : Fin 256} :
    fG l q y g n a e = ew l (128 * (n : ℝ)) * g a e + ∑ m : Fin 128, wt l n (127 - m.val) * sDS l (q m) (y m) a e := by
  unfold fG
  rw [rc_closed l _ _ n hn, ← Equiv.sum_comp Fin.revPerm]
  refine congrArg _ (Finset.sum_congr rfl fun m _ => ?_)
  have e1 : (Fin.revPerm m).val = 127 - m.val := by rw [Fin.revPerm_apply, Fin.val_rev]; omega
  have e2 : Fin.ofNat 128 (127 - (127 - m.val)) = m := Fin.ext (by show (127 - (127 - m.val)) % 128 = m.val; omega)
  rw [e1, e2]

theorem rg_closed (l : ℝ) (q : Fin 128 → Fin 128 → Fin 128 → EReal) (y : Fin 128 → Fin 128 → Fin 256 → EReal)
    (g : Fin 128 → Fin 256 → EReal) (n : Fin 128) {a : Fin 128} {e : Fin 256} :
    ew l (128 * (127 - (n.val : ℝ))) * g a e + ∑ m : Fin 128, sDS l (q m) (y m) a e * wt l m.val n.val
      = fG l q y g (127 - n.val) a e := by
  rw [rg_sum l q y g _ (by omega)]
  have hn : ((127 - n.val : ℕ) : ℝ) = 127 - (n.val : ℝ) := by rw [Nat.cast_sub (by omega)]; norm_num
  rw [hn]
  refine congrArg _ (Finset.sum_congr rfl fun m _ => ?_)
  rw [mul_comm]
  refine congrArg (· * _) ?_
  unfold wt
  rw [hn, Nat.cast_sub (show m.val ≤ 127 by omega)]
  by_cases h : n.val + 1 ≤ m.val
  · rw [if_pos h, if_pos (by omega)]; congr 2; push_cast; ring
  · rw [if_neg h, if_neg (by omega)]

theorem lg_at (h : Fin 4) : res_main_v6 (F := Ideal) V0 (ix1 h) = ((lgr h : ℝ) : EReal) := by
  pointwise [res_main_v6]
  exact log_decay h

/-! ## Direction 0 -/

theorem Q_0 (h : Fin 4) (n r : Fin 128) (a : Fin 128) : res_main_v20 (F := Ideal) V0 (ix4 h n r a) = qf V0 0 h n r a := by
  pointwise [res_main_v20, res_main_v9]
  unfold qf row128 tok
  first | rw [if_pos (show ((0 : Fin 2) = 0) by decide)] | rw [if_neg (show ¬((0 : Fin 2) = 0) by decide)]
  refine congrArg _ (congrArg₂ ix2 (Fin.ext ?_) (Fin.ext ?_))
  · show n.val * 128 + r.val = _
    simp only []; omega
  · show (h.val * 128 + a.val) = _
    simp only []; omega
theorem K_0 (h : Fin 4) (n r : Fin 128) (a : Fin 128) : res_main_v21 (F := Ideal) V0 (ix4 h n r a) = kf V0 0 h n r a := by
  pointwise [res_main_v21, res_main_v12]
  unfold kf row128 tok
  first | rw [if_pos (show ((0 : Fin 2) = 0) by decide)] | rw [if_neg (show ¬((0 : Fin 2) = 0) by decide)]
  refine congrArg _ (congrArg₂ ix2 (Fin.ext ?_) (Fin.ext ?_))
  · show n.val * 128 + r.val = _
    simp only []; omega
  · show 512 + (h.val * 128 + a.val) = _
    simp only []; omega
theorem V_0 (h : Fin 4) (n r : Fin 128) (a : Fin 256) : res_main_v22 (F := Ideal) V0 (ix4 h n r a) = vf V0 0 h n r a := by
  pointwise [res_main_v22, res_main_v15]
  unfold vf row256 tok
  first | rw [if_pos (show ((0 : Fin 2) = 0) by decide)] | rw [if_neg (show ¬((0 : Fin 2) = 0) by decide)]
  refine congrArg _ (congrArg₂ ix2 (Fin.ext ?_) (Fin.ext ?_))
  · show n.val * 128 + r.val = _
    simp only []; omega
  · show 1024 + (h.val * 256 + a.val) = _
    simp only []; omega
theorem Y_0 (h : Fin 4) (n r : Fin 128) (a : Fin 256) : res_main_v130 (F := Ideal) V0 (ix4 h n r a) = yf V0 0 h n r a := by
  pointwise [res_main_v130, res_main_v17]
  unfold yf row256 tok
  first | rw [if_pos (show ((0 : Fin 2) = 0) by decide)] | rw [if_neg (show ¬((0 : Fin 2) = 0) by decide)]
  refine congrArg _ (congrArg₂ ix2 (Fin.ext ?_) (Fin.ext ?_))
  · show n.val * 128 + r.val = _
    simp only []; omega
  · show (h.val * 256 + a.val) = _
    simp only []; omega
theorem s_0 (h : Fin 4) (a : Fin 128) (e : Fin 256) : res_main_v19 (F := Ideal) V0 (ix3 h a e) = stat (X2 V0) 0 h a e := by
  pointwise [res_main_v19]
  rfl
theorem g_0 (h : Fin 4) (a : Fin 128) (e : Fin 256) : res_main_v129 (F := Ideal) V0 (ix3 h a e) = stat (X4 V0) 0 h a e := by
  pointwise [res_main_v129]
  rfl
theorem dec_0 (h : Fin 4) (i j : Fin 128) : res_main_v40 (F := Ideal) V0 (ix4 h 0 i j) = dcy (lgr h) 0 i j := by
  pointwise [res_main_v40, res_main_v30, res_main_v28, res_main_v23]
  rw [word_nat _ (by omega), word_nat _ (by omega), lg_at, ← EReal.coe_sub]
  unfold dcy
  have e : ((0 : EReal) ≤ (((i.val : ℝ) - (j.val : ℝ) : ℝ) : EReal)) ↔ j.val + 0 ≤ i.val := by
    rw [← EReal.coe_zero, EReal.coe_le_coe_iff, sub_nonneg, Nat.cast_le, Nat.add_zero]
  by_cases h : j.val + 0 ≤ i.val
  · rw [if_pos (e.mpr h), if_pos (e.mpr h), if_pos h, exp_mul]
  · rw [if_neg (fun x => h (e.mp x)), if_neg h]; exact Ideal.ofBits_zero_f32
theorem kw_0 (h : Fin 4) (i : Fin 128) : res_main_v52 (F := Ideal) V0 (ix4 h 0 i 0) = ew (lgr h) (127 - (i.val : ℝ)) := by
  pointwise [res_main_v52, res_main_v23]
  rw [word_nat _ (by omega), lg_at, c127, ← EReal.coe_sub, exp_mul]
theorem qw_0 (h : Fin 4) (i : Fin 128) : res_main_v122 (F := Ideal) V0 (ix4 h 0 i 0) = ew (lgr h) ((i.val : ℝ) + 1) := by
  pointwise [res_main_v122, res_main_v23]
  rw [word_nat _ (by omega), lg_at, ← EReal.coe_one, ← EReal.coe_add, exp_mul]
theorem w_0 (h : Fin 4) (n m : Fin 128) : res_main_v75 (F := Ideal) V0 (ix3 h n m) = wt (lgr h) n.val m.val := by
  pointwise [res_main_v75, res_main_v65, res_main_v63, res_main_v56]
  rw [word_nat _ (by omega), word_nat _ (by omega), lg_at, c128, ← EReal.coe_one, ← EReal.coe_sub, ← EReal.coe_sub]
  unfold wt
  have e : ((0 : EReal) ≤ (((n.val : ℝ) - 1 - (m.val : ℝ) : ℝ) : EReal)) ↔ m.val + 1 ≤ n.val := by
    rw [← EReal.coe_zero, EReal.coe_le_coe_iff, sub_sub, sub_nonneg, add_comm, ← Nat.cast_one, ← Nat.cast_add, Nat.cast_le]
  by_cases h : m.val + 1 ≤ n.val
  · rw [if_pos (e.mpr h), if_pos (e.mpr h), if_pos h, ← EReal.coe_mul, exp_mul]
    unfold ew; rw [mul_assoc]
  · rw [if_neg (fun x => h (e.mp x)), if_neg h]; exact Ideal.ofBits_zero_f32
theorem p_0 (h : Fin 4) (n : Fin 128) : res_main_v84 (F := Ideal) V0 (ix4 h n 0 0) = ew (lgr h) (128 * (n.val : ℝ)) := by
  pointwise [res_main_v84, res_main_v56]
  rw [word_nat _ (by omega), lg_at, c128, ← EReal.coe_mul, exp_mul]
  unfold ew; rw [mul_assoc]
theorem wf_0 (h : Fin 4) (n : Fin 128) : res_main_v109 (F := Ideal) V0 (ix4 h n 0 0) = ew (lgr h) (128 * (127 - (n.val : ℝ))) := by
  pointwise [res_main_v109, res_main_v56]
  rw [word_nat _ (by omega), lg_at, c128, c127, ← EReal.coe_sub, ← EReal.coe_mul, exp_mul]
  unfold ew; rw [mul_assoc]
theorem fin_0 (h : Fin 4) : res_main_v106 (F := Ideal) V0 (ix3 h 0 0) = ew (lgr h) (128 * 128) := by
  pointwise [res_main_v106]
  rw [lg_at, c128, ← EReal.coe_mul, exp_mul]
  unfold ew; rw [mul_assoc]
theorem sc_0 (h : Fin 4) (n i j : Fin 128) : res_main_v42 (F := Ideal) V0 (ix4 h n i j) = (∑ a, qf V0 0 h n i a * kf V0 0 h n j a) * dcy (lgr h) 0 i j := by
  pointwise [res_main_v42]
  simp only [dec_0, Q_0, K_0]
theorem kd_0 (h : Fin 4) (n i a : Fin 128) : res_main_v54 (F := Ideal) V0 (ix4 h n i a) = kf V0 0 h n i a * ew (lgr h) (127 - (i.val : ℝ)) := by
  pointwise [res_main_v54]
  simp only [kw_0, K_0]
theorem qd_0 (h : Fin 4) (n i a : Fin 128) : res_main_v124 (F := Ideal) V0 (ix4 h n i a) = qf V0 0 h n i a * ew (lgr h) ((i.val : ℝ) + 1) := by
  pointwise [res_main_v124]
  simp only [qw_0, Q_0]
theorem KV_0 (h : Fin 4) (n a : Fin 128) (e : Fin 256) : res_main_v55 (F := Ideal) V0 (ix4 h n a e) = sKV (lgr h) (kf V0 0 h n) (vf V0 0 h n) a e := by
  pointwise [res_main_v55]
  simp only [kd_0, V_0]
  rfl
theorem DS_0 (h : Fin 4) (n a : Fin 128) (e : Fin 256) : res_main_v132 (F := Ideal) V0 (ix4 h n a e) = sDS (lgr h) (qf V0 0 h n) (yf V0 0 h n) a e := by
  pointwise [res_main_v132]
  simp only [qd_0, Y_0]
  show (∑ i : Fin 128, yf V0 0 h n i e * (qf V0 0 h n i a * ew (lgr h) ((i.val : ℝ) + 1)) : EReal) = _
  unfold sDS
  exact Finset.sum_congr rfl fun i _ => mul_comm _ _
theorem dsc_0 (h : Fin 4) (n i j : Fin 128) : res_main_v161 (F := Ideal) V0 (ix4 h n i j) = sSC (lgr h) 0 (vf V0 0 h n) (yf V0 0 h n) i j := by
  pointwise [res_main_v161]
  simp only [dec_0, V_0, Y_0]
  rfl
theorem S_0 (h : Fin 4) (n a : Fin 128) (e : Fin 256) : res_main_v90 (F := Ideal) V0 (ix4 h n a e) = fS (lgr h) (kf V0 0 h) (vf V0 0 h) (stat (X2 V0) 0 h) n.val a e := by
  pointwise [res_main_v90]
  simp only [p_0, w_0, KV_0, s_0]
  exact (rf_closed _ _ _ _ n.val (by omega)).symm
theorem G_0 (h : Fin 4) (n a : Fin 128) (e : Fin 256) : res_main_v143 (F := Ideal) V0 (ix4 h n a e) = fG (lgr h) (qf V0 0 h) (yf V0 0 h) (stat (X4 V0) 0 h) (127 - n.val) a e := by
  pointwise [res_main_v143]
  simp only [wf_0, w_0, DS_0, g_0]
  exact rg_closed _ _ _ _ n
/-! ## Direction 1 -/

theorem Q_1 (h : Fin 4) (n r : Fin 128) (a : Fin 128) : res_main_v183 (F := Ideal) V0 (ix4 h n r a) = qf V0 1 h n r a := by
  pointwise [res_main_v183, res_main_v9]
  unfold qf row128 tok
  first | rw [if_pos (show ((1 : Fin 2) = 0) by decide)] | rw [if_neg (show ¬((1 : Fin 2) = 0) by decide)]
  refine congrArg _ (congrArg₂ ix2 (Fin.ext ?_) (Fin.ext ?_))
  · show 16384 - (n.val * 128 + r.val + 1) = _
    simp only []; omega
  · show (h.val * 128 + a.val) = _
    simp only []; omega
theorem K_1 (h : Fin 4) (n r : Fin 128) (a : Fin 128) : res_main_v184 (F := Ideal) V0 (ix4 h n r a) = kf V0 1 h n r a := by
  pointwise [res_main_v184, res_main_v12]
  unfold kf row128 tok
  first | rw [if_pos (show ((1 : Fin 2) = 0) by decide)] | rw [if_neg (show ¬((1 : Fin 2) = 0) by decide)]
  refine congrArg _ (congrArg₂ ix2 (Fin.ext ?_) (Fin.ext ?_))
  · show 16384 - (n.val * 128 + r.val + 1) = _
    simp only []; omega
  · show 512 + (h.val * 128 + a.val) = _
    simp only []; omega
theorem V_1 (h : Fin 4) (n r : Fin 128) (a : Fin 256) : res_main_v185 (F := Ideal) V0 (ix4 h n r a) = vf V0 1 h n r a := by
  pointwise [res_main_v185, res_main_v15]
  unfold vf row256 tok
  first | rw [if_pos (show ((1 : Fin 2) = 0) by decide)] | rw [if_neg (show ¬((1 : Fin 2) = 0) by decide)]
  refine congrArg _ (congrArg₂ ix2 (Fin.ext ?_) (Fin.ext ?_))
  · show 16384 - (n.val * 128 + r.val + 1) = _
    simp only []; omega
  · show 1024 + (h.val * 256 + a.val) = _
    simp only []; omega
theorem Y_1 (h : Fin 4) (n r : Fin 128) (a : Fin 256) : res_main_v295 (F := Ideal) V0 (ix4 h n r a) = yf V0 1 h n r a := by
  pointwise [res_main_v295, res_main_v17]
  unfold yf row256 tok
  first | rw [if_pos (show ((1 : Fin 2) = 0) by decide)] | rw [if_neg (show ¬((1 : Fin 2) = 0) by decide)]
  refine congrArg _ (congrArg₂ ix2 (Fin.ext ?_) (Fin.ext ?_))
  · show 16384 - (n.val * 128 + r.val + 1) = _
    simp only []; omega
  · show (h.val * 256 + a.val) = _
    simp only []; omega
theorem s_1 (h : Fin 4) (a : Fin 128) (e : Fin 256) : res_main_v179 (F := Ideal) V0 (ix3 h a e) = stat (X2 V0) 1 h a e := by
  pointwise [res_main_v179]
  rfl
theorem g_1 (h : Fin 4) (a : Fin 128) (e : Fin 256) : res_main_v293 (F := Ideal) V0 (ix3 h a e) = stat (X4 V0) 1 h a e := by
  pointwise [res_main_v293]
  rfl
theorem dec_1 (h : Fin 4) (i j : Fin 128) : res_main_v203 (F := Ideal) V0 (ix4 h 0 i j) = dcy (lgr h) 1 i j := by
  pointwise [res_main_v203, res_main_v193, res_main_v191, res_main_v186]
  rw [word_nat _ (by omega), word_nat _ (by omega), lg_at, ← EReal.coe_sub]
  unfold dcy
  have e : ((0 : EReal) < (((i.val : ℝ) - (j.val : ℝ) : ℝ) : EReal)) ↔ j.val + 1 ≤ i.val := by
    rw [← EReal.coe_zero, EReal.coe_lt_coe_iff, sub_pos, Nat.cast_lt]; exact Nat.lt_iff_add_one_le
  by_cases h : j.val + 1 ≤ i.val
  · rw [if_pos (e.mpr h), if_pos (e.mpr h), if_pos h, exp_mul]
  · rw [if_neg (fun x => h (e.mp x)), if_neg h]; exact Ideal.ofBits_zero_f32
theorem kw_1 (h : Fin 4) (i : Fin 128) : res_main_v215 (F := Ideal) V0 (ix4 h 0 i 0) = ew (lgr h) (127 - (i.val : ℝ)) := by
  pointwise [res_main_v215, res_main_v186]
  rw [word_nat _ (by omega), lg_at, c127, ← EReal.coe_sub, exp_mul]
theorem qw_1 (h : Fin 4) (i : Fin 128) : res_main_v285 (F := Ideal) V0 (ix4 h 0 i 0) = ew (lgr h) ((i.val : ℝ) + 1) := by
  pointwise [res_main_v285, res_main_v186]
  rw [word_nat _ (by omega), lg_at, ← EReal.coe_one, ← EReal.coe_add, exp_mul]
theorem w_1 (h : Fin 4) (n m : Fin 128) : res_main_v238 (F := Ideal) V0 (ix3 h n m) = wt (lgr h) n.val m.val := by
  pointwise [res_main_v238, res_main_v228, res_main_v226, res_main_v219]
  rw [word_nat _ (by omega), word_nat _ (by omega), lg_at, c128, ← EReal.coe_one, ← EReal.coe_sub, ← EReal.coe_sub]
  unfold wt
  have e : ((0 : EReal) ≤ (((n.val : ℝ) - 1 - (m.val : ℝ) : ℝ) : EReal)) ↔ m.val + 1 ≤ n.val := by
    rw [← EReal.coe_zero, EReal.coe_le_coe_iff, sub_sub, sub_nonneg, add_comm, ← Nat.cast_one, ← Nat.cast_add, Nat.cast_le]
  by_cases h : m.val + 1 ≤ n.val
  · rw [if_pos (e.mpr h), if_pos (e.mpr h), if_pos h, ← EReal.coe_mul, exp_mul]
    unfold ew; rw [mul_assoc]
  · rw [if_neg (fun x => h (e.mp x)), if_neg h]; exact Ideal.ofBits_zero_f32
theorem p_1 (h : Fin 4) (n : Fin 128) : res_main_v247 (F := Ideal) V0 (ix4 h n 0 0) = ew (lgr h) (128 * (n.val : ℝ)) := by
  pointwise [res_main_v247, res_main_v219]
  rw [word_nat _ (by omega), lg_at, c128, ← EReal.coe_mul, exp_mul]
  unfold ew; rw [mul_assoc]
theorem wf_1 (h : Fin 4) (n : Fin 128) : res_main_v272 (F := Ideal) V0 (ix4 h n 0 0) = ew (lgr h) (128 * (127 - (n.val : ℝ))) := by
  pointwise [res_main_v272, res_main_v219]
  rw [word_nat _ (by omega), lg_at, c128, c127, ← EReal.coe_sub, ← EReal.coe_mul, exp_mul]
  unfold ew; rw [mul_assoc]
theorem fin_1 (h : Fin 4) : res_main_v269 (F := Ideal) V0 (ix3 h 0 0) = ew (lgr h) (128 * 128) := by
  pointwise [res_main_v269]
  rw [lg_at, c128, ← EReal.coe_mul, exp_mul]
  unfold ew; rw [mul_assoc]
theorem sc_1 (h : Fin 4) (n i j : Fin 128) : res_main_v205 (F := Ideal) V0 (ix4 h n i j) = (∑ a, qf V0 1 h n i a * kf V0 1 h n j a) * dcy (lgr h) 1 i j := by
  pointwise [res_main_v205]
  simp only [dec_1, Q_1, K_1]
theorem kd_1 (h : Fin 4) (n i a : Fin 128) : res_main_v217 (F := Ideal) V0 (ix4 h n i a) = kf V0 1 h n i a * ew (lgr h) (127 - (i.val : ℝ)) := by
  pointwise [res_main_v217]
  simp only [kw_1, K_1]
theorem qd_1 (h : Fin 4) (n i a : Fin 128) : res_main_v287 (F := Ideal) V0 (ix4 h n i a) = qf V0 1 h n i a * ew (lgr h) ((i.val : ℝ) + 1) := by
  pointwise [res_main_v287]
  simp only [qw_1, Q_1]
theorem KV_1 (h : Fin 4) (n a : Fin 128) (e : Fin 256) : res_main_v218 (F := Ideal) V0 (ix4 h n a e) = sKV (lgr h) (kf V0 1 h n) (vf V0 1 h n) a e := by
  pointwise [res_main_v218]
  simp only [kd_1, V_1]
  rfl
theorem DS_1 (h : Fin 4) (n a : Fin 128) (e : Fin 256) : res_main_v297 (F := Ideal) V0 (ix4 h n a e) = sDS (lgr h) (qf V0 1 h n) (yf V0 1 h n) a e := by
  pointwise [res_main_v297]
  simp only [qd_1, Y_1]
  show (∑ i : Fin 128, yf V0 1 h n i e * (qf V0 1 h n i a * ew (lgr h) ((i.val : ℝ) + 1)) : EReal) = _
  unfold sDS
  exact Finset.sum_congr rfl fun i _ => mul_comm _ _
theorem dsc_1 (h : Fin 4) (n i j : Fin 128) : res_main_v326 (F := Ideal) V0 (ix4 h n i j) = sSC (lgr h) 1 (vf V0 1 h n) (yf V0 1 h n) i j := by
  pointwise [res_main_v326]
  simp only [dec_1, V_1, Y_1]
  rfl
theorem S_1 (h : Fin 4) (n a : Fin 128) (e : Fin 256) : res_main_v253 (F := Ideal) V0 (ix4 h n a e) = fS (lgr h) (kf V0 1 h) (vf V0 1 h) (stat (X2 V0) 1 h) n.val a e := by
  pointwise [res_main_v253]
  simp only [p_1, w_1, KV_1, s_1]
  exact (rf_closed _ _ _ _ n.val (by omega)).symm
theorem G_1 (h : Fin 4) (n a : Fin 128) (e : Fin 256) : res_main_v308 (F := Ideal) V0 (ix4 h n a e) = fG (lgr h) (qf V0 1 h) (yf V0 1 h) (stat (X4 V0) 1 h) (127 - n.val) a e := by
  pointwise [res_main_v308]
  simp only [wf_1, w_1, DS_1, g_1]
  exact rg_closed _ _ _ _ n

end Cert.ReferenceIdeal.Ret

end
-- ==== Proof.RefOut.lean ====
/- The five results of the reference's run are the arrays of the mathematics. -/
module

public import proofs.«01_k».proof.Proof.RefVal
public import Idealize.ShloMosaic.Lib.Pointwise

@[expose] public section

set_option maxRecDepth 16384

noncomputable section

namespace Cert.ReferenceIdeal.Ret

open Idealize.ShloMosaic Idealize.ShloMosaic.TcCoe
open Cert.ReferenceIdeal Cert.ReferenceIdeal.Gen Cert.ReferenceIdeal.Value Cert.Spec

variable (V0 : Valuation τ sig (Elt Ideal))

theorem rev128 (A : FVec Ideal S4x16384x128 .f32) :
    Host.reverse [1] A = fun j : S4x16384x128.Idx => A (ix3 (j 0) (Fin.rev (j 1)) (j 2)) := by
  funext j
  idx_vars j
  pointwise
  rfl

theorem rev256 (A : FVec Ideal S4x16384x256 .f32) :
    Host.reverse [1] A = fun j : S4x16384x256.Idx => A (ix3 (j 0) (Fin.rev (j 1)) (j 2)) := by
  funext j
  idx_vars j
  pointwise
  rfl

theorem tQK_at (A : (⟨2, ![16384, 1024]⟩ : Shape).Idx → EReal) (B) (C) (D) (E) (d : Fin 2) (T : Fin 16384) (c : Fin 1024) :
    tQK A B C D E (ix3 d T c) = if h : c.val < 512 then eQ A B C D d T ⟨c.val / 128, by omega⟩ ⟨c.val % 128, by omega⟩
      else eK A B D E d T ⟨(c.val - 512) / 128, by omega⟩ ⟨(c.val - 512) % 128, by omega⟩ := by
  by_cases hc : c.val < 512
  · rw [dif_pos hc]
    refine (if_pos hc).trans ?_
    refine congrArg (fun h => eQ A B C D d T h ⟨c.val % 128, by omega⟩) (Fin.ext ?_)
    show c.val % 512 / 128 = c.val / 128
    omega
  · rw [dif_neg hc]
    refine (if_neg hc).trans ?_
    refine congrArg₂ (eK A B D E d T) (Fin.ext ?_) (Fin.ext ?_)
    · show c.val % 512 / 128 = (c.val - 512) / 128
      omega
    · show c.val % 128 = (c.val - 512) % 128
      omega

theorem wt_fin (l : ℝ) (m : Fin 128) : wt l 128 m.val = ew l (128 * (127 - (m.val : ℝ))) := by
  unfold wt; rw [if_pos (by omega)]; congr 2; push_cast; ring

theorem wt_beg (l : ℝ) (m : Fin 128) : wt l 128 (127 - m.val) = ew l (128 * (m.val : ℝ)) := by
  unfold wt; rw [if_pos (by omega), Nat.cast_sub (by omega)]; congr 2; push_cast; ring

theorem out_o : concatenate S2x16384x1024 0 [⟨S1x16384x1024, (broadcastInDim S1x16384x1024 ![1, 2] bcast_S16384x1024_S1x16384x1024_1_2 (shapeCast _ (transpose S16384x4x256 [1, 0, 2] (shapeCast _ (addf (Host.dotGeneral (φ₁ := .f32) (φ₂ := .f32) dot_S4x128x128x128_S4x128x128x256_S4x128x128x256_3_2_2_3_01_01 none (res_main_v42 V0) (res_main_v22 V0)) (Host.dotGeneral (φ₁ := .f32) (φ₂ := .f32) dot_S4x128x128x128_S4x128x128x256_S4x128x128x256_3_2_2_3_01_01 none (res_main_v124 V0) (res_main_v90 V0))) shapeCasts_S4x128x128x256_S4x16384x256) transposes_S4x16384x256_S16384x4x256_1_0_2) shapeCasts_S16384x4x256_S16384x1024))⟩, ⟨S1x16384x1024, (broadcastInDim S1x16384x1024 ![1, 2] bcast_S16384x1024_S1x16384x1024_1_2 (shapeCast _ (transpose S16384x4x256 [1, 0, 2] (Host.reverse [1] (shapeCast _ (addf (Host.dotGeneral (φ₁ := .f32) (φ₂ := .f32) dot_S4x128x128x128_S4x128x128x256_S4x128x128x256_3_2_2_3_01_01 none (res_main_v205 V0) (res_main_v185 V0)) (Host.dotGeneral (φ₁ := .f32) (φ₂ := .f32) dot_S4x128x128x128_S4x128x128x256_S4x128x128x256_3_2_2_3_01_01 none (res_main_v287 V0) (res_main_v253 V0))) shapeCasts_S4x128x128x256_S4x16384x256)) transposes_S4x16384x256_S16384x4x256_1_0_2) shapeCasts_S16384x4x256_S16384x1024))⟩] concatenates_S1x16384x1024_S1x16384x1024_S2x16384x1024_d0
    = tO (X0 V0) (X1 V0) (X2 V0) := by
  funext j
  idx_vars j
  rw [rev256]
  rcases (by omega : j0 = 0 ∨ j0 = 1) with rfl | rfl
  · pointwise
    simp only [sc_0, Q_0, K_0, V_0, S_0, qd_0]
    rfl
  · pointwise
    simp only [sc_1, Q_1, K_1, V_1, S_1, qd_1]
    rfl

theorem out_f : concatenate S2x4x128x256 0 [⟨S1x4x128x256, (broadcastInDim S1x4x128x256 ![1, 2, 3] bcast_S4x128x256_S1x4x128x256_1_2_3 (addf (mulf (broadcastInDim S4x128x256 ![0, 1, 2] bcast_S4x1x1_S4x128x256_0_1_2 (res_main_v106 V0)) (res_main_v19 V0)) (Host.reduceAdd (mulf (broadcastInDim S4x128x128x256 ![0, 1, 2, 3] bcast_S4x128x1x1_S4x128x128x256_0_1_2_3 (res_main_v109 V0)) (res_main_v55 V0)) (constant S_ .f32 0x00000000#32) reducesTo_S4x128x128x256_S4x128x256_d1 h_S_)))⟩, ⟨S1x4x128x256, (broadcastInDim S1x4x128x256 ![1, 2, 3] bcast_S4x128x256_S1x4x128x256_1_2_3 (addf (mulf (broadcastInDim S4x128x256 ![0, 1, 2] bcast_S4x1x1_S4x128x256_0_1_2 (res_main_v269 V0)) (res_main_v179 V0)) (Host.reduceAdd (mulf (broadcastInDim S4x128x128x256 ![0, 1, 2, 3] bcast_S4x128x1x1_S4x128x128x256_0_1_2_3 (res_main_v272 V0)) (res_main_v218 V0)) (constant S_ .f32 0x00000000#32) reducesTo_S4x128x128x256_S4x128x256_d1 h_S_)))⟩] concatenates_S1x4x128x256_S1x4x128x256_S2x4x128x256_d0
    = tF (X0 V0) (X1 V0) (X2 V0) := by
  funext j
  idx_vars j
  rcases (by omega : j0 = 0 ∨ j0 = 1) with rfl | rfl
  · pointwise
    simp only [fin_0, s_0, g_0, p_0, wf_0, KV_0, DS_0]
    exact ((rf_closed _ _ _ _ 128 le_rfl).trans (by simp only [wt_fin]; norm_num)).symm
  · pointwise
    simp only [fin_1, s_1, g_1, p_1, wf_1, KV_1, DS_1]
    exact ((rf_closed _ _ _ _ 128 le_rfl).trans (by simp only [wt_fin]; norm_num)).symm

theorem out_qk : concatenate S2x16384x1024 0 [⟨S1x16384x1024, (broadcastInDim S1x16384x1024 ![1, 2] bcast_S16384x1024_S1x16384x1024_1_2 (concatenate S16384x1024 1 [⟨S16384x512, (shapeCast _ (transpose S16384x4x128 [1, 0, 2] (shapeCast _ (addf (mulf (Host.dotGeneral (φ₁ := .f32) (φ₂ := .f32) dot_S4x128x128x256_S4x128x128x256_S4x128x128x128_3_3_2_2_01_01 none (res_main_v130 V0) (res_main_v90 V0)) (broadcastInDim S4x128x128x128 ![0, 1, 2, 3] bcast_S4x1x128x1_S4x128x128x128_0_1_2_3 (res_main_v122 V0))) (Host.dotGeneral (φ₁ := .f32) (φ₂ := .f32) dot_S4x128x128x128_S4x128x128x128_S4x128x128x128_3_2_2_3_01_01 none (res_main_v161 V0) (res_main_v21 V0))) shapeCasts_S4x128x128x128_S4x16384x128) transposes_S4x16384x128_S16384x4x128_1_0_2) shapeCasts_S16384x4x128_S16384x512)⟩, ⟨S16384x512, (shapeCast _ (transpose S16384x4x128 [1, 0, 2] (shapeCast _ (addf (mulf (transpose S4x128x128x128 [0, 1, 3, 2] (Host.dotGeneral (φ₁ := .f32) (φ₂ := .f32) dot_S4x128x128x256_S4x128x128x256_S4x128x128x128_3_3_2_2_01_01 none (res_main_v143 V0) (res_main_v22 V0)) transposes_S4x128x128x128_S4x128x128x128_0_1_3_2) (broadcastInDim S4x128x128x128 ![0, 1, 2, 3] bcast_S4x1x128x1_S4x128x128x128_0_1_2_3 (res_main_v52 V0))) (Host.dotGeneral (φ₁ := .f32) (φ₂ := .f32) dot_S4x128x128x128_S4x128x128x128_S4x128x128x128_2_2_3_3_01_01 none (res_main_v161 V0) (res_main_v20 V0))) shapeCasts_S4x128x128x128_S4x16384x128) transposes_S4x16384x128_S16384x4x128_1_0_2) shapeCasts_S16384x4x128_S16384x512)⟩] concatenates_S16384x512_S16384x512_S16384x1024_d1))⟩, ⟨S1x16384x1024, (broadcastInDim S1x16384x1024 ![1, 2] bcast_S16384x1024_S1x16384x1024_1_2 (concatenate S16384x1024 1 [⟨S16384x512, (shapeCast _ (transpose S16384x4x128 [1, 0, 2] (Host.reverse [1] (shapeCast _ (addf (mulf (Host.dotGeneral (φ₁ := .f32) (φ₂ := .f32) dot_S4x128x128x256_S4x128x128x256_S4x128x128x128_3_3_2_2_01_01 none (res_main_v295 V0) (res_main_v253 V0)) (broadcastInDim S4x128x128x128 ![0, 1, 2, 3] bcast_S4x1x128x1_S4x128x128x128_0_1_2_3 (res_main_v285 V0))) (Host.dotGeneral (φ₁ := .f32) (φ₂ := .f32) dot_S4x128x128x128_S4x128x128x128_S4x128x128x128_3_2_2_3_01_01 none (res_main_v326 V0) (res_main_v184 V0))) shapeCasts_S4x128x128x128_S4x16384x128)) transposes_S4x16384x128_S16384x4x128_1_0_2) shapeCasts_S16384x4x128_S16384x512)⟩, ⟨S16384x512, (shapeCast _ (transpose S16384x4x128 [1, 0, 2] (Host.reverse [1] (shapeCast _ (addf (mulf (transpose S4x128x128x128 [0, 1, 3, 2] (Host.dotGeneral (φ₁ := .f32) (φ₂ := .f32) dot_S4x128x128x256_S4x128x128x256_S4x128x128x128_3_3_2_2_01_01 none (res_main_v308 V0) (res_main_v185 V0)) transposes_S4x128x128x128_S4x128x128x128_0_1_3_2) (broadcastInDim S4x128x128x128 ![0, 1, 2, 3] bcast_S4x1x128x1_S4x128x128x128_0_1_2_3 (res_main_v215 V0))) (Host.dotGeneral (φ₁ := .f32) (φ₂ := .f32) dot_S4x128x128x128_S4x128x128x128_S4x128x128x128_2_2_3_3_01_01 none (res_main_v326 V0) (res_main_v183 V0))) shapeCasts_S4x128x128x128_S4x16384x128)) transposes_S4x16384x128_S16384x4x128_1_0_2) shapeCasts_S16384x4x128_S16384x512)⟩] concatenates_S16384x512_S16384x512_S16384x1024_d1))⟩] concatenates_S1x16384x1024_S1x16384x1024_S2x16384x1024_d0
    = tQK (X0 V0) (X1 V0) (X2 V0) (X3 V0) (X4 V0) := by
  funext j
  idx_vars j
  rw [rev128, rev128]
  rcases (by omega : j0 = 0 ∨ j0 = 1) with rfl | rfl
  · pointwise
    simp only [Q_0, K_0, V_0, Y_0, S_0, G_0, qw_0, kw_0, dsc_0]
    refine Eq.trans ?_ (tQK_at (X0 V0) (X1 V0) (X2 V0) (X3 V0) (X4 V0) 0 j1 j2).symm
    refine dite_congr rfl (fun hc => ?_) (fun hc => ?_)
    · refine (@add_comm EReal _ _ _).trans ?_
      unfold eQ sDQ
      refine congrArg₂ (· + ·) ?_ (congrArg₂ (· * ·) ?_ rfl)
      · exact Finset.sum_congr rfl fun x _ => rfl
      · exact Finset.sum_congr rfl fun x _ => rfl
    · refine (@add_comm EReal _ _ _).trans ?_
      unfold eK sDK
      refine congrArg₂ (· + ·) ?_ (congrArg₂ (· * ·) ?_ rfl)
      · exact Finset.sum_congr rfl fun x _ => rfl
      · exact Finset.sum_congr rfl fun x _ => @mul_comm EReal _ _ _
  · pointwise
    simp only [Q_1, K_1, V_1, Y_1, S_1, G_1, qw_1, kw_1, dsc_1]
    refine Eq.trans ?_ (tQK_at (X0 V0) (X1 V0) (X2 V0) (X3 V0) (X4 V0) 1 j1 j2).symm
    refine dite_congr rfl (fun hc => ?_) (fun hc => ?_)
    · refine (@add_comm EReal _ _ _).trans ?_
      unfold eQ sDQ
      refine congrArg₂ (· + ·) ?_ (congrArg₂ (· * ·) ?_ rfl)
      · exact Finset.sum_congr rfl fun x _ => rfl
      · exact Finset.sum_congr rfl fun x _ => rfl
    · refine (@add_comm EReal _ _ _).trans ?_
      unfold eK sDK
      refine congrArg₂ (· + ·) ?_ (congrArg₂ (· * ·) ?_ rfl)
      · exact Finset.sum_congr rfl fun x _ => rfl
      · exact Finset.sum_congr rfl fun x _ => @mul_comm EReal _ _ _

theorem out_v : concatenate S2x16384x1024 0 [⟨S1x16384x1024, (broadcastInDim S1x16384x1024 ![1, 2] bcast_S16384x1024_S1x16384x1024_1_2 (shapeCast _ (transpose S16384x4x256 [1, 0, 2] (shapeCast _ (addf (transpose S4x128x128x256 [0, 1, 3, 2] (Host.dotGeneral (φ₁ := .f32) (φ₂ := .f32) dot_S4x128x128x256_S4x128x128x128_S4x128x256x128_2_3_3_2_01_01 none (res_main_v143 V0) (res_main_v54 V0)) transposes_S4x128x256x128_S4x128x128x256_0_1_3_2) (transpose S4x128x128x256 [0, 1, 3, 2] (Host.dotGeneral (φ₁ := .f32) (φ₂ := .f32) dot_S4x128x128x256_S4x128x128x128_S4x128x256x128_2_2_3_3_01_01 none (res_main_v130 V0) (res_main_v42 V0)) transposes_S4x128x256x128_S4x128x128x256_0_1_3_2)) shapeCasts_S4x128x128x256_S4x16384x256) transposes_S4x16384x256_S16384x4x256_1_0_2) shapeCasts_S16384x4x256_S16384x1024))⟩, ⟨S1x16384x1024, (broadcastInDim S1x16384x1024 ![1, 2] bcast_S16384x1024_S1x16384x1024_1_2 (shapeCast _ (transpose S16384x4x256 [1, 0, 2] (Host.reverse [1] (shapeCast _ (addf (transpose S4x128x128x256 [0, 1, 3, 2] (Host.dotGeneral (φ₁ := .f32) (φ₂ := .f32) dot_S4x128x128x256_S4x128x128x128_S4x128x256x128_2_3_3_2_01_01 none (res_main_v308 V0) (res_main_v217 V0)) transposes_S4x128x256x128_S4x128x128x256_0_1_3_2) (transpose S4x128x128x256 [0, 1, 3, 2] (Host.dotGeneral (φ₁ := .f32) (φ₂ := .f32) dot_S4x128x128x256_S4x128x128x128_S4x128x256x128_2_2_3_3_01_01 none (res_main_v295 V0) (res_main_v205 V0)) transposes_S4x128x256x128_S4x128x128x256_0_1_3_2)) shapeCasts_S4x128x128x256_S4x16384x256)) transposes_S4x16384x256_S16384x4x256_1_0_2) shapeCasts_S16384x4x256_S16384x1024))⟩] concatenates_S1x16384x1024_S1x16384x1024_S2x16384x1024_d0
    = tV (X0 V0) (X3 V0) (X4 V0) := by
  funext j
  idx_vars j
  rw [rev256]
  rcases (by omega : j0 = 0 ∨ j0 = 1) with rfl | rfl
  · pointwise
    simp only [kd_0, sc_0, Y_0, G_0]
    unfold tV eV sDV
    refine congrArg₂ (· + ·) ?_ ?_
    · exact Finset.sum_congr rfl fun x _ => @mul_comm EReal _ _ _
    · exact Finset.sum_congr rfl fun x _ => @mul_comm EReal _ _ _
  · pointwise
    simp only [kd_1, sc_1, Y_1, G_1]
    unfold tV eV sDV
    refine congrArg₂ (· + ·) ?_ ?_
    · exact Finset.sum_congr rfl fun x _ => @mul_comm EReal _ _ _
    · exact Finset.sum_congr rfl fun x _ => @mul_comm EReal _ _ _

theorem out_s : concatenate S2x4x128x256 0 [⟨S1x4x128x256, (broadcastInDim S1x4x128x256 ![1, 2, 3] bcast_S4x128x256_S1x4x128x256_1_2_3 (addf (mulf (broadcastInDim S4x128x256 ![0, 1, 2] bcast_S4x1x1_S4x128x256_0_1_2 (res_main_v106 V0)) (res_main_v129 V0)) (Host.reduceAdd (shapeCast _ (Host.reduceAdd (mulf (broadcastInDim S4x128x128x256 ![0, 1, 2, 3] bcast_S4x128x1x1_S4x128x128x256_0_1_2_3 (res_main_v84 V0)) (res_main_v132 V0)) (constant S_ .f32 0x00000000#32) reducesTo_S4x128x128x256_S4x128x256_d1 h_S_) shapeCasts_S4x128x256_S4x1x128x256) (constant S_ .f32 0x00000000#32) reducesTo_S4x1x128x256_S4x128x256_d1 h_S_)))⟩, ⟨S1x4x128x256, (broadcastInDim S1x4x128x256 ![1, 2, 3] bcast_S4x128x256_S1x4x128x256_1_2_3 (addf (mulf (broadcastInDim S4x128x256 ![0, 1, 2] bcast_S4x1x1_S4x128x256_0_1_2 (res_main_v269 V0)) (res_main_v293 V0)) (Host.reduceAdd (shapeCast _ (Host.reduceAdd (mulf (broadcastInDim S4x128x128x256 ![0, 1, 2, 3] bcast_S4x128x1x1_S4x128x128x256_0_1_2_3 (res_main_v247 V0)) (res_main_v297 V0)) (constant S_ .f32 0x00000000#32) reducesTo_S4x128x128x256_S4x128x256_d1 h_S_) shapeCasts_S4x128x256_S4x1x128x256) (constant S_ .f32 0x00000000#32) reducesTo_S4x1x128x256_S4x128x256_d1 h_S_)))⟩] concatenates_S1x4x128x256_S1x4x128x256_S2x4x128x256_d0
    = tS (X0 V0) (X3 V0) (X4 V0) := by
  funext j
  idx_vars j
  rcases (by omega : j0 = 0 ∨ j0 = 1) with rfl | rfl
  · pointwise
    simp only [fin_0, s_0, g_0, p_0, wf_0, KV_0, DS_0, Finset.univ_unique, Finset.sum_singleton]
    exact ((rg_sum _ _ _ _ 128 le_rfl).trans (by simp only [wt_beg]; norm_num)).symm
  · pointwise
    simp only [fin_1, s_1, g_1, p_1, wf_1, KV_1, DS_1, Finset.univ_unique, Finset.sum_singleton]
    exact ((rg_sum _ _ _ _ 128 le_rfl).trans (by simp only [wt_beg]; norm_num)).symm

end Cert.ReferenceIdeal.Ret

end
-- ==== Proof.FfnIn0.lean ====
/- What the kernel leaves in its buffers at one grid point, as terms of the blocks that it reads. -/
module

public import proofs.«01_k».proof.Proof.Gen.FfnInIdeal.Value
public import Idealize.ShloMosaic.Lib.Pipeline.ValueKit
public import Idealize.ShloMosaic.Lib.WritesUnit

@[expose] public section

noncomputable section

namespace Cert.FfnInIdeal.Val

open Idealize.ShloMosaic Idealize.ShloMosaic.TcCoe
open Cert.FfnInIdeal Cert.FfnInIdeal.Gen Cert.FfnInIdeal.Value

variable {F : FTy → Type} [FloatOps F]

theorem hz2 : (![0, 0] : Fin 2 → Nat) = fun _ => 0 := funext fun a => by fin_cases a <;> rfl

/-- Row 0, row 1 and row 2 of eight rows. -/
def r0 (x : Vec F S8x1024 .f32) : Vec F S1x1024 .f32 := View.ld x (Rect.unit ![0, 0] ![1, 1024] inb_S8x1024_S1x1024_0_0)
def r1 (x : Vec F S8x1024 .f32) : Vec F S1x1024 .f32 := View.ld x (Rect.unit ![1, 0] ![1, 1024] inb_S8x1024_S1x1024_1_0)
def r2 (x : Vec F S8x1024 .f32) : Vec F S1x1024 .f32 := View.ld x (Rect.unit ![2, 0] ![1, 1024] inb_S8x1024_S1x1024_2_0)

/-- Eight rows whose first three are replaced. -/
def upd (p q r : Vec F S1x1024 .f32) (x : Vec F S8x1024 .f32) : Vec F S8x1024 .f32 := fun y =>
  if (y 0).val = 0 then p (ix2 0 (y 1)) else if (y 0).val = 1 then q (ix2 0 (y 1)) else if (y 0).val = 2 then r (ix2 0 (y 1)) else x y

/-- The first grid point clears the gradients of the three vectors. -/
theorem out_A_8 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : cond0_0 i) (hc1 : cond0_1 i) (hc2 : ¬cond0_2 i)
    (x0 : Vec F S512x1408 .bf16) (x1 : Vec F S512x1408 .bf16) (x2 : Vec F S1024x1408 .bf16) (x3 : Vec F S1024x1408 .bf16) (x4 : Vec F S512x1024 .f32) (x5 : Vec F S512x1024 .f32) (x6 : Vec F S8x1024 .f32) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 = k0_pay1 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_A
  dsimp only
  try sl_unfold_words
  rw [View.canon_unit_zero hz2]

/-- The first of the two points of a block of rows starts the product. -/
theorem acc_A (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : cond0_0 i) (hc1 : cond0_1 i) (hc2 : ¬cond0_2 i)
    (x0 : Vec F S512x1408 .bf16) (x1 : Vec F S512x1408 .bf16) (x2 : Vec F S1024x1408 .bf16) (x3 : Vec F S1024x1408 .bf16) (x4 : Vec F S512x1024 .f32) (x5 : Vec F S512x1024 .f32) (x6 : Vec F S8x1024 .f32) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 = k0_pay3 x0 x2 x1 x3 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_A
  dsimp only
  try sl_unfold_words
  rw [View.canon_cons_unit_zero (S := S512x1024) hz2, View.readCov_unit_zero (S := S512x1024) _ hz2]
  simp only [View.readAt_eq_ld, harg2.read_unread, harg3.read_unread, harg4.read_unread, harg5.read_unread, harg6.read_unread, harg7.read_unread, harg8.read_unread, harg10.read_unread, harg11.read_unread, View.ld_unit_zero (S := S512x1024) hz2, View.ld_unit_zero (S := S512x1408) hz2, View.ld_unit_zero (S := S1024x1408) hz2, View.ld_unit_zero (S := S8x1024) hz2, shapeCast_self]

/-- The first of the two points of a block of rows starts the product. -/
theorem acc_C (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : ¬cond0_0 i) (hc1 : cond0_1 i) (hc2 : ¬cond0_2 i)
    (x0 : Vec F S512x1408 .bf16) (x1 : Vec F S512x1408 .bf16) (x2 : Vec F S1024x1408 .bf16) (x3 : Vec F S1024x1408 .bf16) (x4 : Vec F S512x1024 .f32) (x5 : Vec F S512x1024 .f32) (x6 : Vec F S8x1024 .f32) :
    sout0_C_0 c i arg2 harg2 arg3 harg3 arg4 harg4 arg5 harg5 arg6 harg6 arg7 harg7 arg8 harg8 arg9 harg9 arg10 harg10 arg11 harg11 hc0 hc1 hc2 x0 x1 x2 x3 x4 x5 x6 = k0_pay3 x0 x2 x1 x3 k0_pay2 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_C
  dsimp only
  try sl_unfold_words
  rw [View.canon_cons_unit_zero (S := S512x1024) hz2, View.readCov_unit_zero (S := S512x1024) _ hz2]
  simp only [View.readAt_eq_ld, harg2.read_unread, harg3.read_unread, harg4.read_unread, harg5.read_unread, harg6.read_unread, harg7.read_unread, harg8.read_unread, harg10.read_unread, harg11.read_unread, View.ld_unit_zero (S := S512x1024) hz2, View.ld_unit_zero (S := S512x1408) hz2, View.ld_unit_zero (S := S1024x1408) hz2, View.ld_unit_zero (S := S8x1024) hz2, shapeCast_self]

/-- The second point adds the product of the other half of the columns. -/
theorem acc_B (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : ¬cond0_0 i) (hc1 : ¬cond0_1 i) (hc2 : cond0_2 i)
    (x0 : Vec F S512x1408 .bf16) (x1 : Vec F S512x1408 .bf16) (x2 : Vec F S1024x1408 .bf16) (x3 : Vec F S1024x1408 .bf16) (x4 : Vec F S512x1024 .f32) (x5 : Vec F S512x1024 .f32) (x6 : Vec F S8x1024 .f32) (xo8 : Vec F S8x1024 .f32) (xs0 : Vec F S512x1024 .f32) :
    sout0_B_0 c i arg2 harg2 arg3 harg3 arg4 harg4 arg5 harg5 arg6 harg6 arg7 harg7 arg8 harg8 arg9 harg9 arg10 harg10 arg11 harg11 hc0 hc1 hc2 x0 x1 x2 x3 x4 x5 x6 xo8 xs0 = k0_pay3 x0 x2 x1 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 hc2 x0 x1 x2 x3 x4 x5 x6 xo8 xs0)]
  unfold kernelRun0_B
  dsimp only
  try sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, View.ld_unit_zero (S := S512x1024) hz2, View.ld_unit_zero (S := S512x1408) hz2, View.ld_unit_zero (S := S1024x1408) hz2, View.ld_unit_zero (S := S8x1024) hz2, shapeCast_self]

/-- The second point of a block of rows writes the gradient of these rows. -/
theorem out_B_7 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : ¬cond0_0 i) (hc1 : ¬cond0_1 i) (hc2 : cond0_2 i)
    (x0 : Vec F S512x1408 .bf16) (x1 : Vec F S512x1408 .bf16) (x2 : Vec F S1024x1408 .bf16) (x3 : Vec F S1024x1408 .bf16) (x4 : Vec F S512x1024 .f32) (x5 : Vec F S512x1024 .f32) (x6 : Vec F S8x1024 .f32) (xo8 : Vec F S8x1024 .f32) (xs0 : Vec F S512x1024 .f32) :
    out0_B_7 c i arg2 harg2 arg3 harg3 arg4 harg4 arg5 harg5 arg6 harg6 arg7 harg7 arg8 harg8 arg9 harg9 arg10 harg10 arg11 harg11 hc0 hc1 hc2 x0 x1 x2 x3 x4 x5 x6 xo8 xs0 = k0_pay4 x4 (k0_pay17 x4 (r0 x6) (r2 x6) (k0_pay3 x0 x2 x1 x3 xs0)) (k0_pay18 x4 (r0 x6) (r2 x6) (k0_pay3 x0 x2 x1 x3 xs0)) x5 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 hc2 x0 x1 x2 x3 x4 x5 x6 xo8 xs0)]
  unfold kernelRun0_B
  dsimp only
  try sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, View.ld_unit_zero (S := S512x1024) hz2, View.ld_unit_zero (S := S512x1408) hz2, View.ld_unit_zero (S := S1024x1408) hz2, View.ld_unit_zero (S := S8x1024) hz2, shapeCast_self]
  rw [View.readCov_unit_zero (S := S512x1024) _ hz2]
  rfl

/-- The second point of a block of rows adds the sums over these rows to the gradients of the three vectors. -/
theorem out_B_8 (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : ¬cond0_0 i) (hc1 : ¬cond0_1 i) (hc2 : cond0_2 i)
    (x0 : Vec F S512x1408 .bf16) (x1 : Vec F S512x1408 .bf16) (x2 : Vec F S1024x1408 .bf16) (x3 : Vec F S1024x1408 .bf16) (x4 : Vec F S512x1024 .f32) (x5 : Vec F S512x1024 .f32) (x6 : Vec F S8x1024 .f32) (xo8 : Vec F S8x1024 .f32) (xs0 : Vec F S512x1024 .f32) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 xo8 xs0 = upd (k0_pay5 (k0_pay15 x4 (r2 x6) (k0_pay3 x0 x2 x1 x3 xs0)) (r0 xo8)) (k0_pay6 (k0_pay12 (k0_pay3 x0 x2 x1 x3 xs0)) (r1 xo8)) (k0_pay7 (k0_pay13 x4 (r0 x6) (k0_pay3 x0 x2 x1 x3 xs0)) (r2 xo8)) xo8 := by
  unfold out0_B_8
  unfold kernelRun0_B
  dsimp only
  try sl_unfold_words
  simp only [View.readAt_eq_ld, harg2.read_unread, harg3.read_unread, harg4.read_unread, harg5.read_unread, harg6.read_unread, harg7.read_unread, harg8.read_unread, harg10.read_unread, harg11.read_unread, View.ld_unit_zero (S := S512x1024) hz2, View.ld_unit_zero (S := S512x1408) hz2, View.ld_unit_zero (S := S1024x1408) hz2, View.ld_unit_zero (S := S8x1024) hz2, shapeCast_self]
  rw [View.readCov_unit_zero (S := S512x1024) _ hz2]
  funext y
  have h0 : (y 0).val < 8 := (y 0).isLt
  unfold upd
  rcases (by omega : (y 0).val = 0 ∨ (y 0).val = 1 ∨ (y 0).val = 2 ∨ 3 ≤ (y 0).val) with h | h | h | h
  · rw [if_pos h, View.read_writes_cons_rows_of_not_mem _ _ _ _ _ _ rfl (W := 1) rfl (by omega), View.read_writes_cons_rows_of_not_mem _ _ _ _ _ _ rfl (W := 1) rfl (by omega)]
    exact View.read_writes_cons_rows_of_mem _ _ _ _ _ y (ix2 0 (y 1)) rfl (by rw [h]; rfl) rfl
  · rw [if_neg (by omega), if_pos h, View.read_writes_cons_rows_of_not_mem _ _ _ _ _ _ rfl (W := 1) rfl (by omega)]
    exact View.read_writes_cons_rows_of_mem _ _ _ _ _ y (ix2 0 (y 1)) rfl (by rw [h]; rfl) rfl
  · rw [if_neg (by omega), if_neg (by omega), if_pos h]
    exact View.read_writes_cons_rows_of_mem _ _ _ _ _ y (ix2 0 (y 1)) rfl (by rw [h]; rfl) rfl
  · rw [if_neg (by omega), if_neg (by omega), if_neg (by omega), View.read_writes_cons_rows_of_not_mem _ _ _ _ _ _ rfl (W := 1) rfl (by omega),
      View.read_writes_cons_rows_of_not_mem _ _ _ _ _ _ rfl (W := 1) rfl (by omega), View.read_writes_cons_rows_of_not_mem _ _ _ _ _ _ rfl (W := 1) rfl (by omega)]
    exact congrFun (harg10.read_unread xo8) y

end Cert.FfnInIdeal.Val

end
-- ==== Proof.FfnSpec.lean ====
/- The gradient of a feed-forward block's input: the gradient of the first product's input, then back through the
   shift and scale and through the root-mean-square norm, as sums over extended real numbers. -/
module

public import Idealize.ShloMosaic.Lib.Pointwise

@[expose] public section

noncomputable section

namespace Cert.Ffn

open Idealize.ShloMosaic

section row

variable (x w s d : Fin 1024 → EReal)

/-- The mean square of a row and the norm's small constant; `1149239296` are the bits of 1024. -/
def ms : EReal := Ideal.div (∑ a, x a * x a) (Ideal.ofBits .f32 1149239296#32) + Ideal.ofBits .f32 897988541#32

/-- One over the root. -/
def rs : EReal := Ideal.rsqrt (ms x)

/-- The factor of the row in the gradient through the root; `3204448256` are the bits of -1/2. -/
def qx : EReal :=
  Ideal.div ((∑ a, x a * (d a * (1 + s a) * w a)) * (Ideal.ofBits .f32 3204448256#32 * Ideal.div (rs x) (ms x)))
    (Ideal.ofBits .f32 1149239296#32)

/-- The gradient of the row, `d` being the gradient of the normed, scaled and shifted row. -/
def gx (j : Fin 1024) : EReal := d j * (1 + s j) * w j * rs x + x j * qx x w s d + qx x w s d * x j

/-- What the row adds to the gradient of the norm's weight, and to that of the scale. -/
def gw (j : Fin 1024) : EReal := x j * rs x * (d j * (1 + s j))
def gs (j : Fin 1024) : EReal := x j * rs x * w j * d j

end row

variable (G U : (⟨2, ![16384, 2816]⟩ : Shape).Idx → EReal) (W : (⟨2, ![1024, 5632]⟩ : Shape).Idx → EReal)
variable (X R : (⟨2, ![16384, 1024]⟩ : Shape).Idx → EReal) (V : (⟨2, ![8, 1024]⟩ : Shape).Idx → EReal)

/-- The gradient of the product's input: the two halves of the product with the two halves of the weight. -/
def dh (n : Fin 16384) (j : Fin 1024) : EReal :=
  ∑ k : Fin 2816, G (ix2 n k) * W (ix2 j ⟨k.val, by omega⟩) + ∑ k : Fin 2816, U (ix2 n k) * W (ix2 j ⟨2816 + k.val, by omega⟩)

/-- Row `n` of an array. -/
def rw' (n : Fin 16384) (j : Fin 1024) : EReal := X (ix2 n j)
/-- The norm's weight and the scale, rows 0 and 2 of the vectors. -/
def vw (j : Fin 1024) : EReal := V (ix2 0 j)
def vs (j : Fin 1024) : EReal := V (ix2 2 j)

/-- The gradient of the block's input, added to what came by the residual path. -/
def tX : (⟨2, ![16384, 1024]⟩ : Shape).Idx → EReal := fun i =>
  R i + gx (rw' X (i 0)) (vw V) (vs V) (dh G U W (i 0)) (i 1)

/-- What row `n` adds to row `r` of the gradients of the vectors. -/
def tm (r : ℕ) (j : Fin 1024) (n : Fin 16384) : EReal :=
  if r = 0 then gw (rw' X n) (vs V) (dh G U W n) j else if r = 1 then dh G U W n j
  else if r = 2 then gs (rw' X n) (vw V) (dh G U W n) j else 0

/-- The gradients of the norm's weight, the shift and the scale; five rows of zeros. -/
def tV : (⟨2, ![8, 1024]⟩ : Shape).Idx → EReal := fun i => ∑ n, tm G U W X V (i 0).val (i 1) n

end Cert.Ffn

end
-- ==== Proof.Sums.lean ====
/- Sums cut into blocks. -/
module

public import Idealize.ShloMosaic.Lib.Pointwise

@[expose] public section

noncomputable section

namespace Cert.Sums

/-- A function of `n` indices, continued by zero. -/
def ext (n : ℕ) (f : Fin n → EReal) (k : ℕ) : EReal := if h : k < n then f ⟨k, h⟩ else 0

theorem ext_of_lt {n : ℕ} (f : Fin n → EReal) {k : ℕ} (h : k < n) : ext n f k = f ⟨k, h⟩ := dif_pos h

theorem sum_ext (n : ℕ) (f : Fin n → EReal) : ∑ k ∈ Finset.range n, ext n f k = ∑ k, f k := by
  rw [Finset.sum_range]
  exact Finset.sum_congr rfl fun k _ => ext_of_lt f k.isLt

/-- A sum over `n` blocks of `b` terms is the sum over `b n` terms. -/
theorem sum_blocks (b n : ℕ) (f : ℕ → EReal) :
    ∑ i ∈ Finset.range n, ∑ k : Fin b, f (b * i + k.val) = ∑ k ∈ Finset.range (b * n), f k := by
  induction n with
  | zero => simp
  | succ n ih => rw [Finset.sum_range_succ, ih, Nat.mul_succ, Finset.sum_range_add, Finset.sum_range fun x => f (b * n + x)]

end Cert.Sums

end
-- ==== Proof.FfnIn1.lean ====
/- What the kernel computes in the backward call of the feed-forward block's input: a block of rows takes two grid
   points, one for each half of the columns; the second writes the rows and adds their sums to the gradients of
   the three vectors, so that after the last point these are the sums over all rows. -/
module

public import proofs.«01_k».proof.Proof.FfnIn0
public import proofs.«01_k».proof.Proof.FfnSpec
public import proofs.«01_k».proof.Proof.Sums

@[expose] public section

set_option maxRecDepth 16384

noncomputable section

namespace Cert.FfnInIdeal.Val

open Idealize.ShloMosaic Idealize.ShloMosaic.TcCoe
open Cert.FfnInIdeal Cert.FfnInIdeal.Gen Cert.FfnInIdeal.Value Cert.Ffn Cert.Sums

/-! ## The stored terms, entry by entry -/

section terms

variable (x d e : Vec Ideal S512x1024 .f32) (w s : Vec Ideal S1x1024 .f32)

/-- A row of a block, and the only row of a vector. -/
abbrev br (x : Vec Ideal S512x1024 .f32) (i : Fin 512) (j : Fin 1024) : EReal := x (ix2 i j)
abbrev v1 (w : Vec Ideal S1x1024 .f32) (j : Fin 1024) : EReal := w (ix2 0 j)

theorem pay8_at (i : Fin 512) : (k0_pay8 (F := Ideal) x : (⟨2, ![512, 1]⟩ : Shape).Idx → EReal) (ix2 i 0) = ms (br x i) := by
  unfold ms
  pointwise [k0_pay8]

theorem pay17_at (i : Fin 512) (j : Fin 1024) :
    (k0_pay17 (F := Ideal) x w s d : (⟨2, ![512, 1024]⟩ : Shape).Idx → EReal) (ix2 i j) = br d i j * (1 + v1 s j) * v1 w j * rs (br x i) := by
  have h := pay8_at x i
  unfold rs
  rw [← h]
  pointwise [k0_pay17, k0_pay16, k0_pay9, k0_pay14, k0_pay11]

theorem pay18_at (i : Fin 512) :
    (k0_pay18 (F := Ideal) x w s d : (⟨2, ![512, 1]⟩ : Shape).Idx → EReal) (ix2 i 0) = qx (br x i) (v1 w) (v1 s) (br d i) := by
  have h := pay8_at x i
  unfold qx rs
  rw [← h]
  pointwise [k0_pay18, k0_pay16, k0_pay9, k0_pay14, k0_pay11]

theorem pay4_at (i : Fin 512) (j : Fin 1024) :
    (k0_pay4 (F := Ideal) x (k0_pay17 x w s d) (k0_pay18 x w s d) e : (⟨2, ![512, 1024]⟩ : Shape).Idx → EReal) (ix2 i j)
      = e (ix2 i j) + gx (br x i) (v1 w) (v1 s) (br d i) j := by
  have h1 := pay17_at x d w s i j
  have h2 := pay18_at x d w s i
  unfold gx
  rw [← h1, ← h2]
  generalize k0_pay17 (F := Ideal) x w s d = A
  generalize k0_pay18 (F := Ideal) x w s d = B
  pointwise [k0_pay4]
  simp only [Finset.univ_unique, Finset.sum_singleton]
  rfl

theorem pay5_at (o : Vec Ideal S1x1024 .f32) (j : Fin 1024) :
    (k0_pay5 (F := Ideal) (k0_pay15 x s d) o : (⟨2, ![1, 1024]⟩ : Shape).Idx → EReal) (ix2 0 j) = v1 o j + ∑ i, gw (br x i) (v1 s) (br d i) j := by
  have h : ∑ i, gw (br x i) (v1 s) (br d i) j = (k0_pay15 (F := Ideal) x s d : (⟨2, ![1, 1024]⟩ : Shape).Idx → EReal) (ix2 0 j) := by
    refine Eq.symm (Eq.trans ?_ (Finset.sum_congr (f := fun i : Fin 512 => x (ix2 i j) * Ideal.rsqrt (k0_pay8 (F := Ideal) x (ix2 i 0)) * (d (ix2 i j) * (1 + s (ix2 0 j)))) rfl fun i _ => ?_))
    · pointwise [k0_pay15, k0_pay14, k0_pay10, k0_pay9, k0_pay11]
    · unfold gw rs; exact congrArg (fun u : EReal => x (ix2 i j) * Ideal.rsqrt u * (d (ix2 i j) * (1 + s (ix2 0 j)))) (pay8_at x i)
  rw [h]
  generalize k0_pay15 (F := Ideal) x s d = A
  pointwise [k0_pay5]

theorem pay6_at (o : Vec Ideal S1x1024 .f32) (j : Fin 1024) :
    (k0_pay6 (F := Ideal) (k0_pay12 d) o : (⟨2, ![1, 1024]⟩ : Shape).Idx → EReal) (ix2 0 j) = v1 o j + ∑ i, br d i j := by
  pointwise [k0_pay6, k0_pay12]

theorem pay7_at (o : Vec Ideal S1x1024 .f32) (j : Fin 1024) :
    (k0_pay7 (F := Ideal) (k0_pay13 x w d) o : (⟨2, ![1, 1024]⟩ : Shape).Idx → EReal) (ix2 0 j) = v1 o j + ∑ i, gs (br x i) (v1 w) (br d i) j := by
  have h : ∑ i, gs (br x i) (v1 w) (br d i) j = (k0_pay13 (F := Ideal) x w d : (⟨2, ![1, 1024]⟩ : Shape).Idx → EReal) (ix2 0 j) := by
    refine Eq.symm (Eq.trans ?_ (Finset.sum_congr (f := fun i : Fin 512 => x (ix2 i j) * Ideal.rsqrt (k0_pay8 (F := Ideal) x (ix2 i 0)) * w (ix2 0 j) * d (ix2 i j)) rfl fun i _ => ?_))
    · pointwise [k0_pay13, k0_pay10, k0_pay9, k0_pay11]
    · unfold gs rs; exact congrArg (fun u : EReal => x (ix2 i j) * Ideal.rsqrt u * w (ix2 0 j) * d (ix2 i j)) (pay8_at x i)
  rw [h]
  generalize k0_pay13 (F := Ideal) x w d = A
  pointwise [k0_pay7]

theorem pay3_at (a : Vec Ideal S512x1408 .bf16) (b : Vec Ideal S1024x1408 .bf16) (a' : Vec Ideal S512x1408 .bf16) (b' : Vec Ideal S1024x1408 .bf16)
    (i : Fin 512) (j : Fin 1024) :
    (k0_pay3 (F := Ideal) a b a' b' e : (⟨2, ![512, 1024]⟩ : Shape).Idx → EReal) (ix2 i j)
      = e (ix2 i j) + (∑ k : Fin 1408, a (ix2 i k) * b (ix2 j k) + ∑ k : Fin 1408, a' (ix2 i k) * b' (ix2 j k)) := by
  pointwise [k0_pay3]

theorem pay2_at (i : Fin 512) (j : Fin 1024) : (k0_pay2 (F := Ideal) : (⟨2, ![512, 1024]⟩ : Shape).Idx → EReal) (ix2 i j) = 0 := by
  pointwise [k0_pay2]

theorem pay1_at (i : Fin 8) (j : Fin 1024) : (k0_pay1 (F := Ideal) : (⟨2, ![8, 1024]⟩ : Shape).Idx → EReal) (ix2 i j) = 0 := by
  pointwise [k0_pay1]

end terms

/-! ## The blocks -/

variable (m : (ℓ : Loc nD τ sig) → Buf (Elt Ideal) ℓ) (c : Dev nD)

abbrev aG : (⟨2, ![16384, 2816]⟩ : Shape).Idx → EReal := m ((c.tc : Thread nD τ).loc main_arg0)
abbrev aU : (⟨2, ![16384, 2816]⟩ : Shape).Idx → EReal := m ((c.tc : Thread nD τ).loc main_arg1)
abbrev aW : (⟨2, ![1024, 5632]⟩ : Shape).Idx → EReal := m ((c.tc : Thread nD τ).loc main_arg2)
abbrev aX : (⟨2, ![16384, 1024]⟩ : Shape).Idx → EReal := m ((c.tc : Thread nD τ).loc main_arg3)
abbrev aR : (⟨2, ![16384, 1024]⟩ : Shape).Idx → EReal := m ((c.tc : Thread nD τ).loc main_arg4)
abbrev aV : (⟨2, ![8, 1024]⟩ : Shape).Idx → EReal := m ((c.tc : Thread nD τ).loc main_arg5)

theorem idx : ∀ t : Fin cfg0.N, win0_0.index t = ![t.val / 2, t.val % 2] ∧ win0_1.index t = ![t.val / 2, t.val % 2]
    ∧ win0_2.index t = ![0, t.val % 2] ∧ win0_3.index t = ![0, 2 + t.val % 2] ∧ win0_4.index t = ![t.val / 2, 0]
    ∧ win0_5.index t = ![t.val / 2, 0] ∧ win0_6.index t = ![0, 0] :=
  (by decide +kernel : ∀ t : Fin grid0.N, _)

theorem ib_0 (t : Fin cfg0.N) (i : Fin 512) (k : Fin 1408) (h : 512 * (t.val / 2) + i.val < 16384) :
    (iblk m c 0 t : Vec Ideal S512x1408 .bf16) (ix2 i k) = aG m c (ix2 ⟨512 * (t.val / 2) + i.val, h⟩ ⟨1408 * (t.val % 2) + k.val, by omega⟩) := by
  blk_ext [iblk, idx t]
theorem ib_1 (t : Fin cfg0.N) (i : Fin 512) (k : Fin 1408) (h : 512 * (t.val / 2) + i.val < 16384) :
    (iblk m c 1 t : Vec Ideal S512x1408 .bf16) (ix2 i k) = aU m c (ix2 ⟨512 * (t.val / 2) + i.val, h⟩ ⟨1408 * (t.val % 2) + k.val, by omega⟩) := by
  blk_ext [iblk, idx t]
theorem ib_2 (t : Fin cfg0.N) (j : Fin 1024) (k : Fin 1408) :
    (iblk m c 2 t : Vec Ideal S1024x1408 .bf16) (ix2 j k) = aW m c (ix2 j ⟨1408 * (t.val % 2) + k.val, by omega⟩) := by
  blk_ext [iblk, idx t]
theorem ib_3 (t : Fin cfg0.N) (j : Fin 1024) (k : Fin 1408) :
    (iblk m c 3 t : Vec Ideal S1024x1408 .bf16) (ix2 j k) = aW m c (ix2 j ⟨2816 + (1408 * (t.val % 2) + k.val), by omega⟩) := by
  blk_ext [iblk, idx t]
theorem ib_4 (t : Fin cfg0.N) (i : Fin 512) (j : Fin 1024) (h : 512 * (t.val / 2) + i.val < 16384) :
    (iblk m c 4 t : Vec Ideal S512x1024 .f32) (ix2 i j) = aX m c (ix2 ⟨512 * (t.val / 2) + i.val, h⟩ j) := by
  blk_ext [iblk, idx t]
theorem ib_5 (t : Fin cfg0.N) (i : Fin 512) (j : Fin 1024) (h : 512 * (t.val / 2) + i.val < 16384) :
    (iblk m c 5 t : Vec Ideal S512x1024 .f32) (ix2 i j) = aR m c (ix2 ⟨512 * (t.val / 2) + i.val, h⟩ j) := by
  blk_ext [iblk, idx t]
theorem ib_6 (t : Fin cfg0.N) (i : Fin 8) (j : Fin 1024) :
    (iblk m c 6 t : Vec Ideal S8x1024 .f32) (ix2 i j) = aV m c (ix2 i j) := by
  blk_ext [iblk, idx t]

theorem row0_at (x : Vec Ideal S8x1024 .f32) (j : Fin 1024) : r0 x (ix2 0 j) = x (ix2 0 j) := by
  refine congrArg x ?_
  funext a; fin_cases a <;> exact Fin.ext (by simp [Rect.emb])
theorem row1_at (x : Vec Ideal S8x1024 .f32) (j : Fin 1024) : r1 x (ix2 0 j) = x (ix2 1 j) := by
  refine congrArg x ?_
  funext a; fin_cases a <;> exact Fin.ext (by simp [Rect.emb])
theorem row2_at (x : Vec Ideal S8x1024 .f32) (j : Fin 1024) : r2 x (ix2 0 j) = x (ix2 2 j) := by
  refine congrArg x ?_
  funext a; fin_cases a <;> exact Fin.ext (by simp [Rect.emb])

theorem vec_w (t : Fin cfg0.N) : v1 (r0 (iblk m c 6 t)) = vw (aV m c) := by
  funext j
  exact (row0_at _ j).trans (ib_6 m c t 0 j)
theorem vec_s (t : Fin cfg0.N) : v1 (r2 (iblk m c 6 t)) = vs (aV m c) := by
  funext j
  exact (row2_at _ j).trans (ib_6 m c t 2 j)

/-- The products of half the columns. -/
def hf (n : Fin 16384) (j : Fin 1024) (b : Fin 2) : EReal :=
  ∑ k : Fin 1408, aG m c (ix2 n ⟨1408 * b.val + k.val, by omega⟩) * aW m c (ix2 j ⟨1408 * b.val + k.val, by omega⟩)
    + ∑ k : Fin 1408, aU m c (ix2 n ⟨1408 * b.val + k.val, by omega⟩) * aW m c (ix2 j ⟨2816 + (1408 * b.val + k.val), by omega⟩)

theorem halves (f : Fin 2816 → EReal) :
    ∑ k, f k = ∑ k : Fin 1408, f ⟨1408 * 0 + k.val, by omega⟩ + ∑ k : Fin 1408, f ⟨1408 * 1 + k.val, by omega⟩ := by
  refine (Fin.sum_univ_add (a := 1408) (b := 1408) f).trans ?_
  refine congrArg₂ (fun u v : EReal => u + v) (Finset.sum_congr rfl fun k _ => congrArg f (Fin.ext ?_)) (Finset.sum_congr rfl fun k _ => congrArg f (Fin.ext ?_))
  · show k.val = 1408 * 0 + k.val; omega
  · show 1408 + k.val = 1408 * 1 + k.val; omega

theorem hf_add (n : Fin 16384) (j : Fin 1024) : 0 + hf m c n j 0 + hf m c n j 1 = dh (aG m c) (aU m c) (aW m c) n j := by
  unfold dh
  rw [halves, halves, zero_add]
  exact add_add_add_comm _ _ _ _

/-- A block's product added to `e`. -/
abbrev pr (t : Fin cfg0.N) (e : Vec Ideal S512x1024 .f32) : Vec Ideal S512x1024 .f32 :=
  k0_pay3 (iblk m c 0 t) (iblk m c 2 t) (iblk m c 1 t) (iblk m c 3 t) e

theorem pr_at (t : Fin cfg0.N) (e : Vec Ideal S512x1024 .f32) (i : Fin 512) (j : Fin 1024) (n : Fin 16384)
    (hn : n.val = 512 * (t.val / 2) + i.val) (b : Fin 2) (hb : b.val = t.val % 2) :
    pr m c t e (ix2 i j) = e (ix2 i j) + hf m c n j b := by
  obtain ⟨n, h⟩ := n
  obtain ⟨b, hb'⟩ := b
  dsimp only at hn hb
  subst hn hb
  refine (pay3_at e _ _ _ _ i j).trans (congrArg (fun u : EReal => e (ix2 i j) + u) ?_)
  refine congrArg₂ (fun u v : EReal => u + v) (Finset.sum_congr rfl fun k _ => ?_) (Finset.sum_congr rfl fun k _ => ?_)
  · exact congrArg₂ (fun u v : EReal => u * v) (ib_0 m c t i k h) (ib_2 m c t j k)
  · exact congrArg₂ (fun u v : EReal => u * v) (ib_1 m c t i k h) (ib_3 m c t j k)

/-- The point before. -/
abbrev pre (t : Fin cfg0.N) : Fin cfg0.N := ⟨t.val - 1, Nat.lt_of_le_of_lt (Nat.sub_le _ _) t.isLt⟩

/-- The product that the second point of a block of rows ends with. -/
abbrev dA (t : Fin cfg0.N) : Vec Ideal S512x1024 .f32 := pr m c t (pr m c (pre t) (k0_pay2 (F := Ideal)))

theorem dA_at (t : Fin cfg0.N) (ht : t.val % 2 = 1) (i : Fin 512) (n : Fin 16384) (hn : n.val = 512 * (t.val / 2) + i.val) :
    br (dA m c t) i = dh (aG m c) (aU m c) (aW m c) n := by
  funext j
  refine Eq.trans ?_ (hf_add m c n j)
  refine (pr_at m c t _ i j n hn 1 (by show 1 = _; omega)).trans (congrArg (fun u : EReal => u + hf m c n j 1) ?_)
  refine (pr_at m c (pre t) _ i j n (by show _ = 512 * ((t.val - 1) / 2) + i.val; omega) 0 (by show 0 = (t.val - 1) % 2; omega)).trans ?_
  exact congrArg (fun u : EReal => u + hf m c n j 0) (pay2_at i j)

theorem dx_at (t : Fin cfg0.N) (i : Fin 512) (n : Fin 16384) (hn : n.val = 512 * (t.val / 2) + i.val) :
    br (iblk m c 4 t) i = rw' (aX m c) n := by
  obtain ⟨n, h⟩ := n
  dsimp only at hn
  subst hn
  funext j
  exact ib_4 m c t i j h

/-! ## The points -/

theorem scr_even (t : Fin cfg0.N) (ht : t.val % 2 = 0) : (outsAt0 m c t.val t.isLt).2.2 = pr m c t (k0_pay2 (F := Ideal)) := by
  by_cases h0 : t.val % 64 = 0
  · rw [outsAt0_A m c t h0 ht (by omega)]
    dsimp only
    rw [acc_A]
  · rw [outsAt0_C m c t h0 ht (by omega)]
    dsimp only
    rw [acc_C]

theorem rows_odd (t : Fin cfg0.N) (ht : t.val % 2 = 1) :
    (outsAt0 m c t.val t.isLt).1 = k0_pay4 (iblk m c 4 t) (k0_pay17 (iblk m c 4 t) (r0 (iblk m c 6 t)) (r2 (iblk m c 6 t)) (dA m c t))
      (k0_pay18 (iblk m c 4 t) (r0 (iblk m c 6 t)) (r2 (iblk m c 6 t)) (dA m c t)) (iblk m c 5 t) := by
  have hs := scr_even m c (pre t) (by show (t.val - 1) % 2 = 0; omega)
  unfold dA
  rw [← hs, outsAt0_B m c t (by omega) (by omega) ht]
  dsimp only
  rw [out_B_7]

/-- The gradients of the vectors after a second point, from those before. -/
abbrev up8 (t : Fin cfg0.N) (x : Vec Ideal S8x1024 .f32) : Vec Ideal S8x1024 .f32 :=
  upd (k0_pay5 (k0_pay15 (iblk m c 4 t) (r2 (iblk m c 6 t)) (dA m c t)) (r0 x)) (k0_pay6 (k0_pay12 (dA m c t)) (r1 x))
    (k0_pay7 (k0_pay13 (iblk m c 4 t) (r0 (iblk m c 6 t)) (dA m c t)) (r2 x)) x

theorem vecs_odd (t : Fin cfg0.N) (ht : t.val % 2 = 1) :
    (outsAt0 m c t.val t.isLt).2.1 = up8 m c t (outsAt0 m c (pre t).val (pre t).isLt).2.1 := by
  have hs := scr_even m c (pre t) (by show (t.val - 1) % 2 = 0; omega)
  unfold up8 dA
  rw [← hs, outsAt0_B m c t (by omega) (by omega) ht]
  dsimp only
  rw [out_B_8]

theorem vecs_first (t : Fin cfg0.N) (h0 : t.val % 64 = 0) : (outsAt0 m c t.val t.isLt).2.1 = k0_pay1 (F := Ideal) := by
  rw [outsAt0_A m c t h0 (by omega) (by omega)]
  dsimp only
  rw [out_A_8]

/-- What row `n` adds, zero beyond the last row. -/
abbrev tn (r : ℕ) (j : Fin 1024) : ℕ → EReal := ext 16384 (tm (aG m c) (aU m c) (aW m c) (aX m c) (aV m c) r j)

theorem up8_at (t : Fin cfg0.N) (ht : t.val % 2 = 1) (x : Vec Ideal S8x1024 .f32) (r : Fin 8) (j : Fin 1024) :
    up8 m c t x (ix2 r j) = x (ix2 r j) + ∑ k : Fin 512, tn m c r.val j (512 * (t.val / 2) + k.val) := by
  have hN : t.val < 64 := lt_of_lt_of_eq t.isLt N_0
  have hn (k : Fin 512) : 512 * (t.val / 2) + k.val < 16384 := by omega
  have he (k : Fin 512) : tn m c r.val j (512 * (t.val / 2) + k.val) = tm (aG m c) (aU m c) (aW m c) (aX m c) (aV m c) r.val j ⟨_, hn k⟩ :=
    ext_of_lt (tm (aG m c) (aU m c) (aW m c) (aX m c) (aV m c) r.val j) (hn k)
  rw [Finset.sum_congr rfl fun k _ => he k]
  have hd (k : Fin 512) := dA_at m c t ht k ⟨_, hn k⟩ rfl
  have hx (k : Fin 512) := dx_at m c t k ⟨_, hn k⟩ rfl
  unfold up8 upd
  show (if r.val = 0 then _ else if r.val = 1 then _ else if r.val = 2 then _ else _) = _
  by_cases h0 : r.val = 0
  · obtain rfl : r = 0 := Fin.ext h0
    rw [if_pos h0]
    refine (pay5_at _ _ _ _ j).trans (congrArg₂ (fun u v : EReal => u + v) (row0_at x j) (Finset.sum_congr rfl fun k _ => ?_))
    unfold tm
    rw [if_pos h0, hd k, hx k, vec_s]
  rw [if_neg h0]
  by_cases h1 : r.val = 1
  · obtain rfl : r = 1 := Fin.ext h1
    rw [if_pos h1]
    refine (pay6_at _ _ j).trans (congrArg₂ (fun u v : EReal => u + v) (row1_at x j) (Finset.sum_congr rfl fun k _ => ?_))
    unfold tm
    rw [if_neg h0, if_pos h1, hd k]
  rw [if_neg h1]
  by_cases h2 : r.val = 2
  · obtain rfl : r = 2 := Fin.ext h2
    rw [if_pos h2]
    refine (pay7_at _ _ _ _ j).trans (congrArg₂ (fun u v : EReal => u + v) (row2_at x j) (Finset.sum_congr rfl fun k _ => ?_))
    unfold tm
    rw [if_neg h0, if_neg h1, if_pos h2, hd k, hx k, vec_w]
  rw [if_neg h2]
  refine (add_zero (x (ix2 r j) : EReal)).symm.trans (congrArg (fun u : EReal => x (ix2 r j) + u) (Finset.sum_eq_zero fun k _ => ?_).symm)
  unfold tm
  rw [if_neg h0, if_neg h1, if_neg h2]

/-- The gradients of the vectors after block `b`. -/
theorem vecs_at (r : Fin 8) (j : Fin 1024) : ∀ (b : ℕ) (h : 2 * b + 1 < cfg0.N),
    (outsAt0 m c (2 * b + 1) h).2.1 (ix2 r j) = ∑ i ∈ Finset.range (b + 1), ∑ k : Fin 512, tn m c r.val j (512 * i + k.val) := by
  intro b
  induction b with
  | zero =>
    intro h
    have e := congrFun (vecs_odd m c ⟨2 * 0 + 1, h⟩ rfl) (ix2 r j)
    refine (e.trans (up8_at m c ⟨2 * 0 + 1, h⟩ rfl _ r j)).trans ?_
    have h0 : 0 < cfg0.N := by omega
    have hz : (outsAt0 m c 0 h0).2.1 (ix2 r j) = (0 : EReal) := by
      exact (congrFun (vecs_first m c ⟨0, h0⟩ rfl) (ix2 r j)).trans (pay1_at r j)
    refine (congrArg (fun u : EReal => u + _) hz).trans ?_
    rw [Finset.sum_range_one]
    exact (@zero_add EReal _ _).trans (Finset.sum_congr rfl fun k _ => congrArg _ (by show 512 * ((2 * 0 + 1) / 2) + k.val = 512 * 0 + k.val; omega))
  | succ b ih =>
    intro h
    have hN : 2 * (b + 1) + 1 < 64 := lt_of_lt_of_eq h N_0
    have ht : (2 * (b + 1) + 1) % 2 = 1 := by omega
    have hd : (2 * (b + 1) + 1) / 2 = b + 1 := by omega
    have e := congrFun (vecs_odd m c ⟨2 * (b + 1) + 1, h⟩ ht) (ix2 r j)
    refine (e.trans (up8_at m c ⟨2 * (b + 1) + 1, h⟩ ht _ r j)).trans ?_
    have h1 : 2 * b + 2 < cfg0.N := by omega
    have hz : (outsAt0 m c (2 * b + 2) h1).2.1 (ix2 r j) = (outsAt0 m c (2 * b + 1) (by omega)).2.1 (ix2 r j) := by
      rw [outsAt0_C m c ⟨2 * b + 2, h1⟩ (by show ¬ (2 * b + 2) % 64 = 0; omega) (by show (2 * b + 2) % 2 = 0; omega) (by show ¬ (2 * b + 2) % 2 = 1; omega)]
      rfl
    refine (congrArg (fun u : EReal => u + _) (hz.trans (ih _))).trans ?_
    rw [Finset.sum_range_succ _ (b + 1)]
    exact congrArg (fun u : EReal => _ + u) (Finset.sum_congr rfl fun k _ => congrArg _ (by show 512 * ((2 * (b + 1) + 1) / 2) + _ = _; rw [hd]))

theorem vecs_last (r : Fin 8) (j : Fin 1024) (n : ℕ) (h : n < cfg0.N) (hn : n = 2 * 31 + 1) :
    (outsAt0 m c n h).2.1 (ix2 r j) = ∑ i ∈ Finset.range 32, ∑ k : Fin 512, tn m c r.val j (512 * i + k.val) := by
  subst hn
  exact vecs_at m c r j 31 h

/-! ## The two arrays after the run -/

/-- The gradients of the vectors. -/
theorem G8_eq : G8 m c = tV (aG m c) (aU m c) (aW m c) (aX m c) (aV m c) := by
  refine ((G8_last m c).trans (congrArg (fun p => p.2.1) (outsAt0_sweep m c 63 (lt_of_lt_of_eq (by decide) N_0.symm))).symm).trans ?_
  funext i
  have hi : i = ix2 (i 0) (i 1) := by funext a; fin_cases a <;> rfl
  refine Eq.trans (congrArg _ hi) ((vecs_last m c (i 0) (i 1) 63 (lt_of_lt_of_eq (by decide) N_0.symm) rfl).trans ?_)
  rw [sum_blocks]
  exact sum_ext 16384 _

theorem rows_at (t : Fin cfg0.N) (ht : t.val % 2 = 1) (p : Fin 512) (n : Fin 16384) (hn : n.val = 512 * (t.val / 2) + p.val) (j : Fin 1024) :
    (outsAt0 m c t.val t.isLt).1 (ix2 p j) = aR m c (ix2 n j) + gx (rw' (aX m c) n) (vw (aV m c)) (vs (aV m c)) (dh (aG m c) (aU m c) (aW m c) n) j := by
  refine (congrFun (rows_odd m c t ht) (ix2 p j)).trans ((pay4_at _ _ _ _ _ p j).trans ?_)
  rw [vec_w, vec_s, dA_at m c t ht p n hn, dx_at m c t p n hn]
  refine congrArg (fun u : EReal => u + _) ?_
  obtain ⟨n, h⟩ := n
  dsimp only at hn
  subst hn
  exact ib_5 m c t p j h

/-- The gradient of the block's input. -/
theorem G7_eq : G7 m c = tX (aG m c) (aU m c) (aW m c) (aX m c) (aR m c) (aV m c) := by
  funext i
  have h0 : (i 0).val < 16384 := (i 0).isLt
  have h1 : (i 1).val < 1024 := (i 1).isLt
  have hr : run7Of i = (i 0).val / 512 := by
    show 1 * ((i 0).val / 512 - 0) + 1 * ((i 1).val / 1024 - 0) = _; omega
  have hN : cfg0.N = 64 := N_0
  have hlt : pt7Of i < cfg0.N := by rw [hN]; show 2 * run7Of i + 1 < 64; omega
  have hl : loc7Of i = ix2 ⟨(i 0).val % 512, Nat.mod_lt _ (by decide)⟩ (i 1) := by
    funext a
    match a with
    | ⟨0, _⟩ => rfl
    | ⟨1, _⟩ => exact Fin.ext (Nat.mod_eq_of_lt h1)
  have hg : G7 m c i = (outsAt0 m c (pt7Of i) hlt).1 (loc7Of i) := by
    unfold G7
    rw [dif_pos hlt, outsAt0_sweep]
  rw [hg, hl]
  have hi : tX (aG m c) (aU m c) (aW m c) (aX m c) (aR m c) (aV m c) i = aR m c (ix2 (i 0) (i 1))
      + gx (rw' (aX m c) (i 0)) (vw (aV m c)) (vs (aV m c)) (dh (aG m c) (aU m c) (aW m c) (i 0)) (i 1) := by
    unfold tX
    exact congrArg (fun u : EReal => u + _) (congrArg (aR m c) (by funext a; fin_cases a <;> rfl))
  rw [hi]
  generalize hp : (⟨pt7Of i, hlt⟩ : Fin cfg0.N) = t
  have hv : t.val = 2 * run7Of i + 1 := by rw [← hp]
  have ht : t.val % 2 = 1 := by omega
  have hn : (i 0).val = 512 * (t.val / 2) + (i 0).val % 512 := by omega
  refine Eq.trans ?_ (rows_at m c t ht ⟨(i 0).val % 512, Nat.mod_lt _ (by decide)⟩ (i 0) hn (i 1))
  subst hp
  rfl

end Cert.FfnInIdeal.Val

end
-- ==== Proof.FfnInRef.lean ====
/- The reference's gradients of a feed-forward block's input and of the three vectors, entry by entry. -/
module

public import proofs.«01_k».proof.Proof.FfnSpec
public import proofs.«01_k».proof.Proof.Gen.FfnInRefIdeal.Run

@[expose] public section

set_option maxRecDepth 16384

noncomputable section

namespace Cert.FfnInRefIdeal.Val

open Idealize.ShloMosaic Idealize.ShloMosaic.TcCoe
open Cert.FfnInRefIdeal Cert.FfnInRefIdeal.Gen Cert.FfnInRefIdeal.Value Cert.Ffn

/-- The two halves side by side, times the weight: the sum over the columns is the sum over the two halves. -/
theorem dot_at (G U : Vec Ideal S16384x2816 .bf16) (W : Vec Ideal S1024x5632 .bf16) (n : Fin 16384) (j : Fin 1024) :
    (Host.dotGeneral (F := Ideal) dot_S16384x5632_S1024x5632_S16384x1024_1_1_0_0_n_n none (addf (pad S16384x5632 ![0, 2816] ![0, 0] ![0, 0] (extf .f32 U bitsLt_bf16_f32) (constant S_ .f32 0x00000000#32) pads_S16384x2816_S16384x5632_000_281600 h_S_) (pad S16384x5632 ![0, 0] ![0, 2816] ![0, 0] (extf .f32 G bitsLt_bf16_f32) (constant S_ .f32 0x00000000#32) pads_S16384x2816_S16384x5632_000_028160 h_S_)) (extf .f32 W bitsLt_bf16_f32) : (⟨2, ![16384, 1024]⟩ : Shape).Idx → EReal) (ix2 n j)
      = dh G U W n j := by
  pointwise
  refine (Fin.sum_univ_add (a := 2816) (b := 2816) _).trans ?_
  unfold dh
  refine congrArg₂ (fun u v : EReal => u + v) (Finset.sum_congr rfl fun k _ => ?_) (Finset.sum_congr rfl fun k _ => ?_)
  · have h : (Fin.castAdd 2816 k).val = k.val := rfl
    rw [dif_neg (by omega), dif_pos (by omega), zero_add]
    rfl
  · have h : (Fin.natAdd 2816 k).val = 2816 + k.val := rfl
    rw [dif_pos (by omega), dif_neg (by omega), add_zero]
    refine congrArg₂ (fun u v : EReal => u * v) (congrArg (fun q => U (ix2 n q)) (Fin.ext ?_)) rfl
    show (Fin.natAdd 2816 k).val - 2816 = k.val
    omega

variable (m : (ℓ : Loc nD τ sig) → Buf (Elt Ideal) ℓ) (c : Dev nD)

abbrev aG : (⟨2, ![16384, 2816]⟩ : Shape).Idx → EReal := m ((c.tc : Thread nD τ).loc main_arg0)
abbrev aU : (⟨2, ![16384, 2816]⟩ : Shape).Idx → EReal := m ((c.tc : Thread nD τ).loc main_arg1)
abbrev aW : (⟨2, ![1024, 5632]⟩ : Shape).Idx → EReal := m ((c.tc : Thread nD τ).loc main_arg2)
abbrev aX : (⟨2, ![16384, 1024]⟩ : Shape).Idx → EReal := m ((c.tc : Thread nD τ).loc main_arg3)
abbrev aR : (⟨2, ![16384, 1024]⟩ : Shape).Idx → EReal := m ((c.tc : Thread nD τ).loc main_arg4)
abbrev aV : (⟨2, ![8, 1024]⟩ : Shape).Idx → EReal := m ((c.tc : Thread nD τ).loc main_arg5)

theorem out_x : res_out0 m c = tX (aG m c) (aU m c) (aW m c) (aX m c) (aR m c) (aV m c) := by
  have hD := dot_at (aG m c) (aU m c) (aW m c)
  unfold res_out0 res_main_v69
  revert hD
  generalize Host.dotGeneral (F := Ideal) dot_S16384x5632_S1024x5632_S16384x1024_1_1_0_0_n_n none _ _ = D
  intro hD
  funext j
  idx_vars j
  pointwise
  simp only [Finset.univ_unique, Finset.sum_singleton]
  show _ = aR m c (ix2 j0 j1) + gx (rw' (aX m c) j0) (vw (aV m c)) (vs (aV m c)) (dh (aG m c) (aU m c) (aW m c) j0) j1
  simp only [hD, gx, qx, rs, ms, rw', vw, vs]

theorem out_v : res_out1 m c = tV (aG m c) (aU m c) (aW m c) (aX m c) (aV m c) := by
  have hD := dot_at (aG m c) (aU m c) (aW m c)
  unfold res_out1 res_main_v74
  revert hD
  generalize Host.dotGeneral (F := Ideal) dot_S16384x5632_S1024x5632_S16384x1024_1_1_0_0_n_n none _ _ = D
  intro hD
  funext j
  idx_vars j
  pointwise
  simp only [Finset.univ_unique, Finset.sum_singleton]
  show _ = ∑ n, tm (aG m c) (aU m c) (aW m c) (aX m c) (aV m c) j0.val j1 n
  simp only [hD]
  rcases (by omega : j0.val = 0 ∨ j0.val = 1 ∨ j0.val = 2 ∨ 3 ≤ j0.val) with h | h | h | h
  · rw [dif_pos (by omega)]
    refine Finset.sum_congr rfl fun n _ => ?_
    rw [tm, if_pos h]
    simp only [gw, rs, ms, rw', vs]
  · rw [dif_neg (by omega), dif_pos (by omega)]
    refine Finset.sum_congr rfl fun n _ => ?_
    rw [tm, if_neg (by omega), if_pos h]
  · rw [dif_neg (by omega), dif_neg (by omega), dif_pos (by omega)]
    refine Finset.sum_congr rfl fun n _ => ?_
    rw [tm, if_neg (by omega), if_neg (by omega), if_pos h]
    simp only [gs, rs, ms, rw', vw]
  · rw [dif_neg (by omega), dif_neg (by omega), dif_neg (by omega)]
    refine (Finset.sum_eq_zero fun n _ => ?_).symm
    rw [tm, if_neg (by omega), if_neg (by omega), if_neg (by omega)]

end Cert.FfnInRefIdeal.Val

end
-- ==== Proof.Dw.lean ====
/- The gradient of a weight of the feed-forward block, as the kernel computes it: over the 32 blocks of 512 latent tokens it adds
   the products of the columns, beginning with the product over the 256 context tokens. The array it leaves is the
   sum over all tokens, which is what the reference computes. -/
module

public import proofs.«01_k».proof.Proof.Gen.DwGuIdeal.Value
public import proofs.«01_k».proof.Proof.Gen.DwGuRefIdeal.Run
public import proofs.«01_k».proof.Proof.Gen.DwDIdeal.Value
public import proofs.«01_k».proof.Proof.Gen.DwDRefIdeal.Run
public import proofs.«01_k».proof.Proof.Sums
public import Idealize.ShloMosaic.Lib.Pipeline.ValueKit

@[expose] public section

set_option maxRecDepth 16384

noncomputable section

/-! ## The weight of the two inner products -/

namespace Cert.DwGuIdeal.Val

open Idealize.ShloMosaic Idealize.ShloMosaic.TcCoe
open Cert.DwGuIdeal Cert.DwGuIdeal.Gen Cert.DwGuIdeal.Value Cert.Sums
open Idealize.ShloMosaic.Pipeline (Dat)

theorem pay1_at (x : Vec Ideal S256x1024 .bf16) (y : Vec Ideal S256x1408 .bf16) (a : Fin 1024) (e : Fin 1408) :
    k0_pay1 (F := Ideal) x y (ix2 a e) = ∑ k : Fin 256, x (ix2 k a) * y (ix2 k e) := by
  pointwise [k0_pay1]

theorem pay2_at (z : Vec Ideal S1024x1408 .f32) (x : Vec Ideal S512x1024 .bf16) (y : Vec Ideal S512x1408 .bf16) (a : Fin 1024) (e : Fin 1408) :
    k0_pay2 (F := Ideal) z x y (ix2 a e) = z (ix2 a e) + ∑ k : Fin 512, x (ix2 k a) * y (ix2 k e) := by
  pointwise [k0_pay2]

theorem idx : ∀ t : Fin cfg0.N, win0_0.index t = ![t.val % 32, 0] ∧ win0_1.index t = ![t.val % 32, t.val / 32]
    ∧ win0_2.index t = ![0, 0] ∧ win0_3.index t = ![0, t.val / 32] :=
  (by decide +kernel : ∀ t : Fin grid0.N, _)

variable (m : (ℓ : Loc nD τ sig) → Buf (Elt Ideal) ℓ) (c : Dev nD)

/-- The input of the latent tokens, the cotangent of their product, and the same for the context tokens. -/
abbrev hx : (⟨2, ![16384, 1024]⟩ : Shape).Idx → EReal := m ((c.tc : Thread nD τ).loc main_arg0)
abbrev dx : (⟨2, ![16384, 2816]⟩ : Shape).Idx → EReal := m ((c.tc : Thread nD τ).loc main_arg1)
abbrev hc : (⟨2, ![256, 1024]⟩ : Shape).Idx → EReal := m ((c.tc : Thread nD τ).loc main_arg2)
abbrev dc : (⟨2, ![256, 2816]⟩ : Shape).Idx → EReal := m ((c.tc : Thread nD τ).loc main_arg3)

/-- The gradient of the weight: the sum over the context tokens and the sum over the latent tokens. -/
def tW (X : (⟨2, ![16384, 1024]⟩ : Shape).Idx → EReal) (Y : (⟨2, ![16384, 2816]⟩ : Shape).Idx → EReal)
    (X' : (⟨2, ![256, 1024]⟩ : Shape).Idx → EReal) (Y' : (⟨2, ![256, 2816]⟩ : Shape).Idx → EReal) :
    (⟨2, ![1024, 2816]⟩ : Shape).Idx → EReal := fun i =>
  ∑ k : Fin 256, X' (ix2 k (i 0)) * Y' (ix2 k (i 1)) + ∑ k : Fin 16384, X (ix2 k (i 0)) * Y (ix2 k (i 1))

theorem ib_0 (t : Fin cfg0.N) (k : Fin 512) (a : Fin 1024) :
    (iblk m c 0 t : Vec Ideal S512x1024 .bf16) (ix2 k a) = hx m c (ix2 ⟨512 * (t.val % 32) + k.val, by omega⟩ a) := by
  blk_ext [iblk, idx t]

theorem ib_1 (t : Fin cfg0.N) (k : Fin 512) (e : Fin 1408) (he : 1408 * (t.val / 32) + e.val < 2816) :
    (iblk m c 1 t : Vec Ideal S512x1408 .bf16) (ix2 k e) = dx m c (ix2 ⟨512 * (t.val % 32) + k.val, by omega⟩ ⟨1408 * (t.val / 32) + e.val, he⟩) := by
  blk_ext [iblk, idx t]

theorem ib_2 (t : Fin cfg0.N) (k : Fin 256) (a : Fin 1024) :
    (iblk m c 2 t : Vec Ideal S256x1024 .bf16) (ix2 k a) = hc m c (ix2 k a) := by
  blk_ext [iblk, idx t]

theorem ib_3 (t : Fin cfg0.N) (k : Fin 256) (e : Fin 1408) (he : 1408 * (t.val / 32) + e.val < 2816) :
    (iblk m c 3 t : Vec Ideal S256x1408 .bf16) (ix2 k e) = dc m c (ix2 k ⟨1408 * (t.val / 32) + e.val, he⟩) := by
  blk_ext [iblk, idx t]

/-- The product of one latent token, zero beyond the last. -/
def tm (a : Fin 1024) (q : Fin 2816) : ℕ → EReal :=
  ext 16384 fun n => hx m c (ix2 n a) * dx m c (ix2 n q)

/-- The blocks that a grid point reads of the latent tokens. -/
abbrev b0 (t : Fin cfg0.N) : (⟨2, ![512, 1024]⟩ : Shape).Idx → EReal := iblk m c 0 t
abbrev b1 (t : Fin cfg0.N) : (⟨2, ![512, 1408]⟩ : Shape).Idx → EReal := iblk m c 1 t

theorem blk_sum (t : Fin cfg0.N) (a : Fin 1024) (e : Fin 1408) (he : 1408 * (t.val / 32) + e.val < 2816) :
    ∑ k : Fin 512, b0 m c t (ix2 k a) * b1 m c t (ix2 k e)
      = ∑ k : Fin 512, tm m c a ⟨1408 * (t.val / 32) + e.val, he⟩ (512 * (t.val % 32) + k.val) := by
  refine Finset.sum_congr rfl fun k _ => ?_
  have h : 512 * (t.val % 32) + k.val < 16384 := by omega
  exact (congrArg₂ (fun u v : EReal => u * v) (ib_0 m c t k a) (ib_1 m c t k e he)).trans (ext_of_lt (fun n => hx m c (ix2 n a) * dx m c (ix2 n ⟨1408 * (t.val / 32) + e.val, he⟩)) h).symm

/-- What a run of grid points has added up after its point number `j`. -/
theorem acc_at (b : ℕ) (a : Fin 1024) (e : Fin 1408) (he : 1408 * b + e.val < 2816) : ∀ (j : ℕ) (hj : j < 32) (h : 32 * b + j < cfg0.N),
    (Pipeline.accAt (reset4 m c) (step4 m c) (32 * b) j h : Vec Ideal S1024x1408 .f32) (ix2 a e)
      = ∑ k : Fin 256, hc m c (ix2 k a) * dc m c (ix2 k ⟨1408 * b + e.val, he⟩)
        + ∑ i ∈ Finset.range (j + 1), ∑ k : Fin 512, tm m c a ⟨1408 * b + e.val, he⟩ (512 * i + k.val) := by
  intro j
  induction j with
  | zero =>
    intro hj h
    have h1 : (32 * b + 0) / 32 = b := by omega
    have h2 : (32 * b + 0) % 32 = 0 := by omega
    show k0_pay2 (F := Ideal) (k0_pay1 (iblk m c 2 ⟨32 * b + 0, h⟩) (iblk m c 3 ⟨32 * b + 0, h⟩)) (iblk m c 0 ⟨32 * b + 0, h⟩) (iblk m c 1 ⟨32 * b + 0, h⟩) (ix2 a e) = _
    have he' : 1408 * ((32 * b + 0) / 32) + e.val < 2816 := by rw [h1]; exact he
    have hq : (⟨1408 * ((32 * b + 0) / 32) + e.val, he'⟩ : Fin 2816) = ⟨1408 * b + e.val, he⟩ := Fin.ext (by show 1408 * ((32 * b + 0) / 32) + _ = _; rw [h1])
    refine (pay2_at _ _ _ a e).trans ?_
    rw [Finset.sum_range_one]
    refine congrArg₂ (fun u v : EReal => u + v) ((pay1_at _ _ a e).trans (Finset.sum_congr rfl fun k _ => ?_))
      ((blk_sum m c ⟨32 * b + 0, h⟩ a e he').trans (Finset.sum_congr rfl fun k _ => ?_))
    · exact congrArg₂ (fun u v : EReal => u * v) (ib_2 m c _ k a) ((ib_3 m c ⟨32 * b + 0, h⟩ k e he').trans (by rw [hq]))
    · rw [hq]; exact congrArg _ (by show 512 * ((32 * b + 0) % 32) + _ = _; rw [h2])
  | succ j ih =>
    intro hj h
    have h1 : (32 * b + (j + 1)) / 32 = b := by omega
    have h2 : (32 * b + (j + 1)) % 32 = j + 1 := by omega
    have he' : 1408 * ((32 * b + (j + 1)) / 32) + e.val < 2816 := by rw [h1]; exact he
    have hq : (⟨1408 * ((32 * b + (j + 1)) / 32) + e.val, he'⟩ : Fin 2816) = ⟨1408 * b + e.val, he⟩ := Fin.ext (by show 1408 * ((32 * b + (j + 1)) / 32) + _ = _; rw [h1])
    rw [Pipeline.accAt_succ]
    show k0_pay2 (F := Ideal) _ (iblk m c 0 ⟨32 * b + (j + 1), h⟩) (iblk m c 1 ⟨32 * b + (j + 1), h⟩) (ix2 a e) = _
    refine (pay2_at _ _ _ a e).trans ?_
    have hs := (blk_sum m c ⟨32 * b + (j + 1), h⟩ a e he').trans
      (Finset.sum_congr (g := fun k : Fin 512 => tm m c a ⟨1408 * b + e.val, he⟩ (512 * (j + 1) + k.val)) rfl fun k _ => ?_)
    · exact (congrArg₂ (fun u v : EReal => u + v) (ih (by omega) (by omega)) hs).trans
        ((@add_assoc EReal _ _ _ _).trans (congrArg (fun v : EReal => _ + v) (Finset.sum_range_succ _ (j + 1)).symm))
    rw [hq]; exact congrArg _ (by show 512 * ((32 * b + (j + 1)) % 32) + _ = _; rw [h2])

/-- The array after the run. -/
theorem G4_eq : G4 m c = tW (hx m c) (dx m c) (hc m c) (dc m c) := by
  funext i
  have h0 : (i 0).val < 1024 := (i 0).isLt
  have h1 : (i 1).val < 2816 := (i 1).isLt
  have hr : run4Of i = (i 1).val / 1408 := by
    show 2 * ((i 0).val / 1024 - 0) + 1 * ((i 1).val / 1408 - 0) = _; omega
  have hN : cfg0.N = 32 * 2 := N_0
  have hlt : 32 * run4Of i + 31 < cfg0.N := by rw [hr, hN]; omega
  have he : 1408 * run4Of i + (i 1).val % 1408 = (i 1).val := by rw [hr]; omega
  unfold G4
  rw [dif_pos hlt]
  have hl : loc4Of i = ix2 (i 0) ⟨(i 1).val % 1408, Nat.mod_lt _ (by decide)⟩ := by
    funext a
    match a with
    | ⟨0, _⟩ => exact Fin.ext (Nat.mod_eq_of_lt h0)
    | ⟨1, _⟩ => rfl
  rw [hl]
  refine (acc_at m c (run4Of i) (i 0) ⟨(i 1).val % 1408, Nat.mod_lt _ (by decide)⟩ (by show 1408 * run4Of i + (i 1).val % 1408 < _; omega) 31 (by omega) hlt).trans ?_
  have hq : (⟨1408 * run4Of i + (i 1).val % 1408, by omega⟩ : Fin 2816) = i 1 := Fin.ext he
  rw [hq, sum_blocks]
  exact congrArg (fun v : EReal => _ + v) (sum_ext 16384 _)

end Cert.DwGuIdeal.Val

namespace Cert.DwGuRefIdeal.Val

open Idealize.ShloMosaic Idealize.ShloMosaic.TcCoe
open Cert.DwGuRefIdeal Cert.DwGuRefIdeal.Gen

/-- The reference's result: the two sums, each the product taken the other way round. -/
theorem out_eq (X : Vec Ideal S16384x1024 .bf16) (Y : Vec Ideal S16384x2816 .bf16) (X' : Vec Ideal S256x1024 .bf16) (Y' : Vec Ideal S256x2816 .bf16) :
    addf (F := Ideal) (transpose S1024x2816 [1, 0] (Host.dotGeneral dot_S256x2816_S256x1024_S2816x1024_0_0_1_1_n_n none (extf .f32 Y' bitsLt_bf16_f32) (extf .f32 X' bitsLt_bf16_f32)) transposes_S2816x1024_S1024x2816_1_0)
      (transpose S1024x2816 [1, 0] (Host.dotGeneral dot_S16384x2816_S16384x1024_S2816x1024_0_0_1_1_n_n none (extf .f32 Y bitsLt_bf16_f32) (extf .f32 X bitsLt_bf16_f32)) transposes_S2816x1024_S1024x2816_1_0)
      = Cert.DwGuIdeal.Val.tW X Y X' Y' := by
  funext j
  idx_vars j
  pointwise []
  unfold Cert.DwGuIdeal.Val.tW
  exact congrArg₂ (fun u v : EReal => u + v) (Finset.sum_congr rfl fun k _ => @mul_comm EReal _ _ _) (Finset.sum_congr rfl fun k _ => @mul_comm EReal _ _ _)

end Cert.DwGuRefIdeal.Val

/-! ## The weight of the outer product -/

namespace Cert.DwDIdeal.Val

open Idealize.ShloMosaic Idealize.ShloMosaic.TcCoe
open Cert.DwDIdeal Cert.DwDIdeal.Gen Cert.DwDIdeal.Value Cert.Sums
open Idealize.ShloMosaic.Pipeline (Dat)

theorem pay1_at (x : Vec Ideal S256x2816 .bf16) (y : Vec Ideal S256x512 .bf16) (a : Fin 2816) (e : Fin 512) :
    k0_pay1 (F := Ideal) x y (ix2 a e) = ∑ k : Fin 256, x (ix2 k a) * y (ix2 k e) := by
  pointwise [k0_pay1]

theorem pay2_at (z : Vec Ideal S2816x512 .f32) (x : Vec Ideal S512x2816 .bf16) (y : Vec Ideal S512x512 .bf16) (a : Fin 2816) (e : Fin 512) :
    k0_pay2 (F := Ideal) z x y (ix2 a e) = z (ix2 a e) + ∑ k : Fin 512, x (ix2 k a) * y (ix2 k e) := by
  pointwise [k0_pay2]

theorem idx : ∀ t : Fin cfg0.N, win0_0.index t = ![t.val % 32, 0] ∧ win0_1.index t = ![t.val % 32, t.val / 32]
    ∧ win0_2.index t = ![0, 0] ∧ win0_3.index t = ![0, t.val / 32] :=
  (by decide +kernel : ∀ t : Fin grid0.N, _)

variable (m : (ℓ : Loc nD τ sig) → Buf (Elt Ideal) ℓ) (c : Dev nD)

/-- The input of the latent tokens, the cotangent of their product, and the same for the context tokens. -/
abbrev hx : (⟨2, ![16384, 2816]⟩ : Shape).Idx → EReal := m ((c.tc : Thread nD τ).loc main_arg0)
abbrev dx : (⟨2, ![16384, 1024]⟩ : Shape).Idx → EReal := m ((c.tc : Thread nD τ).loc main_arg1)
abbrev hc : (⟨2, ![256, 2816]⟩ : Shape).Idx → EReal := m ((c.tc : Thread nD τ).loc main_arg2)
abbrev dc : (⟨2, ![256, 1024]⟩ : Shape).Idx → EReal := m ((c.tc : Thread nD τ).loc main_arg3)

/-- The gradient of the weight: the sum over the context tokens and the sum over the latent tokens. -/
def tW (X : (⟨2, ![16384, 2816]⟩ : Shape).Idx → EReal) (Y : (⟨2, ![16384, 1024]⟩ : Shape).Idx → EReal)
    (X' : (⟨2, ![256, 2816]⟩ : Shape).Idx → EReal) (Y' : (⟨2, ![256, 1024]⟩ : Shape).Idx → EReal) :
    (⟨2, ![2816, 1024]⟩ : Shape).Idx → EReal := fun i =>
  ∑ k : Fin 256, X' (ix2 k (i 0)) * Y' (ix2 k (i 1)) + ∑ k : Fin 16384, X (ix2 k (i 0)) * Y (ix2 k (i 1))

theorem ib_0 (t : Fin cfg0.N) (k : Fin 512) (a : Fin 2816) :
    (iblk m c 0 t : Vec Ideal S512x2816 .bf16) (ix2 k a) = hx m c (ix2 ⟨512 * (t.val % 32) + k.val, by omega⟩ a) := by
  blk_ext [iblk, idx t]

theorem ib_1 (t : Fin cfg0.N) (k : Fin 512) (e : Fin 512) (he : 512 * (t.val / 32) + e.val < 1024) :
    (iblk m c 1 t : Vec Ideal S512x512 .bf16) (ix2 k e) = dx m c (ix2 ⟨512 * (t.val % 32) + k.val, by omega⟩ ⟨512 * (t.val / 32) + e.val, he⟩) := by
  blk_ext [iblk, idx t]

theorem ib_2 (t : Fin cfg0.N) (k : Fin 256) (a : Fin 2816) :
    (iblk m c 2 t : Vec Ideal S256x2816 .bf16) (ix2 k a) = hc m c (ix2 k a) := by
  blk_ext [iblk, idx t]

theorem ib_3 (t : Fin cfg0.N) (k : Fin 256) (e : Fin 512) (he : 512 * (t.val / 32) + e.val < 1024) :
    (iblk m c 3 t : Vec Ideal S256x512 .bf16) (ix2 k e) = dc m c (ix2 k ⟨512 * (t.val / 32) + e.val, he⟩) := by
  blk_ext [iblk, idx t]

/-- The product of one latent token, zero beyond the last. -/
def tm (a : Fin 2816) (q : Fin 1024) : ℕ → EReal :=
  ext 16384 fun n => hx m c (ix2 n a) * dx m c (ix2 n q)

/-- The blocks that a grid point reads of the latent tokens. -/
abbrev b0 (t : Fin cfg0.N) : (⟨2, ![512, 2816]⟩ : Shape).Idx → EReal := iblk m c 0 t
abbrev b1 (t : Fin cfg0.N) : (⟨2, ![512, 512]⟩ : Shape).Idx → EReal := iblk m c 1 t

theorem blk_sum (t : Fin cfg0.N) (a : Fin 2816) (e : Fin 512) (he : 512 * (t.val / 32) + e.val < 1024) :
    ∑ k : Fin 512, b0 m c t (ix2 k a) * b1 m c t (ix2 k e)
      = ∑ k : Fin 512, tm m c a ⟨512 * (t.val / 32) + e.val, he⟩ (512 * (t.val % 32) + k.val) := by
  refine Finset.sum_congr rfl fun k _ => ?_
  have h : 512 * (t.val % 32) + k.val < 16384 := by omega
  exact (congrArg₂ (fun u v : EReal => u * v) (ib_0 m c t k a) (ib_1 m c t k e he)).trans (ext_of_lt (fun n => hx m c (ix2 n a) * dx m c (ix2 n ⟨512 * (t.val / 32) + e.val, he⟩)) h).symm

/-- What a run of grid points has added up after its point number `j`. -/
theorem acc_at (b : ℕ) (a : Fin 2816) (e : Fin 512) (he : 512 * b + e.val < 1024) : ∀ (j : ℕ) (hj : j < 32) (h : 32 * b + j < cfg0.N),
    (Pipeline.accAt (reset4 m c) (step4 m c) (32 * b) j h : Vec Ideal S2816x512 .f32) (ix2 a e)
      = ∑ k : Fin 256, hc m c (ix2 k a) * dc m c (ix2 k ⟨512 * b + e.val, he⟩)
        + ∑ i ∈ Finset.range (j + 1), ∑ k : Fin 512, tm m c a ⟨512 * b + e.val, he⟩ (512 * i + k.val) := by
  intro j
  induction j with
  | zero =>
    intro hj h
    have h1 : (32 * b + 0) / 32 = b := by omega
    have h2 : (32 * b + 0) % 32 = 0 := by omega
    show k0_pay2 (F := Ideal) (k0_pay1 (iblk m c 2 ⟨32 * b + 0, h⟩) (iblk m c 3 ⟨32 * b + 0, h⟩)) (iblk m c 0 ⟨32 * b + 0, h⟩) (iblk m c 1 ⟨32 * b + 0, h⟩) (ix2 a e) = _
    have he' : 512 * ((32 * b + 0) / 32) + e.val < 1024 := by rw [h1]; exact he
    have hq : (⟨512 * ((32 * b + 0) / 32) + e.val, he'⟩ : Fin 1024) = ⟨512 * b + e.val, he⟩ := Fin.ext (by show 512 * ((32 * b + 0) / 32) + _ = _; rw [h1])
    refine (pay2_at _ _ _ a e).trans ?_
    rw [Finset.sum_range_one]
    refine congrArg₂ (fun u v : EReal => u + v) ((pay1_at _ _ a e).trans (Finset.sum_congr rfl fun k _ => ?_))
      ((blk_sum m c ⟨32 * b + 0, h⟩ a e he').trans (Finset.sum_congr rfl fun k _ => ?_))
    · exact congrArg₂ (fun u v : EReal => u * v) (ib_2 m c _ k a) ((ib_3 m c ⟨32 * b + 0, h⟩ k e he').trans (by rw [hq]))
    · rw [hq]; exact congrArg _ (by show 512 * ((32 * b + 0) % 32) + _ = _; rw [h2])
  | succ j ih =>
    intro hj h
    have h1 : (32 * b + (j + 1)) / 32 = b := by omega
    have h2 : (32 * b + (j + 1)) % 32 = j + 1 := by omega
    have he' : 512 * ((32 * b + (j + 1)) / 32) + e.val < 1024 := by rw [h1]; exact he
    have hq : (⟨512 * ((32 * b + (j + 1)) / 32) + e.val, he'⟩ : Fin 1024) = ⟨512 * b + e.val, he⟩ := Fin.ext (by show 512 * ((32 * b + (j + 1)) / 32) + _ = _; rw [h1])
    rw [Pipeline.accAt_succ]
    show k0_pay2 (F := Ideal) _ (iblk m c 0 ⟨32 * b + (j + 1), h⟩) (iblk m c 1 ⟨32 * b + (j + 1), h⟩) (ix2 a e) = _
    refine (pay2_at _ _ _ a e).trans ?_
    have hs := (blk_sum m c ⟨32 * b + (j + 1), h⟩ a e he').trans
      (Finset.sum_congr (g := fun k : Fin 512 => tm m c a ⟨512 * b + e.val, he⟩ (512 * (j + 1) + k.val)) rfl fun k _ => ?_)
    · exact (congrArg₂ (fun u v : EReal => u + v) (ih (by omega) (by omega)) hs).trans
        ((@add_assoc EReal _ _ _ _).trans (congrArg (fun v : EReal => _ + v) (Finset.sum_range_succ _ (j + 1)).symm))
    rw [hq]; exact congrArg _ (by show 512 * ((32 * b + (j + 1)) % 32) + _ = _; rw [h2])

/-- The array after the run. -/
theorem G4_eq : G4 m c = tW (hx m c) (dx m c) (hc m c) (dc m c) := by
  funext i
  have h0 : (i 0).val < 2816 := (i 0).isLt
  have h1 : (i 1).val < 1024 := (i 1).isLt
  have hr : run4Of i = (i 1).val / 512 := by
    show 2 * ((i 0).val / 2816 - 0) + 1 * ((i 1).val / 512 - 0) = _; omega
  have hN : cfg0.N = 32 * 2 := N_0
  have hlt : 32 * run4Of i + 31 < cfg0.N := by rw [hr, hN]; omega
  have he : 512 * run4Of i + (i 1).val % 512 = (i 1).val := by rw [hr]; omega
  unfold G4
  rw [dif_pos hlt]
  have hl : loc4Of i = ix2 (i 0) ⟨(i 1).val % 512, Nat.mod_lt _ (by decide)⟩ := by
    funext a
    match a with
    | ⟨0, _⟩ => exact Fin.ext (Nat.mod_eq_of_lt h0)
    | ⟨1, _⟩ => rfl
  rw [hl]
  refine (acc_at m c (run4Of i) (i 0) ⟨(i 1).val % 512, Nat.mod_lt _ (by decide)⟩ (by show 512 * run4Of i + (i 1).val % 512 < _; omega) 31 (by omega) hlt).trans ?_
  have hq : (⟨512 * run4Of i + (i 1).val % 512, by omega⟩ : Fin 1024) = i 1 := Fin.ext he
  rw [hq, sum_blocks]
  exact congrArg (fun v : EReal => _ + v) (sum_ext 16384 _)

end Cert.DwDIdeal.Val

namespace Cert.DwDRefIdeal.Val

open Idealize.ShloMosaic Idealize.ShloMosaic.TcCoe
open Cert.DwDRefIdeal Cert.DwDRefIdeal.Gen

/-- The reference's result: the two sums, each the product taken the other way round. -/
theorem out_eq (X : Vec Ideal S16384x2816 .bf16) (Y : Vec Ideal S16384x1024 .bf16) (X' : Vec Ideal S256x2816 .bf16) (Y' : Vec Ideal S256x1024 .bf16) :
    addf (F := Ideal) (transpose S2816x1024 [1, 0] (Host.dotGeneral dot_S256x1024_S256x2816_S1024x2816_0_0_1_1_n_n none (extf .f32 Y' bitsLt_bf16_f32) (extf .f32 X' bitsLt_bf16_f32)) transposes_S1024x2816_S2816x1024_1_0)
      (transpose S2816x1024 [1, 0] (Host.dotGeneral dot_S16384x1024_S16384x2816_S1024x2816_0_0_1_1_n_n none (extf .f32 Y bitsLt_bf16_f32) (extf .f32 X bitsLt_bf16_f32)) transposes_S1024x2816_S2816x1024_1_0)
      = Cert.DwDIdeal.Val.tW X Y X' Y' := by
  funext j
  idx_vars j
  pointwise []
  unfold Cert.DwDIdeal.Val.tW
  exact congrArg₂ (fun u v : EReal => u + v) (Finset.sum_congr rfl fun k _ => @mul_comm EReal _ _ _) (Finset.sum_congr rfl fun k _ => @mul_comm EReal _ _ _)

end Cert.DwDRefIdeal.Val

end
-- ==== Proof.DwSq.lean ====
/- The gradient of a weight of a 1024 by 1024 product, as the kernel computes it: over the 32 blocks of 512 latent tokens it adds
   the products of the columns, beginning with the product over the 256 context tokens. The array it leaves is the
   sum over all tokens, which is what the reference computes. -/
module

public import proofs.«01_k».proof.Proof.Gen.DwSqIdeal.Value
public import proofs.«01_k».proof.Proof.Gen.DwSqRefIdeal.Run
public import proofs.«01_k».proof.Proof.Sums
public import Idealize.ShloMosaic.Lib.Pipeline.ValueKit

@[expose] public section

set_option maxRecDepth 16384

noncomputable section

/-! ## The weight of a square product -/

namespace Cert.DwSqIdeal.Val

open Idealize.ShloMosaic Idealize.ShloMosaic.TcCoe
open Cert.DwSqIdeal Cert.DwSqIdeal.Gen Cert.DwSqIdeal.Value Cert.Sums
open Idealize.ShloMosaic.Pipeline (Dat)

theorem pay1_at (x : Vec Ideal S256x1024 .bf16) (y : Vec Ideal S256x512 .bf16) (a : Fin 1024) (e : Fin 512) :
    k0_pay1 (F := Ideal) x y (ix2 a e) = ∑ k : Fin 256, x (ix2 k a) * y (ix2 k e) := by
  pointwise [k0_pay1]

theorem pay2_at (z : Vec Ideal S1024x512 .f32) (x : Vec Ideal S512x1024 .bf16) (y : Vec Ideal S512x512 .bf16) (a : Fin 1024) (e : Fin 512) :
    k0_pay2 (F := Ideal) z x y (ix2 a e) = z (ix2 a e) + ∑ k : Fin 512, x (ix2 k a) * y (ix2 k e) := by
  pointwise [k0_pay2]

theorem idx : ∀ t : Fin cfg0.N, win0_0.index t = ![t.val % 32, 0] ∧ win0_1.index t = ![t.val % 32, t.val / 32]
    ∧ win0_2.index t = ![0, 0] ∧ win0_3.index t = ![0, t.val / 32] :=
  (by decide +kernel : ∀ t : Fin grid0.N, _)

variable (m : (ℓ : Loc nD τ sig) → Buf (Elt Ideal) ℓ) (c : Dev nD)

/-- The input of the latent tokens, the cotangent of their product, and the same for the context tokens. -/
abbrev hx : (⟨2, ![16384, 1024]⟩ : Shape).Idx → EReal := m ((c.tc : Thread nD τ).loc main_arg0)
abbrev dx : (⟨2, ![16384, 1024]⟩ : Shape).Idx → EReal := m ((c.tc : Thread nD τ).loc main_arg1)
abbrev hc : (⟨2, ![256, 1024]⟩ : Shape).Idx → EReal := m ((c.tc : Thread nD τ).loc main_arg2)
abbrev dc : (⟨2, ![256, 1024]⟩ : Shape).Idx → EReal := m ((c.tc : Thread nD τ).loc main_arg3)

/-- The gradient of the weight: the sum over the context tokens and the sum over the latent tokens. -/
def tW (X : (⟨2, ![16384, 1024]⟩ : Shape).Idx → EReal) (Y : (⟨2, ![16384, 1024]⟩ : Shape).Idx → EReal)
    (X' : (⟨2, ![256, 1024]⟩ : Shape).Idx → EReal) (Y' : (⟨2, ![256, 1024]⟩ : Shape).Idx → EReal) :
    (⟨2, ![1024, 1024]⟩ : Shape).Idx → EReal := fun i =>
  ∑ k : Fin 256, X' (ix2 k (i 0)) * Y' (ix2 k (i 1)) + ∑ k : Fin 16384, X (ix2 k (i 0)) * Y (ix2 k (i 1))

theorem ib_0 (t : Fin cfg0.N) (k : Fin 512) (a : Fin 1024) :
    (iblk m c 0 t : Vec Ideal S512x1024 .bf16) (ix2 k a) = hx m c (ix2 ⟨512 * (t.val % 32) + k.val, by omega⟩ a) := by
  blk_ext [iblk, idx t]

theorem ib_1 (t : Fin cfg0.N) (k : Fin 512) (e : Fin 512) (he : 512 * (t.val / 32) + e.val < 1024) :
    (iblk m c 1 t : Vec Ideal S512x512 .bf16) (ix2 k e) = dx m c (ix2 ⟨512 * (t.val % 32) + k.val, by omega⟩ ⟨512 * (t.val / 32) + e.val, he⟩) := by
  blk_ext [iblk, idx t]

theorem ib_2 (t : Fin cfg0.N) (k : Fin 256) (a : Fin 1024) :
    (iblk m c 2 t : Vec Ideal S256x1024 .bf16) (ix2 k a) = hc m c (ix2 k a) := by
  blk_ext [iblk, idx t]

theorem ib_3 (t : Fin cfg0.N) (k : Fin 256) (e : Fin 512) (he : 512 * (t.val / 32) + e.val < 1024) :
    (iblk m c 3 t : Vec Ideal S256x512 .bf16) (ix2 k e) = dc m c (ix2 k ⟨512 * (t.val / 32) + e.val, he⟩) := by
  blk_ext [iblk, idx t]

/-- The product of one latent token, zero beyond the last. -/
def tm (a : Fin 1024) (q : Fin 1024) : ℕ → EReal :=
  ext 16384 fun n => hx m c (ix2 n a) * dx m c (ix2 n q)

/-- The blocks that a grid point reads of the latent tokens. -/
abbrev b0 (t : Fin cfg0.N) : (⟨2, ![512, 1024]⟩ : Shape).Idx → EReal := iblk m c 0 t
abbrev b1 (t : Fin cfg0.N) : (⟨2, ![512, 512]⟩ : Shape).Idx → EReal := iblk m c 1 t

theorem blk_sum (t : Fin cfg0.N) (a : Fin 1024) (e : Fin 512) (he : 512 * (t.val / 32) + e.val < 1024) :
    ∑ k : Fin 512, b0 m c t (ix2 k a) * b1 m c t (ix2 k e)
      = ∑ k : Fin 512, tm m c a ⟨512 * (t.val / 32) + e.val, he⟩ (512 * (t.val % 32) + k.val) := by
  refine Finset.sum_congr rfl fun k _ => ?_
  have h : 512 * (t.val % 32) + k.val < 16384 := by omega
  exact (congrArg₂ (fun u v : EReal => u * v) (ib_0 m c t k a) (ib_1 m c t k e he)).trans (ext_of_lt (fun n => hx m c (ix2 n a) * dx m c (ix2 n ⟨512 * (t.val / 32) + e.val, he⟩)) h).symm

/-- What a run of grid points has added up after its point number `j`. -/
theorem acc_at (b : ℕ) (a : Fin 1024) (e : Fin 512) (he : 512 * b + e.val < 1024) : ∀ (j : ℕ) (hj : j < 32) (h : 32 * b + j < cfg0.N),
    (Pipeline.accAt (reset4 m c) (step4 m c) (32 * b) j h : Vec Ideal S1024x512 .f32) (ix2 a e)
      = ∑ k : Fin 256, hc m c (ix2 k a) * dc m c (ix2 k ⟨512 * b + e.val, he⟩)
        + ∑ i ∈ Finset.range (j + 1), ∑ k : Fin 512, tm m c a ⟨512 * b + e.val, he⟩ (512 * i + k.val) := by
  intro j
  induction j with
  | zero =>
    intro hj h
    have h1 : (32 * b + 0) / 32 = b := by omega
    have h2 : (32 * b + 0) % 32 = 0 := by omega
    show k0_pay2 (F := Ideal) (k0_pay1 (iblk m c 2 ⟨32 * b + 0, h⟩) (iblk m c 3 ⟨32 * b + 0, h⟩)) (iblk m c 0 ⟨32 * b + 0, h⟩) (iblk m c 1 ⟨32 * b + 0, h⟩) (ix2 a e) = _
    have he' : 512 * ((32 * b + 0) / 32) + e.val < 1024 := by rw [h1]; exact he
    have hq : (⟨512 * ((32 * b + 0) / 32) + e.val, he'⟩ : Fin 1024) = ⟨512 * b + e.val, he⟩ := Fin.ext (by show 512 * ((32 * b + 0) / 32) + _ = _; rw [h1])
    refine (pay2_at _ _ _ a e).trans ?_
    rw [Finset.sum_range_one]
    refine congrArg₂ (fun u v : EReal => u + v) ((pay1_at _ _ a e).trans (Finset.sum_congr rfl fun k _ => ?_))
      ((blk_sum m c ⟨32 * b + 0, h⟩ a e he').trans (Finset.sum_congr rfl fun k _ => ?_))
    · exact congrArg₂ (fun u v : EReal => u * v) (ib_2 m c _ k a) ((ib_3 m c ⟨32 * b + 0, h⟩ k e he').trans (by rw [hq]))
    · rw [hq]; exact congrArg _ (by show 512 * ((32 * b + 0) % 32) + _ = _; rw [h2])
  | succ j ih =>
    intro hj h
    have h1 : (32 * b + (j + 1)) / 32 = b := by omega
    have h2 : (32 * b + (j + 1)) % 32 = j + 1 := by omega
    have he' : 512 * ((32 * b + (j + 1)) / 32) + e.val < 1024 := by rw [h1]; exact he
    have hq : (⟨512 * ((32 * b + (j + 1)) / 32) + e.val, he'⟩ : Fin 1024) = ⟨512 * b + e.val, he⟩ := Fin.ext (by show 512 * ((32 * b + (j + 1)) / 32) + _ = _; rw [h1])
    rw [Pipeline.accAt_succ]
    show k0_pay2 (F := Ideal) _ (iblk m c 0 ⟨32 * b + (j + 1), h⟩) (iblk m c 1 ⟨32 * b + (j + 1), h⟩) (ix2 a e) = _
    refine (pay2_at _ _ _ a e).trans ?_
    have hs := (blk_sum m c ⟨32 * b + (j + 1), h⟩ a e he').trans
      (Finset.sum_congr (g := fun k : Fin 512 => tm m c a ⟨512 * b + e.val, he⟩ (512 * (j + 1) + k.val)) rfl fun k _ => ?_)
    · exact (congrArg₂ (fun u v : EReal => u + v) (ih (by omega) (by omega)) hs).trans
        ((@add_assoc EReal _ _ _ _).trans (congrArg (fun v : EReal => _ + v) (Finset.sum_range_succ _ (j + 1)).symm))
    rw [hq]; exact congrArg _ (by show 512 * ((32 * b + (j + 1)) % 32) + _ = _; rw [h2])

/-- The array after the run. -/
theorem G4_eq : G4 m c = tW (hx m c) (dx m c) (hc m c) (dc m c) := by
  funext i
  have h0 : (i 0).val < 1024 := (i 0).isLt
  have h1 : (i 1).val < 1024 := (i 1).isLt
  have hr : run4Of i = (i 1).val / 512 := by
    show 2 * ((i 0).val / 1024 - 0) + 1 * ((i 1).val / 512 - 0) = _; omega
  have hN : cfg0.N = 32 * 2 := N_0
  have hlt : 32 * run4Of i + 31 < cfg0.N := by rw [hr, hN]; omega
  have he : 512 * run4Of i + (i 1).val % 512 = (i 1).val := by rw [hr]; omega
  unfold G4
  rw [dif_pos hlt]
  have hl : loc4Of i = ix2 (i 0) ⟨(i 1).val % 512, Nat.mod_lt _ (by decide)⟩ := by
    funext a
    match a with
    | ⟨0, _⟩ => exact Fin.ext (Nat.mod_eq_of_lt h0)
    | ⟨1, _⟩ => rfl
  rw [hl]
  refine (acc_at m c (run4Of i) (i 0) ⟨(i 1).val % 512, Nat.mod_lt _ (by decide)⟩ (by show 512 * run4Of i + (i 1).val % 512 < _; omega) 31 (by omega) hlt).trans ?_
  have hq : (⟨512 * run4Of i + (i 1).val % 512, by omega⟩ : Fin 1024) = i 1 := Fin.ext he
  rw [hq, sum_blocks]
  exact congrArg (fun v : EReal => _ + v) (sum_ext 16384 _)

end Cert.DwSqIdeal.Val

namespace Cert.DwSqRefIdeal.Val

open Idealize.ShloMosaic Idealize.ShloMosaic.TcCoe
open Cert.DwSqRefIdeal Cert.DwSqRefIdeal.Gen

/-- The reference's result: the two sums, each the product taken the other way round. -/
theorem out_eq (X : Vec Ideal S16384x1024 .bf16) (Y : Vec Ideal S16384x1024 .bf16) (X' : Vec Ideal S256x1024 .bf16) (Y' : Vec Ideal S256x1024 .bf16) :
    addf (F := Ideal) (transpose S1024x1024 [1, 0] (Host.dotGeneral dot_S256x1024_S256x1024_S1024x1024_0_0_1_1_n_n none (extf .f32 Y' bitsLt_bf16_f32) (extf .f32 X' bitsLt_bf16_f32)) transposes_S1024x1024_S1024x1024_1_0)
      (transpose S1024x1024 [1, 0] (Host.dotGeneral dot_S16384x1024_S16384x1024_S1024x1024_0_0_1_1_n_n none (extf .f32 Y bitsLt_bf16_f32) (extf .f32 X bitsLt_bf16_f32)) transposes_S1024x1024_S1024x1024_1_0)
      = Cert.DwSqIdeal.Val.tW X Y X' Y' := by
  funext j
  idx_vars j
  pointwise []
  unfold Cert.DwSqIdeal.Val.tW
  exact congrArg₂ (fun u v : EReal => u + v) (Finset.sum_congr rfl fun k _ => @mul_comm EReal _ _ _) (Finset.sum_congr rfl fun k _ => @mul_comm EReal _ _ _)

end Cert.DwSqRefIdeal.Val

end
-- ==== Proof.DwGate.lean ====
/- The gradient of a weight of the 128 columns of the projection that hold the decays, as the kernel computes it: over the 32 blocks of 512 latent tokens it adds
   the products of the columns, beginning with the product over the 256 context tokens. The array it leaves is the
   sum over all tokens, which is what the reference computes. -/
module

public import proofs.«01_k».proof.Proof.Gen.DwGateIdeal.Value
public import proofs.«01_k».proof.Proof.Gen.DwGateRefIdeal.Run
public import proofs.«01_k».proof.Proof.Sums
public import Idealize.ShloMosaic.Lib.Pipeline.ValueKit

@[expose] public section

set_option maxRecDepth 16384

noncomputable section

/-! ## The columns of the decays -/

namespace Cert.DwGateIdeal.Val

open Idealize.ShloMosaic Idealize.ShloMosaic.TcCoe
open Cert.DwGateIdeal Cert.DwGateIdeal.Gen Cert.DwGateIdeal.Value Cert.Sums
open Idealize.ShloMosaic.Pipeline (Dat)

theorem pay1_at (x : Vec Ideal S256x1024 .bf16) (y : Vec Ideal S256x128 .bf16) (a : Fin 1024) (e : Fin 128) :
    k0_pay1 (F := Ideal) x y (ix2 a e) = ∑ k : Fin 256, x (ix2 k a) * y (ix2 k e) := by
  pointwise [k0_pay1]

theorem pay2_at (z : Vec Ideal S1024x128 .f32) (x : Vec Ideal S512x1024 .bf16) (y : Vec Ideal S512x128 .bf16) (a : Fin 1024) (e : Fin 128) :
    k0_pay2 (F := Ideal) z x y (ix2 a e) = z (ix2 a e) + ∑ k : Fin 512, x (ix2 k a) * y (ix2 k e) := by
  pointwise [k0_pay2]

theorem idx : ∀ t : Fin cfg0.N, win0_0.index t = ![t.val % 32, 0] ∧ win0_1.index t = ![t.val % 32, t.val / 32]
    ∧ win0_2.index t = ![0, 0] ∧ win0_3.index t = ![0, t.val / 32] :=
  (by decide +kernel : ∀ t : Fin grid0.N, _)

variable (m : (ℓ : Loc nD τ sig) → Buf (Elt Ideal) ℓ) (c : Dev nD)

/-- The input of the latent tokens, the cotangent of their product, and the same for the context tokens. -/
abbrev hx : (⟨2, ![16384, 1024]⟩ : Shape).Idx → EReal := m ((c.tc : Thread nD τ).loc main_arg0)
abbrev dx : (⟨2, ![16384, 128]⟩ : Shape).Idx → EReal := m ((c.tc : Thread nD τ).loc main_arg1)
abbrev hc : (⟨2, ![256, 1024]⟩ : Shape).Idx → EReal := m ((c.tc : Thread nD τ).loc main_arg2)
abbrev dc : (⟨2, ![256, 128]⟩ : Shape).Idx → EReal := m ((c.tc : Thread nD τ).loc main_arg3)

/-- The gradient of the weight: the sum over the context tokens and the sum over the latent tokens. -/
def tW (X : (⟨2, ![16384, 1024]⟩ : Shape).Idx → EReal) (Y : (⟨2, ![16384, 128]⟩ : Shape).Idx → EReal)
    (X' : (⟨2, ![256, 1024]⟩ : Shape).Idx → EReal) (Y' : (⟨2, ![256, 128]⟩ : Shape).Idx → EReal) :
    (⟨2, ![1024, 128]⟩ : Shape).Idx → EReal := fun i =>
  ∑ k : Fin 256, X' (ix2 k (i 0)) * Y' (ix2 k (i 1)) + ∑ k : Fin 16384, X (ix2 k (i 0)) * Y (ix2 k (i 1))

theorem ib_0 (t : Fin cfg0.N) (k : Fin 512) (a : Fin 1024) :
    (iblk m c 0 t : Vec Ideal S512x1024 .bf16) (ix2 k a) = hx m c (ix2 ⟨512 * (t.val % 32) + k.val, by omega⟩ a) := by
  blk_ext [iblk, idx t]

theorem ib_1 (t : Fin cfg0.N) (k : Fin 512) (e : Fin 128) (he : 128 * (t.val / 32) + e.val < 128) :
    (iblk m c 1 t : Vec Ideal S512x128 .bf16) (ix2 k e) = dx m c (ix2 ⟨512 * (t.val % 32) + k.val, by omega⟩ ⟨128 * (t.val / 32) + e.val, he⟩) := by
  blk_ext [iblk, idx t]

theorem ib_2 (t : Fin cfg0.N) (k : Fin 256) (a : Fin 1024) :
    (iblk m c 2 t : Vec Ideal S256x1024 .bf16) (ix2 k a) = hc m c (ix2 k a) := by
  blk_ext [iblk, idx t]

theorem ib_3 (t : Fin cfg0.N) (k : Fin 256) (e : Fin 128) (he : 128 * (t.val / 32) + e.val < 128) :
    (iblk m c 3 t : Vec Ideal S256x128 .bf16) (ix2 k e) = dc m c (ix2 k ⟨128 * (t.val / 32) + e.val, he⟩) := by
  blk_ext [iblk, idx t]

/-- The product of one latent token, zero beyond the last. -/
def tm (a : Fin 1024) (q : Fin 128) : ℕ → EReal :=
  ext 16384 fun n => hx m c (ix2 n a) * dx m c (ix2 n q)

/-- The blocks that a grid point reads of the latent tokens. -/
abbrev b0 (t : Fin cfg0.N) : (⟨2, ![512, 1024]⟩ : Shape).Idx → EReal := iblk m c 0 t
abbrev b1 (t : Fin cfg0.N) : (⟨2, ![512, 128]⟩ : Shape).Idx → EReal := iblk m c 1 t

theorem blk_sum (t : Fin cfg0.N) (a : Fin 1024) (e : Fin 128) (he : 128 * (t.val / 32) + e.val < 128) :
    ∑ k : Fin 512, b0 m c t (ix2 k a) * b1 m c t (ix2 k e)
      = ∑ k : Fin 512, tm m c a ⟨128 * (t.val / 32) + e.val, he⟩ (512 * (t.val % 32) + k.val) := by
  refine Finset.sum_congr rfl fun k _ => ?_
  have h : 512 * (t.val % 32) + k.val < 16384 := by omega
  exact (congrArg₂ (fun u v : EReal => u * v) (ib_0 m c t k a) (ib_1 m c t k e he)).trans (ext_of_lt (fun n => hx m c (ix2 n a) * dx m c (ix2 n ⟨128 * (t.val / 32) + e.val, he⟩)) h).symm

/-- What a run of grid points has added up after its point number `j`. -/
theorem acc_at (b : ℕ) (a : Fin 1024) (e : Fin 128) (he : 128 * b + e.val < 128) : ∀ (j : ℕ) (hj : j < 32) (h : 32 * b + j < cfg0.N),
    (Pipeline.accAt (reset4 m c) (step4 m c) (32 * b) j h : Vec Ideal S1024x128 .f32) (ix2 a e)
      = ∑ k : Fin 256, hc m c (ix2 k a) * dc m c (ix2 k ⟨128 * b + e.val, he⟩)
        + ∑ i ∈ Finset.range (j + 1), ∑ k : Fin 512, tm m c a ⟨128 * b + e.val, he⟩ (512 * i + k.val) := by
  intro j
  induction j with
  | zero =>
    intro hj h
    have h1 : (32 * b + 0) / 32 = b := by omega
    have h2 : (32 * b + 0) % 32 = 0 := by omega
    show k0_pay2 (F := Ideal) (k0_pay1 (iblk m c 2 ⟨32 * b + 0, h⟩) (iblk m c 3 ⟨32 * b + 0, h⟩)) (iblk m c 0 ⟨32 * b + 0, h⟩) (iblk m c 1 ⟨32 * b + 0, h⟩) (ix2 a e) = _
    have he' : 128 * ((32 * b + 0) / 32) + e.val < 128 := by rw [h1]; exact he
    have hq : (⟨128 * ((32 * b + 0) / 32) + e.val, he'⟩ : Fin 128) = ⟨128 * b + e.val, he⟩ := Fin.ext (by show 128 * ((32 * b + 0) / 32) + _ = _; rw [h1])
    refine (pay2_at _ _ _ a e).trans ?_
    rw [Finset.sum_range_one]
    refine congrArg₂ (fun u v : EReal => u + v) ((pay1_at _ _ a e).trans (Finset.sum_congr rfl fun k _ => ?_))
      ((blk_sum m c ⟨32 * b + 0, h⟩ a e he').trans (Finset.sum_congr rfl fun k _ => ?_))
    · exact congrArg₂ (fun u v : EReal => u * v) (ib_2 m c _ k a) ((ib_3 m c ⟨32 * b + 0, h⟩ k e he').trans (by rw [hq]))
    · rw [hq]; exact congrArg _ (by show 512 * ((32 * b + 0) % 32) + _ = _; rw [h2])
  | succ j ih =>
    intro hj h
    have h1 : (32 * b + (j + 1)) / 32 = b := by omega
    have h2 : (32 * b + (j + 1)) % 32 = j + 1 := by omega
    have he' : 128 * ((32 * b + (j + 1)) / 32) + e.val < 128 := by rw [h1]; exact he
    have hq : (⟨128 * ((32 * b + (j + 1)) / 32) + e.val, he'⟩ : Fin 128) = ⟨128 * b + e.val, he⟩ := Fin.ext (by show 128 * ((32 * b + (j + 1)) / 32) + _ = _; rw [h1])
    rw [Pipeline.accAt_succ]
    show k0_pay2 (F := Ideal) _ (iblk m c 0 ⟨32 * b + (j + 1), h⟩) (iblk m c 1 ⟨32 * b + (j + 1), h⟩) (ix2 a e) = _
    refine (pay2_at _ _ _ a e).trans ?_
    have hs := (blk_sum m c ⟨32 * b + (j + 1), h⟩ a e he').trans
      (Finset.sum_congr (g := fun k : Fin 512 => tm m c a ⟨128 * b + e.val, he⟩ (512 * (j + 1) + k.val)) rfl fun k _ => ?_)
    · exact (congrArg₂ (fun u v : EReal => u + v) (ih (by omega) (by omega)) hs).trans
        ((@add_assoc EReal _ _ _ _).trans (congrArg (fun v : EReal => _ + v) (Finset.sum_range_succ _ (j + 1)).symm))
    rw [hq]; exact congrArg _ (by show 512 * ((32 * b + (j + 1)) % 32) + _ = _; rw [h2])

/-- The array after the run. -/
theorem G4_eq : G4 m c = tW (hx m c) (dx m c) (hc m c) (dc m c) := by
  funext i
  have h0 : (i 0).val < 1024 := (i 0).isLt
  have h1 : (i 1).val < 128 := (i 1).isLt
  have hr : run4Of i = (i 1).val / 128 := by
    show 1 * ((i 0).val / 1024 - 0) + 1 * ((i 1).val / 128 - 0) = _; omega
  have hN : cfg0.N = 32 * 1 := N_0
  have hlt : 32 * run4Of i + 31 < cfg0.N := by rw [hr, hN]; omega
  have he : 128 * run4Of i + (i 1).val % 128 = (i 1).val := by rw [hr]; omega
  unfold G4
  rw [dif_pos hlt]
  have hl : loc4Of i = ix2 (i 0) ⟨(i 1).val % 128, Nat.mod_lt _ (by decide)⟩ := by
    funext a
    match a with
    | ⟨0, _⟩ => exact Fin.ext (Nat.mod_eq_of_lt h0)
    | ⟨1, _⟩ => rfl
  rw [hl]
  refine (acc_at m c (run4Of i) (i 0) ⟨(i 1).val % 128, Nat.mod_lt _ (by decide)⟩ (by show 128 * run4Of i + (i 1).val % 128 < _; omega) 31 (by omega) hlt).trans ?_
  have hq : (⟨128 * run4Of i + (i 1).val % 128, by omega⟩ : Fin 128) = i 1 := Fin.ext he
  rw [hq, sum_blocks]
  exact congrArg (fun v : EReal => _ + v) (sum_ext 16384 _)

end Cert.DwGateIdeal.Val

namespace Cert.DwGateRefIdeal.Val

open Idealize.ShloMosaic Idealize.ShloMosaic.TcCoe
open Cert.DwGateRefIdeal Cert.DwGateRefIdeal.Gen

/-- The reference's result: the two sums, each the product taken the other way round. -/
theorem out_eq (X : Vec Ideal S16384x1024 .bf16) (Y : Vec Ideal S16384x128 .bf16) (X' : Vec Ideal S256x1024 .bf16) (Y' : Vec Ideal S256x128 .bf16) :
    addf (F := Ideal) (transpose S1024x128 [1, 0] (Host.dotGeneral dot_S256x128_S256x1024_S128x1024_0_0_1_1_n_n none (extf .f32 Y' bitsLt_bf16_f32) (extf .f32 X' bitsLt_bf16_f32)) transposes_S128x1024_S1024x128_1_0)
      (transpose S1024x128 [1, 0] (Host.dotGeneral dot_S16384x128_S16384x1024_S128x1024_0_0_1_1_n_n none (extf .f32 Y bitsLt_bf16_f32) (extf .f32 X bitsLt_bf16_f32)) transposes_S128x1024_S1024x128_1_0)
      = Cert.DwGateIdeal.Val.tW X Y X' Y' := by
  funext j
  idx_vars j
  pointwise []
  unfold Cert.DwGateIdeal.Val.tW
  exact congrArg₂ (fun u v : EReal => u + v) (Finset.sum_congr rfl fun k _ => @mul_comm EReal _ _ _) (Finset.sum_congr rfl fun k _ => @mul_comm EReal _ _ _)

end Cert.DwGateRefIdeal.Val

end
-- ==== Proof.ProjIn0.lean ====
/- What the kernel leaves in its buffers at one grid point, as terms of the blocks that it reads. -/
module

public import proofs.«01_k».proof.Proof.Gen.ProjInIdeal.Value
public import Idealize.ShloMosaic.Lib.Pipeline.ValueKit
public import Idealize.ShloMosaic.Lib.WritesUnit

@[expose] public section

noncomputable section

namespace Cert.ProjInIdeal.Val

open Idealize.ShloMosaic Idealize.ShloMosaic.TcCoe
open Cert.ProjInIdeal Cert.ProjInIdeal.Gen Cert.ProjInIdeal.Value

variable {F : FTy → Type} [FloatOps F]

theorem hz2 : (![0, 0] : Fin 2 → Nat) = fun _ => 0 := funext fun a => by fin_cases a <;> rfl

/-- Row 0, row 1 and row 2 of eight rows. -/
def r0 (x : Vec F S8x1024 .f32) : Vec F S1x1024 .f32 := View.ld x (Rect.unit ![0, 0] ![1, 1024] inb_S8x1024_S1x1024_0_0)
def r1 (x : Vec F S8x1024 .f32) : Vec F S1x1024 .f32 := View.ld x (Rect.unit ![1, 0] ![1, 1024] inb_S8x1024_S1x1024_1_0)
def r2 (x : Vec F S8x1024 .f32) : Vec F S1x1024 .f32 := View.ld x (Rect.unit ![2, 0] ![1, 1024] inb_S8x1024_S1x1024_2_0)

/-- The left half of a block of the weight. -/
def wl (x : Vec F S1024x2048 .bf16) : Vec F S1024x1024 .bf16 := View.ld x (Rect.unit ![0, 0] ![1024, 1024] inb_S1024x2048_S1024x1024_0_0)

/-- The right half of a block of the weight. -/
def wr (x : Vec F S1024x2048 .bf16) : Vec F S1024x1024 .bf16 := View.ld x (Rect.unit ![0, 1024] ![1024, 1024] inb_S1024x2048_S1024x1024_0_1024)

/-- Eight rows whose first three are replaced. -/
def upd (p q r : Vec F S1x1024 .f32) (x : Vec F S8x1024 .f32) : Vec F S8x1024 .f32 := fun y =>
  if (y 0).val = 0 then p (ix2 0 (y 1)) else if (y 0).val = 1 then q (ix2 0 (y 1)) else if (y 0).val = 2 then r (ix2 0 (y 1)) else x y

/-- The first grid point clears the gradients of the three vectors. -/
theorem out_A_15 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S512x1024 .f32) (harg18 : arg18.IsWhole) (hc0 : cond0_0 i) (hc1 : cond0_1 i) (hc2 : cond0_2 i) (hc3 : ¬cond0_3 i) (hc4 : ¬cond0_4 i) (hc5 : ¬cond0_5 i) (hc6 : ¬cond0_6 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S512x128 .bf16) (x9 : Vec F S1024x2048 .bf16) (x10 : Vec F S1024x128 .bf16) (x11 : Vec F S512x1024 .f32) (x12 : Vec F S512x1024 .f32) (x13 : Vec F S8x1024 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 = k0_pay1 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13)]
  unfold kernelRun0_A
  dsimp only
  try sl_unfold_words
  rw [View.canon_unit_zero hz2]

/-- The first of the four points of a block of rows starts the product. -/
theorem acc_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S512x1024 .f32) (harg18 : arg18.IsWhole) (hc0 : cond0_0 i) (hc1 : cond0_1 i) (hc2 : cond0_2 i) (hc3 : ¬cond0_3 i) (hc4 : ¬cond0_4 i) (hc5 : ¬cond0_5 i) (hc6 : ¬cond0_6 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S512x128 .bf16) (x9 : Vec F S1024x2048 .bf16) (x10 : Vec F S1024x128 .bf16) (x11 : Vec F S512x1024 .f32) (x12 : Vec F S512x1024 .f32) (x13 : Vec F S8x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 = k0_pay3 (k0_pay2 x8 x10) x0 (wl x9) x1 (wr x9) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13)]
  unfold kernelRun0_A
  dsimp only
  try sl_unfold_words
  rw [View.canon_cons_unit_zero (S := S512x1024) hz2, View.readCov_unit_zero (S := S512x1024) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S512x1024) hz2, View.ld_unit_zero (S := S512x128) hz2, View.ld_unit_zero (S := S1024x128) hz2, View.ld_unit_zero (S := S8x1024) hz2, shapeCast_self]
  rfl

/-- The first of the four points of a block of rows starts the product. -/
theorem acc_E (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S512x1024 .f32) (harg18 : arg18.IsWhole) (hc0 : ¬cond0_0 i) (hc1 : cond0_1 i) (hc2 : cond0_2 i) (hc3 : ¬cond0_3 i) (hc4 : ¬cond0_4 i) (hc5 : ¬cond0_5 i) (hc6 : ¬cond0_6 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S512x128 .bf16) (x9 : Vec F S1024x2048 .bf16) (x10 : Vec F S1024x128 .bf16) (x11 : Vec F S512x1024 .f32) (x12 : Vec F S512x1024 .f32) (x13 : Vec F S8x1024 .f32) :
    sout0_E_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 = k0_pay3 (k0_pay2 x8 x10) x0 (wl x9) x1 (wr x9) := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13)]
  unfold kernelRun0_E
  dsimp only
  try sl_unfold_words
  rw [View.canon_cons_unit_zero (S := S512x1024) hz2, View.readCov_unit_zero (S := S512x1024) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S512x1024) hz2, View.ld_unit_zero (S := S512x128) hz2, View.ld_unit_zero (S := S1024x128) hz2, View.ld_unit_zero (S := S8x1024) hz2, shapeCast_self]
  rfl

/-- The next point adds the product of the next two segments. -/
theorem acc_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S512x1024 .f32) (harg18 : arg18.IsWhole) (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S512x128 .bf16) (x9 : Vec F S1024x2048 .bf16) (x10 : Vec F S1024x128 .bf16) (x11 : Vec F S512x1024 .f32) (x12 : Vec F S512x1024 .f32) (x13 : Vec F S8x1024 .f32) (xs0 : Vec F S512x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 xs0 = k0_pay3 xs0 x2 (wl x9) x3 (wr x9) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 xs0)]
  unfold kernelRun0_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S512x1024) hz2, View.ld_unit_zero (S := S512x128) hz2, View.ld_unit_zero (S := S1024x128) hz2, View.ld_unit_zero (S := S8x1024) hz2, shapeCast_self]
  rfl

/-- The next point adds the product of the next two segments. -/
theorem acc_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S512x1024 .f32) (harg18 : arg18.IsWhole) (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S512x128 .bf16) (x9 : Vec F S1024x2048 .bf16) (x10 : Vec F S1024x128 .bf16) (x11 : Vec F S512x1024 .f32) (x12 : Vec F S512x1024 .f32) (x13 : Vec F S8x1024 .f32) (xs0 : Vec F S512x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 xs0 = k0_pay3 xs0 x4 (wl x9) x5 (wr x9) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 xs0)]
  unfold kernelRun0_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S512x1024) hz2, View.ld_unit_zero (S := S512x128) hz2, View.ld_unit_zero (S := S1024x128) hz2, View.ld_unit_zero (S := S8x1024) hz2, shapeCast_self]
  rfl

/-- The last point of a block of rows writes the gradient of these rows. -/
theorem out_D_14 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S512x1024 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : cond0_6 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S512x128 .bf16) (x9 : Vec F S1024x2048 .bf16) (x10 : Vec F S1024x128 .bf16) (x11 : Vec F S512x1024 .f32) (x12 : Vec F S512x1024 .f32) (x13 : Vec F S8x1024 .f32) (xo15 : Vec F S8x1024 .f32) (xs0 : Vec F S512x1024 .f32) :
    out0_D_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 xo15 xs0 = k0_pay7 x11 (k0_pay20 x11 (r0 x13) (r2 x13) (k0_pay3 xs0 x6 (wl x9) x7 (wr x9))) (k0_pay21 x11 (r0 x13) (r2 x13) (k0_pay3 xs0 x6 (wl x9) x7 (wr x9))) x12 := by
  unfold out0_D_14
  rw [View.read_writes_eq_canon _ _ _ (cover0_D_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 xo15 xs0)]
  unfold kernelRun0_D
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S512x1024) hz2, View.ld_unit_zero (S := S512x128) hz2, View.ld_unit_zero (S := S1024x128) hz2, View.ld_unit_zero (S := S8x1024) hz2, shapeCast_self]
  rw [View.readCov_unit_zero (S := S512x1024) _ hz2]
  rfl

/-- The last point of a block of rows adds the sums over these rows to the gradients of the three vectors. -/
theorem out_D_15 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .bf16) (harg10 : arg10.IsWhole) (arg11 : Memref sig .tc .vmem S1024x2048 .bf16) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (arg16 : Memref sig .tc .vmem S512x1024 .f32) (harg16 : arg16.IsWhole) (arg17 : Memref sig .tc .vmem S8x1024 .f32) (harg17 : arg17.IsWhole) (arg18 : Memref sig .tc .vmem S512x1024 .f32) (harg18 : arg18.IsWhole) (hc0 : ¬cond0_0 i) (hc1 : ¬cond0_1 i) (hc2 : ¬cond0_2 i) (hc3 : ¬cond0_3 i) (hc4 : ¬cond0_4 i) (hc5 : cond0_5 i) (hc6 : cond0_6 i)
    (x0 : Vec F S512x1024 .bf16) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S512x1024 .bf16) (x8 : Vec F S512x128 .bf16) (x9 : Vec F S1024x2048 .bf16) (x10 : Vec F S1024x128 .bf16) (x11 : Vec F S512x1024 .f32) (x12 : Vec F S512x1024 .f32) (x13 : Vec F S8x1024 .f32) (xo15 : Vec F S8x1024 .f32) (xs0 : Vec F S512x1024 .f32) :
    out0_D_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 hc5 hc6 x0 x1 x2 x3 x4 x5 x6 x7 x8 x9 x10 x11 x12 x13 xo15 xs0 = upd (k0_pay8 (k0_pay18 x11 (r2 x13) (k0_pay3 xs0 x6 (wl x9) x7 (wr x9))) (r0 xo15)) (k0_pay9 (k0_pay15 (k0_pay3 xs0 x6 (wl x9) x7 (wr x9))) (r1 xo15)) (k0_pay10 (k0_pay16 x11 (r0 x13) (k0_pay3 xs0 x6 (wl x9) x7 (wr x9))) (r2 xo15)) xo15 := by
  unfold out0_D_15
  unfold kernelRun0_D
  dsimp only
  try sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S512x1024) hz2, View.ld_unit_zero (S := S512x128) hz2, View.ld_unit_zero (S := S1024x128) hz2, View.ld_unit_zero (S := S8x1024) hz2, shapeCast_self]
  rw [View.readCov_unit_zero (S := S512x1024) _ hz2]
  funext y
  have h0 : (y 0).val < 8 := (y 0).isLt
  unfold upd
  rcases (by omega : (y 0).val = 0 ∨ (y 0).val = 1 ∨ (y 0).val = 2 ∨ 3 ≤ (y 0).val) with h | h | h | h
  · rw [if_pos h, View.read_writes_cons_rows_of_not_mem _ _ _ _ _ _ rfl (W := 1) rfl (by omega), View.read_writes_cons_rows_of_not_mem _ _ _ _ _ _ rfl (W := 1) rfl (by omega)]
    exact View.read_writes_cons_rows_of_mem _ _ _ _ _ y (ix2 0 (y 1)) rfl (by rw [h]; rfl) rfl
  · rw [if_neg (by omega), if_pos h, View.read_writes_cons_rows_of_not_mem _ _ _ _ _ _ rfl (W := 1) rfl (by omega)]
    exact View.read_writes_cons_rows_of_mem _ _ _ _ _ y (ix2 0 (y 1)) rfl (by rw [h]; rfl) rfl
  · rw [if_neg (by omega), if_neg (by omega), if_pos h]
    exact View.read_writes_cons_rows_of_mem _ _ _ _ _ y (ix2 0 (y 1)) rfl (by rw [h]; rfl) rfl
  · rw [if_neg (by omega), if_neg (by omega), if_neg (by omega), View.read_writes_cons_rows_of_not_mem _ _ _ _ _ _ rfl (W := 1) rfl (by omega),
      View.read_writes_cons_rows_of_not_mem _ _ _ _ _ _ rfl (W := 1) rfl (by omega), View.read_writes_cons_rows_of_not_mem _ _ _ _ _ _ rfl (W := 1) rfl (by omega)]
    exact congrFun (harg17.read_unread xo15) y

end Cert.ProjInIdeal.Val

end
-- ==== Proof.ProjSpec.lean ====
/- The gradient of the projection's input: the gradient of the product's input, from the eight segments of the
   cotangent and the segment of the decays, then back through the shift, the scale and the norm. -/
module

public import proofs.«01_k».proof.Proof.FfnSpec
public import proofs.«01_k».proof.Proof.Sums

@[expose] public section

noncomputable section

namespace Cert.Proj

open Idealize.ShloMosaic Cert.Ffn Cert.Sums

variable (S : Fin 8 → (⟨2, ![16384, 1024]⟩ : Shape).Idx → EReal) (B : (⟨2, ![16384, 128]⟩ : Shape).Idx → EReal)
variable (W : (⟨2, ![1024, 8320]⟩ : Shape).Idx → EReal)
variable (X R : (⟨2, ![16384, 1024]⟩ : Shape).Idx → EReal) (V : (⟨2, ![8, 1024]⟩ : Shape).Idx → EReal)

/-- The product of segment `s` with its columns of the weight. -/
def sg (s : Fin 8) (n : Fin 16384) (j : Fin 1024) : EReal :=
  ∑ k : Fin 1024, S s (ix2 n k) * W (ix2 j ⟨1024 * s.val + k.val, by omega⟩)

/-- The product of the decays' segment with its columns of the weight. -/
def sb (n : Fin 16384) (j : Fin 1024) : EReal := ∑ k : Fin 128, B (ix2 n k) * W (ix2 j ⟨8192 + k.val, by omega⟩)

/-- The gradient of the product's input, up to the pair of segments 0, 1, up to 2, 3, up to 4, 5, and whole. -/
def d0 (n : Fin 16384) (j : Fin 1024) : EReal := sb B W n j + (sg S W 0 n j + sg S W 1 n j)
def d1 (n : Fin 16384) (j : Fin 1024) : EReal := d0 S B W n j + (sg S W 2 n j + sg S W 3 n j)
def d2 (n : Fin 16384) (j : Fin 1024) : EReal := d1 S B W n j + (sg S W 4 n j + sg S W 5 n j)
def dp (n : Fin 16384) (j : Fin 1024) : EReal := d2 S B W n j + (sg S W 6 n j + sg S W 7 n j)

theorem dp_eq (n : Fin 16384) (j : Fin 1024) : dp S B W n j = ∑ s : Fin 8, sg S W s n j + sb B W n j := by
  unfold dp d2 d1 d0
  rw [Fin.sum_univ_eight]
  abel

/-- A sum over all columns, cut into the segments. -/
theorem cut (f : Fin 8320 → EReal) :
    ∑ k, f k = ∑ s : Fin 8, ∑ k : Fin 1024, f ⟨1024 * s.val + k.val, by omega⟩ + ∑ k : Fin 128, f ⟨8192 + k.val, by omega⟩ := by
  rw [← sum_ext 8320 f]
  refine (Finset.sum_range_add (ext 8320 f) (1024 * 8) 128).trans ?_
  rw [← sum_blocks 1024 8]
  refine congrArg₂ (fun u v : EReal => u + v) ?_ ?_
  · rw [Finset.sum_range]
    exact Finset.sum_congr rfl fun s _ => Finset.sum_congr rfl fun k _ => ext_of_lt f (by omega)
  · rw [Finset.sum_range]
    exact Finset.sum_congr rfl fun k _ => ext_of_lt f (by omega)

/-- The gradient of the projection's input, added to what came by the residual path. -/
def tX : (⟨2, ![16384, 1024]⟩ : Shape).Idx → EReal := fun i =>
  R i + gx (rw' X (i 0)) (vw V) (vs V) (dp S B W (i 0)) (i 1)

/-- What row `n` adds to row `r` of the gradients of the vectors. -/
def tm (r : ℕ) (j : Fin 1024) (n : Fin 16384) : EReal :=
  if r = 0 then gw (rw' X n) (vs V) (dp S B W n) j else if r = 1 then dp S B W n j
  else if r = 2 then gs (rw' X n) (vw V) (dp S B W n) j else 0

/-- The gradients of the norm's weight, the shift and the scale; five rows of zeros. -/
def tV : (⟨2, ![8, 1024]⟩ : Shape).Idx → EReal := fun i => ∑ n, tm S B W X V (i 0).val (i 1) n

end Cert.Proj

end
-- ==== Proof.ProjIn1.lean ====
/- What the kernel computes in the backward call of the projection's input: a block of rows takes four grid points,
   one for each pair of segments; the fourth writes the rows and adds their sums to the gradients of the three
   vectors, so that after the last point these are the sums over all rows. -/
module

public import proofs.«01_k».proof.Proof.ProjIn0
public import proofs.«01_k».proof.Proof.ProjSpec
public import proofs.«01_k».proof.Proof.Sums

@[expose] public section

set_option maxRecDepth 16384

noncomputable section

namespace Cert.ProjInIdeal.Val

open Idealize.ShloMosaic Idealize.ShloMosaic.TcCoe
open Cert.ProjInIdeal Cert.ProjInIdeal.Gen Cert.ProjInIdeal.Value Cert.Proj Cert.Sums
open Cert.Ffn hiding tX tm tV

/-! ## The stored terms, entry by entry -/

section terms

variable (x d e : Vec Ideal S512x1024 .f32) (w s : Vec Ideal S1x1024 .f32)

/-- A row of a block, and the only row of a vector. -/
abbrev br (x : Vec Ideal S512x1024 .f32) (i : Fin 512) (j : Fin 1024) : EReal := x (ix2 i j)
abbrev v1 (w : Vec Ideal S1x1024 .f32) (j : Fin 1024) : EReal := w (ix2 0 j)

theorem pay11_at (i : Fin 512) : (k0_pay11 (F := Ideal) x : (⟨2, ![512, 1]⟩ : Shape).Idx → EReal) (ix2 i 0) = ms (br x i) := by
  unfold ms
  pointwise [k0_pay11]

theorem pay20_at (i : Fin 512) (j : Fin 1024) :
    (k0_pay20 (F := Ideal) x w s d : (⟨2, ![512, 1024]⟩ : Shape).Idx → EReal) (ix2 i j) = br d i j * (1 + v1 s j) * v1 w j * rs (br x i) := by
  have h := pay11_at x i
  unfold rs
  rw [← h]
  pointwise [k0_pay20, k0_pay19, k0_pay12, k0_pay17, k0_pay14]

theorem pay21_at (i : Fin 512) :
    (k0_pay21 (F := Ideal) x w s d : (⟨2, ![512, 1]⟩ : Shape).Idx → EReal) (ix2 i 0) = qx (br x i) (v1 w) (v1 s) (br d i) := by
  have h := pay11_at x i
  unfold qx rs
  rw [← h]
  pointwise [k0_pay21, k0_pay19, k0_pay12, k0_pay17, k0_pay14]

theorem pay7_at (i : Fin 512) (j : Fin 1024) :
    (k0_pay7 (F := Ideal) x (k0_pay20 x w s d) (k0_pay21 x w s d) e : (⟨2, ![512, 1024]⟩ : Shape).Idx → EReal) (ix2 i j)
      = e (ix2 i j) + gx (br x i) (v1 w) (v1 s) (br d i) j := by
  have h1 := pay20_at x d w s i j
  have h2 := pay21_at x d w s i
  unfold gx
  rw [← h1, ← h2]
  generalize k0_pay20 (F := Ideal) x w s d = A
  generalize k0_pay21 (F := Ideal) x w s d = B
  pointwise [k0_pay7]
  simp only [Finset.univ_unique, Finset.sum_singleton]
  rfl

theorem pay8_at (o : Vec Ideal S1x1024 .f32) (j : Fin 1024) :
    (k0_pay8 (F := Ideal) (k0_pay18 x s d) o : (⟨2, ![1, 1024]⟩ : Shape).Idx → EReal) (ix2 0 j) = v1 o j + ∑ i, gw (br x i) (v1 s) (br d i) j := by
  have h : ∑ i, gw (br x i) (v1 s) (br d i) j = (k0_pay18 (F := Ideal) x s d : (⟨2, ![1, 1024]⟩ : Shape).Idx → EReal) (ix2 0 j) := by
    refine Eq.symm (Eq.trans ?_ (Finset.sum_congr (f := fun i : Fin 512 => x (ix2 i j) * Ideal.rsqrt (k0_pay11 (F := Ideal) x (ix2 i 0)) * (d (ix2 i j) * (1 + s (ix2 0 j)))) rfl fun i _ => ?_))
    · pointwise [k0_pay18, k0_pay17, k0_pay13, k0_pay12, k0_pay14]
    · unfold gw rs; exact congrArg (fun u : EReal => x (ix2 i j) * Ideal.rsqrt u * (d (ix2 i j) * (1 + s (ix2 0 j)))) (pay11_at x i)
  rw [h]
  generalize k0_pay18 (F := Ideal) x s d = A
  pointwise [k0_pay8]

theorem pay9_at (o : Vec Ideal S1x1024 .f32) (j : Fin 1024) :
    (k0_pay9 (F := Ideal) (k0_pay15 d) o : (⟨2, ![1, 1024]⟩ : Shape).Idx → EReal) (ix2 0 j) = v1 o j + ∑ i, br d i j := by
  pointwise [k0_pay9, k0_pay15]

theorem pay10_at (o : Vec Ideal S1x1024 .f32) (j : Fin 1024) :
    (k0_pay10 (F := Ideal) (k0_pay16 x w d) o : (⟨2, ![1, 1024]⟩ : Shape).Idx → EReal) (ix2 0 j) = v1 o j + ∑ i, gs (br x i) (v1 w) (br d i) j := by
  have h : ∑ i, gs (br x i) (v1 w) (br d i) j = (k0_pay16 (F := Ideal) x w d : (⟨2, ![1, 1024]⟩ : Shape).Idx → EReal) (ix2 0 j) := by
    refine Eq.symm (Eq.trans ?_ (Finset.sum_congr (f := fun i : Fin 512 => x (ix2 i j) * Ideal.rsqrt (k0_pay11 (F := Ideal) x (ix2 i 0)) * w (ix2 0 j) * d (ix2 i j)) rfl fun i _ => ?_))
    · pointwise [k0_pay16, k0_pay13, k0_pay12, k0_pay14]
    · unfold gs rs; exact congrArg (fun u : EReal => x (ix2 i j) * Ideal.rsqrt u * w (ix2 0 j) * d (ix2 i j)) (pay11_at x i)
  rw [h]
  generalize k0_pay16 (F := Ideal) x w d = A
  pointwise [k0_pay10]

theorem pay3_at (a : Vec Ideal S512x1024 .bf16) (b : Vec Ideal S1024x1024 .bf16) (a' : Vec Ideal S512x1024 .bf16) (b' : Vec Ideal S1024x1024 .bf16)
    (i : Fin 512) (j : Fin 1024) :
    (k0_pay3 (F := Ideal) e a b a' b' : (⟨2, ![512, 1024]⟩ : Shape).Idx → EReal) (ix2 i j)
      = e (ix2 i j) + (∑ k : Fin 1024, a (ix2 i k) * b (ix2 j k) + ∑ k : Fin 1024, a' (ix2 i k) * b' (ix2 j k)) := by
  pointwise [k0_pay3]

theorem pay2_at (a : Vec Ideal S512x128 .bf16) (b : Vec Ideal S1024x128 .bf16) (i : Fin 512) (j : Fin 1024) :
    (k0_pay2 (F := Ideal) a b : (⟨2, ![512, 1024]⟩ : Shape).Idx → EReal) (ix2 i j) = ∑ k : Fin 128, a (ix2 i k) * b (ix2 j k) := by
  pointwise [k0_pay2]

theorem pay1_at (i : Fin 8) (j : Fin 1024) : (k0_pay1 (F := Ideal) : (⟨2, ![8, 1024]⟩ : Shape).Idx → EReal) (ix2 i j) = 0 := by
  pointwise [k0_pay1]

end terms

/-! ## The blocks -/

variable (m : (ℓ : Loc nD τ sig) → Buf (Elt Ideal) ℓ) (c : Dev nD)

/-- The segments of the cotangent. -/
def aS : Fin 8 → (⟨2, ![16384, 1024]⟩ : Shape).Idx → EReal := fun s =>
  match s with
  | ⟨0, _⟩ => m ((c.tc : Thread nD τ).loc main_arg0)
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => m ((c.tc : Thread nD τ).loc main_arg4)
  | ⟨5, _⟩ => m ((c.tc : Thread nD τ).loc main_arg5)
  | ⟨6, _⟩ => m ((c.tc : Thread nD τ).loc main_arg6)
  | ⟨7, _⟩ => m ((c.tc : Thread nD τ).loc main_arg7)

abbrev aB : (⟨2, ![16384, 128]⟩ : Shape).Idx → EReal := m ((c.tc : Thread nD τ).loc main_arg8)
abbrev aW : (⟨2, ![1024, 8320]⟩ : Shape).Idx → EReal := m ((c.tc : Thread nD τ).loc main_arg9)
abbrev aX : (⟨2, ![16384, 1024]⟩ : Shape).Idx → EReal := m ((c.tc : Thread nD τ).loc main_arg10)
abbrev aR : (⟨2, ![16384, 1024]⟩ : Shape).Idx → EReal := m ((c.tc : Thread nD τ).loc main_arg11)
abbrev aV : (⟨2, ![8, 1024]⟩ : Shape).Idx → EReal := m ((c.tc : Thread nD τ).loc main_arg12)

theorem idx : ∀ t : Fin cfg0.N, win0_0.index t = ![t.val / 4, 0]
    ∧ win0_1.index t = ![t.val / 4, 0]
    ∧ win0_2.index t = ![t.val / 4, 0]
    ∧ win0_3.index t = ![t.val / 4, 0]
    ∧ win0_4.index t = ![t.val / 4, 0]
    ∧ win0_5.index t = ![t.val / 4, 0]
    ∧ win0_6.index t = ![t.val / 4, 0]
    ∧ win0_7.index t = ![t.val / 4, 0]
    ∧ win0_8.index t = ![t.val / 4, 0]
    ∧ win0_11.index t = ![t.val / 4, 0]
    ∧ win0_12.index t = ![t.val / 4, 0]
    ∧ win0_9.index t = ![0, t.val % 4] ∧ win0_10.index t = ![0, 64] ∧ win0_13.index t = ![0, 0] :=
  (by decide +kernel : ∀ t : Fin grid0.N, _)

theorem ib_0 (t : Fin cfg0.N) (i : Fin 512) (k : Fin 1024) (h : 512 * (t.val / 4) + i.val < 16384) :
    (iblk m c 0 t : Vec Ideal S512x1024 .bf16) (ix2 i k) = aS m c 0 (ix2 ⟨512 * (t.val / 4) + i.val, h⟩ k) := by
  unfold aS
  blk_ext [iblk, idx t]
theorem ib_1 (t : Fin cfg0.N) (i : Fin 512) (k : Fin 1024) (h : 512 * (t.val / 4) + i.val < 16384) :
    (iblk m c 1 t : Vec Ideal S512x1024 .bf16) (ix2 i k) = aS m c 1 (ix2 ⟨512 * (t.val / 4) + i.val, h⟩ k) := by
  unfold aS
  blk_ext [iblk, idx t]
theorem ib_2 (t : Fin cfg0.N) (i : Fin 512) (k : Fin 1024) (h : 512 * (t.val / 4) + i.val < 16384) :
    (iblk m c 2 t : Vec Ideal S512x1024 .bf16) (ix2 i k) = aS m c 2 (ix2 ⟨512 * (t.val / 4) + i.val, h⟩ k) := by
  unfold aS
  blk_ext [iblk, idx t]
theorem ib_3 (t : Fin cfg0.N) (i : Fin 512) (k : Fin 1024) (h : 512 * (t.val / 4) + i.val < 16384) :
    (iblk m c 3 t : Vec Ideal S512x1024 .bf16) (ix2 i k) = aS m c 3 (ix2 ⟨512 * (t.val / 4) + i.val, h⟩ k) := by
  unfold aS
  blk_ext [iblk, idx t]
theorem ib_4 (t : Fin cfg0.N) (i : Fin 512) (k : Fin 1024) (h : 512 * (t.val / 4) + i.val < 16384) :
    (iblk m c 4 t : Vec Ideal S512x1024 .bf16) (ix2 i k) = aS m c 4 (ix2 ⟨512 * (t.val / 4) + i.val, h⟩ k) := by
  unfold aS
  blk_ext [iblk, idx t]
theorem ib_5 (t : Fin cfg0.N) (i : Fin 512) (k : Fin 1024) (h : 512 * (t.val / 4) + i.val < 16384) :
    (iblk m c 5 t : Vec Ideal S512x1024 .bf16) (ix2 i k) = aS m c 5 (ix2 ⟨512 * (t.val / 4) + i.val, h⟩ k) := by
  unfold aS
  blk_ext [iblk, idx t]
theorem ib_6 (t : Fin cfg0.N) (i : Fin 512) (k : Fin 1024) (h : 512 * (t.val / 4) + i.val < 16384) :
    (iblk m c 6 t : Vec Ideal S512x1024 .bf16) (ix2 i k) = aS m c 6 (ix2 ⟨512 * (t.val / 4) + i.val, h⟩ k) := by
  unfold aS
  blk_ext [iblk, idx t]
theorem ib_7 (t : Fin cfg0.N) (i : Fin 512) (k : Fin 1024) (h : 512 * (t.val / 4) + i.val < 16384) :
    (iblk m c 7 t : Vec Ideal S512x1024 .bf16) (ix2 i k) = aS m c 7 (ix2 ⟨512 * (t.val / 4) + i.val, h⟩ k) := by
  unfold aS
  blk_ext [iblk, idx t]
theorem ib_11 (t : Fin cfg0.N) (i : Fin 512) (k : Fin 1024) (h : 512 * (t.val / 4) + i.val < 16384) :
    (iblk m c 11 t : Vec Ideal S512x1024 .f32) (ix2 i k) = aX m c (ix2 ⟨512 * (t.val / 4) + i.val, h⟩ k) := by
  blk_ext [iblk, idx t]
theorem ib_12 (t : Fin cfg0.N) (i : Fin 512) (k : Fin 1024) (h : 512 * (t.val / 4) + i.val < 16384) :
    (iblk m c 12 t : Vec Ideal S512x1024 .f32) (ix2 i k) = aR m c (ix2 ⟨512 * (t.val / 4) + i.val, h⟩ k) := by
  blk_ext [iblk, idx t]
theorem ib_8 (t : Fin cfg0.N) (i : Fin 512) (k : Fin 128) (h : 512 * (t.val / 4) + i.val < 16384) :
    (iblk m c 8 t : Vec Ideal S512x128 .bf16) (ix2 i k) = aB m c (ix2 ⟨512 * (t.val / 4) + i.val, h⟩ k) := by
  blk_ext [iblk, idx t]
theorem ib_9 (t : Fin cfg0.N) (j : Fin 1024) (k : Fin 2048) :
    (X0_9 m c t : Vec Ideal S1024x2048 .bf16) (ix2 j k) = aW m c (ix2 j ⟨2048 * (t.val % 4) + k.val, by omega⟩) := by
  unfold X0_9 Pipeline.Window.fill
  rw [dif_pos (moved0_9 t (ix2 j k))]
  blk_ext [iblk, idx t]
theorem ib_10 (t : Fin cfg0.N) (j : Fin 1024) (k : Fin 128) :
    (iblk m c 10 t : Vec Ideal S1024x128 .bf16) (ix2 j k) = aW m c (ix2 j ⟨8192 + k.val, by omega⟩) := by
  blk_ext [iblk, idx t]
theorem ib_13 (t : Fin cfg0.N) (i : Fin 8) (j : Fin 1024) :
    (iblk m c 13 t : Vec Ideal S8x1024 .f32) (ix2 i j) = aV m c (ix2 i j) := by
  blk_ext [iblk, idx t]

/-- The two halves of a block of the weight. -/
theorem wl_at (t : Fin cfg0.N) (j k : Fin 1024) : wl (X0_9 m c t) (ix2 j k) = aW m c (ix2 j ⟨2048 * (t.val % 4) + k.val, by omega⟩) := by
  refine Eq.trans (congrArg (X0_9 m c t) ?_) (ib_9 m c t j ⟨k.val, by omega⟩)
  funext a; fin_cases a <;> exact Fin.ext (by simp [Rect.emb])
theorem wr_at (t : Fin cfg0.N) (j k : Fin 1024) : wr (X0_9 m c t) (ix2 j k) = aW m c (ix2 j ⟨2048 * (t.val % 4) + (1024 + k.val), by omega⟩) := by
  refine Eq.trans (congrArg (X0_9 m c t) ?_) (ib_9 m c t j ⟨1024 + k.val, by omega⟩)
  funext a; fin_cases a <;> exact Fin.ext (by simp [Rect.emb])

theorem row0_at (x : Vec Ideal S8x1024 .f32) (j : Fin 1024) : r0 x (ix2 0 j) = x (ix2 0 j) := by
  refine congrArg x ?_
  funext a; fin_cases a <;> exact Fin.ext (by simp [Rect.emb])
theorem row1_at (x : Vec Ideal S8x1024 .f32) (j : Fin 1024) : r1 x (ix2 0 j) = x (ix2 1 j) := by
  refine congrArg x ?_
  funext a; fin_cases a <;> exact Fin.ext (by simp [Rect.emb])
theorem row2_at (x : Vec Ideal S8x1024 .f32) (j : Fin 1024) : r2 x (ix2 0 j) = x (ix2 2 j) := by
  refine congrArg x ?_
  funext a; fin_cases a <;> exact Fin.ext (by simp [Rect.emb])

theorem vec_w (t : Fin cfg0.N) : v1 (r0 (iblk m c 13 t)) = vw (aV m c) := by
  funext j
  exact (row0_at _ j).trans (ib_13 m c t 0 j)
theorem vec_s (t : Fin cfg0.N) : v1 (r2 (iblk m c 13 t)) = vs (aV m c) := by
  funext j
  exact (row2_at _ j).trans (ib_13 m c t 2 j)

/-- The product of a pair of segments with a block of the weight, added to `e`. -/
abbrev pr (a a' : Vec Ideal S512x1024 .bf16) (t : Fin cfg0.N) (e : Vec Ideal S512x1024 .f32) : Vec Ideal S512x1024 .f32 :=
  k0_pay3 e a (wl (X0_9 m c t)) a' (wr (X0_9 m c t))

theorem pr_at (a a' : Vec Ideal S512x1024 .bf16) (t : Fin cfg0.N) (e : Vec Ideal S512x1024 .f32) (i : Fin 512) (j : Fin 1024) (n : Fin 16384) (s s' : Fin 8)
    (hs : s.val = 2 * (t.val % 4)) (hs' : s'.val = 2 * (t.val % 4) + 1)
    (ha : ∀ k, a (ix2 i k) = aS m c s (ix2 n k)) (ha' : ∀ k, a' (ix2 i k) = aS m c s' (ix2 n k)) :
    pr m c a a' t e (ix2 i j) = e (ix2 i j) + (sg (aS m c) (aW m c) s n j + sg (aS m c) (aW m c) s' n j) := by
  refine (pay3_at e _ _ _ _ i j).trans (congrArg (fun u : EReal => e (ix2 i j) + u) ?_)
  refine congrArg₂ (fun u v : EReal => u + v) (Finset.sum_congr rfl fun k _ => ?_) (Finset.sum_congr rfl fun k _ => ?_)
  · refine congrArg₂ (fun u v : EReal => u * v) (ha k) ((wl_at m c t j k).trans (congrArg (fun q => aW m c (ix2 j q)) (Fin.ext ?_)))
    show 2048 * (t.val % 4) + k.val = 1024 * s.val + k.val; omega
  · refine congrArg₂ (fun u v : EReal => u * v) (ha' k) ((wr_at m c t j k).trans (congrArg (fun q => aW m c (ix2 j q)) (Fin.ext ?_)))
    show 2048 * (t.val % 4) + (1024 + k.val) = 1024 * s'.val + k.val; omega

theorem b0_at (t : Fin cfg0.N) (i : Fin 512) (j : Fin 1024) (n : Fin 16384) (hn : n.val = 512 * (t.val / 4) + i.val) :
    (k0_pay2 (F := Ideal) (iblk m c 8 t) (iblk m c 10 t)) (ix2 i j) = sb (aB m c) (aW m c) n j := by
  obtain ⟨n, h⟩ := n
  dsimp only at hn
  subst hn
  refine (pay2_at _ _ i j).trans (Finset.sum_congr rfl fun k _ => ?_)
  exact congrArg₂ (fun u v : EReal => u * v) (ib_8 m c t i k h) (ib_10 m c t j k)

/-- The point before. -/
abbrev pre (t : Fin cfg0.N) : Fin cfg0.N := ⟨t.val - 1, Nat.lt_of_le_of_lt (Nat.sub_le _ _) t.isLt⟩

theorem scr_0 (t : Fin cfg0.N) (ht : t.val % 4 = 0) :
    (outsAt0 m c t.val t.isLt).2.2 = pr m c (iblk m c 0 t) (iblk m c 1 t) t (k0_pay2 (F := Ideal) (iblk m c 8 t) (iblk m c 10 t)) := by
  by_cases h0 : t.val % 128 = 0
  · rw [outsAt0_A m c t h0 (by omega) (by omega) (by omega) (by omega) (by omega) (by omega)]
    dsimp only
    rw [acc_A]
  · rw [outsAt0_E m c t (by omega) (by omega) (by omega) (by omega) (by omega) (by omega) (by omega)]
    dsimp only
    rw [acc_E]

theorem scr_1 (t : Fin cfg0.N) (ht : t.val % 4 = 1) :
    (outsAt0 m c t.val t.isLt).2.2 = pr m c (iblk m c 2 t) (iblk m c 3 t) t (outsAt0 m c (pre t).val (pre t).isLt).2.2 := by
  rw [outsAt0_B m c t (by omega) (by omega) (by omega) (by omega) (by omega) (by omega) (by omega)]
  dsimp only
  rw [acc_B]

theorem scr_2 (t : Fin cfg0.N) (ht : t.val % 4 = 2) :
    (outsAt0 m c t.val t.isLt).2.2 = pr m c (iblk m c 4 t) (iblk m c 5 t) t (outsAt0 m c (pre t).val (pre t).isLt).2.2 := by
  rw [outsAt0_C m c t (by omega) (by omega) (by omega) (by omega) (by omega) (by omega) (by omega)]
  dsimp only
  rw [acc_C]

theorem sc_0 (t : Fin cfg0.N) (ht : t.val % 4 = 0) (i : Fin 512) (j : Fin 1024) (n : Fin 16384) (hn : n.val = 512 * (t.val / 4) + i.val) :
    (outsAt0 m c t.val t.isLt).2.2 (ix2 i j) = d0 (aS m c) (aB m c) (aW m c) n j := by
  obtain ⟨n, h⟩ := n
  dsimp only at hn
  subst hn
  refine (congrFun (scr_0 m c t ht) (ix2 i j)).trans ((pr_at m c _ _ t _ i j ⟨_, h⟩ 0 1 (by show 0 = _; omega) (by show 1 = _; omega)
    (fun q => ib_0 m c t i q h) (fun q => ib_1 m c t i q h)).trans ?_)
  unfold d0
  exact congrArg (fun u : EReal => u + _) (b0_at m c t i j ⟨_, h⟩ rfl)

theorem sc_1 (t : Fin cfg0.N) (ht : t.val % 4 = 1) (i : Fin 512) (j : Fin 1024) (n : Fin 16384) (hn : n.val = 512 * (t.val / 4) + i.val) :
    (outsAt0 m c t.val t.isLt).2.2 (ix2 i j) = d1 (aS m c) (aB m c) (aW m c) n j := by
  obtain ⟨n, h⟩ := n
  dsimp only at hn
  subst hn
  refine (congrFun (scr_1 m c t ht) (ix2 i j)).trans ((pr_at m c _ _ t _ i j ⟨_, h⟩ 2 3 (by show 2 = _; omega) (by show 3 = _; omega)
    (fun q => ib_2 m c t i q h) (fun q => ib_3 m c t i q h)).trans ?_)
  unfold d1
  exact congrArg (fun u : EReal => u + _) (sc_0 m c (pre t) (by show (t.val - 1) % 4 = _; omega) i j ⟨_, h⟩ (by show _ = 512 * ((t.val - 1) / 4) + i.val; dsimp only; omega))

theorem sc_2 (t : Fin cfg0.N) (ht : t.val % 4 = 2) (i : Fin 512) (j : Fin 1024) (n : Fin 16384) (hn : n.val = 512 * (t.val / 4) + i.val) :
    (outsAt0 m c t.val t.isLt).2.2 (ix2 i j) = d2 (aS m c) (aB m c) (aW m c) n j := by
  obtain ⟨n, h⟩ := n
  dsimp only at hn
  subst hn
  refine (congrFun (scr_2 m c t ht) (ix2 i j)).trans ((pr_at m c _ _ t _ i j ⟨_, h⟩ 4 5 (by show 4 = _; omega) (by show 5 = _; omega)
    (fun q => ib_4 m c t i q h) (fun q => ib_5 m c t i q h)).trans ?_)
  unfold d2
  exact congrArg (fun u : EReal => u + _) (sc_1 m c (pre t) (by show (t.val - 1) % 4 = _; omega) i j ⟨_, h⟩ (by show _ = 512 * ((t.val - 1) / 4) + i.val; dsimp only; omega))

/-- The product that the fourth point of a block of rows ends with. -/
abbrev dA (t : Fin cfg0.N) : Vec Ideal S512x1024 .f32 := pr m c (iblk m c 6 t) (iblk m c 7 t) t (outsAt0 m c (pre t).val (pre t).isLt).2.2

theorem dA_at (t : Fin cfg0.N) (ht : t.val % 4 = 3) (i : Fin 512) (n : Fin 16384) (hn : n.val = 512 * (t.val / 4) + i.val) :
    br (dA m c t) i = dp (aS m c) (aB m c) (aW m c) n := by
  funext j
  obtain ⟨n, h⟩ := n
  dsimp only at hn
  subst hn
  refine (pr_at m c _ _ t _ i j ⟨_, h⟩ 6 7 (by show 6 = _; omega) (by show 7 = _; omega)
    (fun q => ib_6 m c t i q h) (fun q => ib_7 m c t i q h)).trans ?_
  unfold dp
  exact congrArg (fun u : EReal => u + _) (sc_2 m c (pre t) (by show (t.val - 1) % 4 = _; omega) i j ⟨_, h⟩ (by show _ = 512 * ((t.val - 1) / 4) + i.val; dsimp only; omega))

theorem dx_at (t : Fin cfg0.N) (i : Fin 512) (n : Fin 16384) (hn : n.val = 512 * (t.val / 4) + i.val) :
    br (iblk m c 11 t) i = rw' (aX m c) n := by
  obtain ⟨n, h⟩ := n
  dsimp only at hn
  subst hn
  funext j
  exact ib_11 m c t i j h

/-! ## The points -/

theorem rows_odd (t : Fin cfg0.N) (ht : t.val % 4 = 3) :
    (outsAt0 m c t.val t.isLt).1 = k0_pay7 (iblk m c 11 t) (k0_pay20 (iblk m c 11 t) (r0 (iblk m c 13 t)) (r2 (iblk m c 13 t)) (dA m c t))
      (k0_pay21 (iblk m c 11 t) (r0 (iblk m c 13 t)) (r2 (iblk m c 13 t)) (dA m c t)) (iblk m c 12 t) := by
  rw [outsAt0_D m c t (by omega) (by omega) (by omega) (by omega) (by omega) (by omega) (by omega)]
  dsimp only
  rw [out_D_14]

/-- The gradients of the vectors after a fourth point, from those before. -/
abbrev up8 (t : Fin cfg0.N) (x : Vec Ideal S8x1024 .f32) : Vec Ideal S8x1024 .f32 :=
  upd (k0_pay8 (k0_pay18 (iblk m c 11 t) (r2 (iblk m c 13 t)) (dA m c t)) (r0 x)) (k0_pay9 (k0_pay15 (dA m c t)) (r1 x))
    (k0_pay10 (k0_pay16 (iblk m c 11 t) (r0 (iblk m c 13 t)) (dA m c t)) (r2 x)) x

theorem vecs_odd (t : Fin cfg0.N) (ht : t.val % 4 = 3) :
    (outsAt0 m c t.val t.isLt).2.1 = up8 m c t (outsAt0 m c (pre t).val (pre t).isLt).2.1 := by
  rw [outsAt0_D m c t (by omega) (by omega) (by omega) (by omega) (by omega) (by omega) (by omega)]
  dsimp only
  rw [out_D_15]

theorem vecs_first (t : Fin cfg0.N) (h0 : t.val % 128 = 0) : (outsAt0 m c t.val t.isLt).2.1 = k0_pay1 (F := Ideal) := by
  rw [outsAt0_A m c t h0 (by omega) (by omega) (by omega) (by omega) (by omega) (by omega)]
  dsimp only
  rw [out_A_15]

/-- What row `n` adds, zero beyond the last row. -/
abbrev tn (r : ℕ) (j : Fin 1024) : ℕ → EReal := ext 16384 (tm (aS m c) (aB m c) (aW m c) (aX m c) (aV m c) r j)

theorem up8_at (t : Fin cfg0.N) (ht : t.val % 4 = 3) (x : Vec Ideal S8x1024 .f32) (r : Fin 8) (j : Fin 1024) :
    up8 m c t x (ix2 r j) = x (ix2 r j) + ∑ k : Fin 512, tn m c r.val j (512 * (t.val / 4) + k.val) := by
  have hN : t.val < 128 := lt_of_lt_of_eq t.isLt N_0
  have hn (k : Fin 512) : 512 * (t.val / 4) + k.val < 16384 := by omega
  have he (k : Fin 512) : tn m c r.val j (512 * (t.val / 4) + k.val) = tm (aS m c) (aB m c) (aW m c) (aX m c) (aV m c) r.val j ⟨_, hn k⟩ :=
    ext_of_lt (tm (aS m c) (aB m c) (aW m c) (aX m c) (aV m c) r.val j) (hn k)
  rw [Finset.sum_congr rfl fun k _ => he k]
  have hd (k : Fin 512) := dA_at m c t ht k ⟨_, hn k⟩ rfl
  have hx (k : Fin 512) := dx_at m c t k ⟨_, hn k⟩ rfl
  unfold up8 upd
  show (if r.val = 0 then _ else if r.val = 1 then _ else if r.val = 2 then _ else _) = _
  by_cases h0 : r.val = 0
  · obtain rfl : r = 0 := Fin.ext h0
    rw [if_pos h0]
    refine (pay8_at _ _ _ _ j).trans (congrArg₂ (fun u v : EReal => u + v) (row0_at x j) (Finset.sum_congr rfl fun k _ => ?_))
    unfold tm
    rw [if_pos h0, hd k, hx k, vec_s]
  rw [if_neg h0]
  by_cases h1 : r.val = 1
  · obtain rfl : r = 1 := Fin.ext h1
    rw [if_pos h1]
    refine (pay9_at _ _ j).trans (congrArg₂ (fun u v : EReal => u + v) (row1_at x j) (Finset.sum_congr rfl fun k _ => ?_))
    unfold tm
    rw [if_neg h0, if_pos h1, hd k]
  rw [if_neg h1]
  by_cases h2 : r.val = 2
  · obtain rfl : r = 2 := Fin.ext h2
    rw [if_pos h2]
    refine (pay10_at _ _ _ _ j).trans (congrArg₂ (fun u v : EReal => u + v) (row2_at x j) (Finset.sum_congr rfl fun k _ => ?_))
    unfold tm
    rw [if_neg h0, if_neg h1, if_pos h2, hd k, hx k, vec_w]
  rw [if_neg h2]
  refine (add_zero (x (ix2 r j) : EReal)).symm.trans (congrArg (fun u : EReal => x (ix2 r j) + u) (Finset.sum_eq_zero fun k _ => ?_).symm)
  unfold tm
  rw [if_neg h0, if_neg h1, if_neg h2]

/-- The other points keep the gradients of the vectors. -/
theorem vecs_keep (t : Fin cfg0.N) (h0 : ¬ t.val % 128 = 0) (ht : ¬ t.val % 4 = 3) :
    (outsAt0 m c t.val t.isLt).2.1 = (outsAt0 m c (pre t).val (pre t).isLt).2.1 := by
  rcases (by omega : t.val % 4 = 0 ∨ t.val % 4 = 1 ∨ t.val % 4 = 2) with ht | ht | ht
  · rw [outsAt0_E m c t (by omega) (by omega) (by omega) (by omega) (by omega) (by omega) (by omega)]
    rfl
  · rw [outsAt0_B m c t (by omega) (by omega) (by omega) (by omega) (by omega) (by omega) (by omega)]
    rfl
  · rw [outsAt0_C m c t (by omega) (by omega) (by omega) (by omega) (by omega) (by omega) (by omega)]
    rfl

/-- The gradients of the vectors after point `n`: the blocks finished by then. -/
theorem vecs_at (r : Fin 8) (j : Fin 1024) : ∀ (n : ℕ) (h : n < cfg0.N),
    (outsAt0 m c n h).2.1 (ix2 r j) = ∑ i ∈ Finset.range ((n + 1) / 4), ∑ k : Fin 512, tn m c r.val j (512 * i + k.val) := by
  intro n
  induction n with
  | zero =>
    intro h
    refine ((congrFun (vecs_first m c ⟨0, h⟩ rfl) (ix2 r j)).trans (pay1_at r j)).trans ?_
    exact (Finset.sum_range_zero _).symm
  | succ n ih =>
    intro h
    have hN : n + 1 < 128 := lt_of_lt_of_eq h N_0
    by_cases ht : (n + 1) % 4 = 3
    · have hd : (n + 1 + 1) / 4 = (n + 1) / 4 + 1 := by omega
      have e := congrFun (vecs_odd m c ⟨n + 1, h⟩ ht) (ix2 r j)
      refine (e.trans (up8_at m c ⟨n + 1, h⟩ ht _ r j)).trans ?_
      rw [hd, Finset.sum_range_succ]
      exact congrArg (fun u : EReal => u + _) (ih (by omega))
    · have hd : (n + 1 + 1) / 4 = (n + 1) / 4 := by omega
      have e := congrFun (vecs_keep m c ⟨n + 1, h⟩ (by show ¬ (n + 1) % 128 = 0; omega) ht) (ix2 r j)
      rw [hd]
      exact e.trans (ih (by omega))

theorem vecs_last (r : Fin 8) (j : Fin 1024) (n : ℕ) (h : n < cfg0.N) (hn : (n + 1) / 4 = 32) :
    (outsAt0 m c n h).2.1 (ix2 r j) = ∑ i ∈ Finset.range 32, ∑ k : Fin 512, tn m c r.val j (512 * i + k.val) := by
  rw [vecs_at m c r j n h, hn]

/-! ## The two arrays after the run -/

/-- The gradients of the vectors. -/
theorem G15_eq : G15 m c = tV (aS m c) (aB m c) (aW m c) (aX m c) (aV m c) := by
  refine ((G15_last m c).trans (congrArg (fun p => p.2.1) (outsAt0_sweep m c 127 (lt_of_lt_of_eq (by decide) N_0.symm))).symm).trans ?_
  funext i
  have hi : i = ix2 (i 0) (i 1) := by funext a; fin_cases a <;> rfl
  refine Eq.trans (congrArg _ hi) ((vecs_last m c (i 0) (i 1) 127 (lt_of_lt_of_eq (by decide) N_0.symm) rfl).trans ?_)
  rw [sum_blocks]
  exact sum_ext 16384 _

theorem rows_at (t : Fin cfg0.N) (ht : t.val % 4 = 3) (p : Fin 512) (n : Fin 16384) (hn : n.val = 512 * (t.val / 4) + p.val) (j : Fin 1024) :
    (outsAt0 m c t.val t.isLt).1 (ix2 p j) = aR m c (ix2 n j) + gx (rw' (aX m c) n) (vw (aV m c)) (vs (aV m c)) (dp (aS m c) (aB m c) (aW m c) n) j := by
  refine (congrFun (rows_odd m c t ht) (ix2 p j)).trans ((pay7_at _ _ _ _ _ p j).trans ?_)
  rw [vec_w, vec_s, dA_at m c t ht p n hn, dx_at m c t p n hn]
  refine congrArg (fun u : EReal => u + _) ?_
  obtain ⟨n, h⟩ := n
  dsimp only at hn
  subst hn
  exact ib_12 m c t p j h

/-- The gradient of the projection's input. -/
theorem G14_eq : G14 m c = tX (aS m c) (aB m c) (aW m c) (aX m c) (aR m c) (aV m c) := by
  funext i
  have h0 : (i 0).val < 16384 := (i 0).isLt
  have h1 : (i 1).val < 1024 := (i 1).isLt
  have hr : run14Of i = (i 0).val / 512 := by
    show 1 * ((i 0).val / 512 - 0) + 1 * ((i 1).val / 1024 - 0) = _; omega
  have hN : cfg0.N = 128 := N_0
  have hlt : pt14Of i < cfg0.N := by rw [hN]; show 4 * run14Of i + 3 < 128; omega
  have hl : loc14Of i = ix2 ⟨(i 0).val % 512, Nat.mod_lt _ (by decide)⟩ (i 1) := by
    funext a
    match a with
    | ⟨0, _⟩ => rfl
    | ⟨1, _⟩ => exact Fin.ext (Nat.mod_eq_of_lt h1)
  have hg : G14 m c i = (outsAt0 m c (pt14Of i) hlt).1 (loc14Of i) := by
    unfold G14
    rw [dif_pos hlt, outsAt0_sweep]
  rw [hg, hl]
  have hi : tX (aS m c) (aB m c) (aW m c) (aX m c) (aR m c) (aV m c) i = aR m c (ix2 (i 0) (i 1))
      + gx (rw' (aX m c) (i 0)) (vw (aV m c)) (vs (aV m c)) (dp (aS m c) (aB m c) (aW m c) (i 0)) (i 1) := by
    unfold tX
    exact congrArg (fun u : EReal => u + _) (congrArg (aR m c) (by funext a; fin_cases a <;> rfl))
  rw [hi]
  generalize hp : (⟨pt14Of i, hlt⟩ : Fin cfg0.N) = t
  have hv : t.val = 4 * run14Of i + 3 := by rw [← hp]
  have ht : t.val % 4 = 3 := by omega
  have hn : (i 0).val = 512 * (t.val / 4) + (i 0).val % 512 := by omega
  refine Eq.trans ?_ (rows_at m c t ht ⟨(i 0).val % 512, Nat.mod_lt _ (by decide)⟩ (i 0) hn (i 1))
  subst hp
  rfl

end Cert.ProjInIdeal.Val

end
-- ==== Proof.ProjInRef.lean ====
/- The reference's gradients of the projection's input and of the three vectors, entry by entry. -/
module

public import proofs.«01_k».proof.Proof.ProjSpec
public import proofs.«01_k».proof.Proof.Gen.ProjInRefIdeal.Run

@[expose] public section

set_option maxRecDepth 16384

noncomputable section

namespace Cert.ProjInRefIdeal.Val

open Idealize.ShloMosaic Idealize.ShloMosaic.TcCoe
open Cert.ProjInRefIdeal Cert.ProjInRefIdeal.Gen Cert.ProjInRefIdeal.Value Cert.Proj
open Cert.Ffn hiding tX tm tV

/-- The segments of the cotangent, as a family. -/
def fam (S0 S1 S2 S3 S4 S5 S6 S7 : (⟨2, ![16384, 1024]⟩ : Shape).Idx → EReal) : Fin 8 → (⟨2, ![16384, 1024]⟩ : Shape).Idx → EReal := fun s =>
  match s with
  | ⟨0, _⟩ => S0
  | ⟨1, _⟩ => S1
  | ⟨2, _⟩ => S2
  | ⟨3, _⟩ => S3
  | ⟨4, _⟩ => S4
  | ⟨5, _⟩ => S5
  | ⟨6, _⟩ => S6
  | ⟨7, _⟩ => S7

/-- The segments side by side, times the weight: the sum over the columns is the sum over the segments. -/
theorem dot_at (S0 S1 S2 S3 S4 S5 S6 S7 : Vec Ideal S16384x1024 .bf16) (B : Vec Ideal S16384x128 .bf16) (W : Vec Ideal S1024x8320 .bf16) (n : Fin 16384) (j : Fin 1024) :
    (Host.dotGeneral (F := Ideal) dot_S16384x8320_S1024x8320_S16384x1024_1_1_0_0_n_n none (extf .f32 (concatenate S16384x8320 1 [⟨S16384x1024, S0⟩, ⟨S16384x1024, S1⟩, ⟨S16384x1024, S2⟩, ⟨S16384x1024, S3⟩, ⟨S16384x1024, S4⟩, ⟨S16384x1024, S5⟩, ⟨S16384x1024, S6⟩, ⟨S16384x1024, S7⟩, ⟨S16384x128, B⟩] concatenates_S16384x1024_S16384x1024_S16384x1024_S16384x1024_S16384x1024_S16384x1024_S16384x1024_S16384x1024_S16384x128_S16384x8320_d1) bitsLt_bf16_f32) (extf .f32 W bitsLt_bf16_f32) : (⟨2, ![16384, 1024]⟩ : Shape).Idx → EReal) (ix2 n j)
      = dp (fam S0 S1 S2 S3 S4 S5 S6 S7) B W n j := by
  rw [dp_eq, Fin.sum_univ_eight]
  unfold sg sb fam
  pointwise
  refine (cut _).trans ?_
  rw [Fin.sum_univ_eight]
  refine congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) (congrArg₂ (fun u v : EReal => u + v) ?_ ?_) ?_) ?_) ?_) ?_) ?_) ?_) ?_
  · refine Finset.sum_congr rfl fun k _ => ?_
    beta_reduce
    generalize hq : (⟨1024 * (0 : Fin 8).val + k.val, _⟩ : Fin 8320) = q
    have hv : q.val = 0 + k.val := by rw [← hq]; rfl
    rw [dif_pos (by omega)]
    exact congrArg₂ (fun u v : EReal => u * v) (congrArg (fun z => S0 (ix2 n z)) (Fin.ext (by show _ = k.val; dsimp only; omega))) (congrArg (fun z => W (ix2 j z)) (Fin.ext (by rw [hv]; exact Nat.zero_add _)))
  · refine Finset.sum_congr rfl fun k _ => ?_
    beta_reduce
    generalize hq : (⟨1024 * (1 : Fin 8).val + k.val, _⟩ : Fin 8320) = q
    have hv : q.val = 1024 + k.val := by rw [← hq]; rfl
    rw [dif_neg (by omega), dif_pos (by omega)]
    exact congrArg₂ (fun u v : EReal => u * v) (congrArg (fun z => S1 (ix2 n z)) (Fin.ext (by show _ = k.val; dsimp only; omega))) rfl
  · refine Finset.sum_congr rfl fun k _ => ?_
    beta_reduce
    generalize hq : (⟨1024 * (2 : Fin 8).val + k.val, _⟩ : Fin 8320) = q
    have hv : q.val = 2048 + k.val := by rw [← hq]; rfl
    rw [dif_neg (by omega), dif_neg (by omega), dif_pos (by omega)]
    exact congrArg₂ (fun u v : EReal => u * v) (congrArg (fun z => S2 (ix2 n z)) (Fin.ext (by show _ = k.val; dsimp only; omega))) rfl
  · refine Finset.sum_congr rfl fun k _ => ?_
    beta_reduce
    generalize hq : (⟨1024 * (3 : Fin 8).val + k.val, _⟩ : Fin 8320) = q
    have hv : q.val = 3072 + k.val := by rw [← hq]; rfl
    rw [dif_neg (by omega), dif_neg (by omega), dif_neg (by omega), dif_pos (by omega)]
    exact congrArg₂ (fun u v : EReal => u * v) (congrArg (fun z => S3 (ix2 n z)) (Fin.ext (by show _ = k.val; dsimp only; omega))) rfl
  · refine Finset.sum_congr rfl fun k _ => ?_
    beta_reduce
    generalize hq : (⟨1024 * (4 : Fin 8).val + k.val, _⟩ : Fin 8320) = q
    have hv : q.val = 4096 + k.val := by rw [← hq]; rfl
    rw [dif_neg (by omega), dif_neg (by omega), dif_neg (by omega), dif_neg (by omega), dif_pos (by omega)]
    exact congrArg₂ (fun u v : EReal => u * v) (congrArg (fun z => S4 (ix2 n z)) (Fin.ext (by show _ = k.val; dsimp only; omega))) rfl
  · refine Finset.sum_congr rfl fun k _ => ?_
    beta_reduce
    generalize hq : (⟨1024 * (5 : Fin 8).val + k.val, _⟩ : Fin 8320) = q
    have hv : q.val = 5120 + k.val := by rw [← hq]; rfl
    rw [dif_neg (by omega), dif_neg (by omega), dif_neg (by omega), dif_neg (by omega), dif_neg (by omega), dif_pos (by omega)]
    exact congrArg₂ (fun u v : EReal => u * v) (congrArg (fun z => S5 (ix2 n z)) (Fin.ext (by show _ = k.val; dsimp only; omega))) rfl
  · refine Finset.sum_congr rfl fun k _ => ?_
    beta_reduce
    generalize hq : (⟨1024 * (6 : Fin 8).val + k.val, _⟩ : Fin 8320) = q
    have hv : q.val = 6144 + k.val := by rw [← hq]; rfl
    rw [dif_neg (by omega), dif_neg (by omega), dif_neg (by omega), dif_neg (by omega), dif_neg (by omega), dif_neg (by omega), dif_pos (by omega)]
    exact congrArg₂ (fun u v : EReal => u * v) (congrArg (fun z => S6 (ix2 n z)) (Fin.ext (by show _ = k.val; dsimp only; omega))) rfl
  · refine Finset.sum_congr rfl fun k _ => ?_
    beta_reduce
    generalize hq : (⟨1024 * (7 : Fin 8).val + k.val, _⟩ : Fin 8320) = q
    have hv : q.val = 7168 + k.val := by rw [← hq]; rfl
    rw [dif_neg (by omega), dif_neg (by omega), dif_neg (by omega), dif_neg (by omega), dif_neg (by omega), dif_neg (by omega), dif_neg (by omega), dif_pos (by omega)]
    exact congrArg₂ (fun u v : EReal => u * v) (congrArg (fun z => S7 (ix2 n z)) (Fin.ext (by show _ = k.val; dsimp only; omega))) rfl
  · refine Finset.sum_congr rfl fun k _ => ?_
    beta_reduce
    generalize hq : (⟨8192 + k.val, _⟩ : Fin 8320) = q
    have hv : q.val = 8192 + k.val := by rw [← hq]
    rw [dif_neg (by omega), dif_neg (by omega), dif_neg (by omega), dif_neg (by omega), dif_neg (by omega), dif_neg (by omega), dif_neg (by omega), dif_neg (by omega)]
    exact congrArg₂ (fun u v : EReal => u * v) (congrArg (fun z => B (ix2 n z)) (Fin.ext (by show _ = k.val; dsimp only; omega))) rfl

variable (m : (ℓ : Loc nD τ sig) → Buf (Elt Ideal) ℓ) (c : Dev nD)

/-- The segments of the cotangent. -/
def aS : Fin 8 → (⟨2, ![16384, 1024]⟩ : Shape).Idx → EReal :=
  fam (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

abbrev aB : (⟨2, ![16384, 128]⟩ : Shape).Idx → EReal := m ((c.tc : Thread nD τ).loc main_arg8)
abbrev aW : (⟨2, ![1024, 8320]⟩ : Shape).Idx → EReal := m ((c.tc : Thread nD τ).loc main_arg9)
abbrev aX : (⟨2, ![16384, 1024]⟩ : Shape).Idx → EReal := m ((c.tc : Thread nD τ).loc main_arg10)
abbrev aR : (⟨2, ![16384, 1024]⟩ : Shape).Idx → EReal := m ((c.tc : Thread nD τ).loc main_arg11)
abbrev aV : (⟨2, ![8, 1024]⟩ : Shape).Idx → EReal := m ((c.tc : Thread nD τ).loc main_arg12)

theorem out_x : res_out0 m c = tX (aS m c) (aB m c) (aW m c) (aX m c) (aR m c) (aV m c) := by
  have hD := dot_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (aB m c) (aW m c)
  unfold res_out0 res_main_v64
  revert hD
  generalize Host.dotGeneral (F := Ideal) dot_S16384x8320_S1024x8320_S16384x1024_1_1_0_0_n_n none _ _ = D
  intro hD
  change ∀ n j, D (ix2 n j) = dp (aS m c) (aB m c) (aW m c) n j at hD
  funext j
  idx_vars j
  pointwise
  simp only [Finset.univ_unique, Finset.sum_singleton]
  show _ = aR m c (ix2 j0 j1) + gx (rw' (aX m c) j0) (vw (aV m c)) (vs (aV m c)) (dp (aS m c) (aB m c) (aW m c) j0) j1
  simp only [hD, gx, qx, rs, ms, rw', vw, vs]

theorem out_v : res_out1 m c = tV (aS m c) (aB m c) (aW m c) (aX m c) (aV m c) := by
  have hD := dot_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (aB m c) (aW m c)
  unfold res_out1 res_main_v69
  revert hD
  generalize Host.dotGeneral (F := Ideal) dot_S16384x8320_S1024x8320_S16384x1024_1_1_0_0_n_n none _ _ = D
  intro hD
  change ∀ n j, D (ix2 n j) = dp (aS m c) (aB m c) (aW m c) n j at hD
  funext j
  idx_vars j
  pointwise
  simp only [Finset.univ_unique, Finset.sum_singleton]
  show _ = ∑ n, tm (aS m c) (aB m c) (aW m c) (aX m c) (aV m c) j0.val j1 n
  simp only [hD]
  rcases (by omega : j0.val = 0 ∨ j0.val = 1 ∨ j0.val = 2 ∨ 3 ≤ j0.val) with h | h | h | h
  · rw [dif_pos (by omega)]
    refine Finset.sum_congr rfl fun n _ => ?_
    rw [tm, if_pos h]
    simp only [gw, rs, ms, rw', vs]
  · rw [dif_neg (by omega), dif_pos (by omega)]
    refine Finset.sum_congr rfl fun n _ => ?_
    rw [tm, if_neg (by omega), if_pos h]
  · rw [dif_neg (by omega), dif_neg (by omega), dif_pos (by omega)]
    refine Finset.sum_congr rfl fun n _ => ?_
    rw [tm, if_neg (by omega), if_neg (by omega), if_pos h]
    simp only [gs, rs, ms, rw', vw]
  · rw [dif_neg (by omega), dif_neg (by omega), dif_neg (by omega)]
    refine (Finset.sum_eq_zero fun n _ => ?_).symm
    rw [tm, if_neg (by omega), if_neg (by omega), if_neg (by omega)]

end Cert.ProjInRefIdeal.Val

end
-- ==== Proof.DwInSpec.lean ====
/- The gradient of the weight of the projection: its columns in eight segments, each the sum over the tokens of the
   products with one segment of the cotangent. -/
module

public import Idealize.ShloMosaic.Lib.Pipeline.ValueKit
public import Idealize.ShloMosaic.PureOps

@[expose] public section

noncomputable section

namespace Cert.DwInSpec

open Idealize.ShloMosaic

/-- Eight segments, as a family. -/
def fam {n : ℕ} (p0 p1 p2 p3 p4 p5 p6 p7 : (⟨2, ![n, 1024]⟩ : Shape).Idx → EReal) : Fin 8 → (⟨2, ![n, 1024]⟩ : Shape).Idx → EReal := fun s =>
  match s with
  | ⟨0, _⟩ => p0
  | ⟨1, _⟩ => p1
  | ⟨2, _⟩ => p2
  | ⟨3, _⟩ => p3
  | ⟨4, _⟩ => p4
  | ⟨5, _⟩ => p5
  | ⟨6, _⟩ => p6
  | ⟨7, _⟩ => p7

/-- Column `e` of segment `s`: the sum over the context tokens and the sum over the latent tokens. -/
def col (X : (⟨2, ![16384, 1024]⟩ : Shape).Idx → EReal) (C : (⟨2, ![256, 1024]⟩ : Shape).Idx → EReal)
    (P : Fin 8 → (⟨2, ![16384, 1024]⟩ : Shape).Idx → EReal) (Q : Fin 8 → (⟨2, ![256, 1024]⟩ : Shape).Idx → EReal)
    (s : Fin 8) (a e : Fin 1024) : EReal :=
  ∑ k : Fin 256, C (ix2 k a) * Q s (ix2 k e) + ∑ k : Fin 16384, X (ix2 k a) * P s (ix2 k e)

/-- The gradient of the weight. -/
def tW (X : (⟨2, ![16384, 1024]⟩ : Shape).Idx → EReal) (C : (⟨2, ![256, 1024]⟩ : Shape).Idx → EReal)
    (P : Fin 8 → (⟨2, ![16384, 1024]⟩ : Shape).Idx → EReal) (Q : Fin 8 → (⟨2, ![256, 1024]⟩ : Shape).Idx → EReal) :
    (⟨2, ![1024, 8192]⟩ : Shape).Idx → EReal := fun i =>
  col X C P Q ⟨(i 1).val / 1024, Nat.div_lt_of_lt_mul (i 1).isLt⟩ (i 0) ⟨(i 1).val % 1024, Nat.mod_lt _ (by decide)⟩

end Cert.DwInSpec

end
-- ==== Proof.DwIn1.lean ====
/- The gradient of the weight of the projection, as the kernel computes it: for each of the eight segments of columns it adds,
   over the 32 blocks of 512 latent tokens, the products of the columns, beginning with the product over the 256
   context tokens. The array it leaves is the sum over all tokens, segment by segment. -/
module

public import proofs.«01_k».proof.Proof.DwInSpec
public import proofs.«01_k».proof.Proof.Sums
public import proofs.«01_k».proof.Proof.Gen.DwInIdeal.Value
public import Idealize.ShloMosaic.Lib.WritesUnit

@[expose] public section

set_option maxRecDepth 16384

noncomputable section

namespace Cert.DwInIdeal.Val

open Idealize.ShloMosaic Idealize.ShloMosaic.TcCoe
open Cert.DwInIdeal Cert.DwInIdeal.Gen Cert.DwInIdeal.Value Cert.DwInSpec Cert.Sums

theorem hz2 : (![0, 0] : Fin 2 → Nat) = fun _ => 0 := funext fun a => by fin_cases a <;> rfl

theorem pay1_at (x : Vec Ideal S256x1024 .bf16) (y : Vec Ideal S256x1024 .bf16) (a e : Fin 1024) :
    k0_pay1 (F := Ideal) x y (ix2 a e) = ∑ k : Fin 256, x (ix2 k a) * y (ix2 k e) := by
  pointwise [k0_pay1]

theorem pay2_at (z : Vec Ideal S1024x1024 .f32) (x y : Vec Ideal S512x1024 .bf16) (a e : Fin 1024) :
    k0_pay2 (F := Ideal) z x y (ix2 a e) = z (ix2 a e) + ∑ k : Fin 512, x (ix2 k a) * y (ix2 k e) := by
  pointwise [k0_pay2]

variable (m : (ℓ : Loc nD τ sig) → Buf (Elt Ideal) ℓ) (c : Dev nD)

/-- The input of the latent tokens and of the context tokens, and the segments of the two cotangents. -/
abbrev hx : (⟨2, ![16384, 1024]⟩ : Shape).Idx → EReal := m ((c.tc : Thread nD τ).loc main_arg0)
abbrev hc : (⟨2, ![256, 1024]⟩ : Shape).Idx → EReal := m ((c.tc : Thread nD τ).loc main_arg1)
def dx : Fin 8 → (⟨2, ![16384, 1024]⟩ : Shape).Idx → EReal :=
  fam (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
def dc : Fin 8 → (⟨2, ![256, 1024]⟩ : Shape).Idx → EReal :=
  fam (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

/-- The block that a grid point reads of a segment. -/
def bx (s : Fin 8) (t : Fin cfg0.N) : Vec Ideal S512x1024 .bf16 :=
  match s with
  | ⟨0, _⟩ => iblk m c 2 t
  | ⟨1, _⟩ => iblk m c 3 t
  | ⟨2, _⟩ => iblk m c 4 t
  | ⟨3, _⟩ => iblk m c 5 t
  | ⟨4, _⟩ => iblk m c 6 t
  | ⟨5, _⟩ => iblk m c 7 t
  | ⟨6, _⟩ => iblk m c 8 t
  | ⟨7, _⟩ => iblk m c 9 t

def bc (s : Fin 8) (t : Fin cfg0.N) : Vec Ideal S256x1024 .bf16 :=
  match s with
  | ⟨0, _⟩ => iblk m c 10 t
  | ⟨1, _⟩ => iblk m c 11 t
  | ⟨2, _⟩ => iblk m c 12 t
  | ⟨3, _⟩ => iblk m c 13 t
  | ⟨4, _⟩ => iblk m c 14 t
  | ⟨5, _⟩ => iblk m c 15 t
  | ⟨6, _⟩ => iblk m c 16 t
  | ⟨7, _⟩ => iblk m c 17 t

/-! ## One grid point -/

/-- The first point of a segment begins with the product over the context tokens. -/
theorem first (t : Fin cfg0.N) (s : Fin 8) (hs : t.val / 32 = s.val) (h : t.val % 32 = 0) :
    outsAt0 m c t.val t.isLt = k0_pay2 (F := Ideal) (k0_pay1 (iblk m c 1 t) (bc m c s t)) (iblk m c 0 t) (bx m c s t) := by
  match s, hs with
  | ⟨0, _⟩, hs =>
    dsimp only at hs
    rw [outsAt0_A m c t (by omega) (by omega) (by omega) (by omega) (by omega) (by omega) (by omega) (by omega) (by omega)]
    unfold out0_A_18
    rw [View.read_writes_eq_canon]
    swap
    · exact fun _ => cover0_A_18 ..
    unfold kernelRun0_A
    dsimp only
    try sl_unfold_words
    rw [View.canon_cons_unit_zero (S := S1024x1024) hz2, View.readCov_unit_zero (S := S1024x1024) _ hz2]
    simp only [View.readAt_eq_ld, (hs0_0 t).read_unread, (hs0_2 t).read_unread, (hs0_1 t).read_unread, (hs0_10 t).read_unread, View.ld_unit_zero (S := S512x1024) hz2, View.ld_unit_zero (S := S256x1024) hz2]
    all_goals rfl
  | ⟨1, _⟩, hs =>
    dsimp only at hs
    rw [outsAt0_C m c t (by omega) (by omega) (by omega) (by omega) (by omega) (by omega) (by omega) (by omega) (by omega)]
    unfold out0_C_18
    rw [View.read_writes_eq_canon]
    swap
    · exact fun _ => cover0_C_18 ..
    unfold kernelRun0_C
    dsimp only
    try sl_unfold_words
    rw [View.canon_cons_unit_zero (S := S1024x1024) hz2, View.readCov_unit_zero (S := S1024x1024) _ hz2]
    simp only [View.readAt_eq_ld, (hs0_0 t).read_unread, (hs0_3 t).read_unread, (hs0_1 t).read_unread, (hs0_11 t).read_unread, View.ld_unit_zero (S := S512x1024) hz2, View.ld_unit_zero (S := S256x1024) hz2]
    all_goals rfl
  | ⟨2, _⟩, hs =>
    dsimp only at hs
    rw [outsAt0_E m c t (by omega) (by omega) (by omega) (by omega) (by omega) (by omega) (by omega) (by omega) (by omega)]
    unfold out0_E_18
    rw [View.read_writes_eq_canon]
    swap
    · exact fun _ => cover0_E_18 ..
    unfold kernelRun0_E
    dsimp only
    try sl_unfold_words
    rw [View.canon_cons_unit_zero (S := S1024x1024) hz2, View.readCov_unit_zero (S := S1024x1024) _ hz2]
    simp only [View.readAt_eq_ld, (hs0_0 t).read_unread, (hs0_4 t).read_unread, (hs0_1 t).read_unread, (hs0_12 t).read_unread, View.ld_unit_zero (S := S512x1024) hz2, View.ld_unit_zero (S := S256x1024) hz2]
    all_goals rfl
  | ⟨3, _⟩, hs =>
    dsimp only at hs
    rw [outsAt0_G m c t (by omega) (by omega) (by omega) (by omega) (by omega) (by omega) (by omega) (by omega) (by omega)]
    unfold out0_G_18
    rw [View.read_writes_eq_canon]
    swap
    · exact fun _ => cover0_G_18 ..
    unfold kernelRun0_G
    dsimp only
    try sl_unfold_words
    rw [View.canon_cons_unit_zero (S := S1024x1024) hz2, View.readCov_unit_zero (S := S1024x1024) _ hz2]
    simp only [View.readAt_eq_ld, (hs0_0 t).read_unread, (hs0_5 t).read_unread, (hs0_1 t).read_unread, (hs0_13 t).read_unread, View.ld_unit_zero (S := S512x1024) hz2, View.ld_unit_zero (S := S256x1024) hz2]
    all_goals rfl
  | ⟨4, _⟩, hs =>
    dsimp only at hs
    rw [outsAt0_I m c t (by omega) (by omega) (by omega) (by omega) (by omega) (by omega) (by omega) (by omega) (by omega)]
    unfold out0_I_18
    rw [View.read_writes_eq_canon]
    swap
    · exact fun _ => cover0_I_18 ..
    unfold kernelRun0_I
    dsimp only
    try sl_unfold_words
    rw [View.canon_cons_unit_zero (S := S1024x1024) hz2, View.readCov_unit_zero (S := S1024x1024) _ hz2]
    simp only [View.readAt_eq_ld, (hs0_0 t).read_unread, (hs0_6 t).read_unread, (hs0_1 t).read_unread, (hs0_14 t).read_unread, View.ld_unit_zero (S := S512x1024) hz2, View.ld_unit_zero (S := S256x1024) hz2]
    all_goals rfl
  | ⟨5, _⟩, hs =>
    dsimp only at hs
    rw [outsAt0_K m c t (by omega) (by omega) (by omega) (by omega) (by omega) (by omega) (by omega) (by omega) (by omega)]
    unfold out0_K_18
    rw [View.read_writes_eq_canon]
    swap
    · exact fun _ => cover0_K_18 ..
    unfold kernelRun0_K
    dsimp only
    try sl_unfold_words
    rw [View.canon_cons_unit_zero (S := S1024x1024) hz2, View.readCov_unit_zero (S := S1024x1024) _ hz2]
    simp only [View.readAt_eq_ld, (hs0_0 t).read_unread, (hs0_7 t).read_unread, (hs0_1 t).read_unread, (hs0_15 t).read_unread, View.ld_unit_zero (S := S512x1024) hz2, View.ld_unit_zero (S := S256x1024) hz2]
    all_goals rfl
  | ⟨6, _⟩, hs =>
    dsimp only at hs
    rw [outsAt0_M m c t (by omega) (by omega) (by omega) (by omega) (by omega) (by omega) (by omega) (by omega) (by omega)]
    unfold out0_M_18
    rw [View.read_writes_eq_canon]
    swap
    · exact fun _ => cover0_M_18 ..
    unfold kernelRun0_M
    dsimp only
    try sl_unfold_words
    rw [View.canon_cons_unit_zero (S := S1024x1024) hz2, View.readCov_unit_zero (S := S1024x1024) _ hz2]
    simp only [View.readAt_eq_ld, (hs0_0 t).read_unread, (hs0_8 t).read_unread, (hs0_1 t).read_unread, (hs0_16 t).read_unread, View.ld_unit_zero (S := S512x1024) hz2, View.ld_unit_zero (S := S256x1024) hz2]
    all_goals rfl
  | ⟨7, _⟩, hs =>
    dsimp only at hs
    rw [outsAt0_O m c t (by omega) (by omega) (by omega) (by omega) (by omega) (by omega) (by omega) (by omega) (by omega)]
    unfold out0_O_18
    rw [View.read_writes_eq_canon]
    swap
    · exact fun _ => cover0_O_18 ..
    unfold kernelRun0_O
    dsimp only
    try sl_unfold_words
    rw [View.canon_cons_unit_zero (S := S1024x1024) hz2, View.readCov_unit_zero (S := S1024x1024) _ hz2]
    simp only [View.readAt_eq_ld, (hs0_0 t).read_unread, (hs0_9 t).read_unread, (hs0_1 t).read_unread, (hs0_17 t).read_unread, View.ld_unit_zero (S := S512x1024) hz2, View.ld_unit_zero (S := S256x1024) hz2]
    all_goals rfl

/-- The point before. -/
abbrev pre (t : Fin cfg0.N) : Fin cfg0.N := ⟨t.val - 1, Nat.lt_of_le_of_lt (Nat.sub_le _ _) t.isLt⟩

/-- Every further point adds the product over its block of latent tokens. -/
theorem next (t : Fin cfg0.N) (s : Fin 8) (hs : t.val / 32 = s.val) (h : ¬ t.val % 32 = 0) :
    outsAt0 m c t.val t.isLt = k0_pay2 (F := Ideal) (outsAt0 m c (pre t).val (pre t).isLt) (iblk m c 0 t) (bx m c s t) := by
  match s, hs with
  | ⟨0, _⟩, hs =>
    dsimp only at hs
    rw [outsAt0_B m c t (by omega) (by omega) (by omega) (by omega) (by omega) (by omega) (by omega) (by omega) (by omega)]
    unfold out0_B_18
    rw [View.read_writes_eq_canon]
    swap
    · exact fun _ => cover0_B_18 ..
    unfold kernelRun0_B
    dsimp only
    try sl_unfold_words
    rw [View.canon_unit_zero hz2]
    simp only [View.readAt_eq_ld, (hs0_0 t).read_unread, (hs0_2 t).read_unread, (hs0_18 t).read_unread, View.ld_unit_zero (S := S512x1024) hz2, View.ld_unit_zero (S := S1024x1024) hz2]
    all_goals rfl
  | ⟨1, _⟩, hs =>
    dsimp only at hs
    rw [outsAt0_D m c t (by omega) (by omega) (by omega) (by omega) (by omega) (by omega) (by omega) (by omega) (by omega)]
    unfold out0_D_18
    rw [View.read_writes_eq_canon]
    swap
    · exact fun _ => cover0_D_18 ..
    unfold kernelRun0_D
    dsimp only
    try sl_unfold_words
    rw [View.canon_unit_zero hz2]
    simp only [View.readAt_eq_ld, (hs0_0 t).read_unread, (hs0_3 t).read_unread, (hs0_18 t).read_unread, View.ld_unit_zero (S := S512x1024) hz2, View.ld_unit_zero (S := S1024x1024) hz2]
    all_goals rfl
  | ⟨2, _⟩, hs =>
    dsimp only at hs
    rw [outsAt0_F m c t (by omega) (by omega) (by omega) (by omega) (by omega) (by omega) (by omega) (by omega) (by omega)]
    unfold out0_F_18
    rw [View.read_writes_eq_canon]
    swap
    · exact fun _ => cover0_F_18 ..
    unfold kernelRun0_F
    dsimp only
    try sl_unfold_words
    rw [View.canon_unit_zero hz2]
    simp only [View.readAt_eq_ld, (hs0_0 t).read_unread, (hs0_4 t).read_unread, (hs0_18 t).read_unread, View.ld_unit_zero (S := S512x1024) hz2, View.ld_unit_zero (S := S1024x1024) hz2]
    all_goals rfl
  | ⟨3, _⟩, hs =>
    dsimp only at hs
    rw [outsAt0_H m c t (by omega) (by omega) (by omega) (by omega) (by omega) (by omega) (by omega) (by omega) (by omega)]
    unfold out0_H_18
    rw [View.read_writes_eq_canon]
    swap
    · exact fun _ => cover0_H_18 ..
    unfold kernelRun0_H
    dsimp only
    try sl_unfold_words
    rw [View.canon_unit_zero hz2]
    simp only [View.readAt_eq_ld, (hs0_0 t).read_unread, (hs0_5 t).read_unread, (hs0_18 t).read_unread, View.ld_unit_zero (S := S512x1024) hz2, View.ld_unit_zero (S := S1024x1024) hz2]
    all_goals rfl
  | ⟨4, _⟩, hs =>
    dsimp only at hs
    rw [outsAt0_J m c t (by omega) (by omega) (by omega) (by omega) (by omega) (by omega) (by omega) (by omega) (by omega)]
    unfold out0_J_18
    rw [View.read_writes_eq_canon]
    swap
    · exact fun _ => cover0_J_18 ..
    unfold kernelRun0_J
    dsimp only
    try sl_unfold_words
    rw [View.canon_unit_zero hz2]
    simp only [View.readAt_eq_ld, (hs0_0 t).read_unread, (hs0_6 t).read_unread, (hs0_18 t).read_unread, View.ld_unit_zero (S := S512x1024) hz2, View.ld_unit_zero (S := S1024x1024) hz2]
    all_goals rfl
  | ⟨5, _⟩, hs =>
    dsimp only at hs
    rw [outsAt0_L m c t (by omega) (by omega) (by omega) (by omega) (by omega) (by omega) (by omega) (by omega) (by omega)]
    unfold out0_L_18
    rw [View.read_writes_eq_canon]
    swap
    · exact fun _ => cover0_L_18 ..
    unfold kernelRun0_L
    dsimp only
    try sl_unfold_words
    rw [View.canon_unit_zero hz2]
    simp only [View.readAt_eq_ld, (hs0_0 t).read_unread, (hs0_7 t).read_unread, (hs0_18 t).read_unread, View.ld_unit_zero (S := S512x1024) hz2, View.ld_unit_zero (S := S1024x1024) hz2]
    all_goals rfl
  | ⟨6, _⟩, hs =>
    dsimp only at hs
    rw [outsAt0_N m c t (by omega) (by omega) (by omega) (by omega) (by omega) (by omega) (by omega) (by omega) (by omega)]
    unfold out0_N_18
    rw [View.read_writes_eq_canon]
    swap
    · exact fun _ => cover0_N_18 ..
    unfold kernelRun0_N
    dsimp only
    try sl_unfold_words
    rw [View.canon_unit_zero hz2]
    simp only [View.readAt_eq_ld, (hs0_0 t).read_unread, (hs0_8 t).read_unread, (hs0_18 t).read_unread, View.ld_unit_zero (S := S512x1024) hz2, View.ld_unit_zero (S := S1024x1024) hz2]
    all_goals rfl
  | ⟨7, _⟩, hs =>
    dsimp only at hs
    rw [outsAt0_P m c t (by omega) (by omega) (by omega) (by omega) (by omega) (by omega) (by omega) (by omega) (by omega)]
    unfold out0_P_18
    rw [View.read_writes_eq_canon]
    swap
    · exact fun _ => cover0_P_18 ..
    unfold kernelRun0_P
    dsimp only
    try sl_unfold_words
    rw [View.canon_unit_zero hz2]
    simp only [View.readAt_eq_ld, (hs0_0 t).read_unread, (hs0_9 t).read_unread, (hs0_18 t).read_unread, View.ld_unit_zero (S := S512x1024) hz2, View.ld_unit_zero (S := S1024x1024) hz2]
    all_goals rfl

/-! ## The blocks -/

theorem idx : ∀ t : Fin cfg0.N, win0_0.index t = ![t.val % 32, 0] ∧ win0_1.index t = ![0, 0]
    ∧ win0_18.index t = ![0, t.val / 32] ∧ (win0_18.flush t = true ↔ t.val % 32 = 31) :=
  (by decide +kernel : ∀ t : Fin grid0.N, _)

theorem idx_x : ∀ t : Fin cfg0.N, (t.val / 32 = 0 → win0_2.index t = ![t.val % 32, 0])
    ∧ (t.val / 32 = 1 → win0_3.index t = ![t.val % 32, 0])
    ∧ (t.val / 32 = 2 → win0_4.index t = ![t.val % 32, 0])
    ∧ (t.val / 32 = 3 → win0_5.index t = ![t.val % 32, 0])
    ∧ (t.val / 32 = 4 → win0_6.index t = ![t.val % 32, 0])
    ∧ (t.val / 32 = 5 → win0_7.index t = ![t.val % 32, 0])
    ∧ (t.val / 32 = 6 → win0_8.index t = ![t.val % 32, 0])
    ∧ (t.val / 32 = 7 → win0_9.index t = ![t.val % 32, 0]) :=
  (by decide +kernel : ∀ t : Fin grid0.N, _)

theorem idx_c : ∀ t : Fin cfg0.N, win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

theorem ib_0 (t : Fin cfg0.N) (k : Fin 512) (a : Fin 1024) :
    (iblk m c 0 t : Vec Ideal S512x1024 .bf16) (ix2 k a) = hx m c (ix2 ⟨512 * (t.val % 32) + k.val, by omega⟩ a) := by
  blk_ext [iblk, idx t]

theorem ib_1 (t : Fin cfg0.N) (k : Fin 256) (a : Fin 1024) :
    (iblk m c 1 t : Vec Ideal S256x1024 .bf16) (ix2 k a) = hc m c (ix2 k a) := by
  blk_ext [iblk, idx t]

theorem bx_at (t : Fin cfg0.N) (s : Fin 8) (hs : t.val / 32 = s.val) (k : Fin 512) (e : Fin 1024) :
    bx m c s t (ix2 k e) = dx m c s (ix2 ⟨512 * (t.val % 32) + k.val, by omega⟩ e) := by
  obtain ⟨i0, i1, i2, i3, i4, i5, i6, i7⟩ := idx_x t
  unfold bx dx fam
  match s, hs with
  | ⟨0, _⟩, hs =>
    have i' := i0 hs
    dsimp only
    blk_ext [iblk, i']
  | ⟨1, _⟩, hs =>
    have i' := i1 hs
    dsimp only
    blk_ext [iblk, i']
  | ⟨2, _⟩, hs =>
    have i' := i2 hs
    dsimp only
    blk_ext [iblk, i']
  | ⟨3, _⟩, hs =>
    have i' := i3 hs
    dsimp only
    blk_ext [iblk, i']
  | ⟨4, _⟩, hs =>
    have i' := i4 hs
    dsimp only
    blk_ext [iblk, i']
  | ⟨5, _⟩, hs =>
    have i' := i5 hs
    dsimp only
    blk_ext [iblk, i']
  | ⟨6, _⟩, hs =>
    have i' := i6 hs
    dsimp only
    blk_ext [iblk, i']
  | ⟨7, _⟩, hs =>
    have i' := i7 hs
    dsimp only
    blk_ext [iblk, i']

theorem bc_at (t : Fin cfg0.N) (s : Fin 8) (k : Fin 256) (e : Fin 1024) : bc m c s t (ix2 k e) = dc m c s (ix2 k e) := by
  unfold bc dc fam
  match s with
  | ⟨0, _⟩ =>
    dsimp only
    blk_ext [iblk, idx_c t]
  | ⟨1, _⟩ =>
    dsimp only
    blk_ext [iblk, idx_c t]
  | ⟨2, _⟩ =>
    dsimp only
    blk_ext [iblk, idx_c t]
  | ⟨3, _⟩ =>
    dsimp only
    blk_ext [iblk, idx_c t]
  | ⟨4, _⟩ =>
    dsimp only
    blk_ext [iblk, idx_c t]
  | ⟨5, _⟩ =>
    dsimp only
    blk_ext [iblk, idx_c t]
  | ⟨6, _⟩ =>
    dsimp only
    blk_ext [iblk, idx_c t]
  | ⟨7, _⟩ =>
    dsimp only
    blk_ext [iblk, idx_c t]

/-- The product of one latent token, zero beyond the last. -/
def tm (s : Fin 8) (a e : Fin 1024) : ℕ → EReal := ext 16384 fun n => hx m c (ix2 n a) * dx m c s (ix2 n e)

/-- What a point adds. -/
theorem add_at (t : Fin cfg0.N) (s : Fin 8) (hs : t.val / 32 = s.val) (z : Vec Ideal S1024x1024 .f32) (a e : Fin 1024) :
    k0_pay2 (F := Ideal) z (iblk m c 0 t) (bx m c s t) (ix2 a e)
      = z (ix2 a e) + ∑ k : Fin 512, tm m c s a e (512 * (t.val % 32) + k.val) := by
  refine (pay2_at z _ _ a e).trans (congrArg (fun v : EReal => z (ix2 a e) + v) (Finset.sum_congr rfl fun k _ => ?_))
  have h : 512 * (t.val % 32) + k.val < 16384 := by omega
  exact (congrArg₂ (fun u v : EReal => u * v) (ib_0 m c t k a) (bx_at m c t s hs k e)).trans
    (ext_of_lt (fun n => hx m c (ix2 n a) * dx m c s (ix2 n e)) h).symm

/-- What the buffer holds after point `n`: the sum over the context tokens and over the blocks so far. -/
theorem acc_at (a e : Fin 1024) : ∀ (n : ℕ) (h : n < cfg0.N) (s : Fin 8) (hs : n / 32 = s.val),
    (outsAt0 m c n h : Vec Ideal S1024x1024 .f32) (ix2 a e) = ∑ k : Fin 256, hc m c (ix2 k a) * dc m c s (ix2 k e)
      + ∑ i ∈ Finset.range (n % 32 + 1), ∑ k : Fin 512, tm m c s a e (512 * i + k.val) := by
  have start (n : ℕ) (h : n < cfg0.N) (s : Fin 8) (hs : n / 32 = s.val) (h0 : n % 32 = 0) :
      (outsAt0 m c n h : Vec Ideal S1024x1024 .f32) (ix2 a e) = ∑ k : Fin 256, hc m c (ix2 k a) * dc m c s (ix2 k e)
        + ∑ i ∈ Finset.range (n % 32 + 1), ∑ k : Fin 512, tm m c s a e (512 * i + k.val) := by
    refine (congrFun (first m c ⟨n, h⟩ s hs h0) (ix2 a e)).trans ((add_at m c ⟨n, h⟩ s hs _ a e).trans ?_)
    dsimp only
    rw [h0, Finset.sum_range_one]
    refine congrArg (fun u : EReal => u + _) ((pay1_at _ _ a e).trans (Finset.sum_congr rfl fun k _ => ?_))
    exact congrArg₂ (fun u v : EReal => u * v) (ib_1 m c _ k a) (bc_at m c _ s k e)
  intro n
  induction n with
  | zero => exact fun h s hs => start 0 h s hs rfl
  | succ n ih =>
    intro h s hs
    by_cases h0 : (n + 1) % 32 = 0
    · exact start (n + 1) h s hs h0
    · refine (congrFun (next m c ⟨n + 1, h⟩ s hs h0) (ix2 a e)).trans ((add_at m c ⟨n + 1, h⟩ s hs _ a e).trans ?_)
      have h1 : (n + 1) % 32 = n % 32 + 1 := by omega
      dsimp only
      rw [h1, Finset.sum_range_succ _ (n % 32 + 1)]
      exact (congrArg (fun u : EReal => u + _) (ih (by omega) s (by omega))).trans (@add_assoc EReal _ _ _ _)

theorem last_at (t : Fin cfg0.N) (s : Fin 8) (hs : t.val / 32 = s.val) (ht : t.val % 32 = 31) (a e : Fin 1024) :
    (outsAt0 m c t.val t.isLt : Vec Ideal S1024x1024 .f32) (ix2 a e) = col (hx m c) (hc m c) (dx m c) (dc m c) s a e := by
  refine (acc_at m c a e t.val t.isLt s hs).trans ?_
  rw [ht, sum_blocks]
  exact congrArg (fun v : EReal => _ + v) (sum_ext 16384 _)

/-! ## The array after the run -/

/-- What a point writes back is its block of the gradient. -/
theorem flushed_eq (t : Fin cfg0.N) (hf : (cfg0.win 18).flush t = true) :
    (dats m 0 c).flushed 18 t = ((cfg0.win 18).blk t).view.read (Elt Ideal) (tW (hx m c) (hc m c) (dx m c) (dc m c)) := by
  rw [flushed18]
  obtain ⟨-, -, hi, hm⟩ := idx t
  have ht : t.val % 32 = 31 := hm.mp hf
  have hN : t.val < 256 := lt_of_lt_of_eq t.isLt N_0
  funext y
  have hy0 : (y 0).val < 1024 := (y 0).isLt
  have hy1 : (y 1).val < 1024 := (y 1).isLt
  have hb0 : (((cfg0.win 18).blk t).view.emb y 0).val = win0_18.index t (0 : Fin 2) * 1024 + 1 * (y 0).val := rfl
  have hb1 : (((cfg0.win 18).blk t).view.emb y 1).val = win0_18.index t (1 : Fin 2) * 1024 + 1 * (y 1).val := rfl
  have e0 : win0_18.index t (0 : Fin 2) = 0 := congrFun hi 0
  have e1 : win0_18.index t (1 : Fin 2) = t.val / 32 := congrFun hi 1
  rw [e0] at hb0
  rw [e1] at hb1
  have hx' : (cfg0.win 18).xinj (grid0.coords t) y = ix2 ⟨(y 0).val, hy0⟩ ⟨(y 1).val, hy1⟩ := by
    funext a
    match a with
    | ⟨0, _⟩ => rfl
    | ⟨1, _⟩ => rfl
  show (outsAt0 m c t.val t.isLt) ((cfg0.win 18).xinj (grid0.coords t) y) = tW (hx m c) (hc m c) (dx m c) (dc m c) (((cfg0.win 18).blk t).view.emb y)
  rw [hx']
  refine (last_at m c t ⟨t.val / 32, by omega⟩ rfl ht _ _).trans ?_
  generalize ((cfg0.win 18).blk t).view.emb y = i at hb0 hb1
  unfold tW
  have i0 : (⟨(y 0).val, hy0⟩ : Fin 1024) = i 0 := Fin.ext (by show (y 0).val = (i 0).val; omega)
  have i1 : (⟨t.val / 32, by omega⟩ : Fin 8) = ⟨(i 1).val / 1024, Nat.div_lt_of_lt_mul (i 1).isLt⟩ := Fin.ext (by show t.val / 32 = (i 1).val / 1024; omega)
  have i2 : (⟨(y 1).val, hy1⟩ : Fin 1024) = ⟨(i 1).val % 1024, Nat.mod_lt _ (by decide)⟩ := Fin.ext (by show (y 1).val = (i 1).val % 1024; omega)
  rw [i0, i1, i2]

theorem mem_blk (t : Fin cfg0.N) (i : S1024x8192.Idx) :
    i ∈ ((cfg0.win 18).blk t).view.set ↔ ∀ a : Fin 2, win0_18.index t a * S1024x1024.size a ≤ (i a).val ∧ (i a).val < win0_18.index t a * S1024x1024.size a + S1024x1024.size a := by
  show i ∈ ((View.whole main_v0).slice (win0_18.rect t)).set ↔ _
  rw [View.set_slice_whole, Rect.mem_set_unit]
  exact Iff.rfl

/-- Every entry lies in the block of the last point of its segment. -/
theorem covered (i : S1024x8192.Idx) : ∃ t : Fin cfg0.N, (cfg0.win 18).flush t = true ∧ i ∈ ((cfg0.win 18).blk t).view.set := by
  have h0 : (i 0).val < 1024 := (i 0).isLt
  have h1 : (i 1).val < 8192 := (i 1).isLt
  have hN : cfg0.N = 256 := N_0
  obtain ⟨t, ht⟩ : ∃ t : Fin cfg0.N, t.val = 32 * ((i 1).val / 1024) + 31 := ⟨⟨32 * ((i 1).val / 1024) + 31, by omega⟩, rfl⟩
  obtain ⟨-, -, hi, hm⟩ := idx t
  have e0 : win0_18.index t (0 : Fin 2) = 0 := congrFun hi 0
  have e1 : win0_18.index t (1 : Fin 2) = t.val / 32 := congrFun hi 1
  refine ⟨t, hm.mpr (by omega), ?_⟩
  rw [mem_blk]
  intro a
  match a with
  | ⟨0, _⟩ => show win0_18.index t (0 : Fin 2) * 1024 ≤ (i 0).val ∧ (i 0).val < win0_18.index t (0 : Fin 2) * 1024 + 1024; omega
  | ⟨1, _⟩ => show win0_18.index t (1 : Fin 2) * 1024 ≤ (i 1).val ∧ (i 1).val < win0_18.index t (1 : Fin 2) * 1024 + 1024; omega

/-- The gradient of the weight. -/
theorem final_eq : (dats m 0 c).arrAt 18 cfg0.N = tW (hx m c) (hc m c) (dx m c) (dc m c) :=
  (dats m 0 c).arrAt_eq_of_cover 18 _ (fun t hf => flushed_eq m c t hf) covered

end Cert.DwInIdeal.Val

end
-- ==== Proof.DwInRef.lean ====
/- The reference's gradient of the weight of the projection, entry by entry: the segments lie side by side in its
   cotangent, and each product is taken the other way round. -/
module

public import proofs.«01_k».proof.Proof.DwInSpec
public import proofs.«01_k».proof.Proof.Gen.DwInRefIdeal

@[expose] public section

set_option maxRecDepth 16384

noncomputable section

namespace Cert.DwInRefIdeal.Val

open Idealize.ShloMosaic Idealize.ShloMosaic.TcCoe
open Cert.DwInRefIdeal Cert.DwInRefIdeal.Gen Cert.DwInSpec

theorem out_eq (X : Vec Ideal S16384x1024 .bf16) (C : Vec Ideal S256x1024 .bf16)
    (p0 p1 p2 p3 p4 p5 p6 p7 : Vec Ideal S16384x1024 .bf16) (q0 q1 q2 q3 q4 q5 q6 q7 : Vec Ideal S256x1024 .bf16) :
    addf (F := Ideal) (transpose S1024x8192 [1, 0] (Host.dotGeneral dot_S256x8192_S256x1024_S8192x1024_0_0_1_1_n_n none (extf .f32 (concatenate S256x8192 1 [⟨S256x1024, q0⟩, ⟨S256x1024, q1⟩, ⟨S256x1024, q2⟩, ⟨S256x1024, q3⟩, ⟨S256x1024, q4⟩, ⟨S256x1024, q5⟩, ⟨S256x1024, q6⟩, ⟨S256x1024, q7⟩] concatenates_S256x1024_S256x1024_S256x1024_S256x1024_S256x1024_S256x1024_S256x1024_S256x1024_S256x8192_d1) bitsLt_bf16_f32) (extf .f32 C bitsLt_bf16_f32)) transposes_S8192x1024_S1024x8192_1_0)
      (transpose S1024x8192 [1, 0] (Host.dotGeneral dot_S16384x8192_S16384x1024_S8192x1024_0_0_1_1_n_n none (extf .f32 (concatenate S16384x8192 1 [⟨S16384x1024, p0⟩, ⟨S16384x1024, p1⟩, ⟨S16384x1024, p2⟩, ⟨S16384x1024, p3⟩, ⟨S16384x1024, p4⟩, ⟨S16384x1024, p5⟩, ⟨S16384x1024, p6⟩, ⟨S16384x1024, p7⟩] concatenates_S16384x1024_S16384x1024_S16384x1024_S16384x1024_S16384x1024_S16384x1024_S16384x1024_S16384x1024_S16384x8192_d1) bitsLt_bf16_f32) (extf .f32 X bitsLt_bf16_f32)) transposes_S8192x1024_S1024x8192_1_0)
      = tW X C (fam p0 p1 p2 p3 p4 p5 p6 p7) (fam q0 q1 q2 q3 q4 q5 q6 q7) := by
  funext j
  idx_vars j
  pointwise []
  have hj : j1.val < 8192 := j1.isLt
  obtain ⟨s, hs⟩ : ∃ s : Fin 8, j1.val / 1024 = s.val := ⟨⟨j1.val / 1024, by omega⟩, rfl⟩
  obtain ⟨e, he⟩ : ∃ e : Fin 1024, j1.val % 1024 = e.val := ⟨⟨j1.val % 1024, by omega⟩, rfl⟩
  refine Eq.trans ?_ (congrArg₂ (fun s e => col X C (fam p0 p1 p2 p3 p4 p5 p6 p7) (fam q0 q1 q2 q3 q4 q5 q6 q7) s j0 e) (Fin.ext hs.symm) (Fin.ext he.symm))
  show _ = col X C (fam p0 p1 p2 p3 p4 p5 p6 p7) (fam q0 q1 q2 q3 q4 q5 q6 q7) s j0 e
  unfold col
  match s, hs with
  | ⟨0, _⟩, hs =>
    dsimp only at hs
    refine congrArg₂ (fun u v : EReal => u + v) (Finset.sum_congr rfl fun k _ => ?_) (Finset.sum_congr rfl fun k _ => ?_)
    · rw [dif_pos (by omega)]
      exact (@mul_comm EReal _ _ _).trans (congrArg (fun z => C (ix2 k j0) * q0 (ix2 k z)) (Fin.ext (by dsimp only; omega)))
    · rw [dif_pos (by omega)]
      exact (@mul_comm EReal _ _ _).trans (congrArg (fun z => X (ix2 k j0) * p0 (ix2 k z)) (Fin.ext (by dsimp only; omega)))
  | ⟨1, _⟩, hs =>
    dsimp only at hs
    refine congrArg₂ (fun u v : EReal => u + v) (Finset.sum_congr rfl fun k _ => ?_) (Finset.sum_congr rfl fun k _ => ?_)
    · rw [dif_neg (by omega), dif_pos (by omega)]
      exact (@mul_comm EReal _ _ _).trans (congrArg (fun z => C (ix2 k j0) * q1 (ix2 k z)) (Fin.ext (by dsimp only; omega)))
    · rw [dif_neg (by omega), dif_pos (by omega)]
      exact (@mul_comm EReal _ _ _).trans (congrArg (fun z => X (ix2 k j0) * p1 (ix2 k z)) (Fin.ext (by dsimp only; omega)))
  | ⟨2, _⟩, hs =>
    dsimp only at hs
    refine congrArg₂ (fun u v : EReal => u + v) (Finset.sum_congr rfl fun k _ => ?_) (Finset.sum_congr rfl fun k _ => ?_)
    · rw [dif_neg (by omega), dif_neg (by omega), dif_pos (by omega)]
      exact (@mul_comm EReal _ _ _).trans (congrArg (fun z => C (ix2 k j0) * q2 (ix2 k z)) (Fin.ext (by dsimp only; omega)))
    · rw [dif_neg (by omega), dif_neg (by omega), dif_pos (by omega)]
      exact (@mul_comm EReal _ _ _).trans (congrArg (fun z => X (ix2 k j0) * p2 (ix2 k z)) (Fin.ext (by dsimp only; omega)))
  | ⟨3, _⟩, hs =>
    dsimp only at hs
    refine congrArg₂ (fun u v : EReal => u + v) (Finset.sum_congr rfl fun k _ => ?_) (Finset.sum_congr rfl fun k _ => ?_)
    · rw [dif_neg (by omega), dif_neg (by omega), dif_neg (by omega), dif_pos (by omega)]
      exact (@mul_comm EReal _ _ _).trans (congrArg (fun z => C (ix2 k j0) * q3 (ix2 k z)) (Fin.ext (by dsimp only; omega)))
    · rw [dif_neg (by omega), dif_neg (by omega), dif_neg (by omega), dif_pos (by omega)]
      exact (@mul_comm EReal _ _ _).trans (congrArg (fun z => X (ix2 k j0) * p3 (ix2 k z)) (Fin.ext (by dsimp only; omega)))
  | ⟨4, _⟩, hs =>
    dsimp only at hs
    refine congrArg₂ (fun u v : EReal => u + v) (Finset.sum_congr rfl fun k _ => ?_) (Finset.sum_congr rfl fun k _ => ?_)
    · rw [dif_neg (by omega), dif_neg (by omega), dif_neg (by omega), dif_neg (by omega), dif_pos (by omega)]
      exact (@mul_comm EReal _ _ _).trans (congrArg (fun z => C (ix2 k j0) * q4 (ix2 k z)) (Fin.ext (by dsimp only; omega)))
    · rw [dif_neg (by omega), dif_neg (by omega), dif_neg (by omega), dif_neg (by omega), dif_pos (by omega)]
      exact (@mul_comm EReal _ _ _).trans (congrArg (fun z => X (ix2 k j0) * p4 (ix2 k z)) (Fin.ext (by dsimp only; omega)))
  | ⟨5, _⟩, hs =>
    dsimp only at hs
    refine congrArg₂ (fun u v : EReal => u + v) (Finset.sum_congr rfl fun k _ => ?_) (Finset.sum_congr rfl fun k _ => ?_)
    · rw [dif_neg (by omega), dif_neg (by omega), dif_neg (by omega), dif_neg (by omega), dif_neg (by omega), dif_pos (by omega)]
      exact (@mul_comm EReal _ _ _).trans (congrArg (fun z => C (ix2 k j0) * q5 (ix2 k z)) (Fin.ext (by dsimp only; omega)))
    · rw [dif_neg (by omega), dif_neg (by omega), dif_neg (by omega), dif_neg (by omega), dif_neg (by omega), dif_pos (by omega)]
      exact (@mul_comm EReal _ _ _).trans (congrArg (fun z => X (ix2 k j0) * p5 (ix2 k z)) (Fin.ext (by dsimp only; omega)))
  | ⟨6, _⟩, hs =>
    dsimp only at hs
    refine congrArg₂ (fun u v : EReal => u + v) (Finset.sum_congr rfl fun k _ => ?_) (Finset.sum_congr rfl fun k _ => ?_)
    · rw [dif_neg (by omega), dif_neg (by omega), dif_neg (by omega), dif_neg (by omega), dif_neg (by omega), dif_neg (by omega), dif_pos (by omega)]
      exact (@mul_comm EReal _ _ _).trans (congrArg (fun z => C (ix2 k j0) * q6 (ix2 k z)) (Fin.ext (by dsimp only; omega)))
    · rw [dif_neg (by omega), dif_neg (by omega), dif_neg (by omega), dif_neg (by omega), dif_neg (by omega), dif_neg (by omega), dif_pos (by omega)]
      exact (@mul_comm EReal _ _ _).trans (congrArg (fun z => X (ix2 k j0) * p6 (ix2 k z)) (Fin.ext (by dsimp only; omega)))
  | ⟨7, _⟩, hs =>
    dsimp only at hs
    refine congrArg₂ (fun u v : EReal => u + v) (Finset.sum_congr rfl fun k _ => ?_) (Finset.sum_congr rfl fun k _ => ?_)
    · rw [dif_neg (by omega), dif_neg (by omega), dif_neg (by omega), dif_neg (by omega), dif_neg (by omega), dif_neg (by omega), dif_neg (by omega)]
      exact (@mul_comm EReal _ _ _).trans (congrArg (fun z => C (ix2 k j0) * q7 (ix2 k z)) (Fin.ext (by dsimp only; omega)))
    · rw [dif_neg (by omega), dif_neg (by omega), dif_neg (by omega), dif_neg (by omega), dif_neg (by omega), dif_neg (by omega), dif_neg (by omega)]
      exact (@mul_comm EReal _ _ _).trans (congrArg (fun z => X (ix2 k j0) * p7 (ix2 k z)) (Fin.ext (by dsimp only; omega)))

end Cert.DwInRefIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.DwGu
public import proofs.«01_k».proof.Proof.Gen.DwGu.Skeleton
public import proofs.«01_k».proof.Proof.Gen.DwGu.Launch
public import proofs.«01_k».proof.Proof.Gen.DwGu.Points
public import proofs.«01_k».proof.Proof.Gen.DwGu.Frame
public import proofs.«01_k».proof.Proof.Gen.DwGuIdeal
public import proofs.«01_k».proof.Proof.Gen.DwGuIdeal.Skeleton
public import proofs.«01_k».proof.Proof.Gen.DwGuIdeal.Launch
public import proofs.«01_k».proof.Proof.Gen.DwGuIdeal.Points
public import proofs.«01_k».proof.Proof.Gen.DwGuIdeal.Frame
public import proofs.«01_k».proof.Proof.Gen.DwGuIdeal.Value
public import proofs.«01_k».proof.Proof.Gen.DwGuRefIdeal
public import proofs.«01_k».proof.Proof.Gen.DwGuRefIdeal.Run
public import proofs.«01_k».proof.Proof.Gen.DwD
public import proofs.«01_k».proof.Proof.Gen.DwD.Skeleton
public import proofs.«01_k».proof.Proof.Gen.DwD.Launch
public import proofs.«01_k».proof.Proof.Gen.DwD.Points
public import proofs.«01_k».proof.Proof.Gen.DwD.Frame
public import proofs.«01_k».proof.Proof.Gen.DwDIdeal
public import proofs.«01_k».proof.Proof.Gen.DwDIdeal.Skeleton
public import proofs.«01_k».proof.Proof.Gen.DwDIdeal.Launch
public import proofs.«01_k».proof.Proof.Gen.DwDIdeal.Points
public import proofs.«01_k».proof.Proof.Gen.DwDIdeal.Frame
public import proofs.«01_k».proof.Proof.Gen.DwDIdeal.Value
public import proofs.«01_k».proof.Proof.Gen.DwDRefIdeal
public import proofs.«01_k».proof.Proof.Gen.DwDRefIdeal.Run
public import proofs.«01_k».proof.Proof.Gen.DwSq
public import proofs.«01_k».proof.Proof.Gen.DwSq.Skeleton
public import proofs.«01_k».proof.Proof.Gen.DwSq.Launch
public import proofs.«01_k».proof.Proof.Gen.DwSq.Points
public import proofs.«01_k».proof.Proof.Gen.DwSq.Frame
public import proofs.«01_k».proof.Proof.Gen.DwSqIdeal
public import proofs.«01_k».proof.Proof.Gen.DwSqIdeal.Skeleton
public import proofs.«01_k».proof.Proof.Gen.DwSqIdeal.Launch
public import proofs.«01_k».proof.Proof.Gen.DwSqIdeal.Points
public import proofs.«01_k».proof.Proof.Gen.DwSqIdeal.Frame
public import proofs.«01_k».proof.Proof.Gen.DwSqIdeal.Value
public import proofs.«01_k».proof.Proof.Gen.DwSqRefIdeal
public import proofs.«01_k».proof.Proof.Gen.DwSqRefIdeal.Run
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateIdeal.Value
public import proofs.«01_k».proof.Proof.Gen.DwGateRefIdeal
public import proofs.«01_k».proof.Proof.Gen.DwGateRefIdeal.Run
public import proofs.«01_k».proof.Proof.Bits.Whole
public import proofs.«01_k».proof.Proof.Whole
public import proofs.«01_k».proof.Proof.KerVal1
public import proofs.«01_k».proof.Proof.RefOut
public import proofs.«01_k».proof.Proof.FfnIn1
public import proofs.«01_k».proof.Proof.FfnInRef
public import proofs.«01_k».proof.Proof.Dw
public import proofs.«01_k».proof.Proof.DwSq
public import proofs.«01_k».proof.Proof.DwGate
public import proofs.«01_k».proof.Proof.ProjIn1
public import proofs.«01_k».proof.Proof.ProjInRef
public import proofs.«01_k».proof.Proof.DwIn1
public import proofs.«01_k».proof.Proof.DwInRef

@[expose] public section

set_option maxRecDepth 16384

noncomputable section

namespace Cert.Proof

open Idealize.ShloMosaic Idealize.SL.Sem

/-- Each rounded constant of the kernel is read as the exact real number that it stands for. -/
theorem preserves : Cert.preserves_Kernel_KernelIdeal :=
  ⟨IdealRules.named_const.statement Cert.KernelIdeal.κ "lg0" .f32 0xBD020AEC#32 _ rfl,
   IdealRules.named_const.statement Cert.KernelIdeal.κ "gam0" .f32 0x3C8CC36A#32 _ rfl,
   IdealRules.named_const.statement Cert.KernelIdeal.κ "lg1" .f32 0xBC8102B3#32 _ rfl,
   IdealRules.named_const.statement Cert.KernelIdeal.κ "gam1" .f32 0x3E08698E#32 _ rfl,
   IdealRules.named_const.statement Cert.KernelIdeal.κ "lg2" .f32 0xBC0080AC#32 _ rfl,
   IdealRules.named_const.statement Cert.KernelIdeal.κ "gam2" .f32 0x3EBB9DB9#32 _ rfl,
   IdealRules.named_const.statement Cert.KernelIdeal.κ "lg3" .f32 0xBB80402B#32 _ rfl,
   IdealRules.named_const.statement Cert.KernelIdeal.κ "gam3" .f32 0x3F1B1EB1#32 _ rfl⟩

/-- The reference ends with its arguments unchanged and every counter at zero. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

section value

open Cert.KernelIdeal Cert.KernelIdeal.Ret Cert.Spec

/-- Over the extended reals the two calls leave what the reference computes from the same arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => U2 m c (Proc.devRef .tc main_v0_0), fun c => U2 m c (Proc.devRef .tc main_v0_2),
    fun c => U2 m c (Proc.devRef .tc main_v1_0), fun c => U2 m c (Proc.devRef .tc main_v1_1),
    fun c => U2 m c (Proc.devRef .tc main_v1_2), ?_, ?_⟩
  · refine (θ_run _ _ _).mono (fun r h c => ⟨?_, ?_, ?_, ?_, ?_, ?_, ?_, ?_, ?_, ?_⟩) (run_all (F := Ideal) m g)
    all_goals refine (h.1 c _ (uc_mem _ (by decide))).trans ?_
    · rfl
    · rfl
    · rfl
    · rfl
    · rfl
    · exact U2_main_arg0 m c
    · exact U2_main_arg1 m c
    · exact U2_main_arg2 m c
    · exact U2_main_arg3 m c
    · exact U2_main_arg4 m c
  · refine (θ_run _ _ _).mono (fun r h c => ?_) (Cert.ReferenceIdeal.Value.run (F := Ideal) m' g')
    obtain ⟨ho, hf, hqk, hv, hs, hk⟩ := h c
    obtain ⟨e0, e1, e2, e3, e4⟩ := hargs c
    refine ⟨?_, ?_, ?_, ?_, ?_, hk⟩
    · refine (ho.trans (Cert.ReferenceIdeal.Ret.out_o _)).trans (Eq.trans ?_ (U2_o c m).symm)
      exact congr (congr (congrArg tO e0) e1) e2
    · refine (hf.trans (Cert.ReferenceIdeal.Ret.out_f _)).trans (Eq.trans ?_ (U2_f c m).symm)
      exact congr (congr (congrArg tF e0) e1) e2
    · refine (hqk.trans (Cert.ReferenceIdeal.Ret.out_qk _)).trans (Eq.trans ?_ (U2_qk c m).symm)
      exact congr (congr (congr (congr (congrArg tQK e0) e1) e2) e3) e4
    · refine (hv.trans (Cert.ReferenceIdeal.Ret.out_v _)).trans (Eq.trans ?_ (U2_v c m).symm)
      exact congr (congr (congrArg tV e0) e3) e4
    · refine (hs.trans (Cert.ReferenceIdeal.Ret.out_s _)).trans (Eq.trans ?_ (U2_s c m).symm)
      exact congr (congr (congrArg tS e0) e3) e4

end value

/-! ## The calls of the feed-forward block's backward pass -/

theorem frame_FfnInRef : Cert.quiescent_FfnInRefIdeal (hFfnInRefIdeal := Cert.FfnInRefIdeal.Gen.facts) := fun m g _ =>
  (θ_run Cert.FfnInRefIdeal.defs _ _).mono
    (fun r h => ⟨fun c => (h c).2.2, sem_eq_zero_of_no_sems (by decide) r.2⟩)
    (Cert.FfnInRefIdeal.Value.run (F := Ideal) m g)

theorem frame_DwGuRef : Cert.quiescent_DwGuRefIdeal (hDwGuRefIdeal := Cert.DwGuRefIdeal.Gen.facts) := fun m g _ =>
  (θ_run Cert.DwGuRefIdeal.defs _ _).mono
    (fun r h => ⟨fun c => (h c).2, sem_eq_zero_of_no_sems (by decide) r.2⟩)
    (Cert.DwGuRefIdeal.Value.run (F := Ideal) m g)

theorem frame_DwDRef : Cert.quiescent_DwDRefIdeal (hDwDRefIdeal := Cert.DwDRefIdeal.Gen.facts) := fun m g _ =>
  (θ_run Cert.DwDRefIdeal.defs _ _).mono
    (fun r h => ⟨fun c => (h c).2, sem_eq_zero_of_no_sems (by decide) r.2⟩)
    (Cert.DwDRefIdeal.Value.run (F := Ideal) m g)

/-- The gradients of the block's input, of the norm's weight, of the shift and of the scale. -/
theorem algebraic_ffnIn : Cert.algebraic_FfnInIdeal_FfnInRefIdeal (hFfnInIdeal := Cert.FfnInIdeal.Gen.facts)
    (hFfnInRefIdeal := Cert.FfnInRefIdeal.Gen.facts) := by
  intro m g m' g' _ hargs
  refine ⟨fun c => Cert.FfnInIdeal.Value.G7 m c, fun c => Cert.FfnInIdeal.Value.G8 m c, Cert.FfnInIdeal.Value.run (F := Ideal) m g, ?_⟩
  refine (θ_run _ _ _).mono (fun r h c => ?_) (Cert.FfnInRefIdeal.Value.run (F := Ideal) m' g')
  obtain ⟨hx, hv, hk⟩ := h c
  obtain ⟨e0, e1, e2, e3, e4, e5⟩ := hargs c
  refine ⟨?_, ?_, hk⟩
  · refine (hx.trans (Cert.FfnInRefIdeal.Val.out_x m' c)).trans (Eq.trans ?_ (Cert.FfnInIdeal.Val.G7_eq m c).symm)
    exact congr (congr (congr (congr (congr (congrArg Cert.Ffn.tX e0) e1) e2) e3) e4) e5
  · refine (hv.trans (Cert.FfnInRefIdeal.Val.out_v m' c)).trans (Eq.trans ?_ (Cert.FfnInIdeal.Val.G8_eq m c).symm)
    exact congr (congr (congr (congr (congrArg Cert.Ffn.tV e0) e1) e2) e3) e5

/-- The gradient of the weight of the gate and up products. -/
theorem algebraic_DwGu : Cert.algebraic_DwGuIdeal_DwGuRefIdeal (hDwGuIdeal := Cert.DwGuIdeal.Gen.facts)
    (hDwGuRefIdeal := Cert.DwGuRefIdeal.Gen.facts) := by
  intro m g m' g' _ hargs
  refine ⟨fun c => Cert.DwGuIdeal.Value.G4 m c, Cert.DwGuIdeal.Value.run (F := Ideal) m g, ?_⟩
  refine (θ_run _ _ _).mono (fun r h c => ?_) (Cert.DwGuRefIdeal.Value.run (F := Ideal) m' g')
  obtain ⟨hw, hk⟩ := h c
  obtain ⟨e0, e1, e2, e3⟩ := hargs c
  refine ⟨?_, hk⟩
  refine (hw.trans (Cert.DwGuRefIdeal.Val.out_eq _ _ _ _)).trans (Eq.trans ?_ (Cert.DwGuIdeal.Val.G4_eq m c).symm)
  exact congr (congr (congr (congrArg Cert.DwGuIdeal.Val.tW e0) e1) e2) e3

/-- The gradient of the weight of the down product. -/
theorem algebraic_DwD : Cert.algebraic_DwDIdeal_DwDRefIdeal (hDwDIdeal := Cert.DwDIdeal.Gen.facts)
    (hDwDRefIdeal := Cert.DwDRefIdeal.Gen.facts) := by
  intro m g m' g' _ hargs
  refine ⟨fun c => Cert.DwDIdeal.Value.G4 m c, Cert.DwDIdeal.Value.run (F := Ideal) m g, ?_⟩
  refine (θ_run _ _ _).mono (fun r h c => ?_) (Cert.DwDRefIdeal.Value.run (F := Ideal) m' g')
  obtain ⟨hw, hk⟩ := h c
  obtain ⟨e0, e1, e2, e3⟩ := hargs c
  refine ⟨?_, hk⟩
  refine (hw.trans (Cert.DwDRefIdeal.Val.out_eq _ _ _ _)).trans (Eq.trans ?_ (Cert.DwDIdeal.Val.G4_eq m c).symm)
  exact congr (congr (congr (congrArg Cert.DwDIdeal.Val.tW e0) e1) e2) e3

/-! ## The calls of the mixer's backward pass -/

theorem frame_DwSqRef : Cert.quiescent_DwSqRefIdeal (hDwSqRefIdeal := Cert.DwSqRefIdeal.Gen.facts) := fun m g _ =>
  (θ_run Cert.DwSqRefIdeal.defs _ _).mono
    (fun r h => ⟨fun c => (h c).2, sem_eq_zero_of_no_sems (by decide) r.2⟩)
    (Cert.DwSqRefIdeal.Value.run (F := Ideal) m g)

theorem frame_ProjInRef : Cert.quiescent_ProjInRefIdeal (hProjInRefIdeal := Cert.ProjInRefIdeal.Gen.facts) := fun m g _ =>
  (θ_run Cert.ProjInRefIdeal.defs _ _).mono
    (fun r h => ⟨fun c => (h c).2.2, sem_eq_zero_of_no_sems (by decide) r.2⟩)
    (Cert.ProjInRefIdeal.Value.run (F := Ideal) m g)

theorem frame_DwInRef : Cert.quiescent_DwInRefIdeal (hDwInRefIdeal := Cert.DwInRefIdeal.Gen.facts) := fun m g _ =>
  (θ_run Cert.DwInRefIdeal.defs _ _).mono
    (fun r h => ⟨fun c => (h c).2, sem_eq_zero_of_no_sems (by decide) r.2⟩)
    (Cert.DwInRefIdeal.Value.run (F := Ideal) m g)

theorem frame_DwGateRef : Cert.quiescent_DwGateRefIdeal (hDwGateRefIdeal := Cert.DwGateRefIdeal.Gen.facts) := fun m g _ =>
  (θ_run Cert.DwGateRefIdeal.defs _ _).mono
    (fun r h => ⟨fun c => (h c).2, sem_eq_zero_of_no_sems (by decide) r.2⟩)
    (Cert.DwGateRefIdeal.Value.run (F := Ideal) m g)

/-- The gradient of the weight of a square product of the mixer. -/
theorem algebraic_DwSq : Cert.algebraic_DwSqIdeal_DwSqRefIdeal (hDwSqIdeal := Cert.DwSqIdeal.Gen.facts)
    (hDwSqRefIdeal := Cert.DwSqRefIdeal.Gen.facts) := by
  intro m g m' g' _ hargs
  refine ⟨fun c => Cert.DwSqIdeal.Value.G4 m c, Cert.DwSqIdeal.Value.run (F := Ideal) m g, ?_⟩
  refine (θ_run _ _ _).mono (fun r h c => ?_) (Cert.DwSqRefIdeal.Value.run (F := Ideal) m' g')
  obtain ⟨hw, hk⟩ := h c
  obtain ⟨e0, e1, e2, e3⟩ := hargs c
  refine ⟨?_, hk⟩
  refine (hw.trans (Cert.DwSqRefIdeal.Val.out_eq _ _ _ _)).trans (Eq.trans ?_ (Cert.DwSqIdeal.Val.G4_eq m c).symm)
  exact congr (congr (congr (congrArg Cert.DwSqIdeal.Val.tW e0) e1) e2) e3

/-- The gradients of the mixer's input, of the norm's weight, of the shift and of the scale. -/
theorem algebraic_ProjIn : Cert.algebraic_ProjInIdeal_ProjInRefIdeal (hProjInIdeal := Cert.ProjInIdeal.Gen.facts)
    (hProjInRefIdeal := Cert.ProjInRefIdeal.Gen.facts) := by
  intro m g m' g' _ hargs
  refine ⟨fun c => Cert.ProjInIdeal.Value.G14 m c, fun c => Cert.ProjInIdeal.Value.G15 m c, Cert.ProjInIdeal.Value.run (F := Ideal) m g, ?_⟩
  refine (θ_run _ _ _).mono (fun r h c => ?_) (Cert.ProjInRefIdeal.Value.run (F := Ideal) m' g')
  obtain ⟨hx, hv, hk⟩ := h c
  obtain ⟨e0, e1, e2, e3, e4, e5, e6, e7, e8, e9, e10, e11, e12⟩ := hargs c
  have eS : Cert.ProjInRefIdeal.Val.aS m' c = Cert.ProjInIdeal.Val.aS m c := by
    funext s
    match s with
    | ⟨0, _⟩ => exact e0
    | ⟨1, _⟩ => exact e1
    | ⟨2, _⟩ => exact e2
    | ⟨3, _⟩ => exact e3
    | ⟨4, _⟩ => exact e4
    | ⟨5, _⟩ => exact e5
    | ⟨6, _⟩ => exact e6
    | ⟨7, _⟩ => exact e7
  refine ⟨?_, ?_, hk⟩
  · refine (hx.trans (Cert.ProjInRefIdeal.Val.out_x m' c)).trans (Eq.trans ?_ (Cert.ProjInIdeal.Val.G14_eq m c).symm)
    exact congr (congr (congr (congr (congr (congrArg Cert.Proj.tX eS) e8) e9) e10) e11) e12
  · refine (hv.trans (Cert.ProjInRefIdeal.Val.out_v m' c)).trans (Eq.trans ?_ (Cert.ProjInIdeal.Val.G15_eq m c).symm)
    exact congr (congr (congr (congr (congrArg Cert.Proj.tV eS) e8) e9) e10) e12

/-- The gradient of the weight of the projection. -/
theorem algebraic_DwIn : Cert.algebraic_DwInIdeal_DwInRefIdeal (hDwInIdeal := Cert.DwInIdeal.Gen.facts)
    (hDwInRefIdeal := Cert.DwInRefIdeal.Gen.facts) := by
  intro m g m' g' _ hargs
  refine ⟨fun c => (Cert.DwInIdeal.Gen.dats m 0 c).arrAt 18 Cert.DwInIdeal.cfg0.N, Cert.DwInIdeal.Value.run_blocks (F := Ideal) m g, ?_⟩
  refine (θ_run _ _ _).mono (fun r h c => ?_) (Cert.DwInRefIdeal.Value.run (F := Ideal) m' g')
  obtain ⟨hw, hk⟩ := h c
  obtain ⟨e0, e1, e2, e3, e4, e5, e6, e7, e8, e9, e10, e11, e12, e13, e14, e15, e16, e17⟩ := hargs c
  refine ⟨?_, hk⟩
  refine (hw.trans (Cert.DwInRefIdeal.Val.out_eq _ _ _ _ _ _ _ _ _ _ _ _ _ _ _ _ _ _ )).trans (Eq.trans ?_ (Cert.DwInIdeal.Val.final_eq m c).symm)
  exact congr (congr (congr (congrArg Cert.DwInSpec.tW e0) e1) (congr (congr (congr (congr (congr (congr (congr (congrArg Cert.DwInSpec.fam e2) e3) e4) e5) e6) e7) e8) e9)) (congr (congr (congr (congr (congr (congr (congr (congrArg Cert.DwInSpec.fam e10) e11) e12) e13) e14) e15) e16) e17)

/-- The gradient of the columns of the decays. -/
theorem algebraic_DwGate : Cert.algebraic_DwGateIdeal_DwGateRefIdeal (hDwGateIdeal := Cert.DwGateIdeal.Gen.facts)
    (hDwGateRefIdeal := Cert.DwGateRefIdeal.Gen.facts) := by
  intro m g m' g' _ hargs
  refine ⟨fun c => Cert.DwGateIdeal.Value.G4 m c, Cert.DwGateIdeal.Value.run (F := Ideal) m g, ?_⟩
  refine (θ_run _ _ _).mono (fun r h c => ?_) (Cert.DwGateRefIdeal.Value.run (F := Ideal) m' g')
  obtain ⟨hw, hk⟩ := h c
  obtain ⟨e0, e1, e2, e3⟩ := hargs c
  refine ⟨?_, hk⟩
  refine (hw.trans (Cert.DwGateRefIdeal.Val.out_eq _ _ _ _)).trans (Eq.trans ?_ (Cert.DwGateIdeal.Val.G4_eq m c).symm)
  exact congr (congr (congr (congrArg Cert.DwGateIdeal.Val.tW e0) e1) e2) e3

theorem claim : Cert.Claim :=
  ⟨Cert.Kernel.Gen.facts, Cert.KernelIdeal.Gen.facts, Cert.ReferenceIdeal.Gen.facts,
    Cert.FfnIn.Gen.facts, Cert.FfnInIdeal.Gen.facts, Cert.FfnInRefIdeal.Gen.facts,
    Cert.DwGu.Gen.facts, Cert.DwGuIdeal.Gen.facts, Cert.DwGuRefIdeal.Gen.facts,
    Cert.DwD.Gen.facts, Cert.DwDIdeal.Gen.facts, Cert.DwDRefIdeal.Gen.facts,
    Cert.DwSq.Gen.facts, Cert.DwSqIdeal.Gen.facts, Cert.DwSqRefIdeal.Gen.facts,
    Cert.ProjIn.Gen.facts, Cert.ProjInIdeal.Gen.facts, Cert.ProjInRefIdeal.Gen.facts,
    Cert.DwIn.Gen.facts, Cert.DwInIdeal.Gen.facts, Cert.DwInRefIdeal.Gen.facts,
    Cert.DwGate.Gen.facts, Cert.DwGateIdeal.Gen.facts, Cert.DwGateRefIdeal.Gen.facts,
    fun m g _ => Cert.Kernel.Ret.frame (F := Bits) m g,
    fun m g _ => Cert.KernelIdeal.Ret.frame (F := Ideal) m g,
    frame_reference,
    fun m g _ => Cert.FfnIn.Gen.frame m g, fun m g _ => Cert.FfnInIdeal.Gen.frame m g, frame_FfnInRef,
    fun m g _ => Cert.DwGu.Gen.frame m g, fun m g _ => Cert.DwGuIdeal.Gen.frame m g, frame_DwGuRef,
    fun m g _ => Cert.DwD.Gen.frame m g, fun m g _ => Cert.DwDIdeal.Gen.frame m g, frame_DwDRef,
    fun m g _ => Cert.DwSq.Gen.frame m g, fun m g _ => Cert.DwSqIdeal.Gen.frame m g, frame_DwSqRef,
    fun m g _ => Cert.ProjIn.Gen.frame m g, fun m g _ => Cert.ProjInIdeal.Gen.frame m g, frame_ProjInRef,
    fun m g _ => Cert.DwIn.Gen.frame m g, fun m g _ => Cert.DwInIdeal.Gen.frame m g, frame_DwInRef,
    fun m g _ => Cert.DwGate.Gen.frame m g, fun m g _ => Cert.DwGateIdeal.Gen.frame m g, frame_DwGateRef,
    preserves, algebraic, trivial, algebraic_ffnIn, trivial, algebraic_DwGu, trivial, algebraic_DwD,
    trivial, algebraic_DwSq, trivial, algebraic_ProjIn, trivial, algebraic_DwIn, trivial, algebraic_DwGate⟩

end Cert.Proof

end
